-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_pre_scales [hPre_pre_scales : Cert.Pre_pre_scales.Facts] (m : (ℓ : Loc Cert.KernelIdeal.nD Cert.KernelIdeal.τ Cert.KernelIdeal.sig) → Buf (Elt Ideal) ℓ) : Prop :=
  ∀ c : Dev Cert.KernelIdeal.nD,
    (Cert.Pre_pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_scales [hPre_pre_scales : Cert.Pre_pre_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre_scales [hKernelIdeal : Cert.KernelIdeal.Facts] [hPre_pre_scales : Cert.Pre_pre_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre_scales [hReferenceIdeal : Cert.ReferenceIdeal.Facts] [hPre_pre_scales : Cert.Pre_pre_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_pre_scales [hKernelIdeal : Cert.KernelIdeal.Facts] [hReferenceIdeal : Cert.ReferenceIdeal.Facts] [hPre_pre_scales : Cert.Pre_pre_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v5_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_0) = v0 c
          ∧ r.2.mem ((c.tc : Thread Cert.ReferenceIdeal.nD Cert.ReferenceIdeal.τ).loc Cert.ReferenceIdeal.main_v25_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v25_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts) (hPre_pre_scales : Cert.Pre_pre_scales.Facts),
    quiescent_Kernel (hKernel := hKernel) (hPre_pre := hPre_pre)
    ∧ quiescent_KernelIdeal (hKernelIdeal := hKernelIdeal) (hPre_pre := hPre_pre)
    ∧ quiescent_KernelIdeal_pre_pre_scales (hKernelIdeal := hKernelIdeal) (hPre_pre_scales := hPre_pre_scales)
    ∧ quiescent_ReferenceIdeal (hReferenceIdeal := hReferenceIdeal)
    ∧ quiescent_ReferenceIdeal_pre_pre_scales (hReferenceIdeal := hReferenceIdeal) (hPre_pre_scales := hPre_pre_scales)
    ∧ preserves_Kernel_KernelIdeal
    ∧ algebraic_KernelIdeal_ReferenceIdeal_pre_pre_scales (hKernelIdeal := hKernelIdeal) (hReferenceIdeal := hReferenceIdeal) (hPre_pre_scales := hPre_pre_scales)
-- ==== Pre_pre.lean ====
abbrev S1x1x2048 : Shape := ⟨3, ![1, 1, 2048]⟩
abbrev S1x1x2x128 : Shape := ⟨4, ![1, 1, 2, 128]⟩
abbrev S1024x128x2x128 : Shape := ⟨4, ![1024, 128, 2, 128]⟩
abbrev S2 : Shape := ⟨1, ![2]⟩
abbrev S1x1024 : Shape := ⟨2, ![1, 1024]⟩
abbrev S1 : Shape := ⟨1, ![1]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S1x1x2048 .bf16) (main_arg1 : FVec F S1x1x2x128 .bf16) (main_arg2 : FVec F S1x1x2x128 .bf16) (main_arg3 : FVec F S1024x128x2x128 .fp8e4m3) (main_arg4 : FVec F S2 .f32) (main_arg5 : FVec F S1024x128x2x128 .fp8e4m3) (main_arg6 : FVec F S2 .f32) (main_arg7 : IVec S1x1024 32) (main_arg8 : IVec S1 32) : IVec S_ 1 :=
  let main_c : IVec S_ 32 := constantI S_ 32 0#32
  let main_v0 : IVec S1x1024 32 := broadcastInDim S1x1024 ![] bcast_S_S1x1024 main_c
  let main_v1 : IVec S1x1024 1 := cmpi .sge main_arg7 main_v0
  let main_c_0 : IVec S_ 32 := constantI S_ 32 1024#32
  let main_v2 : IVec S1x1024 32 := broadcastInDim S1x1024 ![] bcast_S_S1x1024 main_c_0
  let main_v3 : IVec S1x1024 1 := cmpi .slt main_arg7 main_v2
  let main_v4 : IVec S1x1024 1 := andi main_v1 main_v3
  let main_c_1 : IVec S_ 1 := constantI S_ 1 1#1
  let main_v5 : IVec S_ 1 := (fun x v => Host.reduce IntOp.andi x v reducesTo_S1x1024_S_d0_1 h_S_) main_v4 main_c_1
  main_v5
-- ==== Pre_pre_scales.lean ====
abbrev S1x1x2048 : Shape := ⟨3, ![1, 1, 2048]⟩
abbrev S1x1x2x128 : Shape := ⟨4, ![1, 1, 2, 128]⟩
abbrev S1024x128x2x128 : Shape := ⟨4, ![1024, 128, 2, 128]⟩
abbrev S2 : Shape := ⟨1, ![2]⟩
abbrev S1x1024 : Shape := ⟨2, ![1, 1024]⟩
abbrev S1 : Shape := ⟨1, ![1]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1 : S_.BroadcastsInDim S1 (![] : Fin 0 → Fin S1.rank)
  reducesTo_S1_S_d0 : S1.ReducesTo [0] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v5 : IVec S_ 1) (main_v8 : IVec S_ 1) (main_v14 : IVec S_ 1) (main_cst_6 : FVec F S_ .f32) : IVec S_ 1 :=
  let main_v15 : FVec F S2 .f32 := broadcastInDim S2 ![] bcast_S_S2 main_cst_6
  let main_v16 : IVec S2 1 := cmpf .oge main_arg6 main_v15
  let main_cst_7 : FVec F S_ .f32 := constant S_ .f32 0x7F800000#32
  let main_v17 : FVec F S2 .f32 := broadcastInDim S2 ![] bcast_S_S2 main_cst_7
  let main_v18 : IVec S2 1 := cmpf .olt main_arg6 main_v17
  let main_v19 : IVec S2 1 := andi main_v16 main_v18
  let main_c_8 : IVec S_ 1 := constantI S_ 1 1#1
  let main_v20 : IVec S_ 1 := (fun x v => Host.reduce IntOp.andi x v reducesTo_S2_S_d0 h_S_) main_v19 main_c_8
  let main_v21 : IVec S_ 1 := andi main_v5 main_v8
  let main_v22 : IVec S_ 1 := andi main_v21 main_v14
  let main_v23 : IVec S_ 1 := andi main_v22 main_v20
  main_v23

def fn {F : FTy → Type} [FloatOps F] (main_arg0 : FVec F S1x1x2048 .bf16) (main_arg1 : FVec F S1x1x2x128 .bf16) (main_arg2 : FVec F S1x1x2x128 .bf16) (main_arg3 : FVec F S1024x128x2x128 .fp8e4m3) (main_arg4 : FVec F S2 .f32) (main_arg5 : FVec F S1024x128x2x128 .fp8e4m3) (main_arg6 : FVec F S2 .f32) (main_arg7 : IVec S1x1024 32) (main_arg8 : IVec S1 32) : IVec S_ 1 :=
  let main_c : IVec S_ 32 := constantI S_ 32 0#32
  let main_v0 : IVec S1x1024 32 := broadcastInDim S1x1024 ![] bcast_S_S1x1024 main_c
  let main_v1 : IVec S1x1024 1 := cmpi .sge main_arg7 main_v0
  let main_c_0 : IVec S_ 32 := constantI S_ 32 1024#32
  let main_v2 : IVec S1x1024 32 := broadcastInDim S1x1024 ![] bcast_S_S1x1024 main_c_0
  let main_v3 : IVec S1x1024 1 := cmpi .slt main_arg7 main_v2
  let main_v4 : IVec S1x1024 1 := andi main_v1 main_v3
  let main_c_1 : IVec S_ 1 := constantI S_ 1 1#1
  let main_v5 : IVec S_ 1 := (fun x v => Host.reduce IntOp.andi x v reducesTo_S1x1024_S_d0_1 h_S_) main_v4 main_c_1
  let main_c_2 : IVec S_ 32 := constantI S_ 32 2147481600#32
  let main_v6 : IVec S1 32 := broadcastInDim S1 ![] bcast_S_S1 main_c_2
  let main_v7 : IVec S1 1 := cmpi .sle main_arg8 main_v6
  let main_c_3 : IVec S_ 1 := constantI S_ 1 1#1
  let main_v8 : IVec S_ 1 := (fun x v => Host.reduce IntOp.andi x v reducesTo_S1_S_d0 h_S_) main_v7 main_c_3
  let main_cst : FVec F S_ .f32 := constant S_ .f32 0x00000000#32
  let main_v9 : FVec F S2 .f32 := broadcastInDim S2 ![] bcast_S_S2 main_cst
  let main_v10 : IVec S2 1 := cmpf .oge main_arg4 main_v9
  let main_cst_4 : FVec F S_ .f32 := constant S_ .f32 0x7F800000#32
  let main_v11 : FVec F S2 .f32 := broadcastInDim S2 ![] bcast_S_S2 main_cst_4
  let main_v12 : IVec S2 1 := cmpf .olt main_arg4 main_v11
  let main_v13 : IVec S2 1 := andi main_v10 main_v12
  let main_c_5 : IVec S_ 1 := constantI S_ 1 1#1
  let main_v14 : IVec S_ 1 := (fun x v => Host.reduce IntOp.andi x v reducesTo_S2_S_d0 h_S_) main_v13 main_c_5
  let main_cst_6 : FVec F S_ .f32 := constant S_ .f32 0x00000000#32
  fn_part1 (F := F) main_arg6 main_v5 main_v8 main_v14 main_cst_6
-- ==== Kernel.lean ====
abbrev S1x1x2048 : Shape := ⟨3, ![1, 1, 2048]⟩
abbrev S1x1x2x128 : Shape := ⟨4, ![1, 1, 2, 128]⟩
abbrev S1024x128x2x128 : Shape := ⟨4, ![1024, 128, 2, 128]⟩
abbrev S2 : Shape := ⟨1, ![2]⟩
abbrev S1x1024 : Shape := ⟨2, ![1, 1024]⟩
abbrev S1 : Shape := ⟨1, ![1]⟩
abbrev S16x128 : Shape := ⟨2, ![16, 128]⟩
abbrev S2x128 : Shape := ⟨2, ![2, 128]⟩
abbrev S1024x2x128x128 : Shape := ⟨4, ![1024, 2, 128, 128]⟩
abbrev S24x16x2x128x128 : Shape := ⟨5, ![24, 16, 2, 128, 128]⟩
abbrev S16x131072 : Shape := ⟨2, ![16, 131072]⟩
abbrev S24 : Shape := ⟨1, ![24]⟩
abbrev S1x1 : Shape := ⟨2, ![1, 1]⟩
abbrev S_ : Shape := ⟨0, ![]⟩
abbrev S1x1x2x128x128 : Shape := ⟨5, ![1, 1, 2, 128, 128]⟩
abbrev S2x128x128 : Shape := ⟨3, ![2, 128, 128]⟩
abbrev S1x2x128x128 : Shape := ⟨4, ![1, 2, 128, 128]⟩
abbrev S2x1 : Shape := ⟨2, ![2, 1]⟩
abbrev S8x128 : Shape := ⟨2, ![8, 128]⟩
abbrev S8x256 : Shape := ⟨2, ![8, 256]⟩
abbrev S16x256 : Shape := ⟨2, ![16, 256]⟩
abbrev S16x1 : Shape := ⟨2, ![16, 1]⟩
abbrev S1x128 : Shape := ⟨2, ![1, 128]⟩
abbrev S16 : Shape := ⟨1, ![16]⟩
abbrev S1x16x2x128x128 : Shape := ⟨5, ![1, 16, 2, 128, 128]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S2048x128 : Shape := ⟨2, ![2048, 128]⟩
abbrev S2048x256 : Shape := ⟨2, ![2048, 256]⟩
abbrev S16x2048 : Shape := ⟨2, ![16, 2048]⟩

abbrev nBuf : Space → Nat
  | .hbm => 17
  | .vmem => 8
  | .smem => 4
  | _ => 0

abbrev bufTy : (tb : Table) → Fin (tcTables nBuf tb) → BufTy
  | .hbm, ⟨0, _⟩ => ⟨S1x1x2048, .bf16⟩
  | .hbm, ⟨1, _⟩ => ⟨S1x1x2x128, .bf16⟩
  | .hbm, ⟨2, _⟩ => ⟨S1x1x2x128, .bf16⟩
  | .hbm, ⟨3, _⟩ => ⟨S1024x128x2x128, .fp8e4m3⟩
  | .hbm, ⟨4, _⟩ => ⟨S2, .f32⟩
  | .hbm, ⟨5, _⟩ => ⟨S1024x128x2x128, .fp8e4m3⟩
  | .hbm, ⟨6, _⟩ => ⟨S2, .f32⟩
  | .hbm, ⟨7, _⟩ => ⟨S1x1024, .i32⟩
  | .hbm, ⟨8, _⟩ => ⟨S1, .i32⟩
  | .hbm, ⟨9, _⟩ => ⟨S16x128, .bf16⟩
  | .hbm, ⟨10, _⟩ => ⟨S2x128, .bf16⟩
  | .hbm, ⟨11, _⟩ => ⟨S2x128, .bf16⟩
  | .hbm, ⟨12, _⟩ => ⟨S1024x2x128x128, .fp8e4m3⟩
  | .hbm, ⟨13, _⟩ => ⟨S1024x2x128x128, .fp8e4m3⟩
  | .hbm, ⟨14, _⟩ => ⟨S16x128, .bf16⟩
  | .hbm, ⟨15, _⟩ => ⟨S2x128, .fp8e4m3⟩
  | .hbm, ⟨16, _⟩ => ⟨S2x128, .fp8e4m3⟩
  | .local _ .vmem, ⟨0, _⟩ => ⟨S16x128, .bf16⟩
  | .local _ .vmem, ⟨1, _⟩ => ⟨S2x128, .bf16⟩
  | .local _ .vmem, ⟨2, _⟩ => ⟨S2x128, .bf16⟩
  | .local _ .vmem, ⟨3, _⟩ => ⟨S16x128, .bf16⟩
  | .local _ .vmem, ⟨4, _⟩ => ⟨S2x128, .fp8e4m3⟩
  | .local _ .vmem, ⟨5, _⟩ => ⟨S2x128, .fp8e4m3⟩
  | .local _ .vmem, ⟨6, _⟩ => ⟨S24x16x2x128x128, .fp8e4m3⟩
  | .local _ .vmem, ⟨7, _⟩ => ⟨S16x131072, .f32⟩
  | .local _ .smem, ⟨0, _⟩ => ⟨S2, .f32⟩
  | .local _ .smem, ⟨1, _⟩ => ⟨S2, .f32⟩
  | .local _ .smem, ⟨2, _⟩ => ⟨S1x1024, .i32⟩
  | .local _ .smem, ⟨3, _⟩ => ⟨S1, .i32⟩
  | _, _ => ⟨S1x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c24_i32 : BitVec 32 := 24#32
  let v23 : BitVec 32 := Scalar.addi c0_i32_7 c24_i32
  let c1_i32_8 : BitVec 32 := 1#32
  ⟨c0_i32_7, v23, c1_i32_8⟩
def k0_off1 (k0_t1 : Fin k0_t1_loop.trips) : Fin 2 → Nat :=
  let c0_58 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c0_i32_57 : BitVec 32 := 0#32
  let v171 : BitVec 32 := Scalar.addi v170 c0_i32_57
  let v172 : Index := Scalar.indexCast v171
  ![0, v172.toNat]
def k0_off2 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off3 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c0_i32_59 : BitVec 32 := 0#32
  let c0_i32_60 : BitVec 32 := 0#32
  let c0_i32_61 : BitVec 32 := 0#32
  let c0_i32_62 : BitVec 32 := 0#32
  ![v161.toNat, 0, 0, 0, 0]
def k0_off4 (v173 : BitVec 32) : Fin 4 → Nat :=
  let c0_i32_63 : BitVec 32 := 0#32
  let c0_i32_64 : BitVec 32 := 0#32
  let c0_i32_65 : BitVec 32 := 0#32
  ![v173.toNat, 0, 0, 0]
def k0_cond1 (v0 : BitVec 32) (k0_t1 : Fin k0_t1_loop.trips) : BitVec 1 :=
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v162 : BitVec 1 := Scalar.cmpi .slt arg15 v21
  let v163 : BitVec 32 := Scalar.extui v162
  let c0_i32_55 : BitVec 32 := 0#32
  let v164 : BitVec 1 := Scalar.cmpi .ne v163 c0_i32_55
  v164

def k0_chk1 (v0 : BitVec 32) (k0_t1 : Fin k0_t1_loop.trips) (v173 : BitVec 32) : Prop :=
  (∀ (k0_h1 : k0_cond1 v0 k0_t1 = 1#1), ∀ a, (k0_off4 v173) a + S1x2x128x128.size a ≤ S1024x2x128x128.size a) ∧
  (∀ (k0_h1 : k0_cond1 v0 k0_t1 = 1#1), ∀ (hinb : ∀ a, (k0_off4 v173) a + S1x2x128x128.size a ≤ S1024x2x128x128.size a), (Rect.unit (s := S1024x2x128x128) (k0_off4 v173) S1x2x128x128.size hinb).WholeWords (EltTy.packing .fp8e4m3))
theorem k0_off4_inb : ∀ (v0 : BitVec 32) (k0_t1 : Fin k0_t1_loop.trips) (v173 : BitVec 32) (k0_hw1 : k0_chk1 v0 k0_t1 v173), ∀ (k0_h1 : k0_cond1 v0 k0_t1 = 1#1), ∀ a, (k0_off4 v173) a + S1x2x128x128.size a ≤ S1024x2x128x128.size a := fun v0 k0_t1 v173 k0_hw1 k0_h1 => k0_hw1.1 k0_h1
theorem k0_off4_wordsfp8e4m3 : ∀ (v0 : BitVec 32) (k0_t1 : Fin k0_t1_loop.trips) (v173 : BitVec 32) (k0_hw1 : k0_chk1 v0 k0_t1 v173), ∀ (k0_h1 : k0_cond1 v0 k0_t1 = 1#1), (Rect.unit (s := S1024x2x128x128) (k0_off4 v173) S1x2x128x128.size (k0_off4_inb v0 k0_t1 v173 k0_hw1 k0_h1)).WholeWords (EltTy.packing .fp8e4m3) := fun v0 k0_t1 v173 k0_hw1 k0_h1 => k0_hw1.2 k0_h1 (k0_off4_inb v0 k0_t1 v173 k0_hw1 k0_h1)

def k0_off5 (k0_t1 : Fin k0_t1_loop.trips) : Fin 2 → Nat :=
  let c0_67 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c1_i32_66 : BitVec 32 := 1#32
  let v180 : BitVec 32 := Scalar.addi v170 c1_i32_66
  let v181 : Index := Scalar.indexCast v180
  ![0, v181.toNat]
def k0_off6 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off7 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c1_i32_68 : BitVec 32 := 1#32
  let c0_i32_69 : BitVec 32 := 0#32
  let c0_i32_70 : BitVec 32 := 0#32
  let c0_i32_71 : BitVec 32 := 0#32
  ![v161.toNat, 1, 0, 0, 0]
def k0_off8 (v182 : BitVec 32) : Fin 4 → Nat :=
  let c0_i32_72 : BitVec 32 := 0#32
  let c0_i32_73 : BitVec 32 := 0#32
  let c0_i32_74 : BitVec 32 := 0#32
  ![v182.toNat, 0, 0, 0]

def k0_chk2 (v0 : BitVec 32) (k0_t1 : Fin k0_t1_loop.trips) (v182 : BitVec 32) : Prop :=
  (∀ (k0_h1 : k0_cond1 v0 k0_t1 = 1#1), ∀ a, (k0_off8 v182) a + S1x2x128x128.size a ≤ S1024x2x128x128.size a) ∧
  (∀ (k0_h1 : k0_cond1 v0 k0_t1 = 1#1), ∀ (hinb : ∀ a, (k0_off8 v182) a + S1x2x128x128.size a ≤ S1024x2x128x128.size a), (Rect.unit (s := S1024x2x128x128) (k0_off8 v182) S1x2x128x128.size hinb).WholeWords (EltTy.packing .fp8e4m3))
theorem k0_off8_inb : ∀ (v0 : BitVec 32) (k0_t1 : Fin k0_t1_loop.trips) (v182 : BitVec 32) (k0_hw2 : k0_chk2 v0 k0_t1 v182), ∀ (k0_h1 : k0_cond1 v0 k0_t1 = 1#1), ∀ a, (k0_off8 v182) a + S1x2x128x128.size a ≤ S1024x2x128x128.size a := fun v0 k0_t1 v182 k0_hw2 k0_h1 => k0_hw2.1 k0_h1
theorem k0_off8_wordsfp8e4m3 : ∀ (v0 : BitVec 32) (k0_t1 : Fin k0_t1_loop.trips) (v182 : BitVec 32) (k0_hw2 : k0_chk2 v0 k0_t1 v182), ∀ (k0_h1 : k0_cond1 v0 k0_t1 = 1#1), (Rect.unit (s := S1024x2x128x128) (k0_off8 v182) S1x2x128x128.size (k0_off8_inb v0 k0_t1 v182 k0_hw2 k0_h1)).WholeWords (EltTy.packing .fp8e4m3) := fun v0 k0_t1 v182 k0_hw2 k0_h1 => k0_hw2.2 k0_h1 (k0_off8_inb v0 k0_t1 v182 k0_hw2 k0_h1)

def k0_off9 (k0_t1 : Fin k0_t1_loop.trips) : Fin 2 → Nat :=
  let c0_76 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c2_i32_75 : BitVec 32 := 2#32
  let v189 : BitVec 32 := Scalar.addi v170 c2_i32_75
  let v190 : Index := Scalar.indexCast v189
  ![0, v190.toNat]
def k0_off10 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off11 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c2_i32_77 : BitVec 32 := 2#32
  let c0_i32_78 : BitVec 32 := 0#32
  let c0_i32_79 : BitVec 32 := 0#32
  let c0_i32_80 : BitVec 32 := 0#32
  ![v161.toNat, 2, 0, 0, 0]
def k0_off12 (v191 : BitVec 32) : Fin 4 → Nat :=
  let c0_i32_81 : BitVec 32 := 0#32
  let c0_i32_82 : BitVec 32 := 0#32
  let c0_i32_83 : BitVec 32 := 0#32
  ![v191.toNat, 0, 0, 0]

def k0_chk3 (v0 : BitVec 32) (k0_t1 : Fin k0_t1_loop.trips) (v191 : BitVec 32) : Prop :=
  (∀ (k0_h1 : k0_cond1 v0 k0_t1 = 1#1), ∀ a, (k0_off12 v191) a + S1x2x128x128.size a ≤ S1024x2x128x128.size a) ∧
  (∀ (k0_h1 : k0_cond1 v0 k0_t1 = 1#1), ∀ (hinb : ∀ a, (k0_off12 v191) a + S1x2x128x128.size a ≤ S1024x2x128x128.size a), (Rect.unit (s := S1024x2x128x128) (k0_off12 v191) S1x2x128x128.size hinb).WholeWords (EltTy.packing .fp8e4m3))
theorem k0_off12_inb : ∀ (v0 : BitVec 32) (k0_t1 : Fin k0_t1_loop.trips) (v191 : BitVec 32) (k0_hw3 : k0_chk3 v0 k0_t1 v191), ∀ (k0_h1 : k0_cond1 v0 k0_t1 = 1#1), ∀ a, (k0_off12 v191) a + S1x2x128x128.size a ≤ S1024x2x128x128.size a := fun v0 k0_t1 v191 k0_hw3 k0_h1 => k0_hw3.1 k0_h1
theorem k0_off12_wordsfp8e4m3 : ∀ (v0 : BitVec 32) (k0_t1 : Fin k0_t1_loop.trips) (v191 : BitVec 32) (k0_hw3 : k0_chk3 v0 k0_t1 v191), ∀ (k0_h1 : k0_cond1 v0 k0_t1 = 1#1), (Rect.unit (s := S1024x2x128x128) (k0_off12 v191) S1x2x128x128.size (k0_off12_inb v0 k0_t1 v191 k0_hw3 k0_h1)).WholeWords (EltTy.packing .fp8e4m3) := fun v0 k0_t1 v191 k0_hw3 k0_h1 => k0_hw3.2 k0_h1 (k0_off12_inb v0 k0_t1 v191 k0_hw3 k0_h1)

def k0_off13 (k0_t1 : Fin k0_t1_loop.trips) : Fin 2 → Nat :=
  let c0_84 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c3_i32 : BitVec 32 := 3#32
  let v198 : BitVec 32 := Scalar.addi v170 c3_i32
  let v199 : Index := Scalar.indexCast v198
  ![0, v199.toNat]
def k0_off14 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off15 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c3_i32_85 : BitVec 32 := 3#32
  let c0_i32_86 : BitVec 32 := 0#32
  let c0_i32_87 : BitVec 32 := 0#32
  let c0_i32_88 : BitVec 32 := 0#32
  ![v161.toNat, 3, 0, 0, 0]
def k0_off16 (v200 : BitVec 32) : Fin 4 → Nat :=
  let c0_i32_89 : BitVec 32 := 0#32
  let c0_i32_90 : BitVec 32 := 0#32
  let c0_i32_91 : BitVec 32 := 0#32
  ![v200.toNat, 0, 0, 0]

def k0_chk4 (v0 : BitVec 32) (k0_t1 : Fin k0_t1_loop.trips) (v200 : BitVec 32) : Prop :=
  (∀ (k0_h1 : k0_cond1 v0 k0_t1 = 1#1), ∀ a, (k0_off16 v200) a + S1x2x128x128.size a ≤ S1024x2x128x128.size a) ∧
  (∀ (k0_h1 : k0_cond1 v0 k0_t1 = 1#1), ∀ (hinb : ∀ a, (k0_off16 v200) a + S1x2x128x128.size a ≤ S1024x2x128x128.size a), (Rect.unit (s := S1024x2x128x128) (k0_off16 v200) S1x2x128x128.size hinb).WholeWords (EltTy.packing .fp8e4m3))
theorem k0_off16_inb : ∀ (v0 : BitVec 32) (k0_t1 : Fin k0_t1_loop.trips) (v200 : BitVec 32) (k0_hw4 : k0_chk4 v0 k0_t1 v200), ∀ (k0_h1 : k0_cond1 v0 k0_t1 = 1#1), ∀ a, (k0_off16 v200) a + S1x2x128x128.size a ≤ S1024x2x128x128.size a := fun v0 k0_t1 v200 k0_hw4 k0_h1 => k0_hw4.1 k0_h1
theorem k0_off16_wordsfp8e4m3 : ∀ (v0 : BitVec 32) (k0_t1 : Fin k0_t1_loop.trips) (v200 : BitVec 32) (k0_hw4 : k0_chk4 v0 k0_t1 v200), ∀ (k0_h1 : k0_cond1 v0 k0_t1 = 1#1), (Rect.unit (s := S1024x2x128x128) (k0_off16 v200) S1x2x128x128.size (k0_off16_inb v0 k0_t1 v200 k0_hw4 k0_h1)).WholeWords (EltTy.packing .fp8e4m3) := fun v0 k0_t1 v200 k0_hw4 k0_h1 => k0_hw4.2 k0_h1 (k0_off16_inb v0 k0_t1 v200 k0_hw4 k0_h1)

def k0_off17 (k0_t1 : Fin k0_t1_loop.trips) : Fin 2 → Nat :=
  let c0_92 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c4_i32 : BitVec 32 := 4#32
  let v207 : BitVec 32 := Scalar.addi v170 c4_i32
  let v208 : Index := Scalar.indexCast v207
  ![0, v208.toNat]
def k0_off18 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off19 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c4_i32_93 : BitVec 32 := 4#32
  let c0_i32_94 : BitVec 32 := 0#32
  let c0_i32_95 : BitVec 32 := 0#32
  let c0_i32_96 : BitVec 32 := 0#32
  ![v161.toNat, 4, 0, 0, 0]
def k0_off20 (v209 : BitVec 32) : Fin 4 → Nat :=
  let c0_i32_97 : BitVec 32 := 0#32
  let c0_i32_98 : BitVec 32 := 0#32
  let c0_i32_99 : BitVec 32 := 0#32
  ![v209.toNat, 0, 0, 0]

def k0_chk5 (v0 : BitVec 32) (k0_t1 : Fin k0_t1_loop.trips) (v209 : BitVec 32) : Prop :=
  (∀ (k0_h1 : k0_cond1 v0 k0_t1 = 1#1), ∀ a, (k0_off20 v209) a + S1x2x128x128.size a ≤ S1024x2x128x128.size a) ∧
  (∀ (k0_h1 : k0_cond1 v0 k0_t1 = 1#1), ∀ (hinb : ∀ a, (k0_off20 v209) a + S1x2x128x128.size a ≤ S1024x2x128x128.size a), (Rect.unit (s := S1024x2x128x128) (k0_off20 v209) S1x2x128x128.size hinb).WholeWords (EltTy.packing .fp8e4m3))
theorem k0_off20_inb : ∀ (v0 : BitVec 32) (k0_t1 : Fin k0_t1_loop.trips) (v209 : BitVec 32) (k0_hw5 : k0_chk5 v0 k0_t1 v209), ∀ (k0_h1 : k0_cond1 v0 k0_t1 = 1#1), ∀ a, (k0_off20 v209) a + S1x2x128x128.size a ≤ S1024x2x128x128.size a := fun v0 k0_t1 v209 k0_hw5 k0_h1 => k0_hw5.1 k0_h1
theorem k0_off20_wordsfp8e4m3 : ∀ (v0 : BitVec 32) (k0_t1 : Fin k0_t1_loop.trips) (v209 : BitVec 32) (k0_hw5 : k0_chk5 v0 k0_t1 v209), ∀ (k0_h1 : k0_cond1 v0 k0_t1 = 1#1), (Rect.unit (s := S1024x2x128x128) (k0_off20 v209) S1x2x128x128.size (k0_off20_inb v0 k0_t1 v209 k0_hw5 k0_h1)).WholeWords (EltTy.packing .fp8e4m3) := fun v0 k0_t1 v209 k0_hw5 k0_h1 => k0_hw5.2 k0_h1 (k0_off20_inb v0 k0_t1 v209 k0_hw5 k0_h1)

def k0_off21 (k0_t1 : Fin k0_t1_loop.trips) : Fin 2 → Nat :=
  let c0_100 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c5_i32 : BitVec 32 := 5#32
  let v216 : BitVec 32 := Scalar.addi v170 c5_i32
  let v217 : Index := Scalar.indexCast v216
  ![0, v217.toNat]
def k0_off22 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off23 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c5_i32_101 : BitVec 32 := 5#32
  let c0_i32_102 : BitVec 32 := 0#32
  let c0_i32_103 : BitVec 32 := 0#32
  let c0_i32_104 : BitVec 32 := 0#32
  ![v161.toNat, 5, 0, 0, 0]
def k0_off24 (v218 : BitVec 32) : Fin 4 → Nat :=
  let c0_i32_105 : BitVec 32 := 0#32
  let c0_i32_106 : BitVec 32 := 0#32
  let c0_i32_107 : BitVec 32 := 0#32
  ![v218.toNat, 0, 0, 0]

def k0_chk6 (v0 : BitVec 32) (k0_t1 : Fin k0_t1_loop.trips) (v218 : BitVec 32) : Prop :=
  (∀ (k0_h1 : k0_cond1 v0 k0_t1 = 1#1), ∀ a, (k0_off24 v218) a + S1x2x128x128.size a ≤ S1024x2x128x128.size a) ∧
  (∀ (k0_h1 : k0_cond1 v0 k0_t1 = 1#1), ∀ (hinb : ∀ a, (k0_off24 v218) a + S1x2x128x128.size a ≤ S1024x2x128x128.size a), (Rect.unit (s := S1024x2x128x128) (k0_off24 v218) S1x2x128x128.size hinb).WholeWords (EltTy.packing .fp8e4m3))
theorem k0_off24_inb : ∀ (v0 : BitVec 32) (k0_t1 : Fin k0_t1_loop.trips) (v218 : BitVec 32) (k0_hw6 : k0_chk6 v0 k0_t1 v218), ∀ (k0_h1 : k0_cond1 v0 k0_t1 = 1#1), ∀ a, (k0_off24 v218) a + S1x2x128x128.size a ≤ S1024x2x128x128.size a := fun v0 k0_t1 v218 k0_hw6 k0_h1 => k0_hw6.1 k0_h1
theorem k0_off24_wordsfp8e4m3 : ∀ (v0 : BitVec 32) (k0_t1 : Fin k0_t1_loop.trips) (v218 : BitVec 32) (k0_hw6 : k0_chk6 v0 k0_t1 v218), ∀ (k0_h1 : k0_cond1 v0 k0_t1 = 1#1), (Rect.unit (s := S1024x2x128x128) (k0_off24 v218) S1x2x128x128.size (k0_off24_inb v0 k0_t1 v218 k0_hw6 k0_h1)).WholeWords (EltTy.packing .fp8e4m3) := fun v0 k0_t1 v218 k0_hw6 k0_h1 => k0_hw6.2 k0_h1 (k0_off24_inb v0 k0_t1 v218 k0_hw6 k0_h1)

def k0_off25 (k0_t1 : Fin k0_t1_loop.trips) : Fin 2 → Nat :=
  let c0_108 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c6_i32 : BitVec 32 := 6#32
  let v225 : BitVec 32 := Scalar.addi v170 c6_i32
  let v226 : Index := Scalar.indexCast v225
  ![0, v226.toNat]
def k0_off26 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off27 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c6_i32_109 : BitVec 32 := 6#32
  let c0_i32_110 : BitVec 32 := 0#32
  let c0_i32_111 : BitVec 32 := 0#32
  let c0_i32_112 : BitVec 32 := 0#32
  ![v161.toNat, 6, 0, 0, 0]
def k0_off28 (v227 : BitVec 32) : Fin 4 → Nat :=
  let c0_i32_113 : BitVec 32 := 0#32
  let c0_i32_114 : BitVec 32 := 0#32
  let c0_i32_115 : BitVec 32 := 0#32
  ![v227.toNat, 0, 0, 0]

def k0_chk7 (v0 : BitVec 32) (k0_t1 : Fin k0_t1_loop.trips) (v227 : BitVec 32) : Prop :=
  (∀ (k0_h1 : k0_cond1 v0 k0_t1 = 1#1), ∀ a, (k0_off28 v227) a + S1x2x128x128.size a ≤ S1024x2x128x128.size a) ∧
  (∀ (k0_h1 : k0_cond1 v0 k0_t1 = 1#1), ∀ (hinb : ∀ a, (k0_off28 v227) a + S1x2x128x128.size a ≤ S1024x2x128x128.size a), (Rect.unit (s := S1024x2x128x128) (k0_off28 v227) S1x2x128x128.size hinb).WholeWords (EltTy.packing .fp8e4m3))
theorem k0_off28_inb : ∀ (v0 : BitVec 32) (k0_t1 : Fin k0_t1_loop.trips) (v227 : BitVec 32) (k0_hw7 : k0_chk7 v0 k0_t1 v227), ∀ (k0_h1 : k0_cond1 v0 k0_t1 = 1#1), ∀ a, (k0_off28 v227) a + S1x2x128x128.size a ≤ S1024x2x128x128.size a := fun v0 k0_t1 v227 k0_hw7 k0_h1 => k0_hw7.1 k0_h1
theorem k0_off28_wordsfp8e4m3 : ∀ (v0 : BitVec 32) (k0_t1 : Fin k0_t1_loop.trips) (v227 : BitVec 32) (k0_hw7 : k0_chk7 v0 k0_t1 v227), ∀ (k0_h1 : k0_cond1 v0 k0_t1 = 1#1), (Rect.unit (s := S1024x2x128x128) (k0_off28 v227) S1x2x128x128.size (k0_off28_inb v0 k0_t1 v227 k0_hw7 k0_h1)).WholeWords (EltTy.packing .fp8e4m3) := fun v0 k0_t1 v227 k0_hw7 k0_h1 => k0_hw7.2 k0_h1 (k0_off28_inb v0 k0_t1 v227 k0_hw7 k0_h1)

def k0_off29 (k0_t1 : Fin k0_t1_loop.trips) : Fin 2 → Nat :=
  let c0_116 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c7_i32 : BitVec 32 := 7#32
  let v234 : BitVec 32 := Scalar.addi v170 c7_i32
  let v235 : Index := Scalar.indexCast v234
  ![0, v235.toNat]
def k0_off30 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off31 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c7_i32_117 : BitVec 32 := 7#32
  let c0_i32_118 : BitVec 32 := 0#32
  let c0_i32_119 : BitVec 32 := 0#32
  let c0_i32_120 : BitVec 32 := 0#32
  ![v161.toNat, 7, 0, 0, 0]
def k0_off32 (v236 : BitVec 32) : Fin 4 → Nat :=
  let c0_i32_121 : BitVec 32 := 0#32
  let c0_i32_122 : BitVec 32 := 0#32
  let c0_i32_123 : BitVec 32 := 0#32
  ![v236.toNat, 0, 0, 0]

def k0_chk8 (v0 : BitVec 32) (k0_t1 : Fin k0_t1_loop.trips) (v236 : BitVec 32) : Prop :=
  (∀ (k0_h1 : k0_cond1 v0 k0_t1 = 1#1), ∀ a, (k0_off32 v236) a + S1x2x128x128.size a ≤ S1024x2x128x128.size a) ∧
  (∀ (k0_h1 : k0_cond1 v0 k0_t1 = 1#1), ∀ (hinb : ∀ a, (k0_off32 v236) a + S1x2x128x128.size a ≤ S1024x2x128x128.size a), (Rect.unit (s := S1024x2x128x128) (k0_off32 v236) S1x2x128x128.size hinb).WholeWords (EltTy.packing .fp8e4m3))
theorem k0_off32_inb : ∀ (v0 : BitVec 32) (k0_t1 : Fin k0_t1_loop.trips) (v236 : BitVec 32) (k0_hw8 : k0_chk8 v0 k0_t1 v236), ∀ (k0_h1 : k0_cond1 v0 k0_t1 = 1#1), ∀ a, (k0_off32 v236) a + S1x2x128x128.size a ≤ S1024x2x128x128.size a := fun v0 k0_t1 v236 k0_hw8 k0_h1 => k0_hw8.1 k0_h1
theorem k0_off32_wordsfp8e4m3 : ∀ (v0 : BitVec 32) (k0_t1 : Fin k0_t1_loop.trips) (v236 : BitVec 32) (k0_hw8 : k0_chk8 v0 k0_t1 v236), ∀ (k0_h1 : k0_cond1 v0 k0_t1 = 1#1), (Rect.unit (s := S1024x2x128x128) (k0_off32 v236) S1x2x128x128.size (k0_off32_inb v0 k0_t1 v236 k0_hw8 k0_h1)).WholeWords (EltTy.packing .fp8e4m3) := fun v0 k0_t1 v236 k0_hw8 k0_h1 => k0_hw8.2 k0_h1 (k0_off32_inb v0 k0_t1 v236 k0_hw8 k0_h1)

def k0_off33 (k0_t1 : Fin k0_t1_loop.trips) : Fin 2 → Nat :=
  let c0_125 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c8_i32_124 : BitVec 32 := 8#32
  let v243 : BitVec 32 := Scalar.addi v170 c8_i32_124
  let v244 : Index := Scalar.indexCast v243
  ![0, v244.toNat]
def k0_off34 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off35 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c8_i32_126 : BitVec 32 := 8#32
  let c0_i32_127 : BitVec 32 := 0#32
  let c0_i32_128 : BitVec 32 := 0#32
  let c0_i32_129 : BitVec 32 := 0#32
  ![v161.toNat, 8, 0, 0, 0]
def k0_off36 (v245 : BitVec 32) : Fin 4 → Nat :=
  let c0_i32_130 : BitVec 32 := 0#32
  let c0_i32_131 : BitVec 32 := 0#32
  let c0_i32_132 : BitVec 32 := 0#32
  ![v245.toNat, 0, 0, 0]

def k0_chk9 (v0 : BitVec 32) (k0_t1 : Fin k0_t1_loop.trips) (v245 : BitVec 32) : Prop :=
  (∀ (k0_h1 : k0_cond1 v0 k0_t1 = 1#1), ∀ a, (k0_off36 v245) a + S1x2x128x128.size a ≤ S1024x2x128x128.size a) ∧
  (∀ (k0_h1 : k0_cond1 v0 k0_t1 = 1#1), ∀ (hinb : ∀ a, (k0_off36 v245) a + S1x2x128x128.size a ≤ S1024x2x128x128.size a), (Rect.unit (s := S1024x2x128x128) (k0_off36 v245) S1x2x128x128.size hinb).WholeWords (EltTy.packing .fp8e4m3))
theorem k0_off36_inb : ∀ (v0 : BitVec 32) (k0_t1 : Fin k0_t1_loop.trips) (v245 : BitVec 32) (k0_hw9 : k0_chk9 v0 k0_t1 v245), ∀ (k0_h1 : k0_cond1 v0 k0_t1 = 1#1), ∀ a, (k0_off36 v245) a + S1x2x128x128.size a ≤ S1024x2x128x128.size a := fun v0 k0_t1 v245 k0_hw9 k0_h1 => k0_hw9.1 k0_h1
theorem k0_off36_wordsfp8e4m3 : ∀ (v0 : BitVec 32) (k0_t1 : Fin k0_t1_loop.trips) (v245 : BitVec 32) (k0_hw9 : k0_chk9 v0 k0_t1 v245), ∀ (k0_h1 : k0_cond1 v0 k0_t1 = 1#1), (Rect.unit (s := S1024x2x128x128) (k0_off36 v245) S1x2x128x128.size (k0_off36_inb v0 k0_t1 v245 k0_hw9 k0_h1)).WholeWords (EltTy.packing .fp8e4m3) := fun v0 k0_t1 v245 k0_hw9 k0_h1 => k0_hw9.2 k0_h1 (k0_off36_inb v0 k0_t1 v245 k0_hw9 k0_h1)

def k0_off37 (k0_t1 : Fin k0_t1_loop.trips) : Fin 2 → Nat :=
  let c0_133 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c9_i32 : BitVec 32 := 9#32
  let v252 : BitVec 32 := Scalar.addi v170 c9_i32
  let v253 : Index := Scalar.indexCast v252
  ![0, v253.toNat]
def k0_off38 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off39 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c9_i32_134 : BitVec 32 := 9#32
  let c0_i32_135 : BitVec 32 := 0#32
  let c0_i32_136 : BitVec 32 := 0#32
  let c0_i32_137 : BitVec 32 := 0#32
  ![v161.toNat, 9, 0, 0, 0]
def k0_off40 (v254 : BitVec 32) : Fin 4 → Nat :=
  let c0_i32_138 : BitVec 32 := 0#32
  let c0_i32_139 : BitVec 32 := 0#32
  let c0_i32_140 : BitVec 32 := 0#32
  ![v254.toNat, 0, 0, 0]

def k0_chk10 (v0 : BitVec 32) (k0_t1 : Fin k0_t1_loop.trips) (v254 : BitVec 32) : Prop :=
  (∀ (k0_h1 : k0_cond1 v0 k0_t1 = 1#1), ∀ a, (k0_off40 v254) a + S1x2x128x128.size a ≤ S1024x2x128x128.size a) ∧
  (∀ (k0_h1 : k0_cond1 v0 k0_t1 = 1#1), ∀ (hinb : ∀ a, (k0_off40 v254) a + S1x2x128x128.size a ≤ S1024x2x128x128.size a), (Rect.unit (s := S1024x2x128x128) (k0_off40 v254) S1x2x128x128.size hinb).WholeWords (EltTy.packing .fp8e4m3))
theorem k0_off40_inb : ∀ (v0 : BitVec 32) (k0_t1 : Fin k0_t1_loop.trips) (v254 : BitVec 32) (k0_hw10 : k0_chk10 v0 k0_t1 v254), ∀ (k0_h1 : k0_cond1 v0 k0_t1 = 1#1), ∀ a, (k0_off40 v254) a + S1x2x128x128.size a ≤ S1024x2x128x128.size a := fun v0 k0_t1 v254 k0_hw10 k0_h1 => k0_hw10.1 k0_h1
theorem k0_off40_wordsfp8e4m3 : ∀ (v0 : BitVec 32) (k0_t1 : Fin k0_t1_loop.trips) (v254 : BitVec 32) (k0_hw10 : k0_chk10 v0 k0_t1 v254), ∀ (k0_h1 : k0_cond1 v0 k0_t1 = 1#1), (Rect.unit (s := S1024x2x128x128) (k0_off40 v254) S1x2x128x128.size (k0_off40_inb v0 k0_t1 v254 k0_hw10 k0_h1)).WholeWords (EltTy.packing .fp8e4m3) := fun v0 k0_t1 v254 k0_hw10 k0_h1 => k0_hw10.2 k0_h1 (k0_off40_inb v0 k0_t1 v254 k0_hw10 k0_h1)

def k0_off41 (k0_t1 : Fin k0_t1_loop.trips) : Fin 2 → Nat :=
  let c0_141 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c10_i32 : BitVec 32 := 10#32
  let v261 : BitVec 32 := Scalar.addi v170 c10_i32
  let v262 : Index := Scalar.indexCast v261
  ![0, v262.toNat]
def k0_off42 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off43 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c10_i32_142 : BitVec 32 := 10#32
  let c0_i32_143 : BitVec 32 := 0#32
  let c0_i32_144 : BitVec 32 := 0#32
  let c0_i32_145 : BitVec 32 := 0#32
  ![v161.toNat, 10, 0, 0, 0]
def k0_off44 (v263 : BitVec 32) : Fin 4 → Nat :=
  let c0_i32_146 : BitVec 32 := 0#32
  let c0_i32_147 : BitVec 32 := 0#32
  let c0_i32_148 : BitVec 32 := 0#32
  ![v263.toNat, 0, 0, 0]

def k0_chk11 (v0 : BitVec 32) (k0_t1 : Fin k0_t1_loop.trips) (v263 : BitVec 32) : Prop :=
  (∀ (k0_h1 : k0_cond1 v0 k0_t1 = 1#1), ∀ a, (k0_off44 v263) a + S1x2x128x128.size a ≤ S1024x2x128x128.size a) ∧
  (∀ (k0_h1 : k0_cond1 v0 k0_t1 = 1#1), ∀ (hinb : ∀ a, (k0_off44 v263) a + S1x2x128x128.size a ≤ S1024x2x128x128.size a), (Rect.unit (s := S1024x2x128x128) (k0_off44 v263) S1x2x128x128.size hinb).WholeWords (EltTy.packing .fp8e4m3))
theorem k0_off44_inb : ∀ (v0 : BitVec 32) (k0_t1 : Fin k0_t1_loop.trips) (v263 : BitVec 32) (k0_hw11 : k0_chk11 v0 k0_t1 v263), ∀ (k0_h1 : k0_cond1 v0 k0_t1 = 1#1), ∀ a, (k0_off44 v263) a + S1x2x128x128.size a ≤ S1024x2x128x128.size a := fun v0 k0_t1 v263 k0_hw11 k0_h1 => k0_hw11.1 k0_h1
theorem k0_off44_wordsfp8e4m3 : ∀ (v0 : BitVec 32) (k0_t1 : Fin k0_t1_loop.trips) (v263 : BitVec 32) (k0_hw11 : k0_chk11 v0 k0_t1 v263), ∀ (k0_h1 : k0_cond1 v0 k0_t1 = 1#1), (Rect.unit (s := S1024x2x128x128) (k0_off44 v263) S1x2x128x128.size (k0_off44_inb v0 k0_t1 v263 k0_hw11 k0_h1)).WholeWords (EltTy.packing .fp8e4m3) := fun v0 k0_t1 v263 k0_hw11 k0_h1 => k0_hw11.2 k0_h1 (k0_off44_inb v0 k0_t1 v263 k0_hw11 k0_h1)

def k0_off45 (k0_t1 : Fin k0_t1_loop.trips) : Fin 2 → Nat :=
  let c0_149 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c11_i32 : BitVec 32 := 11#32
  let v270 : BitVec 32 := Scalar.addi v170 c11_i32
  let v271 : Index := Scalar.indexCast v270
  ![0, v271.toNat]
def k0_off46 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off47 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c11_i32_150 : BitVec 32 := 11#32
  let c0_i32_151 : BitVec 32 := 0#32
  let c0_i32_152 : BitVec 32 := 0#32
  let c0_i32_153 : BitVec 32 := 0#32
  ![v161.toNat, 11, 0, 0, 0]
def k0_off48 (v272 : BitVec 32) : Fin 4 → Nat :=
  let c0_i32_154 : BitVec 32 := 0#32
  let c0_i32_155 : BitVec 32 := 0#32
  let c0_i32_156 : BitVec 32 := 0#32
  ![v272.toNat, 0, 0, 0]

def k0_chk12 (v0 : BitVec 32) (k0_t1 : Fin k0_t1_loop.trips) (v272 : BitVec 32) : Prop :=
  (∀ (k0_h1 : k0_cond1 v0 k0_t1 = 1#1), ∀ a, (k0_off48 v272) a + S1x2x128x128.size a ≤ S1024x2x128x128.size a) ∧
  (∀ (k0_h1 : k0_cond1 v0 k0_t1 = 1#1), ∀ (hinb : ∀ a, (k0_off48 v272) a + S1x2x128x128.size a ≤ S1024x2x128x128.size a), (Rect.unit (s := S1024x2x128x128) (k0_off48 v272) S1x2x128x128.size hinb).WholeWords (EltTy.packing .fp8e4m3))
theorem k0_off48_inb : ∀ (v0 : BitVec 32) (k0_t1 : Fin k0_t1_loop.trips) (v272 : BitVec 32) (k0_hw12 : k0_chk12 v0 k0_t1 v272), ∀ (k0_h1 : k0_cond1 v0 k0_t1 = 1#1), ∀ a, (k0_off48 v272) a + S1x2x128x128.size a ≤ S1024x2x128x128.size a := fun v0 k0_t1 v272 k0_hw12 k0_h1 => k0_hw12.1 k0_h1
theorem k0_off48_wordsfp8e4m3 : ∀ (v0 : BitVec 32) (k0_t1 : Fin k0_t1_loop.trips) (v272 : BitVec 32) (k0_hw12 : k0_chk12 v0 k0_t1 v272), ∀ (k0_h1 : k0_cond1 v0 k0_t1 = 1#1), (Rect.unit (s := S1024x2x128x128) (k0_off48 v272) S1x2x128x128.size (k0_off48_inb v0 k0_t1 v272 k0_hw12 k0_h1)).WholeWords (EltTy.packing .fp8e4m3) := fun v0 k0_t1 v272 k0_hw12 k0_h1 => k0_hw12.2 k0_h1 (k0_off48_inb v0 k0_t1 v272 k0_hw12 k0_h1)

def k0_off49 (k0_t1 : Fin k0_t1_loop.trips) : Fin 2 → Nat :=
  let c0_157 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c12_i32 : BitVec 32 := 12#32
  let v279 : BitVec 32 := Scalar.addi v170 c12_i32
  let v280 : Index := Scalar.indexCast v279
  ![0, v280.toNat]
def k0_off50 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off51 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c12_i32_158 : BitVec 32 := 12#32
  let c0_i32_159 : BitVec 32 := 0#32
  let c0_i32_160 : BitVec 32 := 0#32
  let c0_i32_161 : BitVec 32 := 0#32
  ![v161.toNat, 12, 0, 0, 0]
def k0_off52 (v281 : BitVec 32) : Fin 4 → Nat :=
  let c0_i32_162 : BitVec 32 := 0#32
  let c0_i32_163 : BitVec 32 := 0#32
  let c0_i32_164 : BitVec 32 := 0#32
  ![v281.toNat, 0, 0, 0]

def k0_chk13 (v0 : BitVec 32) (k0_t1 : Fin k0_t1_loop.trips) (v281 : BitVec 32) : Prop :=
  (∀ (k0_h1 : k0_cond1 v0 k0_t1 = 1#1), ∀ a, (k0_off52 v281) a + S1x2x128x128.size a ≤ S1024x2x128x128.size a) ∧
  (∀ (k0_h1 : k0_cond1 v0 k0_t1 = 1#1), ∀ (hinb : ∀ a, (k0_off52 v281) a + S1x2x128x128.size a ≤ S1024x2x128x128.size a), (Rect.unit (s := S1024x2x128x128) (k0_off52 v281) S1x2x128x128.size hinb).WholeWords (EltTy.packing .fp8e4m3))
theorem k0_off52_inb : ∀ (v0 : BitVec 32) (k0_t1 : Fin k0_t1_loop.trips) (v281 : BitVec 32) (k0_hw13 : k0_chk13 v0 k0_t1 v281), ∀ (k0_h1 : k0_cond1 v0 k0_t1 = 1#1), ∀ a, (k0_off52 v281) a + S1x2x128x128.size a ≤ S1024x2x128x128.size a := fun v0 k0_t1 v281 k0_hw13 k0_h1 => k0_hw13.1 k0_h1
theorem k0_off52_wordsfp8e4m3 : ∀ (v0 : BitVec 32) (k0_t1 : Fin k0_t1_loop.trips) (v281 : BitVec 32) (k0_hw13 : k0_chk13 v0 k0_t1 v281), ∀ (k0_h1 : k0_cond1 v0 k0_t1 = 1#1), (Rect.unit (s := S1024x2x128x128) (k0_off52 v281) S1x2x128x128.size (k0_off52_inb v0 k0_t1 v281 k0_hw13 k0_h1)).WholeWords (EltTy.packing .fp8e4m3) := fun v0 k0_t1 v281 k0_hw13 k0_h1 => k0_hw13.2 k0_h1 (k0_off52_inb v0 k0_t1 v281 k0_hw13 k0_h1)

def k0_off53 (k0_t1 : Fin k0_t1_loop.trips) : Fin 2 → Nat :=
  let c0_165 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c13_i32 : BitVec 32 := 13#32
  let v288 : BitVec 32 := Scalar.addi v170 c13_i32
  let v289 : Index := Scalar.indexCast v288
  ![0, v289.toNat]
def k0_off54 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off55 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c13_i32_166 : BitVec 32 := 13#32
  let c0_i32_167 : BitVec 32 := 0#32
  let c0_i32_168 : BitVec 32 := 0#32
  let c0_i32_169 : BitVec 32 := 0#32
  ![v161.toNat, 13, 0, 0, 0]
def k0_off56 (v290 : BitVec 32) : Fin 4 → Nat :=
  let c0_i32_170 : BitVec 32 := 0#32
  let c0_i32_171 : BitVec 32 := 0#32
  let c0_i32_172 : BitVec 32 := 0#32
  ![v290.toNat, 0, 0, 0]

def k0_chk14 (v0 : BitVec 32) (k0_t1 : Fin k0_t1_loop.trips) (v290 : BitVec 32) : Prop :=
  (∀ (k0_h1 : k0_cond1 v0 k0_t1 = 1#1), ∀ a, (k0_off56 v290) a + S1x2x128x128.size a ≤ S1024x2x128x128.size a) ∧
  (∀ (k0_h1 : k0_cond1 v0 k0_t1 = 1#1), ∀ (hinb : ∀ a, (k0_off56 v290) a + S1x2x128x128.size a ≤ S1024x2x128x128.size a), (Rect.unit (s := S1024x2x128x128) (k0_off56 v290) S1x2x128x128.size hinb).WholeWords (EltTy.packing .fp8e4m3))
theorem k0_off56_inb : ∀ (v0 : BitVec 32) (k0_t1 : Fin k0_t1_loop.trips) (v290 : BitVec 32) (k0_hw14 : k0_chk14 v0 k0_t1 v290), ∀ (k0_h1 : k0_cond1 v0 k0_t1 = 1#1), ∀ a, (k0_off56 v290) a + S1x2x128x128.size a ≤ S1024x2x128x128.size a := fun v0 k0_t1 v290 k0_hw14 k0_h1 => k0_hw14.1 k0_h1
theorem k0_off56_wordsfp8e4m3 : ∀ (v0 : BitVec 32) (k0_t1 : Fin k0_t1_loop.trips) (v290 : BitVec 32) (k0_hw14 : k0_chk14 v0 k0_t1 v290), ∀ (k0_h1 : k0_cond1 v0 k0_t1 = 1#1), (Rect.unit (s := S1024x2x128x128) (k0_off56 v290) S1x2x128x128.size (k0_off56_inb v0 k0_t1 v290 k0_hw14 k0_h1)).WholeWords (EltTy.packing .fp8e4m3) := fun v0 k0_t1 v290 k0_hw14 k0_h1 => k0_hw14.2 k0_h1 (k0_off56_inb v0 k0_t1 v290 k0_hw14 k0_h1)

def k0_off57 (k0_t1 : Fin k0_t1_loop.trips) : Fin 2 → Nat :=
  let c0_173 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c14_i32 : BitVec 32 := 14#32
  let v297 : BitVec 32 := Scalar.addi v170 c14_i32
  let v298 : Index := Scalar.indexCast v297
  ![0, v298.toNat]
def k0_off58 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off59 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c14_i32_174 : BitVec 32 := 14#32
  let c0_i32_175 : BitVec 32 := 0#32
  let c0_i32_176 : BitVec 32 := 0#32
  let c0_i32_177 : BitVec 32 := 0#32
  ![v161.toNat, 14, 0, 0, 0]
def k0_off60 (v299 : BitVec 32) : Fin 4 → Nat :=
  let c0_i32_178 : BitVec 32 := 0#32
  let c0_i32_179 : BitVec 32 := 0#32
  let c0_i32_180 : BitVec 32 := 0#32
  ![v299.toNat, 0, 0, 0]

def k0_chk15 (v0 : BitVec 32) (k0_t1 : Fin k0_t1_loop.trips) (v299 : BitVec 32) : Prop :=
  (∀ (k0_h1 : k0_cond1 v0 k0_t1 = 1#1), ∀ a, (k0_off60 v299) a + S1x2x128x128.size a ≤ S1024x2x128x128.size a) ∧
  (∀ (k0_h1 : k0_cond1 v0 k0_t1 = 1#1), ∀ (hinb : ∀ a, (k0_off60 v299) a + S1x2x128x128.size a ≤ S1024x2x128x128.size a), (Rect.unit (s := S1024x2x128x128) (k0_off60 v299) S1x2x128x128.size hinb).WholeWords (EltTy.packing .fp8e4m3))
theorem k0_off60_inb : ∀ (v0 : BitVec 32) (k0_t1 : Fin k0_t1_loop.trips) (v299 : BitVec 32) (k0_hw15 : k0_chk15 v0 k0_t1 v299), ∀ (k0_h1 : k0_cond1 v0 k0_t1 = 1#1), ∀ a, (k0_off60 v299) a + S1x2x128x128.size a ≤ S1024x2x128x128.size a := fun v0 k0_t1 v299 k0_hw15 k0_h1 => k0_hw15.1 k0_h1
theorem k0_off60_wordsfp8e4m3 : ∀ (v0 : BitVec 32) (k0_t1 : Fin k0_t1_loop.trips) (v299 : BitVec 32) (k0_hw15 : k0_chk15 v0 k0_t1 v299), ∀ (k0_h1 : k0_cond1 v0 k0_t1 = 1#1), (Rect.unit (s := S1024x2x128x128) (k0_off60 v299) S1x2x128x128.size (k0_off60_inb v0 k0_t1 v299 k0_hw15 k0_h1)).WholeWords (EltTy.packing .fp8e4m3) := fun v0 k0_t1 v299 k0_hw15 k0_h1 => k0_hw15.2 k0_h1 (k0_off60_inb v0 k0_t1 v299 k0_hw15 k0_h1)

def k0_off61 (k0_t1 : Fin k0_t1_loop.trips) : Fin 2 → Nat :=
  let c0_181 : Index := 0#32
  let c0_i32_7 : BitVec 32 := 0#32
  let c1_i32_8 : BitVec 32 := 1#32
  let arg15 : BitVec 32 := Scf.iv c0_i32_7 c1_i32_8 k0_t1
  let c16_i32 : BitVec 32 := 16#32
  let v170 : BitVec 32 := Scalar.muli arg15 c16_i32
  let c15_i32 : BitVec 32 := 15#32
  let v306 : BitVec 32 := Scalar.addi v170 c15_i32
  let v307 : Index := Scalar.indexCast v306
  ![0, v307.toNat]
def k0_off62 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off63 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c15_i32_182 : BitVec 32 := 15#32
  let c0_i32_183 : BitVec 32 := 0#32
  let c0_i32_184 : BitVec 32 := 0#32
  let c0_i32_185 : BitVec 32 := 0#32
  ![v161.toNat, 15, 0, 0, 0]
def k0_off64 (v308 : BitVec 32) : Fin 4 → Nat :=
  let c0_i32_186 : BitVec 32 := 0#32
  let c0_i32_187 : BitVec 32 := 0#32
  let c0_i32_188 : BitVec 32 := 0#32
  ![v308.toNat, 0, 0, 0]

def k0_chk16 (v0 : BitVec 32) (k0_t1 : Fin k0_t1_loop.trips) (v308 : BitVec 32) : Prop :=
  (∀ (k0_h1 : k0_cond1 v0 k0_t1 = 1#1), ∀ a, (k0_off64 v308) a + S1x2x128x128.size a ≤ S1024x2x128x128.size a) ∧
  (∀ (k0_h1 : k0_cond1 v0 k0_t1 = 1#1), ∀ (hinb : ∀ a, (k0_off64 v308) a + S1x2x128x128.size a ≤ S1024x2x128x128.size a), (Rect.unit (s := S1024x2x128x128) (k0_off64 v308) S1x2x128x128.size hinb).WholeWords (EltTy.packing .fp8e4m3))
theorem k0_off64_inb : ∀ (v0 : BitVec 32) (k0_t1 : Fin k0_t1_loop.trips) (v308 : BitVec 32) (k0_hw16 : k0_chk16 v0 k0_t1 v308), ∀ (k0_h1 : k0_cond1 v0 k0_t1 = 1#1), ∀ a, (k0_off64 v308) a + S1x2x128x128.size a ≤ S1024x2x128x128.size a := fun v0 k0_t1 v308 k0_hw16 k0_h1 => k0_hw16.1 k0_h1
theorem k0_off64_wordsfp8e4m3 : ∀ (v0 : BitVec 32) (k0_t1 : Fin k0_t1_loop.trips) (v308 : BitVec 32) (k0_hw16 : k0_chk16 v0 k0_t1 v308), ∀ (k0_h1 : k0_cond1 v0 k0_t1 = 1#1), (Rect.unit (s := S1024x2x128x128) (k0_off64 v308) S1x2x128x128.size (k0_off64_inb v0 k0_t1 v308 k0_hw16 k0_h1)).WholeWords (EltTy.packing .fp8e4m3) := fun v0 k0_t1 v308 k0_hw16 k0_h1 => k0_hw16.2 k0_h1 (k0_off64_inb v0 k0_t1 v308 k0_hw16 k0_h1)

def k0_off65 (v0 : BitVec 32) (k0_t1 : Fin k0_t1_loop.trips) : Fin 2 → Nat :=
  let c0_58 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c0_i32_57 : BitVec 32 := 0#32
  let v172 : BitVec 32 := Scalar.addi v171 c0_i32_57
  let v173 : Index := Scalar.indexCast v172
  ![0, v173.toNat]
def k0_cond2 (v0 : BitVec 32) (k0_t1 : Fin k0_t1_loop.trips) : BitVec 1 :=
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v165 : BitVec 1 := Scalar.cmpi .sge arg15 v21
  let c2_i32 : BitVec 32 := 2#32
  let v22 : BitVec 32 := Scalar.muli c2_i32 v21
  let v166 : BitVec 1 := Scalar.cmpi .slt arg15 v22
  let v167 : BitVec 1 := Scalar.andi v165 v166
  let v168 : BitVec 32 := Scalar.extui v167
  let c0_i32_56 : BitVec 32 := 0#32
  let v169 : BitVec 1 := Scalar.cmpi .ne v168 c0_i32_56
  v169

def k0_off66 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off67 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c0_i32_59 : BitVec 32 := 0#32
  let c0_i32_60 : BitVec 32 := 0#32
  let c0_i32_61 : BitVec 32 := 0#32
  let c0_i32_62 : BitVec 32 := 0#32
  ![v161.toNat, 0, 0, 0, 0]
def k0_off68 (v174 : BitVec 32) : Fin 4 → Nat :=
  let c0_i32_63 : BitVec 32 := 0#32
  let c0_i32_64 : BitVec 32 := 0#32
  let c0_i32_65 : BitVec 32 := 0#32
  ![v174.toNat, 0, 0, 0]

def k0_chk18 (v0 : BitVec 32) (k0_t1 : Fin k0_t1_loop.trips) (v174 : BitVec 32) : Prop :=
  (∀ (k0_h2 : k0_cond2 v0 k0_t1 = 1#1), ∀ a, (k0_off68 v174) a + S1x2x128x128.size a ≤ S1024x2x128x128.size a) ∧
  (∀ (k0_h2 : k0_cond2 v0 k0_t1 = 1#1), ∀ (hinb : ∀ a, (k0_off68 v174) a + S1x2x128x128.size a ≤ S1024x2x128x128.size a), (Rect.unit (s := S1024x2x128x128) (k0_off68 v174) S1x2x128x128.size hinb).WholeWords (EltTy.packing .fp8e4m3))
theorem k0_off68_inb : ∀ (v0 : BitVec 32) (k0_t1 : Fin k0_t1_loop.trips) (v174 : BitVec 32) (k0_hw18 : k0_chk18 v0 k0_t1 v174), ∀ (k0_h2 : k0_cond2 v0 k0_t1 = 1#1), ∀ a, (k0_off68 v174) a + S1x2x128x128.size a ≤ S1024x2x128x128.size a := fun v0 k0_t1 v174 k0_hw18 k0_h2 => k0_hw18.1 k0_h2
theorem k0_off68_wordsfp8e4m3 : ∀ (v0 : BitVec 32) (k0_t1 : Fin k0_t1_loop.trips) (v174 : BitVec 32) (k0_hw18 : k0_chk18 v0 k0_t1 v174), ∀ (k0_h2 : k0_cond2 v0 k0_t1 = 1#1), (Rect.unit (s := S1024x2x128x128) (k0_off68 v174) S1x2x128x128.size (k0_off68_inb v0 k0_t1 v174 k0_hw18 k0_h2)).WholeWords (EltTy.packing .fp8e4m3) := fun v0 k0_t1 v174 k0_hw18 k0_h2 => k0_hw18.2 k0_h2 (k0_off68_inb v0 k0_t1 v174 k0_hw18 k0_h2)

def k0_off69 (v0 : BitVec 32) (k0_t1 : Fin k0_t1_loop.trips) : Fin 2 → Nat :=
  let c0_67 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c1_i32_66 : BitVec 32 := 1#32
  let v181 : BitVec 32 := Scalar.addi v171 c1_i32_66
  let v182 : Index := Scalar.indexCast v181
  ![0, v182.toNat]
def k0_off70 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off71 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c1_i32_68 : BitVec 32 := 1#32
  let c0_i32_69 : BitVec 32 := 0#32
  let c0_i32_70 : BitVec 32 := 0#32
  let c0_i32_71 : BitVec 32 := 0#32
  ![v161.toNat, 1, 0, 0, 0]
def k0_off72 (v183 : BitVec 32) : Fin 4 → Nat :=
  let c0_i32_72 : BitVec 32 := 0#32
  let c0_i32_73 : BitVec 32 := 0#32
  let c0_i32_74 : BitVec 32 := 0#32
  ![v183.toNat, 0, 0, 0]

def k0_chk19 (v0 : BitVec 32) (k0_t1 : Fin k0_t1_loop.trips) (v183 : BitVec 32) : Prop :=
  (∀ (k0_h2 : k0_cond2 v0 k0_t1 = 1#1), ∀ a, (k0_off72 v183) a + S1x2x128x128.size a ≤ S1024x2x128x128.size a) ∧
  (∀ (k0_h2 : k0_cond2 v0 k0_t1 = 1#1), ∀ (hinb : ∀ a, (k0_off72 v183) a + S1x2x128x128.size a ≤ S1024x2x128x128.size a), (Rect.unit (s := S1024x2x128x128) (k0_off72 v183) S1x2x128x128.size hinb).WholeWords (EltTy.packing .fp8e4m3))
theorem k0_off72_inb : ∀ (v0 : BitVec 32) (k0_t1 : Fin k0_t1_loop.trips) (v183 : BitVec 32) (k0_hw19 : k0_chk19 v0 k0_t1 v183), ∀ (k0_h2 : k0_cond2 v0 k0_t1 = 1#1), ∀ a, (k0_off72 v183) a + S1x2x128x128.size a ≤ S1024x2x128x128.size a := fun v0 k0_t1 v183 k0_hw19 k0_h2 => k0_hw19.1 k0_h2
theorem k0_off72_wordsfp8e4m3 : ∀ (v0 : BitVec 32) (k0_t1 : Fin k0_t1_loop.trips) (v183 : BitVec 32) (k0_hw19 : k0_chk19 v0 k0_t1 v183), ∀ (k0_h2 : k0_cond2 v0 k0_t1 = 1#1), (Rect.unit (s := S1024x2x128x128) (k0_off72 v183) S1x2x128x128.size (k0_off72_inb v0 k0_t1 v183 k0_hw19 k0_h2)).WholeWords (EltTy.packing .fp8e4m3) := fun v0 k0_t1 v183 k0_hw19 k0_h2 => k0_hw19.2 k0_h2 (k0_off72_inb v0 k0_t1 v183 k0_hw19 k0_h2)

def k0_off73 (v0 : BitVec 32) (k0_t1 : Fin k0_t1_loop.trips) : Fin 2 → Nat :=
  let c0_76 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c2_i32_75 : BitVec 32 := 2#32
  let v190 : BitVec 32 := Scalar.addi v171 c2_i32_75
  let v191 : Index := Scalar.indexCast v190
  ![0, v191.toNat]
def k0_off74 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off75 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c2_i32_77 : BitVec 32 := 2#32
  let c0_i32_78 : BitVec 32 := 0#32
  let c0_i32_79 : BitVec 32 := 0#32
  let c0_i32_80 : BitVec 32 := 0#32
  ![v161.toNat, 2, 0, 0, 0]
def k0_off76 (v192 : BitVec 32) : Fin 4 → Nat :=
  let c0_i32_81 : BitVec 32 := 0#32
  let c0_i32_82 : BitVec 32 := 0#32
  let c0_i32_83 : BitVec 32 := 0#32
  ![v192.toNat, 0, 0, 0]

def k0_chk20 (v0 : BitVec 32) (k0_t1 : Fin k0_t1_loop.trips) (v192 : BitVec 32) : Prop :=
  (∀ (k0_h2 : k0_cond2 v0 k0_t1 = 1#1), ∀ a, (k0_off76 v192) a + S1x2x128x128.size a ≤ S1024x2x128x128.size a) ∧
  (∀ (k0_h2 : k0_cond2 v0 k0_t1 = 1#1), ∀ (hinb : ∀ a, (k0_off76 v192) a + S1x2x128x128.size a ≤ S1024x2x128x128.size a), (Rect.unit (s := S1024x2x128x128) (k0_off76 v192) S1x2x128x128.size hinb).WholeWords (EltTy.packing .fp8e4m3))
theorem k0_off76_inb : ∀ (v0 : BitVec 32) (k0_t1 : Fin k0_t1_loop.trips) (v192 : BitVec 32) (k0_hw20 : k0_chk20 v0 k0_t1 v192), ∀ (k0_h2 : k0_cond2 v0 k0_t1 = 1#1), ∀ a, (k0_off76 v192) a + S1x2x128x128.size a ≤ S1024x2x128x128.size a := fun v0 k0_t1 v192 k0_hw20 k0_h2 => k0_hw20.1 k0_h2
theorem k0_off76_wordsfp8e4m3 : ∀ (v0 : BitVec 32) (k0_t1 : Fin k0_t1_loop.trips) (v192 : BitVec 32) (k0_hw20 : k0_chk20 v0 k0_t1 v192), ∀ (k0_h2 : k0_cond2 v0 k0_t1 = 1#1), (Rect.unit (s := S1024x2x128x128) (k0_off76 v192) S1x2x128x128.size (k0_off76_inb v0 k0_t1 v192 k0_hw20 k0_h2)).WholeWords (EltTy.packing .fp8e4m3) := fun v0 k0_t1 v192 k0_hw20 k0_h2 => k0_hw20.2 k0_h2 (k0_off76_inb v0 k0_t1 v192 k0_hw20 k0_h2)

def k0_off77 (v0 : BitVec 32) (k0_t1 : Fin k0_t1_loop.trips) : Fin 2 → Nat :=
  let c0_84 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c3_i32 : BitVec 32 := 3#32
  let v199 : BitVec 32 := Scalar.addi v171 c3_i32
  let v200 : Index := Scalar.indexCast v199
  ![0, v200.toNat]
def k0_off78 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off79 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c3_i32_85 : BitVec 32 := 3#32
  let c0_i32_86 : BitVec 32 := 0#32
  let c0_i32_87 : BitVec 32 := 0#32
  let c0_i32_88 : BitVec 32 := 0#32
  ![v161.toNat, 3, 0, 0, 0]
def k0_off80 (v201 : BitVec 32) : Fin 4 → Nat :=
  let c0_i32_89 : BitVec 32 := 0#32
  let c0_i32_90 : BitVec 32 := 0#32
  let c0_i32_91 : BitVec 32 := 0#32
  ![v201.toNat, 0, 0, 0]

def k0_chk21 (v0 : BitVec 32) (k0_t1 : Fin k0_t1_loop.trips) (v201 : BitVec 32) : Prop :=
  (∀ (k0_h2 : k0_cond2 v0 k0_t1 = 1#1), ∀ a, (k0_off80 v201) a + S1x2x128x128.size a ≤ S1024x2x128x128.size a) ∧
  (∀ (k0_h2 : k0_cond2 v0 k0_t1 = 1#1), ∀ (hinb : ∀ a, (k0_off80 v201) a + S1x2x128x128.size a ≤ S1024x2x128x128.size a), (Rect.unit (s := S1024x2x128x128) (k0_off80 v201) S1x2x128x128.size hinb).WholeWords (EltTy.packing .fp8e4m3))
theorem k0_off80_inb : ∀ (v0 : BitVec 32) (k0_t1 : Fin k0_t1_loop.trips) (v201 : BitVec 32) (k0_hw21 : k0_chk21 v0 k0_t1 v201), ∀ (k0_h2 : k0_cond2 v0 k0_t1 = 1#1), ∀ a, (k0_off80 v201) a + S1x2x128x128.size a ≤ S1024x2x128x128.size a := fun v0 k0_t1 v201 k0_hw21 k0_h2 => k0_hw21.1 k0_h2
theorem k0_off80_wordsfp8e4m3 : ∀ (v0 : BitVec 32) (k0_t1 : Fin k0_t1_loop.trips) (v201 : BitVec 32) (k0_hw21 : k0_chk21 v0 k0_t1 v201), ∀ (k0_h2 : k0_cond2 v0 k0_t1 = 1#1), (Rect.unit (s := S1024x2x128x128) (k0_off80 v201) S1x2x128x128.size (k0_off80_inb v0 k0_t1 v201 k0_hw21 k0_h2)).WholeWords (EltTy.packing .fp8e4m3) := fun v0 k0_t1 v201 k0_hw21 k0_h2 => k0_hw21.2 k0_h2 (k0_off80_inb v0 k0_t1 v201 k0_hw21 k0_h2)

def k0_off81 (v0 : BitVec 32) (k0_t1 : Fin k0_t1_loop.trips) : Fin 2 → Nat :=
  let c0_92 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c4_i32 : BitVec 32 := 4#32
  let v208 : BitVec 32 := Scalar.addi v171 c4_i32
  let v209 : Index := Scalar.indexCast v208
  ![0, v209.toNat]
def k0_off82 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off83 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c4_i32_93 : BitVec 32 := 4#32
  let c0_i32_94 : BitVec 32 := 0#32
  let c0_i32_95 : BitVec 32 := 0#32
  let c0_i32_96 : BitVec 32 := 0#32
  ![v161.toNat, 4, 0, 0, 0]
def k0_off84 (v210 : BitVec 32) : Fin 4 → Nat :=
  let c0_i32_97 : BitVec 32 := 0#32
  let c0_i32_98 : BitVec 32 := 0#32
  let c0_i32_99 : BitVec 32 := 0#32
  ![v210.toNat, 0, 0, 0]

def k0_chk22 (v0 : BitVec 32) (k0_t1 : Fin k0_t1_loop.trips) (v210 : BitVec 32) : Prop :=
  (∀ (k0_h2 : k0_cond2 v0 k0_t1 = 1#1), ∀ a, (k0_off84 v210) a + S1x2x128x128.size a ≤ S1024x2x128x128.size a) ∧
  (∀ (k0_h2 : k0_cond2 v0 k0_t1 = 1#1), ∀ (hinb : ∀ a, (k0_off84 v210) a + S1x2x128x128.size a ≤ S1024x2x128x128.size a), (Rect.unit (s := S1024x2x128x128) (k0_off84 v210) S1x2x128x128.size hinb).WholeWords (EltTy.packing .fp8e4m3))
theorem k0_off84_inb : ∀ (v0 : BitVec 32) (k0_t1 : Fin k0_t1_loop.trips) (v210 : BitVec 32) (k0_hw22 : k0_chk22 v0 k0_t1 v210), ∀ (k0_h2 : k0_cond2 v0 k0_t1 = 1#1), ∀ a, (k0_off84 v210) a + S1x2x128x128.size a ≤ S1024x2x128x128.size a := fun v0 k0_t1 v210 k0_hw22 k0_h2 => k0_hw22.1 k0_h2
theorem k0_off84_wordsfp8e4m3 : ∀ (v0 : BitVec 32) (k0_t1 : Fin k0_t1_loop.trips) (v210 : BitVec 32) (k0_hw22 : k0_chk22 v0 k0_t1 v210), ∀ (k0_h2 : k0_cond2 v0 k0_t1 = 1#1), (Rect.unit (s := S1024x2x128x128) (k0_off84 v210) S1x2x128x128.size (k0_off84_inb v0 k0_t1 v210 k0_hw22 k0_h2)).WholeWords (EltTy.packing .fp8e4m3) := fun v0 k0_t1 v210 k0_hw22 k0_h2 => k0_hw22.2 k0_h2 (k0_off84_inb v0 k0_t1 v210 k0_hw22 k0_h2)

def k0_off85 (v0 : BitVec 32) (k0_t1 : Fin k0_t1_loop.trips) : Fin 2 → Nat :=
  let c0_100 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c5_i32 : BitVec 32 := 5#32
  let v217 : BitVec 32 := Scalar.addi v171 c5_i32
  let v218 : Index := Scalar.indexCast v217
  ![0, v218.toNat]
def k0_off86 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off87 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c5_i32_101 : BitVec 32 := 5#32
  let c0_i32_102 : BitVec 32 := 0#32
  let c0_i32_103 : BitVec 32 := 0#32
  let c0_i32_104 : BitVec 32 := 0#32
  ![v161.toNat, 5, 0, 0, 0]
def k0_off88 (v219 : BitVec 32) : Fin 4 → Nat :=
  let c0_i32_105 : BitVec 32 := 0#32
  let c0_i32_106 : BitVec 32 := 0#32
  let c0_i32_107 : BitVec 32 := 0#32
  ![v219.toNat, 0, 0, 0]

def k0_chk23 (v0 : BitVec 32) (k0_t1 : Fin k0_t1_loop.trips) (v219 : BitVec 32) : Prop :=
  (∀ (k0_h2 : k0_cond2 v0 k0_t1 = 1#1), ∀ a, (k0_off88 v219) a + S1x2x128x128.size a ≤ S1024x2x128x128.size a) ∧
  (∀ (k0_h2 : k0_cond2 v0 k0_t1 = 1#1), ∀ (hinb : ∀ a, (k0_off88 v219) a + S1x2x128x128.size a ≤ S1024x2x128x128.size a), (Rect.unit (s := S1024x2x128x128) (k0_off88 v219) S1x2x128x128.size hinb).WholeWords (EltTy.packing .fp8e4m3))
theorem k0_off88_inb : ∀ (v0 : BitVec 32) (k0_t1 : Fin k0_t1_loop.trips) (v219 : BitVec 32) (k0_hw23 : k0_chk23 v0 k0_t1 v219), ∀ (k0_h2 : k0_cond2 v0 k0_t1 = 1#1), ∀ a, (k0_off88 v219) a + S1x2x128x128.size a ≤ S1024x2x128x128.size a := fun v0 k0_t1 v219 k0_hw23 k0_h2 => k0_hw23.1 k0_h2
theorem k0_off88_wordsfp8e4m3 : ∀ (v0 : BitVec 32) (k0_t1 : Fin k0_t1_loop.trips) (v219 : BitVec 32) (k0_hw23 : k0_chk23 v0 k0_t1 v219), ∀ (k0_h2 : k0_cond2 v0 k0_t1 = 1#1), (Rect.unit (s := S1024x2x128x128) (k0_off88 v219) S1x2x128x128.size (k0_off88_inb v0 k0_t1 v219 k0_hw23 k0_h2)).WholeWords (EltTy.packing .fp8e4m3) := fun v0 k0_t1 v219 k0_hw23 k0_h2 => k0_hw23.2 k0_h2 (k0_off88_inb v0 k0_t1 v219 k0_hw23 k0_h2)

def k0_off89 (v0 : BitVec 32) (k0_t1 : Fin k0_t1_loop.trips) : Fin 2 → Nat :=
  let c0_108 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c6_i32 : BitVec 32 := 6#32
  let v226 : BitVec 32 := Scalar.addi v171 c6_i32
  let v227 : Index := Scalar.indexCast v226
  ![0, v227.toNat]
def k0_off90 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off91 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c6_i32_109 : BitVec 32 := 6#32
  let c0_i32_110 : BitVec 32 := 0#32
  let c0_i32_111 : BitVec 32 := 0#32
  let c0_i32_112 : BitVec 32 := 0#32
  ![v161.toNat, 6, 0, 0, 0]
def k0_off92 (v228 : BitVec 32) : Fin 4 → Nat :=
  let c0_i32_113 : BitVec 32 := 0#32
  let c0_i32_114 : BitVec 32 := 0#32
  let c0_i32_115 : BitVec 32 := 0#32
  ![v228.toNat, 0, 0, 0]

def k0_chk24 (v0 : BitVec 32) (k0_t1 : Fin k0_t1_loop.trips) (v228 : BitVec 32) : Prop :=
  (∀ (k0_h2 : k0_cond2 v0 k0_t1 = 1#1), ∀ a, (k0_off92 v228) a + S1x2x128x128.size a ≤ S1024x2x128x128.size a) ∧
  (∀ (k0_h2 : k0_cond2 v0 k0_t1 = 1#1), ∀ (hinb : ∀ a, (k0_off92 v228) a + S1x2x128x128.size a ≤ S1024x2x128x128.size a), (Rect.unit (s := S1024x2x128x128) (k0_off92 v228) S1x2x128x128.size hinb).WholeWords (EltTy.packing .fp8e4m3))
theorem k0_off92_inb : ∀ (v0 : BitVec 32) (k0_t1 : Fin k0_t1_loop.trips) (v228 : BitVec 32) (k0_hw24 : k0_chk24 v0 k0_t1 v228), ∀ (k0_h2 : k0_cond2 v0 k0_t1 = 1#1), ∀ a, (k0_off92 v228) a + S1x2x128x128.size a ≤ S1024x2x128x128.size a := fun v0 k0_t1 v228 k0_hw24 k0_h2 => k0_hw24.1 k0_h2
theorem k0_off92_wordsfp8e4m3 : ∀ (v0 : BitVec 32) (k0_t1 : Fin k0_t1_loop.trips) (v228 : BitVec 32) (k0_hw24 : k0_chk24 v0 k0_t1 v228), ∀ (k0_h2 : k0_cond2 v0 k0_t1 = 1#1), (Rect.unit (s := S1024x2x128x128) (k0_off92 v228) S1x2x128x128.size (k0_off92_inb v0 k0_t1 v228 k0_hw24 k0_h2)).WholeWords (EltTy.packing .fp8e4m3) := fun v0 k0_t1 v228 k0_hw24 k0_h2 => k0_hw24.2 k0_h2 (k0_off92_inb v0 k0_t1 v228 k0_hw24 k0_h2)

def k0_off93 (v0 : BitVec 32) (k0_t1 : Fin k0_t1_loop.trips) : Fin 2 → Nat :=
  let c0_116 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c7_i32 : BitVec 32 := 7#32
  let v235 : BitVec 32 := Scalar.addi v171 c7_i32
  let v236 : Index := Scalar.indexCast v235
  ![0, v236.toNat]
def k0_off94 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off95 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c7_i32_117 : BitVec 32 := 7#32
  let c0_i32_118 : BitVec 32 := 0#32
  let c0_i32_119 : BitVec 32 := 0#32
  let c0_i32_120 : BitVec 32 := 0#32
  ![v161.toNat, 7, 0, 0, 0]
def k0_off96 (v237 : BitVec 32) : Fin 4 → Nat :=
  let c0_i32_121 : BitVec 32 := 0#32
  let c0_i32_122 : BitVec 32 := 0#32
  let c0_i32_123 : BitVec 32 := 0#32
  ![v237.toNat, 0, 0, 0]

def k0_chk25 (v0 : BitVec 32) (k0_t1 : Fin k0_t1_loop.trips) (v237 : BitVec 32) : Prop :=
  (∀ (k0_h2 : k0_cond2 v0 k0_t1 = 1#1), ∀ a, (k0_off96 v237) a + S1x2x128x128.size a ≤ S1024x2x128x128.size a) ∧
  (∀ (k0_h2 : k0_cond2 v0 k0_t1 = 1#1), ∀ (hinb : ∀ a, (k0_off96 v237) a + S1x2x128x128.size a ≤ S1024x2x128x128.size a), (Rect.unit (s := S1024x2x128x128) (k0_off96 v237) S1x2x128x128.size hinb).WholeWords (EltTy.packing .fp8e4m3))
theorem k0_off96_inb : ∀ (v0 : BitVec 32) (k0_t1 : Fin k0_t1_loop.trips) (v237 : BitVec 32) (k0_hw25 : k0_chk25 v0 k0_t1 v237), ∀ (k0_h2 : k0_cond2 v0 k0_t1 = 1#1), ∀ a, (k0_off96 v237) a + S1x2x128x128.size a ≤ S1024x2x128x128.size a := fun v0 k0_t1 v237 k0_hw25 k0_h2 => k0_hw25.1 k0_h2
theorem k0_off96_wordsfp8e4m3 : ∀ (v0 : BitVec 32) (k0_t1 : Fin k0_t1_loop.trips) (v237 : BitVec 32) (k0_hw25 : k0_chk25 v0 k0_t1 v237), ∀ (k0_h2 : k0_cond2 v0 k0_t1 = 1#1), (Rect.unit (s := S1024x2x128x128) (k0_off96 v237) S1x2x128x128.size (k0_off96_inb v0 k0_t1 v237 k0_hw25 k0_h2)).WholeWords (EltTy.packing .fp8e4m3) := fun v0 k0_t1 v237 k0_hw25 k0_h2 => k0_hw25.2 k0_h2 (k0_off96_inb v0 k0_t1 v237 k0_hw25 k0_h2)

def k0_off97 (v0 : BitVec 32) (k0_t1 : Fin k0_t1_loop.trips) : Fin 2 → Nat :=
  let c0_125 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c8_i32_124 : BitVec 32 := 8#32
  let v244 : BitVec 32 := Scalar.addi v171 c8_i32_124
  let v245 : Index := Scalar.indexCast v244
  ![0, v245.toNat]
def k0_off98 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off99 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c8_i32_126 : BitVec 32 := 8#32
  let c0_i32_127 : BitVec 32 := 0#32
  let c0_i32_128 : BitVec 32 := 0#32
  let c0_i32_129 : BitVec 32 := 0#32
  ![v161.toNat, 8, 0, 0, 0]
def k0_off100 (v246 : BitVec 32) : Fin 4 → Nat :=
  let c0_i32_130 : BitVec 32 := 0#32
  let c0_i32_131 : BitVec 32 := 0#32
  let c0_i32_132 : BitVec 32 := 0#32
  ![v246.toNat, 0, 0, 0]

def k0_chk26 (v0 : BitVec 32) (k0_t1 : Fin k0_t1_loop.trips) (v246 : BitVec 32) : Prop :=
  (∀ (k0_h2 : k0_cond2 v0 k0_t1 = 1#1), ∀ a, (k0_off100 v246) a + S1x2x128x128.size a ≤ S1024x2x128x128.size a) ∧
  (∀ (k0_h2 : k0_cond2 v0 k0_t1 = 1#1), ∀ (hinb : ∀ a, (k0_off100 v246) a + S1x2x128x128.size a ≤ S1024x2x128x128.size a), (Rect.unit (s := S1024x2x128x128) (k0_off100 v246) S1x2x128x128.size hinb).WholeWords (EltTy.packing .fp8e4m3))
theorem k0_off100_inb : ∀ (v0 : BitVec 32) (k0_t1 : Fin k0_t1_loop.trips) (v246 : BitVec 32) (k0_hw26 : k0_chk26 v0 k0_t1 v246), ∀ (k0_h2 : k0_cond2 v0 k0_t1 = 1#1), ∀ a, (k0_off100 v246) a + S1x2x128x128.size a ≤ S1024x2x128x128.size a := fun v0 k0_t1 v246 k0_hw26 k0_h2 => k0_hw26.1 k0_h2
theorem k0_off100_wordsfp8e4m3 : ∀ (v0 : BitVec 32) (k0_t1 : Fin k0_t1_loop.trips) (v246 : BitVec 32) (k0_hw26 : k0_chk26 v0 k0_t1 v246), ∀ (k0_h2 : k0_cond2 v0 k0_t1 = 1#1), (Rect.unit (s := S1024x2x128x128) (k0_off100 v246) S1x2x128x128.size (k0_off100_inb v0 k0_t1 v246 k0_hw26 k0_h2)).WholeWords (EltTy.packing .fp8e4m3) := fun v0 k0_t1 v246 k0_hw26 k0_h2 => k0_hw26.2 k0_h2 (k0_off100_inb v0 k0_t1 v246 k0_hw26 k0_h2)

def k0_off101 (v0 : BitVec 32) (k0_t1 : Fin k0_t1_loop.trips) : Fin 2 → Nat :=
  let c0_133 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c9_i32 : BitVec 32 := 9#32
  let v253 : BitVec 32 := Scalar.addi v171 c9_i32
  let v254 : Index := Scalar.indexCast v253
  ![0, v254.toNat]
def k0_off102 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off103 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c9_i32_134 : BitVec 32 := 9#32
  let c0_i32_135 : BitVec 32 := 0#32
  let c0_i32_136 : BitVec 32 := 0#32
  let c0_i32_137 : BitVec 32 := 0#32
  ![v161.toNat, 9, 0, 0, 0]
def k0_off104 (v255 : BitVec 32) : Fin 4 → Nat :=
  let c0_i32_138 : BitVec 32 := 0#32
  let c0_i32_139 : BitVec 32 := 0#32
  let c0_i32_140 : BitVec 32 := 0#32
  ![v255.toNat, 0, 0, 0]

def k0_chk27 (v0 : BitVec 32) (k0_t1 : Fin k0_t1_loop.trips) (v255 : BitVec 32) : Prop :=
  (∀ (k0_h2 : k0_cond2 v0 k0_t1 = 1#1), ∀ a, (k0_off104 v255) a + S1x2x128x128.size a ≤ S1024x2x128x128.size a) ∧
  (∀ (k0_h2 : k0_cond2 v0 k0_t1 = 1#1), ∀ (hinb : ∀ a, (k0_off104 v255) a + S1x2x128x128.size a ≤ S1024x2x128x128.size a), (Rect.unit (s := S1024x2x128x128) (k0_off104 v255) S1x2x128x128.size hinb).WholeWords (EltTy.packing .fp8e4m3))
theorem k0_off104_inb : ∀ (v0 : BitVec 32) (k0_t1 : Fin k0_t1_loop.trips) (v255 : BitVec 32) (k0_hw27 : k0_chk27 v0 k0_t1 v255), ∀ (k0_h2 : k0_cond2 v0 k0_t1 = 1#1), ∀ a, (k0_off104 v255) a + S1x2x128x128.size a ≤ S1024x2x128x128.size a := fun v0 k0_t1 v255 k0_hw27 k0_h2 => k0_hw27.1 k0_h2
theorem k0_off104_wordsfp8e4m3 : ∀ (v0 : BitVec 32) (k0_t1 : Fin k0_t1_loop.trips) (v255 : BitVec 32) (k0_hw27 : k0_chk27 v0 k0_t1 v255), ∀ (k0_h2 : k0_cond2 v0 k0_t1 = 1#1), (Rect.unit (s := S1024x2x128x128) (k0_off104 v255) S1x2x128x128.size (k0_off104_inb v0 k0_t1 v255 k0_hw27 k0_h2)).WholeWords (EltTy.packing .fp8e4m3) := fun v0 k0_t1 v255 k0_hw27 k0_h2 => k0_hw27.2 k0_h2 (k0_off104_inb v0 k0_t1 v255 k0_hw27 k0_h2)

def k0_off105 (v0 : BitVec 32) (k0_t1 : Fin k0_t1_loop.trips) : Fin 2 → Nat :=
  let c0_141 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c10_i32 : BitVec 32 := 10#32
  let v262 : BitVec 32 := Scalar.addi v171 c10_i32
  let v263 : Index := Scalar.indexCast v262
  ![0, v263.toNat]
def k0_off106 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off107 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c10_i32_142 : BitVec 32 := 10#32
  let c0_i32_143 : BitVec 32 := 0#32
  let c0_i32_144 : BitVec 32 := 0#32
  let c0_i32_145 : BitVec 32 := 0#32
  ![v161.toNat, 10, 0, 0, 0]
def k0_off108 (v264 : BitVec 32) : Fin 4 → Nat :=
  let c0_i32_146 : BitVec 32 := 0#32
  let c0_i32_147 : BitVec 32 := 0#32
  let c0_i32_148 : BitVec 32 := 0#32
  ![v264.toNat, 0, 0, 0]

def k0_chk28 (v0 : BitVec 32) (k0_t1 : Fin k0_t1_loop.trips) (v264 : BitVec 32) : Prop :=
  (∀ (k0_h2 : k0_cond2 v0 k0_t1 = 1#1), ∀ a, (k0_off108 v264) a + S1x2x128x128.size a ≤ S1024x2x128x128.size a) ∧
  (∀ (k0_h2 : k0_cond2 v0 k0_t1 = 1#1), ∀ (hinb : ∀ a, (k0_off108 v264) a + S1x2x128x128.size a ≤ S1024x2x128x128.size a), (Rect.unit (s := S1024x2x128x128) (k0_off108 v264) S1x2x128x128.size hinb).WholeWords (EltTy.packing .fp8e4m3))
theorem k0_off108_inb : ∀ (v0 : BitVec 32) (k0_t1 : Fin k0_t1_loop.trips) (v264 : BitVec 32) (k0_hw28 : k0_chk28 v0 k0_t1 v264), ∀ (k0_h2 : k0_cond2 v0 k0_t1 = 1#1), ∀ a, (k0_off108 v264) a + S1x2x128x128.size a ≤ S1024x2x128x128.size a := fun v0 k0_t1 v264 k0_hw28 k0_h2 => k0_hw28.1 k0_h2
theorem k0_off108_wordsfp8e4m3 : ∀ (v0 : BitVec 32) (k0_t1 : Fin k0_t1_loop.trips) (v264 : BitVec 32) (k0_hw28 : k0_chk28 v0 k0_t1 v264), ∀ (k0_h2 : k0_cond2 v0 k0_t1 = 1#1), (Rect.unit (s := S1024x2x128x128) (k0_off108 v264) S1x2x128x128.size (k0_off108_inb v0 k0_t1 v264 k0_hw28 k0_h2)).WholeWords (EltTy.packing .fp8e4m3) := fun v0 k0_t1 v264 k0_hw28 k0_h2 => k0_hw28.2 k0_h2 (k0_off108_inb v0 k0_t1 v264 k0_hw28 k0_h2)

def k0_off109 (v0 : BitVec 32) (k0_t1 : Fin k0_t1_loop.trips) : Fin 2 → Nat :=
  let c0_149 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c11_i32 : BitVec 32 := 11#32
  let v271 : BitVec 32 := Scalar.addi v171 c11_i32
  let v272 : Index := Scalar.indexCast v271
  ![0, v272.toNat]
def k0_off110 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off111 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c11_i32_150 : BitVec 32 := 11#32
  let c0_i32_151 : BitVec 32 := 0#32
  let c0_i32_152 : BitVec 32 := 0#32
  let c0_i32_153 : BitVec 32 := 0#32
  ![v161.toNat, 11, 0, 0, 0]
def k0_off112 (v273 : BitVec 32) : Fin 4 → Nat :=
  let c0_i32_154 : BitVec 32 := 0#32
  let c0_i32_155 : BitVec 32 := 0#32
  let c0_i32_156 : BitVec 32 := 0#32
  ![v273.toNat, 0, 0, 0]

def k0_chk29 (v0 : BitVec 32) (k0_t1 : Fin k0_t1_loop.trips) (v273 : BitVec 32) : Prop :=
  (∀ (k0_h2 : k0_cond2 v0 k0_t1 = 1#1), ∀ a, (k0_off112 v273) a + S1x2x128x128.size a ≤ S1024x2x128x128.size a) ∧
  (∀ (k0_h2 : k0_cond2 v0 k0_t1 = 1#1), ∀ (hinb : ∀ a, (k0_off112 v273) a + S1x2x128x128.size a ≤ S1024x2x128x128.size a), (Rect.unit (s := S1024x2x128x128) (k0_off112 v273) S1x2x128x128.size hinb).WholeWords (EltTy.packing .fp8e4m3))
theorem k0_off112_inb : ∀ (v0 : BitVec 32) (k0_t1 : Fin k0_t1_loop.trips) (v273 : BitVec 32) (k0_hw29 : k0_chk29 v0 k0_t1 v273), ∀ (k0_h2 : k0_cond2 v0 k0_t1 = 1#1), ∀ a, (k0_off112 v273) a + S1x2x128x128.size a ≤ S1024x2x128x128.size a := fun v0 k0_t1 v273 k0_hw29 k0_h2 => k0_hw29.1 k0_h2
theorem k0_off112_wordsfp8e4m3 : ∀ (v0 : BitVec 32) (k0_t1 : Fin k0_t1_loop.trips) (v273 : BitVec 32) (k0_hw29 : k0_chk29 v0 k0_t1 v273), ∀ (k0_h2 : k0_cond2 v0 k0_t1 = 1#1), (Rect.unit (s := S1024x2x128x128) (k0_off112 v273) S1x2x128x128.size (k0_off112_inb v0 k0_t1 v273 k0_hw29 k0_h2)).WholeWords (EltTy.packing .fp8e4m3) := fun v0 k0_t1 v273 k0_hw29 k0_h2 => k0_hw29.2 k0_h2 (k0_off112_inb v0 k0_t1 v273 k0_hw29 k0_h2)

def k0_off113 (v0 : BitVec 32) (k0_t1 : Fin k0_t1_loop.trips) : Fin 2 → Nat :=
  let c0_157 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c12_i32 : BitVec 32 := 12#32
  let v280 : BitVec 32 := Scalar.addi v171 c12_i32
  let v281 : Index := Scalar.indexCast v280
  ![0, v281.toNat]
def k0_off114 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off115 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c12_i32_158 : BitVec 32 := 12#32
  let c0_i32_159 : BitVec 32 := 0#32
  let c0_i32_160 : BitVec 32 := 0#32
  let c0_i32_161 : BitVec 32 := 0#32
  ![v161.toNat, 12, 0, 0, 0]
def k0_off116 (v282 : BitVec 32) : Fin 4 → Nat :=
  let c0_i32_162 : BitVec 32 := 0#32
  let c0_i32_163 : BitVec 32 := 0#32
  let c0_i32_164 : BitVec 32 := 0#32
  ![v282.toNat, 0, 0, 0]

def k0_chk30 (v0 : BitVec 32) (k0_t1 : Fin k0_t1_loop.trips) (v282 : BitVec 32) : Prop :=
  (∀ (k0_h2 : k0_cond2 v0 k0_t1 = 1#1), ∀ a, (k0_off116 v282) a + S1x2x128x128.size a ≤ S1024x2x128x128.size a) ∧
  (∀ (k0_h2 : k0_cond2 v0 k0_t1 = 1#1), ∀ (hinb : ∀ a, (k0_off116 v282) a + S1x2x128x128.size a ≤ S1024x2x128x128.size a), (Rect.unit (s := S1024x2x128x128) (k0_off116 v282) S1x2x128x128.size hinb).WholeWords (EltTy.packing .fp8e4m3))
theorem k0_off116_inb : ∀ (v0 : BitVec 32) (k0_t1 : Fin k0_t1_loop.trips) (v282 : BitVec 32) (k0_hw30 : k0_chk30 v0 k0_t1 v282), ∀ (k0_h2 : k0_cond2 v0 k0_t1 = 1#1), ∀ a, (k0_off116 v282) a + S1x2x128x128.size a ≤ S1024x2x128x128.size a := fun v0 k0_t1 v282 k0_hw30 k0_h2 => k0_hw30.1 k0_h2
theorem k0_off116_wordsfp8e4m3 : ∀ (v0 : BitVec 32) (k0_t1 : Fin k0_t1_loop.trips) (v282 : BitVec 32) (k0_hw30 : k0_chk30 v0 k0_t1 v282), ∀ (k0_h2 : k0_cond2 v0 k0_t1 = 1#1), (Rect.unit (s := S1024x2x128x128) (k0_off116 v282) S1x2x128x128.size (k0_off116_inb v0 k0_t1 v282 k0_hw30 k0_h2)).WholeWords (EltTy.packing .fp8e4m3) := fun v0 k0_t1 v282 k0_hw30 k0_h2 => k0_hw30.2 k0_h2 (k0_off116_inb v0 k0_t1 v282 k0_hw30 k0_h2)

def k0_off117 (v0 : BitVec 32) (k0_t1 : Fin k0_t1_loop.trips) : Fin 2 → Nat :=
  let c0_165 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c13_i32 : BitVec 32 := 13#32
  let v289 : BitVec 32 := Scalar.addi v171 c13_i32
  let v290 : Index := Scalar.indexCast v289
  ![0, v290.toNat]
def k0_off118 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off119 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c13_i32_166 : BitVec 32 := 13#32
  let c0_i32_167 : BitVec 32 := 0#32
  let c0_i32_168 : BitVec 32 := 0#32
  let c0_i32_169 : BitVec 32 := 0#32
  ![v161.toNat, 13, 0, 0, 0]
def k0_off120 (v291 : BitVec 32) : Fin 4 → Nat :=
  let c0_i32_170 : BitVec 32 := 0#32
  let c0_i32_171 : BitVec 32 := 0#32
  let c0_i32_172 : BitVec 32 := 0#32
  ![v291.toNat, 0, 0, 0]

def k0_chk31 (v0 : BitVec 32) (k0_t1 : Fin k0_t1_loop.trips) (v291 : BitVec 32) : Prop :=
  (∀ (k0_h2 : k0_cond2 v0 k0_t1 = 1#1), ∀ a, (k0_off120 v291) a + S1x2x128x128.size a ≤ S1024x2x128x128.size a) ∧
  (∀ (k0_h2 : k0_cond2 v0 k0_t1 = 1#1), ∀ (hinb : ∀ a, (k0_off120 v291) a + S1x2x128x128.size a ≤ S1024x2x128x128.size a), (Rect.unit (s := S1024x2x128x128) (k0_off120 v291) S1x2x128x128.size hinb).WholeWords (EltTy.packing .fp8e4m3))
theorem k0_off120_inb : ∀ (v0 : BitVec 32) (k0_t1 : Fin k0_t1_loop.trips) (v291 : BitVec 32) (k0_hw31 : k0_chk31 v0 k0_t1 v291), ∀ (k0_h2 : k0_cond2 v0 k0_t1 = 1#1), ∀ a, (k0_off120 v291) a + S1x2x128x128.size a ≤ S1024x2x128x128.size a := fun v0 k0_t1 v291 k0_hw31 k0_h2 => k0_hw31.1 k0_h2
theorem k0_off120_wordsfp8e4m3 : ∀ (v0 : BitVec 32) (k0_t1 : Fin k0_t1_loop.trips) (v291 : BitVec 32) (k0_hw31 : k0_chk31 v0 k0_t1 v291), ∀ (k0_h2 : k0_cond2 v0 k0_t1 = 1#1), (Rect.unit (s := S1024x2x128x128) (k0_off120 v291) S1x2x128x128.size (k0_off120_inb v0 k0_t1 v291 k0_hw31 k0_h2)).WholeWords (EltTy.packing .fp8e4m3) := fun v0 k0_t1 v291 k0_hw31 k0_h2 => k0_hw31.2 k0_h2 (k0_off120_inb v0 k0_t1 v291 k0_hw31 k0_h2)

def k0_off121 (v0 : BitVec 32) (k0_t1 : Fin k0_t1_loop.trips) : Fin 2 → Nat :=
  let c0_173 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c14_i32 : BitVec 32 := 14#32
  let v298 : BitVec 32 := Scalar.addi v171 c14_i32
  let v299 : Index := Scalar.indexCast v298
  ![0, v299.toNat]
def k0_off122 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off123 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c14_i32_174 : BitVec 32 := 14#32
  let c0_i32_175 : BitVec 32 := 0#32
  let c0_i32_176 : BitVec 32 := 0#32
  let c0_i32_177 : BitVec 32 := 0#32
  ![v161.toNat, 14, 0, 0, 0]
def k0_off124 (v300 : BitVec 32) : Fin 4 → Nat :=
  let c0_i32_178 : BitVec 32 := 0#32
  let c0_i32_179 : BitVec 32 := 0#32
  let c0_i32_180 : BitVec 32 := 0#32
  ![v300.toNat, 0, 0, 0]

def k0_chk32 (v0 : BitVec 32) (k0_t1 : Fin k0_t1_loop.trips) (v300 : BitVec 32) : Prop :=
  (∀ (k0_h2 : k0_cond2 v0 k0_t1 = 1#1), ∀ a, (k0_off124 v300) a + S1x2x128x128.size a ≤ S1024x2x128x128.size a) ∧
  (∀ (k0_h2 : k0_cond2 v0 k0_t1 = 1#1), ∀ (hinb : ∀ a, (k0_off124 v300) a + S1x2x128x128.size a ≤ S1024x2x128x128.size a), (Rect.unit (s := S1024x2x128x128) (k0_off124 v300) S1x2x128x128.size hinb).WholeWords (EltTy.packing .fp8e4m3))
theorem k0_off124_inb : ∀ (v0 : BitVec 32) (k0_t1 : Fin k0_t1_loop.trips) (v300 : BitVec 32) (k0_hw32 : k0_chk32 v0 k0_t1 v300), ∀ (k0_h2 : k0_cond2 v0 k0_t1 = 1#1), ∀ a, (k0_off124 v300) a + S1x2x128x128.size a ≤ S1024x2x128x128.size a := fun v0 k0_t1 v300 k0_hw32 k0_h2 => k0_hw32.1 k0_h2
theorem k0_off124_wordsfp8e4m3 : ∀ (v0 : BitVec 32) (k0_t1 : Fin k0_t1_loop.trips) (v300 : BitVec 32) (k0_hw32 : k0_chk32 v0 k0_t1 v300), ∀ (k0_h2 : k0_cond2 v0 k0_t1 = 1#1), (Rect.unit (s := S1024x2x128x128) (k0_off124 v300) S1x2x128x128.size (k0_off124_inb v0 k0_t1 v300 k0_hw32 k0_h2)).WholeWords (EltTy.packing .fp8e4m3) := fun v0 k0_t1 v300 k0_hw32 k0_h2 => k0_hw32.2 k0_h2 (k0_off124_inb v0 k0_t1 v300 k0_hw32 k0_h2)

def k0_off125 (v0 : BitVec 32) (k0_t1 : Fin k0_t1_loop.trips) : Fin 2 → Nat :=
  let c0_181 : Index := 0#32
  let c0_i32_7 : BitVec 32 := 0#32
  let c1_i32_8 : BitVec 32 := 1#32
  let arg15 : BitVec 32 := Scf.iv c0_i32_7 c1_i32_8 k0_t1
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v170 : BitVec 32 := Scalar.subi arg15 v21
  let c16_i32 : BitVec 32 := 16#32
  let v171 : BitVec 32 := Scalar.muli v170 c16_i32
  let c15_i32 : BitVec 32 := 15#32
  let v307 : BitVec 32 := Scalar.addi v171 c15_i32
  let v308 : Index := Scalar.indexCast v307
  ![0, v308.toNat]
def k0_off126 (k0_t1 : Fin k0_t1_loop.trips) : Fin 1 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  ![v161.toNat]
def k0_off127 (k0_t1 : Fin k0_t1_loop.trips) : Fin 5 → Nat :=
  let c0_i32_7 : BitVec 32 := 0#32
  let c1_i32_8 : BitVec 32 := 1#32
  let arg15 : BitVec 32 := Scf.iv c0_i32_7 c1_i32_8 k0_t1
  let c24_i32_54 : BitVec 32 := 24#32
  let v161 : BitVec 32 := Scalar.remsi arg15 c24_i32_54
  let c15_i32_182 : BitVec 32 := 15#32
  let c0_i32_183 : BitVec 32 := 0#32
  let c0_i32_184 : BitVec 32 := 0#32
  let c0_i32_185 : BitVec 32 := 0#32
  ![v161.toNat, 15, 0, 0, 0]
def k0_off128 (v309 : BitVec 32) : Fin 4 → Nat :=
  let c0_i32_186 : BitVec 32 := 0#32
  let c0_i32_187 : BitVec 32 := 0#32
  let c0_i32_188 : BitVec 32 := 0#32
  ![v309.toNat, 0, 0, 0]

def k0_chk33 (v0 : BitVec 32) (k0_t1 : Fin k0_t1_loop.trips) (v309 : BitVec 32) : Prop :=
  (∀ (k0_h2 : k0_cond2 v0 k0_t1 = 1#1), ∀ a, (k0_off128 v309) a + S1x2x128x128.size a ≤ S1024x2x128x128.size a) ∧
  (∀ (k0_h2 : k0_cond2 v0 k0_t1 = 1#1), ∀ (hinb : ∀ a, (k0_off128 v309) a + S1x2x128x128.size a ≤ S1024x2x128x128.size a), (Rect.unit (s := S1024x2x128x128) (k0_off128 v309) S1x2x128x128.size hinb).WholeWords (EltTy.packing .fp8e4m3))
theorem k0_off128_inb : ∀ (v0 : BitVec 32) (k0_t1 : Fin k0_t1_loop.trips) (v309 : BitVec 32) (k0_hw33 : k0_chk33 v0 k0_t1 v309), ∀ (k0_h2 : k0_cond2 v0 k0_t1 = 1#1), ∀ a, (k0_off128 v309) a + S1x2x128x128.size a ≤ S1024x2x128x128.size a := fun v0 k0_t1 v309 k0_hw33 k0_h2 => k0_hw33.1 k0_h2
theorem k0_off128_wordsfp8e4m3 : ∀ (v0 : BitVec 32) (k0_t1 : Fin k0_t1_loop.trips) (v309 : BitVec 32) (k0_hw33 : k0_chk33 v0 k0_t1 v309), ∀ (k0_h2 : k0_cond2 v0 k0_t1 = 1#1), (Rect.unit (s := S1024x2x128x128) (k0_off128 v309) S1x2x128x128.size (k0_off128_inb v0 k0_t1 v309 k0_hw33 k0_h2)).WholeWords (EltTy.packing .fp8e4m3) := fun v0 k0_t1 v309 k0_hw33 k0_h2 => k0_hw33.2 k0_h2 (k0_off128_inb v0 k0_t1 v309 k0_hw33 k0_h2)

@[reducible] def k0_t2_loop (v0 : BitVec 32) : Scf.Loop 32 :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_39 : BitVec 32 := 1#32
  ⟨c0_i32_37, v107, c1_i32_39⟩
def k0_off129 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_54 : BitVec 32 := 24#32
  let v161 : BitVec 32 := Scalar.remsi arg15 c24_i32_54
  ![v161.toNat]
def k0_off130 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_54 : BitVec 32 := 24#32
  let v161 : BitVec 32 := Scalar.remsi arg15 c24_i32_54
  let c0_i32_55 : BitVec 32 := 0#32
  let c0_i32_56 : BitVec 32 := 0#32
  let c0_i32_57 : BitVec 32 := 0#32
  let c0_i32_58 : BitVec 32 := 0#32
  ![v161.toNat, 0, 0, 0, 0]
def k0_off131 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_54 : BitVec 32 := 24#32
  let v161 : BitVec 32 := Scalar.remsi arg15 c24_i32_54
  let v167 : Index := Scalar.indexCast v161
  let c0_63 : Index := 0#32
  let c0_64 : Index := 0#32
  let c0_65 : Index := 0#32
  let c0_66 : Index := 0#32
  ![v167.toNat, 0, 0, 0, 0]
def k0_off132 (v0 : BitVec 32) (k0_t2 : Fin (k0_t2_loop v0).trips) : Fin 2 → Nat :=
  let c0_77 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c0_i32_76 : BitVec 32 := 0#32
  let v237 : BitVec 32 := Scalar.addi v236 c0_i32_76
  let v238 : Index := Scalar.indexCast v237
  ![0, v238.toNat]
def k0_cond3 (v0 : BitVec 32) (k0_t2 : Fin (k0_t2_loop v0).trips) : BitVec 1 :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v182 : BitVec 1 := Scalar.cmpi .slt v180 v21
  let v183 : BitVec 32 := Scalar.extui v182
  let c0_i32_70 : BitVec 32 := 0#32
  let v184 : BitVec 1 := Scalar.cmpi .ne v183 c0_i32_70
  v184

def k0_off133 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off134 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c0_i32_78 : BitVec 32 := 0#32
  let c0_i32_79 : BitVec 32 := 0#32
  let c0_i32_80 : BitVec 32 := 0#32
  let c0_i32_81 : BitVec 32 := 0#32
  ![v181.toNat, 0, 0, 0, 0]
def k0_off135 (v239 : BitVec 32) : Fin 4 → Nat :=
  let c0_i32_82 : BitVec 32 := 0#32
  let c0_i32_83 : BitVec 32 := 0#32
  let c0_i32_84 : BitVec 32 := 0#32
  ![v239.toNat, 0, 0, 0]

def k0_chk34 (v0 : BitVec 32) (k0_t2 : Fin (k0_t2_loop v0).trips) (v239 : BitVec 32) : Prop :=
  (∀ (k0_h3 : k0_cond3 v0 k0_t2 = 1#1), ∀ a, (k0_off135 v239) a + S1x2x128x128.size a ≤ S1024x2x128x128.size a) ∧
  (∀ (k0_h3 : k0_cond3 v0 k0_t2 = 1#1), ∀ (hinb : ∀ a, (k0_off135 v239) a + S1x2x128x128.size a ≤ S1024x2x128x128.size a), (Rect.unit (s := S1024x2x128x128) (k0_off135 v239) S1x2x128x128.size hinb).WholeWords (EltTy.packing .fp8e4m3))
theorem k0_off135_inb : ∀ (v0 : BitVec 32) (k0_t2 : Fin (k0_t2_loop v0).trips) (v239 : BitVec 32) (k0_hw34 : k0_chk34 v0 k0_t2 v239), ∀ (k0_h3 : k0_cond3 v0 k0_t2 = 1#1), ∀ a, (k0_off135 v239) a + S1x2x128x128.size a ≤ S1024x2x128x128.size a := fun v0 k0_t2 v239 k0_hw34 k0_h3 => k0_hw34.1 k0_h3
theorem k0_off135_wordsfp8e4m3 : ∀ (v0 : BitVec 32) (k0_t2 : Fin (k0_t2_loop v0).trips) (v239 : BitVec 32) (k0_hw34 : k0_chk34 v0 k0_t2 v239), ∀ (k0_h3 : k0_cond3 v0 k0_t2 = 1#1), (Rect.unit (s := S1024x2x128x128) (k0_off135 v239) S1x2x128x128.size (k0_off135_inb v0 k0_t2 v239 k0_hw34 k0_h3)).WholeWords (EltTy.packing .fp8e4m3) := fun v0 k0_t2 v239 k0_hw34 k0_h3 => k0_hw34.2 k0_h3 (k0_off135_inb v0 k0_t2 v239 k0_hw34 k0_h3)

def k0_off136 (v0 : BitVec 32) (k0_t2 : Fin (k0_t2_loop v0).trips) : Fin 2 → Nat :=
  let c0_86 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c1_i32_85 : BitVec 32 := 1#32
  let v246 : BitVec 32 := Scalar.addi v236 c1_i32_85
  let v247 : Index := Scalar.indexCast v246
  ![0, v247.toNat]
def k0_off137 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off138 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c1_i32_87 : BitVec 32 := 1#32
  let c0_i32_88 : BitVec 32 := 0#32
  let c0_i32_89 : BitVec 32 := 0#32
  let c0_i32_90 : BitVec 32 := 0#32
  ![v181.toNat, 1, 0, 0, 0]
def k0_off139 (v248 : BitVec 32) : Fin 4 → Nat :=
  let c0_i32_91 : BitVec 32 := 0#32
  let c0_i32_92 : BitVec 32 := 0#32
  let c0_i32_93 : BitVec 32 := 0#32
  ![v248.toNat, 0, 0, 0]

def k0_chk35 (v0 : BitVec 32) (k0_t2 : Fin (k0_t2_loop v0).trips) (v248 : BitVec 32) : Prop :=
  (∀ (k0_h3 : k0_cond3 v0 k0_t2 = 1#1), ∀ a, (k0_off139 v248) a + S1x2x128x128.size a ≤ S1024x2x128x128.size a) ∧
  (∀ (k0_h3 : k0_cond3 v0 k0_t2 = 1#1), ∀ (hinb : ∀ a, (k0_off139 v248) a + S1x2x128x128.size a ≤ S1024x2x128x128.size a), (Rect.unit (s := S1024x2x128x128) (k0_off139 v248) S1x2x128x128.size hinb).WholeWords (EltTy.packing .fp8e4m3))
theorem k0_off139_inb : ∀ (v0 : BitVec 32) (k0_t2 : Fin (k0_t2_loop v0).trips) (v248 : BitVec 32) (k0_hw35 : k0_chk35 v0 k0_t2 v248), ∀ (k0_h3 : k0_cond3 v0 k0_t2 = 1#1), ∀ a, (k0_off139 v248) a + S1x2x128x128.size a ≤ S1024x2x128x128.size a := fun v0 k0_t2 v248 k0_hw35 k0_h3 => k0_hw35.1 k0_h3
theorem k0_off139_wordsfp8e4m3 : ∀ (v0 : BitVec 32) (k0_t2 : Fin (k0_t2_loop v0).trips) (v248 : BitVec 32) (k0_hw35 : k0_chk35 v0 k0_t2 v248), ∀ (k0_h3 : k0_cond3 v0 k0_t2 = 1#1), (Rect.unit (s := S1024x2x128x128) (k0_off139 v248) S1x2x128x128.size (k0_off139_inb v0 k0_t2 v248 k0_hw35 k0_h3)).WholeWords (EltTy.packing .fp8e4m3) := fun v0 k0_t2 v248 k0_hw35 k0_h3 => k0_hw35.2 k0_h3 (k0_off139_inb v0 k0_t2 v248 k0_hw35 k0_h3)

def k0_off140 (v0 : BitVec 32) (k0_t2 : Fin (k0_t2_loop v0).trips) : Fin 2 → Nat :=
  let c0_95 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c2_i32_94 : BitVec 32 := 2#32
  let v255 : BitVec 32 := Scalar.addi v236 c2_i32_94
  let v256 : Index := Scalar.indexCast v255
  ![0, v256.toNat]
def k0_off141 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off142 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c2_i32_96 : BitVec 32 := 2#32
  let c0_i32_97 : BitVec 32 := 0#32
  let c0_i32_98 : BitVec 32 := 0#32
  let c0_i32_99 : BitVec 32 := 0#32
  ![v181.toNat, 2, 0, 0, 0]
def k0_off143 (v257 : BitVec 32) : Fin 4 → Nat :=
  let c0_i32_100 : BitVec 32 := 0#32
  let c0_i32_101 : BitVec 32 := 0#32
  let c0_i32_102 : BitVec 32 := 0#32
  ![v257.toNat, 0, 0, 0]

def k0_chk36 (v0 : BitVec 32) (k0_t2 : Fin (k0_t2_loop v0).trips) (v257 : BitVec 32) : Prop :=
  (∀ (k0_h3 : k0_cond3 v0 k0_t2 = 1#1), ∀ a, (k0_off143 v257) a + S1x2x128x128.size a ≤ S1024x2x128x128.size a) ∧
  (∀ (k0_h3 : k0_cond3 v0 k0_t2 = 1#1), ∀ (hinb : ∀ a, (k0_off143 v257) a + S1x2x128x128.size a ≤ S1024x2x128x128.size a), (Rect.unit (s := S1024x2x128x128) (k0_off143 v257) S1x2x128x128.size hinb).WholeWords (EltTy.packing .fp8e4m3))
theorem k0_off143_inb : ∀ (v0 : BitVec 32) (k0_t2 : Fin (k0_t2_loop v0).trips) (v257 : BitVec 32) (k0_hw36 : k0_chk36 v0 k0_t2 v257), ∀ (k0_h3 : k0_cond3 v0 k0_t2 = 1#1), ∀ a, (k0_off143 v257) a + S1x2x128x128.size a ≤ S1024x2x128x128.size a := fun v0 k0_t2 v257 k0_hw36 k0_h3 => k0_hw36.1 k0_h3
theorem k0_off143_wordsfp8e4m3 : ∀ (v0 : BitVec 32) (k0_t2 : Fin (k0_t2_loop v0).trips) (v257 : BitVec 32) (k0_hw36 : k0_chk36 v0 k0_t2 v257), ∀ (k0_h3 : k0_cond3 v0 k0_t2 = 1#1), (Rect.unit (s := S1024x2x128x128) (k0_off143 v257) S1x2x128x128.size (k0_off143_inb v0 k0_t2 v257 k0_hw36 k0_h3)).WholeWords (EltTy.packing .fp8e4m3) := fun v0 k0_t2 v257 k0_hw36 k0_h3 => k0_hw36.2 k0_h3 (k0_off143_inb v0 k0_t2 v257 k0_hw36 k0_h3)

def k0_off144 (v0 : BitVec 32) (k0_t2 : Fin (k0_t2_loop v0).trips) : Fin 2 → Nat :=
  let c0_103 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c3_i32 : BitVec 32 := 3#32
  let v264 : BitVec 32 := Scalar.addi v236 c3_i32
  let v265 : Index := Scalar.indexCast v264
  ![0, v265.toNat]
def k0_off145 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off146 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c3_i32_104 : BitVec 32 := 3#32
  let c0_i32_105 : BitVec 32 := 0#32
  let c0_i32_106 : BitVec 32 := 0#32
  let c0_i32_107 : BitVec 32 := 0#32
  ![v181.toNat, 3, 0, 0, 0]
def k0_off147 (v266 : BitVec 32) : Fin 4 → Nat :=
  let c0_i32_108 : BitVec 32 := 0#32
  let c0_i32_109 : BitVec 32 := 0#32
  let c0_i32_110 : BitVec 32 := 0#32
  ![v266.toNat, 0, 0, 0]

def k0_chk37 (v0 : BitVec 32) (k0_t2 : Fin (k0_t2_loop v0).trips) (v266 : BitVec 32) : Prop :=
  (∀ (k0_h3 : k0_cond3 v0 k0_t2 = 1#1), ∀ a, (k0_off147 v266) a + S1x2x128x128.size a ≤ S1024x2x128x128.size a) ∧
  (∀ (k0_h3 : k0_cond3 v0 k0_t2 = 1#1), ∀ (hinb : ∀ a, (k0_off147 v266) a + S1x2x128x128.size a ≤ S1024x2x128x128.size a), (Rect.unit (s := S1024x2x128x128) (k0_off147 v266) S1x2x128x128.size hinb).WholeWords (EltTy.packing .fp8e4m3))
theorem k0_off147_inb : ∀ (v0 : BitVec 32) (k0_t2 : Fin (k0_t2_loop v0).trips) (v266 : BitVec 32) (k0_hw37 : k0_chk37 v0 k0_t2 v266), ∀ (k0_h3 : k0_cond3 v0 k0_t2 = 1#1), ∀ a, (k0_off147 v266) a + S1x2x128x128.size a ≤ S1024x2x128x128.size a := fun v0 k0_t2 v266 k0_hw37 k0_h3 => k0_hw37.1 k0_h3
theorem k0_off147_wordsfp8e4m3 : ∀ (v0 : BitVec 32) (k0_t2 : Fin (k0_t2_loop v0).trips) (v266 : BitVec 32) (k0_hw37 : k0_chk37 v0 k0_t2 v266), ∀ (k0_h3 : k0_cond3 v0 k0_t2 = 1#1), (Rect.unit (s := S1024x2x128x128) (k0_off147 v266) S1x2x128x128.size (k0_off147_inb v0 k0_t2 v266 k0_hw37 k0_h3)).WholeWords (EltTy.packing .fp8e4m3) := fun v0 k0_t2 v266 k0_hw37 k0_h3 => k0_hw37.2 k0_h3 (k0_off147_inb v0 k0_t2 v266 k0_hw37 k0_h3)

def k0_off148 (v0 : BitVec 32) (k0_t2 : Fin (k0_t2_loop v0).trips) : Fin 2 → Nat :=
  let c0_111 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c4_i32 : BitVec 32 := 4#32
  let v273 : BitVec 32 := Scalar.addi v236 c4_i32
  let v274 : Index := Scalar.indexCast v273
  ![0, v274.toNat]
def k0_off149 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off150 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c4_i32_112 : BitVec 32 := 4#32
  let c0_i32_113 : BitVec 32 := 0#32
  let c0_i32_114 : BitVec 32 := 0#32
  let c0_i32_115 : BitVec 32 := 0#32
  ![v181.toNat, 4, 0, 0, 0]
def k0_off151 (v275 : BitVec 32) : Fin 4 → Nat :=
  let c0_i32_116 : BitVec 32 := 0#32
  let c0_i32_117 : BitVec 32 := 0#32
  let c0_i32_118 : BitVec 32 := 0#32
  ![v275.toNat, 0, 0, 0]

def k0_chk38 (v0 : BitVec 32) (k0_t2 : Fin (k0_t2_loop v0).trips) (v275 : BitVec 32) : Prop :=
  (∀ (k0_h3 : k0_cond3 v0 k0_t2 = 1#1), ∀ a, (k0_off151 v275) a + S1x2x128x128.size a ≤ S1024x2x128x128.size a) ∧
  (∀ (k0_h3 : k0_cond3 v0 k0_t2 = 1#1), ∀ (hinb : ∀ a, (k0_off151 v275) a + S1x2x128x128.size a ≤ S1024x2x128x128.size a), (Rect.unit (s := S1024x2x128x128) (k0_off151 v275) S1x2x128x128.size hinb).WholeWords (EltTy.packing .fp8e4m3))
theorem k0_off151_inb : ∀ (v0 : BitVec 32) (k0_t2 : Fin (k0_t2_loop v0).trips) (v275 : BitVec 32) (k0_hw38 : k0_chk38 v0 k0_t2 v275), ∀ (k0_h3 : k0_cond3 v0 k0_t2 = 1#1), ∀ a, (k0_off151 v275) a + S1x2x128x128.size a ≤ S1024x2x128x128.size a := fun v0 k0_t2 v275 k0_hw38 k0_h3 => k0_hw38.1 k0_h3
theorem k0_off151_wordsfp8e4m3 : ∀ (v0 : BitVec 32) (k0_t2 : Fin (k0_t2_loop v0).trips) (v275 : BitVec 32) (k0_hw38 : k0_chk38 v0 k0_t2 v275), ∀ (k0_h3 : k0_cond3 v0 k0_t2 = 1#1), (Rect.unit (s := S1024x2x128x128) (k0_off151 v275) S1x2x128x128.size (k0_off151_inb v0 k0_t2 v275 k0_hw38 k0_h3)).WholeWords (EltTy.packing .fp8e4m3) := fun v0 k0_t2 v275 k0_hw38 k0_h3 => k0_hw38.2 k0_h3 (k0_off151_inb v0 k0_t2 v275 k0_hw38 k0_h3)

def k0_off152 (v0 : BitVec 32) (k0_t2 : Fin (k0_t2_loop v0).trips) : Fin 2 → Nat :=
  let c0_119 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c5_i32 : BitVec 32 := 5#32
  let v282 : BitVec 32 := Scalar.addi v236 c5_i32
  let v283 : Index := Scalar.indexCast v282
  ![0, v283.toNat]
def k0_off153 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off154 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c5_i32_120 : BitVec 32 := 5#32
  let c0_i32_121 : BitVec 32 := 0#32
  let c0_i32_122 : BitVec 32 := 0#32
  let c0_i32_123 : BitVec 32 := 0#32
  ![v181.toNat, 5, 0, 0, 0]
def k0_off155 (v284 : BitVec 32) : Fin 4 → Nat :=
  let c0_i32_124 : BitVec 32 := 0#32
  let c0_i32_125 : BitVec 32 := 0#32
  let c0_i32_126 : BitVec 32 := 0#32
  ![v284.toNat, 0, 0, 0]

def k0_chk39 (v0 : BitVec 32) (k0_t2 : Fin (k0_t2_loop v0).trips) (v284 : BitVec 32) : Prop :=
  (∀ (k0_h3 : k0_cond3 v0 k0_t2 = 1#1), ∀ a, (k0_off155 v284) a + S1x2x128x128.size a ≤ S1024x2x128x128.size a) ∧
  (∀ (k0_h3 : k0_cond3 v0 k0_t2 = 1#1), ∀ (hinb : ∀ a, (k0_off155 v284) a + S1x2x128x128.size a ≤ S1024x2x128x128.size a), (Rect.unit (s := S1024x2x128x128) (k0_off155 v284) S1x2x128x128.size hinb).WholeWords (EltTy.packing .fp8e4m3))
theorem k0_off155_inb : ∀ (v0 : BitVec 32) (k0_t2 : Fin (k0_t2_loop v0).trips) (v284 : BitVec 32) (k0_hw39 : k0_chk39 v0 k0_t2 v284), ∀ (k0_h3 : k0_cond3 v0 k0_t2 = 1#1), ∀ a, (k0_off155 v284) a + S1x2x128x128.size a ≤ S1024x2x128x128.size a := fun v0 k0_t2 v284 k0_hw39 k0_h3 => k0_hw39.1 k0_h3
theorem k0_off155_wordsfp8e4m3 : ∀ (v0 : BitVec 32) (k0_t2 : Fin (k0_t2_loop v0).trips) (v284 : BitVec 32) (k0_hw39 : k0_chk39 v0 k0_t2 v284), ∀ (k0_h3 : k0_cond3 v0 k0_t2 = 1#1), (Rect.unit (s := S1024x2x128x128) (k0_off155 v284) S1x2x128x128.size (k0_off155_inb v0 k0_t2 v284 k0_hw39 k0_h3)).WholeWords (EltTy.packing .fp8e4m3) := fun v0 k0_t2 v284 k0_hw39 k0_h3 => k0_hw39.2 k0_h3 (k0_off155_inb v0 k0_t2 v284 k0_hw39 k0_h3)

def k0_off156 (v0 : BitVec 32) (k0_t2 : Fin (k0_t2_loop v0).trips) : Fin 2 → Nat :=
  let c0_127 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c6_i32 : BitVec 32 := 6#32
  let v291 : BitVec 32 := Scalar.addi v236 c6_i32
  let v292 : Index := Scalar.indexCast v291
  ![0, v292.toNat]
def k0_off157 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off158 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c6_i32_128 : BitVec 32 := 6#32
  let c0_i32_129 : BitVec 32 := 0#32
  let c0_i32_130 : BitVec 32 := 0#32
  let c0_i32_131 : BitVec 32 := 0#32
  ![v181.toNat, 6, 0, 0, 0]
def k0_off159 (v293 : BitVec 32) : Fin 4 → Nat :=
  let c0_i32_132 : BitVec 32 := 0#32
  let c0_i32_133 : BitVec 32 := 0#32
  let c0_i32_134 : BitVec 32 := 0#32
  ![v293.toNat, 0, 0, 0]

def k0_chk40 (v0 : BitVec 32) (k0_t2 : Fin (k0_t2_loop v0).trips) (v293 : BitVec 32) : Prop :=
  (∀ (k0_h3 : k0_cond3 v0 k0_t2 = 1#1), ∀ a, (k0_off159 v293) a + S1x2x128x128.size a ≤ S1024x2x128x128.size a) ∧
  (∀ (k0_h3 : k0_cond3 v0 k0_t2 = 1#1), ∀ (hinb : ∀ a, (k0_off159 v293) a + S1x2x128x128.size a ≤ S1024x2x128x128.size a), (Rect.unit (s := S1024x2x128x128) (k0_off159 v293) S1x2x128x128.size hinb).WholeWords (EltTy.packing .fp8e4m3))
theorem k0_off159_inb : ∀ (v0 : BitVec 32) (k0_t2 : Fin (k0_t2_loop v0).trips) (v293 : BitVec 32) (k0_hw40 : k0_chk40 v0 k0_t2 v293), ∀ (k0_h3 : k0_cond3 v0 k0_t2 = 1#1), ∀ a, (k0_off159 v293) a + S1x2x128x128.size a ≤ S1024x2x128x128.size a := fun v0 k0_t2 v293 k0_hw40 k0_h3 => k0_hw40.1 k0_h3
theorem k0_off159_wordsfp8e4m3 : ∀ (v0 : BitVec 32) (k0_t2 : Fin (k0_t2_loop v0).trips) (v293 : BitVec 32) (k0_hw40 : k0_chk40 v0 k0_t2 v293), ∀ (k0_h3 : k0_cond3 v0 k0_t2 = 1#1), (Rect.unit (s := S1024x2x128x128) (k0_off159 v293) S1x2x128x128.size (k0_off159_inb v0 k0_t2 v293 k0_hw40 k0_h3)).WholeWords (EltTy.packing .fp8e4m3) := fun v0 k0_t2 v293 k0_hw40 k0_h3 => k0_hw40.2 k0_h3 (k0_off159_inb v0 k0_t2 v293 k0_hw40 k0_h3)

def k0_off160 (v0 : BitVec 32) (k0_t2 : Fin (k0_t2_loop v0).trips) : Fin 2 → Nat :=
  let c0_135 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c7_i32 : BitVec 32 := 7#32
  let v300 : BitVec 32 := Scalar.addi v236 c7_i32
  let v301 : Index := Scalar.indexCast v300
  ![0, v301.toNat]
def k0_off161 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off162 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c7_i32_136 : BitVec 32 := 7#32
  let c0_i32_137 : BitVec 32 := 0#32
  let c0_i32_138 : BitVec 32 := 0#32
  let c0_i32_139 : BitVec 32 := 0#32
  ![v181.toNat, 7, 0, 0, 0]
def k0_off163 (v302 : BitVec 32) : Fin 4 → Nat :=
  let c0_i32_140 : BitVec 32 := 0#32
  let c0_i32_141 : BitVec 32 := 0#32
  let c0_i32_142 : BitVec 32 := 0#32
  ![v302.toNat, 0, 0, 0]

def k0_chk41 (v0 : BitVec 32) (k0_t2 : Fin (k0_t2_loop v0).trips) (v302 : BitVec 32) : Prop :=
  (∀ (k0_h3 : k0_cond3 v0 k0_t2 = 1#1), ∀ a, (k0_off163 v302) a + S1x2x128x128.size a ≤ S1024x2x128x128.size a) ∧
  (∀ (k0_h3 : k0_cond3 v0 k0_t2 = 1#1), ∀ (hinb : ∀ a, (k0_off163 v302) a + S1x2x128x128.size a ≤ S1024x2x128x128.size a), (Rect.unit (s := S1024x2x128x128) (k0_off163 v302) S1x2x128x128.size hinb).WholeWords (EltTy.packing .fp8e4m3))
theorem k0_off163_inb : ∀ (v0 : BitVec 32) (k0_t2 : Fin (k0_t2_loop v0).trips) (v302 : BitVec 32) (k0_hw41 : k0_chk41 v0 k0_t2 v302), ∀ (k0_h3 : k0_cond3 v0 k0_t2 = 1#1), ∀ a, (k0_off163 v302) a + S1x2x128x128.size a ≤ S1024x2x128x128.size a := fun v0 k0_t2 v302 k0_hw41 k0_h3 => k0_hw41.1 k0_h3
theorem k0_off163_wordsfp8e4m3 : ∀ (v0 : BitVec 32) (k0_t2 : Fin (k0_t2_loop v0).trips) (v302 : BitVec 32) (k0_hw41 : k0_chk41 v0 k0_t2 v302), ∀ (k0_h3 : k0_cond3 v0 k0_t2 = 1#1), (Rect.unit (s := S1024x2x128x128) (k0_off163 v302) S1x2x128x128.size (k0_off163_inb v0 k0_t2 v302 k0_hw41 k0_h3)).WholeWords (EltTy.packing .fp8e4m3) := fun v0 k0_t2 v302 k0_hw41 k0_h3 => k0_hw41.2 k0_h3 (k0_off163_inb v0 k0_t2 v302 k0_hw41 k0_h3)

def k0_off164 (v0 : BitVec 32) (k0_t2 : Fin (k0_t2_loop v0).trips) : Fin 2 → Nat :=
  let c0_144 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c8_i32_143 : BitVec 32 := 8#32
  let v309 : BitVec 32 := Scalar.addi v236 c8_i32_143
  let v310 : Index := Scalar.indexCast v309
  ![0, v310.toNat]
def k0_off165 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off166 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c8_i32_145 : BitVec 32 := 8#32
  let c0_i32_146 : BitVec 32 := 0#32
  let c0_i32_147 : BitVec 32 := 0#32
  let c0_i32_148 : BitVec 32 := 0#32
  ![v181.toNat, 8, 0, 0, 0]
def k0_off167 (v311 : BitVec 32) : Fin 4 → Nat :=
  let c0_i32_149 : BitVec 32 := 0#32
  let c0_i32_150 : BitVec 32 := 0#32
  let c0_i32_151 : BitVec 32 := 0#32
  ![v311.toNat, 0, 0, 0]

def k0_chk42 (v0 : BitVec 32) (k0_t2 : Fin (k0_t2_loop v0).trips) (v311 : BitVec 32) : Prop :=
  (∀ (k0_h3 : k0_cond3 v0 k0_t2 = 1#1), ∀ a, (k0_off167 v311) a + S1x2x128x128.size a ≤ S1024x2x128x128.size a) ∧
  (∀ (k0_h3 : k0_cond3 v0 k0_t2 = 1#1), ∀ (hinb : ∀ a, (k0_off167 v311) a + S1x2x128x128.size a ≤ S1024x2x128x128.size a), (Rect.unit (s := S1024x2x128x128) (k0_off167 v311) S1x2x128x128.size hinb).WholeWords (EltTy.packing .fp8e4m3))
theorem k0_off167_inb : ∀ (v0 : BitVec 32) (k0_t2 : Fin (k0_t2_loop v0).trips) (v311 : BitVec 32) (k0_hw42 : k0_chk42 v0 k0_t2 v311), ∀ (k0_h3 : k0_cond3 v0 k0_t2 = 1#1), ∀ a, (k0_off167 v311) a + S1x2x128x128.size a ≤ S1024x2x128x128.size a := fun v0 k0_t2 v311 k0_hw42 k0_h3 => k0_hw42.1 k0_h3
theorem k0_off167_wordsfp8e4m3 : ∀ (v0 : BitVec 32) (k0_t2 : Fin (k0_t2_loop v0).trips) (v311 : BitVec 32) (k0_hw42 : k0_chk42 v0 k0_t2 v311), ∀ (k0_h3 : k0_cond3 v0 k0_t2 = 1#1), (Rect.unit (s := S1024x2x128x128) (k0_off167 v311) S1x2x128x128.size (k0_off167_inb v0 k0_t2 v311 k0_hw42 k0_h3)).WholeWords (EltTy.packing .fp8e4m3) := fun v0 k0_t2 v311 k0_hw42 k0_h3 => k0_hw42.2 k0_h3 (k0_off167_inb v0 k0_t2 v311 k0_hw42 k0_h3)

def k0_off168 (v0 : BitVec 32) (k0_t2 : Fin (k0_t2_loop v0).trips) : Fin 2 → Nat :=
  let c0_152 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c9_i32 : BitVec 32 := 9#32
  let v318 : BitVec 32 := Scalar.addi v236 c9_i32
  let v319 : Index := Scalar.indexCast v318
  ![0, v319.toNat]
def k0_off169 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off170 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c9_i32_153 : BitVec 32 := 9#32
  let c0_i32_154 : BitVec 32 := 0#32
  let c0_i32_155 : BitVec 32 := 0#32
  let c0_i32_156 : BitVec 32 := 0#32
  ![v181.toNat, 9, 0, 0, 0]
def k0_off171 (v320 : BitVec 32) : Fin 4 → Nat :=
  let c0_i32_157 : BitVec 32 := 0#32
  let c0_i32_158 : BitVec 32 := 0#32
  let c0_i32_159 : BitVec 32 := 0#32
  ![v320.toNat, 0, 0, 0]

def k0_chk43 (v0 : BitVec 32) (k0_t2 : Fin (k0_t2_loop v0).trips) (v320 : BitVec 32) : Prop :=
  (∀ (k0_h3 : k0_cond3 v0 k0_t2 = 1#1), ∀ a, (k0_off171 v320) a + S1x2x128x128.size a ≤ S1024x2x128x128.size a) ∧
  (∀ (k0_h3 : k0_cond3 v0 k0_t2 = 1#1), ∀ (hinb : ∀ a, (k0_off171 v320) a + S1x2x128x128.size a ≤ S1024x2x128x128.size a), (Rect.unit (s := S1024x2x128x128) (k0_off171 v320) S1x2x128x128.size hinb).WholeWords (EltTy.packing .fp8e4m3))
theorem k0_off171_inb : ∀ (v0 : BitVec 32) (k0_t2 : Fin (k0_t2_loop v0).trips) (v320 : BitVec 32) (k0_hw43 : k0_chk43 v0 k0_t2 v320), ∀ (k0_h3 : k0_cond3 v0 k0_t2 = 1#1), ∀ a, (k0_off171 v320) a + S1x2x128x128.size a ≤ S1024x2x128x128.size a := fun v0 k0_t2 v320 k0_hw43 k0_h3 => k0_hw43.1 k0_h3
theorem k0_off171_wordsfp8e4m3 : ∀ (v0 : BitVec 32) (k0_t2 : Fin (k0_t2_loop v0).trips) (v320 : BitVec 32) (k0_hw43 : k0_chk43 v0 k0_t2 v320), ∀ (k0_h3 : k0_cond3 v0 k0_t2 = 1#1), (Rect.unit (s := S1024x2x128x128) (k0_off171 v320) S1x2x128x128.size (k0_off171_inb v0 k0_t2 v320 k0_hw43 k0_h3)).WholeWords (EltTy.packing .fp8e4m3) := fun v0 k0_t2 v320 k0_hw43 k0_h3 => k0_hw43.2 k0_h3 (k0_off171_inb v0 k0_t2 v320 k0_hw43 k0_h3)

def k0_off172 (v0 : BitVec 32) (k0_t2 : Fin (k0_t2_loop v0).trips) : Fin 2 → Nat :=
  let c0_160 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c10_i32 : BitVec 32 := 10#32
  let v327 : BitVec 32 := Scalar.addi v236 c10_i32
  let v328 : Index := Scalar.indexCast v327
  ![0, v328.toNat]
def k0_off173 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off174 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c10_i32_161 : BitVec 32 := 10#32
  let c0_i32_162 : BitVec 32 := 0#32
  let c0_i32_163 : BitVec 32 := 0#32
  let c0_i32_164 : BitVec 32 := 0#32
  ![v181.toNat, 10, 0, 0, 0]
def k0_off175 (v329 : BitVec 32) : Fin 4 → Nat :=
  let c0_i32_165 : BitVec 32 := 0#32
  let c0_i32_166 : BitVec 32 := 0#32
  let c0_i32_167 : BitVec 32 := 0#32
  ![v329.toNat, 0, 0, 0]

def k0_chk44 (v0 : BitVec 32) (k0_t2 : Fin (k0_t2_loop v0).trips) (v329 : BitVec 32) : Prop :=
  (∀ (k0_h3 : k0_cond3 v0 k0_t2 = 1#1), ∀ a, (k0_off175 v329) a + S1x2x128x128.size a ≤ S1024x2x128x128.size a) ∧
  (∀ (k0_h3 : k0_cond3 v0 k0_t2 = 1#1), ∀ (hinb : ∀ a, (k0_off175 v329) a + S1x2x128x128.size a ≤ S1024x2x128x128.size a), (Rect.unit (s := S1024x2x128x128) (k0_off175 v329) S1x2x128x128.size hinb).WholeWords (EltTy.packing .fp8e4m3))
theorem k0_off175_inb : ∀ (v0 : BitVec 32) (k0_t2 : Fin (k0_t2_loop v0).trips) (v329 : BitVec 32) (k0_hw44 : k0_chk44 v0 k0_t2 v329), ∀ (k0_h3 : k0_cond3 v0 k0_t2 = 1#1), ∀ a, (k0_off175 v329) a + S1x2x128x128.size a ≤ S1024x2x128x128.size a := fun v0 k0_t2 v329 k0_hw44 k0_h3 => k0_hw44.1 k0_h3
theorem k0_off175_wordsfp8e4m3 : ∀ (v0 : BitVec 32) (k0_t2 : Fin (k0_t2_loop v0).trips) (v329 : BitVec 32) (k0_hw44 : k0_chk44 v0 k0_t2 v329), ∀ (k0_h3 : k0_cond3 v0 k0_t2 = 1#1), (Rect.unit (s := S1024x2x128x128) (k0_off175 v329) S1x2x128x128.size (k0_off175_inb v0 k0_t2 v329 k0_hw44 k0_h3)).WholeWords (EltTy.packing .fp8e4m3) := fun v0 k0_t2 v329 k0_hw44 k0_h3 => k0_hw44.2 k0_h3 (k0_off175_inb v0 k0_t2 v329 k0_hw44 k0_h3)

def k0_off176 (v0 : BitVec 32) (k0_t2 : Fin (k0_t2_loop v0).trips) : Fin 2 → Nat :=
  let c0_168 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c11_i32 : BitVec 32 := 11#32
  let v336 : BitVec 32 := Scalar.addi v236 c11_i32
  let v337 : Index := Scalar.indexCast v336
  ![0, v337.toNat]
def k0_off177 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off178 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c11_i32_169 : BitVec 32 := 11#32
  let c0_i32_170 : BitVec 32 := 0#32
  let c0_i32_171 : BitVec 32 := 0#32
  let c0_i32_172 : BitVec 32 := 0#32
  ![v181.toNat, 11, 0, 0, 0]
def k0_off179 (v338 : BitVec 32) : Fin 4 → Nat :=
  let c0_i32_173 : BitVec 32 := 0#32
  let c0_i32_174 : BitVec 32 := 0#32
  let c0_i32_175 : BitVec 32 := 0#32
  ![v338.toNat, 0, 0, 0]

def k0_chk45 (v0 : BitVec 32) (k0_t2 : Fin (k0_t2_loop v0).trips) (v338 : BitVec 32) : Prop :=
  (∀ (k0_h3 : k0_cond3 v0 k0_t2 = 1#1), ∀ a, (k0_off179 v338) a + S1x2x128x128.size a ≤ S1024x2x128x128.size a) ∧
  (∀ (k0_h3 : k0_cond3 v0 k0_t2 = 1#1), ∀ (hinb : ∀ a, (k0_off179 v338) a + S1x2x128x128.size a ≤ S1024x2x128x128.size a), (Rect.unit (s := S1024x2x128x128) (k0_off179 v338) S1x2x128x128.size hinb).WholeWords (EltTy.packing .fp8e4m3))
theorem k0_off179_inb : ∀ (v0 : BitVec 32) (k0_t2 : Fin (k0_t2_loop v0).trips) (v338 : BitVec 32) (k0_hw45 : k0_chk45 v0 k0_t2 v338), ∀ (k0_h3 : k0_cond3 v0 k0_t2 = 1#1), ∀ a, (k0_off179 v338) a + S1x2x128x128.size a ≤ S1024x2x128x128.size a := fun v0 k0_t2 v338 k0_hw45 k0_h3 => k0_hw45.1 k0_h3
theorem k0_off179_wordsfp8e4m3 : ∀ (v0 : BitVec 32) (k0_t2 : Fin (k0_t2_loop v0).trips) (v338 : BitVec 32) (k0_hw45 : k0_chk45 v0 k0_t2 v338), ∀ (k0_h3 : k0_cond3 v0 k0_t2 = 1#1), (Rect.unit (s := S1024x2x128x128) (k0_off179 v338) S1x2x128x128.size (k0_off179_inb v0 k0_t2 v338 k0_hw45 k0_h3)).WholeWords (EltTy.packing .fp8e4m3) := fun v0 k0_t2 v338 k0_hw45 k0_h3 => k0_hw45.2 k0_h3 (k0_off179_inb v0 k0_t2 v338 k0_hw45 k0_h3)

def k0_off180 (v0 : BitVec 32) (k0_t2 : Fin (k0_t2_loop v0).trips) : Fin 2 → Nat :=
  let c0_176 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c12_i32 : BitVec 32 := 12#32
  let v345 : BitVec 32 := Scalar.addi v236 c12_i32
  let v346 : Index := Scalar.indexCast v345
  ![0, v346.toNat]
def k0_off181 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off182 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c12_i32_177 : BitVec 32 := 12#32
  let c0_i32_178 : BitVec 32 := 0#32
  let c0_i32_179 : BitVec 32 := 0#32
  let c0_i32_180 : BitVec 32 := 0#32
  ![v181.toNat, 12, 0, 0, 0]
def k0_off183 (v347 : BitVec 32) : Fin 4 → Nat :=
  let c0_i32_181 : BitVec 32 := 0#32
  let c0_i32_182 : BitVec 32 := 0#32
  let c0_i32_183 : BitVec 32 := 0#32
  ![v347.toNat, 0, 0, 0]

def k0_chk46 (v0 : BitVec 32) (k0_t2 : Fin (k0_t2_loop v0).trips) (v347 : BitVec 32) : Prop :=
  (∀ (k0_h3 : k0_cond3 v0 k0_t2 = 1#1), ∀ a, (k0_off183 v347) a + S1x2x128x128.size a ≤ S1024x2x128x128.size a) ∧
  (∀ (k0_h3 : k0_cond3 v0 k0_t2 = 1#1), ∀ (hinb : ∀ a, (k0_off183 v347) a + S1x2x128x128.size a ≤ S1024x2x128x128.size a), (Rect.unit (s := S1024x2x128x128) (k0_off183 v347) S1x2x128x128.size hinb).WholeWords (EltTy.packing .fp8e4m3))
theorem k0_off183_inb : ∀ (v0 : BitVec 32) (k0_t2 : Fin (k0_t2_loop v0).trips) (v347 : BitVec 32) (k0_hw46 : k0_chk46 v0 k0_t2 v347), ∀ (k0_h3 : k0_cond3 v0 k0_t2 = 1#1), ∀ a, (k0_off183 v347) a + S1x2x128x128.size a ≤ S1024x2x128x128.size a := fun v0 k0_t2 v347 k0_hw46 k0_h3 => k0_hw46.1 k0_h3
theorem k0_off183_wordsfp8e4m3 : ∀ (v0 : BitVec 32) (k0_t2 : Fin (k0_t2_loop v0).trips) (v347 : BitVec 32) (k0_hw46 : k0_chk46 v0 k0_t2 v347), ∀ (k0_h3 : k0_cond3 v0 k0_t2 = 1#1), (Rect.unit (s := S1024x2x128x128) (k0_off183 v347) S1x2x128x128.size (k0_off183_inb v0 k0_t2 v347 k0_hw46 k0_h3)).WholeWords (EltTy.packing .fp8e4m3) := fun v0 k0_t2 v347 k0_hw46 k0_h3 => k0_hw46.2 k0_h3 (k0_off183_inb v0 k0_t2 v347 k0_hw46 k0_h3)

def k0_off184 (v0 : BitVec 32) (k0_t2 : Fin (k0_t2_loop v0).trips) : Fin 2 → Nat :=
  let c0_184 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c13_i32 : BitVec 32 := 13#32
  let v354 : BitVec 32 := Scalar.addi v236 c13_i32
  let v355 : Index := Scalar.indexCast v354
  ![0, v355.toNat]
def k0_off185 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off186 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c13_i32_185 : BitVec 32 := 13#32
  let c0_i32_186 : BitVec 32 := 0#32
  let c0_i32_187 : BitVec 32 := 0#32
  let c0_i32_188 : BitVec 32 := 0#32
  ![v181.toNat, 13, 0, 0, 0]
def k0_off187 (v356 : BitVec 32) : Fin 4 → Nat :=
  let c0_i32_189 : BitVec 32 := 0#32
  let c0_i32_190 : BitVec 32 := 0#32
  let c0_i32_191 : BitVec 32 := 0#32
  ![v356.toNat, 0, 0, 0]

def k0_chk47 (v0 : BitVec 32) (k0_t2 : Fin (k0_t2_loop v0).trips) (v356 : BitVec 32) : Prop :=
  (∀ (k0_h3 : k0_cond3 v0 k0_t2 = 1#1), ∀ a, (k0_off187 v356) a + S1x2x128x128.size a ≤ S1024x2x128x128.size a) ∧
  (∀ (k0_h3 : k0_cond3 v0 k0_t2 = 1#1), ∀ (hinb : ∀ a, (k0_off187 v356) a + S1x2x128x128.size a ≤ S1024x2x128x128.size a), (Rect.unit (s := S1024x2x128x128) (k0_off187 v356) S1x2x128x128.size hinb).WholeWords (EltTy.packing .fp8e4m3))
theorem k0_off187_inb : ∀ (v0 : BitVec 32) (k0_t2 : Fin (k0_t2_loop v0).trips) (v356 : BitVec 32) (k0_hw47 : k0_chk47 v0 k0_t2 v356), ∀ (k0_h3 : k0_cond3 v0 k0_t2 = 1#1), ∀ a, (k0_off187 v356) a + S1x2x128x128.size a ≤ S1024x2x128x128.size a := fun v0 k0_t2 v356 k0_hw47 k0_h3 => k0_hw47.1 k0_h3
theorem k0_off187_wordsfp8e4m3 : ∀ (v0 : BitVec 32) (k0_t2 : Fin (k0_t2_loop v0).trips) (v356 : BitVec 32) (k0_hw47 : k0_chk47 v0 k0_t2 v356), ∀ (k0_h3 : k0_cond3 v0 k0_t2 = 1#1), (Rect.unit (s := S1024x2x128x128) (k0_off187 v356) S1x2x128x128.size (k0_off187_inb v0 k0_t2 v356 k0_hw47 k0_h3)).WholeWords (EltTy.packing .fp8e4m3) := fun v0 k0_t2 v356 k0_hw47 k0_h3 => k0_hw47.2 k0_h3 (k0_off187_inb v0 k0_t2 v356 k0_hw47 k0_h3)

def k0_off188 (v0 : BitVec 32) (k0_t2 : Fin (k0_t2_loop v0).trips) : Fin 2 → Nat :=
  let c0_192 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c14_i32 : BitVec 32 := 14#32
  let v363 : BitVec 32 := Scalar.addi v236 c14_i32
  let v364 : Index := Scalar.indexCast v363
  ![0, v364.toNat]
def k0_off189 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off190 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c14_i32_193 : BitVec 32 := 14#32
  let c0_i32_194 : BitVec 32 := 0#32
  let c0_i32_195 : BitVec 32 := 0#32
  let c0_i32_196 : BitVec 32 := 0#32
  ![v181.toNat, 14, 0, 0, 0]
def k0_off191 (v365 : BitVec 32) : Fin 4 → Nat :=
  let c0_i32_197 : BitVec 32 := 0#32
  let c0_i32_198 : BitVec 32 := 0#32
  let c0_i32_199 : BitVec 32 := 0#32
  ![v365.toNat, 0, 0, 0]

def k0_chk48 (v0 : BitVec 32) (k0_t2 : Fin (k0_t2_loop v0).trips) (v365 : BitVec 32) : Prop :=
  (∀ (k0_h3 : k0_cond3 v0 k0_t2 = 1#1), ∀ a, (k0_off191 v365) a + S1x2x128x128.size a ≤ S1024x2x128x128.size a) ∧
  (∀ (k0_h3 : k0_cond3 v0 k0_t2 = 1#1), ∀ (hinb : ∀ a, (k0_off191 v365) a + S1x2x128x128.size a ≤ S1024x2x128x128.size a), (Rect.unit (s := S1024x2x128x128) (k0_off191 v365) S1x2x128x128.size hinb).WholeWords (EltTy.packing .fp8e4m3))
theorem k0_off191_inb : ∀ (v0 : BitVec 32) (k0_t2 : Fin (k0_t2_loop v0).trips) (v365 : BitVec 32) (k0_hw48 : k0_chk48 v0 k0_t2 v365), ∀ (k0_h3 : k0_cond3 v0 k0_t2 = 1#1), ∀ a, (k0_off191 v365) a + S1x2x128x128.size a ≤ S1024x2x128x128.size a := fun v0 k0_t2 v365 k0_hw48 k0_h3 => k0_hw48.1 k0_h3
theorem k0_off191_wordsfp8e4m3 : ∀ (v0 : BitVec 32) (k0_t2 : Fin (k0_t2_loop v0).trips) (v365 : BitVec 32) (k0_hw48 : k0_chk48 v0 k0_t2 v365), ∀ (k0_h3 : k0_cond3 v0 k0_t2 = 1#1), (Rect.unit (s := S1024x2x128x128) (k0_off191 v365) S1x2x128x128.size (k0_off191_inb v0 k0_t2 v365 k0_hw48 k0_h3)).WholeWords (EltTy.packing .fp8e4m3) := fun v0 k0_t2 v365 k0_hw48 k0_h3 => k0_hw48.2 k0_h3 (k0_off191_inb v0 k0_t2 v365 k0_hw48 k0_h3)

def k0_off192 (v0 : BitVec 32) (k0_t2 : Fin (k0_t2_loop v0).trips) : Fin 2 → Nat :=
  let c0_200 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c16_i32 : BitVec 32 := 16#32
  let v236 : BitVec 32 := Scalar.muli v180 c16_i32
  let c15_i32 : BitVec 32 := 15#32
  let v372 : BitVec 32 := Scalar.addi v236 c15_i32
  let v373 : Index := Scalar.indexCast v372
  ![0, v373.toNat]
def k0_off193 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off194 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c15_i32_201 : BitVec 32 := 15#32
  let c0_i32_202 : BitVec 32 := 0#32
  let c0_i32_203 : BitVec 32 := 0#32
  let c0_i32_204 : BitVec 32 := 0#32
  ![v181.toNat, 15, 0, 0, 0]
def k0_off195 (v374 : BitVec 32) : Fin 4 → Nat :=
  let c0_i32_205 : BitVec 32 := 0#32
  let c0_i32_206 : BitVec 32 := 0#32
  let c0_i32_207 : BitVec 32 := 0#32
  ![v374.toNat, 0, 0, 0]

def k0_chk49 (v0 : BitVec 32) (k0_t2 : Fin (k0_t2_loop v0).trips) (v374 : BitVec 32) : Prop :=
  (∀ (k0_h3 : k0_cond3 v0 k0_t2 = 1#1), ∀ a, (k0_off195 v374) a + S1x2x128x128.size a ≤ S1024x2x128x128.size a) ∧
  (∀ (k0_h3 : k0_cond3 v0 k0_t2 = 1#1), ∀ (hinb : ∀ a, (k0_off195 v374) a + S1x2x128x128.size a ≤ S1024x2x128x128.size a), (Rect.unit (s := S1024x2x128x128) (k0_off195 v374) S1x2x128x128.size hinb).WholeWords (EltTy.packing .fp8e4m3))
theorem k0_off195_inb : ∀ (v0 : BitVec 32) (k0_t2 : Fin (k0_t2_loop v0).trips) (v374 : BitVec 32) (k0_hw49 : k0_chk49 v0 k0_t2 v374), ∀ (k0_h3 : k0_cond3 v0 k0_t2 = 1#1), ∀ a, (k0_off195 v374) a + S1x2x128x128.size a ≤ S1024x2x128x128.size a := fun v0 k0_t2 v374 k0_hw49 k0_h3 => k0_hw49.1 k0_h3
theorem k0_off195_wordsfp8e4m3 : ∀ (v0 : BitVec 32) (k0_t2 : Fin (k0_t2_loop v0).trips) (v374 : BitVec 32) (k0_hw49 : k0_chk49 v0 k0_t2 v374), ∀ (k0_h3 : k0_cond3 v0 k0_t2 = 1#1), (Rect.unit (s := S1024x2x128x128) (k0_off195 v374) S1x2x128x128.size (k0_off195_inb v0 k0_t2 v374 k0_hw49 k0_h3)).WholeWords (EltTy.packing .fp8e4m3) := fun v0 k0_t2 v374 k0_hw49 k0_h3 => k0_hw49.2 k0_h3 (k0_off195_inb v0 k0_t2 v374 k0_hw49 k0_h3)

def k0_off196 (v0 : BitVec 32) (k0_t2 : Fin (k0_t2_loop v0).trips) : Fin 2 → Nat :=
  let c0_77 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c0_i32_76 : BitVec 32 := 0#32
  let v238 : BitVec 32 := Scalar.addi v237 c0_i32_76
  let v239 : Index := Scalar.indexCast v238
  ![0, v239.toNat]
def k0_cond4 (v0 : BitVec 32) (k0_t2 : Fin (k0_t2_loop v0).trips) : BitVec 1 :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v185 : BitVec 1 := Scalar.cmpi .sge v180 v21
  let c2_i32 : BitVec 32 := 2#32
  let v22 : BitVec 32 := Scalar.muli c2_i32 v21
  let v186 : BitVec 1 := Scalar.cmpi .slt v180 v22
  let v187 : BitVec 1 := Scalar.andi v185 v186
  let v188 : BitVec 32 := Scalar.extui v187
  let c0_i32_71 : BitVec 32 := 0#32
  let v189 : BitVec 1 := Scalar.cmpi .ne v188 c0_i32_71
  v189

def k0_off197 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off198 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c0_i32_78 : BitVec 32 := 0#32
  let c0_i32_79 : BitVec 32 := 0#32
  let c0_i32_80 : BitVec 32 := 0#32
  let c0_i32_81 : BitVec 32 := 0#32
  ![v181.toNat, 0, 0, 0, 0]
def k0_off199 (v240 : BitVec 32) : Fin 4 → Nat :=
  let c0_i32_82 : BitVec 32 := 0#32
  let c0_i32_83 : BitVec 32 := 0#32
  let c0_i32_84 : BitVec 32 := 0#32
  ![v240.toNat, 0, 0, 0]

def k0_chk50 (v0 : BitVec 32) (k0_t2 : Fin (k0_t2_loop v0).trips) (v240 : BitVec 32) : Prop :=
  (∀ (k0_h4 : k0_cond4 v0 k0_t2 = 1#1), ∀ a, (k0_off199 v240) a + S1x2x128x128.size a ≤ S1024x2x128x128.size a) ∧
  (∀ (k0_h4 : k0_cond4 v0 k0_t2 = 1#1), ∀ (hinb : ∀ a, (k0_off199 v240) a + S1x2x128x128.size a ≤ S1024x2x128x128.size a), (Rect.unit (s := S1024x2x128x128) (k0_off199 v240) S1x2x128x128.size hinb).WholeWords (EltTy.packing .fp8e4m3))
theorem k0_off199_inb : ∀ (v0 : BitVec 32) (k0_t2 : Fin (k0_t2_loop v0).trips) (v240 : BitVec 32) (k0_hw50 : k0_chk50 v0 k0_t2 v240), ∀ (k0_h4 : k0_cond4 v0 k0_t2 = 1#1), ∀ a, (k0_off199 v240) a + S1x2x128x128.size a ≤ S1024x2x128x128.size a := fun v0 k0_t2 v240 k0_hw50 k0_h4 => k0_hw50.1 k0_h4
theorem k0_off199_wordsfp8e4m3 : ∀ (v0 : BitVec 32) (k0_t2 : Fin (k0_t2_loop v0).trips) (v240 : BitVec 32) (k0_hw50 : k0_chk50 v0 k0_t2 v240), ∀ (k0_h4 : k0_cond4 v0 k0_t2 = 1#1), (Rect.unit (s := S1024x2x128x128) (k0_off199 v240) S1x2x128x128.size (k0_off199_inb v0 k0_t2 v240 k0_hw50 k0_h4)).WholeWords (EltTy.packing .fp8e4m3) := fun v0 k0_t2 v240 k0_hw50 k0_h4 => k0_hw50.2 k0_h4 (k0_off199_inb v0 k0_t2 v240 k0_hw50 k0_h4)

def k0_off200 (v0 : BitVec 32) (k0_t2 : Fin (k0_t2_loop v0).trips) : Fin 2 → Nat :=
  let c0_86 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c1_i32_85 : BitVec 32 := 1#32
  let v247 : BitVec 32 := Scalar.addi v237 c1_i32_85
  let v248 : Index := Scalar.indexCast v247
  ![0, v248.toNat]
def k0_off201 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off202 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c1_i32_87 : BitVec 32 := 1#32
  let c0_i32_88 : BitVec 32 := 0#32
  let c0_i32_89 : BitVec 32 := 0#32
  let c0_i32_90 : BitVec 32 := 0#32
  ![v181.toNat, 1, 0, 0, 0]
def k0_off203 (v249 : BitVec 32) : Fin 4 → Nat :=
  let c0_i32_91 : BitVec 32 := 0#32
  let c0_i32_92 : BitVec 32 := 0#32
  let c0_i32_93 : BitVec 32 := 0#32
  ![v249.toNat, 0, 0, 0]

def k0_chk51 (v0 : BitVec 32) (k0_t2 : Fin (k0_t2_loop v0).trips) (v249 : BitVec 32) : Prop :=
  (∀ (k0_h4 : k0_cond4 v0 k0_t2 = 1#1), ∀ a, (k0_off203 v249) a + S1x2x128x128.size a ≤ S1024x2x128x128.size a) ∧
  (∀ (k0_h4 : k0_cond4 v0 k0_t2 = 1#1), ∀ (hinb : ∀ a, (k0_off203 v249) a + S1x2x128x128.size a ≤ S1024x2x128x128.size a), (Rect.unit (s := S1024x2x128x128) (k0_off203 v249) S1x2x128x128.size hinb).WholeWords (EltTy.packing .fp8e4m3))
theorem k0_off203_inb : ∀ (v0 : BitVec 32) (k0_t2 : Fin (k0_t2_loop v0).trips) (v249 : BitVec 32) (k0_hw51 : k0_chk51 v0 k0_t2 v249), ∀ (k0_h4 : k0_cond4 v0 k0_t2 = 1#1), ∀ a, (k0_off203 v249) a + S1x2x128x128.size a ≤ S1024x2x128x128.size a := fun v0 k0_t2 v249 k0_hw51 k0_h4 => k0_hw51.1 k0_h4
theorem k0_off203_wordsfp8e4m3 : ∀ (v0 : BitVec 32) (k0_t2 : Fin (k0_t2_loop v0).trips) (v249 : BitVec 32) (k0_hw51 : k0_chk51 v0 k0_t2 v249), ∀ (k0_h4 : k0_cond4 v0 k0_t2 = 1#1), (Rect.unit (s := S1024x2x128x128) (k0_off203 v249) S1x2x128x128.size (k0_off203_inb v0 k0_t2 v249 k0_hw51 k0_h4)).WholeWords (EltTy.packing .fp8e4m3) := fun v0 k0_t2 v249 k0_hw51 k0_h4 => k0_hw51.2 k0_h4 (k0_off203_inb v0 k0_t2 v249 k0_hw51 k0_h4)

def k0_off204 (v0 : BitVec 32) (k0_t2 : Fin (k0_t2_loop v0).trips) : Fin 2 → Nat :=
  let c0_95 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c2_i32_94 : BitVec 32 := 2#32
  let v256 : BitVec 32 := Scalar.addi v237 c2_i32_94
  let v257 : Index := Scalar.indexCast v256
  ![0, v257.toNat]
def k0_off205 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off206 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c2_i32_96 : BitVec 32 := 2#32
  let c0_i32_97 : BitVec 32 := 0#32
  let c0_i32_98 : BitVec 32 := 0#32
  let c0_i32_99 : BitVec 32 := 0#32
  ![v181.toNat, 2, 0, 0, 0]
def k0_off207 (v258 : BitVec 32) : Fin 4 → Nat :=
  let c0_i32_100 : BitVec 32 := 0#32
  let c0_i32_101 : BitVec 32 := 0#32
  let c0_i32_102 : BitVec 32 := 0#32
  ![v258.toNat, 0, 0, 0]

def k0_chk52 (v0 : BitVec 32) (k0_t2 : Fin (k0_t2_loop v0).trips) (v258 : BitVec 32) : Prop :=
  (∀ (k0_h4 : k0_cond4 v0 k0_t2 = 1#1), ∀ a, (k0_off207 v258) a + S1x2x128x128.size a ≤ S1024x2x128x128.size a) ∧
  (∀ (k0_h4 : k0_cond4 v0 k0_t2 = 1#1), ∀ (hinb : ∀ a, (k0_off207 v258) a + S1x2x128x128.size a ≤ S1024x2x128x128.size a), (Rect.unit (s := S1024x2x128x128) (k0_off207 v258) S1x2x128x128.size hinb).WholeWords (EltTy.packing .fp8e4m3))
theorem k0_off207_inb : ∀ (v0 : BitVec 32) (k0_t2 : Fin (k0_t2_loop v0).trips) (v258 : BitVec 32) (k0_hw52 : k0_chk52 v0 k0_t2 v258), ∀ (k0_h4 : k0_cond4 v0 k0_t2 = 1#1), ∀ a, (k0_off207 v258) a + S1x2x128x128.size a ≤ S1024x2x128x128.size a := fun v0 k0_t2 v258 k0_hw52 k0_h4 => k0_hw52.1 k0_h4
theorem k0_off207_wordsfp8e4m3 : ∀ (v0 : BitVec 32) (k0_t2 : Fin (k0_t2_loop v0).trips) (v258 : BitVec 32) (k0_hw52 : k0_chk52 v0 k0_t2 v258), ∀ (k0_h4 : k0_cond4 v0 k0_t2 = 1#1), (Rect.unit (s := S1024x2x128x128) (k0_off207 v258) S1x2x128x128.size (k0_off207_inb v0 k0_t2 v258 k0_hw52 k0_h4)).WholeWords (EltTy.packing .fp8e4m3) := fun v0 k0_t2 v258 k0_hw52 k0_h4 => k0_hw52.2 k0_h4 (k0_off207_inb v0 k0_t2 v258 k0_hw52 k0_h4)

def k0_off208 (v0 : BitVec 32) (k0_t2 : Fin (k0_t2_loop v0).trips) : Fin 2 → Nat :=
  let c0_103 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c3_i32 : BitVec 32 := 3#32
  let v265 : BitVec 32 := Scalar.addi v237 c3_i32
  let v266 : Index := Scalar.indexCast v265
  ![0, v266.toNat]
def k0_off209 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off210 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c3_i32_104 : BitVec 32 := 3#32
  let c0_i32_105 : BitVec 32 := 0#32
  let c0_i32_106 : BitVec 32 := 0#32
  let c0_i32_107 : BitVec 32 := 0#32
  ![v181.toNat, 3, 0, 0, 0]
def k0_off211 (v267 : BitVec 32) : Fin 4 → Nat :=
  let c0_i32_108 : BitVec 32 := 0#32
  let c0_i32_109 : BitVec 32 := 0#32
  let c0_i32_110 : BitVec 32 := 0#32
  ![v267.toNat, 0, 0, 0]

def k0_chk53 (v0 : BitVec 32) (k0_t2 : Fin (k0_t2_loop v0).trips) (v267 : BitVec 32) : Prop :=
  (∀ (k0_h4 : k0_cond4 v0 k0_t2 = 1#1), ∀ a, (k0_off211 v267) a + S1x2x128x128.size a ≤ S1024x2x128x128.size a) ∧
  (∀ (k0_h4 : k0_cond4 v0 k0_t2 = 1#1), ∀ (hinb : ∀ a, (k0_off211 v267) a + S1x2x128x128.size a ≤ S1024x2x128x128.size a), (Rect.unit (s := S1024x2x128x128) (k0_off211 v267) S1x2x128x128.size hinb).WholeWords (EltTy.packing .fp8e4m3))
theorem k0_off211_inb : ∀ (v0 : BitVec 32) (k0_t2 : Fin (k0_t2_loop v0).trips) (v267 : BitVec 32) (k0_hw53 : k0_chk53 v0 k0_t2 v267), ∀ (k0_h4 : k0_cond4 v0 k0_t2 = 1#1), ∀ a, (k0_off211 v267) a + S1x2x128x128.size a ≤ S1024x2x128x128.size a := fun v0 k0_t2 v267 k0_hw53 k0_h4 => k0_hw53.1 k0_h4
theorem k0_off211_wordsfp8e4m3 : ∀ (v0 : BitVec 32) (k0_t2 : Fin (k0_t2_loop v0).trips) (v267 : BitVec 32) (k0_hw53 : k0_chk53 v0 k0_t2 v267), ∀ (k0_h4 : k0_cond4 v0 k0_t2 = 1#1), (Rect.unit (s := S1024x2x128x128) (k0_off211 v267) S1x2x128x128.size (k0_off211_inb v0 k0_t2 v267 k0_hw53 k0_h4)).WholeWords (EltTy.packing .fp8e4m3) := fun v0 k0_t2 v267 k0_hw53 k0_h4 => k0_hw53.2 k0_h4 (k0_off211_inb v0 k0_t2 v267 k0_hw53 k0_h4)

def k0_off212 (v0 : BitVec 32) (k0_t2 : Fin (k0_t2_loop v0).trips) : Fin 2 → Nat :=
  let c0_111 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c4_i32 : BitVec 32 := 4#32
  let v274 : BitVec 32 := Scalar.addi v237 c4_i32
  let v275 : Index := Scalar.indexCast v274
  ![0, v275.toNat]
def k0_off213 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off214 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c4_i32_112 : BitVec 32 := 4#32
  let c0_i32_113 : BitVec 32 := 0#32
  let c0_i32_114 : BitVec 32 := 0#32
  let c0_i32_115 : BitVec 32 := 0#32
  ![v181.toNat, 4, 0, 0, 0]
def k0_off215 (v276 : BitVec 32) : Fin 4 → Nat :=
  let c0_i32_116 : BitVec 32 := 0#32
  let c0_i32_117 : BitVec 32 := 0#32
  let c0_i32_118 : BitVec 32 := 0#32
  ![v276.toNat, 0, 0, 0]

def k0_chk54 (v0 : BitVec 32) (k0_t2 : Fin (k0_t2_loop v0).trips) (v276 : BitVec 32) : Prop :=
  (∀ (k0_h4 : k0_cond4 v0 k0_t2 = 1#1), ∀ a, (k0_off215 v276) a + S1x2x128x128.size a ≤ S1024x2x128x128.size a) ∧
  (∀ (k0_h4 : k0_cond4 v0 k0_t2 = 1#1), ∀ (hinb : ∀ a, (k0_off215 v276) a + S1x2x128x128.size a ≤ S1024x2x128x128.size a), (Rect.unit (s := S1024x2x128x128) (k0_off215 v276) S1x2x128x128.size hinb).WholeWords (EltTy.packing .fp8e4m3))
theorem k0_off215_inb : ∀ (v0 : BitVec 32) (k0_t2 : Fin (k0_t2_loop v0).trips) (v276 : BitVec 32) (k0_hw54 : k0_chk54 v0 k0_t2 v276), ∀ (k0_h4 : k0_cond4 v0 k0_t2 = 1#1), ∀ a, (k0_off215 v276) a + S1x2x128x128.size a ≤ S1024x2x128x128.size a := fun v0 k0_t2 v276 k0_hw54 k0_h4 => k0_hw54.1 k0_h4
theorem k0_off215_wordsfp8e4m3 : ∀ (v0 : BitVec 32) (k0_t2 : Fin (k0_t2_loop v0).trips) (v276 : BitVec 32) (k0_hw54 : k0_chk54 v0 k0_t2 v276), ∀ (k0_h4 : k0_cond4 v0 k0_t2 = 1#1), (Rect.unit (s := S1024x2x128x128) (k0_off215 v276) S1x2x128x128.size (k0_off215_inb v0 k0_t2 v276 k0_hw54 k0_h4)).WholeWords (EltTy.packing .fp8e4m3) := fun v0 k0_t2 v276 k0_hw54 k0_h4 => k0_hw54.2 k0_h4 (k0_off215_inb v0 k0_t2 v276 k0_hw54 k0_h4)

def k0_off216 (v0 : BitVec 32) (k0_t2 : Fin (k0_t2_loop v0).trips) : Fin 2 → Nat :=
  let c0_119 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c5_i32 : BitVec 32 := 5#32
  let v283 : BitVec 32 := Scalar.addi v237 c5_i32
  let v284 : Index := Scalar.indexCast v283
  ![0, v284.toNat]
def k0_off217 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off218 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c5_i32_120 : BitVec 32 := 5#32
  let c0_i32_121 : BitVec 32 := 0#32
  let c0_i32_122 : BitVec 32 := 0#32
  let c0_i32_123 : BitVec 32 := 0#32
  ![v181.toNat, 5, 0, 0, 0]
def k0_off219 (v285 : BitVec 32) : Fin 4 → Nat :=
  let c0_i32_124 : BitVec 32 := 0#32
  let c0_i32_125 : BitVec 32 := 0#32
  let c0_i32_126 : BitVec 32 := 0#32
  ![v285.toNat, 0, 0, 0]

def k0_chk55 (v0 : BitVec 32) (k0_t2 : Fin (k0_t2_loop v0).trips) (v285 : BitVec 32) : Prop :=
  (∀ (k0_h4 : k0_cond4 v0 k0_t2 = 1#1), ∀ a, (k0_off219 v285) a + S1x2x128x128.size a ≤ S1024x2x128x128.size a) ∧
  (∀ (k0_h4 : k0_cond4 v0 k0_t2 = 1#1), ∀ (hinb : ∀ a, (k0_off219 v285) a + S1x2x128x128.size a ≤ S1024x2x128x128.size a), (Rect.unit (s := S1024x2x128x128) (k0_off219 v285) S1x2x128x128.size hinb).WholeWords (EltTy.packing .fp8e4m3))
theorem k0_off219_inb : ∀ (v0 : BitVec 32) (k0_t2 : Fin (k0_t2_loop v0).trips) (v285 : BitVec 32) (k0_hw55 : k0_chk55 v0 k0_t2 v285), ∀ (k0_h4 : k0_cond4 v0 k0_t2 = 1#1), ∀ a, (k0_off219 v285) a + S1x2x128x128.size a ≤ S1024x2x128x128.size a := fun v0 k0_t2 v285 k0_hw55 k0_h4 => k0_hw55.1 k0_h4
theorem k0_off219_wordsfp8e4m3 : ∀ (v0 : BitVec 32) (k0_t2 : Fin (k0_t2_loop v0).trips) (v285 : BitVec 32) (k0_hw55 : k0_chk55 v0 k0_t2 v285), ∀ (k0_h4 : k0_cond4 v0 k0_t2 = 1#1), (Rect.unit (s := S1024x2x128x128) (k0_off219 v285) S1x2x128x128.size (k0_off219_inb v0 k0_t2 v285 k0_hw55 k0_h4)).WholeWords (EltTy.packing .fp8e4m3) := fun v0 k0_t2 v285 k0_hw55 k0_h4 => k0_hw55.2 k0_h4 (k0_off219_inb v0 k0_t2 v285 k0_hw55 k0_h4)

def k0_off220 (v0 : BitVec 32) (k0_t2 : Fin (k0_t2_loop v0).trips) : Fin 2 → Nat :=
  let c0_127 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c6_i32 : BitVec 32 := 6#32
  let v292 : BitVec 32 := Scalar.addi v237 c6_i32
  let v293 : Index := Scalar.indexCast v292
  ![0, v293.toNat]
def k0_off221 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off222 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c6_i32_128 : BitVec 32 := 6#32
  let c0_i32_129 : BitVec 32 := 0#32
  let c0_i32_130 : BitVec 32 := 0#32
  let c0_i32_131 : BitVec 32 := 0#32
  ![v181.toNat, 6, 0, 0, 0]
def k0_off223 (v294 : BitVec 32) : Fin 4 → Nat :=
  let c0_i32_132 : BitVec 32 := 0#32
  let c0_i32_133 : BitVec 32 := 0#32
  let c0_i32_134 : BitVec 32 := 0#32
  ![v294.toNat, 0, 0, 0]

def k0_chk56 (v0 : BitVec 32) (k0_t2 : Fin (k0_t2_loop v0).trips) (v294 : BitVec 32) : Prop :=
  (∀ (k0_h4 : k0_cond4 v0 k0_t2 = 1#1), ∀ a, (k0_off223 v294) a + S1x2x128x128.size a ≤ S1024x2x128x128.size a) ∧
  (∀ (k0_h4 : k0_cond4 v0 k0_t2 = 1#1), ∀ (hinb : ∀ a, (k0_off223 v294) a + S1x2x128x128.size a ≤ S1024x2x128x128.size a), (Rect.unit (s := S1024x2x128x128) (k0_off223 v294) S1x2x128x128.size hinb).WholeWords (EltTy.packing .fp8e4m3))
theorem k0_off223_inb : ∀ (v0 : BitVec 32) (k0_t2 : Fin (k0_t2_loop v0).trips) (v294 : BitVec 32) (k0_hw56 : k0_chk56 v0 k0_t2 v294), ∀ (k0_h4 : k0_cond4 v0 k0_t2 = 1#1), ∀ a, (k0_off223 v294) a + S1x2x128x128.size a ≤ S1024x2x128x128.size a := fun v0 k0_t2 v294 k0_hw56 k0_h4 => k0_hw56.1 k0_h4
theorem k0_off223_wordsfp8e4m3 : ∀ (v0 : BitVec 32) (k0_t2 : Fin (k0_t2_loop v0).trips) (v294 : BitVec 32) (k0_hw56 : k0_chk56 v0 k0_t2 v294), ∀ (k0_h4 : k0_cond4 v0 k0_t2 = 1#1), (Rect.unit (s := S1024x2x128x128) (k0_off223 v294) S1x2x128x128.size (k0_off223_inb v0 k0_t2 v294 k0_hw56 k0_h4)).WholeWords (EltTy.packing .fp8e4m3) := fun v0 k0_t2 v294 k0_hw56 k0_h4 => k0_hw56.2 k0_h4 (k0_off223_inb v0 k0_t2 v294 k0_hw56 k0_h4)

def k0_off224 (v0 : BitVec 32) (k0_t2 : Fin (k0_t2_loop v0).trips) : Fin 2 → Nat :=
  let c0_135 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c7_i32 : BitVec 32 := 7#32
  let v301 : BitVec 32 := Scalar.addi v237 c7_i32
  let v302 : Index := Scalar.indexCast v301
  ![0, v302.toNat]
def k0_off225 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off226 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c7_i32_136 : BitVec 32 := 7#32
  let c0_i32_137 : BitVec 32 := 0#32
  let c0_i32_138 : BitVec 32 := 0#32
  let c0_i32_139 : BitVec 32 := 0#32
  ![v181.toNat, 7, 0, 0, 0]
def k0_off227 (v303 : BitVec 32) : Fin 4 → Nat :=
  let c0_i32_140 : BitVec 32 := 0#32
  let c0_i32_141 : BitVec 32 := 0#32
  let c0_i32_142 : BitVec 32 := 0#32
  ![v303.toNat, 0, 0, 0]

def k0_chk57 (v0 : BitVec 32) (k0_t2 : Fin (k0_t2_loop v0).trips) (v303 : BitVec 32) : Prop :=
  (∀ (k0_h4 : k0_cond4 v0 k0_t2 = 1#1), ∀ a, (k0_off227 v303) a + S1x2x128x128.size a ≤ S1024x2x128x128.size a) ∧
  (∀ (k0_h4 : k0_cond4 v0 k0_t2 = 1#1), ∀ (hinb : ∀ a, (k0_off227 v303) a + S1x2x128x128.size a ≤ S1024x2x128x128.size a), (Rect.unit (s := S1024x2x128x128) (k0_off227 v303) S1x2x128x128.size hinb).WholeWords (EltTy.packing .fp8e4m3))
theorem k0_off227_inb : ∀ (v0 : BitVec 32) (k0_t2 : Fin (k0_t2_loop v0).trips) (v303 : BitVec 32) (k0_hw57 : k0_chk57 v0 k0_t2 v303), ∀ (k0_h4 : k0_cond4 v0 k0_t2 = 1#1), ∀ a, (k0_off227 v303) a + S1x2x128x128.size a ≤ S1024x2x128x128.size a := fun v0 k0_t2 v303 k0_hw57 k0_h4 => k0_hw57.1 k0_h4
theorem k0_off227_wordsfp8e4m3 : ∀ (v0 : BitVec 32) (k0_t2 : Fin (k0_t2_loop v0).trips) (v303 : BitVec 32) (k0_hw57 : k0_chk57 v0 k0_t2 v303), ∀ (k0_h4 : k0_cond4 v0 k0_t2 = 1#1), (Rect.unit (s := S1024x2x128x128) (k0_off227 v303) S1x2x128x128.size (k0_off227_inb v0 k0_t2 v303 k0_hw57 k0_h4)).WholeWords (EltTy.packing .fp8e4m3) := fun v0 k0_t2 v303 k0_hw57 k0_h4 => k0_hw57.2 k0_h4 (k0_off227_inb v0 k0_t2 v303 k0_hw57 k0_h4)

def k0_off228 (v0 : BitVec 32) (k0_t2 : Fin (k0_t2_loop v0).trips) : Fin 2 → Nat :=
  let c0_144 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c8_i32_143 : BitVec 32 := 8#32
  let v310 : BitVec 32 := Scalar.addi v237 c8_i32_143
  let v311 : Index := Scalar.indexCast v310
  ![0, v311.toNat]
def k0_off229 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off230 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c8_i32_145 : BitVec 32 := 8#32
  let c0_i32_146 : BitVec 32 := 0#32
  let c0_i32_147 : BitVec 32 := 0#32
  let c0_i32_148 : BitVec 32 := 0#32
  ![v181.toNat, 8, 0, 0, 0]
def k0_off231 (v312 : BitVec 32) : Fin 4 → Nat :=
  let c0_i32_149 : BitVec 32 := 0#32
  let c0_i32_150 : BitVec 32 := 0#32
  let c0_i32_151 : BitVec 32 := 0#32
  ![v312.toNat, 0, 0, 0]

def k0_chk58 (v0 : BitVec 32) (k0_t2 : Fin (k0_t2_loop v0).trips) (v312 : BitVec 32) : Prop :=
  (∀ (k0_h4 : k0_cond4 v0 k0_t2 = 1#1), ∀ a, (k0_off231 v312) a + S1x2x128x128.size a ≤ S1024x2x128x128.size a) ∧
  (∀ (k0_h4 : k0_cond4 v0 k0_t2 = 1#1), ∀ (hinb : ∀ a, (k0_off231 v312) a + S1x2x128x128.size a ≤ S1024x2x128x128.size a), (Rect.unit (s := S1024x2x128x128) (k0_off231 v312) S1x2x128x128.size hinb).WholeWords (EltTy.packing .fp8e4m3))
theorem k0_off231_inb : ∀ (v0 : BitVec 32) (k0_t2 : Fin (k0_t2_loop v0).trips) (v312 : BitVec 32) (k0_hw58 : k0_chk58 v0 k0_t2 v312), ∀ (k0_h4 : k0_cond4 v0 k0_t2 = 1#1), ∀ a, (k0_off231 v312) a + S1x2x128x128.size a ≤ S1024x2x128x128.size a := fun v0 k0_t2 v312 k0_hw58 k0_h4 => k0_hw58.1 k0_h4
theorem k0_off231_wordsfp8e4m3 : ∀ (v0 : BitVec 32) (k0_t2 : Fin (k0_t2_loop v0).trips) (v312 : BitVec 32) (k0_hw58 : k0_chk58 v0 k0_t2 v312), ∀ (k0_h4 : k0_cond4 v0 k0_t2 = 1#1), (Rect.unit (s := S1024x2x128x128) (k0_off231 v312) S1x2x128x128.size (k0_off231_inb v0 k0_t2 v312 k0_hw58 k0_h4)).WholeWords (EltTy.packing .fp8e4m3) := fun v0 k0_t2 v312 k0_hw58 k0_h4 => k0_hw58.2 k0_h4 (k0_off231_inb v0 k0_t2 v312 k0_hw58 k0_h4)

def k0_off232 (v0 : BitVec 32) (k0_t2 : Fin (k0_t2_loop v0).trips) : Fin 2 → Nat :=
  let c0_152 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c9_i32 : BitVec 32 := 9#32
  let v319 : BitVec 32 := Scalar.addi v237 c9_i32
  let v320 : Index := Scalar.indexCast v319
  ![0, v320.toNat]
def k0_off233 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off234 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c9_i32_153 : BitVec 32 := 9#32
  let c0_i32_154 : BitVec 32 := 0#32
  let c0_i32_155 : BitVec 32 := 0#32
  let c0_i32_156 : BitVec 32 := 0#32
  ![v181.toNat, 9, 0, 0, 0]
def k0_off235 (v321 : BitVec 32) : Fin 4 → Nat :=
  let c0_i32_157 : BitVec 32 := 0#32
  let c0_i32_158 : BitVec 32 := 0#32
  let c0_i32_159 : BitVec 32 := 0#32
  ![v321.toNat, 0, 0, 0]

def k0_chk59 (v0 : BitVec 32) (k0_t2 : Fin (k0_t2_loop v0).trips) (v321 : BitVec 32) : Prop :=
  (∀ (k0_h4 : k0_cond4 v0 k0_t2 = 1#1), ∀ a, (k0_off235 v321) a + S1x2x128x128.size a ≤ S1024x2x128x128.size a) ∧
  (∀ (k0_h4 : k0_cond4 v0 k0_t2 = 1#1), ∀ (hinb : ∀ a, (k0_off235 v321) a + S1x2x128x128.size a ≤ S1024x2x128x128.size a), (Rect.unit (s := S1024x2x128x128) (k0_off235 v321) S1x2x128x128.size hinb).WholeWords (EltTy.packing .fp8e4m3))
theorem k0_off235_inb : ∀ (v0 : BitVec 32) (k0_t2 : Fin (k0_t2_loop v0).trips) (v321 : BitVec 32) (k0_hw59 : k0_chk59 v0 k0_t2 v321), ∀ (k0_h4 : k0_cond4 v0 k0_t2 = 1#1), ∀ a, (k0_off235 v321) a + S1x2x128x128.size a ≤ S1024x2x128x128.size a := fun v0 k0_t2 v321 k0_hw59 k0_h4 => k0_hw59.1 k0_h4
theorem k0_off235_wordsfp8e4m3 : ∀ (v0 : BitVec 32) (k0_t2 : Fin (k0_t2_loop v0).trips) (v321 : BitVec 32) (k0_hw59 : k0_chk59 v0 k0_t2 v321), ∀ (k0_h4 : k0_cond4 v0 k0_t2 = 1#1), (Rect.unit (s := S1024x2x128x128) (k0_off235 v321) S1x2x128x128.size (k0_off235_inb v0 k0_t2 v321 k0_hw59 k0_h4)).WholeWords (EltTy.packing .fp8e4m3) := fun v0 k0_t2 v321 k0_hw59 k0_h4 => k0_hw59.2 k0_h4 (k0_off235_inb v0 k0_t2 v321 k0_hw59 k0_h4)

def k0_off236 (v0 : BitVec 32) (k0_t2 : Fin (k0_t2_loop v0).trips) : Fin 2 → Nat :=
  let c0_160 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c10_i32 : BitVec 32 := 10#32
  let v328 : BitVec 32 := Scalar.addi v237 c10_i32
  let v329 : Index := Scalar.indexCast v328
  ![0, v329.toNat]
def k0_off237 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off238 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c10_i32_161 : BitVec 32 := 10#32
  let c0_i32_162 : BitVec 32 := 0#32
  let c0_i32_163 : BitVec 32 := 0#32
  let c0_i32_164 : BitVec 32 := 0#32
  ![v181.toNat, 10, 0, 0, 0]
def k0_off239 (v330 : BitVec 32) : Fin 4 → Nat :=
  let c0_i32_165 : BitVec 32 := 0#32
  let c0_i32_166 : BitVec 32 := 0#32
  let c0_i32_167 : BitVec 32 := 0#32
  ![v330.toNat, 0, 0, 0]

def k0_chk60 (v0 : BitVec 32) (k0_t2 : Fin (k0_t2_loop v0).trips) (v330 : BitVec 32) : Prop :=
  (∀ (k0_h4 : k0_cond4 v0 k0_t2 = 1#1), ∀ a, (k0_off239 v330) a + S1x2x128x128.size a ≤ S1024x2x128x128.size a) ∧
  (∀ (k0_h4 : k0_cond4 v0 k0_t2 = 1#1), ∀ (hinb : ∀ a, (k0_off239 v330) a + S1x2x128x128.size a ≤ S1024x2x128x128.size a), (Rect.unit (s := S1024x2x128x128) (k0_off239 v330) S1x2x128x128.size hinb).WholeWords (EltTy.packing .fp8e4m3))
theorem k0_off239_inb : ∀ (v0 : BitVec 32) (k0_t2 : Fin (k0_t2_loop v0).trips) (v330 : BitVec 32) (k0_hw60 : k0_chk60 v0 k0_t2 v330), ∀ (k0_h4 : k0_cond4 v0 k0_t2 = 1#1), ∀ a, (k0_off239 v330) a + S1x2x128x128.size a ≤ S1024x2x128x128.size a := fun v0 k0_t2 v330 k0_hw60 k0_h4 => k0_hw60.1 k0_h4
theorem k0_off239_wordsfp8e4m3 : ∀ (v0 : BitVec 32) (k0_t2 : Fin (k0_t2_loop v0).trips) (v330 : BitVec 32) (k0_hw60 : k0_chk60 v0 k0_t2 v330), ∀ (k0_h4 : k0_cond4 v0 k0_t2 = 1#1), (Rect.unit (s := S1024x2x128x128) (k0_off239 v330) S1x2x128x128.size (k0_off239_inb v0 k0_t2 v330 k0_hw60 k0_h4)).WholeWords (EltTy.packing .fp8e4m3) := fun v0 k0_t2 v330 k0_hw60 k0_h4 => k0_hw60.2 k0_h4 (k0_off239_inb v0 k0_t2 v330 k0_hw60 k0_h4)

def k0_off240 (v0 : BitVec 32) (k0_t2 : Fin (k0_t2_loop v0).trips) : Fin 2 → Nat :=
  let c0_168 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c11_i32 : BitVec 32 := 11#32
  let v337 : BitVec 32 := Scalar.addi v237 c11_i32
  let v338 : Index := Scalar.indexCast v337
  ![0, v338.toNat]
def k0_off241 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off242 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c11_i32_169 : BitVec 32 := 11#32
  let c0_i32_170 : BitVec 32 := 0#32
  let c0_i32_171 : BitVec 32 := 0#32
  let c0_i32_172 : BitVec 32 := 0#32
  ![v181.toNat, 11, 0, 0, 0]
def k0_off243 (v339 : BitVec 32) : Fin 4 → Nat :=
  let c0_i32_173 : BitVec 32 := 0#32
  let c0_i32_174 : BitVec 32 := 0#32
  let c0_i32_175 : BitVec 32 := 0#32
  ![v339.toNat, 0, 0, 0]

def k0_chk61 (v0 : BitVec 32) (k0_t2 : Fin (k0_t2_loop v0).trips) (v339 : BitVec 32) : Prop :=
  (∀ (k0_h4 : k0_cond4 v0 k0_t2 = 1#1), ∀ a, (k0_off243 v339) a + S1x2x128x128.size a ≤ S1024x2x128x128.size a) ∧
  (∀ (k0_h4 : k0_cond4 v0 k0_t2 = 1#1), ∀ (hinb : ∀ a, (k0_off243 v339) a + S1x2x128x128.size a ≤ S1024x2x128x128.size a), (Rect.unit (s := S1024x2x128x128) (k0_off243 v339) S1x2x128x128.size hinb).WholeWords (EltTy.packing .fp8e4m3))
theorem k0_off243_inb : ∀ (v0 : BitVec 32) (k0_t2 : Fin (k0_t2_loop v0).trips) (v339 : BitVec 32) (k0_hw61 : k0_chk61 v0 k0_t2 v339), ∀ (k0_h4 : k0_cond4 v0 k0_t2 = 1#1), ∀ a, (k0_off243 v339) a + S1x2x128x128.size a ≤ S1024x2x128x128.size a := fun v0 k0_t2 v339 k0_hw61 k0_h4 => k0_hw61.1 k0_h4
theorem k0_off243_wordsfp8e4m3 : ∀ (v0 : BitVec 32) (k0_t2 : Fin (k0_t2_loop v0).trips) (v339 : BitVec 32) (k0_hw61 : k0_chk61 v0 k0_t2 v339), ∀ (k0_h4 : k0_cond4 v0 k0_t2 = 1#1), (Rect.unit (s := S1024x2x128x128) (k0_off243 v339) S1x2x128x128.size (k0_off243_inb v0 k0_t2 v339 k0_hw61 k0_h4)).WholeWords (EltTy.packing .fp8e4m3) := fun v0 k0_t2 v339 k0_hw61 k0_h4 => k0_hw61.2 k0_h4 (k0_off243_inb v0 k0_t2 v339 k0_hw61 k0_h4)

def k0_off244 (v0 : BitVec 32) (k0_t2 : Fin (k0_t2_loop v0).trips) : Fin 2 → Nat :=
  let c0_176 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c12_i32 : BitVec 32 := 12#32
  let v346 : BitVec 32 := Scalar.addi v237 c12_i32
  let v347 : Index := Scalar.indexCast v346
  ![0, v347.toNat]
def k0_off245 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off246 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c12_i32_177 : BitVec 32 := 12#32
  let c0_i32_178 : BitVec 32 := 0#32
  let c0_i32_179 : BitVec 32 := 0#32
  let c0_i32_180 : BitVec 32 := 0#32
  ![v181.toNat, 12, 0, 0, 0]
def k0_off247 (v348 : BitVec 32) : Fin 4 → Nat :=
  let c0_i32_181 : BitVec 32 := 0#32
  let c0_i32_182 : BitVec 32 := 0#32
  let c0_i32_183 : BitVec 32 := 0#32
  ![v348.toNat, 0, 0, 0]

def k0_chk62 (v0 : BitVec 32) (k0_t2 : Fin (k0_t2_loop v0).trips) (v348 : BitVec 32) : Prop :=
  (∀ (k0_h4 : k0_cond4 v0 k0_t2 = 1#1), ∀ a, (k0_off247 v348) a + S1x2x128x128.size a ≤ S1024x2x128x128.size a) ∧
  (∀ (k0_h4 : k0_cond4 v0 k0_t2 = 1#1), ∀ (hinb : ∀ a, (k0_off247 v348) a + S1x2x128x128.size a ≤ S1024x2x128x128.size a), (Rect.unit (s := S1024x2x128x128) (k0_off247 v348) S1x2x128x128.size hinb).WholeWords (EltTy.packing .fp8e4m3))
theorem k0_off247_inb : ∀ (v0 : BitVec 32) (k0_t2 : Fin (k0_t2_loop v0).trips) (v348 : BitVec 32) (k0_hw62 : k0_chk62 v0 k0_t2 v348), ∀ (k0_h4 : k0_cond4 v0 k0_t2 = 1#1), ∀ a, (k0_off247 v348) a + S1x2x128x128.size a ≤ S1024x2x128x128.size a := fun v0 k0_t2 v348 k0_hw62 k0_h4 => k0_hw62.1 k0_h4
theorem k0_off247_wordsfp8e4m3 : ∀ (v0 : BitVec 32) (k0_t2 : Fin (k0_t2_loop v0).trips) (v348 : BitVec 32) (k0_hw62 : k0_chk62 v0 k0_t2 v348), ∀ (k0_h4 : k0_cond4 v0 k0_t2 = 1#1), (Rect.unit (s := S1024x2x128x128) (k0_off247 v348) S1x2x128x128.size (k0_off247_inb v0 k0_t2 v348 k0_hw62 k0_h4)).WholeWords (EltTy.packing .fp8e4m3) := fun v0 k0_t2 v348 k0_hw62 k0_h4 => k0_hw62.2 k0_h4 (k0_off247_inb v0 k0_t2 v348 k0_hw62 k0_h4)

def k0_off248 (v0 : BitVec 32) (k0_t2 : Fin (k0_t2_loop v0).trips) : Fin 2 → Nat :=
  let c0_184 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c13_i32 : BitVec 32 := 13#32
  let v355 : BitVec 32 := Scalar.addi v237 c13_i32
  let v356 : Index := Scalar.indexCast v355
  ![0, v356.toNat]
def k0_off249 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off250 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c13_i32_185 : BitVec 32 := 13#32
  let c0_i32_186 : BitVec 32 := 0#32
  let c0_i32_187 : BitVec 32 := 0#32
  let c0_i32_188 : BitVec 32 := 0#32
  ![v181.toNat, 13, 0, 0, 0]
def k0_off251 (v357 : BitVec 32) : Fin 4 → Nat :=
  let c0_i32_189 : BitVec 32 := 0#32
  let c0_i32_190 : BitVec 32 := 0#32
  let c0_i32_191 : BitVec 32 := 0#32
  ![v357.toNat, 0, 0, 0]

def k0_chk63 (v0 : BitVec 32) (k0_t2 : Fin (k0_t2_loop v0).trips) (v357 : BitVec 32) : Prop :=
  (∀ (k0_h4 : k0_cond4 v0 k0_t2 = 1#1), ∀ a, (k0_off251 v357) a + S1x2x128x128.size a ≤ S1024x2x128x128.size a) ∧
  (∀ (k0_h4 : k0_cond4 v0 k0_t2 = 1#1), ∀ (hinb : ∀ a, (k0_off251 v357) a + S1x2x128x128.size a ≤ S1024x2x128x128.size a), (Rect.unit (s := S1024x2x128x128) (k0_off251 v357) S1x2x128x128.size hinb).WholeWords (EltTy.packing .fp8e4m3))
theorem k0_off251_inb : ∀ (v0 : BitVec 32) (k0_t2 : Fin (k0_t2_loop v0).trips) (v357 : BitVec 32) (k0_hw63 : k0_chk63 v0 k0_t2 v357), ∀ (k0_h4 : k0_cond4 v0 k0_t2 = 1#1), ∀ a, (k0_off251 v357) a + S1x2x128x128.size a ≤ S1024x2x128x128.size a := fun v0 k0_t2 v357 k0_hw63 k0_h4 => k0_hw63.1 k0_h4
theorem k0_off251_wordsfp8e4m3 : ∀ (v0 : BitVec 32) (k0_t2 : Fin (k0_t2_loop v0).trips) (v357 : BitVec 32) (k0_hw63 : k0_chk63 v0 k0_t2 v357), ∀ (k0_h4 : k0_cond4 v0 k0_t2 = 1#1), (Rect.unit (s := S1024x2x128x128) (k0_off251 v357) S1x2x128x128.size (k0_off251_inb v0 k0_t2 v357 k0_hw63 k0_h4)).WholeWords (EltTy.packing .fp8e4m3) := fun v0 k0_t2 v357 k0_hw63 k0_h4 => k0_hw63.2 k0_h4 (k0_off251_inb v0 k0_t2 v357 k0_hw63 k0_h4)

def k0_off252 (v0 : BitVec 32) (k0_t2 : Fin (k0_t2_loop v0).trips) : Fin 2 → Nat :=
  let c0_192 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c14_i32 : BitVec 32 := 14#32
  let v364 : BitVec 32 := Scalar.addi v237 c14_i32
  let v365 : Index := Scalar.indexCast v364
  ![0, v365.toNat]
def k0_off253 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off254 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c14_i32_193 : BitVec 32 := 14#32
  let c0_i32_194 : BitVec 32 := 0#32
  let c0_i32_195 : BitVec 32 := 0#32
  let c0_i32_196 : BitVec 32 := 0#32
  ![v181.toNat, 14, 0, 0, 0]
def k0_off255 (v366 : BitVec 32) : Fin 4 → Nat :=
  let c0_i32_197 : BitVec 32 := 0#32
  let c0_i32_198 : BitVec 32 := 0#32
  let c0_i32_199 : BitVec 32 := 0#32
  ![v366.toNat, 0, 0, 0]

def k0_chk64 (v0 : BitVec 32) (k0_t2 : Fin (k0_t2_loop v0).trips) (v366 : BitVec 32) : Prop :=
  (∀ (k0_h4 : k0_cond4 v0 k0_t2 = 1#1), ∀ a, (k0_off255 v366) a + S1x2x128x128.size a ≤ S1024x2x128x128.size a) ∧
  (∀ (k0_h4 : k0_cond4 v0 k0_t2 = 1#1), ∀ (hinb : ∀ a, (k0_off255 v366) a + S1x2x128x128.size a ≤ S1024x2x128x128.size a), (Rect.unit (s := S1024x2x128x128) (k0_off255 v366) S1x2x128x128.size hinb).WholeWords (EltTy.packing .fp8e4m3))
theorem k0_off255_inb : ∀ (v0 : BitVec 32) (k0_t2 : Fin (k0_t2_loop v0).trips) (v366 : BitVec 32) (k0_hw64 : k0_chk64 v0 k0_t2 v366), ∀ (k0_h4 : k0_cond4 v0 k0_t2 = 1#1), ∀ a, (k0_off255 v366) a + S1x2x128x128.size a ≤ S1024x2x128x128.size a := fun v0 k0_t2 v366 k0_hw64 k0_h4 => k0_hw64.1 k0_h4
theorem k0_off255_wordsfp8e4m3 : ∀ (v0 : BitVec 32) (k0_t2 : Fin (k0_t2_loop v0).trips) (v366 : BitVec 32) (k0_hw64 : k0_chk64 v0 k0_t2 v366), ∀ (k0_h4 : k0_cond4 v0 k0_t2 = 1#1), (Rect.unit (s := S1024x2x128x128) (k0_off255 v366) S1x2x128x128.size (k0_off255_inb v0 k0_t2 v366 k0_hw64 k0_h4)).WholeWords (EltTy.packing .fp8e4m3) := fun v0 k0_t2 v366 k0_hw64 k0_h4 => k0_hw64.2 k0_h4 (k0_off255_inb v0 k0_t2 v366 k0_hw64 k0_h4)

def k0_off256 (v0 : BitVec 32) (k0_t2 : Fin (k0_t2_loop v0).trips) : Fin 2 → Nat :=
  let c0_200 : Index := 0#32
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v236 : BitVec 32 := Scalar.subi v180 v21
  let c16_i32 : BitVec 32 := 16#32
  let v237 : BitVec 32 := Scalar.muli v236 c16_i32
  let c15_i32 : BitVec 32 := 15#32
  let v373 : BitVec 32 := Scalar.addi v237 c15_i32
  let v374 : Index := Scalar.indexCast v373
  ![0, v374.toNat]
def k0_off257 (v0 : BitVec 32) (k0_t2 : Fin (k0_t2_loop v0).trips) : Fin 1 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off258 (v0 : BitVec 32) (k0_t2 : Fin (k0_t2_loop v0).trips) : Fin 5 → Nat :=
  let c0_i32_37 : BitVec 32 := 0#32
  let c1_i32_39 : BitVec 32 := 1#32
  let arg15 : BitVec 32 := Scf.iv c0_i32_37 c1_i32_39 k0_t2
  let c24_i32_68 : BitVec 32 := 24#32
  let v180 : BitVec 32 := Scalar.addi arg15 c24_i32_68
  let c24_i32_69 : BitVec 32 := 24#32
  let v181 : BitVec 32 := Scalar.remsi v180 c24_i32_69
  let c15_i32_201 : BitVec 32 := 15#32
  let c0_i32_202 : BitVec 32 := 0#32
  let c0_i32_203 : BitVec 32 := 0#32
  let c0_i32_204 : BitVec 32 := 0#32
  ![v181.toNat, 15, 0, 0, 0]
def k0_off259 (v375 : BitVec 32) : Fin 4 → Nat :=
  let c0_i32_205 : BitVec 32 := 0#32
  let c0_i32_206 : BitVec 32 := 0#32
  let c0_i32_207 : BitVec 32 := 0#32
  ![v375.toNat, 0, 0, 0]

def k0_chk65 (v0 : BitVec 32) (k0_t2 : Fin (k0_t2_loop v0).trips) (v375 : BitVec 32) : Prop :=
  (∀ (k0_h4 : k0_cond4 v0 k0_t2 = 1#1), ∀ a, (k0_off259 v375) a + S1x2x128x128.size a ≤ S1024x2x128x128.size a) ∧
  (∀ (k0_h4 : k0_cond4 v0 k0_t2 = 1#1), ∀ (hinb : ∀ a, (k0_off259 v375) a + S1x2x128x128.size a ≤ S1024x2x128x128.size a), (Rect.unit (s := S1024x2x128x128) (k0_off259 v375) S1x2x128x128.size hinb).WholeWords (EltTy.packing .fp8e4m3))
theorem k0_off259_inb : ∀ (v0 : BitVec 32) (k0_t2 : Fin (k0_t2_loop v0).trips) (v375 : BitVec 32) (k0_hw65 : k0_chk65 v0 k0_t2 v375), ∀ (k0_h4 : k0_cond4 v0 k0_t2 = 1#1), ∀ a, (k0_off259 v375) a + S1x2x128x128.size a ≤ S1024x2x128x128.size a := fun v0 k0_t2 v375 k0_hw65 k0_h4 => k0_hw65.1 k0_h4
theorem k0_off259_wordsfp8e4m3 : ∀ (v0 : BitVec 32) (k0_t2 : Fin (k0_t2_loop v0).trips) (v375 : BitVec 32) (k0_hw65 : k0_chk65 v0 k0_t2 v375), ∀ (k0_h4 : k0_cond4 v0 k0_t2 = 1#1), (Rect.unit (s := S1024x2x128x128) (k0_off259 v375) S1x2x128x128.size (k0_off259_inb v0 k0_t2 v375 k0_hw65 k0_h4)).WholeWords (EltTy.packing .fp8e4m3) := fun v0 k0_t2 v375 k0_hw65 k0_h4 => k0_hw65.2 k0_h4 (k0_off259_inb v0 k0_t2 v375 k0_hw65 k0_h4)

def k0_mult1 (v0 : BitVec 32) (k0_t2 : Fin (k0_t2_loop v0).trips) : BitVec 32 :=
  let c0_i32_37 : BitVec 32 := 0#32
  let c1_i32_39 : BitVec 32 := 1#32
  let arg15 : BitVec 32 := Scf.iv c0_i32_37 c1_i32_39 k0_t2
  let c2048_i32_74 : BitVec 32 := 2048#32
  let v198 : BitVec 32 := Scalar.muli arg15 c2048_i32_74
  v198
def k0_off260 (v0 : BitVec 32) (k0_t2 : Fin (k0_t2_loop v0).trips) : Fin 2 → Nat :=
  let c0_75 : Index := 0#32
  let c0_i32_37 : BitVec 32 := 0#32
  let c1_i32_39 : BitVec 32 := 1#32
  let arg15 : BitVec 32 := Scf.iv c0_i32_37 c1_i32_39 k0_t2
  let c2048_i32_74 : BitVec 32 := 2048#32
  let v198 : BitVec 32 := Scalar.muli arg15 c2048_i32_74
  let v199 : BitVec 32 := v198
  let v200 : Index := Scalar.indexCast v199
  ![0, v200.toNat]
@[reducible] def k0_t3_loop (v0 : BitVec 32) : Scf.Loop 32 :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let v104 : BitVec 32 := Scalar.addi c0_i32_37 v103
  let c1_i32_40 : BitVec 32 := 1#32
  ⟨v107, v104, c1_i32_40⟩
def k0_off261 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_54 : BitVec 32 := 24#32
  let v161 : BitVec 32 := Scalar.remsi arg15 c24_i32_54
  ![v161.toNat]
def k0_off262 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_54 : BitVec 32 := 24#32
  let v161 : BitVec 32 := Scalar.remsi arg15 c24_i32_54
  let c0_i32_55 : BitVec 32 := 0#32
  let c0_i32_56 : BitVec 32 := 0#32
  let c0_i32_57 : BitVec 32 := 0#32
  let c0_i32_58 : BitVec 32 := 0#32
  ![v161.toNat, 0, 0, 0, 0]
def k0_off263 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_54 : BitVec 32 := 24#32
  let v161 : BitVec 32 := Scalar.remsi arg15 c24_i32_54
  let v167 : Index := Scalar.indexCast v161
  let c0_63 : Index := 0#32
  let c0_64 : Index := 0#32
  let c0_65 : Index := 0#32
  let c0_66 : Index := 0#32
  ![v167.toNat, 0, 0, 0, 0]
def k0_off264 (v0 : BitVec 32) (k0_t3 : Fin (k0_t3_loop v0).trips) : Fin 2 → Nat :=
  let c0_77 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c0_i32_76 : BitVec 32 := 0#32
  let v237 : BitVec 32 := Scalar.addi v236 c0_i32_76
  let v238 : Index := Scalar.indexCast v237
  ![0, v238.toNat]
def k0_cond5 (v0 : BitVec 32) (k0_t3 : Fin (k0_t3_loop v0).trips) : BitVec 1 :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v182 : BitVec 1 := Scalar.cmpi .slt v180 v21
  let v183 : BitVec 32 := Scalar.extui v182
  let c0_i32_70 : BitVec 32 := 0#32
  let v184 : BitVec 1 := Scalar.cmpi .ne v183 c0_i32_70
  v184

def k0_off265 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off266 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c0_i32_78 : BitVec 32 := 0#32
  let c0_i32_79 : BitVec 32 := 0#32
  let c0_i32_80 : BitVec 32 := 0#32
  let c0_i32_81 : BitVec 32 := 0#32
  ![v181.toNat, 0, 0, 0, 0]
def k0_off267 (v239 : BitVec 32) : Fin 4 → Nat :=
  let c0_i32_82 : BitVec 32 := 0#32
  let c0_i32_83 : BitVec 32 := 0#32
  let c0_i32_84 : BitVec 32 := 0#32
  ![v239.toNat, 0, 0, 0]

def k0_chk66 (v0 : BitVec 32) (k0_t3 : Fin (k0_t3_loop v0).trips) (v239 : BitVec 32) : Prop :=
  (∀ (k0_h5 : k0_cond5 v0 k0_t3 = 1#1), ∀ a, (k0_off267 v239) a + S1x2x128x128.size a ≤ S1024x2x128x128.size a) ∧
  (∀ (k0_h5 : k0_cond5 v0 k0_t3 = 1#1), ∀ (hinb : ∀ a, (k0_off267 v239) a + S1x2x128x128.size a ≤ S1024x2x128x128.size a), (Rect.unit (s := S1024x2x128x128) (k0_off267 v239) S1x2x128x128.size hinb).WholeWords (EltTy.packing .fp8e4m3))
theorem k0_off267_inb : ∀ (v0 : BitVec 32) (k0_t3 : Fin (k0_t3_loop v0).trips) (v239 : BitVec 32) (k0_hw66 : k0_chk66 v0 k0_t3 v239), ∀ (k0_h5 : k0_cond5 v0 k0_t3 = 1#1), ∀ a, (k0_off267 v239) a + S1x2x128x128.size a ≤ S1024x2x128x128.size a := fun v0 k0_t3 v239 k0_hw66 k0_h5 => k0_hw66.1 k0_h5
theorem k0_off267_wordsfp8e4m3 : ∀ (v0 : BitVec 32) (k0_t3 : Fin (k0_t3_loop v0).trips) (v239 : BitVec 32) (k0_hw66 : k0_chk66 v0 k0_t3 v239), ∀ (k0_h5 : k0_cond5 v0 k0_t3 = 1#1), (Rect.unit (s := S1024x2x128x128) (k0_off267 v239) S1x2x128x128.size (k0_off267_inb v0 k0_t3 v239 k0_hw66 k0_h5)).WholeWords (EltTy.packing .fp8e4m3) := fun v0 k0_t3 v239 k0_hw66 k0_h5 => k0_hw66.2 k0_h5 (k0_off267_inb v0 k0_t3 v239 k0_hw66 k0_h5)

def k0_off268 (v0 : BitVec 32) (k0_t3 : Fin (k0_t3_loop v0).trips) : Fin 2 → Nat :=
  let c0_86 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c1_i32_85 : BitVec 32 := 1#32
  let v246 : BitVec 32 := Scalar.addi v236 c1_i32_85
  let v247 : Index := Scalar.indexCast v246
  ![0, v247.toNat]
def k0_off269 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off270 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c1_i32_87 : BitVec 32 := 1#32
  let c0_i32_88 : BitVec 32 := 0#32
  let c0_i32_89 : BitVec 32 := 0#32
  let c0_i32_90 : BitVec 32 := 0#32
  ![v181.toNat, 1, 0, 0, 0]
def k0_off271 (v248 : BitVec 32) : Fin 4 → Nat :=
  let c0_i32_91 : BitVec 32 := 0#32
  let c0_i32_92 : BitVec 32 := 0#32
  let c0_i32_93 : BitVec 32 := 0#32
  ![v248.toNat, 0, 0, 0]

def k0_chk67 (v0 : BitVec 32) (k0_t3 : Fin (k0_t3_loop v0).trips) (v248 : BitVec 32) : Prop :=
  (∀ (k0_h5 : k0_cond5 v0 k0_t3 = 1#1), ∀ a, (k0_off271 v248) a + S1x2x128x128.size a ≤ S1024x2x128x128.size a) ∧
  (∀ (k0_h5 : k0_cond5 v0 k0_t3 = 1#1), ∀ (hinb : ∀ a, (k0_off271 v248) a + S1x2x128x128.size a ≤ S1024x2x128x128.size a), (Rect.unit (s := S1024x2x128x128) (k0_off271 v248) S1x2x128x128.size hinb).WholeWords (EltTy.packing .fp8e4m3))
theorem k0_off271_inb : ∀ (v0 : BitVec 32) (k0_t3 : Fin (k0_t3_loop v0).trips) (v248 : BitVec 32) (k0_hw67 : k0_chk67 v0 k0_t3 v248), ∀ (k0_h5 : k0_cond5 v0 k0_t3 = 1#1), ∀ a, (k0_off271 v248) a + S1x2x128x128.size a ≤ S1024x2x128x128.size a := fun v0 k0_t3 v248 k0_hw67 k0_h5 => k0_hw67.1 k0_h5
theorem k0_off271_wordsfp8e4m3 : ∀ (v0 : BitVec 32) (k0_t3 : Fin (k0_t3_loop v0).trips) (v248 : BitVec 32) (k0_hw67 : k0_chk67 v0 k0_t3 v248), ∀ (k0_h5 : k0_cond5 v0 k0_t3 = 1#1), (Rect.unit (s := S1024x2x128x128) (k0_off271 v248) S1x2x128x128.size (k0_off271_inb v0 k0_t3 v248 k0_hw67 k0_h5)).WholeWords (EltTy.packing .fp8e4m3) := fun v0 k0_t3 v248 k0_hw67 k0_h5 => k0_hw67.2 k0_h5 (k0_off271_inb v0 k0_t3 v248 k0_hw67 k0_h5)

def k0_off272 (v0 : BitVec 32) (k0_t3 : Fin (k0_t3_loop v0).trips) : Fin 2 → Nat :=
  let c0_95 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c2_i32_94 : BitVec 32 := 2#32
  let v255 : BitVec 32 := Scalar.addi v236 c2_i32_94
  let v256 : Index := Scalar.indexCast v255
  ![0, v256.toNat]
def k0_off273 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off274 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c2_i32_96 : BitVec 32 := 2#32
  let c0_i32_97 : BitVec 32 := 0#32
  let c0_i32_98 : BitVec 32 := 0#32
  let c0_i32_99 : BitVec 32 := 0#32
  ![v181.toNat, 2, 0, 0, 0]
def k0_off275 (v257 : BitVec 32) : Fin 4 → Nat :=
  let c0_i32_100 : BitVec 32 := 0#32
  let c0_i32_101 : BitVec 32 := 0#32
  let c0_i32_102 : BitVec 32 := 0#32
  ![v257.toNat, 0, 0, 0]

def k0_chk68 (v0 : BitVec 32) (k0_t3 : Fin (k0_t3_loop v0).trips) (v257 : BitVec 32) : Prop :=
  (∀ (k0_h5 : k0_cond5 v0 k0_t3 = 1#1), ∀ a, (k0_off275 v257) a + S1x2x128x128.size a ≤ S1024x2x128x128.size a) ∧
  (∀ (k0_h5 : k0_cond5 v0 k0_t3 = 1#1), ∀ (hinb : ∀ a, (k0_off275 v257) a + S1x2x128x128.size a ≤ S1024x2x128x128.size a), (Rect.unit (s := S1024x2x128x128) (k0_off275 v257) S1x2x128x128.size hinb).WholeWords (EltTy.packing .fp8e4m3))
theorem k0_off275_inb : ∀ (v0 : BitVec 32) (k0_t3 : Fin (k0_t3_loop v0).trips) (v257 : BitVec 32) (k0_hw68 : k0_chk68 v0 k0_t3 v257), ∀ (k0_h5 : k0_cond5 v0 k0_t3 = 1#1), ∀ a, (k0_off275 v257) a + S1x2x128x128.size a ≤ S1024x2x128x128.size a := fun v0 k0_t3 v257 k0_hw68 k0_h5 => k0_hw68.1 k0_h5
theorem k0_off275_wordsfp8e4m3 : ∀ (v0 : BitVec 32) (k0_t3 : Fin (k0_t3_loop v0).trips) (v257 : BitVec 32) (k0_hw68 : k0_chk68 v0 k0_t3 v257), ∀ (k0_h5 : k0_cond5 v0 k0_t3 = 1#1), (Rect.unit (s := S1024x2x128x128) (k0_off275 v257) S1x2x128x128.size (k0_off275_inb v0 k0_t3 v257 k0_hw68 k0_h5)).WholeWords (EltTy.packing .fp8e4m3) := fun v0 k0_t3 v257 k0_hw68 k0_h5 => k0_hw68.2 k0_h5 (k0_off275_inb v0 k0_t3 v257 k0_hw68 k0_h5)

def k0_off276 (v0 : BitVec 32) (k0_t3 : Fin (k0_t3_loop v0).trips) : Fin 2 → Nat :=
  let c0_103 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c3_i32 : BitVec 32 := 3#32
  let v264 : BitVec 32 := Scalar.addi v236 c3_i32
  let v265 : Index := Scalar.indexCast v264
  ![0, v265.toNat]
def k0_off277 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off278 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c3_i32_104 : BitVec 32 := 3#32
  let c0_i32_105 : BitVec 32 := 0#32
  let c0_i32_106 : BitVec 32 := 0#32
  let c0_i32_107 : BitVec 32 := 0#32
  ![v181.toNat, 3, 0, 0, 0]
def k0_off279 (v266 : BitVec 32) : Fin 4 → Nat :=
  let c0_i32_108 : BitVec 32 := 0#32
  let c0_i32_109 : BitVec 32 := 0#32
  let c0_i32_110 : BitVec 32 := 0#32
  ![v266.toNat, 0, 0, 0]

def k0_chk69 (v0 : BitVec 32) (k0_t3 : Fin (k0_t3_loop v0).trips) (v266 : BitVec 32) : Prop :=
  (∀ (k0_h5 : k0_cond5 v0 k0_t3 = 1#1), ∀ a, (k0_off279 v266) a + S1x2x128x128.size a ≤ S1024x2x128x128.size a) ∧
  (∀ (k0_h5 : k0_cond5 v0 k0_t3 = 1#1), ∀ (hinb : ∀ a, (k0_off279 v266) a + S1x2x128x128.size a ≤ S1024x2x128x128.size a), (Rect.unit (s := S1024x2x128x128) (k0_off279 v266) S1x2x128x128.size hinb).WholeWords (EltTy.packing .fp8e4m3))
theorem k0_off279_inb : ∀ (v0 : BitVec 32) (k0_t3 : Fin (k0_t3_loop v0).trips) (v266 : BitVec 32) (k0_hw69 : k0_chk69 v0 k0_t3 v266), ∀ (k0_h5 : k0_cond5 v0 k0_t3 = 1#1), ∀ a, (k0_off279 v266) a + S1x2x128x128.size a ≤ S1024x2x128x128.size a := fun v0 k0_t3 v266 k0_hw69 k0_h5 => k0_hw69.1 k0_h5
theorem k0_off279_wordsfp8e4m3 : ∀ (v0 : BitVec 32) (k0_t3 : Fin (k0_t3_loop v0).trips) (v266 : BitVec 32) (k0_hw69 : k0_chk69 v0 k0_t3 v266), ∀ (k0_h5 : k0_cond5 v0 k0_t3 = 1#1), (Rect.unit (s := S1024x2x128x128) (k0_off279 v266) S1x2x128x128.size (k0_off279_inb v0 k0_t3 v266 k0_hw69 k0_h5)).WholeWords (EltTy.packing .fp8e4m3) := fun v0 k0_t3 v266 k0_hw69 k0_h5 => k0_hw69.2 k0_h5 (k0_off279_inb v0 k0_t3 v266 k0_hw69 k0_h5)

def k0_off280 (v0 : BitVec 32) (k0_t3 : Fin (k0_t3_loop v0).trips) : Fin 2 → Nat :=
  let c0_111 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c4_i32 : BitVec 32 := 4#32
  let v273 : BitVec 32 := Scalar.addi v236 c4_i32
  let v274 : Index := Scalar.indexCast v273
  ![0, v274.toNat]
def k0_off281 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off282 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c4_i32_112 : BitVec 32 := 4#32
  let c0_i32_113 : BitVec 32 := 0#32
  let c0_i32_114 : BitVec 32 := 0#32
  let c0_i32_115 : BitVec 32 := 0#32
  ![v181.toNat, 4, 0, 0, 0]
def k0_off283 (v275 : BitVec 32) : Fin 4 → Nat :=
  let c0_i32_116 : BitVec 32 := 0#32
  let c0_i32_117 : BitVec 32 := 0#32
  let c0_i32_118 : BitVec 32 := 0#32
  ![v275.toNat, 0, 0, 0]

def k0_chk70 (v0 : BitVec 32) (k0_t3 : Fin (k0_t3_loop v0).trips) (v275 : BitVec 32) : Prop :=
  (∀ (k0_h5 : k0_cond5 v0 k0_t3 = 1#1), ∀ a, (k0_off283 v275) a + S1x2x128x128.size a ≤ S1024x2x128x128.size a) ∧
  (∀ (k0_h5 : k0_cond5 v0 k0_t3 = 1#1), ∀ (hinb : ∀ a, (k0_off283 v275) a + S1x2x128x128.size a ≤ S1024x2x128x128.size a), (Rect.unit (s := S1024x2x128x128) (k0_off283 v275) S1x2x128x128.size hinb).WholeWords (EltTy.packing .fp8e4m3))
theorem k0_off283_inb : ∀ (v0 : BitVec 32) (k0_t3 : Fin (k0_t3_loop v0).trips) (v275 : BitVec 32) (k0_hw70 : k0_chk70 v0 k0_t3 v275), ∀ (k0_h5 : k0_cond5 v0 k0_t3 = 1#1), ∀ a, (k0_off283 v275) a + S1x2x128x128.size a ≤ S1024x2x128x128.size a := fun v0 k0_t3 v275 k0_hw70 k0_h5 => k0_hw70.1 k0_h5
theorem k0_off283_wordsfp8e4m3 : ∀ (v0 : BitVec 32) (k0_t3 : Fin (k0_t3_loop v0).trips) (v275 : BitVec 32) (k0_hw70 : k0_chk70 v0 k0_t3 v275), ∀ (k0_h5 : k0_cond5 v0 k0_t3 = 1#1), (Rect.unit (s := S1024x2x128x128) (k0_off283 v275) S1x2x128x128.size (k0_off283_inb v0 k0_t3 v275 k0_hw70 k0_h5)).WholeWords (EltTy.packing .fp8e4m3) := fun v0 k0_t3 v275 k0_hw70 k0_h5 => k0_hw70.2 k0_h5 (k0_off283_inb v0 k0_t3 v275 k0_hw70 k0_h5)

def k0_off284 (v0 : BitVec 32) (k0_t3 : Fin (k0_t3_loop v0).trips) : Fin 2 → Nat :=
  let c0_119 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c5_i32 : BitVec 32 := 5#32
  let v282 : BitVec 32 := Scalar.addi v236 c5_i32
  let v283 : Index := Scalar.indexCast v282
  ![0, v283.toNat]
def k0_off285 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off286 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c5_i32_120 : BitVec 32 := 5#32
  let c0_i32_121 : BitVec 32 := 0#32
  let c0_i32_122 : BitVec 32 := 0#32
  let c0_i32_123 : BitVec 32 := 0#32
  ![v181.toNat, 5, 0, 0, 0]
def k0_off287 (v284 : BitVec 32) : Fin 4 → Nat :=
  let c0_i32_124 : BitVec 32 := 0#32
  let c0_i32_125 : BitVec 32 := 0#32
  let c0_i32_126 : BitVec 32 := 0#32
  ![v284.toNat, 0, 0, 0]

def k0_chk71 (v0 : BitVec 32) (k0_t3 : Fin (k0_t3_loop v0).trips) (v284 : BitVec 32) : Prop :=
  (∀ (k0_h5 : k0_cond5 v0 k0_t3 = 1#1), ∀ a, (k0_off287 v284) a + S1x2x128x128.size a ≤ S1024x2x128x128.size a) ∧
  (∀ (k0_h5 : k0_cond5 v0 k0_t3 = 1#1), ∀ (hinb : ∀ a, (k0_off287 v284) a + S1x2x128x128.size a ≤ S1024x2x128x128.size a), (Rect.unit (s := S1024x2x128x128) (k0_off287 v284) S1x2x128x128.size hinb).WholeWords (EltTy.packing .fp8e4m3))
theorem k0_off287_inb : ∀ (v0 : BitVec 32) (k0_t3 : Fin (k0_t3_loop v0).trips) (v284 : BitVec 32) (k0_hw71 : k0_chk71 v0 k0_t3 v284), ∀ (k0_h5 : k0_cond5 v0 k0_t3 = 1#1), ∀ a, (k0_off287 v284) a + S1x2x128x128.size a ≤ S1024x2x128x128.size a := fun v0 k0_t3 v284 k0_hw71 k0_h5 => k0_hw71.1 k0_h5
theorem k0_off287_wordsfp8e4m3 : ∀ (v0 : BitVec 32) (k0_t3 : Fin (k0_t3_loop v0).trips) (v284 : BitVec 32) (k0_hw71 : k0_chk71 v0 k0_t3 v284), ∀ (k0_h5 : k0_cond5 v0 k0_t3 = 1#1), (Rect.unit (s := S1024x2x128x128) (k0_off287 v284) S1x2x128x128.size (k0_off287_inb v0 k0_t3 v284 k0_hw71 k0_h5)).WholeWords (EltTy.packing .fp8e4m3) := fun v0 k0_t3 v284 k0_hw71 k0_h5 => k0_hw71.2 k0_h5 (k0_off287_inb v0 k0_t3 v284 k0_hw71 k0_h5)

def k0_off288 (v0 : BitVec 32) (k0_t3 : Fin (k0_t3_loop v0).trips) : Fin 2 → Nat :=
  let c0_127 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c6_i32 : BitVec 32 := 6#32
  let v291 : BitVec 32 := Scalar.addi v236 c6_i32
  let v292 : Index := Scalar.indexCast v291
  ![0, v292.toNat]
def k0_off289 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off290 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c6_i32_128 : BitVec 32 := 6#32
  let c0_i32_129 : BitVec 32 := 0#32
  let c0_i32_130 : BitVec 32 := 0#32
  let c0_i32_131 : BitVec 32 := 0#32
  ![v181.toNat, 6, 0, 0, 0]
def k0_off291 (v293 : BitVec 32) : Fin 4 → Nat :=
  let c0_i32_132 : BitVec 32 := 0#32
  let c0_i32_133 : BitVec 32 := 0#32
  let c0_i32_134 : BitVec 32 := 0#32
  ![v293.toNat, 0, 0, 0]

def k0_chk72 (v0 : BitVec 32) (k0_t3 : Fin (k0_t3_loop v0).trips) (v293 : BitVec 32) : Prop :=
  (∀ (k0_h5 : k0_cond5 v0 k0_t3 = 1#1), ∀ a, (k0_off291 v293) a + S1x2x128x128.size a ≤ S1024x2x128x128.size a) ∧
  (∀ (k0_h5 : k0_cond5 v0 k0_t3 = 1#1), ∀ (hinb : ∀ a, (k0_off291 v293) a + S1x2x128x128.size a ≤ S1024x2x128x128.size a), (Rect.unit (s := S1024x2x128x128) (k0_off291 v293) S1x2x128x128.size hinb).WholeWords (EltTy.packing .fp8e4m3))
theorem k0_off291_inb : ∀ (v0 : BitVec 32) (k0_t3 : Fin (k0_t3_loop v0).trips) (v293 : BitVec 32) (k0_hw72 : k0_chk72 v0 k0_t3 v293), ∀ (k0_h5 : k0_cond5 v0 k0_t3 = 1#1), ∀ a, (k0_off291 v293) a + S1x2x128x128.size a ≤ S1024x2x128x128.size a := fun v0 k0_t3 v293 k0_hw72 k0_h5 => k0_hw72.1 k0_h5
theorem k0_off291_wordsfp8e4m3 : ∀ (v0 : BitVec 32) (k0_t3 : Fin (k0_t3_loop v0).trips) (v293 : BitVec 32) (k0_hw72 : k0_chk72 v0 k0_t3 v293), ∀ (k0_h5 : k0_cond5 v0 k0_t3 = 1#1), (Rect.unit (s := S1024x2x128x128) (k0_off291 v293) S1x2x128x128.size (k0_off291_inb v0 k0_t3 v293 k0_hw72 k0_h5)).WholeWords (EltTy.packing .fp8e4m3) := fun v0 k0_t3 v293 k0_hw72 k0_h5 => k0_hw72.2 k0_h5 (k0_off291_inb v0 k0_t3 v293 k0_hw72 k0_h5)

def k0_off292 (v0 : BitVec 32) (k0_t3 : Fin (k0_t3_loop v0).trips) : Fin 2 → Nat :=
  let c0_135 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c7_i32 : BitVec 32 := 7#32
  let v300 : BitVec 32 := Scalar.addi v236 c7_i32
  let v301 : Index := Scalar.indexCast v300
  ![0, v301.toNat]
def k0_off293 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off294 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c7_i32_136 : BitVec 32 := 7#32
  let c0_i32_137 : BitVec 32 := 0#32
  let c0_i32_138 : BitVec 32 := 0#32
  let c0_i32_139 : BitVec 32 := 0#32
  ![v181.toNat, 7, 0, 0, 0]
def k0_off295 (v302 : BitVec 32) : Fin 4 → Nat :=
  let c0_i32_140 : BitVec 32 := 0#32
  let c0_i32_141 : BitVec 32 := 0#32
  let c0_i32_142 : BitVec 32 := 0#32
  ![v302.toNat, 0, 0, 0]

def k0_chk73 (v0 : BitVec 32) (k0_t3 : Fin (k0_t3_loop v0).trips) (v302 : BitVec 32) : Prop :=
  (∀ (k0_h5 : k0_cond5 v0 k0_t3 = 1#1), ∀ a, (k0_off295 v302) a + S1x2x128x128.size a ≤ S1024x2x128x128.size a) ∧
  (∀ (k0_h5 : k0_cond5 v0 k0_t3 = 1#1), ∀ (hinb : ∀ a, (k0_off295 v302) a + S1x2x128x128.size a ≤ S1024x2x128x128.size a), (Rect.unit (s := S1024x2x128x128) (k0_off295 v302) S1x2x128x128.size hinb).WholeWords (EltTy.packing .fp8e4m3))
theorem k0_off295_inb : ∀ (v0 : BitVec 32) (k0_t3 : Fin (k0_t3_loop v0).trips) (v302 : BitVec 32) (k0_hw73 : k0_chk73 v0 k0_t3 v302), ∀ (k0_h5 : k0_cond5 v0 k0_t3 = 1#1), ∀ a, (k0_off295 v302) a + S1x2x128x128.size a ≤ S1024x2x128x128.size a := fun v0 k0_t3 v302 k0_hw73 k0_h5 => k0_hw73.1 k0_h5
theorem k0_off295_wordsfp8e4m3 : ∀ (v0 : BitVec 32) (k0_t3 : Fin (k0_t3_loop v0).trips) (v302 : BitVec 32) (k0_hw73 : k0_chk73 v0 k0_t3 v302), ∀ (k0_h5 : k0_cond5 v0 k0_t3 = 1#1), (Rect.unit (s := S1024x2x128x128) (k0_off295 v302) S1x2x128x128.size (k0_off295_inb v0 k0_t3 v302 k0_hw73 k0_h5)).WholeWords (EltTy.packing .fp8e4m3) := fun v0 k0_t3 v302 k0_hw73 k0_h5 => k0_hw73.2 k0_h5 (k0_off295_inb v0 k0_t3 v302 k0_hw73 k0_h5)

def k0_off296 (v0 : BitVec 32) (k0_t3 : Fin (k0_t3_loop v0).trips) : Fin 2 → Nat :=
  let c0_144 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c8_i32_143 : BitVec 32 := 8#32
  let v309 : BitVec 32 := Scalar.addi v236 c8_i32_143
  let v310 : Index := Scalar.indexCast v309
  ![0, v310.toNat]
def k0_off297 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off298 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c8_i32_145 : BitVec 32 := 8#32
  let c0_i32_146 : BitVec 32 := 0#32
  let c0_i32_147 : BitVec 32 := 0#32
  let c0_i32_148 : BitVec 32 := 0#32
  ![v181.toNat, 8, 0, 0, 0]
def k0_off299 (v311 : BitVec 32) : Fin 4 → Nat :=
  let c0_i32_149 : BitVec 32 := 0#32
  let c0_i32_150 : BitVec 32 := 0#32
  let c0_i32_151 : BitVec 32 := 0#32
  ![v311.toNat, 0, 0, 0]

def k0_chk74 (v0 : BitVec 32) (k0_t3 : Fin (k0_t3_loop v0).trips) (v311 : BitVec 32) : Prop :=
  (∀ (k0_h5 : k0_cond5 v0 k0_t3 = 1#1), ∀ a, (k0_off299 v311) a + S1x2x128x128.size a ≤ S1024x2x128x128.size a) ∧
  (∀ (k0_h5 : k0_cond5 v0 k0_t3 = 1#1), ∀ (hinb : ∀ a, (k0_off299 v311) a + S1x2x128x128.size a ≤ S1024x2x128x128.size a), (Rect.unit (s := S1024x2x128x128) (k0_off299 v311) S1x2x128x128.size hinb).WholeWords (EltTy.packing .fp8e4m3))
theorem k0_off299_inb : ∀ (v0 : BitVec 32) (k0_t3 : Fin (k0_t3_loop v0).trips) (v311 : BitVec 32) (k0_hw74 : k0_chk74 v0 k0_t3 v311), ∀ (k0_h5 : k0_cond5 v0 k0_t3 = 1#1), ∀ a, (k0_off299 v311) a + S1x2x128x128.size a ≤ S1024x2x128x128.size a := fun v0 k0_t3 v311 k0_hw74 k0_h5 => k0_hw74.1 k0_h5
theorem k0_off299_wordsfp8e4m3 : ∀ (v0 : BitVec 32) (k0_t3 : Fin (k0_t3_loop v0).trips) (v311 : BitVec 32) (k0_hw74 : k0_chk74 v0 k0_t3 v311), ∀ (k0_h5 : k0_cond5 v0 k0_t3 = 1#1), (Rect.unit (s := S1024x2x128x128) (k0_off299 v311) S1x2x128x128.size (k0_off299_inb v0 k0_t3 v311 k0_hw74 k0_h5)).WholeWords (EltTy.packing .fp8e4m3) := fun v0 k0_t3 v311 k0_hw74 k0_h5 => k0_hw74.2 k0_h5 (k0_off299_inb v0 k0_t3 v311 k0_hw74 k0_h5)

def k0_off300 (v0 : BitVec 32) (k0_t3 : Fin (k0_t3_loop v0).trips) : Fin 2 → Nat :=
  let c0_152 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c9_i32 : BitVec 32 := 9#32
  let v318 : BitVec 32 := Scalar.addi v236 c9_i32
  let v319 : Index := Scalar.indexCast v318
  ![0, v319.toNat]
def k0_off301 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off302 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c9_i32_153 : BitVec 32 := 9#32
  let c0_i32_154 : BitVec 32 := 0#32
  let c0_i32_155 : BitVec 32 := 0#32
  let c0_i32_156 : BitVec 32 := 0#32
  ![v181.toNat, 9, 0, 0, 0]
def k0_off303 (v320 : BitVec 32) : Fin 4 → Nat :=
  let c0_i32_157 : BitVec 32 := 0#32
  let c0_i32_158 : BitVec 32 := 0#32
  let c0_i32_159 : BitVec 32 := 0#32
  ![v320.toNat, 0, 0, 0]

def k0_chk75 (v0 : BitVec 32) (k0_t3 : Fin (k0_t3_loop v0).trips) (v320 : BitVec 32) : Prop :=
  (∀ (k0_h5 : k0_cond5 v0 k0_t3 = 1#1), ∀ a, (k0_off303 v320) a + S1x2x128x128.size a ≤ S1024x2x128x128.size a) ∧
  (∀ (k0_h5 : k0_cond5 v0 k0_t3 = 1#1), ∀ (hinb : ∀ a, (k0_off303 v320) a + S1x2x128x128.size a ≤ S1024x2x128x128.size a), (Rect.unit (s := S1024x2x128x128) (k0_off303 v320) S1x2x128x128.size hinb).WholeWords (EltTy.packing .fp8e4m3))
theorem k0_off303_inb : ∀ (v0 : BitVec 32) (k0_t3 : Fin (k0_t3_loop v0).trips) (v320 : BitVec 32) (k0_hw75 : k0_chk75 v0 k0_t3 v320), ∀ (k0_h5 : k0_cond5 v0 k0_t3 = 1#1), ∀ a, (k0_off303 v320) a + S1x2x128x128.size a ≤ S1024x2x128x128.size a := fun v0 k0_t3 v320 k0_hw75 k0_h5 => k0_hw75.1 k0_h5
theorem k0_off303_wordsfp8e4m3 : ∀ (v0 : BitVec 32) (k0_t3 : Fin (k0_t3_loop v0).trips) (v320 : BitVec 32) (k0_hw75 : k0_chk75 v0 k0_t3 v320), ∀ (k0_h5 : k0_cond5 v0 k0_t3 = 1#1), (Rect.unit (s := S1024x2x128x128) (k0_off303 v320) S1x2x128x128.size (k0_off303_inb v0 k0_t3 v320 k0_hw75 k0_h5)).WholeWords (EltTy.packing .fp8e4m3) := fun v0 k0_t3 v320 k0_hw75 k0_h5 => k0_hw75.2 k0_h5 (k0_off303_inb v0 k0_t3 v320 k0_hw75 k0_h5)

def k0_off304 (v0 : BitVec 32) (k0_t3 : Fin (k0_t3_loop v0).trips) : Fin 2 → Nat :=
  let c0_160 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c10_i32 : BitVec 32 := 10#32
  let v327 : BitVec 32 := Scalar.addi v236 c10_i32
  let v328 : Index := Scalar.indexCast v327
  ![0, v328.toNat]
def k0_off305 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off306 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c10_i32_161 : BitVec 32 := 10#32
  let c0_i32_162 : BitVec 32 := 0#32
  let c0_i32_163 : BitVec 32 := 0#32
  let c0_i32_164 : BitVec 32 := 0#32
  ![v181.toNat, 10, 0, 0, 0]
def k0_off307 (v329 : BitVec 32) : Fin 4 → Nat :=
  let c0_i32_165 : BitVec 32 := 0#32
  let c0_i32_166 : BitVec 32 := 0#32
  let c0_i32_167 : BitVec 32 := 0#32
  ![v329.toNat, 0, 0, 0]

def k0_chk76 (v0 : BitVec 32) (k0_t3 : Fin (k0_t3_loop v0).trips) (v329 : BitVec 32) : Prop :=
  (∀ (k0_h5 : k0_cond5 v0 k0_t3 = 1#1), ∀ a, (k0_off307 v329) a + S1x2x128x128.size a ≤ S1024x2x128x128.size a) ∧
  (∀ (k0_h5 : k0_cond5 v0 k0_t3 = 1#1), ∀ (hinb : ∀ a, (k0_off307 v329) a + S1x2x128x128.size a ≤ S1024x2x128x128.size a), (Rect.unit (s := S1024x2x128x128) (k0_off307 v329) S1x2x128x128.size hinb).WholeWords (EltTy.packing .fp8e4m3))
theorem k0_off307_inb : ∀ (v0 : BitVec 32) (k0_t3 : Fin (k0_t3_loop v0).trips) (v329 : BitVec 32) (k0_hw76 : k0_chk76 v0 k0_t3 v329), ∀ (k0_h5 : k0_cond5 v0 k0_t3 = 1#1), ∀ a, (k0_off307 v329) a + S1x2x128x128.size a ≤ S1024x2x128x128.size a := fun v0 k0_t3 v329 k0_hw76 k0_h5 => k0_hw76.1 k0_h5
theorem k0_off307_wordsfp8e4m3 : ∀ (v0 : BitVec 32) (k0_t3 : Fin (k0_t3_loop v0).trips) (v329 : BitVec 32) (k0_hw76 : k0_chk76 v0 k0_t3 v329), ∀ (k0_h5 : k0_cond5 v0 k0_t3 = 1#1), (Rect.unit (s := S1024x2x128x128) (k0_off307 v329) S1x2x128x128.size (k0_off307_inb v0 k0_t3 v329 k0_hw76 k0_h5)).WholeWords (EltTy.packing .fp8e4m3) := fun v0 k0_t3 v329 k0_hw76 k0_h5 => k0_hw76.2 k0_h5 (k0_off307_inb v0 k0_t3 v329 k0_hw76 k0_h5)

def k0_off308 (v0 : BitVec 32) (k0_t3 : Fin (k0_t3_loop v0).trips) : Fin 2 → Nat :=
  let c0_168 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c11_i32 : BitVec 32 := 11#32
  let v336 : BitVec 32 := Scalar.addi v236 c11_i32
  let v337 : Index := Scalar.indexCast v336
  ![0, v337.toNat]
def k0_off309 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off310 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c11_i32_169 : BitVec 32 := 11#32
  let c0_i32_170 : BitVec 32 := 0#32
  let c0_i32_171 : BitVec 32 := 0#32
  let c0_i32_172 : BitVec 32 := 0#32
  ![v181.toNat, 11, 0, 0, 0]
def k0_off311 (v338 : BitVec 32) : Fin 4 → Nat :=
  let c0_i32_173 : BitVec 32 := 0#32
  let c0_i32_174 : BitVec 32 := 0#32
  let c0_i32_175 : BitVec 32 := 0#32
  ![v338.toNat, 0, 0, 0]

def k0_chk77 (v0 : BitVec 32) (k0_t3 : Fin (k0_t3_loop v0).trips) (v338 : BitVec 32) : Prop :=
  (∀ (k0_h5 : k0_cond5 v0 k0_t3 = 1#1), ∀ a, (k0_off311 v338) a + S1x2x128x128.size a ≤ S1024x2x128x128.size a) ∧
  (∀ (k0_h5 : k0_cond5 v0 k0_t3 = 1#1), ∀ (hinb : ∀ a, (k0_off311 v338) a + S1x2x128x128.size a ≤ S1024x2x128x128.size a), (Rect.unit (s := S1024x2x128x128) (k0_off311 v338) S1x2x128x128.size hinb).WholeWords (EltTy.packing .fp8e4m3))
theorem k0_off311_inb : ∀ (v0 : BitVec 32) (k0_t3 : Fin (k0_t3_loop v0).trips) (v338 : BitVec 32) (k0_hw77 : k0_chk77 v0 k0_t3 v338), ∀ (k0_h5 : k0_cond5 v0 k0_t3 = 1#1), ∀ a, (k0_off311 v338) a + S1x2x128x128.size a ≤ S1024x2x128x128.size a := fun v0 k0_t3 v338 k0_hw77 k0_h5 => k0_hw77.1 k0_h5
theorem k0_off311_wordsfp8e4m3 : ∀ (v0 : BitVec 32) (k0_t3 : Fin (k0_t3_loop v0).trips) (v338 : BitVec 32) (k0_hw77 : k0_chk77 v0 k0_t3 v338), ∀ (k0_h5 : k0_cond5 v0 k0_t3 = 1#1), (Rect.unit (s := S1024x2x128x128) (k0_off311 v338) S1x2x128x128.size (k0_off311_inb v0 k0_t3 v338 k0_hw77 k0_h5)).WholeWords (EltTy.packing .fp8e4m3) := fun v0 k0_t3 v338 k0_hw77 k0_h5 => k0_hw77.2 k0_h5 (k0_off311_inb v0 k0_t3 v338 k0_hw77 k0_h5)

def k0_off312 (v0 : BitVec 32) (k0_t3 : Fin (k0_t3_loop v0).trips) : Fin 2 → Nat :=
  let c0_176 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c12_i32 : BitVec 32 := 12#32
  let v345 : BitVec 32 := Scalar.addi v236 c12_i32
  let v346 : Index := Scalar.indexCast v345
  ![0, v346.toNat]
def k0_off313 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off314 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c12_i32_177 : BitVec 32 := 12#32
  let c0_i32_178 : BitVec 32 := 0#32
  let c0_i32_179 : BitVec 32 := 0#32
  let c0_i32_180 : BitVec 32 := 0#32
  ![v181.toNat, 12, 0, 0, 0]
def k0_off315 (v347 : BitVec 32) : Fin 4 → Nat :=
  let c0_i32_181 : BitVec 32 := 0#32
  let c0_i32_182 : BitVec 32 := 0#32
  let c0_i32_183 : BitVec 32 := 0#32
  ![v347.toNat, 0, 0, 0]

def k0_chk78 (v0 : BitVec 32) (k0_t3 : Fin (k0_t3_loop v0).trips) (v347 : BitVec 32) : Prop :=
  (∀ (k0_h5 : k0_cond5 v0 k0_t3 = 1#1), ∀ a, (k0_off315 v347) a + S1x2x128x128.size a ≤ S1024x2x128x128.size a) ∧
  (∀ (k0_h5 : k0_cond5 v0 k0_t3 = 1#1), ∀ (hinb : ∀ a, (k0_off315 v347) a + S1x2x128x128.size a ≤ S1024x2x128x128.size a), (Rect.unit (s := S1024x2x128x128) (k0_off315 v347) S1x2x128x128.size hinb).WholeWords (EltTy.packing .fp8e4m3))
theorem k0_off315_inb : ∀ (v0 : BitVec 32) (k0_t3 : Fin (k0_t3_loop v0).trips) (v347 : BitVec 32) (k0_hw78 : k0_chk78 v0 k0_t3 v347), ∀ (k0_h5 : k0_cond5 v0 k0_t3 = 1#1), ∀ a, (k0_off315 v347) a + S1x2x128x128.size a ≤ S1024x2x128x128.size a := fun v0 k0_t3 v347 k0_hw78 k0_h5 => k0_hw78.1 k0_h5
theorem k0_off315_wordsfp8e4m3 : ∀ (v0 : BitVec 32) (k0_t3 : Fin (k0_t3_loop v0).trips) (v347 : BitVec 32) (k0_hw78 : k0_chk78 v0 k0_t3 v347), ∀ (k0_h5 : k0_cond5 v0 k0_t3 = 1#1), (Rect.unit (s := S1024x2x128x128) (k0_off315 v347) S1x2x128x128.size (k0_off315_inb v0 k0_t3 v347 k0_hw78 k0_h5)).WholeWords (EltTy.packing .fp8e4m3) := fun v0 k0_t3 v347 k0_hw78 k0_h5 => k0_hw78.2 k0_h5 (k0_off315_inb v0 k0_t3 v347 k0_hw78 k0_h5)

def k0_off316 (v0 : BitVec 32) (k0_t3 : Fin (k0_t3_loop v0).trips) : Fin 2 → Nat :=
  let c0_184 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c13_i32 : BitVec 32 := 13#32
  let v354 : BitVec 32 := Scalar.addi v236 c13_i32
  let v355 : Index := Scalar.indexCast v354
  ![0, v355.toNat]
def k0_off317 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off318 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c13_i32_185 : BitVec 32 := 13#32
  let c0_i32_186 : BitVec 32 := 0#32
  let c0_i32_187 : BitVec 32 := 0#32
  let c0_i32_188 : BitVec 32 := 0#32
  ![v181.toNat, 13, 0, 0, 0]
def k0_off319 (v356 : BitVec 32) : Fin 4 → Nat :=
  let c0_i32_189 : BitVec 32 := 0#32
  let c0_i32_190 : BitVec 32 := 0#32
  let c0_i32_191 : BitVec 32 := 0#32
  ![v356.toNat, 0, 0, 0]

def k0_chk79 (v0 : BitVec 32) (k0_t3 : Fin (k0_t3_loop v0).trips) (v356 : BitVec 32) : Prop :=
  (∀ (k0_h5 : k0_cond5 v0 k0_t3 = 1#1), ∀ a, (k0_off319 v356) a + S1x2x128x128.size a ≤ S1024x2x128x128.size a) ∧
  (∀ (k0_h5 : k0_cond5 v0 k0_t3 = 1#1), ∀ (hinb : ∀ a, (k0_off319 v356) a + S1x2x128x128.size a ≤ S1024x2x128x128.size a), (Rect.unit (s := S1024x2x128x128) (k0_off319 v356) S1x2x128x128.size hinb).WholeWords (EltTy.packing .fp8e4m3))
theorem k0_off319_inb : ∀ (v0 : BitVec 32) (k0_t3 : Fin (k0_t3_loop v0).trips) (v356 : BitVec 32) (k0_hw79 : k0_chk79 v0 k0_t3 v356), ∀ (k0_h5 : k0_cond5 v0 k0_t3 = 1#1), ∀ a, (k0_off319 v356) a + S1x2x128x128.size a ≤ S1024x2x128x128.size a := fun v0 k0_t3 v356 k0_hw79 k0_h5 => k0_hw79.1 k0_h5
theorem k0_off319_wordsfp8e4m3 : ∀ (v0 : BitVec 32) (k0_t3 : Fin (k0_t3_loop v0).trips) (v356 : BitVec 32) (k0_hw79 : k0_chk79 v0 k0_t3 v356), ∀ (k0_h5 : k0_cond5 v0 k0_t3 = 1#1), (Rect.unit (s := S1024x2x128x128) (k0_off319 v356) S1x2x128x128.size (k0_off319_inb v0 k0_t3 v356 k0_hw79 k0_h5)).WholeWords (EltTy.packing .fp8e4m3) := fun v0 k0_t3 v356 k0_hw79 k0_h5 => k0_hw79.2 k0_h5 (k0_off319_inb v0 k0_t3 v356 k0_hw79 k0_h5)

def k0_off320 (v0 : BitVec 32) (k0_t3 : Fin (k0_t3_loop v0).trips) : Fin 2 → Nat :=
  let c0_192 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c14_i32 : BitVec 32 := 14#32
  let v363 : BitVec 32 := Scalar.addi v236 c14_i32
  let v364 : Index := Scalar.indexCast v363
  ![0, v364.toNat]
def k0_off321 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off322 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c14_i32_193 : BitVec 32 := 14#32
  let c0_i32_194 : BitVec 32 := 0#32
  let c0_i32_195 : BitVec 32 := 0#32
  let c0_i32_196 : BitVec 32 := 0#32
  ![v181.toNat, 14, 0, 0, 0]
def k0_off323 (v365 : BitVec 32) : Fin 4 → Nat :=
  let c0_i32_197 : BitVec 32 := 0#32
  let c0_i32_198 : BitVec 32 := 0#32
  let c0_i32_199 : BitVec 32 := 0#32
  ![v365.toNat, 0, 0, 0]

def k0_chk80 (v0 : BitVec 32) (k0_t3 : Fin (k0_t3_loop v0).trips) (v365 : BitVec 32) : Prop :=
  (∀ (k0_h5 : k0_cond5 v0 k0_t3 = 1#1), ∀ a, (k0_off323 v365) a + S1x2x128x128.size a ≤ S1024x2x128x128.size a) ∧
  (∀ (k0_h5 : k0_cond5 v0 k0_t3 = 1#1), ∀ (hinb : ∀ a, (k0_off323 v365) a + S1x2x128x128.size a ≤ S1024x2x128x128.size a), (Rect.unit (s := S1024x2x128x128) (k0_off323 v365) S1x2x128x128.size hinb).WholeWords (EltTy.packing .fp8e4m3))
theorem k0_off323_inb : ∀ (v0 : BitVec 32) (k0_t3 : Fin (k0_t3_loop v0).trips) (v365 : BitVec 32) (k0_hw80 : k0_chk80 v0 k0_t3 v365), ∀ (k0_h5 : k0_cond5 v0 k0_t3 = 1#1), ∀ a, (k0_off323 v365) a + S1x2x128x128.size a ≤ S1024x2x128x128.size a := fun v0 k0_t3 v365 k0_hw80 k0_h5 => k0_hw80.1 k0_h5
theorem k0_off323_wordsfp8e4m3 : ∀ (v0 : BitVec 32) (k0_t3 : Fin (k0_t3_loop v0).trips) (v365 : BitVec 32) (k0_hw80 : k0_chk80 v0 k0_t3 v365), ∀ (k0_h5 : k0_cond5 v0 k0_t3 = 1#1), (Rect.unit (s := S1024x2x128x128) (k0_off323 v365) S1x2x128x128.size (k0_off323_inb v0 k0_t3 v365 k0_hw80 k0_h5)).WholeWords (EltTy.packing .fp8e4m3) := fun v0 k0_t3 v365 k0_hw80 k0_h5 => k0_hw80.2 k0_h5 (k0_off323_inb v0 k0_t3 v365 k0_hw80 k0_h5)

def k0_off324 (v0 : BitVec 32) (k0_t3 : Fin (k0_t3_loop v0).trips) : Fin 2 → Nat :=
  let c0_200 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c16_i32 : BitVec 32 := 16#32
  let v236 : BitVec 32 := Scalar.muli v180 c16_i32
  let c15_i32 : BitVec 32 := 15#32
  let v372 : BitVec 32 := Scalar.addi v236 c15_i32
  let v373 : Index := Scalar.indexCast v372
  ![0, v373.toNat]
def k0_off325 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off326 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c15_i32_201 : BitVec 32 := 15#32
  let c0_i32_202 : BitVec 32 := 0#32
  let c0_i32_203 : BitVec 32 := 0#32
  let c0_i32_204 : BitVec 32 := 0#32
  ![v181.toNat, 15, 0, 0, 0]
def k0_off327 (v374 : BitVec 32) : Fin 4 → Nat :=
  let c0_i32_205 : BitVec 32 := 0#32
  let c0_i32_206 : BitVec 32 := 0#32
  let c0_i32_207 : BitVec 32 := 0#32
  ![v374.toNat, 0, 0, 0]

def k0_chk81 (v0 : BitVec 32) (k0_t3 : Fin (k0_t3_loop v0).trips) (v374 : BitVec 32) : Prop :=
  (∀ (k0_h5 : k0_cond5 v0 k0_t3 = 1#1), ∀ a, (k0_off327 v374) a + S1x2x128x128.size a ≤ S1024x2x128x128.size a) ∧
  (∀ (k0_h5 : k0_cond5 v0 k0_t3 = 1#1), ∀ (hinb : ∀ a, (k0_off327 v374) a + S1x2x128x128.size a ≤ S1024x2x128x128.size a), (Rect.unit (s := S1024x2x128x128) (k0_off327 v374) S1x2x128x128.size hinb).WholeWords (EltTy.packing .fp8e4m3))
theorem k0_off327_inb : ∀ (v0 : BitVec 32) (k0_t3 : Fin (k0_t3_loop v0).trips) (v374 : BitVec 32) (k0_hw81 : k0_chk81 v0 k0_t3 v374), ∀ (k0_h5 : k0_cond5 v0 k0_t3 = 1#1), ∀ a, (k0_off327 v374) a + S1x2x128x128.size a ≤ S1024x2x128x128.size a := fun v0 k0_t3 v374 k0_hw81 k0_h5 => k0_hw81.1 k0_h5
theorem k0_off327_wordsfp8e4m3 : ∀ (v0 : BitVec 32) (k0_t3 : Fin (k0_t3_loop v0).trips) (v374 : BitVec 32) (k0_hw81 : k0_chk81 v0 k0_t3 v374), ∀ (k0_h5 : k0_cond5 v0 k0_t3 = 1#1), (Rect.unit (s := S1024x2x128x128) (k0_off327 v374) S1x2x128x128.size (k0_off327_inb v0 k0_t3 v374 k0_hw81 k0_h5)).WholeWords (EltTy.packing .fp8e4m3) := fun v0 k0_t3 v374 k0_hw81 k0_h5 => k0_hw81.2 k0_h5 (k0_off327_inb v0 k0_t3 v374 k0_hw81 k0_h5)

def k0_off328 (v0 : BitVec 32) (k0_t3 : Fin (k0_t3_loop v0).trips) : Fin 2 → Nat :=
  let c0_77 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c0_i32_76 : BitVec 32 := 0#32
  let v238 : BitVec 32 := Scalar.addi v237 c0_i32_76
  let v239 : Index := Scalar.indexCast v238
  ![0, v239.toNat]
def k0_cond6 (v0 : BitVec 32) (k0_t3 : Fin (k0_t3_loop v0).trips) : BitVec 1 :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v185 : BitVec 1 := Scalar.cmpi .sge v180 v21
  let c2_i32 : BitVec 32 := 2#32
  let v22 : BitVec 32 := Scalar.muli c2_i32 v21
  let v186 : BitVec 1 := Scalar.cmpi .slt v180 v22
  let v187 : BitVec 1 := Scalar.andi v185 v186
  let v188 : BitVec 32 := Scalar.extui v187
  let c0_i32_71 : BitVec 32 := 0#32
  let v189 : BitVec 1 := Scalar.cmpi .ne v188 c0_i32_71
  v189

def k0_off329 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off330 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c0_i32_78 : BitVec 32 := 0#32
  let c0_i32_79 : BitVec 32 := 0#32
  let c0_i32_80 : BitVec 32 := 0#32
  let c0_i32_81 : BitVec 32 := 0#32
  ![v181.toNat, 0, 0, 0, 0]
def k0_off331 (v240 : BitVec 32) : Fin 4 → Nat :=
  let c0_i32_82 : BitVec 32 := 0#32
  let c0_i32_83 : BitVec 32 := 0#32
  let c0_i32_84 : BitVec 32 := 0#32
  ![v240.toNat, 0, 0, 0]

def k0_chk82 (v0 : BitVec 32) (k0_t3 : Fin (k0_t3_loop v0).trips) (v240 : BitVec 32) : Prop :=
  (∀ (k0_h6 : k0_cond6 v0 k0_t3 = 1#1), ∀ a, (k0_off331 v240) a + S1x2x128x128.size a ≤ S1024x2x128x128.size a) ∧
  (∀ (k0_h6 : k0_cond6 v0 k0_t3 = 1#1), ∀ (hinb : ∀ a, (k0_off331 v240) a + S1x2x128x128.size a ≤ S1024x2x128x128.size a), (Rect.unit (s := S1024x2x128x128) (k0_off331 v240) S1x2x128x128.size hinb).WholeWords (EltTy.packing .fp8e4m3))
theorem k0_off331_inb : ∀ (v0 : BitVec 32) (k0_t3 : Fin (k0_t3_loop v0).trips) (v240 : BitVec 32) (k0_hw82 : k0_chk82 v0 k0_t3 v240), ∀ (k0_h6 : k0_cond6 v0 k0_t3 = 1#1), ∀ a, (k0_off331 v240) a + S1x2x128x128.size a ≤ S1024x2x128x128.size a := fun v0 k0_t3 v240 k0_hw82 k0_h6 => k0_hw82.1 k0_h6
theorem k0_off331_wordsfp8e4m3 : ∀ (v0 : BitVec 32) (k0_t3 : Fin (k0_t3_loop v0).trips) (v240 : BitVec 32) (k0_hw82 : k0_chk82 v0 k0_t3 v240), ∀ (k0_h6 : k0_cond6 v0 k0_t3 = 1#1), (Rect.unit (s := S1024x2x128x128) (k0_off331 v240) S1x2x128x128.size (k0_off331_inb v0 k0_t3 v240 k0_hw82 k0_h6)).WholeWords (EltTy.packing .fp8e4m3) := fun v0 k0_t3 v240 k0_hw82 k0_h6 => k0_hw82.2 k0_h6 (k0_off331_inb v0 k0_t3 v240 k0_hw82 k0_h6)

def k0_off332 (v0 : BitVec 32) (k0_t3 : Fin (k0_t3_loop v0).trips) : Fin 2 → Nat :=
  let c0_86 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c1_i32_85 : BitVec 32 := 1#32
  let v247 : BitVec 32 := Scalar.addi v237 c1_i32_85
  let v248 : Index := Scalar.indexCast v247
  ![0, v248.toNat]
def k0_off333 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off334 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c1_i32_87 : BitVec 32 := 1#32
  let c0_i32_88 : BitVec 32 := 0#32
  let c0_i32_89 : BitVec 32 := 0#32
  let c0_i32_90 : BitVec 32 := 0#32
  ![v181.toNat, 1, 0, 0, 0]
def k0_off335 (v249 : BitVec 32) : Fin 4 → Nat :=
  let c0_i32_91 : BitVec 32 := 0#32
  let c0_i32_92 : BitVec 32 := 0#32
  let c0_i32_93 : BitVec 32 := 0#32
  ![v249.toNat, 0, 0, 0]

def k0_chk83 (v0 : BitVec 32) (k0_t3 : Fin (k0_t3_loop v0).trips) (v249 : BitVec 32) : Prop :=
  (∀ (k0_h6 : k0_cond6 v0 k0_t3 = 1#1), ∀ a, (k0_off335 v249) a + S1x2x128x128.size a ≤ S1024x2x128x128.size a) ∧
  (∀ (k0_h6 : k0_cond6 v0 k0_t3 = 1#1), ∀ (hinb : ∀ a, (k0_off335 v249) a + S1x2x128x128.size a ≤ S1024x2x128x128.size a), (Rect.unit (s := S1024x2x128x128) (k0_off335 v249) S1x2x128x128.size hinb).WholeWords (EltTy.packing .fp8e4m3))
theorem k0_off335_inb : ∀ (v0 : BitVec 32) (k0_t3 : Fin (k0_t3_loop v0).trips) (v249 : BitVec 32) (k0_hw83 : k0_chk83 v0 k0_t3 v249), ∀ (k0_h6 : k0_cond6 v0 k0_t3 = 1#1), ∀ a, (k0_off335 v249) a + S1x2x128x128.size a ≤ S1024x2x128x128.size a := fun v0 k0_t3 v249 k0_hw83 k0_h6 => k0_hw83.1 k0_h6
theorem k0_off335_wordsfp8e4m3 : ∀ (v0 : BitVec 32) (k0_t3 : Fin (k0_t3_loop v0).trips) (v249 : BitVec 32) (k0_hw83 : k0_chk83 v0 k0_t3 v249), ∀ (k0_h6 : k0_cond6 v0 k0_t3 = 1#1), (Rect.unit (s := S1024x2x128x128) (k0_off335 v249) S1x2x128x128.size (k0_off335_inb v0 k0_t3 v249 k0_hw83 k0_h6)).WholeWords (EltTy.packing .fp8e4m3) := fun v0 k0_t3 v249 k0_hw83 k0_h6 => k0_hw83.2 k0_h6 (k0_off335_inb v0 k0_t3 v249 k0_hw83 k0_h6)

def k0_off336 (v0 : BitVec 32) (k0_t3 : Fin (k0_t3_loop v0).trips) : Fin 2 → Nat :=
  let c0_95 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c2_i32_94 : BitVec 32 := 2#32
  let v256 : BitVec 32 := Scalar.addi v237 c2_i32_94
  let v257 : Index := Scalar.indexCast v256
  ![0, v257.toNat]
def k0_off337 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off338 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c2_i32_96 : BitVec 32 := 2#32
  let c0_i32_97 : BitVec 32 := 0#32
  let c0_i32_98 : BitVec 32 := 0#32
  let c0_i32_99 : BitVec 32 := 0#32
  ![v181.toNat, 2, 0, 0, 0]
def k0_off339 (v258 : BitVec 32) : Fin 4 → Nat :=
  let c0_i32_100 : BitVec 32 := 0#32
  let c0_i32_101 : BitVec 32 := 0#32
  let c0_i32_102 : BitVec 32 := 0#32
  ![v258.toNat, 0, 0, 0]

def k0_chk84 (v0 : BitVec 32) (k0_t3 : Fin (k0_t3_loop v0).trips) (v258 : BitVec 32) : Prop :=
  (∀ (k0_h6 : k0_cond6 v0 k0_t3 = 1#1), ∀ a, (k0_off339 v258) a + S1x2x128x128.size a ≤ S1024x2x128x128.size a) ∧
  (∀ (k0_h6 : k0_cond6 v0 k0_t3 = 1#1), ∀ (hinb : ∀ a, (k0_off339 v258) a + S1x2x128x128.size a ≤ S1024x2x128x128.size a), (Rect.unit (s := S1024x2x128x128) (k0_off339 v258) S1x2x128x128.size hinb).WholeWords (EltTy.packing .fp8e4m3))
theorem k0_off339_inb : ∀ (v0 : BitVec 32) (k0_t3 : Fin (k0_t3_loop v0).trips) (v258 : BitVec 32) (k0_hw84 : k0_chk84 v0 k0_t3 v258), ∀ (k0_h6 : k0_cond6 v0 k0_t3 = 1#1), ∀ a, (k0_off339 v258) a + S1x2x128x128.size a ≤ S1024x2x128x128.size a := fun v0 k0_t3 v258 k0_hw84 k0_h6 => k0_hw84.1 k0_h6
theorem k0_off339_wordsfp8e4m3 : ∀ (v0 : BitVec 32) (k0_t3 : Fin (k0_t3_loop v0).trips) (v258 : BitVec 32) (k0_hw84 : k0_chk84 v0 k0_t3 v258), ∀ (k0_h6 : k0_cond6 v0 k0_t3 = 1#1), (Rect.unit (s := S1024x2x128x128) (k0_off339 v258) S1x2x128x128.size (k0_off339_inb v0 k0_t3 v258 k0_hw84 k0_h6)).WholeWords (EltTy.packing .fp8e4m3) := fun v0 k0_t3 v258 k0_hw84 k0_h6 => k0_hw84.2 k0_h6 (k0_off339_inb v0 k0_t3 v258 k0_hw84 k0_h6)

def k0_off340 (v0 : BitVec 32) (k0_t3 : Fin (k0_t3_loop v0).trips) : Fin 2 → Nat :=
  let c0_103 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c3_i32 : BitVec 32 := 3#32
  let v265 : BitVec 32 := Scalar.addi v237 c3_i32
  let v266 : Index := Scalar.indexCast v265
  ![0, v266.toNat]
def k0_off341 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off342 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c3_i32_104 : BitVec 32 := 3#32
  let c0_i32_105 : BitVec 32 := 0#32
  let c0_i32_106 : BitVec 32 := 0#32
  let c0_i32_107 : BitVec 32 := 0#32
  ![v181.toNat, 3, 0, 0, 0]
def k0_off343 (v267 : BitVec 32) : Fin 4 → Nat :=
  let c0_i32_108 : BitVec 32 := 0#32
  let c0_i32_109 : BitVec 32 := 0#32
  let c0_i32_110 : BitVec 32 := 0#32
  ![v267.toNat, 0, 0, 0]

def k0_chk85 (v0 : BitVec 32) (k0_t3 : Fin (k0_t3_loop v0).trips) (v267 : BitVec 32) : Prop :=
  (∀ (k0_h6 : k0_cond6 v0 k0_t3 = 1#1), ∀ a, (k0_off343 v267) a + S1x2x128x128.size a ≤ S1024x2x128x128.size a) ∧
  (∀ (k0_h6 : k0_cond6 v0 k0_t3 = 1#1), ∀ (hinb : ∀ a, (k0_off343 v267) a + S1x2x128x128.size a ≤ S1024x2x128x128.size a), (Rect.unit (s := S1024x2x128x128) (k0_off343 v267) S1x2x128x128.size hinb).WholeWords (EltTy.packing .fp8e4m3))
theorem k0_off343_inb : ∀ (v0 : BitVec 32) (k0_t3 : Fin (k0_t3_loop v0).trips) (v267 : BitVec 32) (k0_hw85 : k0_chk85 v0 k0_t3 v267), ∀ (k0_h6 : k0_cond6 v0 k0_t3 = 1#1), ∀ a, (k0_off343 v267) a + S1x2x128x128.size a ≤ S1024x2x128x128.size a := fun v0 k0_t3 v267 k0_hw85 k0_h6 => k0_hw85.1 k0_h6
theorem k0_off343_wordsfp8e4m3 : ∀ (v0 : BitVec 32) (k0_t3 : Fin (k0_t3_loop v0).trips) (v267 : BitVec 32) (k0_hw85 : k0_chk85 v0 k0_t3 v267), ∀ (k0_h6 : k0_cond6 v0 k0_t3 = 1#1), (Rect.unit (s := S1024x2x128x128) (k0_off343 v267) S1x2x128x128.size (k0_off343_inb v0 k0_t3 v267 k0_hw85 k0_h6)).WholeWords (EltTy.packing .fp8e4m3) := fun v0 k0_t3 v267 k0_hw85 k0_h6 => k0_hw85.2 k0_h6 (k0_off343_inb v0 k0_t3 v267 k0_hw85 k0_h6)

def k0_off344 (v0 : BitVec 32) (k0_t3 : Fin (k0_t3_loop v0).trips) : Fin 2 → Nat :=
  let c0_111 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c4_i32 : BitVec 32 := 4#32
  let v274 : BitVec 32 := Scalar.addi v237 c4_i32
  let v275 : Index := Scalar.indexCast v274
  ![0, v275.toNat]
def k0_off345 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off346 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c4_i32_112 : BitVec 32 := 4#32
  let c0_i32_113 : BitVec 32 := 0#32
  let c0_i32_114 : BitVec 32 := 0#32
  let c0_i32_115 : BitVec 32 := 0#32
  ![v181.toNat, 4, 0, 0, 0]
def k0_off347 (v276 : BitVec 32) : Fin 4 → Nat :=
  let c0_i32_116 : BitVec 32 := 0#32
  let c0_i32_117 : BitVec 32 := 0#32
  let c0_i32_118 : BitVec 32 := 0#32
  ![v276.toNat, 0, 0, 0]

def k0_chk86 (v0 : BitVec 32) (k0_t3 : Fin (k0_t3_loop v0).trips) (v276 : BitVec 32) : Prop :=
  (∀ (k0_h6 : k0_cond6 v0 k0_t3 = 1#1), ∀ a, (k0_off347 v276) a + S1x2x128x128.size a ≤ S1024x2x128x128.size a) ∧
  (∀ (k0_h6 : k0_cond6 v0 k0_t3 = 1#1), ∀ (hinb : ∀ a, (k0_off347 v276) a + S1x2x128x128.size a ≤ S1024x2x128x128.size a), (Rect.unit (s := S1024x2x128x128) (k0_off347 v276) S1x2x128x128.size hinb).WholeWords (EltTy.packing .fp8e4m3))
theorem k0_off347_inb : ∀ (v0 : BitVec 32) (k0_t3 : Fin (k0_t3_loop v0).trips) (v276 : BitVec 32) (k0_hw86 : k0_chk86 v0 k0_t3 v276), ∀ (k0_h6 : k0_cond6 v0 k0_t3 = 1#1), ∀ a, (k0_off347 v276) a + S1x2x128x128.size a ≤ S1024x2x128x128.size a := fun v0 k0_t3 v276 k0_hw86 k0_h6 => k0_hw86.1 k0_h6
theorem k0_off347_wordsfp8e4m3 : ∀ (v0 : BitVec 32) (k0_t3 : Fin (k0_t3_loop v0).trips) (v276 : BitVec 32) (k0_hw86 : k0_chk86 v0 k0_t3 v276), ∀ (k0_h6 : k0_cond6 v0 k0_t3 = 1#1), (Rect.unit (s := S1024x2x128x128) (k0_off347 v276) S1x2x128x128.size (k0_off347_inb v0 k0_t3 v276 k0_hw86 k0_h6)).WholeWords (EltTy.packing .fp8e4m3) := fun v0 k0_t3 v276 k0_hw86 k0_h6 => k0_hw86.2 k0_h6 (k0_off347_inb v0 k0_t3 v276 k0_hw86 k0_h6)

def k0_off348 (v0 : BitVec 32) (k0_t3 : Fin (k0_t3_loop v0).trips) : Fin 2 → Nat :=
  let c0_119 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c5_i32 : BitVec 32 := 5#32
  let v283 : BitVec 32 := Scalar.addi v237 c5_i32
  let v284 : Index := Scalar.indexCast v283
  ![0, v284.toNat]
def k0_off349 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off350 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c5_i32_120 : BitVec 32 := 5#32
  let c0_i32_121 : BitVec 32 := 0#32
  let c0_i32_122 : BitVec 32 := 0#32
  let c0_i32_123 : BitVec 32 := 0#32
  ![v181.toNat, 5, 0, 0, 0]
def k0_off351 (v285 : BitVec 32) : Fin 4 → Nat :=
  let c0_i32_124 : BitVec 32 := 0#32
  let c0_i32_125 : BitVec 32 := 0#32
  let c0_i32_126 : BitVec 32 := 0#32
  ![v285.toNat, 0, 0, 0]

def k0_chk87 (v0 : BitVec 32) (k0_t3 : Fin (k0_t3_loop v0).trips) (v285 : BitVec 32) : Prop :=
  (∀ (k0_h6 : k0_cond6 v0 k0_t3 = 1#1), ∀ a, (k0_off351 v285) a + S1x2x128x128.size a ≤ S1024x2x128x128.size a) ∧
  (∀ (k0_h6 : k0_cond6 v0 k0_t3 = 1#1), ∀ (hinb : ∀ a, (k0_off351 v285) a + S1x2x128x128.size a ≤ S1024x2x128x128.size a), (Rect.unit (s := S1024x2x128x128) (k0_off351 v285) S1x2x128x128.size hinb).WholeWords (EltTy.packing .fp8e4m3))
theorem k0_off351_inb : ∀ (v0 : BitVec 32) (k0_t3 : Fin (k0_t3_loop v0).trips) (v285 : BitVec 32) (k0_hw87 : k0_chk87 v0 k0_t3 v285), ∀ (k0_h6 : k0_cond6 v0 k0_t3 = 1#1), ∀ a, (k0_off351 v285) a + S1x2x128x128.size a ≤ S1024x2x128x128.size a := fun v0 k0_t3 v285 k0_hw87 k0_h6 => k0_hw87.1 k0_h6
theorem k0_off351_wordsfp8e4m3 : ∀ (v0 : BitVec 32) (k0_t3 : Fin (k0_t3_loop v0).trips) (v285 : BitVec 32) (k0_hw87 : k0_chk87 v0 k0_t3 v285), ∀ (k0_h6 : k0_cond6 v0 k0_t3 = 1#1), (Rect.unit (s := S1024x2x128x128) (k0_off351 v285) S1x2x128x128.size (k0_off351_inb v0 k0_t3 v285 k0_hw87 k0_h6)).WholeWords (EltTy.packing .fp8e4m3) := fun v0 k0_t3 v285 k0_hw87 k0_h6 => k0_hw87.2 k0_h6 (k0_off351_inb v0 k0_t3 v285 k0_hw87 k0_h6)

def k0_off352 (v0 : BitVec 32) (k0_t3 : Fin (k0_t3_loop v0).trips) : Fin 2 → Nat :=
  let c0_127 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c6_i32 : BitVec 32 := 6#32
  let v292 : BitVec 32 := Scalar.addi v237 c6_i32
  let v293 : Index := Scalar.indexCast v292
  ![0, v293.toNat]
def k0_off353 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off354 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c6_i32_128 : BitVec 32 := 6#32
  let c0_i32_129 : BitVec 32 := 0#32
  let c0_i32_130 : BitVec 32 := 0#32
  let c0_i32_131 : BitVec 32 := 0#32
  ![v181.toNat, 6, 0, 0, 0]
def k0_off355 (v294 : BitVec 32) : Fin 4 → Nat :=
  let c0_i32_132 : BitVec 32 := 0#32
  let c0_i32_133 : BitVec 32 := 0#32
  let c0_i32_134 : BitVec 32 := 0#32
  ![v294.toNat, 0, 0, 0]

def k0_chk88 (v0 : BitVec 32) (k0_t3 : Fin (k0_t3_loop v0).trips) (v294 : BitVec 32) : Prop :=
  (∀ (k0_h6 : k0_cond6 v0 k0_t3 = 1#1), ∀ a, (k0_off355 v294) a + S1x2x128x128.size a ≤ S1024x2x128x128.size a) ∧
  (∀ (k0_h6 : k0_cond6 v0 k0_t3 = 1#1), ∀ (hinb : ∀ a, (k0_off355 v294) a + S1x2x128x128.size a ≤ S1024x2x128x128.size a), (Rect.unit (s := S1024x2x128x128) (k0_off355 v294) S1x2x128x128.size hinb).WholeWords (EltTy.packing .fp8e4m3))
theorem k0_off355_inb : ∀ (v0 : BitVec 32) (k0_t3 : Fin (k0_t3_loop v0).trips) (v294 : BitVec 32) (k0_hw88 : k0_chk88 v0 k0_t3 v294), ∀ (k0_h6 : k0_cond6 v0 k0_t3 = 1#1), ∀ a, (k0_off355 v294) a + S1x2x128x128.size a ≤ S1024x2x128x128.size a := fun v0 k0_t3 v294 k0_hw88 k0_h6 => k0_hw88.1 k0_h6
theorem k0_off355_wordsfp8e4m3 : ∀ (v0 : BitVec 32) (k0_t3 : Fin (k0_t3_loop v0).trips) (v294 : BitVec 32) (k0_hw88 : k0_chk88 v0 k0_t3 v294), ∀ (k0_h6 : k0_cond6 v0 k0_t3 = 1#1), (Rect.unit (s := S1024x2x128x128) (k0_off355 v294) S1x2x128x128.size (k0_off355_inb v0 k0_t3 v294 k0_hw88 k0_h6)).WholeWords (EltTy.packing .fp8e4m3) := fun v0 k0_t3 v294 k0_hw88 k0_h6 => k0_hw88.2 k0_h6 (k0_off355_inb v0 k0_t3 v294 k0_hw88 k0_h6)

def k0_off356 (v0 : BitVec 32) (k0_t3 : Fin (k0_t3_loop v0).trips) : Fin 2 → Nat :=
  let c0_135 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c7_i32 : BitVec 32 := 7#32
  let v301 : BitVec 32 := Scalar.addi v237 c7_i32
  let v302 : Index := Scalar.indexCast v301
  ![0, v302.toNat]
def k0_off357 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off358 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c7_i32_136 : BitVec 32 := 7#32
  let c0_i32_137 : BitVec 32 := 0#32
  let c0_i32_138 : BitVec 32 := 0#32
  let c0_i32_139 : BitVec 32 := 0#32
  ![v181.toNat, 7, 0, 0, 0]
def k0_off359 (v303 : BitVec 32) : Fin 4 → Nat :=
  let c0_i32_140 : BitVec 32 := 0#32
  let c0_i32_141 : BitVec 32 := 0#32
  let c0_i32_142 : BitVec 32 := 0#32
  ![v303.toNat, 0, 0, 0]

def k0_chk89 (v0 : BitVec 32) (k0_t3 : Fin (k0_t3_loop v0).trips) (v303 : BitVec 32) : Prop :=
  (∀ (k0_h6 : k0_cond6 v0 k0_t3 = 1#1), ∀ a, (k0_off359 v303) a + S1x2x128x128.size a ≤ S1024x2x128x128.size a) ∧
  (∀ (k0_h6 : k0_cond6 v0 k0_t3 = 1#1), ∀ (hinb : ∀ a, (k0_off359 v303) a + S1x2x128x128.size a ≤ S1024x2x128x128.size a), (Rect.unit (s := S1024x2x128x128) (k0_off359 v303) S1x2x128x128.size hinb).WholeWords (EltTy.packing .fp8e4m3))
theorem k0_off359_inb : ∀ (v0 : BitVec 32) (k0_t3 : Fin (k0_t3_loop v0).trips) (v303 : BitVec 32) (k0_hw89 : k0_chk89 v0 k0_t3 v303), ∀ (k0_h6 : k0_cond6 v0 k0_t3 = 1#1), ∀ a, (k0_off359 v303) a + S1x2x128x128.size a ≤ S1024x2x128x128.size a := fun v0 k0_t3 v303 k0_hw89 k0_h6 => k0_hw89.1 k0_h6
theorem k0_off359_wordsfp8e4m3 : ∀ (v0 : BitVec 32) (k0_t3 : Fin (k0_t3_loop v0).trips) (v303 : BitVec 32) (k0_hw89 : k0_chk89 v0 k0_t3 v303), ∀ (k0_h6 : k0_cond6 v0 k0_t3 = 1#1), (Rect.unit (s := S1024x2x128x128) (k0_off359 v303) S1x2x128x128.size (k0_off359_inb v0 k0_t3 v303 k0_hw89 k0_h6)).WholeWords (EltTy.packing .fp8e4m3) := fun v0 k0_t3 v303 k0_hw89 k0_h6 => k0_hw89.2 k0_h6 (k0_off359_inb v0 k0_t3 v303 k0_hw89 k0_h6)

def k0_off360 (v0 : BitVec 32) (k0_t3 : Fin (k0_t3_loop v0).trips) : Fin 2 → Nat :=
  let c0_144 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c8_i32_143 : BitVec 32 := 8#32
  let v310 : BitVec 32 := Scalar.addi v237 c8_i32_143
  let v311 : Index := Scalar.indexCast v310
  ![0, v311.toNat]
def k0_off361 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off362 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c8_i32_145 : BitVec 32 := 8#32
  let c0_i32_146 : BitVec 32 := 0#32
  let c0_i32_147 : BitVec 32 := 0#32
  let c0_i32_148 : BitVec 32 := 0#32
  ![v181.toNat, 8, 0, 0, 0]
def k0_off363 (v312 : BitVec 32) : Fin 4 → Nat :=
  let c0_i32_149 : BitVec 32 := 0#32
  let c0_i32_150 : BitVec 32 := 0#32
  let c0_i32_151 : BitVec 32 := 0#32
  ![v312.toNat, 0, 0, 0]

def k0_chk90 (v0 : BitVec 32) (k0_t3 : Fin (k0_t3_loop v0).trips) (v312 : BitVec 32) : Prop :=
  (∀ (k0_h6 : k0_cond6 v0 k0_t3 = 1#1), ∀ a, (k0_off363 v312) a + S1x2x128x128.size a ≤ S1024x2x128x128.size a) ∧
  (∀ (k0_h6 : k0_cond6 v0 k0_t3 = 1#1), ∀ (hinb : ∀ a, (k0_off363 v312) a + S1x2x128x128.size a ≤ S1024x2x128x128.size a), (Rect.unit (s := S1024x2x128x128) (k0_off363 v312) S1x2x128x128.size hinb).WholeWords (EltTy.packing .fp8e4m3))
theorem k0_off363_inb : ∀ (v0 : BitVec 32) (k0_t3 : Fin (k0_t3_loop v0).trips) (v312 : BitVec 32) (k0_hw90 : k0_chk90 v0 k0_t3 v312), ∀ (k0_h6 : k0_cond6 v0 k0_t3 = 1#1), ∀ a, (k0_off363 v312) a + S1x2x128x128.size a ≤ S1024x2x128x128.size a := fun v0 k0_t3 v312 k0_hw90 k0_h6 => k0_hw90.1 k0_h6
theorem k0_off363_wordsfp8e4m3 : ∀ (v0 : BitVec 32) (k0_t3 : Fin (k0_t3_loop v0).trips) (v312 : BitVec 32) (k0_hw90 : k0_chk90 v0 k0_t3 v312), ∀ (k0_h6 : k0_cond6 v0 k0_t3 = 1#1), (Rect.unit (s := S1024x2x128x128) (k0_off363 v312) S1x2x128x128.size (k0_off363_inb v0 k0_t3 v312 k0_hw90 k0_h6)).WholeWords (EltTy.packing .fp8e4m3) := fun v0 k0_t3 v312 k0_hw90 k0_h6 => k0_hw90.2 k0_h6 (k0_off363_inb v0 k0_t3 v312 k0_hw90 k0_h6)

def k0_off364 (v0 : BitVec 32) (k0_t3 : Fin (k0_t3_loop v0).trips) : Fin 2 → Nat :=
  let c0_152 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c9_i32 : BitVec 32 := 9#32
  let v319 : BitVec 32 := Scalar.addi v237 c9_i32
  let v320 : Index := Scalar.indexCast v319
  ![0, v320.toNat]
def k0_off365 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off366 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c9_i32_153 : BitVec 32 := 9#32
  let c0_i32_154 : BitVec 32 := 0#32
  let c0_i32_155 : BitVec 32 := 0#32
  let c0_i32_156 : BitVec 32 := 0#32
  ![v181.toNat, 9, 0, 0, 0]
def k0_off367 (v321 : BitVec 32) : Fin 4 → Nat :=
  let c0_i32_157 : BitVec 32 := 0#32
  let c0_i32_158 : BitVec 32 := 0#32
  let c0_i32_159 : BitVec 32 := 0#32
  ![v321.toNat, 0, 0, 0]

def k0_chk91 (v0 : BitVec 32) (k0_t3 : Fin (k0_t3_loop v0).trips) (v321 : BitVec 32) : Prop :=
  (∀ (k0_h6 : k0_cond6 v0 k0_t3 = 1#1), ∀ a, (k0_off367 v321) a + S1x2x128x128.size a ≤ S1024x2x128x128.size a) ∧
  (∀ (k0_h6 : k0_cond6 v0 k0_t3 = 1#1), ∀ (hinb : ∀ a, (k0_off367 v321) a + S1x2x128x128.size a ≤ S1024x2x128x128.size a), (Rect.unit (s := S1024x2x128x128) (k0_off367 v321) S1x2x128x128.size hinb).WholeWords (EltTy.packing .fp8e4m3))
theorem k0_off367_inb : ∀ (v0 : BitVec 32) (k0_t3 : Fin (k0_t3_loop v0).trips) (v321 : BitVec 32) (k0_hw91 : k0_chk91 v0 k0_t3 v321), ∀ (k0_h6 : k0_cond6 v0 k0_t3 = 1#1), ∀ a, (k0_off367 v321) a + S1x2x128x128.size a ≤ S1024x2x128x128.size a := fun v0 k0_t3 v321 k0_hw91 k0_h6 => k0_hw91.1 k0_h6
theorem k0_off367_wordsfp8e4m3 : ∀ (v0 : BitVec 32) (k0_t3 : Fin (k0_t3_loop v0).trips) (v321 : BitVec 32) (k0_hw91 : k0_chk91 v0 k0_t3 v321), ∀ (k0_h6 : k0_cond6 v0 k0_t3 = 1#1), (Rect.unit (s := S1024x2x128x128) (k0_off367 v321) S1x2x128x128.size (k0_off367_inb v0 k0_t3 v321 k0_hw91 k0_h6)).WholeWords (EltTy.packing .fp8e4m3) := fun v0 k0_t3 v321 k0_hw91 k0_h6 => k0_hw91.2 k0_h6 (k0_off367_inb v0 k0_t3 v321 k0_hw91 k0_h6)

def k0_off368 (v0 : BitVec 32) (k0_t3 : Fin (k0_t3_loop v0).trips) : Fin 2 → Nat :=
  let c0_160 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c10_i32 : BitVec 32 := 10#32
  let v328 : BitVec 32 := Scalar.addi v237 c10_i32
  let v329 : Index := Scalar.indexCast v328
  ![0, v329.toNat]
def k0_off369 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off370 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c10_i32_161 : BitVec 32 := 10#32
  let c0_i32_162 : BitVec 32 := 0#32
  let c0_i32_163 : BitVec 32 := 0#32
  let c0_i32_164 : BitVec 32 := 0#32
  ![v181.toNat, 10, 0, 0, 0]
def k0_off371 (v330 : BitVec 32) : Fin 4 → Nat :=
  let c0_i32_165 : BitVec 32 := 0#32
  let c0_i32_166 : BitVec 32 := 0#32
  let c0_i32_167 : BitVec 32 := 0#32
  ![v330.toNat, 0, 0, 0]

def k0_chk92 (v0 : BitVec 32) (k0_t3 : Fin (k0_t3_loop v0).trips) (v330 : BitVec 32) : Prop :=
  (∀ (k0_h6 : k0_cond6 v0 k0_t3 = 1#1), ∀ a, (k0_off371 v330) a + S1x2x128x128.size a ≤ S1024x2x128x128.size a) ∧
  (∀ (k0_h6 : k0_cond6 v0 k0_t3 = 1#1), ∀ (hinb : ∀ a, (k0_off371 v330) a + S1x2x128x128.size a ≤ S1024x2x128x128.size a), (Rect.unit (s := S1024x2x128x128) (k0_off371 v330) S1x2x128x128.size hinb).WholeWords (EltTy.packing .fp8e4m3))
theorem k0_off371_inb : ∀ (v0 : BitVec 32) (k0_t3 : Fin (k0_t3_loop v0).trips) (v330 : BitVec 32) (k0_hw92 : k0_chk92 v0 k0_t3 v330), ∀ (k0_h6 : k0_cond6 v0 k0_t3 = 1#1), ∀ a, (k0_off371 v330) a + S1x2x128x128.size a ≤ S1024x2x128x128.size a := fun v0 k0_t3 v330 k0_hw92 k0_h6 => k0_hw92.1 k0_h6
theorem k0_off371_wordsfp8e4m3 : ∀ (v0 : BitVec 32) (k0_t3 : Fin (k0_t3_loop v0).trips) (v330 : BitVec 32) (k0_hw92 : k0_chk92 v0 k0_t3 v330), ∀ (k0_h6 : k0_cond6 v0 k0_t3 = 1#1), (Rect.unit (s := S1024x2x128x128) (k0_off371 v330) S1x2x128x128.size (k0_off371_inb v0 k0_t3 v330 k0_hw92 k0_h6)).WholeWords (EltTy.packing .fp8e4m3) := fun v0 k0_t3 v330 k0_hw92 k0_h6 => k0_hw92.2 k0_h6 (k0_off371_inb v0 k0_t3 v330 k0_hw92 k0_h6)

def k0_off372 (v0 : BitVec 32) (k0_t3 : Fin (k0_t3_loop v0).trips) : Fin 2 → Nat :=
  let c0_168 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c11_i32 : BitVec 32 := 11#32
  let v337 : BitVec 32 := Scalar.addi v237 c11_i32
  let v338 : Index := Scalar.indexCast v337
  ![0, v338.toNat]
def k0_off373 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off374 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c11_i32_169 : BitVec 32 := 11#32
  let c0_i32_170 : BitVec 32 := 0#32
  let c0_i32_171 : BitVec 32 := 0#32
  let c0_i32_172 : BitVec 32 := 0#32
  ![v181.toNat, 11, 0, 0, 0]
def k0_off375 (v339 : BitVec 32) : Fin 4 → Nat :=
  let c0_i32_173 : BitVec 32 := 0#32
  let c0_i32_174 : BitVec 32 := 0#32
  let c0_i32_175 : BitVec 32 := 0#32
  ![v339.toNat, 0, 0, 0]

def k0_chk93 (v0 : BitVec 32) (k0_t3 : Fin (k0_t3_loop v0).trips) (v339 : BitVec 32) : Prop :=
  (∀ (k0_h6 : k0_cond6 v0 k0_t3 = 1#1), ∀ a, (k0_off375 v339) a + S1x2x128x128.size a ≤ S1024x2x128x128.size a) ∧
  (∀ (k0_h6 : k0_cond6 v0 k0_t3 = 1#1), ∀ (hinb : ∀ a, (k0_off375 v339) a + S1x2x128x128.size a ≤ S1024x2x128x128.size a), (Rect.unit (s := S1024x2x128x128) (k0_off375 v339) S1x2x128x128.size hinb).WholeWords (EltTy.packing .fp8e4m3))
theorem k0_off375_inb : ∀ (v0 : BitVec 32) (k0_t3 : Fin (k0_t3_loop v0).trips) (v339 : BitVec 32) (k0_hw93 : k0_chk93 v0 k0_t3 v339), ∀ (k0_h6 : k0_cond6 v0 k0_t3 = 1#1), ∀ a, (k0_off375 v339) a + S1x2x128x128.size a ≤ S1024x2x128x128.size a := fun v0 k0_t3 v339 k0_hw93 k0_h6 => k0_hw93.1 k0_h6
theorem k0_off375_wordsfp8e4m3 : ∀ (v0 : BitVec 32) (k0_t3 : Fin (k0_t3_loop v0).trips) (v339 : BitVec 32) (k0_hw93 : k0_chk93 v0 k0_t3 v339), ∀ (k0_h6 : k0_cond6 v0 k0_t3 = 1#1), (Rect.unit (s := S1024x2x128x128) (k0_off375 v339) S1x2x128x128.size (k0_off375_inb v0 k0_t3 v339 k0_hw93 k0_h6)).WholeWords (EltTy.packing .fp8e4m3) := fun v0 k0_t3 v339 k0_hw93 k0_h6 => k0_hw93.2 k0_h6 (k0_off375_inb v0 k0_t3 v339 k0_hw93 k0_h6)

def k0_off376 (v0 : BitVec 32) (k0_t3 : Fin (k0_t3_loop v0).trips) : Fin 2 → Nat :=
  let c0_176 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c12_i32 : BitVec 32 := 12#32
  let v346 : BitVec 32 := Scalar.addi v237 c12_i32
  let v347 : Index := Scalar.indexCast v346
  ![0, v347.toNat]
def k0_off377 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off378 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c12_i32_177 : BitVec 32 := 12#32
  let c0_i32_178 : BitVec 32 := 0#32
  let c0_i32_179 : BitVec 32 := 0#32
  let c0_i32_180 : BitVec 32 := 0#32
  ![v181.toNat, 12, 0, 0, 0]
def k0_off379 (v348 : BitVec 32) : Fin 4 → Nat :=
  let c0_i32_181 : BitVec 32 := 0#32
  let c0_i32_182 : BitVec 32 := 0#32
  let c0_i32_183 : BitVec 32 := 0#32
  ![v348.toNat, 0, 0, 0]

def k0_chk94 (v0 : BitVec 32) (k0_t3 : Fin (k0_t3_loop v0).trips) (v348 : BitVec 32) : Prop :=
  (∀ (k0_h6 : k0_cond6 v0 k0_t3 = 1#1), ∀ a, (k0_off379 v348) a + S1x2x128x128.size a ≤ S1024x2x128x128.size a) ∧
  (∀ (k0_h6 : k0_cond6 v0 k0_t3 = 1#1), ∀ (hinb : ∀ a, (k0_off379 v348) a + S1x2x128x128.size a ≤ S1024x2x128x128.size a), (Rect.unit (s := S1024x2x128x128) (k0_off379 v348) S1x2x128x128.size hinb).WholeWords (EltTy.packing .fp8e4m3))
theorem k0_off379_inb : ∀ (v0 : BitVec 32) (k0_t3 : Fin (k0_t3_loop v0).trips) (v348 : BitVec 32) (k0_hw94 : k0_chk94 v0 k0_t3 v348), ∀ (k0_h6 : k0_cond6 v0 k0_t3 = 1#1), ∀ a, (k0_off379 v348) a + S1x2x128x128.size a ≤ S1024x2x128x128.size a := fun v0 k0_t3 v348 k0_hw94 k0_h6 => k0_hw94.1 k0_h6
theorem k0_off379_wordsfp8e4m3 : ∀ (v0 : BitVec 32) (k0_t3 : Fin (k0_t3_loop v0).trips) (v348 : BitVec 32) (k0_hw94 : k0_chk94 v0 k0_t3 v348), ∀ (k0_h6 : k0_cond6 v0 k0_t3 = 1#1), (Rect.unit (s := S1024x2x128x128) (k0_off379 v348) S1x2x128x128.size (k0_off379_inb v0 k0_t3 v348 k0_hw94 k0_h6)).WholeWords (EltTy.packing .fp8e4m3) := fun v0 k0_t3 v348 k0_hw94 k0_h6 => k0_hw94.2 k0_h6 (k0_off379_inb v0 k0_t3 v348 k0_hw94 k0_h6)

def k0_off380 (v0 : BitVec 32) (k0_t3 : Fin (k0_t3_loop v0).trips) : Fin 2 → Nat :=
  let c0_184 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c13_i32 : BitVec 32 := 13#32
  let v355 : BitVec 32 := Scalar.addi v237 c13_i32
  let v356 : Index := Scalar.indexCast v355
  ![0, v356.toNat]
def k0_off381 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off382 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c13_i32_185 : BitVec 32 := 13#32
  let c0_i32_186 : BitVec 32 := 0#32
  let c0_i32_187 : BitVec 32 := 0#32
  let c0_i32_188 : BitVec 32 := 0#32
  ![v181.toNat, 13, 0, 0, 0]
def k0_off383 (v357 : BitVec 32) : Fin 4 → Nat :=
  let c0_i32_189 : BitVec 32 := 0#32
  let c0_i32_190 : BitVec 32 := 0#32
  let c0_i32_191 : BitVec 32 := 0#32
  ![v357.toNat, 0, 0, 0]

def k0_chk95 (v0 : BitVec 32) (k0_t3 : Fin (k0_t3_loop v0).trips) (v357 : BitVec 32) : Prop :=
  (∀ (k0_h6 : k0_cond6 v0 k0_t3 = 1#1), ∀ a, (k0_off383 v357) a + S1x2x128x128.size a ≤ S1024x2x128x128.size a) ∧
  (∀ (k0_h6 : k0_cond6 v0 k0_t3 = 1#1), ∀ (hinb : ∀ a, (k0_off383 v357) a + S1x2x128x128.size a ≤ S1024x2x128x128.size a), (Rect.unit (s := S1024x2x128x128) (k0_off383 v357) S1x2x128x128.size hinb).WholeWords (EltTy.packing .fp8e4m3))
theorem k0_off383_inb : ∀ (v0 : BitVec 32) (k0_t3 : Fin (k0_t3_loop v0).trips) (v357 : BitVec 32) (k0_hw95 : k0_chk95 v0 k0_t3 v357), ∀ (k0_h6 : k0_cond6 v0 k0_t3 = 1#1), ∀ a, (k0_off383 v357) a + S1x2x128x128.size a ≤ S1024x2x128x128.size a := fun v0 k0_t3 v357 k0_hw95 k0_h6 => k0_hw95.1 k0_h6
theorem k0_off383_wordsfp8e4m3 : ∀ (v0 : BitVec 32) (k0_t3 : Fin (k0_t3_loop v0).trips) (v357 : BitVec 32) (k0_hw95 : k0_chk95 v0 k0_t3 v357), ∀ (k0_h6 : k0_cond6 v0 k0_t3 = 1#1), (Rect.unit (s := S1024x2x128x128) (k0_off383 v357) S1x2x128x128.size (k0_off383_inb v0 k0_t3 v357 k0_hw95 k0_h6)).WholeWords (EltTy.packing .fp8e4m3) := fun v0 k0_t3 v357 k0_hw95 k0_h6 => k0_hw95.2 k0_h6 (k0_off383_inb v0 k0_t3 v357 k0_hw95 k0_h6)

def k0_off384 (v0 : BitVec 32) (k0_t3 : Fin (k0_t3_loop v0).trips) : Fin 2 → Nat :=
  let c0_192 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c14_i32 : BitVec 32 := 14#32
  let v364 : BitVec 32 := Scalar.addi v237 c14_i32
  let v365 : Index := Scalar.indexCast v364
  ![0, v365.toNat]
def k0_off385 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off386 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c14_i32_193 : BitVec 32 := 14#32
  let c0_i32_194 : BitVec 32 := 0#32
  let c0_i32_195 : BitVec 32 := 0#32
  let c0_i32_196 : BitVec 32 := 0#32
  ![v181.toNat, 14, 0, 0, 0]
def k0_off387 (v366 : BitVec 32) : Fin 4 → Nat :=
  let c0_i32_197 : BitVec 32 := 0#32
  let c0_i32_198 : BitVec 32 := 0#32
  let c0_i32_199 : BitVec 32 := 0#32
  ![v366.toNat, 0, 0, 0]

def k0_chk96 (v0 : BitVec 32) (k0_t3 : Fin (k0_t3_loop v0).trips) (v366 : BitVec 32) : Prop :=
  (∀ (k0_h6 : k0_cond6 v0 k0_t3 = 1#1), ∀ a, (k0_off387 v366) a + S1x2x128x128.size a ≤ S1024x2x128x128.size a) ∧
  (∀ (k0_h6 : k0_cond6 v0 k0_t3 = 1#1), ∀ (hinb : ∀ a, (k0_off387 v366) a + S1x2x128x128.size a ≤ S1024x2x128x128.size a), (Rect.unit (s := S1024x2x128x128) (k0_off387 v366) S1x2x128x128.size hinb).WholeWords (EltTy.packing .fp8e4m3))
theorem k0_off387_inb : ∀ (v0 : BitVec 32) (k0_t3 : Fin (k0_t3_loop v0).trips) (v366 : BitVec 32) (k0_hw96 : k0_chk96 v0 k0_t3 v366), ∀ (k0_h6 : k0_cond6 v0 k0_t3 = 1#1), ∀ a, (k0_off387 v366) a + S1x2x128x128.size a ≤ S1024x2x128x128.size a := fun v0 k0_t3 v366 k0_hw96 k0_h6 => k0_hw96.1 k0_h6
theorem k0_off387_wordsfp8e4m3 : ∀ (v0 : BitVec 32) (k0_t3 : Fin (k0_t3_loop v0).trips) (v366 : BitVec 32) (k0_hw96 : k0_chk96 v0 k0_t3 v366), ∀ (k0_h6 : k0_cond6 v0 k0_t3 = 1#1), (Rect.unit (s := S1024x2x128x128) (k0_off387 v366) S1x2x128x128.size (k0_off387_inb v0 k0_t3 v366 k0_hw96 k0_h6)).WholeWords (EltTy.packing .fp8e4m3) := fun v0 k0_t3 v366 k0_hw96 k0_h6 => k0_hw96.2 k0_h6 (k0_off387_inb v0 k0_t3 v366 k0_hw96 k0_h6)

def k0_off388 (v0 : BitVec 32) (k0_t3 : Fin (k0_t3_loop v0).trips) : Fin 2 → Nat :=
  let c0_200 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let v236 : BitVec 32 := Scalar.subi v180 v21
  let c16_i32 : BitVec 32 := 16#32
  let v237 : BitVec 32 := Scalar.muli v236 c16_i32
  let c15_i32 : BitVec 32 := 15#32
  let v373 : BitVec 32 := Scalar.addi v237 c15_i32
  let v374 : Index := Scalar.indexCast v373
  ![0, v374.toNat]
def k0_off389 (v0 : BitVec 32) (k0_t3 : Fin (k0_t3_loop v0).trips) : Fin 1 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  ![v181.toNat]
def k0_off390 (v0 : BitVec 32) (k0_t3 : Fin (k0_t3_loop v0).trips) : Fin 5 → Nat :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c24_i32_68 : BitVec 32 := 24#32
  let v180 : BitVec 32 := Scalar.addi arg15 c24_i32_68
  let c24_i32_69 : BitVec 32 := 24#32
  let v181 : BitVec 32 := Scalar.remsi v180 c24_i32_69
  let c15_i32_201 : BitVec 32 := 15#32
  let c0_i32_202 : BitVec 32 := 0#32
  let c0_i32_203 : BitVec 32 := 0#32
  let c0_i32_204 : BitVec 32 := 0#32
  ![v181.toNat, 15, 0, 0, 0]
def k0_off391 (v375 : BitVec 32) : Fin 4 → Nat :=
  let c0_i32_205 : BitVec 32 := 0#32
  let c0_i32_206 : BitVec 32 := 0#32
  let c0_i32_207 : BitVec 32 := 0#32
  ![v375.toNat, 0, 0, 0]

def k0_chk97 (v0 : BitVec 32) (k0_t3 : Fin (k0_t3_loop v0).trips) (v375 : BitVec 32) : Prop :=
  (∀ (k0_h6 : k0_cond6 v0 k0_t3 = 1#1), ∀ a, (k0_off391 v375) a + S1x2x128x128.size a ≤ S1024x2x128x128.size a) ∧
  (∀ (k0_h6 : k0_cond6 v0 k0_t3 = 1#1), ∀ (hinb : ∀ a, (k0_off391 v375) a + S1x2x128x128.size a ≤ S1024x2x128x128.size a), (Rect.unit (s := S1024x2x128x128) (k0_off391 v375) S1x2x128x128.size hinb).WholeWords (EltTy.packing .fp8e4m3))
theorem k0_off391_inb : ∀ (v0 : BitVec 32) (k0_t3 : Fin (k0_t3_loop v0).trips) (v375 : BitVec 32) (k0_hw97 : k0_chk97 v0 k0_t3 v375), ∀ (k0_h6 : k0_cond6 v0 k0_t3 = 1#1), ∀ a, (k0_off391 v375) a + S1x2x128x128.size a ≤ S1024x2x128x128.size a := fun v0 k0_t3 v375 k0_hw97 k0_h6 => k0_hw97.1 k0_h6
theorem k0_off391_wordsfp8e4m3 : ∀ (v0 : BitVec 32) (k0_t3 : Fin (k0_t3_loop v0).trips) (v375 : BitVec 32) (k0_hw97 : k0_chk97 v0 k0_t3 v375), ∀ (k0_h6 : k0_cond6 v0 k0_t3 = 1#1), (Rect.unit (s := S1024x2x128x128) (k0_off391 v375) S1x2x128x128.size (k0_off391_inb v0 k0_t3 v375 k0_hw97 k0_h6)).WholeWords (EltTy.packing .fp8e4m3) := fun v0 k0_t3 v375 k0_hw97 k0_h6 => k0_hw97.2 k0_h6 (k0_off391_inb v0 k0_t3 v375 k0_hw97 k0_h6)

def k0_mult2 (v0 : BitVec 32) (k0_t3 : Fin (k0_t3_loop v0).trips) : BitVec 32 :=
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c2048_i32_74 : BitVec 32 := 2048#32
  let v198 : BitVec 32 := Scalar.muli arg15 c2048_i32_74
  v198
def k0_off392 (v0 : BitVec 32) (k0_t3 : Fin (k0_t3_loop v0).trips) : Fin 2 → Nat :=
  let c0_75 : Index := 0#32
  let c0_i32_37 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v103 : BitVec 32 := Scalar.subi v21 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg15 : BitVec 32 := Scf.iv v107 c1_i32_40 k0_t3
  let c2048_i32_74 : BitVec 32 := 2048#32
  let v198 : BitVec 32 := Scalar.muli arg15 c2048_i32_74
  let v199 : BitVec 32 := v198
  let v200 : Index := Scalar.indexCast v199
  ![0, v200.toNat]
@[reducible] def k0_t4_loop (v0 : BitVec 32) : Scf.Loop 32 :=
  let c0_i32_44 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_46 : BitVec 32 := 1#32
  ⟨c0_i32_44, v119, c1_i32_46⟩
def k0_off393 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v161 : BitVec 32 := Scalar.addi v21 arg15
  let c24_i32_54 : BitVec 32 := 24#32
  let v162 : BitVec 32 := Scalar.remsi v161 c24_i32_54
  ![v162.toNat]
def k0_off394 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v161 : BitVec 32 := Scalar.addi v21 arg15
  let c24_i32_54 : BitVec 32 := 24#32
  let v162 : BitVec 32 := Scalar.remsi v161 c24_i32_54
  let c0_i32_55 : BitVec 32 := 0#32
  let c0_i32_56 : BitVec 32 := 0#32
  let c0_i32_57 : BitVec 32 := 0#32
  let c0_i32_58 : BitVec 32 := 0#32
  ![v162.toNat, 0, 0, 0, 0]
def k0_mult3 (v0 : BitVec 32) (k0_t4 : Fin (k0_t4_loop v0).trips) : BitVec 32 :=
  let c0_i32_44 : BitVec 32 := 0#32
  let c1_i32_46 : BitVec 32 := 1#32
  let arg15 : BitVec 32 := Scf.iv c0_i32_44 c1_i32_46 k0_t4
  let c2048_i32_63 : BitVec 32 := 2048#32
  let v168 : BitVec 32 := Scalar.muli arg15 c2048_i32_63
  v168
def k0_off395 (v0 : BitVec 32) (k0_t4 : Fin (k0_t4_loop v0).trips) : Fin 2 → Nat :=
  let c0_64 : Index := 0#32
  let c0_i32_44 : BitVec 32 := 0#32
  let c1_i32_46 : BitVec 32 := 1#32
  let arg15 : BitVec 32 := Scf.iv c0_i32_44 c1_i32_46 k0_t4
  let c2048_i32_63 : BitVec 32 := 2048#32
  let v168 : BitVec 32 := Scalar.muli arg15 c2048_i32_63
  let v169 : BitVec 32 := v168
  let v170 : Index := Scalar.indexCast v169
  ![0, v170.toNat]
def k0_off396 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v161 : BitVec 32 := Scalar.addi v21 arg15
  let c24_i32_54 : BitVec 32 := 24#32
  let v162 : BitVec 32 := Scalar.remsi v161 c24_i32_54
  let v176 : Index := Scalar.indexCast v162
  let c0_65 : Index := 0#32
  let c0_66 : Index := 0#32
  let c0_67 : Index := 0#32
  let c0_68 : Index := 0#32
  ![v176.toNat, 0, 0, 0, 0]
def k0_off397 (v0 : BitVec 32) (k0_t4 : Fin (k0_t4_loop v0).trips) : Fin 2 → Nat :=
  let c0_75 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c0_i32_74 : BitVec 32 := 0#32
  let v232 : BitVec 32 := Scalar.addi v231 c0_i32_74
  let v233 : Index := Scalar.indexCast v232
  ![0, v233.toNat]
def k0_cond7 (v0 : BitVec 32) (k0_t4 : Fin (k0_t4_loop v0).trips) : BitVec 1 :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v191 : BitVec 1 := Scalar.cmpi .slt v189 v21
  let v192 : BitVec 32 := Scalar.extui v191
  let c0_i32_72 : BitVec 32 := 0#32
  let v193 : BitVec 1 := Scalar.cmpi .ne v192 c0_i32_72
  v193

def k0_off398 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off399 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c0_i32_76 : BitVec 32 := 0#32
  let c0_i32_77 : BitVec 32 := 0#32
  let c0_i32_78 : BitVec 32 := 0#32
  let c0_i32_79 : BitVec 32 := 0#32
  ![v190.toNat, 0, 0, 0, 0]
def k0_off400 (v234 : BitVec 32) : Fin 4 → Nat :=
  let c0_i32_80 : BitVec 32 := 0#32
  let c0_i32_81 : BitVec 32 := 0#32
  let c0_i32_82 : BitVec 32 := 0#32
  ![v234.toNat, 0, 0, 0]

def k0_chk98 (v0 : BitVec 32) (k0_t4 : Fin (k0_t4_loop v0).trips) (v234 : BitVec 32) : Prop :=
  (∀ (k0_h7 : k0_cond7 v0 k0_t4 = 1#1), ∀ a, (k0_off400 v234) a + S1x2x128x128.size a ≤ S1024x2x128x128.size a) ∧
  (∀ (k0_h7 : k0_cond7 v0 k0_t4 = 1#1), ∀ (hinb : ∀ a, (k0_off400 v234) a + S1x2x128x128.size a ≤ S1024x2x128x128.size a), (Rect.unit (s := S1024x2x128x128) (k0_off400 v234) S1x2x128x128.size hinb).WholeWords (EltTy.packing .fp8e4m3))
theorem k0_off400_inb : ∀ (v0 : BitVec 32) (k0_t4 : Fin (k0_t4_loop v0).trips) (v234 : BitVec 32) (k0_hw98 : k0_chk98 v0 k0_t4 v234), ∀ (k0_h7 : k0_cond7 v0 k0_t4 = 1#1), ∀ a, (k0_off400 v234) a + S1x2x128x128.size a ≤ S1024x2x128x128.size a := fun v0 k0_t4 v234 k0_hw98 k0_h7 => k0_hw98.1 k0_h7
theorem k0_off400_wordsfp8e4m3 : ∀ (v0 : BitVec 32) (k0_t4 : Fin (k0_t4_loop v0).trips) (v234 : BitVec 32) (k0_hw98 : k0_chk98 v0 k0_t4 v234), ∀ (k0_h7 : k0_cond7 v0 k0_t4 = 1#1), (Rect.unit (s := S1024x2x128x128) (k0_off400 v234) S1x2x128x128.size (k0_off400_inb v0 k0_t4 v234 k0_hw98 k0_h7)).WholeWords (EltTy.packing .fp8e4m3) := fun v0 k0_t4 v234 k0_hw98 k0_h7 => k0_hw98.2 k0_h7 (k0_off400_inb v0 k0_t4 v234 k0_hw98 k0_h7)

def k0_off401 (v0 : BitVec 32) (k0_t4 : Fin (k0_t4_loop v0).trips) : Fin 2 → Nat :=
  let c0_84 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c1_i32_83 : BitVec 32 := 1#32
  let v241 : BitVec 32 := Scalar.addi v231 c1_i32_83
  let v242 : Index := Scalar.indexCast v241
  ![0, v242.toNat]
def k0_off402 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off403 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c1_i32_85 : BitVec 32 := 1#32
  let c0_i32_86 : BitVec 32 := 0#32
  let c0_i32_87 : BitVec 32 := 0#32
  let c0_i32_88 : BitVec 32 := 0#32
  ![v190.toNat, 1, 0, 0, 0]
def k0_off404 (v243 : BitVec 32) : Fin 4 → Nat :=
  let c0_i32_89 : BitVec 32 := 0#32
  let c0_i32_90 : BitVec 32 := 0#32
  let c0_i32_91 : BitVec 32 := 0#32
  ![v243.toNat, 0, 0, 0]

def k0_chk99 (v0 : BitVec 32) (k0_t4 : Fin (k0_t4_loop v0).trips) (v243 : BitVec 32) : Prop :=
  (∀ (k0_h7 : k0_cond7 v0 k0_t4 = 1#1), ∀ a, (k0_off404 v243) a + S1x2x128x128.size a ≤ S1024x2x128x128.size a) ∧
  (∀ (k0_h7 : k0_cond7 v0 k0_t4 = 1#1), ∀ (hinb : ∀ a, (k0_off404 v243) a + S1x2x128x128.size a ≤ S1024x2x128x128.size a), (Rect.unit (s := S1024x2x128x128) (k0_off404 v243) S1x2x128x128.size hinb).WholeWords (EltTy.packing .fp8e4m3))
theorem k0_off404_inb : ∀ (v0 : BitVec 32) (k0_t4 : Fin (k0_t4_loop v0).trips) (v243 : BitVec 32) (k0_hw99 : k0_chk99 v0 k0_t4 v243), ∀ (k0_h7 : k0_cond7 v0 k0_t4 = 1#1), ∀ a, (k0_off404 v243) a + S1x2x128x128.size a ≤ S1024x2x128x128.size a := fun v0 k0_t4 v243 k0_hw99 k0_h7 => k0_hw99.1 k0_h7
theorem k0_off404_wordsfp8e4m3 : ∀ (v0 : BitVec 32) (k0_t4 : Fin (k0_t4_loop v0).trips) (v243 : BitVec 32) (k0_hw99 : k0_chk99 v0 k0_t4 v243), ∀ (k0_h7 : k0_cond7 v0 k0_t4 = 1#1), (Rect.unit (s := S1024x2x128x128) (k0_off404 v243) S1x2x128x128.size (k0_off404_inb v0 k0_t4 v243 k0_hw99 k0_h7)).WholeWords (EltTy.packing .fp8e4m3) := fun v0 k0_t4 v243 k0_hw99 k0_h7 => k0_hw99.2 k0_h7 (k0_off404_inb v0 k0_t4 v243 k0_hw99 k0_h7)

def k0_off405 (v0 : BitVec 32) (k0_t4 : Fin (k0_t4_loop v0).trips) : Fin 2 → Nat :=
  let c0_93 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c2_i32_92 : BitVec 32 := 2#32
  let v250 : BitVec 32 := Scalar.addi v231 c2_i32_92
  let v251 : Index := Scalar.indexCast v250
  ![0, v251.toNat]
def k0_off406 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off407 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c2_i32_94 : BitVec 32 := 2#32
  let c0_i32_95 : BitVec 32 := 0#32
  let c0_i32_96 : BitVec 32 := 0#32
  let c0_i32_97 : BitVec 32 := 0#32
  ![v190.toNat, 2, 0, 0, 0]
def k0_off408 (v252 : BitVec 32) : Fin 4 → Nat :=
  let c0_i32_98 : BitVec 32 := 0#32
  let c0_i32_99 : BitVec 32 := 0#32
  let c0_i32_100 : BitVec 32 := 0#32
  ![v252.toNat, 0, 0, 0]

def k0_chk100 (v0 : BitVec 32) (k0_t4 : Fin (k0_t4_loop v0).trips) (v252 : BitVec 32) : Prop :=
  (∀ (k0_h7 : k0_cond7 v0 k0_t4 = 1#1), ∀ a, (k0_off408 v252) a + S1x2x128x128.size a ≤ S1024x2x128x128.size a) ∧
  (∀ (k0_h7 : k0_cond7 v0 k0_t4 = 1#1), ∀ (hinb : ∀ a, (k0_off408 v252) a + S1x2x128x128.size a ≤ S1024x2x128x128.size a), (Rect.unit (s := S1024x2x128x128) (k0_off408 v252) S1x2x128x128.size hinb).WholeWords (EltTy.packing .fp8e4m3))
theorem k0_off408_inb : ∀ (v0 : BitVec 32) (k0_t4 : Fin (k0_t4_loop v0).trips) (v252 : BitVec 32) (k0_hw100 : k0_chk100 v0 k0_t4 v252), ∀ (k0_h7 : k0_cond7 v0 k0_t4 = 1#1), ∀ a, (k0_off408 v252) a + S1x2x128x128.size a ≤ S1024x2x128x128.size a := fun v0 k0_t4 v252 k0_hw100 k0_h7 => k0_hw100.1 k0_h7
theorem k0_off408_wordsfp8e4m3 : ∀ (v0 : BitVec 32) (k0_t4 : Fin (k0_t4_loop v0).trips) (v252 : BitVec 32) (k0_hw100 : k0_chk100 v0 k0_t4 v252), ∀ (k0_h7 : k0_cond7 v0 k0_t4 = 1#1), (Rect.unit (s := S1024x2x128x128) (k0_off408 v252) S1x2x128x128.size (k0_off408_inb v0 k0_t4 v252 k0_hw100 k0_h7)).WholeWords (EltTy.packing .fp8e4m3) := fun v0 k0_t4 v252 k0_hw100 k0_h7 => k0_hw100.2 k0_h7 (k0_off408_inb v0 k0_t4 v252 k0_hw100 k0_h7)

def k0_off409 (v0 : BitVec 32) (k0_t4 : Fin (k0_t4_loop v0).trips) : Fin 2 → Nat :=
  let c0_101 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c3_i32 : BitVec 32 := 3#32
  let v259 : BitVec 32 := Scalar.addi v231 c3_i32
  let v260 : Index := Scalar.indexCast v259
  ![0, v260.toNat]
def k0_off410 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off411 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c3_i32_102 : BitVec 32 := 3#32
  let c0_i32_103 : BitVec 32 := 0#32
  let c0_i32_104 : BitVec 32 := 0#32
  let c0_i32_105 : BitVec 32 := 0#32
  ![v190.toNat, 3, 0, 0, 0]
def k0_off412 (v261 : BitVec 32) : Fin 4 → Nat :=
  let c0_i32_106 : BitVec 32 := 0#32
  let c0_i32_107 : BitVec 32 := 0#32
  let c0_i32_108 : BitVec 32 := 0#32
  ![v261.toNat, 0, 0, 0]

def k0_chk101 (v0 : BitVec 32) (k0_t4 : Fin (k0_t4_loop v0).trips) (v261 : BitVec 32) : Prop :=
  (∀ (k0_h7 : k0_cond7 v0 k0_t4 = 1#1), ∀ a, (k0_off412 v261) a + S1x2x128x128.size a ≤ S1024x2x128x128.size a) ∧
  (∀ (k0_h7 : k0_cond7 v0 k0_t4 = 1#1), ∀ (hinb : ∀ a, (k0_off412 v261) a + S1x2x128x128.size a ≤ S1024x2x128x128.size a), (Rect.unit (s := S1024x2x128x128) (k0_off412 v261) S1x2x128x128.size hinb).WholeWords (EltTy.packing .fp8e4m3))
theorem k0_off412_inb : ∀ (v0 : BitVec 32) (k0_t4 : Fin (k0_t4_loop v0).trips) (v261 : BitVec 32) (k0_hw101 : k0_chk101 v0 k0_t4 v261), ∀ (k0_h7 : k0_cond7 v0 k0_t4 = 1#1), ∀ a, (k0_off412 v261) a + S1x2x128x128.size a ≤ S1024x2x128x128.size a := fun v0 k0_t4 v261 k0_hw101 k0_h7 => k0_hw101.1 k0_h7
theorem k0_off412_wordsfp8e4m3 : ∀ (v0 : BitVec 32) (k0_t4 : Fin (k0_t4_loop v0).trips) (v261 : BitVec 32) (k0_hw101 : k0_chk101 v0 k0_t4 v261), ∀ (k0_h7 : k0_cond7 v0 k0_t4 = 1#1), (Rect.unit (s := S1024x2x128x128) (k0_off412 v261) S1x2x128x128.size (k0_off412_inb v0 k0_t4 v261 k0_hw101 k0_h7)).WholeWords (EltTy.packing .fp8e4m3) := fun v0 k0_t4 v261 k0_hw101 k0_h7 => k0_hw101.2 k0_h7 (k0_off412_inb v0 k0_t4 v261 k0_hw101 k0_h7)

def k0_off413 (v0 : BitVec 32) (k0_t4 : Fin (k0_t4_loop v0).trips) : Fin 2 → Nat :=
  let c0_109 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c4_i32 : BitVec 32 := 4#32
  let v268 : BitVec 32 := Scalar.addi v231 c4_i32
  let v269 : Index := Scalar.indexCast v268
  ![0, v269.toNat]
def k0_off414 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off415 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c4_i32_110 : BitVec 32 := 4#32
  let c0_i32_111 : BitVec 32 := 0#32
  let c0_i32_112 : BitVec 32 := 0#32
  let c0_i32_113 : BitVec 32 := 0#32
  ![v190.toNat, 4, 0, 0, 0]
def k0_off416 (v270 : BitVec 32) : Fin 4 → Nat :=
  let c0_i32_114 : BitVec 32 := 0#32
  let c0_i32_115 : BitVec 32 := 0#32
  let c0_i32_116 : BitVec 32 := 0#32
  ![v270.toNat, 0, 0, 0]

def k0_chk102 (v0 : BitVec 32) (k0_t4 : Fin (k0_t4_loop v0).trips) (v270 : BitVec 32) : Prop :=
  (∀ (k0_h7 : k0_cond7 v0 k0_t4 = 1#1), ∀ a, (k0_off416 v270) a + S1x2x128x128.size a ≤ S1024x2x128x128.size a) ∧
  (∀ (k0_h7 : k0_cond7 v0 k0_t4 = 1#1), ∀ (hinb : ∀ a, (k0_off416 v270) a + S1x2x128x128.size a ≤ S1024x2x128x128.size a), (Rect.unit (s := S1024x2x128x128) (k0_off416 v270) S1x2x128x128.size hinb).WholeWords (EltTy.packing .fp8e4m3))
theorem k0_off416_inb : ∀ (v0 : BitVec 32) (k0_t4 : Fin (k0_t4_loop v0).trips) (v270 : BitVec 32) (k0_hw102 : k0_chk102 v0 k0_t4 v270), ∀ (k0_h7 : k0_cond7 v0 k0_t4 = 1#1), ∀ a, (k0_off416 v270) a + S1x2x128x128.size a ≤ S1024x2x128x128.size a := fun v0 k0_t4 v270 k0_hw102 k0_h7 => k0_hw102.1 k0_h7
theorem k0_off416_wordsfp8e4m3 : ∀ (v0 : BitVec 32) (k0_t4 : Fin (k0_t4_loop v0).trips) (v270 : BitVec 32) (k0_hw102 : k0_chk102 v0 k0_t4 v270), ∀ (k0_h7 : k0_cond7 v0 k0_t4 = 1#1), (Rect.unit (s := S1024x2x128x128) (k0_off416 v270) S1x2x128x128.size (k0_off416_inb v0 k0_t4 v270 k0_hw102 k0_h7)).WholeWords (EltTy.packing .fp8e4m3) := fun v0 k0_t4 v270 k0_hw102 k0_h7 => k0_hw102.2 k0_h7 (k0_off416_inb v0 k0_t4 v270 k0_hw102 k0_h7)

def k0_off417 (v0 : BitVec 32) (k0_t4 : Fin (k0_t4_loop v0).trips) : Fin 2 → Nat :=
  let c0_117 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c5_i32 : BitVec 32 := 5#32
  let v277 : BitVec 32 := Scalar.addi v231 c5_i32
  let v278 : Index := Scalar.indexCast v277
  ![0, v278.toNat]
def k0_off418 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off419 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c5_i32_118 : BitVec 32 := 5#32
  let c0_i32_119 : BitVec 32 := 0#32
  let c0_i32_120 : BitVec 32 := 0#32
  let c0_i32_121 : BitVec 32 := 0#32
  ![v190.toNat, 5, 0, 0, 0]
def k0_off420 (v279 : BitVec 32) : Fin 4 → Nat :=
  let c0_i32_122 : BitVec 32 := 0#32
  let c0_i32_123 : BitVec 32 := 0#32
  let c0_i32_124 : BitVec 32 := 0#32
  ![v279.toNat, 0, 0, 0]

def k0_chk103 (v0 : BitVec 32) (k0_t4 : Fin (k0_t4_loop v0).trips) (v279 : BitVec 32) : Prop :=
  (∀ (k0_h7 : k0_cond7 v0 k0_t4 = 1#1), ∀ a, (k0_off420 v279) a + S1x2x128x128.size a ≤ S1024x2x128x128.size a) ∧
  (∀ (k0_h7 : k0_cond7 v0 k0_t4 = 1#1), ∀ (hinb : ∀ a, (k0_off420 v279) a + S1x2x128x128.size a ≤ S1024x2x128x128.size a), (Rect.unit (s := S1024x2x128x128) (k0_off420 v279) S1x2x128x128.size hinb).WholeWords (EltTy.packing .fp8e4m3))
theorem k0_off420_inb : ∀ (v0 : BitVec 32) (k0_t4 : Fin (k0_t4_loop v0).trips) (v279 : BitVec 32) (k0_hw103 : k0_chk103 v0 k0_t4 v279), ∀ (k0_h7 : k0_cond7 v0 k0_t4 = 1#1), ∀ a, (k0_off420 v279) a + S1x2x128x128.size a ≤ S1024x2x128x128.size a := fun v0 k0_t4 v279 k0_hw103 k0_h7 => k0_hw103.1 k0_h7
theorem k0_off420_wordsfp8e4m3 : ∀ (v0 : BitVec 32) (k0_t4 : Fin (k0_t4_loop v0).trips) (v279 : BitVec 32) (k0_hw103 : k0_chk103 v0 k0_t4 v279), ∀ (k0_h7 : k0_cond7 v0 k0_t4 = 1#1), (Rect.unit (s := S1024x2x128x128) (k0_off420 v279) S1x2x128x128.size (k0_off420_inb v0 k0_t4 v279 k0_hw103 k0_h7)).WholeWords (EltTy.packing .fp8e4m3) := fun v0 k0_t4 v279 k0_hw103 k0_h7 => k0_hw103.2 k0_h7 (k0_off420_inb v0 k0_t4 v279 k0_hw103 k0_h7)

def k0_off421 (v0 : BitVec 32) (k0_t4 : Fin (k0_t4_loop v0).trips) : Fin 2 → Nat :=
  let c0_125 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c6_i32 : BitVec 32 := 6#32
  let v286 : BitVec 32 := Scalar.addi v231 c6_i32
  let v287 : Index := Scalar.indexCast v286
  ![0, v287.toNat]
def k0_off422 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off423 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c6_i32_126 : BitVec 32 := 6#32
  let c0_i32_127 : BitVec 32 := 0#32
  let c0_i32_128 : BitVec 32 := 0#32
  let c0_i32_129 : BitVec 32 := 0#32
  ![v190.toNat, 6, 0, 0, 0]
def k0_off424 (v288 : BitVec 32) : Fin 4 → Nat :=
  let c0_i32_130 : BitVec 32 := 0#32
  let c0_i32_131 : BitVec 32 := 0#32
  let c0_i32_132 : BitVec 32 := 0#32
  ![v288.toNat, 0, 0, 0]

def k0_chk104 (v0 : BitVec 32) (k0_t4 : Fin (k0_t4_loop v0).trips) (v288 : BitVec 32) : Prop :=
  (∀ (k0_h7 : k0_cond7 v0 k0_t4 = 1#1), ∀ a, (k0_off424 v288) a + S1x2x128x128.size a ≤ S1024x2x128x128.size a) ∧
  (∀ (k0_h7 : k0_cond7 v0 k0_t4 = 1#1), ∀ (hinb : ∀ a, (k0_off424 v288) a + S1x2x128x128.size a ≤ S1024x2x128x128.size a), (Rect.unit (s := S1024x2x128x128) (k0_off424 v288) S1x2x128x128.size hinb).WholeWords (EltTy.packing .fp8e4m3))
theorem k0_off424_inb : ∀ (v0 : BitVec 32) (k0_t4 : Fin (k0_t4_loop v0).trips) (v288 : BitVec 32) (k0_hw104 : k0_chk104 v0 k0_t4 v288), ∀ (k0_h7 : k0_cond7 v0 k0_t4 = 1#1), ∀ a, (k0_off424 v288) a + S1x2x128x128.size a ≤ S1024x2x128x128.size a := fun v0 k0_t4 v288 k0_hw104 k0_h7 => k0_hw104.1 k0_h7
theorem k0_off424_wordsfp8e4m3 : ∀ (v0 : BitVec 32) (k0_t4 : Fin (k0_t4_loop v0).trips) (v288 : BitVec 32) (k0_hw104 : k0_chk104 v0 k0_t4 v288), ∀ (k0_h7 : k0_cond7 v0 k0_t4 = 1#1), (Rect.unit (s := S1024x2x128x128) (k0_off424 v288) S1x2x128x128.size (k0_off424_inb v0 k0_t4 v288 k0_hw104 k0_h7)).WholeWords (EltTy.packing .fp8e4m3) := fun v0 k0_t4 v288 k0_hw104 k0_h7 => k0_hw104.2 k0_h7 (k0_off424_inb v0 k0_t4 v288 k0_hw104 k0_h7)

def k0_off425 (v0 : BitVec 32) (k0_t4 : Fin (k0_t4_loop v0).trips) : Fin 2 → Nat :=
  let c0_133 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c7_i32 : BitVec 32 := 7#32
  let v295 : BitVec 32 := Scalar.addi v231 c7_i32
  let v296 : Index := Scalar.indexCast v295
  ![0, v296.toNat]
def k0_off426 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off427 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c7_i32_134 : BitVec 32 := 7#32
  let c0_i32_135 : BitVec 32 := 0#32
  let c0_i32_136 : BitVec 32 := 0#32
  let c0_i32_137 : BitVec 32 := 0#32
  ![v190.toNat, 7, 0, 0, 0]
def k0_off428 (v297 : BitVec 32) : Fin 4 → Nat :=
  let c0_i32_138 : BitVec 32 := 0#32
  let c0_i32_139 : BitVec 32 := 0#32
  let c0_i32_140 : BitVec 32 := 0#32
  ![v297.toNat, 0, 0, 0]

def k0_chk105 (v0 : BitVec 32) (k0_t4 : Fin (k0_t4_loop v0).trips) (v297 : BitVec 32) : Prop :=
  (∀ (k0_h7 : k0_cond7 v0 k0_t4 = 1#1), ∀ a, (k0_off428 v297) a + S1x2x128x128.size a ≤ S1024x2x128x128.size a) ∧
  (∀ (k0_h7 : k0_cond7 v0 k0_t4 = 1#1), ∀ (hinb : ∀ a, (k0_off428 v297) a + S1x2x128x128.size a ≤ S1024x2x128x128.size a), (Rect.unit (s := S1024x2x128x128) (k0_off428 v297) S1x2x128x128.size hinb).WholeWords (EltTy.packing .fp8e4m3))
theorem k0_off428_inb : ∀ (v0 : BitVec 32) (k0_t4 : Fin (k0_t4_loop v0).trips) (v297 : BitVec 32) (k0_hw105 : k0_chk105 v0 k0_t4 v297), ∀ (k0_h7 : k0_cond7 v0 k0_t4 = 1#1), ∀ a, (k0_off428 v297) a + S1x2x128x128.size a ≤ S1024x2x128x128.size a := fun v0 k0_t4 v297 k0_hw105 k0_h7 => k0_hw105.1 k0_h7
theorem k0_off428_wordsfp8e4m3 : ∀ (v0 : BitVec 32) (k0_t4 : Fin (k0_t4_loop v0).trips) (v297 : BitVec 32) (k0_hw105 : k0_chk105 v0 k0_t4 v297), ∀ (k0_h7 : k0_cond7 v0 k0_t4 = 1#1), (Rect.unit (s := S1024x2x128x128) (k0_off428 v297) S1x2x128x128.size (k0_off428_inb v0 k0_t4 v297 k0_hw105 k0_h7)).WholeWords (EltTy.packing .fp8e4m3) := fun v0 k0_t4 v297 k0_hw105 k0_h7 => k0_hw105.2 k0_h7 (k0_off428_inb v0 k0_t4 v297 k0_hw105 k0_h7)

def k0_off429 (v0 : BitVec 32) (k0_t4 : Fin (k0_t4_loop v0).trips) : Fin 2 → Nat :=
  let c0_142 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c8_i32_141 : BitVec 32 := 8#32
  let v304 : BitVec 32 := Scalar.addi v231 c8_i32_141
  let v305 : Index := Scalar.indexCast v304
  ![0, v305.toNat]
def k0_off430 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off431 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c8_i32_143 : BitVec 32 := 8#32
  let c0_i32_144 : BitVec 32 := 0#32
  let c0_i32_145 : BitVec 32 := 0#32
  let c0_i32_146 : BitVec 32 := 0#32
  ![v190.toNat, 8, 0, 0, 0]
def k0_off432 (v306 : BitVec 32) : Fin 4 → Nat :=
  let c0_i32_147 : BitVec 32 := 0#32
  let c0_i32_148 : BitVec 32 := 0#32
  let c0_i32_149 : BitVec 32 := 0#32
  ![v306.toNat, 0, 0, 0]

def k0_chk106 (v0 : BitVec 32) (k0_t4 : Fin (k0_t4_loop v0).trips) (v306 : BitVec 32) : Prop :=
  (∀ (k0_h7 : k0_cond7 v0 k0_t4 = 1#1), ∀ a, (k0_off432 v306) a + S1x2x128x128.size a ≤ S1024x2x128x128.size a) ∧
  (∀ (k0_h7 : k0_cond7 v0 k0_t4 = 1#1), ∀ (hinb : ∀ a, (k0_off432 v306) a + S1x2x128x128.size a ≤ S1024x2x128x128.size a), (Rect.unit (s := S1024x2x128x128) (k0_off432 v306) S1x2x128x128.size hinb).WholeWords (EltTy.packing .fp8e4m3))
theorem k0_off432_inb : ∀ (v0 : BitVec 32) (k0_t4 : Fin (k0_t4_loop v0).trips) (v306 : BitVec 32) (k0_hw106 : k0_chk106 v0 k0_t4 v306), ∀ (k0_h7 : k0_cond7 v0 k0_t4 = 1#1), ∀ a, (k0_off432 v306) a + S1x2x128x128.size a ≤ S1024x2x128x128.size a := fun v0 k0_t4 v306 k0_hw106 k0_h7 => k0_hw106.1 k0_h7
theorem k0_off432_wordsfp8e4m3 : ∀ (v0 : BitVec 32) (k0_t4 : Fin (k0_t4_loop v0).trips) (v306 : BitVec 32) (k0_hw106 : k0_chk106 v0 k0_t4 v306), ∀ (k0_h7 : k0_cond7 v0 k0_t4 = 1#1), (Rect.unit (s := S1024x2x128x128) (k0_off432 v306) S1x2x128x128.size (k0_off432_inb v0 k0_t4 v306 k0_hw106 k0_h7)).WholeWords (EltTy.packing .fp8e4m3) := fun v0 k0_t4 v306 k0_hw106 k0_h7 => k0_hw106.2 k0_h7 (k0_off432_inb v0 k0_t4 v306 k0_hw106 k0_h7)

def k0_off433 (v0 : BitVec 32) (k0_t4 : Fin (k0_t4_loop v0).trips) : Fin 2 → Nat :=
  let c0_150 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c9_i32 : BitVec 32 := 9#32
  let v313 : BitVec 32 := Scalar.addi v231 c9_i32
  let v314 : Index := Scalar.indexCast v313
  ![0, v314.toNat]
def k0_off434 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off435 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c9_i32_151 : BitVec 32 := 9#32
  let c0_i32_152 : BitVec 32 := 0#32
  let c0_i32_153 : BitVec 32 := 0#32
  let c0_i32_154 : BitVec 32 := 0#32
  ![v190.toNat, 9, 0, 0, 0]
def k0_off436 (v315 : BitVec 32) : Fin 4 → Nat :=
  let c0_i32_155 : BitVec 32 := 0#32
  let c0_i32_156 : BitVec 32 := 0#32
  let c0_i32_157 : BitVec 32 := 0#32
  ![v315.toNat, 0, 0, 0]

def k0_chk107 (v0 : BitVec 32) (k0_t4 : Fin (k0_t4_loop v0).trips) (v315 : BitVec 32) : Prop :=
  (∀ (k0_h7 : k0_cond7 v0 k0_t4 = 1#1), ∀ a, (k0_off436 v315) a + S1x2x128x128.size a ≤ S1024x2x128x128.size a) ∧
  (∀ (k0_h7 : k0_cond7 v0 k0_t4 = 1#1), ∀ (hinb : ∀ a, (k0_off436 v315) a + S1x2x128x128.size a ≤ S1024x2x128x128.size a), (Rect.unit (s := S1024x2x128x128) (k0_off436 v315) S1x2x128x128.size hinb).WholeWords (EltTy.packing .fp8e4m3))
theorem k0_off436_inb : ∀ (v0 : BitVec 32) (k0_t4 : Fin (k0_t4_loop v0).trips) (v315 : BitVec 32) (k0_hw107 : k0_chk107 v0 k0_t4 v315), ∀ (k0_h7 : k0_cond7 v0 k0_t4 = 1#1), ∀ a, (k0_off436 v315) a + S1x2x128x128.size a ≤ S1024x2x128x128.size a := fun v0 k0_t4 v315 k0_hw107 k0_h7 => k0_hw107.1 k0_h7
theorem k0_off436_wordsfp8e4m3 : ∀ (v0 : BitVec 32) (k0_t4 : Fin (k0_t4_loop v0).trips) (v315 : BitVec 32) (k0_hw107 : k0_chk107 v0 k0_t4 v315), ∀ (k0_h7 : k0_cond7 v0 k0_t4 = 1#1), (Rect.unit (s := S1024x2x128x128) (k0_off436 v315) S1x2x128x128.size (k0_off436_inb v0 k0_t4 v315 k0_hw107 k0_h7)).WholeWords (EltTy.packing .fp8e4m3) := fun v0 k0_t4 v315 k0_hw107 k0_h7 => k0_hw107.2 k0_h7 (k0_off436_inb v0 k0_t4 v315 k0_hw107 k0_h7)

def k0_off437 (v0 : BitVec 32) (k0_t4 : Fin (k0_t4_loop v0).trips) : Fin 2 → Nat :=
  let c0_158 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c10_i32 : BitVec 32 := 10#32
  let v322 : BitVec 32 := Scalar.addi v231 c10_i32
  let v323 : Index := Scalar.indexCast v322
  ![0, v323.toNat]
def k0_off438 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off439 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c10_i32_159 : BitVec 32 := 10#32
  let c0_i32_160 : BitVec 32 := 0#32
  let c0_i32_161 : BitVec 32 := 0#32
  let c0_i32_162 : BitVec 32 := 0#32
  ![v190.toNat, 10, 0, 0, 0]
def k0_off440 (v324 : BitVec 32) : Fin 4 → Nat :=
  let c0_i32_163 : BitVec 32 := 0#32
  let c0_i32_164 : BitVec 32 := 0#32
  let c0_i32_165 : BitVec 32 := 0#32
  ![v324.toNat, 0, 0, 0]

def k0_chk108 (v0 : BitVec 32) (k0_t4 : Fin (k0_t4_loop v0).trips) (v324 : BitVec 32) : Prop :=
  (∀ (k0_h7 : k0_cond7 v0 k0_t4 = 1#1), ∀ a, (k0_off440 v324) a + S1x2x128x128.size a ≤ S1024x2x128x128.size a) ∧
  (∀ (k0_h7 : k0_cond7 v0 k0_t4 = 1#1), ∀ (hinb : ∀ a, (k0_off440 v324) a + S1x2x128x128.size a ≤ S1024x2x128x128.size a), (Rect.unit (s := S1024x2x128x128) (k0_off440 v324) S1x2x128x128.size hinb).WholeWords (EltTy.packing .fp8e4m3))
theorem k0_off440_inb : ∀ (v0 : BitVec 32) (k0_t4 : Fin (k0_t4_loop v0).trips) (v324 : BitVec 32) (k0_hw108 : k0_chk108 v0 k0_t4 v324), ∀ (k0_h7 : k0_cond7 v0 k0_t4 = 1#1), ∀ a, (k0_off440 v324) a + S1x2x128x128.size a ≤ S1024x2x128x128.size a := fun v0 k0_t4 v324 k0_hw108 k0_h7 => k0_hw108.1 k0_h7
theorem k0_off440_wordsfp8e4m3 : ∀ (v0 : BitVec 32) (k0_t4 : Fin (k0_t4_loop v0).trips) (v324 : BitVec 32) (k0_hw108 : k0_chk108 v0 k0_t4 v324), ∀ (k0_h7 : k0_cond7 v0 k0_t4 = 1#1), (Rect.unit (s := S1024x2x128x128) (k0_off440 v324) S1x2x128x128.size (k0_off440_inb v0 k0_t4 v324 k0_hw108 k0_h7)).WholeWords (EltTy.packing .fp8e4m3) := fun v0 k0_t4 v324 k0_hw108 k0_h7 => k0_hw108.2 k0_h7 (k0_off440_inb v0 k0_t4 v324 k0_hw108 k0_h7)

def k0_off441 (v0 : BitVec 32) (k0_t4 : Fin (k0_t4_loop v0).trips) : Fin 2 → Nat :=
  let c0_166 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c11_i32 : BitVec 32 := 11#32
  let v331 : BitVec 32 := Scalar.addi v231 c11_i32
  let v332 : Index := Scalar.indexCast v331
  ![0, v332.toNat]
def k0_off442 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off443 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c11_i32_167 : BitVec 32 := 11#32
  let c0_i32_168 : BitVec 32 := 0#32
  let c0_i32_169 : BitVec 32 := 0#32
  let c0_i32_170 : BitVec 32 := 0#32
  ![v190.toNat, 11, 0, 0, 0]
def k0_off444 (v333 : BitVec 32) : Fin 4 → Nat :=
  let c0_i32_171 : BitVec 32 := 0#32
  let c0_i32_172 : BitVec 32 := 0#32
  let c0_i32_173 : BitVec 32 := 0#32
  ![v333.toNat, 0, 0, 0]

def k0_chk109 (v0 : BitVec 32) (k0_t4 : Fin (k0_t4_loop v0).trips) (v333 : BitVec 32) : Prop :=
  (∀ (k0_h7 : k0_cond7 v0 k0_t4 = 1#1), ∀ a, (k0_off444 v333) a + S1x2x128x128.size a ≤ S1024x2x128x128.size a) ∧
  (∀ (k0_h7 : k0_cond7 v0 k0_t4 = 1#1), ∀ (hinb : ∀ a, (k0_off444 v333) a + S1x2x128x128.size a ≤ S1024x2x128x128.size a), (Rect.unit (s := S1024x2x128x128) (k0_off444 v333) S1x2x128x128.size hinb).WholeWords (EltTy.packing .fp8e4m3))
theorem k0_off444_inb : ∀ (v0 : BitVec 32) (k0_t4 : Fin (k0_t4_loop v0).trips) (v333 : BitVec 32) (k0_hw109 : k0_chk109 v0 k0_t4 v333), ∀ (k0_h7 : k0_cond7 v0 k0_t4 = 1#1), ∀ a, (k0_off444 v333) a + S1x2x128x128.size a ≤ S1024x2x128x128.size a := fun v0 k0_t4 v333 k0_hw109 k0_h7 => k0_hw109.1 k0_h7
theorem k0_off444_wordsfp8e4m3 : ∀ (v0 : BitVec 32) (k0_t4 : Fin (k0_t4_loop v0).trips) (v333 : BitVec 32) (k0_hw109 : k0_chk109 v0 k0_t4 v333), ∀ (k0_h7 : k0_cond7 v0 k0_t4 = 1#1), (Rect.unit (s := S1024x2x128x128) (k0_off444 v333) S1x2x128x128.size (k0_off444_inb v0 k0_t4 v333 k0_hw109 k0_h7)).WholeWords (EltTy.packing .fp8e4m3) := fun v0 k0_t4 v333 k0_hw109 k0_h7 => k0_hw109.2 k0_h7 (k0_off444_inb v0 k0_t4 v333 k0_hw109 k0_h7)

def k0_off445 (v0 : BitVec 32) (k0_t4 : Fin (k0_t4_loop v0).trips) : Fin 2 → Nat :=
  let c0_174 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c12_i32 : BitVec 32 := 12#32
  let v340 : BitVec 32 := Scalar.addi v231 c12_i32
  let v341 : Index := Scalar.indexCast v340
  ![0, v341.toNat]
def k0_off446 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off447 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c12_i32_175 : BitVec 32 := 12#32
  let c0_i32_176 : BitVec 32 := 0#32
  let c0_i32_177 : BitVec 32 := 0#32
  let c0_i32_178 : BitVec 32 := 0#32
  ![v190.toNat, 12, 0, 0, 0]
def k0_off448 (v342 : BitVec 32) : Fin 4 → Nat :=
  let c0_i32_179 : BitVec 32 := 0#32
  let c0_i32_180 : BitVec 32 := 0#32
  let c0_i32_181 : BitVec 32 := 0#32
  ![v342.toNat, 0, 0, 0]

def k0_chk110 (v0 : BitVec 32) (k0_t4 : Fin (k0_t4_loop v0).trips) (v342 : BitVec 32) : Prop :=
  (∀ (k0_h7 : k0_cond7 v0 k0_t4 = 1#1), ∀ a, (k0_off448 v342) a + S1x2x128x128.size a ≤ S1024x2x128x128.size a) ∧
  (∀ (k0_h7 : k0_cond7 v0 k0_t4 = 1#1), ∀ (hinb : ∀ a, (k0_off448 v342) a + S1x2x128x128.size a ≤ S1024x2x128x128.size a), (Rect.unit (s := S1024x2x128x128) (k0_off448 v342) S1x2x128x128.size hinb).WholeWords (EltTy.packing .fp8e4m3))
theorem k0_off448_inb : ∀ (v0 : BitVec 32) (k0_t4 : Fin (k0_t4_loop v0).trips) (v342 : BitVec 32) (k0_hw110 : k0_chk110 v0 k0_t4 v342), ∀ (k0_h7 : k0_cond7 v0 k0_t4 = 1#1), ∀ a, (k0_off448 v342) a + S1x2x128x128.size a ≤ S1024x2x128x128.size a := fun v0 k0_t4 v342 k0_hw110 k0_h7 => k0_hw110.1 k0_h7
theorem k0_off448_wordsfp8e4m3 : ∀ (v0 : BitVec 32) (k0_t4 : Fin (k0_t4_loop v0).trips) (v342 : BitVec 32) (k0_hw110 : k0_chk110 v0 k0_t4 v342), ∀ (k0_h7 : k0_cond7 v0 k0_t4 = 1#1), (Rect.unit (s := S1024x2x128x128) (k0_off448 v342) S1x2x128x128.size (k0_off448_inb v0 k0_t4 v342 k0_hw110 k0_h7)).WholeWords (EltTy.packing .fp8e4m3) := fun v0 k0_t4 v342 k0_hw110 k0_h7 => k0_hw110.2 k0_h7 (k0_off448_inb v0 k0_t4 v342 k0_hw110 k0_h7)

def k0_off449 (v0 : BitVec 32) (k0_t4 : Fin (k0_t4_loop v0).trips) : Fin 2 → Nat :=
  let c0_182 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c13_i32 : BitVec 32 := 13#32
  let v349 : BitVec 32 := Scalar.addi v231 c13_i32
  let v350 : Index := Scalar.indexCast v349
  ![0, v350.toNat]
def k0_off450 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off451 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c13_i32_183 : BitVec 32 := 13#32
  let c0_i32_184 : BitVec 32 := 0#32
  let c0_i32_185 : BitVec 32 := 0#32
  let c0_i32_186 : BitVec 32 := 0#32
  ![v190.toNat, 13, 0, 0, 0]
def k0_off452 (v351 : BitVec 32) : Fin 4 → Nat :=
  let c0_i32_187 : BitVec 32 := 0#32
  let c0_i32_188 : BitVec 32 := 0#32
  let c0_i32_189 : BitVec 32 := 0#32
  ![v351.toNat, 0, 0, 0]

def k0_chk111 (v0 : BitVec 32) (k0_t4 : Fin (k0_t4_loop v0).trips) (v351 : BitVec 32) : Prop :=
  (∀ (k0_h7 : k0_cond7 v0 k0_t4 = 1#1), ∀ a, (k0_off452 v351) a + S1x2x128x128.size a ≤ S1024x2x128x128.size a) ∧
  (∀ (k0_h7 : k0_cond7 v0 k0_t4 = 1#1), ∀ (hinb : ∀ a, (k0_off452 v351) a + S1x2x128x128.size a ≤ S1024x2x128x128.size a), (Rect.unit (s := S1024x2x128x128) (k0_off452 v351) S1x2x128x128.size hinb).WholeWords (EltTy.packing .fp8e4m3))
theorem k0_off452_inb : ∀ (v0 : BitVec 32) (k0_t4 : Fin (k0_t4_loop v0).trips) (v351 : BitVec 32) (k0_hw111 : k0_chk111 v0 k0_t4 v351), ∀ (k0_h7 : k0_cond7 v0 k0_t4 = 1#1), ∀ a, (k0_off452 v351) a + S1x2x128x128.size a ≤ S1024x2x128x128.size a := fun v0 k0_t4 v351 k0_hw111 k0_h7 => k0_hw111.1 k0_h7
theorem k0_off452_wordsfp8e4m3 : ∀ (v0 : BitVec 32) (k0_t4 : Fin (k0_t4_loop v0).trips) (v351 : BitVec 32) (k0_hw111 : k0_chk111 v0 k0_t4 v351), ∀ (k0_h7 : k0_cond7 v0 k0_t4 = 1#1), (Rect.unit (s := S1024x2x128x128) (k0_off452 v351) S1x2x128x128.size (k0_off452_inb v0 k0_t4 v351 k0_hw111 k0_h7)).WholeWords (EltTy.packing .fp8e4m3) := fun v0 k0_t4 v351 k0_hw111 k0_h7 => k0_hw111.2 k0_h7 (k0_off452_inb v0 k0_t4 v351 k0_hw111 k0_h7)

def k0_off453 (v0 : BitVec 32) (k0_t4 : Fin (k0_t4_loop v0).trips) : Fin 2 → Nat :=
  let c0_190 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c14_i32 : BitVec 32 := 14#32
  let v358 : BitVec 32 := Scalar.addi v231 c14_i32
  let v359 : Index := Scalar.indexCast v358
  ![0, v359.toNat]
def k0_off454 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off455 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c14_i32_191 : BitVec 32 := 14#32
  let c0_i32_192 : BitVec 32 := 0#32
  let c0_i32_193 : BitVec 32 := 0#32
  let c0_i32_194 : BitVec 32 := 0#32
  ![v190.toNat, 14, 0, 0, 0]
def k0_off456 (v360 : BitVec 32) : Fin 4 → Nat :=
  let c0_i32_195 : BitVec 32 := 0#32
  let c0_i32_196 : BitVec 32 := 0#32
  let c0_i32_197 : BitVec 32 := 0#32
  ![v360.toNat, 0, 0, 0]

def k0_chk112 (v0 : BitVec 32) (k0_t4 : Fin (k0_t4_loop v0).trips) (v360 : BitVec 32) : Prop :=
  (∀ (k0_h7 : k0_cond7 v0 k0_t4 = 1#1), ∀ a, (k0_off456 v360) a + S1x2x128x128.size a ≤ S1024x2x128x128.size a) ∧
  (∀ (k0_h7 : k0_cond7 v0 k0_t4 = 1#1), ∀ (hinb : ∀ a, (k0_off456 v360) a + S1x2x128x128.size a ≤ S1024x2x128x128.size a), (Rect.unit (s := S1024x2x128x128) (k0_off456 v360) S1x2x128x128.size hinb).WholeWords (EltTy.packing .fp8e4m3))
theorem k0_off456_inb : ∀ (v0 : BitVec 32) (k0_t4 : Fin (k0_t4_loop v0).trips) (v360 : BitVec 32) (k0_hw112 : k0_chk112 v0 k0_t4 v360), ∀ (k0_h7 : k0_cond7 v0 k0_t4 = 1#1), ∀ a, (k0_off456 v360) a + S1x2x128x128.size a ≤ S1024x2x128x128.size a := fun v0 k0_t4 v360 k0_hw112 k0_h7 => k0_hw112.1 k0_h7
theorem k0_off456_wordsfp8e4m3 : ∀ (v0 : BitVec 32) (k0_t4 : Fin (k0_t4_loop v0).trips) (v360 : BitVec 32) (k0_hw112 : k0_chk112 v0 k0_t4 v360), ∀ (k0_h7 : k0_cond7 v0 k0_t4 = 1#1), (Rect.unit (s := S1024x2x128x128) (k0_off456 v360) S1x2x128x128.size (k0_off456_inb v0 k0_t4 v360 k0_hw112 k0_h7)).WholeWords (EltTy.packing .fp8e4m3) := fun v0 k0_t4 v360 k0_hw112 k0_h7 => k0_hw112.2 k0_h7 (k0_off456_inb v0 k0_t4 v360 k0_hw112 k0_h7)

def k0_off457 (v0 : BitVec 32) (k0_t4 : Fin (k0_t4_loop v0).trips) : Fin 2 → Nat :=
  let c0_198 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c15_i32 : BitVec 32 := 15#32
  let v367 : BitVec 32 := Scalar.addi v231 c15_i32
  let v368 : Index := Scalar.indexCast v367
  ![0, v368.toNat]
def k0_off458 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off459 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c15_i32_199 : BitVec 32 := 15#32
  let c0_i32_200 : BitVec 32 := 0#32
  let c0_i32_201 : BitVec 32 := 0#32
  let c0_i32_202 : BitVec 32 := 0#32
  ![v190.toNat, 15, 0, 0, 0]
def k0_off460 (v369 : BitVec 32) : Fin 4 → Nat :=
  let c0_i32_203 : BitVec 32 := 0#32
  let c0_i32_204 : BitVec 32 := 0#32
  let c0_i32_205 : BitVec 32 := 0#32
  ![v369.toNat, 0, 0, 0]

def k0_chk113 (v0 : BitVec 32) (k0_t4 : Fin (k0_t4_loop v0).trips) (v369 : BitVec 32) : Prop :=
  (∀ (k0_h7 : k0_cond7 v0 k0_t4 = 1#1), ∀ a, (k0_off460 v369) a + S1x2x128x128.size a ≤ S1024x2x128x128.size a) ∧
  (∀ (k0_h7 : k0_cond7 v0 k0_t4 = 1#1), ∀ (hinb : ∀ a, (k0_off460 v369) a + S1x2x128x128.size a ≤ S1024x2x128x128.size a), (Rect.unit (s := S1024x2x128x128) (k0_off460 v369) S1x2x128x128.size hinb).WholeWords (EltTy.packing .fp8e4m3))
theorem k0_off460_inb : ∀ (v0 : BitVec 32) (k0_t4 : Fin (k0_t4_loop v0).trips) (v369 : BitVec 32) (k0_hw113 : k0_chk113 v0 k0_t4 v369), ∀ (k0_h7 : k0_cond7 v0 k0_t4 = 1#1), ∀ a, (k0_off460 v369) a + S1x2x128x128.size a ≤ S1024x2x128x128.size a := fun v0 k0_t4 v369 k0_hw113 k0_h7 => k0_hw113.1 k0_h7
theorem k0_off460_wordsfp8e4m3 : ∀ (v0 : BitVec 32) (k0_t4 : Fin (k0_t4_loop v0).trips) (v369 : BitVec 32) (k0_hw113 : k0_chk113 v0 k0_t4 v369), ∀ (k0_h7 : k0_cond7 v0 k0_t4 = 1#1), (Rect.unit (s := S1024x2x128x128) (k0_off460 v369) S1x2x128x128.size (k0_off460_inb v0 k0_t4 v369 k0_hw113 k0_h7)).WholeWords (EltTy.packing .fp8e4m3) := fun v0 k0_t4 v369 k0_hw113 k0_h7 => k0_hw113.2 k0_h7 (k0_off460_inb v0 k0_t4 v369 k0_hw113 k0_h7)

def k0_off461 (v0 : BitVec 32) (k0_t4 : Fin (k0_t4_loop v0).trips) : Fin 2 → Nat :=
  let c0_75 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c0_i32_74 : BitVec 32 := 0#32
  let v233 : BitVec 32 := Scalar.addi v232 c0_i32_74
  let v234 : Index := Scalar.indexCast v233
  ![0, v234.toNat]
def k0_cond8 (v0 : BitVec 32) (k0_t4 : Fin (k0_t4_loop v0).trips) : BitVec 1 :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v194 : BitVec 1 := Scalar.cmpi .sge v189 v21
  let c2_i32 : BitVec 32 := 2#32
  let v22 : BitVec 32 := Scalar.muli c2_i32 v21
  let v195 : BitVec 1 := Scalar.cmpi .slt v189 v22
  let v196 : BitVec 1 := Scalar.andi v194 v195
  let v197 : BitVec 32 := Scalar.extui v196
  let c0_i32_73 : BitVec 32 := 0#32
  let v198 : BitVec 1 := Scalar.cmpi .ne v197 c0_i32_73
  v198

def k0_off462 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off463 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c0_i32_76 : BitVec 32 := 0#32
  let c0_i32_77 : BitVec 32 := 0#32
  let c0_i32_78 : BitVec 32 := 0#32
  let c0_i32_79 : BitVec 32 := 0#32
  ![v190.toNat, 0, 0, 0, 0]
def k0_off464 (v235 : BitVec 32) : Fin 4 → Nat :=
  let c0_i32_80 : BitVec 32 := 0#32
  let c0_i32_81 : BitVec 32 := 0#32
  let c0_i32_82 : BitVec 32 := 0#32
  ![v235.toNat, 0, 0, 0]

def k0_chk114 (v0 : BitVec 32) (k0_t4 : Fin (k0_t4_loop v0).trips) (v235 : BitVec 32) : Prop :=
  (∀ (k0_h8 : k0_cond8 v0 k0_t4 = 1#1), ∀ a, (k0_off464 v235) a + S1x2x128x128.size a ≤ S1024x2x128x128.size a) ∧
  (∀ (k0_h8 : k0_cond8 v0 k0_t4 = 1#1), ∀ (hinb : ∀ a, (k0_off464 v235) a + S1x2x128x128.size a ≤ S1024x2x128x128.size a), (Rect.unit (s := S1024x2x128x128) (k0_off464 v235) S1x2x128x128.size hinb).WholeWords (EltTy.packing .fp8e4m3))
theorem k0_off464_inb : ∀ (v0 : BitVec 32) (k0_t4 : Fin (k0_t4_loop v0).trips) (v235 : BitVec 32) (k0_hw114 : k0_chk114 v0 k0_t4 v235), ∀ (k0_h8 : k0_cond8 v0 k0_t4 = 1#1), ∀ a, (k0_off464 v235) a + S1x2x128x128.size a ≤ S1024x2x128x128.size a := fun v0 k0_t4 v235 k0_hw114 k0_h8 => k0_hw114.1 k0_h8
theorem k0_off464_wordsfp8e4m3 : ∀ (v0 : BitVec 32) (k0_t4 : Fin (k0_t4_loop v0).trips) (v235 : BitVec 32) (k0_hw114 : k0_chk114 v0 k0_t4 v235), ∀ (k0_h8 : k0_cond8 v0 k0_t4 = 1#1), (Rect.unit (s := S1024x2x128x128) (k0_off464 v235) S1x2x128x128.size (k0_off464_inb v0 k0_t4 v235 k0_hw114 k0_h8)).WholeWords (EltTy.packing .fp8e4m3) := fun v0 k0_t4 v235 k0_hw114 k0_h8 => k0_hw114.2 k0_h8 (k0_off464_inb v0 k0_t4 v235 k0_hw114 k0_h8)

def k0_off465 (v0 : BitVec 32) (k0_t4 : Fin (k0_t4_loop v0).trips) : Fin 2 → Nat :=
  let c0_84 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c1_i32_83 : BitVec 32 := 1#32
  let v242 : BitVec 32 := Scalar.addi v232 c1_i32_83
  let v243 : Index := Scalar.indexCast v242
  ![0, v243.toNat]
def k0_off466 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off467 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c1_i32_85 : BitVec 32 := 1#32
  let c0_i32_86 : BitVec 32 := 0#32
  let c0_i32_87 : BitVec 32 := 0#32
  let c0_i32_88 : BitVec 32 := 0#32
  ![v190.toNat, 1, 0, 0, 0]
def k0_off468 (v244 : BitVec 32) : Fin 4 → Nat :=
  let c0_i32_89 : BitVec 32 := 0#32
  let c0_i32_90 : BitVec 32 := 0#32
  let c0_i32_91 : BitVec 32 := 0#32
  ![v244.toNat, 0, 0, 0]

def k0_chk115 (v0 : BitVec 32) (k0_t4 : Fin (k0_t4_loop v0).trips) (v244 : BitVec 32) : Prop :=
  (∀ (k0_h8 : k0_cond8 v0 k0_t4 = 1#1), ∀ a, (k0_off468 v244) a + S1x2x128x128.size a ≤ S1024x2x128x128.size a) ∧
  (∀ (k0_h8 : k0_cond8 v0 k0_t4 = 1#1), ∀ (hinb : ∀ a, (k0_off468 v244) a + S1x2x128x128.size a ≤ S1024x2x128x128.size a), (Rect.unit (s := S1024x2x128x128) (k0_off468 v244) S1x2x128x128.size hinb).WholeWords (EltTy.packing .fp8e4m3))
theorem k0_off468_inb : ∀ (v0 : BitVec 32) (k0_t4 : Fin (k0_t4_loop v0).trips) (v244 : BitVec 32) (k0_hw115 : k0_chk115 v0 k0_t4 v244), ∀ (k0_h8 : k0_cond8 v0 k0_t4 = 1#1), ∀ a, (k0_off468 v244) a + S1x2x128x128.size a ≤ S1024x2x128x128.size a := fun v0 k0_t4 v244 k0_hw115 k0_h8 => k0_hw115.1 k0_h8
theorem k0_off468_wordsfp8e4m3 : ∀ (v0 : BitVec 32) (k0_t4 : Fin (k0_t4_loop v0).trips) (v244 : BitVec 32) (k0_hw115 : k0_chk115 v0 k0_t4 v244), ∀ (k0_h8 : k0_cond8 v0 k0_t4 = 1#1), (Rect.unit (s := S1024x2x128x128) (k0_off468 v244) S1x2x128x128.size (k0_off468_inb v0 k0_t4 v244 k0_hw115 k0_h8)).WholeWords (EltTy.packing .fp8e4m3) := fun v0 k0_t4 v244 k0_hw115 k0_h8 => k0_hw115.2 k0_h8 (k0_off468_inb v0 k0_t4 v244 k0_hw115 k0_h8)

def k0_off469 (v0 : BitVec 32) (k0_t4 : Fin (k0_t4_loop v0).trips) : Fin 2 → Nat :=
  let c0_93 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c2_i32_92 : BitVec 32 := 2#32
  let v251 : BitVec 32 := Scalar.addi v232 c2_i32_92
  let v252 : Index := Scalar.indexCast v251
  ![0, v252.toNat]
def k0_off470 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off471 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c2_i32_94 : BitVec 32 := 2#32
  let c0_i32_95 : BitVec 32 := 0#32
  let c0_i32_96 : BitVec 32 := 0#32
  let c0_i32_97 : BitVec 32 := 0#32
  ![v190.toNat, 2, 0, 0, 0]
def k0_off472 (v253 : BitVec 32) : Fin 4 → Nat :=
  let c0_i32_98 : BitVec 32 := 0#32
  let c0_i32_99 : BitVec 32 := 0#32
  let c0_i32_100 : BitVec 32 := 0#32
  ![v253.toNat, 0, 0, 0]

def k0_chk116 (v0 : BitVec 32) (k0_t4 : Fin (k0_t4_loop v0).trips) (v253 : BitVec 32) : Prop :=
  (∀ (k0_h8 : k0_cond8 v0 k0_t4 = 1#1), ∀ a, (k0_off472 v253) a + S1x2x128x128.size a ≤ S1024x2x128x128.size a) ∧
  (∀ (k0_h8 : k0_cond8 v0 k0_t4 = 1#1), ∀ (hinb : ∀ a, (k0_off472 v253) a + S1x2x128x128.size a ≤ S1024x2x128x128.size a), (Rect.unit (s := S1024x2x128x128) (k0_off472 v253) S1x2x128x128.size hinb).WholeWords (EltTy.packing .fp8e4m3))
theorem k0_off472_inb : ∀ (v0 : BitVec 32) (k0_t4 : Fin (k0_t4_loop v0).trips) (v253 : BitVec 32) (k0_hw116 : k0_chk116 v0 k0_t4 v253), ∀ (k0_h8 : k0_cond8 v0 k0_t4 = 1#1), ∀ a, (k0_off472 v253) a + S1x2x128x128.size a ≤ S1024x2x128x128.size a := fun v0 k0_t4 v253 k0_hw116 k0_h8 => k0_hw116.1 k0_h8
theorem k0_off472_wordsfp8e4m3 : ∀ (v0 : BitVec 32) (k0_t4 : Fin (k0_t4_loop v0).trips) (v253 : BitVec 32) (k0_hw116 : k0_chk116 v0 k0_t4 v253), ∀ (k0_h8 : k0_cond8 v0 k0_t4 = 1#1), (Rect.unit (s := S1024x2x128x128) (k0_off472 v253) S1x2x128x128.size (k0_off472_inb v0 k0_t4 v253 k0_hw116 k0_h8)).WholeWords (EltTy.packing .fp8e4m3) := fun v0 k0_t4 v253 k0_hw116 k0_h8 => k0_hw116.2 k0_h8 (k0_off472_inb v0 k0_t4 v253 k0_hw116 k0_h8)

def k0_off473 (v0 : BitVec 32) (k0_t4 : Fin (k0_t4_loop v0).trips) : Fin 2 → Nat :=
  let c0_101 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c3_i32 : BitVec 32 := 3#32
  let v260 : BitVec 32 := Scalar.addi v232 c3_i32
  let v261 : Index := Scalar.indexCast v260
  ![0, v261.toNat]
def k0_off474 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off475 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c3_i32_102 : BitVec 32 := 3#32
  let c0_i32_103 : BitVec 32 := 0#32
  let c0_i32_104 : BitVec 32 := 0#32
  let c0_i32_105 : BitVec 32 := 0#32
  ![v190.toNat, 3, 0, 0, 0]
def k0_off476 (v262 : BitVec 32) : Fin 4 → Nat :=
  let c0_i32_106 : BitVec 32 := 0#32
  let c0_i32_107 : BitVec 32 := 0#32
  let c0_i32_108 : BitVec 32 := 0#32
  ![v262.toNat, 0, 0, 0]

def k0_chk117 (v0 : BitVec 32) (k0_t4 : Fin (k0_t4_loop v0).trips) (v262 : BitVec 32) : Prop :=
  (∀ (k0_h8 : k0_cond8 v0 k0_t4 = 1#1), ∀ a, (k0_off476 v262) a + S1x2x128x128.size a ≤ S1024x2x128x128.size a) ∧
  (∀ (k0_h8 : k0_cond8 v0 k0_t4 = 1#1), ∀ (hinb : ∀ a, (k0_off476 v262) a + S1x2x128x128.size a ≤ S1024x2x128x128.size a), (Rect.unit (s := S1024x2x128x128) (k0_off476 v262) S1x2x128x128.size hinb).WholeWords (EltTy.packing .fp8e4m3))
theorem k0_off476_inb : ∀ (v0 : BitVec 32) (k0_t4 : Fin (k0_t4_loop v0).trips) (v262 : BitVec 32) (k0_hw117 : k0_chk117 v0 k0_t4 v262), ∀ (k0_h8 : k0_cond8 v0 k0_t4 = 1#1), ∀ a, (k0_off476 v262) a + S1x2x128x128.size a ≤ S1024x2x128x128.size a := fun v0 k0_t4 v262 k0_hw117 k0_h8 => k0_hw117.1 k0_h8
theorem k0_off476_wordsfp8e4m3 : ∀ (v0 : BitVec 32) (k0_t4 : Fin (k0_t4_loop v0).trips) (v262 : BitVec 32) (k0_hw117 : k0_chk117 v0 k0_t4 v262), ∀ (k0_h8 : k0_cond8 v0 k0_t4 = 1#1), (Rect.unit (s := S1024x2x128x128) (k0_off476 v262) S1x2x128x128.size (k0_off476_inb v0 k0_t4 v262 k0_hw117 k0_h8)).WholeWords (EltTy.packing .fp8e4m3) := fun v0 k0_t4 v262 k0_hw117 k0_h8 => k0_hw117.2 k0_h8 (k0_off476_inb v0 k0_t4 v262 k0_hw117 k0_h8)

def k0_off477 (v0 : BitVec 32) (k0_t4 : Fin (k0_t4_loop v0).trips) : Fin 2 → Nat :=
  let c0_109 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c4_i32 : BitVec 32 := 4#32
  let v269 : BitVec 32 := Scalar.addi v232 c4_i32
  let v270 : Index := Scalar.indexCast v269
  ![0, v270.toNat]
def k0_off478 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off479 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c4_i32_110 : BitVec 32 := 4#32
  let c0_i32_111 : BitVec 32 := 0#32
  let c0_i32_112 : BitVec 32 := 0#32
  let c0_i32_113 : BitVec 32 := 0#32
  ![v190.toNat, 4, 0, 0, 0]
def k0_off480 (v271 : BitVec 32) : Fin 4 → Nat :=
  let c0_i32_114 : BitVec 32 := 0#32
  let c0_i32_115 : BitVec 32 := 0#32
  let c0_i32_116 : BitVec 32 := 0#32
  ![v271.toNat, 0, 0, 0]

def k0_chk118 (v0 : BitVec 32) (k0_t4 : Fin (k0_t4_loop v0).trips) (v271 : BitVec 32) : Prop :=
  (∀ (k0_h8 : k0_cond8 v0 k0_t4 = 1#1), ∀ a, (k0_off480 v271) a + S1x2x128x128.size a ≤ S1024x2x128x128.size a) ∧
  (∀ (k0_h8 : k0_cond8 v0 k0_t4 = 1#1), ∀ (hinb : ∀ a, (k0_off480 v271) a + S1x2x128x128.size a ≤ S1024x2x128x128.size a), (Rect.unit (s := S1024x2x128x128) (k0_off480 v271) S1x2x128x128.size hinb).WholeWords (EltTy.packing .fp8e4m3))
theorem k0_off480_inb : ∀ (v0 : BitVec 32) (k0_t4 : Fin (k0_t4_loop v0).trips) (v271 : BitVec 32) (k0_hw118 : k0_chk118 v0 k0_t4 v271), ∀ (k0_h8 : k0_cond8 v0 k0_t4 = 1#1), ∀ a, (k0_off480 v271) a + S1x2x128x128.size a ≤ S1024x2x128x128.size a := fun v0 k0_t4 v271 k0_hw118 k0_h8 => k0_hw118.1 k0_h8
theorem k0_off480_wordsfp8e4m3 : ∀ (v0 : BitVec 32) (k0_t4 : Fin (k0_t4_loop v0).trips) (v271 : BitVec 32) (k0_hw118 : k0_chk118 v0 k0_t4 v271), ∀ (k0_h8 : k0_cond8 v0 k0_t4 = 1#1), (Rect.unit (s := S1024x2x128x128) (k0_off480 v271) S1x2x128x128.size (k0_off480_inb v0 k0_t4 v271 k0_hw118 k0_h8)).WholeWords (EltTy.packing .fp8e4m3) := fun v0 k0_t4 v271 k0_hw118 k0_h8 => k0_hw118.2 k0_h8 (k0_off480_inb v0 k0_t4 v271 k0_hw118 k0_h8)

def k0_off481 (v0 : BitVec 32) (k0_t4 : Fin (k0_t4_loop v0).trips) : Fin 2 → Nat :=
  let c0_117 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c5_i32 : BitVec 32 := 5#32
  let v278 : BitVec 32 := Scalar.addi v232 c5_i32
  let v279 : Index := Scalar.indexCast v278
  ![0, v279.toNat]
def k0_off482 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off483 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c5_i32_118 : BitVec 32 := 5#32
  let c0_i32_119 : BitVec 32 := 0#32
  let c0_i32_120 : BitVec 32 := 0#32
  let c0_i32_121 : BitVec 32 := 0#32
  ![v190.toNat, 5, 0, 0, 0]
def k0_off484 (v280 : BitVec 32) : Fin 4 → Nat :=
  let c0_i32_122 : BitVec 32 := 0#32
  let c0_i32_123 : BitVec 32 := 0#32
  let c0_i32_124 : BitVec 32 := 0#32
  ![v280.toNat, 0, 0, 0]

def k0_chk119 (v0 : BitVec 32) (k0_t4 : Fin (k0_t4_loop v0).trips) (v280 : BitVec 32) : Prop :=
  (∀ (k0_h8 : k0_cond8 v0 k0_t4 = 1#1), ∀ a, (k0_off484 v280) a + S1x2x128x128.size a ≤ S1024x2x128x128.size a) ∧
  (∀ (k0_h8 : k0_cond8 v0 k0_t4 = 1#1), ∀ (hinb : ∀ a, (k0_off484 v280) a + S1x2x128x128.size a ≤ S1024x2x128x128.size a), (Rect.unit (s := S1024x2x128x128) (k0_off484 v280) S1x2x128x128.size hinb).WholeWords (EltTy.packing .fp8e4m3))
theorem k0_off484_inb : ∀ (v0 : BitVec 32) (k0_t4 : Fin (k0_t4_loop v0).trips) (v280 : BitVec 32) (k0_hw119 : k0_chk119 v0 k0_t4 v280), ∀ (k0_h8 : k0_cond8 v0 k0_t4 = 1#1), ∀ a, (k0_off484 v280) a + S1x2x128x128.size a ≤ S1024x2x128x128.size a := fun v0 k0_t4 v280 k0_hw119 k0_h8 => k0_hw119.1 k0_h8
theorem k0_off484_wordsfp8e4m3 : ∀ (v0 : BitVec 32) (k0_t4 : Fin (k0_t4_loop v0).trips) (v280 : BitVec 32) (k0_hw119 : k0_chk119 v0 k0_t4 v280), ∀ (k0_h8 : k0_cond8 v0 k0_t4 = 1#1), (Rect.unit (s := S1024x2x128x128) (k0_off484 v280) S1x2x128x128.size (k0_off484_inb v0 k0_t4 v280 k0_hw119 k0_h8)).WholeWords (EltTy.packing .fp8e4m3) := fun v0 k0_t4 v280 k0_hw119 k0_h8 => k0_hw119.2 k0_h8 (k0_off484_inb v0 k0_t4 v280 k0_hw119 k0_h8)

def k0_off485 (v0 : BitVec 32) (k0_t4 : Fin (k0_t4_loop v0).trips) : Fin 2 → Nat :=
  let c0_125 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c6_i32 : BitVec 32 := 6#32
  let v287 : BitVec 32 := Scalar.addi v232 c6_i32
  let v288 : Index := Scalar.indexCast v287
  ![0, v288.toNat]
def k0_off486 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off487 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c6_i32_126 : BitVec 32 := 6#32
  let c0_i32_127 : BitVec 32 := 0#32
  let c0_i32_128 : BitVec 32 := 0#32
  let c0_i32_129 : BitVec 32 := 0#32
  ![v190.toNat, 6, 0, 0, 0]
def k0_off488 (v289 : BitVec 32) : Fin 4 → Nat :=
  let c0_i32_130 : BitVec 32 := 0#32
  let c0_i32_131 : BitVec 32 := 0#32
  let c0_i32_132 : BitVec 32 := 0#32
  ![v289.toNat, 0, 0, 0]

def k0_chk120 (v0 : BitVec 32) (k0_t4 : Fin (k0_t4_loop v0).trips) (v289 : BitVec 32) : Prop :=
  (∀ (k0_h8 : k0_cond8 v0 k0_t4 = 1#1), ∀ a, (k0_off488 v289) a + S1x2x128x128.size a ≤ S1024x2x128x128.size a) ∧
  (∀ (k0_h8 : k0_cond8 v0 k0_t4 = 1#1), ∀ (hinb : ∀ a, (k0_off488 v289) a + S1x2x128x128.size a ≤ S1024x2x128x128.size a), (Rect.unit (s := S1024x2x128x128) (k0_off488 v289) S1x2x128x128.size hinb).WholeWords (EltTy.packing .fp8e4m3))
theorem k0_off488_inb : ∀ (v0 : BitVec 32) (k0_t4 : Fin (k0_t4_loop v0).trips) (v289 : BitVec 32) (k0_hw120 : k0_chk120 v0 k0_t4 v289), ∀ (k0_h8 : k0_cond8 v0 k0_t4 = 1#1), ∀ a, (k0_off488 v289) a + S1x2x128x128.size a ≤ S1024x2x128x128.size a := fun v0 k0_t4 v289 k0_hw120 k0_h8 => k0_hw120.1 k0_h8
theorem k0_off488_wordsfp8e4m3 : ∀ (v0 : BitVec 32) (k0_t4 : Fin (k0_t4_loop v0).trips) (v289 : BitVec 32) (k0_hw120 : k0_chk120 v0 k0_t4 v289), ∀ (k0_h8 : k0_cond8 v0 k0_t4 = 1#1), (Rect.unit (s := S1024x2x128x128) (k0_off488 v289) S1x2x128x128.size (k0_off488_inb v0 k0_t4 v289 k0_hw120 k0_h8)).WholeWords (EltTy.packing .fp8e4m3) := fun v0 k0_t4 v289 k0_hw120 k0_h8 => k0_hw120.2 k0_h8 (k0_off488_inb v0 k0_t4 v289 k0_hw120 k0_h8)

def k0_off489 (v0 : BitVec 32) (k0_t4 : Fin (k0_t4_loop v0).trips) : Fin 2 → Nat :=
  let c0_133 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c7_i32 : BitVec 32 := 7#32
  let v296 : BitVec 32 := Scalar.addi v232 c7_i32
  let v297 : Index := Scalar.indexCast v296
  ![0, v297.toNat]
def k0_off490 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off491 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c7_i32_134 : BitVec 32 := 7#32
  let c0_i32_135 : BitVec 32 := 0#32
  let c0_i32_136 : BitVec 32 := 0#32
  let c0_i32_137 : BitVec 32 := 0#32
  ![v190.toNat, 7, 0, 0, 0]
def k0_off492 (v298 : BitVec 32) : Fin 4 → Nat :=
  let c0_i32_138 : BitVec 32 := 0#32
  let c0_i32_139 : BitVec 32 := 0#32
  let c0_i32_140 : BitVec 32 := 0#32
  ![v298.toNat, 0, 0, 0]

def k0_chk121 (v0 : BitVec 32) (k0_t4 : Fin (k0_t4_loop v0).trips) (v298 : BitVec 32) : Prop :=
  (∀ (k0_h8 : k0_cond8 v0 k0_t4 = 1#1), ∀ a, (k0_off492 v298) a + S1x2x128x128.size a ≤ S1024x2x128x128.size a) ∧
  (∀ (k0_h8 : k0_cond8 v0 k0_t4 = 1#1), ∀ (hinb : ∀ a, (k0_off492 v298) a + S1x2x128x128.size a ≤ S1024x2x128x128.size a), (Rect.unit (s := S1024x2x128x128) (k0_off492 v298) S1x2x128x128.size hinb).WholeWords (EltTy.packing .fp8e4m3))
theorem k0_off492_inb : ∀ (v0 : BitVec 32) (k0_t4 : Fin (k0_t4_loop v0).trips) (v298 : BitVec 32) (k0_hw121 : k0_chk121 v0 k0_t4 v298), ∀ (k0_h8 : k0_cond8 v0 k0_t4 = 1#1), ∀ a, (k0_off492 v298) a + S1x2x128x128.size a ≤ S1024x2x128x128.size a := fun v0 k0_t4 v298 k0_hw121 k0_h8 => k0_hw121.1 k0_h8
theorem k0_off492_wordsfp8e4m3 : ∀ (v0 : BitVec 32) (k0_t4 : Fin (k0_t4_loop v0).trips) (v298 : BitVec 32) (k0_hw121 : k0_chk121 v0 k0_t4 v298), ∀ (k0_h8 : k0_cond8 v0 k0_t4 = 1#1), (Rect.unit (s := S1024x2x128x128) (k0_off492 v298) S1x2x128x128.size (k0_off492_inb v0 k0_t4 v298 k0_hw121 k0_h8)).WholeWords (EltTy.packing .fp8e4m3) := fun v0 k0_t4 v298 k0_hw121 k0_h8 => k0_hw121.2 k0_h8 (k0_off492_inb v0 k0_t4 v298 k0_hw121 k0_h8)

def k0_off493 (v0 : BitVec 32) (k0_t4 : Fin (k0_t4_loop v0).trips) : Fin 2 → Nat :=
  let c0_142 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c8_i32_141 : BitVec 32 := 8#32
  let v305 : BitVec 32 := Scalar.addi v232 c8_i32_141
  let v306 : Index := Scalar.indexCast v305
  ![0, v306.toNat]
def k0_off494 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off495 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c8_i32_143 : BitVec 32 := 8#32
  let c0_i32_144 : BitVec 32 := 0#32
  let c0_i32_145 : BitVec 32 := 0#32
  let c0_i32_146 : BitVec 32 := 0#32
  ![v190.toNat, 8, 0, 0, 0]
def k0_off496 (v307 : BitVec 32) : Fin 4 → Nat :=
  let c0_i32_147 : BitVec 32 := 0#32
  let c0_i32_148 : BitVec 32 := 0#32
  let c0_i32_149 : BitVec 32 := 0#32
  ![v307.toNat, 0, 0, 0]

def k0_chk122 (v0 : BitVec 32) (k0_t4 : Fin (k0_t4_loop v0).trips) (v307 : BitVec 32) : Prop :=
  (∀ (k0_h8 : k0_cond8 v0 k0_t4 = 1#1), ∀ a, (k0_off496 v307) a + S1x2x128x128.size a ≤ S1024x2x128x128.size a) ∧
  (∀ (k0_h8 : k0_cond8 v0 k0_t4 = 1#1), ∀ (hinb : ∀ a, (k0_off496 v307) a + S1x2x128x128.size a ≤ S1024x2x128x128.size a), (Rect.unit (s := S1024x2x128x128) (k0_off496 v307) S1x2x128x128.size hinb).WholeWords (EltTy.packing .fp8e4m3))
theorem k0_off496_inb : ∀ (v0 : BitVec 32) (k0_t4 : Fin (k0_t4_loop v0).trips) (v307 : BitVec 32) (k0_hw122 : k0_chk122 v0 k0_t4 v307), ∀ (k0_h8 : k0_cond8 v0 k0_t4 = 1#1), ∀ a, (k0_off496 v307) a + S1x2x128x128.size a ≤ S1024x2x128x128.size a := fun v0 k0_t4 v307 k0_hw122 k0_h8 => k0_hw122.1 k0_h8
theorem k0_off496_wordsfp8e4m3 : ∀ (v0 : BitVec 32) (k0_t4 : Fin (k0_t4_loop v0).trips) (v307 : BitVec 32) (k0_hw122 : k0_chk122 v0 k0_t4 v307), ∀ (k0_h8 : k0_cond8 v0 k0_t4 = 1#1), (Rect.unit (s := S1024x2x128x128) (k0_off496 v307) S1x2x128x128.size (k0_off496_inb v0 k0_t4 v307 k0_hw122 k0_h8)).WholeWords (EltTy.packing .fp8e4m3) := fun v0 k0_t4 v307 k0_hw122 k0_h8 => k0_hw122.2 k0_h8 (k0_off496_inb v0 k0_t4 v307 k0_hw122 k0_h8)

def k0_off497 (v0 : BitVec 32) (k0_t4 : Fin (k0_t4_loop v0).trips) : Fin 2 → Nat :=
  let c0_150 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c9_i32 : BitVec 32 := 9#32
  let v314 : BitVec 32 := Scalar.addi v232 c9_i32
  let v315 : Index := Scalar.indexCast v314
  ![0, v315.toNat]
def k0_off498 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off499 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c9_i32_151 : BitVec 32 := 9#32
  let c0_i32_152 : BitVec 32 := 0#32
  let c0_i32_153 : BitVec 32 := 0#32
  let c0_i32_154 : BitVec 32 := 0#32
  ![v190.toNat, 9, 0, 0, 0]
def k0_off500 (v316 : BitVec 32) : Fin 4 → Nat :=
  let c0_i32_155 : BitVec 32 := 0#32
  let c0_i32_156 : BitVec 32 := 0#32
  let c0_i32_157 : BitVec 32 := 0#32
  ![v316.toNat, 0, 0, 0]

def k0_chk123 (v0 : BitVec 32) (k0_t4 : Fin (k0_t4_loop v0).trips) (v316 : BitVec 32) : Prop :=
  (∀ (k0_h8 : k0_cond8 v0 k0_t4 = 1#1), ∀ a, (k0_off500 v316) a + S1x2x128x128.size a ≤ S1024x2x128x128.size a) ∧
  (∀ (k0_h8 : k0_cond8 v0 k0_t4 = 1#1), ∀ (hinb : ∀ a, (k0_off500 v316) a + S1x2x128x128.size a ≤ S1024x2x128x128.size a), (Rect.unit (s := S1024x2x128x128) (k0_off500 v316) S1x2x128x128.size hinb).WholeWords (EltTy.packing .fp8e4m3))
theorem k0_off500_inb : ∀ (v0 : BitVec 32) (k0_t4 : Fin (k0_t4_loop v0).trips) (v316 : BitVec 32) (k0_hw123 : k0_chk123 v0 k0_t4 v316), ∀ (k0_h8 : k0_cond8 v0 k0_t4 = 1#1), ∀ a, (k0_off500 v316) a + S1x2x128x128.size a ≤ S1024x2x128x128.size a := fun v0 k0_t4 v316 k0_hw123 k0_h8 => k0_hw123.1 k0_h8
theorem k0_off500_wordsfp8e4m3 : ∀ (v0 : BitVec 32) (k0_t4 : Fin (k0_t4_loop v0).trips) (v316 : BitVec 32) (k0_hw123 : k0_chk123 v0 k0_t4 v316), ∀ (k0_h8 : k0_cond8 v0 k0_t4 = 1#1), (Rect.unit (s := S1024x2x128x128) (k0_off500 v316) S1x2x128x128.size (k0_off500_inb v0 k0_t4 v316 k0_hw123 k0_h8)).WholeWords (EltTy.packing .fp8e4m3) := fun v0 k0_t4 v316 k0_hw123 k0_h8 => k0_hw123.2 k0_h8 (k0_off500_inb v0 k0_t4 v316 k0_hw123 k0_h8)

def k0_off501 (v0 : BitVec 32) (k0_t4 : Fin (k0_t4_loop v0).trips) : Fin 2 → Nat :=
  let c0_158 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c10_i32 : BitVec 32 := 10#32
  let v323 : BitVec 32 := Scalar.addi v232 c10_i32
  let v324 : Index := Scalar.indexCast v323
  ![0, v324.toNat]
def k0_off502 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off503 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c10_i32_159 : BitVec 32 := 10#32
  let c0_i32_160 : BitVec 32 := 0#32
  let c0_i32_161 : BitVec 32 := 0#32
  let c0_i32_162 : BitVec 32 := 0#32
  ![v190.toNat, 10, 0, 0, 0]
def k0_off504 (v325 : BitVec 32) : Fin 4 → Nat :=
  let c0_i32_163 : BitVec 32 := 0#32
  let c0_i32_164 : BitVec 32 := 0#32
  let c0_i32_165 : BitVec 32 := 0#32
  ![v325.toNat, 0, 0, 0]

def k0_chk124 (v0 : BitVec 32) (k0_t4 : Fin (k0_t4_loop v0).trips) (v325 : BitVec 32) : Prop :=
  (∀ (k0_h8 : k0_cond8 v0 k0_t4 = 1#1), ∀ a, (k0_off504 v325) a + S1x2x128x128.size a ≤ S1024x2x128x128.size a) ∧
  (∀ (k0_h8 : k0_cond8 v0 k0_t4 = 1#1), ∀ (hinb : ∀ a, (k0_off504 v325) a + S1x2x128x128.size a ≤ S1024x2x128x128.size a), (Rect.unit (s := S1024x2x128x128) (k0_off504 v325) S1x2x128x128.size hinb).WholeWords (EltTy.packing .fp8e4m3))
theorem k0_off504_inb : ∀ (v0 : BitVec 32) (k0_t4 : Fin (k0_t4_loop v0).trips) (v325 : BitVec 32) (k0_hw124 : k0_chk124 v0 k0_t4 v325), ∀ (k0_h8 : k0_cond8 v0 k0_t4 = 1#1), ∀ a, (k0_off504 v325) a + S1x2x128x128.size a ≤ S1024x2x128x128.size a := fun v0 k0_t4 v325 k0_hw124 k0_h8 => k0_hw124.1 k0_h8
theorem k0_off504_wordsfp8e4m3 : ∀ (v0 : BitVec 32) (k0_t4 : Fin (k0_t4_loop v0).trips) (v325 : BitVec 32) (k0_hw124 : k0_chk124 v0 k0_t4 v325), ∀ (k0_h8 : k0_cond8 v0 k0_t4 = 1#1), (Rect.unit (s := S1024x2x128x128) (k0_off504 v325) S1x2x128x128.size (k0_off504_inb v0 k0_t4 v325 k0_hw124 k0_h8)).WholeWords (EltTy.packing .fp8e4m3) := fun v0 k0_t4 v325 k0_hw124 k0_h8 => k0_hw124.2 k0_h8 (k0_off504_inb v0 k0_t4 v325 k0_hw124 k0_h8)

def k0_off505 (v0 : BitVec 32) (k0_t4 : Fin (k0_t4_loop v0).trips) : Fin 2 → Nat :=
  let c0_166 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c11_i32 : BitVec 32 := 11#32
  let v332 : BitVec 32 := Scalar.addi v232 c11_i32
  let v333 : Index := Scalar.indexCast v332
  ![0, v333.toNat]
def k0_off506 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off507 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c11_i32_167 : BitVec 32 := 11#32
  let c0_i32_168 : BitVec 32 := 0#32
  let c0_i32_169 : BitVec 32 := 0#32
  let c0_i32_170 : BitVec 32 := 0#32
  ![v190.toNat, 11, 0, 0, 0]
def k0_off508 (v334 : BitVec 32) : Fin 4 → Nat :=
  let c0_i32_171 : BitVec 32 := 0#32
  let c0_i32_172 : BitVec 32 := 0#32
  let c0_i32_173 : BitVec 32 := 0#32
  ![v334.toNat, 0, 0, 0]

def k0_chk125 (v0 : BitVec 32) (k0_t4 : Fin (k0_t4_loop v0).trips) (v334 : BitVec 32) : Prop :=
  (∀ (k0_h8 : k0_cond8 v0 k0_t4 = 1#1), ∀ a, (k0_off508 v334) a + S1x2x128x128.size a ≤ S1024x2x128x128.size a) ∧
  (∀ (k0_h8 : k0_cond8 v0 k0_t4 = 1#1), ∀ (hinb : ∀ a, (k0_off508 v334) a + S1x2x128x128.size a ≤ S1024x2x128x128.size a), (Rect.unit (s := S1024x2x128x128) (k0_off508 v334) S1x2x128x128.size hinb).WholeWords (EltTy.packing .fp8e4m3))
theorem k0_off508_inb : ∀ (v0 : BitVec 32) (k0_t4 : Fin (k0_t4_loop v0).trips) (v334 : BitVec 32) (k0_hw125 : k0_chk125 v0 k0_t4 v334), ∀ (k0_h8 : k0_cond8 v0 k0_t4 = 1#1), ∀ a, (k0_off508 v334) a + S1x2x128x128.size a ≤ S1024x2x128x128.size a := fun v0 k0_t4 v334 k0_hw125 k0_h8 => k0_hw125.1 k0_h8
theorem k0_off508_wordsfp8e4m3 : ∀ (v0 : BitVec 32) (k0_t4 : Fin (k0_t4_loop v0).trips) (v334 : BitVec 32) (k0_hw125 : k0_chk125 v0 k0_t4 v334), ∀ (k0_h8 : k0_cond8 v0 k0_t4 = 1#1), (Rect.unit (s := S1024x2x128x128) (k0_off508 v334) S1x2x128x128.size (k0_off508_inb v0 k0_t4 v334 k0_hw125 k0_h8)).WholeWords (EltTy.packing .fp8e4m3) := fun v0 k0_t4 v334 k0_hw125 k0_h8 => k0_hw125.2 k0_h8 (k0_off508_inb v0 k0_t4 v334 k0_hw125 k0_h8)

def k0_off509 (v0 : BitVec 32) (k0_t4 : Fin (k0_t4_loop v0).trips) : Fin 2 → Nat :=
  let c0_174 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c12_i32 : BitVec 32 := 12#32
  let v341 : BitVec 32 := Scalar.addi v232 c12_i32
  let v342 : Index := Scalar.indexCast v341
  ![0, v342.toNat]
def k0_off510 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off511 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c12_i32_175 : BitVec 32 := 12#32
  let c0_i32_176 : BitVec 32 := 0#32
  let c0_i32_177 : BitVec 32 := 0#32
  let c0_i32_178 : BitVec 32 := 0#32
  ![v190.toNat, 12, 0, 0, 0]
def k0_off512 (v343 : BitVec 32) : Fin 4 → Nat :=
  let c0_i32_179 : BitVec 32 := 0#32
  let c0_i32_180 : BitVec 32 := 0#32
  let c0_i32_181 : BitVec 32 := 0#32
  ![v343.toNat, 0, 0, 0]

def k0_chk126 (v0 : BitVec 32) (k0_t4 : Fin (k0_t4_loop v0).trips) (v343 : BitVec 32) : Prop :=
  (∀ (k0_h8 : k0_cond8 v0 k0_t4 = 1#1), ∀ a, (k0_off512 v343) a + S1x2x128x128.size a ≤ S1024x2x128x128.size a) ∧
  (∀ (k0_h8 : k0_cond8 v0 k0_t4 = 1#1), ∀ (hinb : ∀ a, (k0_off512 v343) a + S1x2x128x128.size a ≤ S1024x2x128x128.size a), (Rect.unit (s := S1024x2x128x128) (k0_off512 v343) S1x2x128x128.size hinb).WholeWords (EltTy.packing .fp8e4m3))
theorem k0_off512_inb : ∀ (v0 : BitVec 32) (k0_t4 : Fin (k0_t4_loop v0).trips) (v343 : BitVec 32) (k0_hw126 : k0_chk126 v0 k0_t4 v343), ∀ (k0_h8 : k0_cond8 v0 k0_t4 = 1#1), ∀ a, (k0_off512 v343) a + S1x2x128x128.size a ≤ S1024x2x128x128.size a := fun v0 k0_t4 v343 k0_hw126 k0_h8 => k0_hw126.1 k0_h8
theorem k0_off512_wordsfp8e4m3 : ∀ (v0 : BitVec 32) (k0_t4 : Fin (k0_t4_loop v0).trips) (v343 : BitVec 32) (k0_hw126 : k0_chk126 v0 k0_t4 v343), ∀ (k0_h8 : k0_cond8 v0 k0_t4 = 1#1), (Rect.unit (s := S1024x2x128x128) (k0_off512 v343) S1x2x128x128.size (k0_off512_inb v0 k0_t4 v343 k0_hw126 k0_h8)).WholeWords (EltTy.packing .fp8e4m3) := fun v0 k0_t4 v343 k0_hw126 k0_h8 => k0_hw126.2 k0_h8 (k0_off512_inb v0 k0_t4 v343 k0_hw126 k0_h8)

def k0_off513 (v0 : BitVec 32) (k0_t4 : Fin (k0_t4_loop v0).trips) : Fin 2 → Nat :=
  let c0_182 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c13_i32 : BitVec 32 := 13#32
  let v350 : BitVec 32 := Scalar.addi v232 c13_i32
  let v351 : Index := Scalar.indexCast v350
  ![0, v351.toNat]
def k0_off514 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off515 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c13_i32_183 : BitVec 32 := 13#32
  let c0_i32_184 : BitVec 32 := 0#32
  let c0_i32_185 : BitVec 32 := 0#32
  let c0_i32_186 : BitVec 32 := 0#32
  ![v190.toNat, 13, 0, 0, 0]
def k0_off516 (v352 : BitVec 32) : Fin 4 → Nat :=
  let c0_i32_187 : BitVec 32 := 0#32
  let c0_i32_188 : BitVec 32 := 0#32
  let c0_i32_189 : BitVec 32 := 0#32
  ![v352.toNat, 0, 0, 0]

def k0_chk127 (v0 : BitVec 32) (k0_t4 : Fin (k0_t4_loop v0).trips) (v352 : BitVec 32) : Prop :=
  (∀ (k0_h8 : k0_cond8 v0 k0_t4 = 1#1), ∀ a, (k0_off516 v352) a + S1x2x128x128.size a ≤ S1024x2x128x128.size a) ∧
  (∀ (k0_h8 : k0_cond8 v0 k0_t4 = 1#1), ∀ (hinb : ∀ a, (k0_off516 v352) a + S1x2x128x128.size a ≤ S1024x2x128x128.size a), (Rect.unit (s := S1024x2x128x128) (k0_off516 v352) S1x2x128x128.size hinb).WholeWords (EltTy.packing .fp8e4m3))
theorem k0_off516_inb : ∀ (v0 : BitVec 32) (k0_t4 : Fin (k0_t4_loop v0).trips) (v352 : BitVec 32) (k0_hw127 : k0_chk127 v0 k0_t4 v352), ∀ (k0_h8 : k0_cond8 v0 k0_t4 = 1#1), ∀ a, (k0_off516 v352) a + S1x2x128x128.size a ≤ S1024x2x128x128.size a := fun v0 k0_t4 v352 k0_hw127 k0_h8 => k0_hw127.1 k0_h8
theorem k0_off516_wordsfp8e4m3 : ∀ (v0 : BitVec 32) (k0_t4 : Fin (k0_t4_loop v0).trips) (v352 : BitVec 32) (k0_hw127 : k0_chk127 v0 k0_t4 v352), ∀ (k0_h8 : k0_cond8 v0 k0_t4 = 1#1), (Rect.unit (s := S1024x2x128x128) (k0_off516 v352) S1x2x128x128.size (k0_off516_inb v0 k0_t4 v352 k0_hw127 k0_h8)).WholeWords (EltTy.packing .fp8e4m3) := fun v0 k0_t4 v352 k0_hw127 k0_h8 => k0_hw127.2 k0_h8 (k0_off516_inb v0 k0_t4 v352 k0_hw127 k0_h8)

def k0_off517 (v0 : BitVec 32) (k0_t4 : Fin (k0_t4_loop v0).trips) : Fin 2 → Nat :=
  let c0_190 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c14_i32 : BitVec 32 := 14#32
  let v359 : BitVec 32 := Scalar.addi v232 c14_i32
  let v360 : Index := Scalar.indexCast v359
  ![0, v360.toNat]
def k0_off518 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off519 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c14_i32_191 : BitVec 32 := 14#32
  let c0_i32_192 : BitVec 32 := 0#32
  let c0_i32_193 : BitVec 32 := 0#32
  let c0_i32_194 : BitVec 32 := 0#32
  ![v190.toNat, 14, 0, 0, 0]
def k0_off520 (v361 : BitVec 32) : Fin 4 → Nat :=
  let c0_i32_195 : BitVec 32 := 0#32
  let c0_i32_196 : BitVec 32 := 0#32
  let c0_i32_197 : BitVec 32 := 0#32
  ![v361.toNat, 0, 0, 0]

def k0_chk128 (v0 : BitVec 32) (k0_t4 : Fin (k0_t4_loop v0).trips) (v361 : BitVec 32) : Prop :=
  (∀ (k0_h8 : k0_cond8 v0 k0_t4 = 1#1), ∀ a, (k0_off520 v361) a + S1x2x128x128.size a ≤ S1024x2x128x128.size a) ∧
  (∀ (k0_h8 : k0_cond8 v0 k0_t4 = 1#1), ∀ (hinb : ∀ a, (k0_off520 v361) a + S1x2x128x128.size a ≤ S1024x2x128x128.size a), (Rect.unit (s := S1024x2x128x128) (k0_off520 v361) S1x2x128x128.size hinb).WholeWords (EltTy.packing .fp8e4m3))
theorem k0_off520_inb : ∀ (v0 : BitVec 32) (k0_t4 : Fin (k0_t4_loop v0).trips) (v361 : BitVec 32) (k0_hw128 : k0_chk128 v0 k0_t4 v361), ∀ (k0_h8 : k0_cond8 v0 k0_t4 = 1#1), ∀ a, (k0_off520 v361) a + S1x2x128x128.size a ≤ S1024x2x128x128.size a := fun v0 k0_t4 v361 k0_hw128 k0_h8 => k0_hw128.1 k0_h8
theorem k0_off520_wordsfp8e4m3 : ∀ (v0 : BitVec 32) (k0_t4 : Fin (k0_t4_loop v0).trips) (v361 : BitVec 32) (k0_hw128 : k0_chk128 v0 k0_t4 v361), ∀ (k0_h8 : k0_cond8 v0 k0_t4 = 1#1), (Rect.unit (s := S1024x2x128x128) (k0_off520 v361) S1x2x128x128.size (k0_off520_inb v0 k0_t4 v361 k0_hw128 k0_h8)).WholeWords (EltTy.packing .fp8e4m3) := fun v0 k0_t4 v361 k0_hw128 k0_h8 => k0_hw128.2 k0_h8 (k0_off520_inb v0 k0_t4 v361 k0_hw128 k0_h8)

def k0_off521 (v0 : BitVec 32) (k0_t4 : Fin (k0_t4_loop v0).trips) : Fin 2 → Nat :=
  let c0_198 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c15_i32 : BitVec 32 := 15#32
  let v368 : BitVec 32 := Scalar.addi v232 c15_i32
  let v369 : Index := Scalar.indexCast v368
  ![0, v369.toNat]
def k0_off522 (v0 : BitVec 32) (k0_t4 : Fin (k0_t4_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off523 (v0 : BitVec 32) (k0_t4 : Fin (k0_t4_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let c1_i32_46 : BitVec 32 := 1#32
  let arg15 : BitVec 32 := Scf.iv c0_i32_44 c1_i32_46 k0_t4
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c15_i32_199 : BitVec 32 := 15#32
  let c0_i32_200 : BitVec 32 := 0#32
  let c0_i32_201 : BitVec 32 := 0#32
  let c0_i32_202 : BitVec 32 := 0#32
  ![v190.toNat, 15, 0, 0, 0]
def k0_off524 (v370 : BitVec 32) : Fin 4 → Nat :=
  let c0_i32_203 : BitVec 32 := 0#32
  let c0_i32_204 : BitVec 32 := 0#32
  let c0_i32_205 : BitVec 32 := 0#32
  ![v370.toNat, 0, 0, 0]

def k0_chk129 (v0 : BitVec 32) (k0_t4 : Fin (k0_t4_loop v0).trips) (v370 : BitVec 32) : Prop :=
  (∀ (k0_h8 : k0_cond8 v0 k0_t4 = 1#1), ∀ a, (k0_off524 v370) a + S1x2x128x128.size a ≤ S1024x2x128x128.size a) ∧
  (∀ (k0_h8 : k0_cond8 v0 k0_t4 = 1#1), ∀ (hinb : ∀ a, (k0_off524 v370) a + S1x2x128x128.size a ≤ S1024x2x128x128.size a), (Rect.unit (s := S1024x2x128x128) (k0_off524 v370) S1x2x128x128.size hinb).WholeWords (EltTy.packing .fp8e4m3))
theorem k0_off524_inb : ∀ (v0 : BitVec 32) (k0_t4 : Fin (k0_t4_loop v0).trips) (v370 : BitVec 32) (k0_hw129 : k0_chk129 v0 k0_t4 v370), ∀ (k0_h8 : k0_cond8 v0 k0_t4 = 1#1), ∀ a, (k0_off524 v370) a + S1x2x128x128.size a ≤ S1024x2x128x128.size a := fun v0 k0_t4 v370 k0_hw129 k0_h8 => k0_hw129.1 k0_h8
theorem k0_off524_wordsfp8e4m3 : ∀ (v0 : BitVec 32) (k0_t4 : Fin (k0_t4_loop v0).trips) (v370 : BitVec 32) (k0_hw129 : k0_chk129 v0 k0_t4 v370), ∀ (k0_h8 : k0_cond8 v0 k0_t4 = 1#1), (Rect.unit (s := S1024x2x128x128) (k0_off524 v370) S1x2x128x128.size (k0_off524_inb v0 k0_t4 v370 k0_hw129 k0_h8)).WholeWords (EltTy.packing .fp8e4m3) := fun v0 k0_t4 v370 k0_hw129 k0_h8 => k0_hw129.2 k0_h8 (k0_off524_inb v0 k0_t4 v370 k0_hw129 k0_h8)

@[reducible] def k0_t5_loop (v0 : BitVec 32) : Scf.Loop 32 :=
  let c0_i32_44 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let v116 : BitVec 32 := Scalar.addi c0_i32_44 v115
  let c1_i32_47 : BitVec 32 := 1#32
  ⟨v119, v116, c1_i32_47⟩
def k0_off525 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v161 : BitVec 32 := Scalar.addi v21 arg15
  let c24_i32_54 : BitVec 32 := 24#32
  let v162 : BitVec 32 := Scalar.remsi v161 c24_i32_54
  ![v162.toNat]
def k0_off526 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v161 : BitVec 32 := Scalar.addi v21 arg15
  let c24_i32_54 : BitVec 32 := 24#32
  let v162 : BitVec 32 := Scalar.remsi v161 c24_i32_54
  let c0_i32_55 : BitVec 32 := 0#32
  let c0_i32_56 : BitVec 32 := 0#32
  let c0_i32_57 : BitVec 32 := 0#32
  let c0_i32_58 : BitVec 32 := 0#32
  ![v162.toNat, 0, 0, 0, 0]
def k0_mult4 (v0 : BitVec 32) (k0_t5 : Fin (k0_t5_loop v0).trips) : BitVec 32 :=
  let c0_i32_44 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let c2048_i32_63 : BitVec 32 := 2048#32
  let v168 : BitVec 32 := Scalar.muli arg15 c2048_i32_63
  v168
def k0_off527 (v0 : BitVec 32) (k0_t5 : Fin (k0_t5_loop v0).trips) : Fin 2 → Nat :=
  let c0_64 : Index := 0#32
  let c0_i32_44 : BitVec 32 := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let c2048_i32_63 : BitVec 32 := 2048#32
  let v168 : BitVec 32 := Scalar.muli arg15 c2048_i32_63
  let v169 : BitVec 32 := v168
  let v170 : Index := Scalar.indexCast v169
  ![0, v170.toNat]
def k0_off528 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v161 : BitVec 32 := Scalar.addi v21 arg15
  let c24_i32_54 : BitVec 32 := 24#32
  let v162 : BitVec 32 := Scalar.remsi v161 c24_i32_54
  let v176 : Index := Scalar.indexCast v162
  let c0_65 : Index := 0#32
  let c0_66 : Index := 0#32
  let c0_67 : Index := 0#32
  let c0_68 : Index := 0#32
  ![v176.toNat, 0, 0, 0, 0]
def k0_off529 (v0 : BitVec 32) (k0_t5 : Fin (k0_t5_loop v0).trips) : Fin 2 → Nat :=
  let c0_75 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c0_i32_74 : BitVec 32 := 0#32
  let v232 : BitVec 32 := Scalar.addi v231 c0_i32_74
  let v233 : Index := Scalar.indexCast v232
  ![0, v233.toNat]
def k0_cond9 (v0 : BitVec 32) (k0_t5 : Fin (k0_t5_loop v0).trips) : BitVec 1 :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v191 : BitVec 1 := Scalar.cmpi .slt v189 v21
  let v192 : BitVec 32 := Scalar.extui v191
  let c0_i32_72 : BitVec 32 := 0#32
  let v193 : BitVec 1 := Scalar.cmpi .ne v192 c0_i32_72
  v193

def k0_off530 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off531 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c0_i32_76 : BitVec 32 := 0#32
  let c0_i32_77 : BitVec 32 := 0#32
  let c0_i32_78 : BitVec 32 := 0#32
  let c0_i32_79 : BitVec 32 := 0#32
  ![v190.toNat, 0, 0, 0, 0]
def k0_off532 (v234 : BitVec 32) : Fin 4 → Nat :=
  let c0_i32_80 : BitVec 32 := 0#32
  let c0_i32_81 : BitVec 32 := 0#32
  let c0_i32_82 : BitVec 32 := 0#32
  ![v234.toNat, 0, 0, 0]

def k0_chk130 (v0 : BitVec 32) (k0_t5 : Fin (k0_t5_loop v0).trips) (v234 : BitVec 32) : Prop :=
  (∀ (k0_h9 : k0_cond9 v0 k0_t5 = 1#1), ∀ a, (k0_off532 v234) a + S1x2x128x128.size a ≤ S1024x2x128x128.size a) ∧
  (∀ (k0_h9 : k0_cond9 v0 k0_t5 = 1#1), ∀ (hinb : ∀ a, (k0_off532 v234) a + S1x2x128x128.size a ≤ S1024x2x128x128.size a), (Rect.unit (s := S1024x2x128x128) (k0_off532 v234) S1x2x128x128.size hinb).WholeWords (EltTy.packing .fp8e4m3))
theorem k0_off532_inb : ∀ (v0 : BitVec 32) (k0_t5 : Fin (k0_t5_loop v0).trips) (v234 : BitVec 32) (k0_hw130 : k0_chk130 v0 k0_t5 v234), ∀ (k0_h9 : k0_cond9 v0 k0_t5 = 1#1), ∀ a, (k0_off532 v234) a + S1x2x128x128.size a ≤ S1024x2x128x128.size a := fun v0 k0_t5 v234 k0_hw130 k0_h9 => k0_hw130.1 k0_h9
theorem k0_off532_wordsfp8e4m3 : ∀ (v0 : BitVec 32) (k0_t5 : Fin (k0_t5_loop v0).trips) (v234 : BitVec 32) (k0_hw130 : k0_chk130 v0 k0_t5 v234), ∀ (k0_h9 : k0_cond9 v0 k0_t5 = 1#1), (Rect.unit (s := S1024x2x128x128) (k0_off532 v234) S1x2x128x128.size (k0_off532_inb v0 k0_t5 v234 k0_hw130 k0_h9)).WholeWords (EltTy.packing .fp8e4m3) := fun v0 k0_t5 v234 k0_hw130 k0_h9 => k0_hw130.2 k0_h9 (k0_off532_inb v0 k0_t5 v234 k0_hw130 k0_h9)

def k0_off533 (v0 : BitVec 32) (k0_t5 : Fin (k0_t5_loop v0).trips) : Fin 2 → Nat :=
  let c0_84 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c1_i32_83 : BitVec 32 := 1#32
  let v241 : BitVec 32 := Scalar.addi v231 c1_i32_83
  let v242 : Index := Scalar.indexCast v241
  ![0, v242.toNat]
def k0_off534 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off535 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c1_i32_85 : BitVec 32 := 1#32
  let c0_i32_86 : BitVec 32 := 0#32
  let c0_i32_87 : BitVec 32 := 0#32
  let c0_i32_88 : BitVec 32 := 0#32
  ![v190.toNat, 1, 0, 0, 0]
def k0_off536 (v243 : BitVec 32) : Fin 4 → Nat :=
  let c0_i32_89 : BitVec 32 := 0#32
  let c0_i32_90 : BitVec 32 := 0#32
  let c0_i32_91 : BitVec 32 := 0#32
  ![v243.toNat, 0, 0, 0]

def k0_chk131 (v0 : BitVec 32) (k0_t5 : Fin (k0_t5_loop v0).trips) (v243 : BitVec 32) : Prop :=
  (∀ (k0_h9 : k0_cond9 v0 k0_t5 = 1#1), ∀ a, (k0_off536 v243) a + S1x2x128x128.size a ≤ S1024x2x128x128.size a) ∧
  (∀ (k0_h9 : k0_cond9 v0 k0_t5 = 1#1), ∀ (hinb : ∀ a, (k0_off536 v243) a + S1x2x128x128.size a ≤ S1024x2x128x128.size a), (Rect.unit (s := S1024x2x128x128) (k0_off536 v243) S1x2x128x128.size hinb).WholeWords (EltTy.packing .fp8e4m3))
theorem k0_off536_inb : ∀ (v0 : BitVec 32) (k0_t5 : Fin (k0_t5_loop v0).trips) (v243 : BitVec 32) (k0_hw131 : k0_chk131 v0 k0_t5 v243), ∀ (k0_h9 : k0_cond9 v0 k0_t5 = 1#1), ∀ a, (k0_off536 v243) a + S1x2x128x128.size a ≤ S1024x2x128x128.size a := fun v0 k0_t5 v243 k0_hw131 k0_h9 => k0_hw131.1 k0_h9
theorem k0_off536_wordsfp8e4m3 : ∀ (v0 : BitVec 32) (k0_t5 : Fin (k0_t5_loop v0).trips) (v243 : BitVec 32) (k0_hw131 : k0_chk131 v0 k0_t5 v243), ∀ (k0_h9 : k0_cond9 v0 k0_t5 = 1#1), (Rect.unit (s := S1024x2x128x128) (k0_off536 v243) S1x2x128x128.size (k0_off536_inb v0 k0_t5 v243 k0_hw131 k0_h9)).WholeWords (EltTy.packing .fp8e4m3) := fun v0 k0_t5 v243 k0_hw131 k0_h9 => k0_hw131.2 k0_h9 (k0_off536_inb v0 k0_t5 v243 k0_hw131 k0_h9)

def k0_off537 (v0 : BitVec 32) (k0_t5 : Fin (k0_t5_loop v0).trips) : Fin 2 → Nat :=
  let c0_93 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c2_i32_92 : BitVec 32 := 2#32
  let v250 : BitVec 32 := Scalar.addi v231 c2_i32_92
  let v251 : Index := Scalar.indexCast v250
  ![0, v251.toNat]
def k0_off538 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off539 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c2_i32_94 : BitVec 32 := 2#32
  let c0_i32_95 : BitVec 32 := 0#32
  let c0_i32_96 : BitVec 32 := 0#32
  let c0_i32_97 : BitVec 32 := 0#32
  ![v190.toNat, 2, 0, 0, 0]
def k0_off540 (v252 : BitVec 32) : Fin 4 → Nat :=
  let c0_i32_98 : BitVec 32 := 0#32
  let c0_i32_99 : BitVec 32 := 0#32
  let c0_i32_100 : BitVec 32 := 0#32
  ![v252.toNat, 0, 0, 0]

def k0_chk132 (v0 : BitVec 32) (k0_t5 : Fin (k0_t5_loop v0).trips) (v252 : BitVec 32) : Prop :=
  (∀ (k0_h9 : k0_cond9 v0 k0_t5 = 1#1), ∀ a, (k0_off540 v252) a + S1x2x128x128.size a ≤ S1024x2x128x128.size a) ∧
  (∀ (k0_h9 : k0_cond9 v0 k0_t5 = 1#1), ∀ (hinb : ∀ a, (k0_off540 v252) a + S1x2x128x128.size a ≤ S1024x2x128x128.size a), (Rect.unit (s := S1024x2x128x128) (k0_off540 v252) S1x2x128x128.size hinb).WholeWords (EltTy.packing .fp8e4m3))
theorem k0_off540_inb : ∀ (v0 : BitVec 32) (k0_t5 : Fin (k0_t5_loop v0).trips) (v252 : BitVec 32) (k0_hw132 : k0_chk132 v0 k0_t5 v252), ∀ (k0_h9 : k0_cond9 v0 k0_t5 = 1#1), ∀ a, (k0_off540 v252) a + S1x2x128x128.size a ≤ S1024x2x128x128.size a := fun v0 k0_t5 v252 k0_hw132 k0_h9 => k0_hw132.1 k0_h9
theorem k0_off540_wordsfp8e4m3 : ∀ (v0 : BitVec 32) (k0_t5 : Fin (k0_t5_loop v0).trips) (v252 : BitVec 32) (k0_hw132 : k0_chk132 v0 k0_t5 v252), ∀ (k0_h9 : k0_cond9 v0 k0_t5 = 1#1), (Rect.unit (s := S1024x2x128x128) (k0_off540 v252) S1x2x128x128.size (k0_off540_inb v0 k0_t5 v252 k0_hw132 k0_h9)).WholeWords (EltTy.packing .fp8e4m3) := fun v0 k0_t5 v252 k0_hw132 k0_h9 => k0_hw132.2 k0_h9 (k0_off540_inb v0 k0_t5 v252 k0_hw132 k0_h9)

def k0_off541 (v0 : BitVec 32) (k0_t5 : Fin (k0_t5_loop v0).trips) : Fin 2 → Nat :=
  let c0_101 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c3_i32 : BitVec 32 := 3#32
  let v259 : BitVec 32 := Scalar.addi v231 c3_i32
  let v260 : Index := Scalar.indexCast v259
  ![0, v260.toNat]
def k0_off542 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off543 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c3_i32_102 : BitVec 32 := 3#32
  let c0_i32_103 : BitVec 32 := 0#32
  let c0_i32_104 : BitVec 32 := 0#32
  let c0_i32_105 : BitVec 32 := 0#32
  ![v190.toNat, 3, 0, 0, 0]
def k0_off544 (v261 : BitVec 32) : Fin 4 → Nat :=
  let c0_i32_106 : BitVec 32 := 0#32
  let c0_i32_107 : BitVec 32 := 0#32
  let c0_i32_108 : BitVec 32 := 0#32
  ![v261.toNat, 0, 0, 0]

def k0_chk133 (v0 : BitVec 32) (k0_t5 : Fin (k0_t5_loop v0).trips) (v261 : BitVec 32) : Prop :=
  (∀ (k0_h9 : k0_cond9 v0 k0_t5 = 1#1), ∀ a, (k0_off544 v261) a + S1x2x128x128.size a ≤ S1024x2x128x128.size a) ∧
  (∀ (k0_h9 : k0_cond9 v0 k0_t5 = 1#1), ∀ (hinb : ∀ a, (k0_off544 v261) a + S1x2x128x128.size a ≤ S1024x2x128x128.size a), (Rect.unit (s := S1024x2x128x128) (k0_off544 v261) S1x2x128x128.size hinb).WholeWords (EltTy.packing .fp8e4m3))
theorem k0_off544_inb : ∀ (v0 : BitVec 32) (k0_t5 : Fin (k0_t5_loop v0).trips) (v261 : BitVec 32) (k0_hw133 : k0_chk133 v0 k0_t5 v261), ∀ (k0_h9 : k0_cond9 v0 k0_t5 = 1#1), ∀ a, (k0_off544 v261) a + S1x2x128x128.size a ≤ S1024x2x128x128.size a := fun v0 k0_t5 v261 k0_hw133 k0_h9 => k0_hw133.1 k0_h9
theorem k0_off544_wordsfp8e4m3 : ∀ (v0 : BitVec 32) (k0_t5 : Fin (k0_t5_loop v0).trips) (v261 : BitVec 32) (k0_hw133 : k0_chk133 v0 k0_t5 v261), ∀ (k0_h9 : k0_cond9 v0 k0_t5 = 1#1), (Rect.unit (s := S1024x2x128x128) (k0_off544 v261) S1x2x128x128.size (k0_off544_inb v0 k0_t5 v261 k0_hw133 k0_h9)).WholeWords (EltTy.packing .fp8e4m3) := fun v0 k0_t5 v261 k0_hw133 k0_h9 => k0_hw133.2 k0_h9 (k0_off544_inb v0 k0_t5 v261 k0_hw133 k0_h9)

def k0_off545 (v0 : BitVec 32) (k0_t5 : Fin (k0_t5_loop v0).trips) : Fin 2 → Nat :=
  let c0_109 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c4_i32 : BitVec 32 := 4#32
  let v268 : BitVec 32 := Scalar.addi v231 c4_i32
  let v269 : Index := Scalar.indexCast v268
  ![0, v269.toNat]
def k0_off546 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off547 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c4_i32_110 : BitVec 32 := 4#32
  let c0_i32_111 : BitVec 32 := 0#32
  let c0_i32_112 : BitVec 32 := 0#32
  let c0_i32_113 : BitVec 32 := 0#32
  ![v190.toNat, 4, 0, 0, 0]
def k0_off548 (v270 : BitVec 32) : Fin 4 → Nat :=
  let c0_i32_114 : BitVec 32 := 0#32
  let c0_i32_115 : BitVec 32 := 0#32
  let c0_i32_116 : BitVec 32 := 0#32
  ![v270.toNat, 0, 0, 0]

def k0_chk134 (v0 : BitVec 32) (k0_t5 : Fin (k0_t5_loop v0).trips) (v270 : BitVec 32) : Prop :=
  (∀ (k0_h9 : k0_cond9 v0 k0_t5 = 1#1), ∀ a, (k0_off548 v270) a + S1x2x128x128.size a ≤ S1024x2x128x128.size a) ∧
  (∀ (k0_h9 : k0_cond9 v0 k0_t5 = 1#1), ∀ (hinb : ∀ a, (k0_off548 v270) a + S1x2x128x128.size a ≤ S1024x2x128x128.size a), (Rect.unit (s := S1024x2x128x128) (k0_off548 v270) S1x2x128x128.size hinb).WholeWords (EltTy.packing .fp8e4m3))
theorem k0_off548_inb : ∀ (v0 : BitVec 32) (k0_t5 : Fin (k0_t5_loop v0).trips) (v270 : BitVec 32) (k0_hw134 : k0_chk134 v0 k0_t5 v270), ∀ (k0_h9 : k0_cond9 v0 k0_t5 = 1#1), ∀ a, (k0_off548 v270) a + S1x2x128x128.size a ≤ S1024x2x128x128.size a := fun v0 k0_t5 v270 k0_hw134 k0_h9 => k0_hw134.1 k0_h9
theorem k0_off548_wordsfp8e4m3 : ∀ (v0 : BitVec 32) (k0_t5 : Fin (k0_t5_loop v0).trips) (v270 : BitVec 32) (k0_hw134 : k0_chk134 v0 k0_t5 v270), ∀ (k0_h9 : k0_cond9 v0 k0_t5 = 1#1), (Rect.unit (s := S1024x2x128x128) (k0_off548 v270) S1x2x128x128.size (k0_off548_inb v0 k0_t5 v270 k0_hw134 k0_h9)).WholeWords (EltTy.packing .fp8e4m3) := fun v0 k0_t5 v270 k0_hw134 k0_h9 => k0_hw134.2 k0_h9 (k0_off548_inb v0 k0_t5 v270 k0_hw134 k0_h9)

def k0_off549 (v0 : BitVec 32) (k0_t5 : Fin (k0_t5_loop v0).trips) : Fin 2 → Nat :=
  let c0_117 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c5_i32 : BitVec 32 := 5#32
  let v277 : BitVec 32 := Scalar.addi v231 c5_i32
  let v278 : Index := Scalar.indexCast v277
  ![0, v278.toNat]
def k0_off550 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off551 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c5_i32_118 : BitVec 32 := 5#32
  let c0_i32_119 : BitVec 32 := 0#32
  let c0_i32_120 : BitVec 32 := 0#32
  let c0_i32_121 : BitVec 32 := 0#32
  ![v190.toNat, 5, 0, 0, 0]
def k0_off552 (v279 : BitVec 32) : Fin 4 → Nat :=
  let c0_i32_122 : BitVec 32 := 0#32
  let c0_i32_123 : BitVec 32 := 0#32
  let c0_i32_124 : BitVec 32 := 0#32
  ![v279.toNat, 0, 0, 0]

def k0_chk135 (v0 : BitVec 32) (k0_t5 : Fin (k0_t5_loop v0).trips) (v279 : BitVec 32) : Prop :=
  (∀ (k0_h9 : k0_cond9 v0 k0_t5 = 1#1), ∀ a, (k0_off552 v279) a + S1x2x128x128.size a ≤ S1024x2x128x128.size a) ∧
  (∀ (k0_h9 : k0_cond9 v0 k0_t5 = 1#1), ∀ (hinb : ∀ a, (k0_off552 v279) a + S1x2x128x128.size a ≤ S1024x2x128x128.size a), (Rect.unit (s := S1024x2x128x128) (k0_off552 v279) S1x2x128x128.size hinb).WholeWords (EltTy.packing .fp8e4m3))
theorem k0_off552_inb : ∀ (v0 : BitVec 32) (k0_t5 : Fin (k0_t5_loop v0).trips) (v279 : BitVec 32) (k0_hw135 : k0_chk135 v0 k0_t5 v279), ∀ (k0_h9 : k0_cond9 v0 k0_t5 = 1#1), ∀ a, (k0_off552 v279) a + S1x2x128x128.size a ≤ S1024x2x128x128.size a := fun v0 k0_t5 v279 k0_hw135 k0_h9 => k0_hw135.1 k0_h9
theorem k0_off552_wordsfp8e4m3 : ∀ (v0 : BitVec 32) (k0_t5 : Fin (k0_t5_loop v0).trips) (v279 : BitVec 32) (k0_hw135 : k0_chk135 v0 k0_t5 v279), ∀ (k0_h9 : k0_cond9 v0 k0_t5 = 1#1), (Rect.unit (s := S1024x2x128x128) (k0_off552 v279) S1x2x128x128.size (k0_off552_inb v0 k0_t5 v279 k0_hw135 k0_h9)).WholeWords (EltTy.packing .fp8e4m3) := fun v0 k0_t5 v279 k0_hw135 k0_h9 => k0_hw135.2 k0_h9 (k0_off552_inb v0 k0_t5 v279 k0_hw135 k0_h9)

def k0_off553 (v0 : BitVec 32) (k0_t5 : Fin (k0_t5_loop v0).trips) : Fin 2 → Nat :=
  let c0_125 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c6_i32 : BitVec 32 := 6#32
  let v286 : BitVec 32 := Scalar.addi v231 c6_i32
  let v287 : Index := Scalar.indexCast v286
  ![0, v287.toNat]
def k0_off554 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off555 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c6_i32_126 : BitVec 32 := 6#32
  let c0_i32_127 : BitVec 32 := 0#32
  let c0_i32_128 : BitVec 32 := 0#32
  let c0_i32_129 : BitVec 32 := 0#32
  ![v190.toNat, 6, 0, 0, 0]
def k0_off556 (v288 : BitVec 32) : Fin 4 → Nat :=
  let c0_i32_130 : BitVec 32 := 0#32
  let c0_i32_131 : BitVec 32 := 0#32
  let c0_i32_132 : BitVec 32 := 0#32
  ![v288.toNat, 0, 0, 0]

def k0_chk136 (v0 : BitVec 32) (k0_t5 : Fin (k0_t5_loop v0).trips) (v288 : BitVec 32) : Prop :=
  (∀ (k0_h9 : k0_cond9 v0 k0_t5 = 1#1), ∀ a, (k0_off556 v288) a + S1x2x128x128.size a ≤ S1024x2x128x128.size a) ∧
  (∀ (k0_h9 : k0_cond9 v0 k0_t5 = 1#1), ∀ (hinb : ∀ a, (k0_off556 v288) a + S1x2x128x128.size a ≤ S1024x2x128x128.size a), (Rect.unit (s := S1024x2x128x128) (k0_off556 v288) S1x2x128x128.size hinb).WholeWords (EltTy.packing .fp8e4m3))
theorem k0_off556_inb : ∀ (v0 : BitVec 32) (k0_t5 : Fin (k0_t5_loop v0).trips) (v288 : BitVec 32) (k0_hw136 : k0_chk136 v0 k0_t5 v288), ∀ (k0_h9 : k0_cond9 v0 k0_t5 = 1#1), ∀ a, (k0_off556 v288) a + S1x2x128x128.size a ≤ S1024x2x128x128.size a := fun v0 k0_t5 v288 k0_hw136 k0_h9 => k0_hw136.1 k0_h9
theorem k0_off556_wordsfp8e4m3 : ∀ (v0 : BitVec 32) (k0_t5 : Fin (k0_t5_loop v0).trips) (v288 : BitVec 32) (k0_hw136 : k0_chk136 v0 k0_t5 v288), ∀ (k0_h9 : k0_cond9 v0 k0_t5 = 1#1), (Rect.unit (s := S1024x2x128x128) (k0_off556 v288) S1x2x128x128.size (k0_off556_inb v0 k0_t5 v288 k0_hw136 k0_h9)).WholeWords (EltTy.packing .fp8e4m3) := fun v0 k0_t5 v288 k0_hw136 k0_h9 => k0_hw136.2 k0_h9 (k0_off556_inb v0 k0_t5 v288 k0_hw136 k0_h9)

def k0_off557 (v0 : BitVec 32) (k0_t5 : Fin (k0_t5_loop v0).trips) : Fin 2 → Nat :=
  let c0_133 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c7_i32 : BitVec 32 := 7#32
  let v295 : BitVec 32 := Scalar.addi v231 c7_i32
  let v296 : Index := Scalar.indexCast v295
  ![0, v296.toNat]
def k0_off558 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off559 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c7_i32_134 : BitVec 32 := 7#32
  let c0_i32_135 : BitVec 32 := 0#32
  let c0_i32_136 : BitVec 32 := 0#32
  let c0_i32_137 : BitVec 32 := 0#32
  ![v190.toNat, 7, 0, 0, 0]
def k0_off560 (v297 : BitVec 32) : Fin 4 → Nat :=
  let c0_i32_138 : BitVec 32 := 0#32
  let c0_i32_139 : BitVec 32 := 0#32
  let c0_i32_140 : BitVec 32 := 0#32
  ![v297.toNat, 0, 0, 0]

def k0_chk137 (v0 : BitVec 32) (k0_t5 : Fin (k0_t5_loop v0).trips) (v297 : BitVec 32) : Prop :=
  (∀ (k0_h9 : k0_cond9 v0 k0_t5 = 1#1), ∀ a, (k0_off560 v297) a + S1x2x128x128.size a ≤ S1024x2x128x128.size a) ∧
  (∀ (k0_h9 : k0_cond9 v0 k0_t5 = 1#1), ∀ (hinb : ∀ a, (k0_off560 v297) a + S1x2x128x128.size a ≤ S1024x2x128x128.size a), (Rect.unit (s := S1024x2x128x128) (k0_off560 v297) S1x2x128x128.size hinb).WholeWords (EltTy.packing .fp8e4m3))
theorem k0_off560_inb : ∀ (v0 : BitVec 32) (k0_t5 : Fin (k0_t5_loop v0).trips) (v297 : BitVec 32) (k0_hw137 : k0_chk137 v0 k0_t5 v297), ∀ (k0_h9 : k0_cond9 v0 k0_t5 = 1#1), ∀ a, (k0_off560 v297) a + S1x2x128x128.size a ≤ S1024x2x128x128.size a := fun v0 k0_t5 v297 k0_hw137 k0_h9 => k0_hw137.1 k0_h9
theorem k0_off560_wordsfp8e4m3 : ∀ (v0 : BitVec 32) (k0_t5 : Fin (k0_t5_loop v0).trips) (v297 : BitVec 32) (k0_hw137 : k0_chk137 v0 k0_t5 v297), ∀ (k0_h9 : k0_cond9 v0 k0_t5 = 1#1), (Rect.unit (s := S1024x2x128x128) (k0_off560 v297) S1x2x128x128.size (k0_off560_inb v0 k0_t5 v297 k0_hw137 k0_h9)).WholeWords (EltTy.packing .fp8e4m3) := fun v0 k0_t5 v297 k0_hw137 k0_h9 => k0_hw137.2 k0_h9 (k0_off560_inb v0 k0_t5 v297 k0_hw137 k0_h9)

def k0_off561 (v0 : BitVec 32) (k0_t5 : Fin (k0_t5_loop v0).trips) : Fin 2 → Nat :=
  let c0_142 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c8_i32_141 : BitVec 32 := 8#32
  let v304 : BitVec 32 := Scalar.addi v231 c8_i32_141
  let v305 : Index := Scalar.indexCast v304
  ![0, v305.toNat]
def k0_off562 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off563 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c8_i32_143 : BitVec 32 := 8#32
  let c0_i32_144 : BitVec 32 := 0#32
  let c0_i32_145 : BitVec 32 := 0#32
  let c0_i32_146 : BitVec 32 := 0#32
  ![v190.toNat, 8, 0, 0, 0]
def k0_off564 (v306 : BitVec 32) : Fin 4 → Nat :=
  let c0_i32_147 : BitVec 32 := 0#32
  let c0_i32_148 : BitVec 32 := 0#32
  let c0_i32_149 : BitVec 32 := 0#32
  ![v306.toNat, 0, 0, 0]

def k0_chk138 (v0 : BitVec 32) (k0_t5 : Fin (k0_t5_loop v0).trips) (v306 : BitVec 32) : Prop :=
  (∀ (k0_h9 : k0_cond9 v0 k0_t5 = 1#1), ∀ a, (k0_off564 v306) a + S1x2x128x128.size a ≤ S1024x2x128x128.size a) ∧
  (∀ (k0_h9 : k0_cond9 v0 k0_t5 = 1#1), ∀ (hinb : ∀ a, (k0_off564 v306) a + S1x2x128x128.size a ≤ S1024x2x128x128.size a), (Rect.unit (s := S1024x2x128x128) (k0_off564 v306) S1x2x128x128.size hinb).WholeWords (EltTy.packing .fp8e4m3))
theorem k0_off564_inb : ∀ (v0 : BitVec 32) (k0_t5 : Fin (k0_t5_loop v0).trips) (v306 : BitVec 32) (k0_hw138 : k0_chk138 v0 k0_t5 v306), ∀ (k0_h9 : k0_cond9 v0 k0_t5 = 1#1), ∀ a, (k0_off564 v306) a + S1x2x128x128.size a ≤ S1024x2x128x128.size a := fun v0 k0_t5 v306 k0_hw138 k0_h9 => k0_hw138.1 k0_h9
theorem k0_off564_wordsfp8e4m3 : ∀ (v0 : BitVec 32) (k0_t5 : Fin (k0_t5_loop v0).trips) (v306 : BitVec 32) (k0_hw138 : k0_chk138 v0 k0_t5 v306), ∀ (k0_h9 : k0_cond9 v0 k0_t5 = 1#1), (Rect.unit (s := S1024x2x128x128) (k0_off564 v306) S1x2x128x128.size (k0_off564_inb v0 k0_t5 v306 k0_hw138 k0_h9)).WholeWords (EltTy.packing .fp8e4m3) := fun v0 k0_t5 v306 k0_hw138 k0_h9 => k0_hw138.2 k0_h9 (k0_off564_inb v0 k0_t5 v306 k0_hw138 k0_h9)

def k0_off565 (v0 : BitVec 32) (k0_t5 : Fin (k0_t5_loop v0).trips) : Fin 2 → Nat :=
  let c0_150 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c9_i32 : BitVec 32 := 9#32
  let v313 : BitVec 32 := Scalar.addi v231 c9_i32
  let v314 : Index := Scalar.indexCast v313
  ![0, v314.toNat]
def k0_off566 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off567 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c9_i32_151 : BitVec 32 := 9#32
  let c0_i32_152 : BitVec 32 := 0#32
  let c0_i32_153 : BitVec 32 := 0#32
  let c0_i32_154 : BitVec 32 := 0#32
  ![v190.toNat, 9, 0, 0, 0]
def k0_off568 (v315 : BitVec 32) : Fin 4 → Nat :=
  let c0_i32_155 : BitVec 32 := 0#32
  let c0_i32_156 : BitVec 32 := 0#32
  let c0_i32_157 : BitVec 32 := 0#32
  ![v315.toNat, 0, 0, 0]

def k0_chk139 (v0 : BitVec 32) (k0_t5 : Fin (k0_t5_loop v0).trips) (v315 : BitVec 32) : Prop :=
  (∀ (k0_h9 : k0_cond9 v0 k0_t5 = 1#1), ∀ a, (k0_off568 v315) a + S1x2x128x128.size a ≤ S1024x2x128x128.size a) ∧
  (∀ (k0_h9 : k0_cond9 v0 k0_t5 = 1#1), ∀ (hinb : ∀ a, (k0_off568 v315) a + S1x2x128x128.size a ≤ S1024x2x128x128.size a), (Rect.unit (s := S1024x2x128x128) (k0_off568 v315) S1x2x128x128.size hinb).WholeWords (EltTy.packing .fp8e4m3))
theorem k0_off568_inb : ∀ (v0 : BitVec 32) (k0_t5 : Fin (k0_t5_loop v0).trips) (v315 : BitVec 32) (k0_hw139 : k0_chk139 v0 k0_t5 v315), ∀ (k0_h9 : k0_cond9 v0 k0_t5 = 1#1), ∀ a, (k0_off568 v315) a + S1x2x128x128.size a ≤ S1024x2x128x128.size a := fun v0 k0_t5 v315 k0_hw139 k0_h9 => k0_hw139.1 k0_h9
theorem k0_off568_wordsfp8e4m3 : ∀ (v0 : BitVec 32) (k0_t5 : Fin (k0_t5_loop v0).trips) (v315 : BitVec 32) (k0_hw139 : k0_chk139 v0 k0_t5 v315), ∀ (k0_h9 : k0_cond9 v0 k0_t5 = 1#1), (Rect.unit (s := S1024x2x128x128) (k0_off568 v315) S1x2x128x128.size (k0_off568_inb v0 k0_t5 v315 k0_hw139 k0_h9)).WholeWords (EltTy.packing .fp8e4m3) := fun v0 k0_t5 v315 k0_hw139 k0_h9 => k0_hw139.2 k0_h9 (k0_off568_inb v0 k0_t5 v315 k0_hw139 k0_h9)

def k0_off569 (v0 : BitVec 32) (k0_t5 : Fin (k0_t5_loop v0).trips) : Fin 2 → Nat :=
  let c0_158 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c10_i32 : BitVec 32 := 10#32
  let v322 : BitVec 32 := Scalar.addi v231 c10_i32
  let v323 : Index := Scalar.indexCast v322
  ![0, v323.toNat]
def k0_off570 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off571 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c10_i32_159 : BitVec 32 := 10#32
  let c0_i32_160 : BitVec 32 := 0#32
  let c0_i32_161 : BitVec 32 := 0#32
  let c0_i32_162 : BitVec 32 := 0#32
  ![v190.toNat, 10, 0, 0, 0]
def k0_off572 (v324 : BitVec 32) : Fin 4 → Nat :=
  let c0_i32_163 : BitVec 32 := 0#32
  let c0_i32_164 : BitVec 32 := 0#32
  let c0_i32_165 : BitVec 32 := 0#32
  ![v324.toNat, 0, 0, 0]

def k0_chk140 (v0 : BitVec 32) (k0_t5 : Fin (k0_t5_loop v0).trips) (v324 : BitVec 32) : Prop :=
  (∀ (k0_h9 : k0_cond9 v0 k0_t5 = 1#1), ∀ a, (k0_off572 v324) a + S1x2x128x128.size a ≤ S1024x2x128x128.size a) ∧
  (∀ (k0_h9 : k0_cond9 v0 k0_t5 = 1#1), ∀ (hinb : ∀ a, (k0_off572 v324) a + S1x2x128x128.size a ≤ S1024x2x128x128.size a), (Rect.unit (s := S1024x2x128x128) (k0_off572 v324) S1x2x128x128.size hinb).WholeWords (EltTy.packing .fp8e4m3))
theorem k0_off572_inb : ∀ (v0 : BitVec 32) (k0_t5 : Fin (k0_t5_loop v0).trips) (v324 : BitVec 32) (k0_hw140 : k0_chk140 v0 k0_t5 v324), ∀ (k0_h9 : k0_cond9 v0 k0_t5 = 1#1), ∀ a, (k0_off572 v324) a + S1x2x128x128.size a ≤ S1024x2x128x128.size a := fun v0 k0_t5 v324 k0_hw140 k0_h9 => k0_hw140.1 k0_h9
theorem k0_off572_wordsfp8e4m3 : ∀ (v0 : BitVec 32) (k0_t5 : Fin (k0_t5_loop v0).trips) (v324 : BitVec 32) (k0_hw140 : k0_chk140 v0 k0_t5 v324), ∀ (k0_h9 : k0_cond9 v0 k0_t5 = 1#1), (Rect.unit (s := S1024x2x128x128) (k0_off572 v324) S1x2x128x128.size (k0_off572_inb v0 k0_t5 v324 k0_hw140 k0_h9)).WholeWords (EltTy.packing .fp8e4m3) := fun v0 k0_t5 v324 k0_hw140 k0_h9 => k0_hw140.2 k0_h9 (k0_off572_inb v0 k0_t5 v324 k0_hw140 k0_h9)

def k0_off573 (v0 : BitVec 32) (k0_t5 : Fin (k0_t5_loop v0).trips) : Fin 2 → Nat :=
  let c0_166 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c11_i32 : BitVec 32 := 11#32
  let v331 : BitVec 32 := Scalar.addi v231 c11_i32
  let v332 : Index := Scalar.indexCast v331
  ![0, v332.toNat]
def k0_off574 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off575 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c11_i32_167 : BitVec 32 := 11#32
  let c0_i32_168 : BitVec 32 := 0#32
  let c0_i32_169 : BitVec 32 := 0#32
  let c0_i32_170 : BitVec 32 := 0#32
  ![v190.toNat, 11, 0, 0, 0]
def k0_off576 (v333 : BitVec 32) : Fin 4 → Nat :=
  let c0_i32_171 : BitVec 32 := 0#32
  let c0_i32_172 : BitVec 32 := 0#32
  let c0_i32_173 : BitVec 32 := 0#32
  ![v333.toNat, 0, 0, 0]

def k0_chk141 (v0 : BitVec 32) (k0_t5 : Fin (k0_t5_loop v0).trips) (v333 : BitVec 32) : Prop :=
  (∀ (k0_h9 : k0_cond9 v0 k0_t5 = 1#1), ∀ a, (k0_off576 v333) a + S1x2x128x128.size a ≤ S1024x2x128x128.size a) ∧
  (∀ (k0_h9 : k0_cond9 v0 k0_t5 = 1#1), ∀ (hinb : ∀ a, (k0_off576 v333) a + S1x2x128x128.size a ≤ S1024x2x128x128.size a), (Rect.unit (s := S1024x2x128x128) (k0_off576 v333) S1x2x128x128.size hinb).WholeWords (EltTy.packing .fp8e4m3))
theorem k0_off576_inb : ∀ (v0 : BitVec 32) (k0_t5 : Fin (k0_t5_loop v0).trips) (v333 : BitVec 32) (k0_hw141 : k0_chk141 v0 k0_t5 v333), ∀ (k0_h9 : k0_cond9 v0 k0_t5 = 1#1), ∀ a, (k0_off576 v333) a + S1x2x128x128.size a ≤ S1024x2x128x128.size a := fun v0 k0_t5 v333 k0_hw141 k0_h9 => k0_hw141.1 k0_h9
theorem k0_off576_wordsfp8e4m3 : ∀ (v0 : BitVec 32) (k0_t5 : Fin (k0_t5_loop v0).trips) (v333 : BitVec 32) (k0_hw141 : k0_chk141 v0 k0_t5 v333), ∀ (k0_h9 : k0_cond9 v0 k0_t5 = 1#1), (Rect.unit (s := S1024x2x128x128) (k0_off576 v333) S1x2x128x128.size (k0_off576_inb v0 k0_t5 v333 k0_hw141 k0_h9)).WholeWords (EltTy.packing .fp8e4m3) := fun v0 k0_t5 v333 k0_hw141 k0_h9 => k0_hw141.2 k0_h9 (k0_off576_inb v0 k0_t5 v333 k0_hw141 k0_h9)

def k0_off577 (v0 : BitVec 32) (k0_t5 : Fin (k0_t5_loop v0).trips) : Fin 2 → Nat :=
  let c0_174 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c12_i32 : BitVec 32 := 12#32
  let v340 : BitVec 32 := Scalar.addi v231 c12_i32
  let v341 : Index := Scalar.indexCast v340
  ![0, v341.toNat]
def k0_off578 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off579 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c12_i32_175 : BitVec 32 := 12#32
  let c0_i32_176 : BitVec 32 := 0#32
  let c0_i32_177 : BitVec 32 := 0#32
  let c0_i32_178 : BitVec 32 := 0#32
  ![v190.toNat, 12, 0, 0, 0]
def k0_off580 (v342 : BitVec 32) : Fin 4 → Nat :=
  let c0_i32_179 : BitVec 32 := 0#32
  let c0_i32_180 : BitVec 32 := 0#32
  let c0_i32_181 : BitVec 32 := 0#32
  ![v342.toNat, 0, 0, 0]

def k0_chk142 (v0 : BitVec 32) (k0_t5 : Fin (k0_t5_loop v0).trips) (v342 : BitVec 32) : Prop :=
  (∀ (k0_h9 : k0_cond9 v0 k0_t5 = 1#1), ∀ a, (k0_off580 v342) a + S1x2x128x128.size a ≤ S1024x2x128x128.size a) ∧
  (∀ (k0_h9 : k0_cond9 v0 k0_t5 = 1#1), ∀ (hinb : ∀ a, (k0_off580 v342) a + S1x2x128x128.size a ≤ S1024x2x128x128.size a), (Rect.unit (s := S1024x2x128x128) (k0_off580 v342) S1x2x128x128.size hinb).WholeWords (EltTy.packing .fp8e4m3))
theorem k0_off580_inb : ∀ (v0 : BitVec 32) (k0_t5 : Fin (k0_t5_loop v0).trips) (v342 : BitVec 32) (k0_hw142 : k0_chk142 v0 k0_t5 v342), ∀ (k0_h9 : k0_cond9 v0 k0_t5 = 1#1), ∀ a, (k0_off580 v342) a + S1x2x128x128.size a ≤ S1024x2x128x128.size a := fun v0 k0_t5 v342 k0_hw142 k0_h9 => k0_hw142.1 k0_h9
theorem k0_off580_wordsfp8e4m3 : ∀ (v0 : BitVec 32) (k0_t5 : Fin (k0_t5_loop v0).trips) (v342 : BitVec 32) (k0_hw142 : k0_chk142 v0 k0_t5 v342), ∀ (k0_h9 : k0_cond9 v0 k0_t5 = 1#1), (Rect.unit (s := S1024x2x128x128) (k0_off580 v342) S1x2x128x128.size (k0_off580_inb v0 k0_t5 v342 k0_hw142 k0_h9)).WholeWords (EltTy.packing .fp8e4m3) := fun v0 k0_t5 v342 k0_hw142 k0_h9 => k0_hw142.2 k0_h9 (k0_off580_inb v0 k0_t5 v342 k0_hw142 k0_h9)

def k0_off581 (v0 : BitVec 32) (k0_t5 : Fin (k0_t5_loop v0).trips) : Fin 2 → Nat :=
  let c0_182 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c13_i32 : BitVec 32 := 13#32
  let v349 : BitVec 32 := Scalar.addi v231 c13_i32
  let v350 : Index := Scalar.indexCast v349
  ![0, v350.toNat]
def k0_off582 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off583 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c13_i32_183 : BitVec 32 := 13#32
  let c0_i32_184 : BitVec 32 := 0#32
  let c0_i32_185 : BitVec 32 := 0#32
  let c0_i32_186 : BitVec 32 := 0#32
  ![v190.toNat, 13, 0, 0, 0]
def k0_off584 (v351 : BitVec 32) : Fin 4 → Nat :=
  let c0_i32_187 : BitVec 32 := 0#32
  let c0_i32_188 : BitVec 32 := 0#32
  let c0_i32_189 : BitVec 32 := 0#32
  ![v351.toNat, 0, 0, 0]

def k0_chk143 (v0 : BitVec 32) (k0_t5 : Fin (k0_t5_loop v0).trips) (v351 : BitVec 32) : Prop :=
  (∀ (k0_h9 : k0_cond9 v0 k0_t5 = 1#1), ∀ a, (k0_off584 v351) a + S1x2x128x128.size a ≤ S1024x2x128x128.size a) ∧
  (∀ (k0_h9 : k0_cond9 v0 k0_t5 = 1#1), ∀ (hinb : ∀ a, (k0_off584 v351) a + S1x2x128x128.size a ≤ S1024x2x128x128.size a), (Rect.unit (s := S1024x2x128x128) (k0_off584 v351) S1x2x128x128.size hinb).WholeWords (EltTy.packing .fp8e4m3))
theorem k0_off584_inb : ∀ (v0 : BitVec 32) (k0_t5 : Fin (k0_t5_loop v0).trips) (v351 : BitVec 32) (k0_hw143 : k0_chk143 v0 k0_t5 v351), ∀ (k0_h9 : k0_cond9 v0 k0_t5 = 1#1), ∀ a, (k0_off584 v351) a + S1x2x128x128.size a ≤ S1024x2x128x128.size a := fun v0 k0_t5 v351 k0_hw143 k0_h9 => k0_hw143.1 k0_h9
theorem k0_off584_wordsfp8e4m3 : ∀ (v0 : BitVec 32) (k0_t5 : Fin (k0_t5_loop v0).trips) (v351 : BitVec 32) (k0_hw143 : k0_chk143 v0 k0_t5 v351), ∀ (k0_h9 : k0_cond9 v0 k0_t5 = 1#1), (Rect.unit (s := S1024x2x128x128) (k0_off584 v351) S1x2x128x128.size (k0_off584_inb v0 k0_t5 v351 k0_hw143 k0_h9)).WholeWords (EltTy.packing .fp8e4m3) := fun v0 k0_t5 v351 k0_hw143 k0_h9 => k0_hw143.2 k0_h9 (k0_off584_inb v0 k0_t5 v351 k0_hw143 k0_h9)

def k0_off585 (v0 : BitVec 32) (k0_t5 : Fin (k0_t5_loop v0).trips) : Fin 2 → Nat :=
  let c0_190 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c14_i32 : BitVec 32 := 14#32
  let v358 : BitVec 32 := Scalar.addi v231 c14_i32
  let v359 : Index := Scalar.indexCast v358
  ![0, v359.toNat]
def k0_off586 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off587 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c14_i32_191 : BitVec 32 := 14#32
  let c0_i32_192 : BitVec 32 := 0#32
  let c0_i32_193 : BitVec 32 := 0#32
  let c0_i32_194 : BitVec 32 := 0#32
  ![v190.toNat, 14, 0, 0, 0]
def k0_off588 (v360 : BitVec 32) : Fin 4 → Nat :=
  let c0_i32_195 : BitVec 32 := 0#32
  let c0_i32_196 : BitVec 32 := 0#32
  let c0_i32_197 : BitVec 32 := 0#32
  ![v360.toNat, 0, 0, 0]

def k0_chk144 (v0 : BitVec 32) (k0_t5 : Fin (k0_t5_loop v0).trips) (v360 : BitVec 32) : Prop :=
  (∀ (k0_h9 : k0_cond9 v0 k0_t5 = 1#1), ∀ a, (k0_off588 v360) a + S1x2x128x128.size a ≤ S1024x2x128x128.size a) ∧
  (∀ (k0_h9 : k0_cond9 v0 k0_t5 = 1#1), ∀ (hinb : ∀ a, (k0_off588 v360) a + S1x2x128x128.size a ≤ S1024x2x128x128.size a), (Rect.unit (s := S1024x2x128x128) (k0_off588 v360) S1x2x128x128.size hinb).WholeWords (EltTy.packing .fp8e4m3))
theorem k0_off588_inb : ∀ (v0 : BitVec 32) (k0_t5 : Fin (k0_t5_loop v0).trips) (v360 : BitVec 32) (k0_hw144 : k0_chk144 v0 k0_t5 v360), ∀ (k0_h9 : k0_cond9 v0 k0_t5 = 1#1), ∀ a, (k0_off588 v360) a + S1x2x128x128.size a ≤ S1024x2x128x128.size a := fun v0 k0_t5 v360 k0_hw144 k0_h9 => k0_hw144.1 k0_h9
theorem k0_off588_wordsfp8e4m3 : ∀ (v0 : BitVec 32) (k0_t5 : Fin (k0_t5_loop v0).trips) (v360 : BitVec 32) (k0_hw144 : k0_chk144 v0 k0_t5 v360), ∀ (k0_h9 : k0_cond9 v0 k0_t5 = 1#1), (Rect.unit (s := S1024x2x128x128) (k0_off588 v360) S1x2x128x128.size (k0_off588_inb v0 k0_t5 v360 k0_hw144 k0_h9)).WholeWords (EltTy.packing .fp8e4m3) := fun v0 k0_t5 v360 k0_hw144 k0_h9 => k0_hw144.2 k0_h9 (k0_off588_inb v0 k0_t5 v360 k0_hw144 k0_h9)

def k0_off589 (v0 : BitVec 32) (k0_t5 : Fin (k0_t5_loop v0).trips) : Fin 2 → Nat :=
  let c0_198 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c16_i32 : BitVec 32 := 16#32
  let v231 : BitVec 32 := Scalar.muli v189 c16_i32
  let c15_i32 : BitVec 32 := 15#32
  let v367 : BitVec 32 := Scalar.addi v231 c15_i32
  let v368 : Index := Scalar.indexCast v367
  ![0, v368.toNat]
def k0_off590 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off591 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c15_i32_199 : BitVec 32 := 15#32
  let c0_i32_200 : BitVec 32 := 0#32
  let c0_i32_201 : BitVec 32 := 0#32
  let c0_i32_202 : BitVec 32 := 0#32
  ![v190.toNat, 15, 0, 0, 0]
def k0_off592 (v369 : BitVec 32) : Fin 4 → Nat :=
  let c0_i32_203 : BitVec 32 := 0#32
  let c0_i32_204 : BitVec 32 := 0#32
  let c0_i32_205 : BitVec 32 := 0#32
  ![v369.toNat, 0, 0, 0]

def k0_chk145 (v0 : BitVec 32) (k0_t5 : Fin (k0_t5_loop v0).trips) (v369 : BitVec 32) : Prop :=
  (∀ (k0_h9 : k0_cond9 v0 k0_t5 = 1#1), ∀ a, (k0_off592 v369) a + S1x2x128x128.size a ≤ S1024x2x128x128.size a) ∧
  (∀ (k0_h9 : k0_cond9 v0 k0_t5 = 1#1), ∀ (hinb : ∀ a, (k0_off592 v369) a + S1x2x128x128.size a ≤ S1024x2x128x128.size a), (Rect.unit (s := S1024x2x128x128) (k0_off592 v369) S1x2x128x128.size hinb).WholeWords (EltTy.packing .fp8e4m3))
theorem k0_off592_inb : ∀ (v0 : BitVec 32) (k0_t5 : Fin (k0_t5_loop v0).trips) (v369 : BitVec 32) (k0_hw145 : k0_chk145 v0 k0_t5 v369), ∀ (k0_h9 : k0_cond9 v0 k0_t5 = 1#1), ∀ a, (k0_off592 v369) a + S1x2x128x128.size a ≤ S1024x2x128x128.size a := fun v0 k0_t5 v369 k0_hw145 k0_h9 => k0_hw145.1 k0_h9
theorem k0_off592_wordsfp8e4m3 : ∀ (v0 : BitVec 32) (k0_t5 : Fin (k0_t5_loop v0).trips) (v369 : BitVec 32) (k0_hw145 : k0_chk145 v0 k0_t5 v369), ∀ (k0_h9 : k0_cond9 v0 k0_t5 = 1#1), (Rect.unit (s := S1024x2x128x128) (k0_off592 v369) S1x2x128x128.size (k0_off592_inb v0 k0_t5 v369 k0_hw145 k0_h9)).WholeWords (EltTy.packing .fp8e4m3) := fun v0 k0_t5 v369 k0_hw145 k0_h9 => k0_hw145.2 k0_h9 (k0_off592_inb v0 k0_t5 v369 k0_hw145 k0_h9)

def k0_off593 (v0 : BitVec 32) (k0_t5 : Fin (k0_t5_loop v0).trips) : Fin 2 → Nat :=
  let c0_75 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c0_i32_74 : BitVec 32 := 0#32
  let v233 : BitVec 32 := Scalar.addi v232 c0_i32_74
  let v234 : Index := Scalar.indexCast v233
  ![0, v234.toNat]
def k0_cond10 (v0 : BitVec 32) (k0_t5 : Fin (k0_t5_loop v0).trips) : BitVec 1 :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v194 : BitVec 1 := Scalar.cmpi .sge v189 v21
  let c2_i32 : BitVec 32 := 2#32
  let v22 : BitVec 32 := Scalar.muli c2_i32 v21
  let v195 : BitVec 1 := Scalar.cmpi .slt v189 v22
  let v196 : BitVec 1 := Scalar.andi v194 v195
  let v197 : BitVec 32 := Scalar.extui v196
  let c0_i32_73 : BitVec 32 := 0#32
  let v198 : BitVec 1 := Scalar.cmpi .ne v197 c0_i32_73
  v198

def k0_off594 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off595 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c0_i32_76 : BitVec 32 := 0#32
  let c0_i32_77 : BitVec 32 := 0#32
  let c0_i32_78 : BitVec 32 := 0#32
  let c0_i32_79 : BitVec 32 := 0#32
  ![v190.toNat, 0, 0, 0, 0]
def k0_off596 (v235 : BitVec 32) : Fin 4 → Nat :=
  let c0_i32_80 : BitVec 32 := 0#32
  let c0_i32_81 : BitVec 32 := 0#32
  let c0_i32_82 : BitVec 32 := 0#32
  ![v235.toNat, 0, 0, 0]

def k0_chk146 (v0 : BitVec 32) (k0_t5 : Fin (k0_t5_loop v0).trips) (v235 : BitVec 32) : Prop :=
  (∀ (k0_h10 : k0_cond10 v0 k0_t5 = 1#1), ∀ a, (k0_off596 v235) a + S1x2x128x128.size a ≤ S1024x2x128x128.size a) ∧
  (∀ (k0_h10 : k0_cond10 v0 k0_t5 = 1#1), ∀ (hinb : ∀ a, (k0_off596 v235) a + S1x2x128x128.size a ≤ S1024x2x128x128.size a), (Rect.unit (s := S1024x2x128x128) (k0_off596 v235) S1x2x128x128.size hinb).WholeWords (EltTy.packing .fp8e4m3))
theorem k0_off596_inb : ∀ (v0 : BitVec 32) (k0_t5 : Fin (k0_t5_loop v0).trips) (v235 : BitVec 32) (k0_hw146 : k0_chk146 v0 k0_t5 v235), ∀ (k0_h10 : k0_cond10 v0 k0_t5 = 1#1), ∀ a, (k0_off596 v235) a + S1x2x128x128.size a ≤ S1024x2x128x128.size a := fun v0 k0_t5 v235 k0_hw146 k0_h10 => k0_hw146.1 k0_h10
theorem k0_off596_wordsfp8e4m3 : ∀ (v0 : BitVec 32) (k0_t5 : Fin (k0_t5_loop v0).trips) (v235 : BitVec 32) (k0_hw146 : k0_chk146 v0 k0_t5 v235), ∀ (k0_h10 : k0_cond10 v0 k0_t5 = 1#1), (Rect.unit (s := S1024x2x128x128) (k0_off596 v235) S1x2x128x128.size (k0_off596_inb v0 k0_t5 v235 k0_hw146 k0_h10)).WholeWords (EltTy.packing .fp8e4m3) := fun v0 k0_t5 v235 k0_hw146 k0_h10 => k0_hw146.2 k0_h10 (k0_off596_inb v0 k0_t5 v235 k0_hw146 k0_h10)

def k0_off597 (v0 : BitVec 32) (k0_t5 : Fin (k0_t5_loop v0).trips) : Fin 2 → Nat :=
  let c0_84 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c1_i32_83 : BitVec 32 := 1#32
  let v242 : BitVec 32 := Scalar.addi v232 c1_i32_83
  let v243 : Index := Scalar.indexCast v242
  ![0, v243.toNat]
def k0_off598 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off599 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c1_i32_85 : BitVec 32 := 1#32
  let c0_i32_86 : BitVec 32 := 0#32
  let c0_i32_87 : BitVec 32 := 0#32
  let c0_i32_88 : BitVec 32 := 0#32
  ![v190.toNat, 1, 0, 0, 0]
def k0_off600 (v244 : BitVec 32) : Fin 4 → Nat :=
  let c0_i32_89 : BitVec 32 := 0#32
  let c0_i32_90 : BitVec 32 := 0#32
  let c0_i32_91 : BitVec 32 := 0#32
  ![v244.toNat, 0, 0, 0]

def k0_chk147 (v0 : BitVec 32) (k0_t5 : Fin (k0_t5_loop v0).trips) (v244 : BitVec 32) : Prop :=
  (∀ (k0_h10 : k0_cond10 v0 k0_t5 = 1#1), ∀ a, (k0_off600 v244) a + S1x2x128x128.size a ≤ S1024x2x128x128.size a) ∧
  (∀ (k0_h10 : k0_cond10 v0 k0_t5 = 1#1), ∀ (hinb : ∀ a, (k0_off600 v244) a + S1x2x128x128.size a ≤ S1024x2x128x128.size a), (Rect.unit (s := S1024x2x128x128) (k0_off600 v244) S1x2x128x128.size hinb).WholeWords (EltTy.packing .fp8e4m3))
theorem k0_off600_inb : ∀ (v0 : BitVec 32) (k0_t5 : Fin (k0_t5_loop v0).trips) (v244 : BitVec 32) (k0_hw147 : k0_chk147 v0 k0_t5 v244), ∀ (k0_h10 : k0_cond10 v0 k0_t5 = 1#1), ∀ a, (k0_off600 v244) a + S1x2x128x128.size a ≤ S1024x2x128x128.size a := fun v0 k0_t5 v244 k0_hw147 k0_h10 => k0_hw147.1 k0_h10
theorem k0_off600_wordsfp8e4m3 : ∀ (v0 : BitVec 32) (k0_t5 : Fin (k0_t5_loop v0).trips) (v244 : BitVec 32) (k0_hw147 : k0_chk147 v0 k0_t5 v244), ∀ (k0_h10 : k0_cond10 v0 k0_t5 = 1#1), (Rect.unit (s := S1024x2x128x128) (k0_off600 v244) S1x2x128x128.size (k0_off600_inb v0 k0_t5 v244 k0_hw147 k0_h10)).WholeWords (EltTy.packing .fp8e4m3) := fun v0 k0_t5 v244 k0_hw147 k0_h10 => k0_hw147.2 k0_h10 (k0_off600_inb v0 k0_t5 v244 k0_hw147 k0_h10)

def k0_off601 (v0 : BitVec 32) (k0_t5 : Fin (k0_t5_loop v0).trips) : Fin 2 → Nat :=
  let c0_93 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c2_i32_92 : BitVec 32 := 2#32
  let v251 : BitVec 32 := Scalar.addi v232 c2_i32_92
  let v252 : Index := Scalar.indexCast v251
  ![0, v252.toNat]
def k0_off602 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off603 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c2_i32_94 : BitVec 32 := 2#32
  let c0_i32_95 : BitVec 32 := 0#32
  let c0_i32_96 : BitVec 32 := 0#32
  let c0_i32_97 : BitVec 32 := 0#32
  ![v190.toNat, 2, 0, 0, 0]
def k0_off604 (v253 : BitVec 32) : Fin 4 → Nat :=
  let c0_i32_98 : BitVec 32 := 0#32
  let c0_i32_99 : BitVec 32 := 0#32
  let c0_i32_100 : BitVec 32 := 0#32
  ![v253.toNat, 0, 0, 0]

def k0_chk148 (v0 : BitVec 32) (k0_t5 : Fin (k0_t5_loop v0).trips) (v253 : BitVec 32) : Prop :=
  (∀ (k0_h10 : k0_cond10 v0 k0_t5 = 1#1), ∀ a, (k0_off604 v253) a + S1x2x128x128.size a ≤ S1024x2x128x128.size a) ∧
  (∀ (k0_h10 : k0_cond10 v0 k0_t5 = 1#1), ∀ (hinb : ∀ a, (k0_off604 v253) a + S1x2x128x128.size a ≤ S1024x2x128x128.size a), (Rect.unit (s := S1024x2x128x128) (k0_off604 v253) S1x2x128x128.size hinb).WholeWords (EltTy.packing .fp8e4m3))
theorem k0_off604_inb : ∀ (v0 : BitVec 32) (k0_t5 : Fin (k0_t5_loop v0).trips) (v253 : BitVec 32) (k0_hw148 : k0_chk148 v0 k0_t5 v253), ∀ (k0_h10 : k0_cond10 v0 k0_t5 = 1#1), ∀ a, (k0_off604 v253) a + S1x2x128x128.size a ≤ S1024x2x128x128.size a := fun v0 k0_t5 v253 k0_hw148 k0_h10 => k0_hw148.1 k0_h10
theorem k0_off604_wordsfp8e4m3 : ∀ (v0 : BitVec 32) (k0_t5 : Fin (k0_t5_loop v0).trips) (v253 : BitVec 32) (k0_hw148 : k0_chk148 v0 k0_t5 v253), ∀ (k0_h10 : k0_cond10 v0 k0_t5 = 1#1), (Rect.unit (s := S1024x2x128x128) (k0_off604 v253) S1x2x128x128.size (k0_off604_inb v0 k0_t5 v253 k0_hw148 k0_h10)).WholeWords (EltTy.packing .fp8e4m3) := fun v0 k0_t5 v253 k0_hw148 k0_h10 => k0_hw148.2 k0_h10 (k0_off604_inb v0 k0_t5 v253 k0_hw148 k0_h10)

def k0_off605 (v0 : BitVec 32) (k0_t5 : Fin (k0_t5_loop v0).trips) : Fin 2 → Nat :=
  let c0_101 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c3_i32 : BitVec 32 := 3#32
  let v260 : BitVec 32 := Scalar.addi v232 c3_i32
  let v261 : Index := Scalar.indexCast v260
  ![0, v261.toNat]
def k0_off606 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off607 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c3_i32_102 : BitVec 32 := 3#32
  let c0_i32_103 : BitVec 32 := 0#32
  let c0_i32_104 : BitVec 32 := 0#32
  let c0_i32_105 : BitVec 32 := 0#32
  ![v190.toNat, 3, 0, 0, 0]
def k0_off608 (v262 : BitVec 32) : Fin 4 → Nat :=
  let c0_i32_106 : BitVec 32 := 0#32
  let c0_i32_107 : BitVec 32 := 0#32
  let c0_i32_108 : BitVec 32 := 0#32
  ![v262.toNat, 0, 0, 0]

def k0_chk149 (v0 : BitVec 32) (k0_t5 : Fin (k0_t5_loop v0).trips) (v262 : BitVec 32) : Prop :=
  (∀ (k0_h10 : k0_cond10 v0 k0_t5 = 1#1), ∀ a, (k0_off608 v262) a + S1x2x128x128.size a ≤ S1024x2x128x128.size a) ∧
  (∀ (k0_h10 : k0_cond10 v0 k0_t5 = 1#1), ∀ (hinb : ∀ a, (k0_off608 v262) a + S1x2x128x128.size a ≤ S1024x2x128x128.size a), (Rect.unit (s := S1024x2x128x128) (k0_off608 v262) S1x2x128x128.size hinb).WholeWords (EltTy.packing .fp8e4m3))
theorem k0_off608_inb : ∀ (v0 : BitVec 32) (k0_t5 : Fin (k0_t5_loop v0).trips) (v262 : BitVec 32) (k0_hw149 : k0_chk149 v0 k0_t5 v262), ∀ (k0_h10 : k0_cond10 v0 k0_t5 = 1#1), ∀ a, (k0_off608 v262) a + S1x2x128x128.size a ≤ S1024x2x128x128.size a := fun v0 k0_t5 v262 k0_hw149 k0_h10 => k0_hw149.1 k0_h10
theorem k0_off608_wordsfp8e4m3 : ∀ (v0 : BitVec 32) (k0_t5 : Fin (k0_t5_loop v0).trips) (v262 : BitVec 32) (k0_hw149 : k0_chk149 v0 k0_t5 v262), ∀ (k0_h10 : k0_cond10 v0 k0_t5 = 1#1), (Rect.unit (s := S1024x2x128x128) (k0_off608 v262) S1x2x128x128.size (k0_off608_inb v0 k0_t5 v262 k0_hw149 k0_h10)).WholeWords (EltTy.packing .fp8e4m3) := fun v0 k0_t5 v262 k0_hw149 k0_h10 => k0_hw149.2 k0_h10 (k0_off608_inb v0 k0_t5 v262 k0_hw149 k0_h10)

def k0_off609 (v0 : BitVec 32) (k0_t5 : Fin (k0_t5_loop v0).trips) : Fin 2 → Nat :=
  let c0_109 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c4_i32 : BitVec 32 := 4#32
  let v269 : BitVec 32 := Scalar.addi v232 c4_i32
  let v270 : Index := Scalar.indexCast v269
  ![0, v270.toNat]
def k0_off610 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off611 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c4_i32_110 : BitVec 32 := 4#32
  let c0_i32_111 : BitVec 32 := 0#32
  let c0_i32_112 : BitVec 32 := 0#32
  let c0_i32_113 : BitVec 32 := 0#32
  ![v190.toNat, 4, 0, 0, 0]
def k0_off612 (v271 : BitVec 32) : Fin 4 → Nat :=
  let c0_i32_114 : BitVec 32 := 0#32
  let c0_i32_115 : BitVec 32 := 0#32
  let c0_i32_116 : BitVec 32 := 0#32
  ![v271.toNat, 0, 0, 0]

def k0_chk150 (v0 : BitVec 32) (k0_t5 : Fin (k0_t5_loop v0).trips) (v271 : BitVec 32) : Prop :=
  (∀ (k0_h10 : k0_cond10 v0 k0_t5 = 1#1), ∀ a, (k0_off612 v271) a + S1x2x128x128.size a ≤ S1024x2x128x128.size a) ∧
  (∀ (k0_h10 : k0_cond10 v0 k0_t5 = 1#1), ∀ (hinb : ∀ a, (k0_off612 v271) a + S1x2x128x128.size a ≤ S1024x2x128x128.size a), (Rect.unit (s := S1024x2x128x128) (k0_off612 v271) S1x2x128x128.size hinb).WholeWords (EltTy.packing .fp8e4m3))
theorem k0_off612_inb : ∀ (v0 : BitVec 32) (k0_t5 : Fin (k0_t5_loop v0).trips) (v271 : BitVec 32) (k0_hw150 : k0_chk150 v0 k0_t5 v271), ∀ (k0_h10 : k0_cond10 v0 k0_t5 = 1#1), ∀ a, (k0_off612 v271) a + S1x2x128x128.size a ≤ S1024x2x128x128.size a := fun v0 k0_t5 v271 k0_hw150 k0_h10 => k0_hw150.1 k0_h10
theorem k0_off612_wordsfp8e4m3 : ∀ (v0 : BitVec 32) (k0_t5 : Fin (k0_t5_loop v0).trips) (v271 : BitVec 32) (k0_hw150 : k0_chk150 v0 k0_t5 v271), ∀ (k0_h10 : k0_cond10 v0 k0_t5 = 1#1), (Rect.unit (s := S1024x2x128x128) (k0_off612 v271) S1x2x128x128.size (k0_off612_inb v0 k0_t5 v271 k0_hw150 k0_h10)).WholeWords (EltTy.packing .fp8e4m3) := fun v0 k0_t5 v271 k0_hw150 k0_h10 => k0_hw150.2 k0_h10 (k0_off612_inb v0 k0_t5 v271 k0_hw150 k0_h10)

def k0_off613 (v0 : BitVec 32) (k0_t5 : Fin (k0_t5_loop v0).trips) : Fin 2 → Nat :=
  let c0_117 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c5_i32 : BitVec 32 := 5#32
  let v278 : BitVec 32 := Scalar.addi v232 c5_i32
  let v279 : Index := Scalar.indexCast v278
  ![0, v279.toNat]
def k0_off614 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off615 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c5_i32_118 : BitVec 32 := 5#32
  let c0_i32_119 : BitVec 32 := 0#32
  let c0_i32_120 : BitVec 32 := 0#32
  let c0_i32_121 : BitVec 32 := 0#32
  ![v190.toNat, 5, 0, 0, 0]
def k0_off616 (v280 : BitVec 32) : Fin 4 → Nat :=
  let c0_i32_122 : BitVec 32 := 0#32
  let c0_i32_123 : BitVec 32 := 0#32
  let c0_i32_124 : BitVec 32 := 0#32
  ![v280.toNat, 0, 0, 0]

def k0_chk151 (v0 : BitVec 32) (k0_t5 : Fin (k0_t5_loop v0).trips) (v280 : BitVec 32) : Prop :=
  (∀ (k0_h10 : k0_cond10 v0 k0_t5 = 1#1), ∀ a, (k0_off616 v280) a + S1x2x128x128.size a ≤ S1024x2x128x128.size a) ∧
  (∀ (k0_h10 : k0_cond10 v0 k0_t5 = 1#1), ∀ (hinb : ∀ a, (k0_off616 v280) a + S1x2x128x128.size a ≤ S1024x2x128x128.size a), (Rect.unit (s := S1024x2x128x128) (k0_off616 v280) S1x2x128x128.size hinb).WholeWords (EltTy.packing .fp8e4m3))
theorem k0_off616_inb : ∀ (v0 : BitVec 32) (k0_t5 : Fin (k0_t5_loop v0).trips) (v280 : BitVec 32) (k0_hw151 : k0_chk151 v0 k0_t5 v280), ∀ (k0_h10 : k0_cond10 v0 k0_t5 = 1#1), ∀ a, (k0_off616 v280) a + S1x2x128x128.size a ≤ S1024x2x128x128.size a := fun v0 k0_t5 v280 k0_hw151 k0_h10 => k0_hw151.1 k0_h10
theorem k0_off616_wordsfp8e4m3 : ∀ (v0 : BitVec 32) (k0_t5 : Fin (k0_t5_loop v0).trips) (v280 : BitVec 32) (k0_hw151 : k0_chk151 v0 k0_t5 v280), ∀ (k0_h10 : k0_cond10 v0 k0_t5 = 1#1), (Rect.unit (s := S1024x2x128x128) (k0_off616 v280) S1x2x128x128.size (k0_off616_inb v0 k0_t5 v280 k0_hw151 k0_h10)).WholeWords (EltTy.packing .fp8e4m3) := fun v0 k0_t5 v280 k0_hw151 k0_h10 => k0_hw151.2 k0_h10 (k0_off616_inb v0 k0_t5 v280 k0_hw151 k0_h10)

def k0_off617 (v0 : BitVec 32) (k0_t5 : Fin (k0_t5_loop v0).trips) : Fin 2 → Nat :=
  let c0_125 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c6_i32 : BitVec 32 := 6#32
  let v287 : BitVec 32 := Scalar.addi v232 c6_i32
  let v288 : Index := Scalar.indexCast v287
  ![0, v288.toNat]
def k0_off618 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off619 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c6_i32_126 : BitVec 32 := 6#32
  let c0_i32_127 : BitVec 32 := 0#32
  let c0_i32_128 : BitVec 32 := 0#32
  let c0_i32_129 : BitVec 32 := 0#32
  ![v190.toNat, 6, 0, 0, 0]
def k0_off620 (v289 : BitVec 32) : Fin 4 → Nat :=
  let c0_i32_130 : BitVec 32 := 0#32
  let c0_i32_131 : BitVec 32 := 0#32
  let c0_i32_132 : BitVec 32 := 0#32
  ![v289.toNat, 0, 0, 0]

def k0_chk152 (v0 : BitVec 32) (k0_t5 : Fin (k0_t5_loop v0).trips) (v289 : BitVec 32) : Prop :=
  (∀ (k0_h10 : k0_cond10 v0 k0_t5 = 1#1), ∀ a, (k0_off620 v289) a + S1x2x128x128.size a ≤ S1024x2x128x128.size a) ∧
  (∀ (k0_h10 : k0_cond10 v0 k0_t5 = 1#1), ∀ (hinb : ∀ a, (k0_off620 v289) a + S1x2x128x128.size a ≤ S1024x2x128x128.size a), (Rect.unit (s := S1024x2x128x128) (k0_off620 v289) S1x2x128x128.size hinb).WholeWords (EltTy.packing .fp8e4m3))
theorem k0_off620_inb : ∀ (v0 : BitVec 32) (k0_t5 : Fin (k0_t5_loop v0).trips) (v289 : BitVec 32) (k0_hw152 : k0_chk152 v0 k0_t5 v289), ∀ (k0_h10 : k0_cond10 v0 k0_t5 = 1#1), ∀ a, (k0_off620 v289) a + S1x2x128x128.size a ≤ S1024x2x128x128.size a := fun v0 k0_t5 v289 k0_hw152 k0_h10 => k0_hw152.1 k0_h10
theorem k0_off620_wordsfp8e4m3 : ∀ (v0 : BitVec 32) (k0_t5 : Fin (k0_t5_loop v0).trips) (v289 : BitVec 32) (k0_hw152 : k0_chk152 v0 k0_t5 v289), ∀ (k0_h10 : k0_cond10 v0 k0_t5 = 1#1), (Rect.unit (s := S1024x2x128x128) (k0_off620 v289) S1x2x128x128.size (k0_off620_inb v0 k0_t5 v289 k0_hw152 k0_h10)).WholeWords (EltTy.packing .fp8e4m3) := fun v0 k0_t5 v289 k0_hw152 k0_h10 => k0_hw152.2 k0_h10 (k0_off620_inb v0 k0_t5 v289 k0_hw152 k0_h10)

def k0_off621 (v0 : BitVec 32) (k0_t5 : Fin (k0_t5_loop v0).trips) : Fin 2 → Nat :=
  let c0_133 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c7_i32 : BitVec 32 := 7#32
  let v296 : BitVec 32 := Scalar.addi v232 c7_i32
  let v297 : Index := Scalar.indexCast v296
  ![0, v297.toNat]
def k0_off622 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off623 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c7_i32_134 : BitVec 32 := 7#32
  let c0_i32_135 : BitVec 32 := 0#32
  let c0_i32_136 : BitVec 32 := 0#32
  let c0_i32_137 : BitVec 32 := 0#32
  ![v190.toNat, 7, 0, 0, 0]
def k0_off624 (v298 : BitVec 32) : Fin 4 → Nat :=
  let c0_i32_138 : BitVec 32 := 0#32
  let c0_i32_139 : BitVec 32 := 0#32
  let c0_i32_140 : BitVec 32 := 0#32
  ![v298.toNat, 0, 0, 0]

def k0_chk153 (v0 : BitVec 32) (k0_t5 : Fin (k0_t5_loop v0).trips) (v298 : BitVec 32) : Prop :=
  (∀ (k0_h10 : k0_cond10 v0 k0_t5 = 1#1), ∀ a, (k0_off624 v298) a + S1x2x128x128.size a ≤ S1024x2x128x128.size a) ∧
  (∀ (k0_h10 : k0_cond10 v0 k0_t5 = 1#1), ∀ (hinb : ∀ a, (k0_off624 v298) a + S1x2x128x128.size a ≤ S1024x2x128x128.size a), (Rect.unit (s := S1024x2x128x128) (k0_off624 v298) S1x2x128x128.size hinb).WholeWords (EltTy.packing .fp8e4m3))
theorem k0_off624_inb : ∀ (v0 : BitVec 32) (k0_t5 : Fin (k0_t5_loop v0).trips) (v298 : BitVec 32) (k0_hw153 : k0_chk153 v0 k0_t5 v298), ∀ (k0_h10 : k0_cond10 v0 k0_t5 = 1#1), ∀ a, (k0_off624 v298) a + S1x2x128x128.size a ≤ S1024x2x128x128.size a := fun v0 k0_t5 v298 k0_hw153 k0_h10 => k0_hw153.1 k0_h10
theorem k0_off624_wordsfp8e4m3 : ∀ (v0 : BitVec 32) (k0_t5 : Fin (k0_t5_loop v0).trips) (v298 : BitVec 32) (k0_hw153 : k0_chk153 v0 k0_t5 v298), ∀ (k0_h10 : k0_cond10 v0 k0_t5 = 1#1), (Rect.unit (s := S1024x2x128x128) (k0_off624 v298) S1x2x128x128.size (k0_off624_inb v0 k0_t5 v298 k0_hw153 k0_h10)).WholeWords (EltTy.packing .fp8e4m3) := fun v0 k0_t5 v298 k0_hw153 k0_h10 => k0_hw153.2 k0_h10 (k0_off624_inb v0 k0_t5 v298 k0_hw153 k0_h10)

def k0_off625 (v0 : BitVec 32) (k0_t5 : Fin (k0_t5_loop v0).trips) : Fin 2 → Nat :=
  let c0_142 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c8_i32_141 : BitVec 32 := 8#32
  let v305 : BitVec 32 := Scalar.addi v232 c8_i32_141
  let v306 : Index := Scalar.indexCast v305
  ![0, v306.toNat]
def k0_off626 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off627 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c8_i32_143 : BitVec 32 := 8#32
  let c0_i32_144 : BitVec 32 := 0#32
  let c0_i32_145 : BitVec 32 := 0#32
  let c0_i32_146 : BitVec 32 := 0#32
  ![v190.toNat, 8, 0, 0, 0]
def k0_off628 (v307 : BitVec 32) : Fin 4 → Nat :=
  let c0_i32_147 : BitVec 32 := 0#32
  let c0_i32_148 : BitVec 32 := 0#32
  let c0_i32_149 : BitVec 32 := 0#32
  ![v307.toNat, 0, 0, 0]

def k0_chk154 (v0 : BitVec 32) (k0_t5 : Fin (k0_t5_loop v0).trips) (v307 : BitVec 32) : Prop :=
  (∀ (k0_h10 : k0_cond10 v0 k0_t5 = 1#1), ∀ a, (k0_off628 v307) a + S1x2x128x128.size a ≤ S1024x2x128x128.size a) ∧
  (∀ (k0_h10 : k0_cond10 v0 k0_t5 = 1#1), ∀ (hinb : ∀ a, (k0_off628 v307) a + S1x2x128x128.size a ≤ S1024x2x128x128.size a), (Rect.unit (s := S1024x2x128x128) (k0_off628 v307) S1x2x128x128.size hinb).WholeWords (EltTy.packing .fp8e4m3))
theorem k0_off628_inb : ∀ (v0 : BitVec 32) (k0_t5 : Fin (k0_t5_loop v0).trips) (v307 : BitVec 32) (k0_hw154 : k0_chk154 v0 k0_t5 v307), ∀ (k0_h10 : k0_cond10 v0 k0_t5 = 1#1), ∀ a, (k0_off628 v307) a + S1x2x128x128.size a ≤ S1024x2x128x128.size a := fun v0 k0_t5 v307 k0_hw154 k0_h10 => k0_hw154.1 k0_h10
theorem k0_off628_wordsfp8e4m3 : ∀ (v0 : BitVec 32) (k0_t5 : Fin (k0_t5_loop v0).trips) (v307 : BitVec 32) (k0_hw154 : k0_chk154 v0 k0_t5 v307), ∀ (k0_h10 : k0_cond10 v0 k0_t5 = 1#1), (Rect.unit (s := S1024x2x128x128) (k0_off628 v307) S1x2x128x128.size (k0_off628_inb v0 k0_t5 v307 k0_hw154 k0_h10)).WholeWords (EltTy.packing .fp8e4m3) := fun v0 k0_t5 v307 k0_hw154 k0_h10 => k0_hw154.2 k0_h10 (k0_off628_inb v0 k0_t5 v307 k0_hw154 k0_h10)

def k0_off629 (v0 : BitVec 32) (k0_t5 : Fin (k0_t5_loop v0).trips) : Fin 2 → Nat :=
  let c0_150 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c9_i32 : BitVec 32 := 9#32
  let v314 : BitVec 32 := Scalar.addi v232 c9_i32
  let v315 : Index := Scalar.indexCast v314
  ![0, v315.toNat]
def k0_off630 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off631 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c9_i32_151 : BitVec 32 := 9#32
  let c0_i32_152 : BitVec 32 := 0#32
  let c0_i32_153 : BitVec 32 := 0#32
  let c0_i32_154 : BitVec 32 := 0#32
  ![v190.toNat, 9, 0, 0, 0]
def k0_off632 (v316 : BitVec 32) : Fin 4 → Nat :=
  let c0_i32_155 : BitVec 32 := 0#32
  let c0_i32_156 : BitVec 32 := 0#32
  let c0_i32_157 : BitVec 32 := 0#32
  ![v316.toNat, 0, 0, 0]

def k0_chk155 (v0 : BitVec 32) (k0_t5 : Fin (k0_t5_loop v0).trips) (v316 : BitVec 32) : Prop :=
  (∀ (k0_h10 : k0_cond10 v0 k0_t5 = 1#1), ∀ a, (k0_off632 v316) a + S1x2x128x128.size a ≤ S1024x2x128x128.size a) ∧
  (∀ (k0_h10 : k0_cond10 v0 k0_t5 = 1#1), ∀ (hinb : ∀ a, (k0_off632 v316) a + S1x2x128x128.size a ≤ S1024x2x128x128.size a), (Rect.unit (s := S1024x2x128x128) (k0_off632 v316) S1x2x128x128.size hinb).WholeWords (EltTy.packing .fp8e4m3))
theorem k0_off632_inb : ∀ (v0 : BitVec 32) (k0_t5 : Fin (k0_t5_loop v0).trips) (v316 : BitVec 32) (k0_hw155 : k0_chk155 v0 k0_t5 v316), ∀ (k0_h10 : k0_cond10 v0 k0_t5 = 1#1), ∀ a, (k0_off632 v316) a + S1x2x128x128.size a ≤ S1024x2x128x128.size a := fun v0 k0_t5 v316 k0_hw155 k0_h10 => k0_hw155.1 k0_h10
theorem k0_off632_wordsfp8e4m3 : ∀ (v0 : BitVec 32) (k0_t5 : Fin (k0_t5_loop v0).trips) (v316 : BitVec 32) (k0_hw155 : k0_chk155 v0 k0_t5 v316), ∀ (k0_h10 : k0_cond10 v0 k0_t5 = 1#1), (Rect.unit (s := S1024x2x128x128) (k0_off632 v316) S1x2x128x128.size (k0_off632_inb v0 k0_t5 v316 k0_hw155 k0_h10)).WholeWords (EltTy.packing .fp8e4m3) := fun v0 k0_t5 v316 k0_hw155 k0_h10 => k0_hw155.2 k0_h10 (k0_off632_inb v0 k0_t5 v316 k0_hw155 k0_h10)

def k0_off633 (v0 : BitVec 32) (k0_t5 : Fin (k0_t5_loop v0).trips) : Fin 2 → Nat :=
  let c0_158 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c10_i32 : BitVec 32 := 10#32
  let v323 : BitVec 32 := Scalar.addi v232 c10_i32
  let v324 : Index := Scalar.indexCast v323
  ![0, v324.toNat]
def k0_off634 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off635 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c10_i32_159 : BitVec 32 := 10#32
  let c0_i32_160 : BitVec 32 := 0#32
  let c0_i32_161 : BitVec 32 := 0#32
  let c0_i32_162 : BitVec 32 := 0#32
  ![v190.toNat, 10, 0, 0, 0]
def k0_off636 (v325 : BitVec 32) : Fin 4 → Nat :=
  let c0_i32_163 : BitVec 32 := 0#32
  let c0_i32_164 : BitVec 32 := 0#32
  let c0_i32_165 : BitVec 32 := 0#32
  ![v325.toNat, 0, 0, 0]

def k0_chk156 (v0 : BitVec 32) (k0_t5 : Fin (k0_t5_loop v0).trips) (v325 : BitVec 32) : Prop :=
  (∀ (k0_h10 : k0_cond10 v0 k0_t5 = 1#1), ∀ a, (k0_off636 v325) a + S1x2x128x128.size a ≤ S1024x2x128x128.size a) ∧
  (∀ (k0_h10 : k0_cond10 v0 k0_t5 = 1#1), ∀ (hinb : ∀ a, (k0_off636 v325) a + S1x2x128x128.size a ≤ S1024x2x128x128.size a), (Rect.unit (s := S1024x2x128x128) (k0_off636 v325) S1x2x128x128.size hinb).WholeWords (EltTy.packing .fp8e4m3))
theorem k0_off636_inb : ∀ (v0 : BitVec 32) (k0_t5 : Fin (k0_t5_loop v0).trips) (v325 : BitVec 32) (k0_hw156 : k0_chk156 v0 k0_t5 v325), ∀ (k0_h10 : k0_cond10 v0 k0_t5 = 1#1), ∀ a, (k0_off636 v325) a + S1x2x128x128.size a ≤ S1024x2x128x128.size a := fun v0 k0_t5 v325 k0_hw156 k0_h10 => k0_hw156.1 k0_h10
theorem k0_off636_wordsfp8e4m3 : ∀ (v0 : BitVec 32) (k0_t5 : Fin (k0_t5_loop v0).trips) (v325 : BitVec 32) (k0_hw156 : k0_chk156 v0 k0_t5 v325), ∀ (k0_h10 : k0_cond10 v0 k0_t5 = 1#1), (Rect.unit (s := S1024x2x128x128) (k0_off636 v325) S1x2x128x128.size (k0_off636_inb v0 k0_t5 v325 k0_hw156 k0_h10)).WholeWords (EltTy.packing .fp8e4m3) := fun v0 k0_t5 v325 k0_hw156 k0_h10 => k0_hw156.2 k0_h10 (k0_off636_inb v0 k0_t5 v325 k0_hw156 k0_h10)

def k0_off637 (v0 : BitVec 32) (k0_t5 : Fin (k0_t5_loop v0).trips) : Fin 2 → Nat :=
  let c0_166 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c11_i32 : BitVec 32 := 11#32
  let v332 : BitVec 32 := Scalar.addi v232 c11_i32
  let v333 : Index := Scalar.indexCast v332
  ![0, v333.toNat]
def k0_off638 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off639 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c11_i32_167 : BitVec 32 := 11#32
  let c0_i32_168 : BitVec 32 := 0#32
  let c0_i32_169 : BitVec 32 := 0#32
  let c0_i32_170 : BitVec 32 := 0#32
  ![v190.toNat, 11, 0, 0, 0]
def k0_off640 (v334 : BitVec 32) : Fin 4 → Nat :=
  let c0_i32_171 : BitVec 32 := 0#32
  let c0_i32_172 : BitVec 32 := 0#32
  let c0_i32_173 : BitVec 32 := 0#32
  ![v334.toNat, 0, 0, 0]

def k0_chk157 (v0 : BitVec 32) (k0_t5 : Fin (k0_t5_loop v0).trips) (v334 : BitVec 32) : Prop :=
  (∀ (k0_h10 : k0_cond10 v0 k0_t5 = 1#1), ∀ a, (k0_off640 v334) a + S1x2x128x128.size a ≤ S1024x2x128x128.size a) ∧
  (∀ (k0_h10 : k0_cond10 v0 k0_t5 = 1#1), ∀ (hinb : ∀ a, (k0_off640 v334) a + S1x2x128x128.size a ≤ S1024x2x128x128.size a), (Rect.unit (s := S1024x2x128x128) (k0_off640 v334) S1x2x128x128.size hinb).WholeWords (EltTy.packing .fp8e4m3))
theorem k0_off640_inb : ∀ (v0 : BitVec 32) (k0_t5 : Fin (k0_t5_loop v0).trips) (v334 : BitVec 32) (k0_hw157 : k0_chk157 v0 k0_t5 v334), ∀ (k0_h10 : k0_cond10 v0 k0_t5 = 1#1), ∀ a, (k0_off640 v334) a + S1x2x128x128.size a ≤ S1024x2x128x128.size a := fun v0 k0_t5 v334 k0_hw157 k0_h10 => k0_hw157.1 k0_h10
theorem k0_off640_wordsfp8e4m3 : ∀ (v0 : BitVec 32) (k0_t5 : Fin (k0_t5_loop v0).trips) (v334 : BitVec 32) (k0_hw157 : k0_chk157 v0 k0_t5 v334), ∀ (k0_h10 : k0_cond10 v0 k0_t5 = 1#1), (Rect.unit (s := S1024x2x128x128) (k0_off640 v334) S1x2x128x128.size (k0_off640_inb v0 k0_t5 v334 k0_hw157 k0_h10)).WholeWords (EltTy.packing .fp8e4m3) := fun v0 k0_t5 v334 k0_hw157 k0_h10 => k0_hw157.2 k0_h10 (k0_off640_inb v0 k0_t5 v334 k0_hw157 k0_h10)

def k0_off641 (v0 : BitVec 32) (k0_t5 : Fin (k0_t5_loop v0).trips) : Fin 2 → Nat :=
  let c0_174 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c12_i32 : BitVec 32 := 12#32
  let v341 : BitVec 32 := Scalar.addi v232 c12_i32
  let v342 : Index := Scalar.indexCast v341
  ![0, v342.toNat]
def k0_off642 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off643 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c12_i32_175 : BitVec 32 := 12#32
  let c0_i32_176 : BitVec 32 := 0#32
  let c0_i32_177 : BitVec 32 := 0#32
  let c0_i32_178 : BitVec 32 := 0#32
  ![v190.toNat, 12, 0, 0, 0]
def k0_off644 (v343 : BitVec 32) : Fin 4 → Nat :=
  let c0_i32_179 : BitVec 32 := 0#32
  let c0_i32_180 : BitVec 32 := 0#32
  let c0_i32_181 : BitVec 32 := 0#32
  ![v343.toNat, 0, 0, 0]

def k0_chk158 (v0 : BitVec 32) (k0_t5 : Fin (k0_t5_loop v0).trips) (v343 : BitVec 32) : Prop :=
  (∀ (k0_h10 : k0_cond10 v0 k0_t5 = 1#1), ∀ a, (k0_off644 v343) a + S1x2x128x128.size a ≤ S1024x2x128x128.size a) ∧
  (∀ (k0_h10 : k0_cond10 v0 k0_t5 = 1#1), ∀ (hinb : ∀ a, (k0_off644 v343) a + S1x2x128x128.size a ≤ S1024x2x128x128.size a), (Rect.unit (s := S1024x2x128x128) (k0_off644 v343) S1x2x128x128.size hinb).WholeWords (EltTy.packing .fp8e4m3))
theorem k0_off644_inb : ∀ (v0 : BitVec 32) (k0_t5 : Fin (k0_t5_loop v0).trips) (v343 : BitVec 32) (k0_hw158 : k0_chk158 v0 k0_t5 v343), ∀ (k0_h10 : k0_cond10 v0 k0_t5 = 1#1), ∀ a, (k0_off644 v343) a + S1x2x128x128.size a ≤ S1024x2x128x128.size a := fun v0 k0_t5 v343 k0_hw158 k0_h10 => k0_hw158.1 k0_h10
theorem k0_off644_wordsfp8e4m3 : ∀ (v0 : BitVec 32) (k0_t5 : Fin (k0_t5_loop v0).trips) (v343 : BitVec 32) (k0_hw158 : k0_chk158 v0 k0_t5 v343), ∀ (k0_h10 : k0_cond10 v0 k0_t5 = 1#1), (Rect.unit (s := S1024x2x128x128) (k0_off644 v343) S1x2x128x128.size (k0_off644_inb v0 k0_t5 v343 k0_hw158 k0_h10)).WholeWords (EltTy.packing .fp8e4m3) := fun v0 k0_t5 v343 k0_hw158 k0_h10 => k0_hw158.2 k0_h10 (k0_off644_inb v0 k0_t5 v343 k0_hw158 k0_h10)

def k0_off645 (v0 : BitVec 32) (k0_t5 : Fin (k0_t5_loop v0).trips) : Fin 2 → Nat :=
  let c0_182 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c13_i32 : BitVec 32 := 13#32
  let v350 : BitVec 32 := Scalar.addi v232 c13_i32
  let v351 : Index := Scalar.indexCast v350
  ![0, v351.toNat]
def k0_off646 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off647 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c13_i32_183 : BitVec 32 := 13#32
  let c0_i32_184 : BitVec 32 := 0#32
  let c0_i32_185 : BitVec 32 := 0#32
  let c0_i32_186 : BitVec 32 := 0#32
  ![v190.toNat, 13, 0, 0, 0]
def k0_off648 (v352 : BitVec 32) : Fin 4 → Nat :=
  let c0_i32_187 : BitVec 32 := 0#32
  let c0_i32_188 : BitVec 32 := 0#32
  let c0_i32_189 : BitVec 32 := 0#32
  ![v352.toNat, 0, 0, 0]

def k0_chk159 (v0 : BitVec 32) (k0_t5 : Fin (k0_t5_loop v0).trips) (v352 : BitVec 32) : Prop :=
  (∀ (k0_h10 : k0_cond10 v0 k0_t5 = 1#1), ∀ a, (k0_off648 v352) a + S1x2x128x128.size a ≤ S1024x2x128x128.size a) ∧
  (∀ (k0_h10 : k0_cond10 v0 k0_t5 = 1#1), ∀ (hinb : ∀ a, (k0_off648 v352) a + S1x2x128x128.size a ≤ S1024x2x128x128.size a), (Rect.unit (s := S1024x2x128x128) (k0_off648 v352) S1x2x128x128.size hinb).WholeWords (EltTy.packing .fp8e4m3))
theorem k0_off648_inb : ∀ (v0 : BitVec 32) (k0_t5 : Fin (k0_t5_loop v0).trips) (v352 : BitVec 32) (k0_hw159 : k0_chk159 v0 k0_t5 v352), ∀ (k0_h10 : k0_cond10 v0 k0_t5 = 1#1), ∀ a, (k0_off648 v352) a + S1x2x128x128.size a ≤ S1024x2x128x128.size a := fun v0 k0_t5 v352 k0_hw159 k0_h10 => k0_hw159.1 k0_h10
theorem k0_off648_wordsfp8e4m3 : ∀ (v0 : BitVec 32) (k0_t5 : Fin (k0_t5_loop v0).trips) (v352 : BitVec 32) (k0_hw159 : k0_chk159 v0 k0_t5 v352), ∀ (k0_h10 : k0_cond10 v0 k0_t5 = 1#1), (Rect.unit (s := S1024x2x128x128) (k0_off648 v352) S1x2x128x128.size (k0_off648_inb v0 k0_t5 v352 k0_hw159 k0_h10)).WholeWords (EltTy.packing .fp8e4m3) := fun v0 k0_t5 v352 k0_hw159 k0_h10 => k0_hw159.2 k0_h10 (k0_off648_inb v0 k0_t5 v352 k0_hw159 k0_h10)

def k0_off649 (v0 : BitVec 32) (k0_t5 : Fin (k0_t5_loop v0).trips) : Fin 2 → Nat :=
  let c0_190 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c14_i32 : BitVec 32 := 14#32
  let v359 : BitVec 32 := Scalar.addi v232 c14_i32
  let v360 : Index := Scalar.indexCast v359
  ![0, v360.toNat]
def k0_off650 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off651 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c14_i32_191 : BitVec 32 := 14#32
  let c0_i32_192 : BitVec 32 := 0#32
  let c0_i32_193 : BitVec 32 := 0#32
  let c0_i32_194 : BitVec 32 := 0#32
  ![v190.toNat, 14, 0, 0, 0]
def k0_off652 (v361 : BitVec 32) : Fin 4 → Nat :=
  let c0_i32_195 : BitVec 32 := 0#32
  let c0_i32_196 : BitVec 32 := 0#32
  let c0_i32_197 : BitVec 32 := 0#32
  ![v361.toNat, 0, 0, 0]

def k0_chk160 (v0 : BitVec 32) (k0_t5 : Fin (k0_t5_loop v0).trips) (v361 : BitVec 32) : Prop :=
  (∀ (k0_h10 : k0_cond10 v0 k0_t5 = 1#1), ∀ a, (k0_off652 v361) a + S1x2x128x128.size a ≤ S1024x2x128x128.size a) ∧
  (∀ (k0_h10 : k0_cond10 v0 k0_t5 = 1#1), ∀ (hinb : ∀ a, (k0_off652 v361) a + S1x2x128x128.size a ≤ S1024x2x128x128.size a), (Rect.unit (s := S1024x2x128x128) (k0_off652 v361) S1x2x128x128.size hinb).WholeWords (EltTy.packing .fp8e4m3))
theorem k0_off652_inb : ∀ (v0 : BitVec 32) (k0_t5 : Fin (k0_t5_loop v0).trips) (v361 : BitVec 32) (k0_hw160 : k0_chk160 v0 k0_t5 v361), ∀ (k0_h10 : k0_cond10 v0 k0_t5 = 1#1), ∀ a, (k0_off652 v361) a + S1x2x128x128.size a ≤ S1024x2x128x128.size a := fun v0 k0_t5 v361 k0_hw160 k0_h10 => k0_hw160.1 k0_h10
theorem k0_off652_wordsfp8e4m3 : ∀ (v0 : BitVec 32) (k0_t5 : Fin (k0_t5_loop v0).trips) (v361 : BitVec 32) (k0_hw160 : k0_chk160 v0 k0_t5 v361), ∀ (k0_h10 : k0_cond10 v0 k0_t5 = 1#1), (Rect.unit (s := S1024x2x128x128) (k0_off652 v361) S1x2x128x128.size (k0_off652_inb v0 k0_t5 v361 k0_hw160 k0_h10)).WholeWords (EltTy.packing .fp8e4m3) := fun v0 k0_t5 v361 k0_hw160 k0_h10 => k0_hw160.2 k0_h10 (k0_off652_inb v0 k0_t5 v361 k0_hw160 k0_h10)

def k0_off653 (v0 : BitVec 32) (k0_t5 : Fin (k0_t5_loop v0).trips) : Fin 2 → Nat :=
  let c0_198 : Index := 0#32
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let v231 : BitVec 32 := Scalar.subi v189 v21
  let c16_i32 : BitVec 32 := 16#32
  let v232 : BitVec 32 := Scalar.muli v231 c16_i32
  let c15_i32 : BitVec 32 := 15#32
  let v368 : BitVec 32 := Scalar.addi v232 c15_i32
  let v369 : Index := Scalar.indexCast v368
  ![0, v369.toNat]
def k0_off654 (v0 : BitVec 32) (k0_t5 : Fin (k0_t5_loop v0).trips) : Fin 1 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  ![v190.toNat]
def k0_off655 (v0 : BitVec 32) (k0_t5 : Fin (k0_t5_loop v0).trips) : Fin 5 → Nat :=
  let c64_i32 : BitVec 32 := 64#32
  let c0_i32_6 : BitVec 32 := 0#32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let v20 : BitVec 32 := Scalar.maxsi c0_i32_6 v19
  let v21 : BitVec 32 := Scalar.minsi c64_i32 v20
  let c0_i32_44 : BitVec 32 := 0#32
  let v115 : BitVec 32 := Scalar.subi v21 c0_i32_44
  let c1_i32_45 : BitVec 32 := 1#32
  let v117 : BitVec 32 := Scalar.divsi v115 c1_i32_45
  let v118 : BitVec 32 := Scalar.muli v117 c1_i32_45
  let v119 : BitVec 32 := Scalar.addi c0_i32_44 v118
  let c1_i32_47 : BitVec 32 := 1#32
  let arg15 : BitVec 32 := Scf.iv v119 c1_i32_47 k0_t5
  let v188 : BitVec 32 := Scalar.addi v21 arg15
  let c24_i32_70 : BitVec 32 := 24#32
  let v189 : BitVec 32 := Scalar.addi v188 c24_i32_70
  let c24_i32_71 : BitVec 32 := 24#32
  let v190 : BitVec 32 := Scalar.remsi v189 c24_i32_71
  let c15_i32_199 : BitVec 32 := 15#32
  let c0_i32_200 : BitVec 32 := 0#32
  let c0_i32_201 : BitVec 32 := 0#32
  let c0_i32_202 : BitVec 32 := 0#32
  ![v190.toNat, 15, 0, 0, 0]
def k0_off656 (v370 : BitVec 32) : Fin 4 → Nat :=
  let c0_i32_203 : BitVec 32 := 0#32
  let c0_i32_204 : BitVec 32 := 0#32
  let c0_i32_205 : BitVec 32 := 0#32
  ![v370.toNat, 0, 0, 0]

def k0_chk161 (v0 : BitVec 32) (k0_t5 : Fin (k0_t5_loop v0).trips) (v370 : BitVec 32) : Prop :=
  (∀ (k0_h10 : k0_cond10 v0 k0_t5 = 1#1), ∀ a, (k0_off656 v370) a + S1x2x128x128.size a ≤ S1024x2x128x128.size a) ∧
  (∀ (k0_h10 : k0_cond10 v0 k0_t5 = 1#1), ∀ (hinb : ∀ a, (k0_off656 v370) a + S1x2x128x128.size a ≤ S1024x2x128x128.size a), (Rect.unit (s := S1024x2x128x128) (k0_off656 v370) S1x2x128x128.size hinb).WholeWords (EltTy.packing .fp8e4m3))
theorem k0_off656_inb : ∀ (v0 : BitVec 32) (k0_t5 : Fin (k0_t5_loop v0).trips) (v370 : BitVec 32) (k0_hw161 : k0_chk161 v0 k0_t5 v370), ∀ (k0_h10 : k0_cond10 v0 k0_t5 = 1#1), ∀ a, (k0_off656 v370) a + S1x2x128x128.size a ≤ S1024x2x128x128.size a := fun v0 k0_t5 v370 k0_hw161 k0_h10 => k0_hw161.1 k0_h10
theorem k0_off656_wordsfp8e4m3 : ∀ (v0 : BitVec 32) (k0_t5 : Fin (k0_t5_loop v0).trips) (v370 : BitVec 32) (k0_hw161 : k0_chk161 v0 k0_t5 v370), ∀ (k0_h10 : k0_cond10 v0 k0_t5 = 1#1), (Rect.unit (s := S1024x2x128x128) (k0_off656 v370) S1x2x128x128.size (k0_off656_inb v0 k0_t5 v370 k0_hw161 k0_h10)).WholeWords (EltTy.packing .fp8e4m3) := fun v0 k0_t5 v370 k0_hw161 k0_h10 => k0_hw161.2 k0_h10 (k0_off656_inb v0 k0_t5 v370 k0_hw161 k0_h10)

def k0_chk17_0 (v0 : BitVec 32) : Prop :=
  (∀ k0_t1 : Fin k0_t1_loop.trips, ∀ (k0_h2 : k0_cond2 v0 k0_t1 = 1#1), ∀ a, (k0_off65 v0 k0_t1) a + S1x1.size a ≤ S1x1024.size a) ∧
  (∀ k0_t1 : Fin k0_t1_loop.trips, ∀ (k0_h2 : k0_cond2 v0 k0_t1 = 1#1), ∀ a, (k0_off69 v0 k0_t1) a + S1x1.size a ≤ S1x1024.size a) ∧
  (∀ k0_t1 : Fin k0_t1_loop.trips, ∀ (k0_h2 : k0_cond2 v0 k0_t1 = 1#1), ∀ a, (k0_off73 v0 k0_t1) a + S1x1.size a ≤ S1x1024.size a) ∧
  (∀ k0_t1 : Fin k0_t1_loop.trips, ∀ (k0_h2 : k0_cond2 v0 k0_t1 = 1#1), ∀ a, (k0_off77 v0 k0_t1) a + S1x1.size a ≤ S1x1024.size a) ∧
  (∀ k0_t1 : Fin k0_t1_loop.trips, ∀ (k0_h2 : k0_cond2 v0 k0_t1 = 1#1), ∀ a, (k0_off81 v0 k0_t1) a + S1x1.size a ≤ S1x1024.size a) ∧
  (∀ k0_t1 : Fin k0_t1_loop.trips, ∀ (k0_h2 : k0_cond2 v0 k0_t1 = 1#1), ∀ a, (k0_off85 v0 k0_t1) a + S1x1.size a ≤ S1x1024.size a) ∧
  (∀ k0_t1 : Fin k0_t1_loop.trips, ∀ (k0_h2 : k0_cond2 v0 k0_t1 = 1#1), ∀ a, (k0_off89 v0 k0_t1) a + S1x1.size a ≤ S1x1024.size a) ∧
  (∀ k0_t1 : Fin k0_t1_loop.trips, ∀ (k0_h2 : k0_cond2 v0 k0_t1 = 1#1), ∀ a, (k0_off93 v0 k0_t1) a + S1x1.size a ≤ S1x1024.size a) ∧
  (∀ k0_t1 : Fin k0_t1_loop.trips, ∀ (k0_h2 : k0_cond2 v0 k0_t1 = 1#1), ∀ a, (k0_off97 v0 k0_t1) a + S1x1.size a ≤ S1x1024.size a) ∧
  (∀ k0_t1 : Fin k0_t1_loop.trips, ∀ (k0_h2 : k0_cond2 v0 k0_t1 = 1#1), ∀ a, (k0_off101 v0 k0_t1) a + S1x1.size a ≤ S1x1024.size a) ∧
  (∀ k0_t1 : Fin k0_t1_loop.trips, ∀ (k0_h2 : k0_cond2 v0 k0_t1 = 1#1), ∀ a, (k0_off105 v0 k0_t1) a + S1x1.size a ≤ S1x1024.size a) ∧
  (∀ k0_t1 : Fin k0_t1_loop.trips, ∀ (k0_h2 : k0_cond2 v0 k0_t1 = 1#1), ∀ a, (k0_off109 v0 k0_t1) a + S1x1.size a ≤ S1x1024.size a) ∧
  (∀ k0_t1 : Fin k0_t1_loop.trips, ∀ (k0_h2 : k0_cond2 v0 k0_t1 = 1#1), ∀ a, (k0_off113 v0 k0_t1) a + S1x1.size a ≤ S1x1024.size a) ∧
  (∀ k0_t1 : Fin k0_t1_loop.trips, ∀ (k0_h2 : k0_cond2 v0 k0_t1 = 1#1), ∀ a, (k0_off117 v0 k0_t1) a + S1x1.size a ≤ S1x1024.size a) ∧
  (∀ k0_t1 : Fin k0_t1_loop.trips, ∀ (k0_h2 : k0_cond2 v0 k0_t1 = 1#1), ∀ a, (k0_off121 v0 k0_t1) a + S1x1.size a ≤ S1x1024.size a) ∧
  (∀ k0_t1 : Fin k0_t1_loop.trips, ∀ (k0_h2 : k0_cond2 v0 k0_t1 = 1#1), ∀ a, (k0_off125 v0 k0_t1) a + S1x1.size a ≤ S1x1024.size a) ∧
  ((k0_t2_loop v0).OK) ∧
  (∀ k0_t2 : Fin (k0_t2_loop v0).trips, ∀ a, (k0_off129 v0 k0_t2) a + S1.size a ≤ S24.size a) ∧
  (∀ k0_t2 : Fin (k0_t2_loop v0).trips, ∀ a, (k0_off130 v0 k0_t2) a + S1x16x2x128x128.size a ≤ S24x16x2x128x128.size a) ∧
  (∀ k0_t2 : Fin (k0_t2_loop v0).trips, ∀ (hinb : ∀ a, (k0_off130 v0 k0_t2) a + S1x16x2x128x128.size a ≤ S24x16x2x128x128.size a), (Rect.unit (s := S24x16x2x128x128) (k0_off130 v0 k0_t2) S1x16x2x128x128.size hinb).WholeWords (EltTy.packing .fp8e4m3)) ∧
  (∀ k0_t2 : Fin (k0_t2_loop v0).trips, ∀ a, (k0_off131 v0 k0_t2) a + S1x16x2x128x128.size a ≤ S24x16x2x128x128.size a) ∧
  (∀ k0_t2 : Fin (k0_t2_loop v0).trips, ∀ (k0_h3 : k0_cond3 v0 k0_t2 = 1#1), ∀ a, (k0_off132 v0 k0_t2) a + S1x1.size a ≤ S1x1024.size a) ∧
  (∀ k0_t2 : Fin (k0_t2_loop v0).trips, ∀ (k0_h3 : k0_cond3 v0 k0_t2 = 1#1), ∀ a, (k0_off133 v0 k0_t2) a + S1.size a ≤ S24.size a) ∧
  (∀ k0_t2 : Fin (k0_t2_loop v0).trips, ∀ (k0_h3 : k0_cond3 v0 k0_t2 = 1#1), ∀ a, (k0_off134 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off134 v0 k0_t2) a + S1x1x2x128x128.size a ≤ S24x16x2x128x128.size a), (Rect.unit (s := S24x16x2x128x128) (k0_off134 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off136 v0 k0_t2) a + S1x1.size a ≤ S1x1024.size a) ∧
  (∀ k0_t2 : Fin (k0_t2_loop v0).trips, ∀ (k0_h3 : k0_cond3 v0 k0_t2 = 1#1), ∀ a, (k0_off137 v0 k0_t2) a + S1.size a ≤ S24.size a) ∧
  (∀ k0_t2 : Fin (k0_t2_loop v0).trips, ∀ (k0_h3 : k0_cond3 v0 k0_t2 = 1#1), ∀ a, (k0_off138 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off138 v0 k0_t2) a + S1x1x2x128x128.size a ≤ S24x16x2x128x128.size a), (Rect.unit (s := S24x16x2x128x128) (k0_off138 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off140 v0 k0_t2) a + S1x1.size a ≤ S1x1024.size a) ∧
  (∀ k0_t2 : Fin (k0_t2_loop v0).trips, ∀ (k0_h3 : k0_cond3 v0 k0_t2 = 1#1), ∀ a, (k0_off141 v0 k0_t2) a + S1.size a ≤ S24.size a) ∧
  (∀ k0_t2 : Fin (k0_t2_loop v0).trips, ∀ (k0_h3 : k0_cond3 v0 k0_t2 = 1#1), ∀ a, (k0_off142 v0 k0_t2) a + S1x1x2x128x128.size a ≤ S24x16x2x128x128.size a)
def k0_chk17_1 (v0 : BitVec 32) : Prop :=
  (∀ k0_t2 : Fin (k0_t2_loop v0).trips, ∀ (k0_h3 : k0_cond3 v0 k0_t2 = 1#1), ∀ (hinb : ∀ a, (k0_off142 v0 k0_t2) a + S1x1x2x128x128.size a ≤ S24x16x2x128x128.size a), (Rect.unit (s := S24x16x2x128x128) (k0_off142 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off144 v0 k0_t2) a + S1x1.size a ≤ S1x1024.size a) ∧
  (∀ k0_t2 : Fin (k0_t2_loop v0).trips, ∀ (k0_h3 : k0_cond3 v0 k0_t2 = 1#1), ∀ a, (k0_off145 v0 k0_t2) a + S1.size a ≤ S24.size a) ∧
  (∀ k0_t2 : Fin (k0_t2_loop v0).trips, ∀ (k0_h3 : k0_cond3 v0 k0_t2 = 1#1), ∀ a, (k0_off146 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off146 v0 k0_t2) a + S1x1x2x128x128.size a ≤ S24x16x2x128x128.size a), (Rect.unit (s := S24x16x2x128x128) (k0_off146 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off148 v0 k0_t2) a + S1x1.size a ≤ S1x1024.size a) ∧
  (∀ k0_t2 : Fin (k0_t2_loop v0).trips, ∀ (k0_h3 : k0_cond3 v0 k0_t2 = 1#1), ∀ a, (k0_off149 v0 k0_t2) a + S1.size a ≤ S24.size a) ∧
  (∀ k0_t2 : Fin (k0_t2_loop v0).trips, ∀ (k0_h3 : k0_cond3 v0 k0_t2 = 1#1), ∀ a, (k0_off150 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off150 v0 k0_t2) a + S1x1x2x128x128.size a ≤ S24x16x2x128x128.size a), (Rect.unit (s := S24x16x2x128x128) (k0_off150 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off152 v0 k0_t2) a + S1x1.size a ≤ S1x1024.size a) ∧
  (∀ k0_t2 : Fin (k0_t2_loop v0).trips, ∀ (k0_h3 : k0_cond3 v0 k0_t2 = 1#1), ∀ a, (k0_off153 v0 k0_t2) a + S1.size a ≤ S24.size a) ∧
  (∀ k0_t2 : Fin (k0_t2_loop v0).trips, ∀ (k0_h3 : k0_cond3 v0 k0_t2 = 1#1), ∀ a, (k0_off154 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off154 v0 k0_t2) a + S1x1x2x128x128.size a ≤ S24x16x2x128x128.size a), (Rect.unit (s := S24x16x2x128x128) (k0_off154 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off156 v0 k0_t2) a + S1x1.size a ≤ S1x1024.size a) ∧
  (∀ k0_t2 : Fin (k0_t2_loop v0).trips, ∀ (k0_h3 : k0_cond3 v0 k0_t2 = 1#1), ∀ a, (k0_off157 v0 k0_t2) a + S1.size a ≤ S24.size a) ∧
  (∀ k0_t2 : Fin (k0_t2_loop v0).trips, ∀ (k0_h3 : k0_cond3 v0 k0_t2 = 1#1), ∀ a, (k0_off158 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off158 v0 k0_t2) a + S1x1x2x128x128.size a ≤ S24x16x2x128x128.size a), (Rect.unit (s := S24x16x2x128x128) (k0_off158 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off160 v0 k0_t2) a + S1x1.size a ≤ S1x1024.size a) ∧
  (∀ k0_t2 : Fin (k0_t2_loop v0).trips, ∀ (k0_h3 : k0_cond3 v0 k0_t2 = 1#1), ∀ a, (k0_off161 v0 k0_t2) a + S1.size a ≤ S24.size a) ∧
  (∀ k0_t2 : Fin (k0_t2_loop v0).trips, ∀ (k0_h3 : k0_cond3 v0 k0_t2 = 1#1), ∀ a, (k0_off162 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off162 v0 k0_t2) a + S1x1x2x128x128.size a ≤ S24x16x2x128x128.size a), (Rect.unit (s := S24x16x2x128x128) (k0_off162 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off164 v0 k0_t2) a + S1x1.size a ≤ S1x1024.size a) ∧
  (∀ k0_t2 : Fin (k0_t2_loop v0).trips, ∀ (k0_h3 : k0_cond3 v0 k0_t2 = 1#1), ∀ a, (k0_off165 v0 k0_t2) a + S1.size a ≤ S24.size a) ∧
  (∀ k0_t2 : Fin (k0_t2_loop v0).trips, ∀ (k0_h3 : k0_cond3 v0 k0_t2 = 1#1), ∀ a, (k0_off166 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off166 v0 k0_t2) a + S1x1x2x128x128.size a ≤ S24x16x2x128x128.size a), (Rect.unit (s := S24x16x2x128x128) (k0_off166 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off168 v0 k0_t2) a + S1x1.size a ≤ S1x1024.size a) ∧
  (∀ k0_t2 : Fin (k0_t2_loop v0).trips, ∀ (k0_h3 : k0_cond3 v0 k0_t2 = 1#1), ∀ a, (k0_off169 v0 k0_t2) a + S1.size a ≤ S24.size a) ∧
  (∀ k0_t2 : Fin (k0_t2_loop v0).trips, ∀ (k0_h3 : k0_cond3 v0 k0_t2 = 1#1), ∀ a, (k0_off170 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off170 v0 k0_t2) a + S1x1x2x128x128.size a ≤ S24x16x2x128x128.size a), (Rect.unit (s := S24x16x2x128x128) (k0_off170 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off172 v0 k0_t2) a + S1x1.size a ≤ S1x1024.size a) ∧
  (∀ k0_t2 : Fin (k0_t2_loop v0).trips, ∀ (k0_h3 : k0_cond3 v0 k0_t2 = 1#1), ∀ a, (k0_off173 v0 k0_t2) a + S1.size a ≤ S24.size a) ∧
  (∀ k0_t2 : Fin (k0_t2_loop v0).trips, ∀ (k0_h3 : k0_cond3 v0 k0_t2 = 1#1), ∀ a, (k0_off174 v0 k0_t2) a + S1x1x2x128x128.size a ≤ S24x16x2x128x128.size a)
def k0_chk17_2 (v0 : BitVec 32) : Prop :=
  (∀ k0_t2 : Fin (k0_t2_loop v0).trips, ∀ (k0_h3 : k0_cond3 v0 k0_t2 = 1#1), ∀ (hinb : ∀ a, (k0_off174 v0 k0_t2) a + S1x1x2x128x128.size a ≤ S24x16x2x128x128.size a), (Rect.unit (s := S24x16x2x128x128) (k0_off174 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off176 v0 k0_t2) a + S1x1.size a ≤ S1x1024.size a) ∧
  (∀ k0_t2 : Fin (k0_t2_loop v0).trips, ∀ (k0_h3 : k0_cond3 v0 k0_t2 = 1#1), ∀ a, (k0_off177 v0 k0_t2) a + S1.size a ≤ S24.size a) ∧
  (∀ k0_t2 : Fin (k0_t2_loop v0).trips, ∀ (k0_h3 : k0_cond3 v0 k0_t2 = 1#1), ∀ a, (k0_off178 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off178 v0 k0_t2) a + S1x1x2x128x128.size a ≤ S24x16x2x128x128.size a), (Rect.unit (s := S24x16x2x128x128) (k0_off178 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off180 v0 k0_t2) a + S1x1.size a ≤ S1x1024.size a) ∧
  (∀ k0_t2 : Fin (k0_t2_loop v0).trips, ∀ (k0_h3 : k0_cond3 v0 k0_t2 = 1#1), ∀ a, (k0_off181 v0 k0_t2) a + S1.size a ≤ S24.size a) ∧
  (∀ k0_t2 : Fin (k0_t2_loop v0).trips, ∀ (k0_h3 : k0_cond3 v0 k0_t2 = 1#1), ∀ a, (k0_off182 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off182 v0 k0_t2) a + S1x1x2x128x128.size a ≤ S24x16x2x128x128.size a), (Rect.unit (s := S24x16x2x128x128) (k0_off182 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off184 v0 k0_t2) a + S1x1.size a ≤ S1x1024.size a) ∧
  (∀ k0_t2 : Fin (k0_t2_loop v0).trips, ∀ (k0_h3 : k0_cond3 v0 k0_t2 = 1#1), ∀ a, (k0_off185 v0 k0_t2) a + S1.size a ≤ S24.size a) ∧
  (∀ k0_t2 : Fin (k0_t2_loop v0).trips, ∀ (k0_h3 : k0_cond3 v0 k0_t2 = 1#1), ∀ a, (k0_off186 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off186 v0 k0_t2) a + S1x1x2x128x128.size a ≤ S24x16x2x128x128.size a), (Rect.unit (s := S24x16x2x128x128) (k0_off186 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off188 v0 k0_t2) a + S1x1.size a ≤ S1x1024.size a) ∧
  (∀ k0_t2 : Fin (k0_t2_loop v0).trips, ∀ (k0_h3 : k0_cond3 v0 k0_t2 = 1#1), ∀ a, (k0_off189 v0 k0_t2) a + S1.size a ≤ S24.size a) ∧
  (∀ k0_t2 : Fin (k0_t2_loop v0).trips, ∀ (k0_h3 : k0_cond3 v0 k0_t2 = 1#1), ∀ a, (k0_off190 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off190 v0 k0_t2) a + S1x1x2x128x128.size a ≤ S24x16x2x128x128.size a), (Rect.unit (s := S24x16x2x128x128) (k0_off190 v0 k0_t2) S1x1x2x128x128.size hinb).WholeWords (EltTy.packing .fp8e4m3)) ∧
  (∀ k0_t2 : Fin (k0_t2_loop v0).trips, ∀ (k0_h3 : k0_cond3 v0 k0_t2 = 1#1), ∀ a, (k0_off192 v0 k0_t2) a + S1x1.size a ≤ S1x1024.size a) ∧
  (∀ k0_t2 : Fin (k0_t2_loop v0).trips, ∀ (k0_h3 : k0_cond3 v0 k0_t2 = 1#1), ∀ a, (k0_off193 v0 k0_t2) a + S1.size a ≤ S24.size a) ∧
  (∀ k0_t2 : Fin (k0_t2_loop v0).trips, ∀ (k0_h3 : k0_cond3 v0 k0_t2 = 1#1), ∀ a, (k0_off194 v0 k0_t2) a + S1x1x2x128x128.size a ≤ S24x16x2x128x128.size a) ∧
  (∀ k0_t2 : Fin (k0_t2_loop v0).trips, ∀ (k0_h3 : k0_cond3 v0 k0_t2 = 1#1), ∀ (hinb : ∀ a, (k0_off194 v0 k0_t2) a + S1x1x2x128x128.size a ≤ S24x16x2x128x128.size a), (Rect.unit (s := S24x16x2x128x128) (k0_off194 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off196 v0 k0_t2) a + S1x1.size a ≤ S1x1024.size a) ∧
  (∀ k0_t2 : Fin (k0_t2_loop v0).trips, ∀ (k0_h4 : k0_cond4 v0 k0_t2 = 1#1), ∀ a, (k0_off197 v0 k0_t2) a + S1.size a ≤ S24.size a) ∧
  (∀ k0_t2 : Fin (k0_t2_loop v0).trips, ∀ (k0_h4 : k0_cond4 v0 k0_t2 = 1#1), ∀ a, (k0_off198 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off198 v0 k0_t2) a + S1x1x2x128x128.size a ≤ S24x16x2x128x128.size a), (Rect.unit (s := S24x16x2x128x128) (k0_off198 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off200 v0 k0_t2) a + S1x1.size a ≤ S1x1024.size a) ∧
  (∀ k0_t2 : Fin (k0_t2_loop v0).trips, ∀ (k0_h4 : k0_cond4 v0 k0_t2 = 1#1), ∀ a, (k0_off201 v0 k0_t2) a + S1.size a ≤ S24.size a) ∧
  (∀ k0_t2 : Fin (k0_t2_loop v0).trips, ∀ (k0_h4 : k0_cond4 v0 k0_t2 = 1#1), ∀ a, (k0_off202 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off202 v0 k0_t2) a + S1x1x2x128x128.size a ≤ S24x16x2x128x128.size a), (Rect.unit (s := S24x16x2x128x128) (k0_off202 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off204 v0 k0_t2) a + S1x1.size a ≤ S1x1024.size a) ∧
  (∀ k0_t2 : Fin (k0_t2_loop v0).trips, ∀ (k0_h4 : k0_cond4 v0 k0_t2 = 1#1), ∀ a, (k0_off205 v0 k0_t2) a + S1.size a ≤ S24.size a) ∧
  (∀ k0_t2 : Fin (k0_t2_loop v0).trips, ∀ (k0_h4 : k0_cond4 v0 k0_t2 = 1#1), ∀ a, (k0_off206 v0 k0_t2) a + S1x1x2x128x128.size a ≤ S24x16x2x128x128.size a)
def k0_chk17_3 (v0 : BitVec 32) : Prop :=
  (∀ k0_t2 : Fin (k0_t2_loop v0).trips, ∀ (k0_h4 : k0_cond4 v0 k0_t2 = 1#1), ∀ (hinb : ∀ a, (k0_off206 v0 k0_t2) a + S1x1x2x128x128.size a ≤ S24x16x2x128x128.size a), (Rect.unit (s := S24x16x2x128x128) (k0_off206 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off208 v0 k0_t2) a + S1x1.size a ≤ S1x1024.size a) ∧
  (∀ k0_t2 : Fin (k0_t2_loop v0).trips, ∀ (k0_h4 : k0_cond4 v0 k0_t2 = 1#1), ∀ a, (k0_off209 v0 k0_t2) a + S1.size a ≤ S24.size a) ∧
  (∀ k0_t2 : Fin (k0_t2_loop v0).trips, ∀ (k0_h4 : k0_cond4 v0 k0_t2 = 1#1), ∀ a, (k0_off210 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off210 v0 k0_t2) a + S1x1x2x128x128.size a ≤ S24x16x2x128x128.size a), (Rect.unit (s := S24x16x2x128x128) (k0_off210 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off212 v0 k0_t2) a + S1x1.size a ≤ S1x1024.size a) ∧
  (∀ k0_t2 : Fin (k0_t2_loop v0).trips, ∀ (k0_h4 : k0_cond4 v0 k0_t2 = 1#1), ∀ a, (k0_off213 v0 k0_t2) a + S1.size a ≤ S24.size a) ∧
  (∀ k0_t2 : Fin (k0_t2_loop v0).trips, ∀ (k0_h4 : k0_cond4 v0 k0_t2 = 1#1), ∀ a, (k0_off214 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off214 v0 k0_t2) a + S1x1x2x128x128.size a ≤ S24x16x2x128x128.size a), (Rect.unit (s := S24x16x2x128x128) (k0_off214 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off216 v0 k0_t2) a + S1x1.size a ≤ S1x1024.size a) ∧
  (∀ k0_t2 : Fin (k0_t2_loop v0).trips, ∀ (k0_h4 : k0_cond4 v0 k0_t2 = 1#1), ∀ a, (k0_off217 v0 k0_t2) a + S1.size a ≤ S24.size a) ∧
  (∀ k0_t2 : Fin (k0_t2_loop v0).trips, ∀ (k0_h4 : k0_cond4 v0 k0_t2 = 1#1), ∀ a, (k0_off218 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off218 v0 k0_t2) a + S1x1x2x128x128.size a ≤ S24x16x2x128x128.size a), (Rect.unit (s := S24x16x2x128x128) (k0_off218 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off220 v0 k0_t2) a + S1x1.size a ≤ S1x1024.size a) ∧
  (∀ k0_t2 : Fin (k0_t2_loop v0).trips, ∀ (k0_h4 : k0_cond4 v0 k0_t2 = 1#1), ∀ a, (k0_off221 v0 k0_t2) a + S1.size a ≤ S24.size a) ∧
  (∀ k0_t2 : Fin (k0_t2_loop v0).trips, ∀ (k0_h4 : k0_cond4 v0 k0_t2 = 1#1), ∀ a, (k0_off222 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off222 v0 k0_t2) a + S1x1x2x128x128.size a ≤ S24x16x2x128x128.size a), (Rect.unit (s := S24x16x2x128x128) (k0_off222 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off224 v0 k0_t2) a + S1x1.size a ≤ S1x1024.size a) ∧
  (∀ k0_t2 : Fin (k0_t2_loop v0).trips, ∀ (k0_h4 : k0_cond4 v0 k0_t2 = 1#1), ∀ a, (k0_off225 v0 k0_t2) a + S1.size a ≤ S24.size a) ∧
  (∀ k0_t2 : Fin (k0_t2_loop v0).trips, ∀ (k0_h4 : k0_cond4 v0 k0_t2 = 1#1), ∀ a, (k0_off226 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off226 v0 k0_t2) a + S1x1x2x128x128.size a ≤ S24x16x2x128x128.size a), (Rect.unit (s := S24x16x2x128x128) (k0_off226 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off228 v0 k0_t2) a + S1x1.size a ≤ S1x1024.size a) ∧
  (∀ k0_t2 : Fin (k0_t2_loop v0).trips, ∀ (k0_h4 : k0_cond4 v0 k0_t2 = 1#1), ∀ a, (k0_off229 v0 k0_t2) a + S1.size a ≤ S24.size a) ∧
  (∀ k0_t2 : Fin (k0_t2_loop v0).trips, ∀ (k0_h4 : k0_cond4 v0 k0_t2 = 1#1), ∀ a, (k0_off230 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off230 v0 k0_t2) a + S1x1x2x128x128.size a ≤ S24x16x2x128x128.size a), (Rect.unit (s := S24x16x2x128x128) (k0_off230 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off232 v0 k0_t2) a + S1x1.size a ≤ S1x1024.size a) ∧
  (∀ k0_t2 : Fin (k0_t2_loop v0).trips, ∀ (k0_h4 : k0_cond4 v0 k0_t2 = 1#1), ∀ a, (k0_off233 v0 k0_t2) a + S1.size a ≤ S24.size a) ∧
  (∀ k0_t2 : Fin (k0_t2_loop v0).trips, ∀ (k0_h4 : k0_cond4 v0 k0_t2 = 1#1), ∀ a, (k0_off234 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off234 v0 k0_t2) a + S1x1x2x128x128.size a ≤ S24x16x2x128x128.size a), (Rect.unit (s := S24x16x2x128x128) (k0_off234 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off236 v0 k0_t2) a + S1x1.size a ≤ S1x1024.size a) ∧
  (∀ k0_t2 : Fin (k0_t2_loop v0).trips, ∀ (k0_h4 : k0_cond4 v0 k0_t2 = 1#1), ∀ a, (k0_off237 v0 k0_t2) a + S1.size a ≤ S24.size a) ∧
  (∀ k0_t2 : Fin (k0_t2_loop v0).trips, ∀ (k0_h4 : k0_cond4 v0 k0_t2 = 1#1), ∀ a, (k0_off238 v0 k0_t2) a + S1x1x2x128x128.size a ≤ S24x16x2x128x128.size a)
def k0_chk17_4 (v0 : BitVec 32) : Prop :=
  (∀ k0_t2 : Fin (k0_t2_loop v0).trips, ∀ (k0_h4 : k0_cond4 v0 k0_t2 = 1#1), ∀ (hinb : ∀ a, (k0_off238 v0 k0_t2) a + S1x1x2x128x128.size a ≤ S24x16x2x128x128.size a), (Rect.unit (s := S24x16x2x128x128) (k0_off238 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off240 v0 k0_t2) a + S1x1.size a ≤ S1x1024.size a) ∧
  (∀ k0_t2 : Fin (k0_t2_loop v0).trips, ∀ (k0_h4 : k0_cond4 v0 k0_t2 = 1#1), ∀ a, (k0_off241 v0 k0_t2) a + S1.size a ≤ S24.size a) ∧
  (∀ k0_t2 : Fin (k0_t2_loop v0).trips, ∀ (k0_h4 : k0_cond4 v0 k0_t2 = 1#1), ∀ a, (k0_off242 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off242 v0 k0_t2) a + S1x1x2x128x128.size a ≤ S24x16x2x128x128.size a), (Rect.unit (s := S24x16x2x128x128) (k0_off242 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off244 v0 k0_t2) a + S1x1.size a ≤ S1x1024.size a) ∧
  (∀ k0_t2 : Fin (k0_t2_loop v0).trips, ∀ (k0_h4 : k0_cond4 v0 k0_t2 = 1#1), ∀ a, (k0_off245 v0 k0_t2) a + S1.size a ≤ S24.size a) ∧
  (∀ k0_t2 : Fin (k0_t2_loop v0).trips, ∀ (k0_h4 : k0_cond4 v0 k0_t2 = 1#1), ∀ a, (k0_off246 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off246 v0 k0_t2) a + S1x1x2x128x128.size a ≤ S24x16x2x128x128.size a), (Rect.unit (s := S24x16x2x128x128) (k0_off246 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off248 v0 k0_t2) a + S1x1.size a ≤ S1x1024.size a) ∧
  (∀ k0_t2 : Fin (k0_t2_loop v0).trips, ∀ (k0_h4 : k0_cond4 v0 k0_t2 = 1#1), ∀ a, (k0_off249 v0 k0_t2) a + S1.size a ≤ S24.size a) ∧
  (∀ k0_t2 : Fin (k0_t2_loop v0).trips, ∀ (k0_h4 : k0_cond4 v0 k0_t2 = 1#1), ∀ a, (k0_off250 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off250 v0 k0_t2) a + S1x1x2x128x128.size a ≤ S24x16x2x128x128.size a), (Rect.unit (s := S24x16x2x128x128) (k0_off250 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off252 v0 k0_t2) a + S1x1.size a ≤ S1x1024.size a) ∧
  (∀ k0_t2 : Fin (k0_t2_loop v0).trips, ∀ (k0_h4 : k0_cond4 v0 k0_t2 = 1#1), ∀ a, (k0_off253 v0 k0_t2) a + S1.size a ≤ S24.size a) ∧
  (∀ k0_t2 : Fin (k0_t2_loop v0).trips, ∀ (k0_h4 : k0_cond4 v0 k0_t2 = 1#1), ∀ a, (k0_off254 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off254 v0 k0_t2) a + S1x1x2x128x128.size a ≤ S24x16x2x128x128.size a), (Rect.unit (s := S24x16x2x128x128) (k0_off254 v0 k0_t2) S1x1x2x128x128.size hinb).WholeWords (EltTy.packing .fp8e4m3)) ∧
  (∀ k0_t2 : Fin (k0_t2_loop v0).trips, ∀ (k0_h4 : k0_cond4 v0 k0_t2 = 1#1), ∀ a, (k0_off256 v0 k0_t2) a + S1x1.size a ≤ S1x1024.size a) ∧
  (∀ k0_t2 : Fin (k0_t2_loop v0).trips, ∀ (k0_h4 : k0_cond4 v0 k0_t2 = 1#1), ∀ a, (k0_off257 v0 k0_t2) a + S1.size a ≤ S24.size a) ∧
  (∀ k0_t2 : Fin (k0_t2_loop v0).trips, ∀ (k0_h4 : k0_cond4 v0 k0_t2 = 1#1), ∀ a, (k0_off258 v0 k0_t2) a + S1x1x2x128x128.size a ≤ S24x16x2x128x128.size a) ∧
  (∀ k0_t2 : Fin (k0_t2_loop v0).trips, ∀ (k0_h4 : k0_cond4 v0 k0_t2 = 1#1), ∀ (hinb : ∀ a, (k0_off258 v0 k0_t2) a + S1x1x2x128x128.size a ≤ S24x16x2x128x128.size a), (Rect.unit (s := S24x16x2x128x128) (k0_off258 v0 k0_t2) S1x1x2x128x128.size hinb).WholeWords (EltTy.packing .fp8e4m3)) ∧
  (∀ k0_t2 : Fin (k0_t2_loop v0).trips, 2048 ∣ (k0_mult1 v0 k0_t2).toNat) ∧
  (∀ k0_t2 : Fin (k0_t2_loop v0).trips, ∀ a, (k0_off260 v0 k0_t2) a + S16x2048.size a ≤ S16x131072.size a) ∧
  ((k0_t3_loop v0).OK) ∧
  (∀ k0_t3 : Fin (k0_t3_loop v0).trips, ∀ a, (k0_off261 v0 k0_t3) a + S1.size a ≤ S24.size a) ∧
  (∀ k0_t3 : Fin (k0_t3_loop v0).trips, ∀ a, (k0_off262 v0 k0_t3) a + S1x16x2x128x128.size a ≤ S24x16x2x128x128.size a) ∧
  (∀ k0_t3 : Fin (k0_t3_loop v0).trips, ∀ (hinb : ∀ a, (k0_off262 v0 k0_t3) a + S1x16x2x128x128.size a ≤ S24x16x2x128x128.size a), (Rect.unit (s := S24x16x2x128x128) (k0_off262 v0 k0_t3) S1x16x2x128x128.size hinb).WholeWords (EltTy.packing .fp8e4m3)) ∧
  (∀ k0_t3 : Fin (k0_t3_loop v0).trips, ∀ a, (k0_off263 v0 k0_t3) a + S1x16x2x128x128.size a ≤ S24x16x2x128x128.size a) ∧
  (∀ k0_t3 : Fin (k0_t3_loop v0).trips, ∀ (k0_h5 : k0_cond5 v0 k0_t3 = 1#1), ∀ a, (k0_off264 v0 k0_t3) a + S1x1.size a ≤ S1x1024.size a) ∧
  (∀ k0_t3 : Fin (k0_t3_loop v0).trips, ∀ (k0_h5 : k0_cond5 v0 k0_t3 = 1#1), ∀ a, (k0_off265 v0 k0_t3) a + S1.size a ≤ S24.size a) ∧
  (∀ k0_t3 : Fin (k0_t3_loop v0).trips, ∀ (k0_h5 : k0_cond5 v0 k0_t3 = 1#1), ∀ a, (k0_off266 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off266 v0 k0_t3) a + S1x1x2x128x128.size a ≤ S24x16x2x128x128.size a), (Rect.unit (s := S24x16x2x128x128) (k0_off266 v0 k0_t3) S1x1x2x128x128.size hinb).WholeWords (EltTy.packing .fp8e4m3))
def k0_chk17_5 (v0 : BitVec 32) : Prop :=
  (∀ k0_t3 : Fin (k0_t3_loop v0).trips, ∀ (k0_h5 : k0_cond5 v0 k0_t3 = 1#1), ∀ a, (k0_off268 v0 k0_t3) a + S1x1.size a ≤ S1x1024.size a) ∧
  (∀ k0_t3 : Fin (k0_t3_loop v0).trips, ∀ (k0_h5 : k0_cond5 v0 k0_t3 = 1#1), ∀ a, (k0_off269 v0 k0_t3) a + S1.size a ≤ S24.size a) ∧
  (∀ k0_t3 : Fin (k0_t3_loop v0).trips, ∀ (k0_h5 : k0_cond5 v0 k0_t3 = 1#1), ∀ a, (k0_off270 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off270 v0 k0_t3) a + S1x1x2x128x128.size a ≤ S24x16x2x128x128.size a), (Rect.unit (s := S24x16x2x128x128) (k0_off270 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off272 v0 k0_t3) a + S1x1.size a ≤ S1x1024.size a) ∧
  (∀ k0_t3 : Fin (k0_t3_loop v0).trips, ∀ (k0_h5 : k0_cond5 v0 k0_t3 = 1#1), ∀ a, (k0_off273 v0 k0_t3) a + S1.size a ≤ S24.size a) ∧
  (∀ k0_t3 : Fin (k0_t3_loop v0).trips, ∀ (k0_h5 : k0_cond5 v0 k0_t3 = 1#1), ∀ a, (k0_off274 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off274 v0 k0_t3) a + S1x1x2x128x128.size a ≤ S24x16x2x128x128.size a), (Rect.unit (s := S24x16x2x128x128) (k0_off274 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off276 v0 k0_t3) a + S1x1.size a ≤ S1x1024.size a) ∧
  (∀ k0_t3 : Fin (k0_t3_loop v0).trips, ∀ (k0_h5 : k0_cond5 v0 k0_t3 = 1#1), ∀ a, (k0_off277 v0 k0_t3) a + S1.size a ≤ S24.size a) ∧
  (∀ k0_t3 : Fin (k0_t3_loop v0).trips, ∀ (k0_h5 : k0_cond5 v0 k0_t3 = 1#1), ∀ a, (k0_off278 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off278 v0 k0_t3) a + S1x1x2x128x128.size a ≤ S24x16x2x128x128.size a), (Rect.unit (s := S24x16x2x128x128) (k0_off278 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off280 v0 k0_t3) a + S1x1.size a ≤ S1x1024.size a) ∧
  (∀ k0_t3 : Fin (k0_t3_loop v0).trips, ∀ (k0_h5 : k0_cond5 v0 k0_t3 = 1#1), ∀ a, (k0_off281 v0 k0_t3) a + S1.size a ≤ S24.size a) ∧
  (∀ k0_t3 : Fin (k0_t3_loop v0).trips, ∀ (k0_h5 : k0_cond5 v0 k0_t3 = 1#1), ∀ a, (k0_off282 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off282 v0 k0_t3) a + S1x1x2x128x128.size a ≤ S24x16x2x128x128.size a), (Rect.unit (s := S24x16x2x128x128) (k0_off282 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off284 v0 k0_t3) a + S1x1.size a ≤ S1x1024.size a) ∧
  (∀ k0_t3 : Fin (k0_t3_loop v0).trips, ∀ (k0_h5 : k0_cond5 v0 k0_t3 = 1#1), ∀ a, (k0_off285 v0 k0_t3) a + S1.size a ≤ S24.size a) ∧
  (∀ k0_t3 : Fin (k0_t3_loop v0).trips, ∀ (k0_h5 : k0_cond5 v0 k0_t3 = 1#1), ∀ a, (k0_off286 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off286 v0 k0_t3) a + S1x1x2x128x128.size a ≤ S24x16x2x128x128.size a), (Rect.unit (s := S24x16x2x128x128) (k0_off286 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off288 v0 k0_t3) a + S1x1.size a ≤ S1x1024.size a) ∧
  (∀ k0_t3 : Fin (k0_t3_loop v0).trips, ∀ (k0_h5 : k0_cond5 v0 k0_t3 = 1#1), ∀ a, (k0_off289 v0 k0_t3) a + S1.size a ≤ S24.size a) ∧
  (∀ k0_t3 : Fin (k0_t3_loop v0).trips, ∀ (k0_h5 : k0_cond5 v0 k0_t3 = 1#1), ∀ a, (k0_off290 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off290 v0 k0_t3) a + S1x1x2x128x128.size a ≤ S24x16x2x128x128.size a), (Rect.unit (s := S24x16x2x128x128) (k0_off290 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off292 v0 k0_t3) a + S1x1.size a ≤ S1x1024.size a) ∧
  (∀ k0_t3 : Fin (k0_t3_loop v0).trips, ∀ (k0_h5 : k0_cond5 v0 k0_t3 = 1#1), ∀ a, (k0_off293 v0 k0_t3) a + S1.size a ≤ S24.size a) ∧
  (∀ k0_t3 : Fin (k0_t3_loop v0).trips, ∀ (k0_h5 : k0_cond5 v0 k0_t3 = 1#1), ∀ a, (k0_off294 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off294 v0 k0_t3) a + S1x1x2x128x128.size a ≤ S24x16x2x128x128.size a), (Rect.unit (s := S24x16x2x128x128) (k0_off294 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off296 v0 k0_t3) a + S1x1.size a ≤ S1x1024.size a) ∧
  (∀ k0_t3 : Fin (k0_t3_loop v0).trips, ∀ (k0_h5 : k0_cond5 v0 k0_t3 = 1#1), ∀ a, (k0_off297 v0 k0_t3) a + S1.size a ≤ S24.size a) ∧
  (∀ k0_t3 : Fin (k0_t3_loop v0).trips, ∀ (k0_h5 : k0_cond5 v0 k0_t3 = 1#1), ∀ a, (k0_off298 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off298 v0 k0_t3) a + S1x1x2x128x128.size a ≤ S24x16x2x128x128.size a), (Rect.unit (s := S24x16x2x128x128) (k0_off298 v0 k0_t3) S1x1x2x128x128.size hinb).WholeWords (EltTy.packing .fp8e4m3))
def k0_chk17_6 (v0 : BitVec 32) : Prop :=
  (∀ k0_t3 : Fin (k0_t3_loop v0).trips, ∀ (k0_h5 : k0_cond5 v0 k0_t3 = 1#1), ∀ a, (k0_off300 v0 k0_t3) a + S1x1.size a ≤ S1x1024.size a) ∧
  (∀ k0_t3 : Fin (k0_t3_loop v0).trips, ∀ (k0_h5 : k0_cond5 v0 k0_t3 = 1#1), ∀ a, (k0_off301 v0 k0_t3) a + S1.size a ≤ S24.size a) ∧
  (∀ k0_t3 : Fin (k0_t3_loop v0).trips, ∀ (k0_h5 : k0_cond5 v0 k0_t3 = 1#1), ∀ a, (k0_off302 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off302 v0 k0_t3) a + S1x1x2x128x128.size a ≤ S24x16x2x128x128.size a), (Rect.unit (s := S24x16x2x128x128) (k0_off302 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off304 v0 k0_t3) a + S1x1.size a ≤ S1x1024.size a) ∧
  (∀ k0_t3 : Fin (k0_t3_loop v0).trips, ∀ (k0_h5 : k0_cond5 v0 k0_t3 = 1#1), ∀ a, (k0_off305 v0 k0_t3) a + S1.size a ≤ S24.size a) ∧
  (∀ k0_t3 : Fin (k0_t3_loop v0).trips, ∀ (k0_h5 : k0_cond5 v0 k0_t3 = 1#1), ∀ a, (k0_off306 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off306 v0 k0_t3) a + S1x1x2x128x128.size a ≤ S24x16x2x128x128.size a), (Rect.unit (s := S24x16x2x128x128) (k0_off306 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off308 v0 k0_t3) a + S1x1.size a ≤ S1x1024.size a) ∧
  (∀ k0_t3 : Fin (k0_t3_loop v0).trips, ∀ (k0_h5 : k0_cond5 v0 k0_t3 = 1#1), ∀ a, (k0_off309 v0 k0_t3) a + S1.size a ≤ S24.size a) ∧
  (∀ k0_t3 : Fin (k0_t3_loop v0).trips, ∀ (k0_h5 : k0_cond5 v0 k0_t3 = 1#1), ∀ a, (k0_off310 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off310 v0 k0_t3) a + S1x1x2x128x128.size a ≤ S24x16x2x128x128.size a), (Rect.unit (s := S24x16x2x128x128) (k0_off310 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off312 v0 k0_t3) a + S1x1.size a ≤ S1x1024.size a) ∧
  (∀ k0_t3 : Fin (k0_t3_loop v0).trips, ∀ (k0_h5 : k0_cond5 v0 k0_t3 = 1#1), ∀ a, (k0_off313 v0 k0_t3) a + S1.size a ≤ S24.size a) ∧
  (∀ k0_t3 : Fin (k0_t3_loop v0).trips, ∀ (k0_h5 : k0_cond5 v0 k0_t3 = 1#1), ∀ a, (k0_off314 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off314 v0 k0_t3) a + S1x1x2x128x128.size a ≤ S24x16x2x128x128.size a), (Rect.unit (s := S24x16x2x128x128) (k0_off314 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off316 v0 k0_t3) a + S1x1.size a ≤ S1x1024.size a) ∧
  (∀ k0_t3 : Fin (k0_t3_loop v0).trips, ∀ (k0_h5 : k0_cond5 v0 k0_t3 = 1#1), ∀ a, (k0_off317 v0 k0_t3) a + S1.size a ≤ S24.size a) ∧
  (∀ k0_t3 : Fin (k0_t3_loop v0).trips, ∀ (k0_h5 : k0_cond5 v0 k0_t3 = 1#1), ∀ a, (k0_off318 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off318 v0 k0_t3) a + S1x1x2x128x128.size a ≤ S24x16x2x128x128.size a), (Rect.unit (s := S24x16x2x128x128) (k0_off318 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off320 v0 k0_t3) a + S1x1.size a ≤ S1x1024.size a) ∧
  (∀ k0_t3 : Fin (k0_t3_loop v0).trips, ∀ (k0_h5 : k0_cond5 v0 k0_t3 = 1#1), ∀ a, (k0_off321 v0 k0_t3) a + S1.size a ≤ S24.size a) ∧
  (∀ k0_t3 : Fin (k0_t3_loop v0).trips, ∀ (k0_h5 : k0_cond5 v0 k0_t3 = 1#1), ∀ a, (k0_off322 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off322 v0 k0_t3) a + S1x1x2x128x128.size a ≤ S24x16x2x128x128.size a), (Rect.unit (s := S24x16x2x128x128) (k0_off322 v0 k0_t3) S1x1x2x128x128.size hinb).WholeWords (EltTy.packing .fp8e4m3)) ∧
  (∀ k0_t3 : Fin (k0_t3_loop v0).trips, ∀ (k0_h5 : k0_cond5 v0 k0_t3 = 1#1), ∀ a, (k0_off324 v0 k0_t3) a + S1x1.size a ≤ S1x1024.size a) ∧
  (∀ k0_t3 : Fin (k0_t3_loop v0).trips, ∀ (k0_h5 : k0_cond5 v0 k0_t3 = 1#1), ∀ a, (k0_off325 v0 k0_t3) a + S1.size a ≤ S24.size a) ∧
  (∀ k0_t3 : Fin (k0_t3_loop v0).trips, ∀ (k0_h5 : k0_cond5 v0 k0_t3 = 1#1), ∀ a, (k0_off326 v0 k0_t3) a + S1x1x2x128x128.size a ≤ S24x16x2x128x128.size a) ∧
  (∀ k0_t3 : Fin (k0_t3_loop v0).trips, ∀ (k0_h5 : k0_cond5 v0 k0_t3 = 1#1), ∀ (hinb : ∀ a, (k0_off326 v0 k0_t3) a + S1x1x2x128x128.size a ≤ S24x16x2x128x128.size a), (Rect.unit (s := S24x16x2x128x128) (k0_off326 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off328 v0 k0_t3) a + S1x1.size a ≤ S1x1024.size a) ∧
  (∀ k0_t3 : Fin (k0_t3_loop v0).trips, ∀ (k0_h6 : k0_cond6 v0 k0_t3 = 1#1), ∀ a, (k0_off329 v0 k0_t3) a + S1.size a ≤ S24.size a) ∧
  (∀ k0_t3 : Fin (k0_t3_loop v0).trips, ∀ (k0_h6 : k0_cond6 v0 k0_t3 = 1#1), ∀ a, (k0_off330 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off330 v0 k0_t3) a + S1x1x2x128x128.size a ≤ S24x16x2x128x128.size a), (Rect.unit (s := S24x16x2x128x128) (k0_off330 v0 k0_t3) S1x1x2x128x128.size hinb).WholeWords (EltTy.packing .fp8e4m3))
def k0_chk17_7 (v0 : BitVec 32) : Prop :=
  (∀ k0_t3 : Fin (k0_t3_loop v0).trips, ∀ (k0_h6 : k0_cond6 v0 k0_t3 = 1#1), ∀ a, (k0_off332 v0 k0_t3) a + S1x1.size a ≤ S1x1024.size a) ∧
  (∀ k0_t3 : Fin (k0_t3_loop v0).trips, ∀ (k0_h6 : k0_cond6 v0 k0_t3 = 1#1), ∀ a, (k0_off333 v0 k0_t3) a + S1.size a ≤ S24.size a) ∧
  (∀ k0_t3 : Fin (k0_t3_loop v0).trips, ∀ (k0_h6 : k0_cond6 v0 k0_t3 = 1#1), ∀ a, (k0_off334 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off334 v0 k0_t3) a + S1x1x2x128x128.size a ≤ S24x16x2x128x128.size a), (Rect.unit (s := S24x16x2x128x128) (k0_off334 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off336 v0 k0_t3) a + S1x1.size a ≤ S1x1024.size a) ∧
  (∀ k0_t3 : Fin (k0_t3_loop v0).trips, ∀ (k0_h6 : k0_cond6 v0 k0_t3 = 1#1), ∀ a, (k0_off337 v0 k0_t3) a + S1.size a ≤ S24.size a) ∧
  (∀ k0_t3 : Fin (k0_t3_loop v0).trips, ∀ (k0_h6 : k0_cond6 v0 k0_t3 = 1#1), ∀ a, (k0_off338 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off338 v0 k0_t3) a + S1x1x2x128x128.size a ≤ S24x16x2x128x128.size a), (Rect.unit (s := S24x16x2x128x128) (k0_off338 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off340 v0 k0_t3) a + S1x1.size a ≤ S1x1024.size a) ∧
  (∀ k0_t3 : Fin (k0_t3_loop v0).trips, ∀ (k0_h6 : k0_cond6 v0 k0_t3 = 1#1), ∀ a, (k0_off341 v0 k0_t3) a + S1.size a ≤ S24.size a) ∧
  (∀ k0_t3 : Fin (k0_t3_loop v0).trips, ∀ (k0_h6 : k0_cond6 v0 k0_t3 = 1#1), ∀ a, (k0_off342 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off342 v0 k0_t3) a + S1x1x2x128x128.size a ≤ S24x16x2x128x128.size a), (Rect.unit (s := S24x16x2x128x128) (k0_off342 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off344 v0 k0_t3) a + S1x1.size a ≤ S1x1024.size a) ∧
  (∀ k0_t3 : Fin (k0_t3_loop v0).trips, ∀ (k0_h6 : k0_cond6 v0 k0_t3 = 1#1), ∀ a, (k0_off345 v0 k0_t3) a + S1.size a ≤ S24.size a) ∧
  (∀ k0_t3 : Fin (k0_t3_loop v0).trips, ∀ (k0_h6 : k0_cond6 v0 k0_t3 = 1#1), ∀ a, (k0_off346 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off346 v0 k0_t3) a + S1x1x2x128x128.size a ≤ S24x16x2x128x128.size a), (Rect.unit (s := S24x16x2x128x128) (k0_off346 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off348 v0 k0_t3) a + S1x1.size a ≤ S1x1024.size a) ∧
  (∀ k0_t3 : Fin (k0_t3_loop v0).trips, ∀ (k0_h6 : k0_cond6 v0 k0_t3 = 1#1), ∀ a, (k0_off349 v0 k0_t3) a + S1.size a ≤ S24.size a) ∧
  (∀ k0_t3 : Fin (k0_t3_loop v0).trips, ∀ (k0_h6 : k0_cond6 v0 k0_t3 = 1#1), ∀ a, (k0_off350 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off350 v0 k0_t3) a + S1x1x2x128x128.size a ≤ S24x16x2x128x128.size a), (Rect.unit (s := S24x16x2x128x128) (k0_off350 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off352 v0 k0_t3) a + S1x1.size a ≤ S1x1024.size a) ∧
  (∀ k0_t3 : Fin (k0_t3_loop v0).trips, ∀ (k0_h6 : k0_cond6 v0 k0_t3 = 1#1), ∀ a, (k0_off353 v0 k0_t3) a + S1.size a ≤ S24.size a) ∧
  (∀ k0_t3 : Fin (k0_t3_loop v0).trips, ∀ (k0_h6 : k0_cond6 v0 k0_t3 = 1#1), ∀ a, (k0_off354 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off354 v0 k0_t3) a + S1x1x2x128x128.size a ≤ S24x16x2x128x128.size a), (Rect.unit (s := S24x16x2x128x128) (k0_off354 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off356 v0 k0_t3) a + S1x1.size a ≤ S1x1024.size a) ∧
  (∀ k0_t3 : Fin (k0_t3_loop v0).trips, ∀ (k0_h6 : k0_cond6 v0 k0_t3 = 1#1), ∀ a, (k0_off357 v0 k0_t3) a + S1.size a ≤ S24.size a) ∧
  (∀ k0_t3 : Fin (k0_t3_loop v0).trips, ∀ (k0_h6 : k0_cond6 v0 k0_t3 = 1#1), ∀ a, (k0_off358 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off358 v0 k0_t3) a + S1x1x2x128x128.size a ≤ S24x16x2x128x128.size a), (Rect.unit (s := S24x16x2x128x128) (k0_off358 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off360 v0 k0_t3) a + S1x1.size a ≤ S1x1024.size a) ∧
  (∀ k0_t3 : Fin (k0_t3_loop v0).trips, ∀ (k0_h6 : k0_cond6 v0 k0_t3 = 1#1), ∀ a, (k0_off361 v0 k0_t3) a + S1.size a ≤ S24.size a) ∧
  (∀ k0_t3 : Fin (k0_t3_loop v0).trips, ∀ (k0_h6 : k0_cond6 v0 k0_t3 = 1#1), ∀ a, (k0_off362 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off362 v0 k0_t3) a + S1x1x2x128x128.size a ≤ S24x16x2x128x128.size a), (Rect.unit (s := S24x16x2x128x128) (k0_off362 v0 k0_t3) S1x1x2x128x128.size hinb).WholeWords (EltTy.packing .fp8e4m3))
def k0_chk17_8 (v0 : BitVec 32) : Prop :=
  (∀ k0_t3 : Fin (k0_t3_loop v0).trips, ∀ (k0_h6 : k0_cond6 v0 k0_t3 = 1#1), ∀ a, (k0_off364 v0 k0_t3) a + S1x1.size a ≤ S1x1024.size a) ∧
  (∀ k0_t3 : Fin (k0_t3_loop v0).trips, ∀ (k0_h6 : k0_cond6 v0 k0_t3 = 1#1), ∀ a, (k0_off365 v0 k0_t3) a + S1.size a ≤ S24.size a) ∧
  (∀ k0_t3 : Fin (k0_t3_loop v0).trips, ∀ (k0_h6 : k0_cond6 v0 k0_t3 = 1#1), ∀ a, (k0_off366 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off366 v0 k0_t3) a + S1x1x2x128x128.size a ≤ S24x16x2x128x128.size a), (Rect.unit (s := S24x16x2x128x128) (k0_off366 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off368 v0 k0_t3) a + S1x1.size a ≤ S1x1024.size a) ∧
  (∀ k0_t3 : Fin (k0_t3_loop v0).trips, ∀ (k0_h6 : k0_cond6 v0 k0_t3 = 1#1), ∀ a, (k0_off369 v0 k0_t3) a + S1.size a ≤ S24.size a) ∧
  (∀ k0_t3 : Fin (k0_t3_loop v0).trips, ∀ (k0_h6 : k0_cond6 v0 k0_t3 = 1#1), ∀ a, (k0_off370 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off370 v0 k0_t3) a + S1x1x2x128x128.size a ≤ S24x16x2x128x128.size a), (Rect.unit (s := S24x16x2x128x128) (k0_off370 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off372 v0 k0_t3) a + S1x1.size a ≤ S1x1024.size a) ∧
  (∀ k0_t3 : Fin (k0_t3_loop v0).trips, ∀ (k0_h6 : k0_cond6 v0 k0_t3 = 1#1), ∀ a, (k0_off373 v0 k0_t3) a + S1.size a ≤ S24.size a) ∧
  (∀ k0_t3 : Fin (k0_t3_loop v0).trips, ∀ (k0_h6 : k0_cond6 v0 k0_t3 = 1#1), ∀ a, (k0_off374 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off374 v0 k0_t3) a + S1x1x2x128x128.size a ≤ S24x16x2x128x128.size a), (Rect.unit (s := S24x16x2x128x128) (k0_off374 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off376 v0 k0_t3) a + S1x1.size a ≤ S1x1024.size a) ∧
  (∀ k0_t3 : Fin (k0_t3_loop v0).trips, ∀ (k0_h6 : k0_cond6 v0 k0_t3 = 1#1), ∀ a, (k0_off377 v0 k0_t3) a + S1.size a ≤ S24.size a) ∧
  (∀ k0_t3 : Fin (k0_t3_loop v0).trips, ∀ (k0_h6 : k0_cond6 v0 k0_t3 = 1#1), ∀ a, (k0_off378 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off378 v0 k0_t3) a + S1x1x2x128x128.size a ≤ S24x16x2x128x128.size a), (Rect.unit (s := S24x16x2x128x128) (k0_off378 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off380 v0 k0_t3) a + S1x1.size a ≤ S1x1024.size a) ∧
  (∀ k0_t3 : Fin (k0_t3_loop v0).trips, ∀ (k0_h6 : k0_cond6 v0 k0_t3 = 1#1), ∀ a, (k0_off381 v0 k0_t3) a + S1.size a ≤ S24.size a) ∧
  (∀ k0_t3 : Fin (k0_t3_loop v0).trips, ∀ (k0_h6 : k0_cond6 v0 k0_t3 = 1#1), ∀ a, (k0_off382 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off382 v0 k0_t3) a + S1x1x2x128x128.size a ≤ S24x16x2x128x128.size a), (Rect.unit (s := S24x16x2x128x128) (k0_off382 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off384 v0 k0_t3) a + S1x1.size a ≤ S1x1024.size a) ∧
  (∀ k0_t3 : Fin (k0_t3_loop v0).trips, ∀ (k0_h6 : k0_cond6 v0 k0_t3 = 1#1), ∀ a, (k0_off385 v0 k0_t3) a + S1.size a ≤ S24.size a) ∧
  (∀ k0_t3 : Fin (k0_t3_loop v0).trips, ∀ (k0_h6 : k0_cond6 v0 k0_t3 = 1#1), ∀ a, (k0_off386 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off386 v0 k0_t3) a + S1x1x2x128x128.size a ≤ S24x16x2x128x128.size a), (Rect.unit (s := S24x16x2x128x128) (k0_off386 v0 k0_t3) S1x1x2x128x128.size hinb).WholeWords (EltTy.packing .fp8e4m3)) ∧
  (∀ k0_t3 : Fin (k0_t3_loop v0).trips, ∀ (k0_h6 : k0_cond6 v0 k0_t3 = 1#1), ∀ a, (k0_off388 v0 k0_t3) a + S1x1.size a ≤ S1x1024.size a) ∧
  (∀ k0_t3 : Fin (k0_t3_loop v0).trips, ∀ (k0_h6 : k0_cond6 v0 k0_t3 = 1#1), ∀ a, (k0_off389 v0 k0_t3) a + S1.size a ≤ S24.size a) ∧
  (∀ k0_t3 : Fin (k0_t3_loop v0).trips, ∀ (k0_h6 : k0_cond6 v0 k0_t3 = 1#1), ∀ a, (k0_off390 v0 k0_t3) a + S1x1x2x128x128.size a ≤ S24x16x2x128x128.size a) ∧
  (∀ k0_t3 : Fin (k0_t3_loop v0).trips, ∀ (k0_h6 : k0_cond6 v0 k0_t3 = 1#1), ∀ (hinb : ∀ a, (k0_off390 v0 k0_t3) a + S1x1x2x128x128.size a ≤ S24x16x2x128x128.size a), (Rect.unit (s := S24x16x2x128x128) (k0_off390 v0 k0_t3) S1x1x2x128x128.size hinb).WholeWords (EltTy.packing .fp8e4m3)) ∧
  (∀ k0_t3 : Fin (k0_t3_loop v0).trips, 2048 ∣ (k0_mult2 v0 k0_t3).toNat) ∧
  (∀ k0_t3 : Fin (k0_t3_loop v0).trips, ∀ a, (k0_off392 v0 k0_t3) a + S16x2048.size a ≤ S16x131072.size a) ∧
  ((k0_t4_loop v0).OK) ∧
  (∀ k0_t4 : Fin (k0_t4_loop v0).trips, ∀ a, (k0_off393 v0 k0_t4) a + S1.size a ≤ S24.size a)
def k0_chk17_9 (v0 : BitVec 32) : Prop :=
  (∀ k0_t4 : Fin (k0_t4_loop v0).trips, ∀ a, (k0_off394 v0 k0_t4) a + S1x16x2x128x128.size a ≤ S24x16x2x128x128.size a) ∧
  (∀ k0_t4 : Fin (k0_t4_loop v0).trips, ∀ (hinb : ∀ a, (k0_off394 v0 k0_t4) a + S1x16x2x128x128.size a ≤ S24x16x2x128x128.size a), (Rect.unit (s := S24x16x2x128x128) (k0_off394 v0 k0_t4) S1x16x2x128x128.size hinb).WholeWords (EltTy.packing .fp8e4m3)) ∧
  (∀ k0_t4 : Fin (k0_t4_loop v0).trips, 2048 ∣ (k0_mult3 v0 k0_t4).toNat) ∧
  (∀ k0_t4 : Fin (k0_t4_loop v0).trips, ∀ a, (k0_off395 v0 k0_t4) a + S16x2048.size a ≤ S16x131072.size a) ∧
  (∀ k0_t4 : Fin (k0_t4_loop v0).trips, ∀ a, (k0_off396 v0 k0_t4) a + S1x16x2x128x128.size a ≤ S24x16x2x128x128.size a) ∧
  (∀ k0_t4 : Fin (k0_t4_loop v0).trips, ∀ (k0_h7 : k0_cond7 v0 k0_t4 = 1#1), ∀ a, (k0_off397 v0 k0_t4) a + S1x1.size a ≤ S1x1024.size a) ∧
  (∀ k0_t4 : Fin (k0_t4_loop v0).trips, ∀ (k0_h7 : k0_cond7 v0 k0_t4 = 1#1), ∀ a, (k0_off398 v0 k0_t4) a + S1.size a ≤ S24.size a) ∧
  (∀ k0_t4 : Fin (k0_t4_loop v0).trips, ∀ (k0_h7 : k0_cond7 v0 k0_t4 = 1#1), ∀ a, (k0_off399 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off399 v0 k0_t4) a + S1x1x2x128x128.size a ≤ S24x16x2x128x128.size a), (Rect.unit (s := S24x16x2x128x128) (k0_off399 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off401 v0 k0_t4) a + S1x1.size a ≤ S1x1024.size a) ∧
  (∀ k0_t4 : Fin (k0_t4_loop v0).trips, ∀ (k0_h7 : k0_cond7 v0 k0_t4 = 1#1), ∀ a, (k0_off402 v0 k0_t4) a + S1.size a ≤ S24.size a) ∧
  (∀ k0_t4 : Fin (k0_t4_loop v0).trips, ∀ (k0_h7 : k0_cond7 v0 k0_t4 = 1#1), ∀ a, (k0_off403 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off403 v0 k0_t4) a + S1x1x2x128x128.size a ≤ S24x16x2x128x128.size a), (Rect.unit (s := S24x16x2x128x128) (k0_off403 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off405 v0 k0_t4) a + S1x1.size a ≤ S1x1024.size a) ∧
  (∀ k0_t4 : Fin (k0_t4_loop v0).trips, ∀ (k0_h7 : k0_cond7 v0 k0_t4 = 1#1), ∀ a, (k0_off406 v0 k0_t4) a + S1.size a ≤ S24.size a) ∧
  (∀ k0_t4 : Fin (k0_t4_loop v0).trips, ∀ (k0_h7 : k0_cond7 v0 k0_t4 = 1#1), ∀ a, (k0_off407 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off407 v0 k0_t4) a + S1x1x2x128x128.size a ≤ S24x16x2x128x128.size a), (Rect.unit (s := S24x16x2x128x128) (k0_off407 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off409 v0 k0_t4) a + S1x1.size a ≤ S1x1024.size a) ∧
  (∀ k0_t4 : Fin (k0_t4_loop v0).trips, ∀ (k0_h7 : k0_cond7 v0 k0_t4 = 1#1), ∀ a, (k0_off410 v0 k0_t4) a + S1.size a ≤ S24.size a) ∧
  (∀ k0_t4 : Fin (k0_t4_loop v0).trips, ∀ (k0_h7 : k0_cond7 v0 k0_t4 = 1#1), ∀ a, (k0_off411 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off411 v0 k0_t4) a + S1x1x2x128x128.size a ≤ S24x16x2x128x128.size a), (Rect.unit (s := S24x16x2x128x128) (k0_off411 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off413 v0 k0_t4) a + S1x1.size a ≤ S1x1024.size a) ∧
  (∀ k0_t4 : Fin (k0_t4_loop v0).trips, ∀ (k0_h7 : k0_cond7 v0 k0_t4 = 1#1), ∀ a, (k0_off414 v0 k0_t4) a + S1.size a ≤ S24.size a) ∧
  (∀ k0_t4 : Fin (k0_t4_loop v0).trips, ∀ (k0_h7 : k0_cond7 v0 k0_t4 = 1#1), ∀ a, (k0_off415 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off415 v0 k0_t4) a + S1x1x2x128x128.size a ≤ S24x16x2x128x128.size a), (Rect.unit (s := S24x16x2x128x128) (k0_off415 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off417 v0 k0_t4) a + S1x1.size a ≤ S1x1024.size a) ∧
  (∀ k0_t4 : Fin (k0_t4_loop v0).trips, ∀ (k0_h7 : k0_cond7 v0 k0_t4 = 1#1), ∀ a, (k0_off418 v0 k0_t4) a + S1.size a ≤ S24.size a) ∧
  (∀ k0_t4 : Fin (k0_t4_loop v0).trips, ∀ (k0_h7 : k0_cond7 v0 k0_t4 = 1#1), ∀ a, (k0_off419 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off419 v0 k0_t4) a + S1x1x2x128x128.size a ≤ S24x16x2x128x128.size a), (Rect.unit (s := S24x16x2x128x128) (k0_off419 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off421 v0 k0_t4) a + S1x1.size a ≤ S1x1024.size a) ∧
  (∀ k0_t4 : Fin (k0_t4_loop v0).trips, ∀ (k0_h7 : k0_cond7 v0 k0_t4 = 1#1), ∀ a, (k0_off422 v0 k0_t4) a + S1.size a ≤ S24.size a) ∧
  (∀ k0_t4 : Fin (k0_t4_loop v0).trips, ∀ (k0_h7 : k0_cond7 v0 k0_t4 = 1#1), ∀ a, (k0_off423 v0 k0_t4) a + S1x1x2x128x128.size a ≤ S24x16x2x128x128.size a)
def k0_chk17_10 (v0 : BitVec 32) : Prop :=
  (∀ k0_t4 : Fin (k0_t4_loop v0).trips, ∀ (k0_h7 : k0_cond7 v0 k0_t4 = 1#1), ∀ (hinb : ∀ a, (k0_off423 v0 k0_t4) a + S1x1x2x128x128.size a ≤ S24x16x2x128x128.size a), (Rect.unit (s := S24x16x2x128x128) (k0_off423 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off425 v0 k0_t4) a + S1x1.size a ≤ S1x1024.size a) ∧
  (∀ k0_t4 : Fin (k0_t4_loop v0).trips, ∀ (k0_h7 : k0_cond7 v0 k0_t4 = 1#1), ∀ a, (k0_off426 v0 k0_t4) a + S1.size a ≤ S24.size a) ∧
  (∀ k0_t4 : Fin (k0_t4_loop v0).trips, ∀ (k0_h7 : k0_cond7 v0 k0_t4 = 1#1), ∀ a, (k0_off427 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off427 v0 k0_t4) a + S1x1x2x128x128.size a ≤ S24x16x2x128x128.size a), (Rect.unit (s := S24x16x2x128x128) (k0_off427 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off429 v0 k0_t4) a + S1x1.size a ≤ S1x1024.size a) ∧
  (∀ k0_t4 : Fin (k0_t4_loop v0).trips, ∀ (k0_h7 : k0_cond7 v0 k0_t4 = 1#1), ∀ a, (k0_off430 v0 k0_t4) a + S1.size a ≤ S24.size a) ∧
  (∀ k0_t4 : Fin (k0_t4_loop v0).trips, ∀ (k0_h7 : k0_cond7 v0 k0_t4 = 1#1), ∀ a, (k0_off431 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off431 v0 k0_t4) a + S1x1x2x128x128.size a ≤ S24x16x2x128x128.size a), (Rect.unit (s := S24x16x2x128x128) (k0_off431 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off433 v0 k0_t4) a + S1x1.size a ≤ S1x1024.size a) ∧
  (∀ k0_t4 : Fin (k0_t4_loop v0).trips, ∀ (k0_h7 : k0_cond7 v0 k0_t4 = 1#1), ∀ a, (k0_off434 v0 k0_t4) a + S1.size a ≤ S24.size a) ∧
  (∀ k0_t4 : Fin (k0_t4_loop v0).trips, ∀ (k0_h7 : k0_cond7 v0 k0_t4 = 1#1), ∀ a, (k0_off435 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off435 v0 k0_t4) a + S1x1x2x128x128.size a ≤ S24x16x2x128x128.size a), (Rect.unit (s := S24x16x2x128x128) (k0_off435 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off437 v0 k0_t4) a + S1x1.size a ≤ S1x1024.size a) ∧
  (∀ k0_t4 : Fin (k0_t4_loop v0).trips, ∀ (k0_h7 : k0_cond7 v0 k0_t4 = 1#1), ∀ a, (k0_off438 v0 k0_t4) a + S1.size a ≤ S24.size a) ∧
  (∀ k0_t4 : Fin (k0_t4_loop v0).trips, ∀ (k0_h7 : k0_cond7 v0 k0_t4 = 1#1), ∀ a, (k0_off439 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off439 v0 k0_t4) a + S1x1x2x128x128.size a ≤ S24x16x2x128x128.size a), (Rect.unit (s := S24x16x2x128x128) (k0_off439 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off441 v0 k0_t4) a + S1x1.size a ≤ S1x1024.size a) ∧
  (∀ k0_t4 : Fin (k0_t4_loop v0).trips, ∀ (k0_h7 : k0_cond7 v0 k0_t4 = 1#1), ∀ a, (k0_off442 v0 k0_t4) a + S1.size a ≤ S24.size a) ∧
  (∀ k0_t4 : Fin (k0_t4_loop v0).trips, ∀ (k0_h7 : k0_cond7 v0 k0_t4 = 1#1), ∀ a, (k0_off443 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off443 v0 k0_t4) a + S1x1x2x128x128.size a ≤ S24x16x2x128x128.size a), (Rect.unit (s := S24x16x2x128x128) (k0_off443 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off445 v0 k0_t4) a + S1x1.size a ≤ S1x1024.size a) ∧
  (∀ k0_t4 : Fin (k0_t4_loop v0).trips, ∀ (k0_h7 : k0_cond7 v0 k0_t4 = 1#1), ∀ a, (k0_off446 v0 k0_t4) a + S1.size a ≤ S24.size a) ∧
  (∀ k0_t4 : Fin (k0_t4_loop v0).trips, ∀ (k0_h7 : k0_cond7 v0 k0_t4 = 1#1), ∀ a, (k0_off447 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off447 v0 k0_t4) a + S1x1x2x128x128.size a ≤ S24x16x2x128x128.size a), (Rect.unit (s := S24x16x2x128x128) (k0_off447 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off449 v0 k0_t4) a + S1x1.size a ≤ S1x1024.size a) ∧
  (∀ k0_t4 : Fin (k0_t4_loop v0).trips, ∀ (k0_h7 : k0_cond7 v0 k0_t4 = 1#1), ∀ a, (k0_off450 v0 k0_t4) a + S1.size a ≤ S24.size a) ∧
  (∀ k0_t4 : Fin (k0_t4_loop v0).trips, ∀ (k0_h7 : k0_cond7 v0 k0_t4 = 1#1), ∀ a, (k0_off451 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off451 v0 k0_t4) a + S1x1x2x128x128.size a ≤ S24x16x2x128x128.size a), (Rect.unit (s := S24x16x2x128x128) (k0_off451 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off453 v0 k0_t4) a + S1x1.size a ≤ S1x1024.size a) ∧
  (∀ k0_t4 : Fin (k0_t4_loop v0).trips, ∀ (k0_h7 : k0_cond7 v0 k0_t4 = 1#1), ∀ a, (k0_off454 v0 k0_t4) a + S1.size a ≤ S24.size a) ∧
  (∀ k0_t4 : Fin (k0_t4_loop v0).trips, ∀ (k0_h7 : k0_cond7 v0 k0_t4 = 1#1), ∀ a, (k0_off455 v0 k0_t4) a + S1x1x2x128x128.size a ≤ S24x16x2x128x128.size a)
def k0_chk17_11 (v0 : BitVec 32) : Prop :=
  (∀ k0_t4 : Fin (k0_t4_loop v0).trips, ∀ (k0_h7 : k0_cond7 v0 k0_t4 = 1#1), ∀ (hinb : ∀ a, (k0_off455 v0 k0_t4) a + S1x1x2x128x128.size a ≤ S24x16x2x128x128.size a), (Rect.unit (s := S24x16x2x128x128) (k0_off455 v0 k0_t4) S1x1x2x128x128.size hinb).WholeWords (EltTy.packing .fp8e4m3)) ∧
  (∀ k0_t4 : Fin (k0_t4_loop v0).trips, ∀ (k0_h7 : k0_cond7 v0 k0_t4 = 1#1), ∀ a, (k0_off457 v0 k0_t4) a + S1x1.size a ≤ S1x1024.size a) ∧
  (∀ k0_t4 : Fin (k0_t4_loop v0).trips, ∀ (k0_h7 : k0_cond7 v0 k0_t4 = 1#1), ∀ a, (k0_off458 v0 k0_t4) a + S1.size a ≤ S24.size a) ∧
  (∀ k0_t4 : Fin (k0_t4_loop v0).trips, ∀ (k0_h7 : k0_cond7 v0 k0_t4 = 1#1), ∀ a, (k0_off459 v0 k0_t4) a + S1x1x2x128x128.size a ≤ S24x16x2x128x128.size a) ∧
  (∀ k0_t4 : Fin (k0_t4_loop v0).trips, ∀ (k0_h7 : k0_cond7 v0 k0_t4 = 1#1), ∀ (hinb : ∀ a, (k0_off459 v0 k0_t4) a + S1x1x2x128x128.size a ≤ S24x16x2x128x128.size a), (Rect.unit (s := S24x16x2x128x128) (k0_off459 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off461 v0 k0_t4) a + S1x1.size a ≤ S1x1024.size a) ∧
  (∀ k0_t4 : Fin (k0_t4_loop v0).trips, ∀ (k0_h8 : k0_cond8 v0 k0_t4 = 1#1), ∀ a, (k0_off462 v0 k0_t4) a + S1.size a ≤ S24.size a) ∧
  (∀ k0_t4 : Fin (k0_t4_loop v0).trips, ∀ (k0_h8 : k0_cond8 v0 k0_t4 = 1#1), ∀ a, (k0_off463 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off463 v0 k0_t4) a + S1x1x2x128x128.size a ≤ S24x16x2x128x128.size a), (Rect.unit (s := S24x16x2x128x128) (k0_off463 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off465 v0 k0_t4) a + S1x1.size a ≤ S1x1024.size a) ∧
  (∀ k0_t4 : Fin (k0_t4_loop v0).trips, ∀ (k0_h8 : k0_cond8 v0 k0_t4 = 1#1), ∀ a, (k0_off466 v0 k0_t4) a + S1.size a ≤ S24.size a) ∧
  (∀ k0_t4 : Fin (k0_t4_loop v0).trips, ∀ (k0_h8 : k0_cond8 v0 k0_t4 = 1#1), ∀ a, (k0_off467 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off467 v0 k0_t4) a + S1x1x2x128x128.size a ≤ S24x16x2x128x128.size a), (Rect.unit (s := S24x16x2x128x128) (k0_off467 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off469 v0 k0_t4) a + S1x1.size a ≤ S1x1024.size a) ∧
  (∀ k0_t4 : Fin (k0_t4_loop v0).trips, ∀ (k0_h8 : k0_cond8 v0 k0_t4 = 1#1), ∀ a, (k0_off470 v0 k0_t4) a + S1.size a ≤ S24.size a) ∧
  (∀ k0_t4 : Fin (k0_t4_loop v0).trips, ∀ (k0_h8 : k0_cond8 v0 k0_t4 = 1#1), ∀ a, (k0_off471 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off471 v0 k0_t4) a + S1x1x2x128x128.size a ≤ S24x16x2x128x128.size a), (Rect.unit (s := S24x16x2x128x128) (k0_off471 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off473 v0 k0_t4) a + S1x1.size a ≤ S1x1024.size a) ∧
  (∀ k0_t4 : Fin (k0_t4_loop v0).trips, ∀ (k0_h8 : k0_cond8 v0 k0_t4 = 1#1), ∀ a, (k0_off474 v0 k0_t4) a + S1.size a ≤ S24.size a) ∧
  (∀ k0_t4 : Fin (k0_t4_loop v0).trips, ∀ (k0_h8 : k0_cond8 v0 k0_t4 = 1#1), ∀ a, (k0_off475 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off475 v0 k0_t4) a + S1x1x2x128x128.size a ≤ S24x16x2x128x128.size a), (Rect.unit (s := S24x16x2x128x128) (k0_off475 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off477 v0 k0_t4) a + S1x1.size a ≤ S1x1024.size a) ∧
  (∀ k0_t4 : Fin (k0_t4_loop v0).trips, ∀ (k0_h8 : k0_cond8 v0 k0_t4 = 1#1), ∀ a, (k0_off478 v0 k0_t4) a + S1.size a ≤ S24.size a) ∧
  (∀ k0_t4 : Fin (k0_t4_loop v0).trips, ∀ (k0_h8 : k0_cond8 v0 k0_t4 = 1#1), ∀ a, (k0_off479 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off479 v0 k0_t4) a + S1x1x2x128x128.size a ≤ S24x16x2x128x128.size a), (Rect.unit (s := S24x16x2x128x128) (k0_off479 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off481 v0 k0_t4) a + S1x1.size a ≤ S1x1024.size a) ∧
  (∀ k0_t4 : Fin (k0_t4_loop v0).trips, ∀ (k0_h8 : k0_cond8 v0 k0_t4 = 1#1), ∀ a, (k0_off482 v0 k0_t4) a + S1.size a ≤ S24.size a) ∧
  (∀ k0_t4 : Fin (k0_t4_loop v0).trips, ∀ (k0_h8 : k0_cond8 v0 k0_t4 = 1#1), ∀ a, (k0_off483 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off483 v0 k0_t4) a + S1x1x2x128x128.size a ≤ S24x16x2x128x128.size a), (Rect.unit (s := S24x16x2x128x128) (k0_off483 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off485 v0 k0_t4) a + S1x1.size a ≤ S1x1024.size a) ∧
  (∀ k0_t4 : Fin (k0_t4_loop v0).trips, ∀ (k0_h8 : k0_cond8 v0 k0_t4 = 1#1), ∀ a, (k0_off486 v0 k0_t4) a + S1.size a ≤ S24.size a) ∧
  (∀ k0_t4 : Fin (k0_t4_loop v0).trips, ∀ (k0_h8 : k0_cond8 v0 k0_t4 = 1#1), ∀ a, (k0_off487 v0 k0_t4) a + S1x1x2x128x128.size a ≤ S24x16x2x128x128.size a)
def k0_chk17_12 (v0 : BitVec 32) : Prop :=
  (∀ k0_t4 : Fin (k0_t4_loop v0).trips, ∀ (k0_h8 : k0_cond8 v0 k0_t4 = 1#1), ∀ (hinb : ∀ a, (k0_off487 v0 k0_t4) a + S1x1x2x128x128.size a ≤ S24x16x2x128x128.size a), (Rect.unit (s := S24x16x2x128x128) (k0_off487 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off489 v0 k0_t4) a + S1x1.size a ≤ S1x1024.size a) ∧
  (∀ k0_t4 : Fin (k0_t4_loop v0).trips, ∀ (k0_h8 : k0_cond8 v0 k0_t4 = 1#1), ∀ a, (k0_off490 v0 k0_t4) a + S1.size a ≤ S24.size a) ∧
  (∀ k0_t4 : Fin (k0_t4_loop v0).trips, ∀ (k0_h8 : k0_cond8 v0 k0_t4 = 1#1), ∀ a, (k0_off491 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off491 v0 k0_t4) a + S1x1x2x128x128.size a ≤ S24x16x2x128x128.size a), (Rect.unit (s := S24x16x2x128x128) (k0_off491 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off493 v0 k0_t4) a + S1x1.size a ≤ S1x1024.size a) ∧
  (∀ k0_t4 : Fin (k0_t4_loop v0).trips, ∀ (k0_h8 : k0_cond8 v0 k0_t4 = 1#1), ∀ a, (k0_off494 v0 k0_t4) a + S1.size a ≤ S24.size a) ∧
  (∀ k0_t4 : Fin (k0_t4_loop v0).trips, ∀ (k0_h8 : k0_cond8 v0 k0_t4 = 1#1), ∀ a, (k0_off495 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off495 v0 k0_t4) a + S1x1x2x128x128.size a ≤ S24x16x2x128x128.size a), (Rect.unit (s := S24x16x2x128x128) (k0_off495 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off497 v0 k0_t4) a + S1x1.size a ≤ S1x1024.size a) ∧
  (∀ k0_t4 : Fin (k0_t4_loop v0).trips, ∀ (k0_h8 : k0_cond8 v0 k0_t4 = 1#1), ∀ a, (k0_off498 v0 k0_t4) a + S1.size a ≤ S24.size a) ∧
  (∀ k0_t4 : Fin (k0_t4_loop v0).trips, ∀ (k0_h8 : k0_cond8 v0 k0_t4 = 1#1), ∀ a, (k0_off499 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off499 v0 k0_t4) a + S1x1x2x128x128.size a ≤ S24x16x2x128x128.size a), (Rect.unit (s := S24x16x2x128x128) (k0_off499 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off501 v0 k0_t4) a + S1x1.size a ≤ S1x1024.size a) ∧
  (∀ k0_t4 : Fin (k0_t4_loop v0).trips, ∀ (k0_h8 : k0_cond8 v0 k0_t4 = 1#1), ∀ a, (k0_off502 v0 k0_t4) a + S1.size a ≤ S24.size a) ∧
  (∀ k0_t4 : Fin (k0_t4_loop v0).trips, ∀ (k0_h8 : k0_cond8 v0 k0_t4 = 1#1), ∀ a, (k0_off503 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off503 v0 k0_t4) a + S1x1x2x128x128.size a ≤ S24x16x2x128x128.size a), (Rect.unit (s := S24x16x2x128x128) (k0_off503 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off505 v0 k0_t4) a + S1x1.size a ≤ S1x1024.size a) ∧
  (∀ k0_t4 : Fin (k0_t4_loop v0).trips, ∀ (k0_h8 : k0_cond8 v0 k0_t4 = 1#1), ∀ a, (k0_off506 v0 k0_t4) a + S1.size a ≤ S24.size a) ∧
  (∀ k0_t4 : Fin (k0_t4_loop v0).trips, ∀ (k0_h8 : k0_cond8 v0 k0_t4 = 1#1), ∀ a, (k0_off507 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off507 v0 k0_t4) a + S1x1x2x128x128.size a ≤ S24x16x2x128x128.size a), (Rect.unit (s := S24x16x2x128x128) (k0_off507 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off509 v0 k0_t4) a + S1x1.size a ≤ S1x1024.size a) ∧
  (∀ k0_t4 : Fin (k0_t4_loop v0).trips, ∀ (k0_h8 : k0_cond8 v0 k0_t4 = 1#1), ∀ a, (k0_off510 v0 k0_t4) a + S1.size a ≤ S24.size a) ∧
  (∀ k0_t4 : Fin (k0_t4_loop v0).trips, ∀ (k0_h8 : k0_cond8 v0 k0_t4 = 1#1), ∀ a, (k0_off511 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off511 v0 k0_t4) a + S1x1x2x128x128.size a ≤ S24x16x2x128x128.size a), (Rect.unit (s := S24x16x2x128x128) (k0_off511 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off513 v0 k0_t4) a + S1x1.size a ≤ S1x1024.size a) ∧
  (∀ k0_t4 : Fin (k0_t4_loop v0).trips, ∀ (k0_h8 : k0_cond8 v0 k0_t4 = 1#1), ∀ a, (k0_off514 v0 k0_t4) a + S1.size a ≤ S24.size a) ∧
  (∀ k0_t4 : Fin (k0_t4_loop v0).trips, ∀ (k0_h8 : k0_cond8 v0 k0_t4 = 1#1), ∀ a, (k0_off515 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off515 v0 k0_t4) a + S1x1x2x128x128.size a ≤ S24x16x2x128x128.size a), (Rect.unit (s := S24x16x2x128x128) (k0_off515 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off517 v0 k0_t4) a + S1x1.size a ≤ S1x1024.size a) ∧
  (∀ k0_t4 : Fin (k0_t4_loop v0).trips, ∀ (k0_h8 : k0_cond8 v0 k0_t4 = 1#1), ∀ a, (k0_off518 v0 k0_t4) a + S1.size a ≤ S24.size a) ∧
  (∀ k0_t4 : Fin (k0_t4_loop v0).trips, ∀ (k0_h8 : k0_cond8 v0 k0_t4 = 1#1), ∀ a, (k0_off519 v0 k0_t4) a + S1x1x2x128x128.size a ≤ S24x16x2x128x128.size a)
def k0_chk17_13 (v0 : BitVec 32) : Prop :=
  (∀ k0_t4 : Fin (k0_t4_loop v0).trips, ∀ (k0_h8 : k0_cond8 v0 k0_t4 = 1#1), ∀ (hinb : ∀ a, (k0_off519 v0 k0_t4) a + S1x1x2x128x128.size a ≤ S24x16x2x128x128.size a), (Rect.unit (s := S24x16x2x128x128) (k0_off519 v0 k0_t4) S1x1x2x128x128.size hinb).WholeWords (EltTy.packing .fp8e4m3)) ∧
  (∀ k0_t4 : Fin (k0_t4_loop v0).trips, ∀ (k0_h8 : k0_cond8 v0 k0_t4 = 1#1), ∀ a, (k0_off521 v0 k0_t4) a + S1x1.size a ≤ S1x1024.size a) ∧
  (∀ k0_t4 : Fin (k0_t4_loop v0).trips, ∀ (k0_h8 : k0_cond8 v0 k0_t4 = 1#1), ∀ a, (k0_off522 v0 k0_t4) a + S1.size a ≤ S24.size a) ∧
  (∀ k0_t4 : Fin (k0_t4_loop v0).trips, ∀ (k0_h8 : k0_cond8 v0 k0_t4 = 1#1), ∀ a, (k0_off523 v0 k0_t4) a + S1x1x2x128x128.size a ≤ S24x16x2x128x128.size a) ∧
  (∀ k0_t4 : Fin (k0_t4_loop v0).trips, ∀ (k0_h8 : k0_cond8 v0 k0_t4 = 1#1), ∀ (hinb : ∀ a, (k0_off523 v0 k0_t4) a + S1x1x2x128x128.size a ≤ S24x16x2x128x128.size a), (Rect.unit (s := S24x16x2x128x128) (k0_off523 v0 k0_t4) S1x1x2x128x128.size hinb).WholeWords (EltTy.packing .fp8e4m3)) ∧
  ((k0_t5_loop v0).OK) ∧
  (∀ k0_t5 : Fin (k0_t5_loop v0).trips, ∀ a, (k0_off525 v0 k0_t5) a + S1.size a ≤ S24.size a) ∧
  (∀ k0_t5 : Fin (k0_t5_loop v0).trips, ∀ a, (k0_off526 v0 k0_t5) a + S1x16x2x128x128.size a ≤ S24x16x2x128x128.size a) ∧
  (∀ k0_t5 : Fin (k0_t5_loop v0).trips, ∀ (hinb : ∀ a, (k0_off526 v0 k0_t5) a + S1x16x2x128x128.size a ≤ S24x16x2x128x128.size a), (Rect.unit (s := S24x16x2x128x128) (k0_off526 v0 k0_t5) S1x16x2x128x128.size hinb).WholeWords (EltTy.packing .fp8e4m3)) ∧
  (∀ k0_t5 : Fin (k0_t5_loop v0).trips, 2048 ∣ (k0_mult4 v0 k0_t5).toNat) ∧
  (∀ k0_t5 : Fin (k0_t5_loop v0).trips, ∀ a, (k0_off527 v0 k0_t5) a + S16x2048.size a ≤ S16x131072.size a) ∧
  (∀ k0_t5 : Fin (k0_t5_loop v0).trips, ∀ a, (k0_off528 v0 k0_t5) a + S1x16x2x128x128.size a ≤ S24x16x2x128x128.size a) ∧
  (∀ k0_t5 : Fin (k0_t5_loop v0).trips, ∀ (k0_h9 : k0_cond9 v0 k0_t5 = 1#1), ∀ a, (k0_off529 v0 k0_t5) a + S1x1.size a ≤ S1x1024.size a) ∧
  (∀ k0_t5 : Fin (k0_t5_loop v0).trips, ∀ (k0_h9 : k0_cond9 v0 k0_t5 = 1#1), ∀ a, (k0_off530 v0 k0_t5) a + S1.size a ≤ S24.size a) ∧
  (∀ k0_t5 : Fin (k0_t5_loop v0).trips, ∀ (k0_h9 : k0_cond9 v0 k0_t5 = 1#1), ∀ a, (k0_off531 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off531 v0 k0_t5) a + S1x1x2x128x128.size a ≤ S24x16x2x128x128.size a), (Rect.unit (s := S24x16x2x128x128) (k0_off531 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off533 v0 k0_t5) a + S1x1.size a ≤ S1x1024.size a) ∧
  (∀ k0_t5 : Fin (k0_t5_loop v0).trips, ∀ (k0_h9 : k0_cond9 v0 k0_t5 = 1#1), ∀ a, (k0_off534 v0 k0_t5) a + S1.size a ≤ S24.size a) ∧
  (∀ k0_t5 : Fin (k0_t5_loop v0).trips, ∀ (k0_h9 : k0_cond9 v0 k0_t5 = 1#1), ∀ a, (k0_off535 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off535 v0 k0_t5) a + S1x1x2x128x128.size a ≤ S24x16x2x128x128.size a), (Rect.unit (s := S24x16x2x128x128) (k0_off535 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off537 v0 k0_t5) a + S1x1.size a ≤ S1x1024.size a) ∧
  (∀ k0_t5 : Fin (k0_t5_loop v0).trips, ∀ (k0_h9 : k0_cond9 v0 k0_t5 = 1#1), ∀ a, (k0_off538 v0 k0_t5) a + S1.size a ≤ S24.size a) ∧
  (∀ k0_t5 : Fin (k0_t5_loop v0).trips, ∀ (k0_h9 : k0_cond9 v0 k0_t5 = 1#1), ∀ a, (k0_off539 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off539 v0 k0_t5) a + S1x1x2x128x128.size a ≤ S24x16x2x128x128.size a), (Rect.unit (s := S24x16x2x128x128) (k0_off539 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off541 v0 k0_t5) a + S1x1.size a ≤ S1x1024.size a) ∧
  (∀ k0_t5 : Fin (k0_t5_loop v0).trips, ∀ (k0_h9 : k0_cond9 v0 k0_t5 = 1#1), ∀ a, (k0_off542 v0 k0_t5) a + S1.size a ≤ S24.size a) ∧
  (∀ k0_t5 : Fin (k0_t5_loop v0).trips, ∀ (k0_h9 : k0_cond9 v0 k0_t5 = 1#1), ∀ a, (k0_off543 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off543 v0 k0_t5) a + S1x1x2x128x128.size a ≤ S24x16x2x128x128.size a), (Rect.unit (s := S24x16x2x128x128) (k0_off543 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off545 v0 k0_t5) a + S1x1.size a ≤ S1x1024.size a) ∧
  (∀ k0_t5 : Fin (k0_t5_loop v0).trips, ∀ (k0_h9 : k0_cond9 v0 k0_t5 = 1#1), ∀ a, (k0_off546 v0 k0_t5) a + S1.size a ≤ S24.size a) ∧
  (∀ k0_t5 : Fin (k0_t5_loop v0).trips, ∀ (k0_h9 : k0_cond9 v0 k0_t5 = 1#1), ∀ a, (k0_off547 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off547 v0 k0_t5) a + S1x1x2x128x128.size a ≤ S24x16x2x128x128.size a), (Rect.unit (s := S24x16x2x128x128) (k0_off547 v0 k0_t5) S1x1x2x128x128.size hinb).WholeWords (EltTy.packing .fp8e4m3))
def k0_chk17_14 (v0 : BitVec 32) : Prop :=
  (∀ k0_t5 : Fin (k0_t5_loop v0).trips, ∀ (k0_h9 : k0_cond9 v0 k0_t5 = 1#1), ∀ a, (k0_off549 v0 k0_t5) a + S1x1.size a ≤ S1x1024.size a) ∧
  (∀ k0_t5 : Fin (k0_t5_loop v0).trips, ∀ (k0_h9 : k0_cond9 v0 k0_t5 = 1#1), ∀ a, (k0_off550 v0 k0_t5) a + S1.size a ≤ S24.size a) ∧
  (∀ k0_t5 : Fin (k0_t5_loop v0).trips, ∀ (k0_h9 : k0_cond9 v0 k0_t5 = 1#1), ∀ a, (k0_off551 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off551 v0 k0_t5) a + S1x1x2x128x128.size a ≤ S24x16x2x128x128.size a), (Rect.unit (s := S24x16x2x128x128) (k0_off551 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off553 v0 k0_t5) a + S1x1.size a ≤ S1x1024.size a) ∧
  (∀ k0_t5 : Fin (k0_t5_loop v0).trips, ∀ (k0_h9 : k0_cond9 v0 k0_t5 = 1#1), ∀ a, (k0_off554 v0 k0_t5) a + S1.size a ≤ S24.size a) ∧
  (∀ k0_t5 : Fin (k0_t5_loop v0).trips, ∀ (k0_h9 : k0_cond9 v0 k0_t5 = 1#1), ∀ a, (k0_off555 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off555 v0 k0_t5) a + S1x1x2x128x128.size a ≤ S24x16x2x128x128.size a), (Rect.unit (s := S24x16x2x128x128) (k0_off555 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off557 v0 k0_t5) a + S1x1.size a ≤ S1x1024.size a) ∧
  (∀ k0_t5 : Fin (k0_t5_loop v0).trips, ∀ (k0_h9 : k0_cond9 v0 k0_t5 = 1#1), ∀ a, (k0_off558 v0 k0_t5) a + S1.size a ≤ S24.size a) ∧
  (∀ k0_t5 : Fin (k0_t5_loop v0).trips, ∀ (k0_h9 : k0_cond9 v0 k0_t5 = 1#1), ∀ a, (k0_off559 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off559 v0 k0_t5) a + S1x1x2x128x128.size a ≤ S24x16x2x128x128.size a), (Rect.unit (s := S24x16x2x128x128) (k0_off559 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off561 v0 k0_t5) a + S1x1.size a ≤ S1x1024.size a) ∧
  (∀ k0_t5 : Fin (k0_t5_loop v0).trips, ∀ (k0_h9 : k0_cond9 v0 k0_t5 = 1#1), ∀ a, (k0_off562 v0 k0_t5) a + S1.size a ≤ S24.size a) ∧
  (∀ k0_t5 : Fin (k0_t5_loop v0).trips, ∀ (k0_h9 : k0_cond9 v0 k0_t5 = 1#1), ∀ a, (k0_off563 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off563 v0 k0_t5) a + S1x1x2x128x128.size a ≤ S24x16x2x128x128.size a), (Rect.unit (s := S24x16x2x128x128) (k0_off563 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off565 v0 k0_t5) a + S1x1.size a ≤ S1x1024.size a) ∧
  (∀ k0_t5 : Fin (k0_t5_loop v0).trips, ∀ (k0_h9 : k0_cond9 v0 k0_t5 = 1#1), ∀ a, (k0_off566 v0 k0_t5) a + S1.size a ≤ S24.size a) ∧
  (∀ k0_t5 : Fin (k0_t5_loop v0).trips, ∀ (k0_h9 : k0_cond9 v0 k0_t5 = 1#1), ∀ a, (k0_off567 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off567 v0 k0_t5) a + S1x1x2x128x128.size a ≤ S24x16x2x128x128.size a), (Rect.unit (s := S24x16x2x128x128) (k0_off567 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off569 v0 k0_t5) a + S1x1.size a ≤ S1x1024.size a) ∧
  (∀ k0_t5 : Fin (k0_t5_loop v0).trips, ∀ (k0_h9 : k0_cond9 v0 k0_t5 = 1#1), ∀ a, (k0_off570 v0 k0_t5) a + S1.size a ≤ S24.size a) ∧
  (∀ k0_t5 : Fin (k0_t5_loop v0).trips, ∀ (k0_h9 : k0_cond9 v0 k0_t5 = 1#1), ∀ a, (k0_off571 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off571 v0 k0_t5) a + S1x1x2x128x128.size a ≤ S24x16x2x128x128.size a), (Rect.unit (s := S24x16x2x128x128) (k0_off571 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off573 v0 k0_t5) a + S1x1.size a ≤ S1x1024.size a) ∧
  (∀ k0_t5 : Fin (k0_t5_loop v0).trips, ∀ (k0_h9 : k0_cond9 v0 k0_t5 = 1#1), ∀ a, (k0_off574 v0 k0_t5) a + S1.size a ≤ S24.size a) ∧
  (∀ k0_t5 : Fin (k0_t5_loop v0).trips, ∀ (k0_h9 : k0_cond9 v0 k0_t5 = 1#1), ∀ a, (k0_off575 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off575 v0 k0_t5) a + S1x1x2x128x128.size a ≤ S24x16x2x128x128.size a), (Rect.unit (s := S24x16x2x128x128) (k0_off575 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off577 v0 k0_t5) a + S1x1.size a ≤ S1x1024.size a) ∧
  (∀ k0_t5 : Fin (k0_t5_loop v0).trips, ∀ (k0_h9 : k0_cond9 v0 k0_t5 = 1#1), ∀ a, (k0_off578 v0 k0_t5) a + S1.size a ≤ S24.size a) ∧
  (∀ k0_t5 : Fin (k0_t5_loop v0).trips, ∀ (k0_h9 : k0_cond9 v0 k0_t5 = 1#1), ∀ a, (k0_off579 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off579 v0 k0_t5) a + S1x1x2x128x128.size a ≤ S24x16x2x128x128.size a), (Rect.unit (s := S24x16x2x128x128) (k0_off579 v0 k0_t5) S1x1x2x128x128.size hinb).WholeWords (EltTy.packing .fp8e4m3))
def k0_chk17_15 (v0 : BitVec 32) : Prop :=
  (∀ k0_t5 : Fin (k0_t5_loop v0).trips, ∀ (k0_h9 : k0_cond9 v0 k0_t5 = 1#1), ∀ a, (k0_off581 v0 k0_t5) a + S1x1.size a ≤ S1x1024.size a) ∧
  (∀ k0_t5 : Fin (k0_t5_loop v0).trips, ∀ (k0_h9 : k0_cond9 v0 k0_t5 = 1#1), ∀ a, (k0_off582 v0 k0_t5) a + S1.size a ≤ S24.size a) ∧
  (∀ k0_t5 : Fin (k0_t5_loop v0).trips, ∀ (k0_h9 : k0_cond9 v0 k0_t5 = 1#1), ∀ a, (k0_off583 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off583 v0 k0_t5) a + S1x1x2x128x128.size a ≤ S24x16x2x128x128.size a), (Rect.unit (s := S24x16x2x128x128) (k0_off583 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off585 v0 k0_t5) a + S1x1.size a ≤ S1x1024.size a) ∧
  (∀ k0_t5 : Fin (k0_t5_loop v0).trips, ∀ (k0_h9 : k0_cond9 v0 k0_t5 = 1#1), ∀ a, (k0_off586 v0 k0_t5) a + S1.size a ≤ S24.size a) ∧
  (∀ k0_t5 : Fin (k0_t5_loop v0).trips, ∀ (k0_h9 : k0_cond9 v0 k0_t5 = 1#1), ∀ a, (k0_off587 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off587 v0 k0_t5) a + S1x1x2x128x128.size a ≤ S24x16x2x128x128.size a), (Rect.unit (s := S24x16x2x128x128) (k0_off587 v0 k0_t5) S1x1x2x128x128.size hinb).WholeWords (EltTy.packing .fp8e4m3)) ∧
  (∀ k0_t5 : Fin (k0_t5_loop v0).trips, ∀ (k0_h9 : k0_cond9 v0 k0_t5 = 1#1), ∀ a, (k0_off589 v0 k0_t5) a + S1x1.size a ≤ S1x1024.size a) ∧
  (∀ k0_t5 : Fin (k0_t5_loop v0).trips, ∀ (k0_h9 : k0_cond9 v0 k0_t5 = 1#1), ∀ a, (k0_off590 v0 k0_t5) a + S1.size a ≤ S24.size a) ∧
  (∀ k0_t5 : Fin (k0_t5_loop v0).trips, ∀ (k0_h9 : k0_cond9 v0 k0_t5 = 1#1), ∀ a, (k0_off591 v0 k0_t5) a + S1x1x2x128x128.size a ≤ S24x16x2x128x128.size a) ∧
  (∀ k0_t5 : Fin (k0_t5_loop v0).trips, ∀ (k0_h9 : k0_cond9 v0 k0_t5 = 1#1), ∀ (hinb : ∀ a, (k0_off591 v0 k0_t5) a + S1x1x2x128x128.size a ≤ S24x16x2x128x128.size a), (Rect.unit (s := S24x16x2x128x128) (k0_off591 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off593 v0 k0_t5) a + S1x1.size a ≤ S1x1024.size a) ∧
  (∀ k0_t5 : Fin (k0_t5_loop v0).trips, ∀ (k0_h10 : k0_cond10 v0 k0_t5 = 1#1), ∀ a, (k0_off594 v0 k0_t5) a + S1.size a ≤ S24.size a) ∧
  (∀ k0_t5 : Fin (k0_t5_loop v0).trips, ∀ (k0_h10 : k0_cond10 v0 k0_t5 = 1#1), ∀ a, (k0_off595 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off595 v0 k0_t5) a + S1x1x2x128x128.size a ≤ S24x16x2x128x128.size a), (Rect.unit (s := S24x16x2x128x128) (k0_off595 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off597 v0 k0_t5) a + S1x1.size a ≤ S1x1024.size a) ∧
  (∀ k0_t5 : Fin (k0_t5_loop v0).trips, ∀ (k0_h10 : k0_cond10 v0 k0_t5 = 1#1), ∀ a, (k0_off598 v0 k0_t5) a + S1.size a ≤ S24.size a) ∧
  (∀ k0_t5 : Fin (k0_t5_loop v0).trips, ∀ (k0_h10 : k0_cond10 v0 k0_t5 = 1#1), ∀ a, (k0_off599 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off599 v0 k0_t5) a + S1x1x2x128x128.size a ≤ S24x16x2x128x128.size a), (Rect.unit (s := S24x16x2x128x128) (k0_off599 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off601 v0 k0_t5) a + S1x1.size a ≤ S1x1024.size a) ∧
  (∀ k0_t5 : Fin (k0_t5_loop v0).trips, ∀ (k0_h10 : k0_cond10 v0 k0_t5 = 1#1), ∀ a, (k0_off602 v0 k0_t5) a + S1.size a ≤ S24.size a) ∧
  (∀ k0_t5 : Fin (k0_t5_loop v0).trips, ∀ (k0_h10 : k0_cond10 v0 k0_t5 = 1#1), ∀ a, (k0_off603 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off603 v0 k0_t5) a + S1x1x2x128x128.size a ≤ S24x16x2x128x128.size a), (Rect.unit (s := S24x16x2x128x128) (k0_off603 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off605 v0 k0_t5) a + S1x1.size a ≤ S1x1024.size a) ∧
  (∀ k0_t5 : Fin (k0_t5_loop v0).trips, ∀ (k0_h10 : k0_cond10 v0 k0_t5 = 1#1), ∀ a, (k0_off606 v0 k0_t5) a + S1.size a ≤ S24.size a) ∧
  (∀ k0_t5 : Fin (k0_t5_loop v0).trips, ∀ (k0_h10 : k0_cond10 v0 k0_t5 = 1#1), ∀ a, (k0_off607 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off607 v0 k0_t5) a + S1x1x2x128x128.size a ≤ S24x16x2x128x128.size a), (Rect.unit (s := S24x16x2x128x128) (k0_off607 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off609 v0 k0_t5) a + S1x1.size a ≤ S1x1024.size a) ∧
  (∀ k0_t5 : Fin (k0_t5_loop v0).trips, ∀ (k0_h10 : k0_cond10 v0 k0_t5 = 1#1), ∀ a, (k0_off610 v0 k0_t5) a + S1.size a ≤ S24.size a) ∧
  (∀ k0_t5 : Fin (k0_t5_loop v0).trips, ∀ (k0_h10 : k0_cond10 v0 k0_t5 = 1#1), ∀ a, (k0_off611 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off611 v0 k0_t5) a + S1x1x2x128x128.size a ≤ S24x16x2x128x128.size a), (Rect.unit (s := S24x16x2x128x128) (k0_off611 v0 k0_t5) S1x1x2x128x128.size hinb).WholeWords (EltTy.packing .fp8e4m3))
def k0_chk17_16 (v0 : BitVec 32) : Prop :=
  (∀ k0_t5 : Fin (k0_t5_loop v0).trips, ∀ (k0_h10 : k0_cond10 v0 k0_t5 = 1#1), ∀ a, (k0_off613 v0 k0_t5) a + S1x1.size a ≤ S1x1024.size a) ∧
  (∀ k0_t5 : Fin (k0_t5_loop v0).trips, ∀ (k0_h10 : k0_cond10 v0 k0_t5 = 1#1), ∀ a, (k0_off614 v0 k0_t5) a + S1.size a ≤ S24.size a) ∧
  (∀ k0_t5 : Fin (k0_t5_loop v0).trips, ∀ (k0_h10 : k0_cond10 v0 k0_t5 = 1#1), ∀ a, (k0_off615 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off615 v0 k0_t5) a + S1x1x2x128x128.size a ≤ S24x16x2x128x128.size a), (Rect.unit (s := S24x16x2x128x128) (k0_off615 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off617 v0 k0_t5) a + S1x1.size a ≤ S1x1024.size a) ∧
  (∀ k0_t5 : Fin (k0_t5_loop v0).trips, ∀ (k0_h10 : k0_cond10 v0 k0_t5 = 1#1), ∀ a, (k0_off618 v0 k0_t5) a + S1.size a ≤ S24.size a) ∧
  (∀ k0_t5 : Fin (k0_t5_loop v0).trips, ∀ (k0_h10 : k0_cond10 v0 k0_t5 = 1#1), ∀ a, (k0_off619 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off619 v0 k0_t5) a + S1x1x2x128x128.size a ≤ S24x16x2x128x128.size a), (Rect.unit (s := S24x16x2x128x128) (k0_off619 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off621 v0 k0_t5) a + S1x1.size a ≤ S1x1024.size a) ∧
  (∀ k0_t5 : Fin (k0_t5_loop v0).trips, ∀ (k0_h10 : k0_cond10 v0 k0_t5 = 1#1), ∀ a, (k0_off622 v0 k0_t5) a + S1.size a ≤ S24.size a) ∧
  (∀ k0_t5 : Fin (k0_t5_loop v0).trips, ∀ (k0_h10 : k0_cond10 v0 k0_t5 = 1#1), ∀ a, (k0_off623 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off623 v0 k0_t5) a + S1x1x2x128x128.size a ≤ S24x16x2x128x128.size a), (Rect.unit (s := S24x16x2x128x128) (k0_off623 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off625 v0 k0_t5) a + S1x1.size a ≤ S1x1024.size a) ∧
  (∀ k0_t5 : Fin (k0_t5_loop v0).trips, ∀ (k0_h10 : k0_cond10 v0 k0_t5 = 1#1), ∀ a, (k0_off626 v0 k0_t5) a + S1.size a ≤ S24.size a) ∧
  (∀ k0_t5 : Fin (k0_t5_loop v0).trips, ∀ (k0_h10 : k0_cond10 v0 k0_t5 = 1#1), ∀ a, (k0_off627 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off627 v0 k0_t5) a + S1x1x2x128x128.size a ≤ S24x16x2x128x128.size a), (Rect.unit (s := S24x16x2x128x128) (k0_off627 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off629 v0 k0_t5) a + S1x1.size a ≤ S1x1024.size a) ∧
  (∀ k0_t5 : Fin (k0_t5_loop v0).trips, ∀ (k0_h10 : k0_cond10 v0 k0_t5 = 1#1), ∀ a, (k0_off630 v0 k0_t5) a + S1.size a ≤ S24.size a) ∧
  (∀ k0_t5 : Fin (k0_t5_loop v0).trips, ∀ (k0_h10 : k0_cond10 v0 k0_t5 = 1#1), ∀ a, (k0_off631 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off631 v0 k0_t5) a + S1x1x2x128x128.size a ≤ S24x16x2x128x128.size a), (Rect.unit (s := S24x16x2x128x128) (k0_off631 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off633 v0 k0_t5) a + S1x1.size a ≤ S1x1024.size a) ∧
  (∀ k0_t5 : Fin (k0_t5_loop v0).trips, ∀ (k0_h10 : k0_cond10 v0 k0_t5 = 1#1), ∀ a, (k0_off634 v0 k0_t5) a + S1.size a ≤ S24.size a) ∧
  (∀ k0_t5 : Fin (k0_t5_loop v0).trips, ∀ (k0_h10 : k0_cond10 v0 k0_t5 = 1#1), ∀ a, (k0_off635 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off635 v0 k0_t5) a + S1x1x2x128x128.size a ≤ S24x16x2x128x128.size a), (Rect.unit (s := S24x16x2x128x128) (k0_off635 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off637 v0 k0_t5) a + S1x1.size a ≤ S1x1024.size a) ∧
  (∀ k0_t5 : Fin (k0_t5_loop v0).trips, ∀ (k0_h10 : k0_cond10 v0 k0_t5 = 1#1), ∀ a, (k0_off638 v0 k0_t5) a + S1.size a ≤ S24.size a) ∧
  (∀ k0_t5 : Fin (k0_t5_loop v0).trips, ∀ (k0_h10 : k0_cond10 v0 k0_t5 = 1#1), ∀ a, (k0_off639 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off639 v0 k0_t5) a + S1x1x2x128x128.size a ≤ S24x16x2x128x128.size a), (Rect.unit (s := S24x16x2x128x128) (k0_off639 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off641 v0 k0_t5) a + S1x1.size a ≤ S1x1024.size a) ∧
  (∀ k0_t5 : Fin (k0_t5_loop v0).trips, ∀ (k0_h10 : k0_cond10 v0 k0_t5 = 1#1), ∀ a, (k0_off642 v0 k0_t5) a + S1.size a ≤ S24.size a) ∧
  (∀ k0_t5 : Fin (k0_t5_loop v0).trips, ∀ (k0_h10 : k0_cond10 v0 k0_t5 = 1#1), ∀ a, (k0_off643 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off643 v0 k0_t5) a + S1x1x2x128x128.size a ≤ S24x16x2x128x128.size a), (Rect.unit (s := S24x16x2x128x128) (k0_off643 v0 k0_t5) S1x1x2x128x128.size hinb).WholeWords (EltTy.packing .fp8e4m3))
def k0_chk17_17 (v0 : BitVec 32) : Prop :=
  (∀ k0_t5 : Fin (k0_t5_loop v0).trips, ∀ (k0_h10 : k0_cond10 v0 k0_t5 = 1#1), ∀ a, (k0_off645 v0 k0_t5) a + S1x1.size a ≤ S1x1024.size a) ∧
  (∀ k0_t5 : Fin (k0_t5_loop v0).trips, ∀ (k0_h10 : k0_cond10 v0 k0_t5 = 1#1), ∀ a, (k0_off646 v0 k0_t5) a + S1.size a ≤ S24.size a) ∧
  (∀ k0_t5 : Fin (k0_t5_loop v0).trips, ∀ (k0_h10 : k0_cond10 v0 k0_t5 = 1#1), ∀ a, (k0_off647 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off647 v0 k0_t5) a + S1x1x2x128x128.size a ≤ S24x16x2x128x128.size a), (Rect.unit (s := S24x16x2x128x128) (k0_off647 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off649 v0 k0_t5) a + S1x1.size a ≤ S1x1024.size a) ∧
  (∀ k0_t5 : Fin (k0_t5_loop v0).trips, ∀ (k0_h10 : k0_cond10 v0 k0_t5 = 1#1), ∀ a, (k0_off650 v0 k0_t5) a + S1.size a ≤ S24.size a) ∧
  (∀ k0_t5 : Fin (k0_t5_loop v0).trips, ∀ (k0_h10 : k0_cond10 v0 k0_t5 = 1#1), ∀ a, (k0_off651 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off651 v0 k0_t5) a + S1x1x2x128x128.size a ≤ S24x16x2x128x128.size a), (Rect.unit (s := S24x16x2x128x128) (k0_off651 v0 k0_t5) S1x1x2x128x128.size hinb).WholeWords (EltTy.packing .fp8e4m3)) ∧
  (∀ k0_t5 : Fin (k0_t5_loop v0).trips, ∀ (k0_h10 : k0_cond10 v0 k0_t5 = 1#1), ∀ a, (k0_off653 v0 k0_t5) a + S1x1.size a ≤ S1x1024.size a) ∧
  (∀ k0_t5 : Fin (k0_t5_loop v0).trips, ∀ (k0_h10 : k0_cond10 v0 k0_t5 = 1#1), ∀ a, (k0_off654 v0 k0_t5) a + S1.size a ≤ S24.size a) ∧
  (∀ k0_t5 : Fin (k0_t5_loop v0).trips, ∀ (k0_h10 : k0_cond10 v0 k0_t5 = 1#1), ∀ a, (k0_off655 v0 k0_t5) a + S1x1x2x128x128.size a ≤ S24x16x2x128x128.size a) ∧
  (∀ k0_t5 : Fin (k0_t5_loop v0).trips, ∀ (k0_h10 : k0_cond10 v0 k0_t5 = 1#1), ∀ (hinb : ∀ a, (k0_off655 v0 k0_t5) a + S1x1x2x128x128.size a ≤ S24x16x2x128x128.size a), (Rect.unit (s := S24x16x2x128x128) (k0_off655 v0 k0_t5) S1x1x2x128x128.size hinb).WholeWords (EltTy.packing .fp8e4m3))
def k0_chk17 (v0 : BitVec 32) : Prop :=
  k0_chk17_0 v0 ∧
  k0_chk17_1 v0 ∧
  k0_chk17_2 v0 ∧
  k0_chk17_3 v0 ∧
  k0_chk17_4 v0 ∧
  k0_chk17_5 v0 ∧
  k0_chk17_6 v0 ∧
  k0_chk17_7 v0 ∧
  k0_chk17_8 v0 ∧
  k0_chk17_9 v0 ∧
  k0_chk17_10 v0 ∧
  k0_chk17_11 v0 ∧
  k0_chk17_12 v0 ∧
  k0_chk17_13 v0 ∧
  k0_chk17_14 v0 ∧
  k0_chk17_15 v0 ∧
  k0_chk17_16 v0 ∧
  k0_chk17_17 v0
theorem k0_off65_inb : ∀ (v0 : BitVec 32) (k0_hw17 : k0_chk17 v0) (k0_t1 : Fin k0_t1_loop.trips), ∀ (k0_h2 : k0_cond2 v0 k0_t1 = 1#1), ∀ a, (k0_off65 v0 k0_t1) a + S1x1.size a ≤ S1x1024.size a := fun v0 k0_hw17 k0_t1 k0_h2 => k0_hw17.1.1 k0_t1 k0_h2
theorem k0_off69_inb : ∀ (v0 : BitVec 32) (k0_hw17 : k0_chk17 v0) (k0_t1 : Fin k0_t1_loop.trips), ∀ (k0_h2 : k0_cond2 v0 k0_t1 = 1#1), ∀ a, (k0_off69 v0 k0_t1) a + S1x1.size a ≤ S1x1024.size a := fun v0 k0_hw17 k0_t1 k0_h2 => k0_hw17.1.2.1 k0_t1 k0_h2
theorem k0_off73_inb : ∀ (v0 : BitVec 32) (k0_hw17 : k0_chk17 v0) (k0_t1 : Fin k0_t1_loop.trips), ∀ (k0_h2 : k0_cond2 v0 k0_t1 = 1#1), ∀ a, (k0_off73 v0 k0_t1) a + S1x1.size a ≤ S1x1024.size a := fun v0 k0_hw17 k0_t1 k0_h2 => k0_hw17.1.2.2.1 k0_t1 k0_h2
theorem k0_off77_inb : ∀ (v0 : BitVec 32) (k0_hw17 : k0_chk17 v0) (k0_t1 : Fin k0_t1_loop.trips), ∀ (k0_h2 : k0_cond2 v0 k0_t1 = 1#1), ∀ a, (k0_off77 v0 k0_t1) a + S1x1.size a ≤ S1x1024.size a := fun v0 k0_hw17 k0_t1 k0_h2 => k0_hw17.1.2.2.2.1 k0_t1 k0_h2
theorem k0_off81_inb : ∀ (v0 : BitVec 32) (k0_hw17 : k0_chk17 v0) (k0_t1 : Fin k0_t1_loop.trips), ∀ (k0_h2 : k0_cond2 v0 k0_t1 = 1#1), ∀ a, (k0_off81 v0 k0_t1) a + S1x1.size a ≤ S1x1024.size a := fun v0 k0_hw17 k0_t1 k0_h2 => k0_hw17.1.2.2.2.2.1 k0_t1 k0_h2
theorem k0_off85_inb : ∀ (v0 : BitVec 32) (k0_hw17 : k0_chk17 v0) (k0_t1 : Fin k0_t1_loop.trips), ∀ (k0_h2 : k0_cond2 v0 k0_t1 = 1#1), ∀ a, (k0_off85 v0 k0_t1) a + S1x1.size a ≤ S1x1024.size a := fun v0 k0_hw17 k0_t1 k0_h2 => k0_hw17.1.2.2.2.2.2.1 k0_t1 k0_h2
theorem k0_off89_inb : ∀ (v0 : BitVec 32) (k0_hw17 : k0_chk17 v0) (k0_t1 : Fin k0_t1_loop.trips), ∀ (k0_h2 : k0_cond2 v0 k0_t1 = 1#1), ∀ a, (k0_off89 v0 k0_t1) a + S1x1.size a ≤ S1x1024.size a := fun v0 k0_hw17 k0_t1 k0_h2 => k0_hw17.1.2.2.2.2.2.2.1 k0_t1 k0_h2
theorem k0_off93_inb : ∀ (v0 : BitVec 32) (k0_hw17 : k0_chk17 v0) (k0_t1 : Fin k0_t1_loop.trips), ∀ (k0_h2 : k0_cond2 v0 k0_t1 = 1#1), ∀ a, (k0_off93 v0 k0_t1) a + S1x1.size a ≤ S1x1024.size a := fun v0 k0_hw17 k0_t1 k0_h2 => k0_hw17.1.2.2.2.2.2.2.2.1 k0_t1 k0_h2
theorem k0_off97_inb : ∀ (v0 : BitVec 32) (k0_hw17 : k0_chk17 v0) (k0_t1 : Fin k0_t1_loop.trips), ∀ (k0_h2 : k0_cond2 v0 k0_t1 = 1#1), ∀ a, (k0_off97 v0 k0_t1) a + S1x1.size a ≤ S1x1024.size a := fun v0 k0_hw17 k0_t1 k0_h2 => k0_hw17.1.2.2.2.2.2.2.2.2.1 k0_t1 k0_h2
theorem k0_off101_inb : ∀ (v0 : BitVec 32) (k0_hw17 : k0_chk17 v0) (k0_t1 : Fin k0_t1_loop.trips), ∀ (k0_h2 : k0_cond2 v0 k0_t1 = 1#1), ∀ a, (k0_off101 v0 k0_t1) a + S1x1.size a ≤ S1x1024.size a := fun v0 k0_hw17 k0_t1 k0_h2 => k0_hw17.1.2.2.2.2.2.2.2.2.2.1 k0_t1 k0_h2
theorem k0_off105_inb : ∀ (v0 : BitVec 32) (k0_hw17 : k0_chk17 v0) (k0_t1 : Fin k0_t1_loop.trips), ∀ (k0_h2 : k0_cond2 v0 k0_t1 = 1#1), ∀ a, (k0_off105 v0 k0_t1) a + S1x1.size a ≤ S1x1024.size a := fun v0 k0_hw17 k0_t1 k0_h2 => k0_hw17.1.2.2.2.2.2.2.2.2.2.2.1 k0_t1 k0_h2
theorem k0_off109_inb : ∀ (v0 : BitVec 32) (k0_hw17 : k0_chk17 v0) (k0_t1 : Fin k0_t1_loop.trips), ∀ (k0_h2 : k0_cond2 v0 k0_t1 = 1#1), ∀ a, (k0_off109 v0 k0_t1) a + S1x1.size a ≤ S1x1024.size a := fun v0 k0_hw17 k0_t1 k0_h2 => k0_hw17.1.2.2.2.2.2.2.2.2.2.2.2.1 k0_t1 k0_h2
theorem k0_off113_inb : ∀ (v0 : BitVec 32) (k0_hw17 : k0_chk17 v0) (k0_t1 : Fin k0_t1_loop.trips), ∀ (k0_h2 : k0_cond2 v0 k0_t1 = 1#1), ∀ a, (k0_off113 v0 k0_t1) a + S1x1.size a ≤ S1x1024.size a := fun v0 k0_hw17 k0_t1 k0_h2 => k0_hw17.1.2.2.2.2.2.2.2.2.2.2.2.2.1 k0_t1 k0_h2
theorem k0_off117_inb : ∀ (v0 : BitVec 32) (k0_hw17 : k0_chk17 v0) (k0_t1 : Fin k0_t1_loop.trips), ∀ (k0_h2 : k0_cond2 v0 k0_t1 = 1#1), ∀ a, (k0_off117 v0 k0_t1) a + S1x1.size a ≤ S1x1024.size a := fun v0 k0_hw17 k0_t1 k0_h2 => k0_hw17.1.2.2.2.2.2.2.2.2.2.2.2.2.2.1 k0_t1 k0_h2
theorem k0_off121_inb : ∀ (v0 : BitVec 32) (k0_hw17 : k0_chk17 v0) (k0_t1 : Fin k0_t1_loop.trips), ∀ (k0_h2 : k0_cond2 v0 k0_t1 = 1#1), ∀ a, (k0_off121 v0 k0_t1) a + S1x1.size a ≤ S1x1024.size a := fun v0 k0_hw17 k0_t1 k0_h2 => k0_hw17.1.2.2.2.2.2.2.2.2.2.2.2.2.2.2.1 k0_t1 k0_h2
theorem k0_off125_inb : ∀ (v0 : BitVec 32) (k0_hw17 : k0_chk17 v0) (k0_t1 : Fin k0_t1_loop.trips), ∀ (k0_h2 : k0_cond2 v0 k0_t1 = 1#1), ∀ a, (k0_off125 v0 k0_t1) a + S1x1.size a ≤ S1x1024.size a := fun v0 k0_hw17 k0_t1 k0_h2 => k0_hw17.1.2.2.2.2.2.2.2.2.2.2.2.2.2.2.2.1 k0_t1 k0_h2
theorem k0_t2_ok : ∀ (v0 : BitVec 32) (k0_hw17 : k0_chk17 v0), (k0_t2_loop v0).OK := fun v0 k0_hw17 => k0_hw17.1.2.2.2.2.2.2.2.2.2.2.2.2.2.2.2.2.1
theorem k0_off129_inb : ∀ (v0 : BitVec 32) (k0_hw17 : k0_chk17 v0) (k0_t2 : Fin (k0_t2_loop v0).trips), ∀ a, (k0_off129 v0 k0_t2) a + S1.size a ≤ S24.size a := fun v0 k0_hw17 k0_t2 => k0_hw17.1.2.2.2.2.2.2.2.2.2.2.2.2.2.2.2.2.2.1 k0_t2
theorem k0_off130_inb : ∀ (v0 : BitVec 32) (k0_hw17 : k0_chk17 v0) (k0_t2 : Fin (k0_t2_loop v0).trips), ∀ a, (k0_off130 v0 k0_t2) a + S1x16x2x128x128.size a ≤ S24x16x2x128x128.size a := fun v0 k0_hw17 k0_t2 => k0_hw17.1.2.2.2.2.2.2.2.2.2.2.2.2.2.2.2.2.2.2.1 k0_t2
theorem k0_off130_wordsfp8e4m3 : ∀ (v0 : BitVec 32) (k0_hw17 : k0_chk17 v0) (k0_t2 : Fin (k0_t2_loop v0).trips), (Rect.unit (s := S24x16x2x128x128) (k0_off130 v0 k0_t2) S1x16x2x128x128.size (k0_off130_inb v0 k0_hw17 k0_t2)).WholeWords (EltTy.packing .fp8e4m3) := fun v0 k0_hw17 k0_t2 => k0_hw17.1.2.2.2.2.2.2.2.2.2.2.2.2.2.2.2.2.2.2.2.1 k0_t2 (k0_off130_inb v0 k0_hw17 k0_t2)
theorem k0_off131_inb : ∀ (v0 : BitVec 32) (k0_hw17 : k0_chk17 v0) (k0_t2 : Fin (k0_t2_loop v0).trips), ∀ a, (k0_off131 v0 k0_t2) a + S1x16x2x128x128.size a ≤ S24x16x2x128x128.size a := fun v0 k0_hw17 k0_t2 => k0_hw17.1.2.2.2.2.2.2.2.2.2.2.2.2.2.2.2.2.2.2.2.2.1 k0_t2
theorem k0_off132_inb : ∀ (v0 : BitVec 32) (k0_hw17 : k0_chk17 v0) (k0_t2 : Fin (k0_t2_loop v0).trips), ∀ (k0_h3 : k0_cond3 v0 k0_t2 = 1#1), ∀ a, (k0_off132 v0 k0_t2) a + S1x1.size a ≤ S1x1024.size a := fun v0 k0_hw17 k0_t2 k0_h3 => k0_hw17.1.2.2.2.2.2.2.2.2.2.2.2.2.2.2.2.2.2.2.2.2.2.1 k0_t2 k0_h3
theorem k0_off133_inb : ∀ (v0 : BitVec 32) (k0_hw17 : k0_chk17 v0) (k0_t2 : Fin (k0_t2_loop v0).trips), ∀ (k0_h3 : k0_cond3 v0 k0_t2 = 1#1), ∀ a, (k0_off133 v0 k0_t2) a + S1.size a ≤ S24.size a := fun v0 k0_hw17 k0_t2 k0_h3 => k0_hw17.1.2.2.2.2.2.2.2.2.2.2.2.2.2.2.2.2.2.2.2.2.2.2.1 k0_t2 k0_h3
theorem k0_off134_inb : ∀ (v0 : BitVec 32) (k0_hw17 : k0_chk17 v0) (k0_t2 : Fin (k0_t2_loop v0).trips), ∀ (k0_h3 : k0_cond3 v0 k0_t2 = 1#1), ∀ a, (k0_off134 v0 k0_t2) a + S1x1x2x128x128.size a ≤ S24x16x2x128x128.size a := fun v0 k0_hw17 k0_t2 k0_h3 => k0_hw17.1.2.2.2.2.2.2.2.2.2.2.2.2.2.2.2.2.2.2.2.2.2.2.2.1 k0_t2 k0_h3
theorem k0_off134_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off134 v0 k0_t2) S1x1x2x128x128.size (k0_off134_inb v0 k0_hw17 k0_t2 k0_h3)).WholeWords (EltTy.packing .fp8e4m3) := fun v0 k0_hw17 k0_t2 k0_h3 => k0_hw17.1.2.2.2.2.2.2.2.2.2.2.2.2.2.2.2.2.2.2.2.2.2.2.2.2.1 k0_t2 k0_h3 (k0_off134_inb v0 k0_hw17 k0_t2 k0_h3)
theorem k0_off136_inb : ∀ (v0 : BitVec 32) (k0_hw17 : k0_chk17 v0) (k0_t2 : Fin (k0_t2_loop v0).trips), ∀ (k0_h3 : k0_cond3 v0 k0_t2 = 1#1), ∀ a, (k0_off136 v0 k0_t2) a + S1x1.size a ≤ S1x1024.size a := fun v0 k0_hw17 k0_t2 k0_h3 => k0_hw17.1.2.2.2.2.2.2.2.2.2.2.2.2.2.2.2.2.2.2.2.2.2.2.2.2.2.1 k0_t2 k0_h3
theorem k0_off137_inb : ∀ (v0 : BitVec 32) (k0_hw17 : k0_chk17 v0) (k0_t2 : Fin (k0_t2_loop v0).trips), ∀ (k0_h3 : k0_cond3 v0 k0_t2 = 1#1), ∀ a, (k0_off137 v0 k0_t2) a + S1.size a ≤ S24.size a := fun v0 k0_hw17 k0_t2 k0_h3 => k0_hw17.1.2.2.2.2.2.2.2.2.2.2.2.2.2.2.2.2.2.2.2.2.2.2.2.2.2.2.1 k0_t2 k0_h3
theorem k0_off138_inb : ∀ (v0 : BitVec 32) (k0_hw17 : k0_chk17 v0) (k0_t2 : Fin (k0_t2_loop v0).trips), ∀ (k0_h3 : k0_cond3 v0 k0_t2 = 1#1), ∀ a, (k0_off138 v0 k0_t2) a + S1x1x2x128x128.size a ≤ S24x16x2x128x128.size a := fun v0 k0_hw17 k0_t2 k0_h3 => k0_hw17.1.2.2.2.2.2.2.2.2.2.2.2.2.2.2.2.2.2.2.2.2.2.2.2.2.2.2.2.1 k0_t2 k0_h3
theorem k0_off138_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off138 v0 k0_t2) S1x1x2x128x128.size (k0_off138_inb v0 k0_hw17 k0_t2 k0_h3)).WholeWords (EltTy.packing .fp8e4m3) := fun v0 k0_hw17 k0_t2 k0_h3 => k0_hw17.1.2.2.2.2.2.2.2.2.2.2.2.2.2.2.2.2.2.2.2.2.2.2.2.2.2.2.2.2.1 k0_t2 k0_h3 (k0_off138_inb v0 k0_hw17 k0_t2 k0_h3)
theorem k0_off140_inb : ∀ (v0 : BitVec 32) (k0_hw17 : k0_chk17 v0) (k0_t2 : Fin (k0_t2_loop v0).trips), ∀ (k0_h3 : k0_cond3 v0 k0_t2 = 1#1), ∀ a, (k0_off140 v0 k0_t2) a + S1x1.size a ≤ S1x1024.size a := fun v0 k0_hw17 k0_t2 k0_h3 => k0_hw17.1.2.2.2.2.2.2.2.2.2.2.2.2.2.2.2.2.2.2.2.2.2.2.2.2.2.2.2.2.2.1 k0_t2 k0_h3
theorem k0_off141_inb : ∀ (v0 : BitVec 32) (k0_hw17 : k0_chk17 v0) (k0_t2 : Fin (k0_t2_loop v0).trips), ∀ (k0_h3 : k0_cond3 v0 k0_t2 = 1#1), ∀ a, (k0_off141 v0 k0_t2) a + S1.size a ≤ S24.size a := fun v0 k0_hw17 k0_t2 k0_h3 => k0_hw17.1.2.2.2.2.2.2.2.2.2.2.2.2.2.2.2.2.2.2.2.2.2.2.2.2.2.2.2.2.2.2.1 k0_t2 k0_h3
theorem k0_off142_inb : ∀ (v0 : BitVec 32) (k0_hw17 : k0_chk17 v0) (k0_t2 : Fin (k0_t2_loop v0).trips), ∀ (k0_h3 : k0_cond3 v0 k0_t2 = 1#1), ∀ a, (k0_off142 v0 k0_t2) a + S1x1x2x128x128.size a ≤ S24x16x2x128x128.size a := fun v0 k0_hw17 k0_t2 k0_h3 => k0_hw17.1.2.2.2.2.2.2.2.2.2.2.2.2.2.2.2.2.2.2.2.2.2.2.2.2.2.2.2.2.2.2.2 k0_t2 k0_h3
theorem k0_off142_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off142 v0 k0_t2) S1x1x2x128x128.size (k0_off142_inb v0 k0_hw17 k0_t2 k0_h3)).WholeWords (EltTy.packing .fp8e4m3) := fun v0 k0_hw17 k0_t2 k0_h3 => k0_hw17.2.1.1 k0_t2 k0_h3 (k0_off142_inb v0 k0_hw17 k0_t2 k0_h3)
theorem k0_off144_inb : ∀ (v0 : BitVec 32) (k0_hw17 : k0_chk17 v0) (k0_t2 : Fin (k0_t2_loop v0).trips), ∀ (k0_h3 : k0_cond3 v0 k0_t2 = 1#1), ∀ a, (k0_off144 v0 k0_t2) a + S1x1.size a ≤ S1x1024.size a := fun v0 k0_hw17 k0_t2 k0_h3 => k0_hw17.2.1.2.1 k0_t2 k0_h3
theorem k0_off145_inb : ∀ (v0 : BitVec 32) (k0_hw17 : k0_chk17 v0) (k0_t2 : Fin (k0_t2_loop v0).trips), ∀ (k0_h3 : k0_cond3 v0 k0_t2 = 1#1), ∀ a, (k0_off145 v0 k0_t2) a + S1.size a ≤ S24.size a := fun v0 k0_hw17 k0_t2 k0_h3 => k0_hw17.2.1.2.2.1 k0_t2 k0_h3
theorem k0_off146_inb : ∀ (v0 : BitVec 32) (k0_hw17 : k0_chk17 v0) (k0_t2 : Fin (k0_t2_loop v0).trips), ∀ (k0_h3 : k0_cond3 v0 k0_t2 = 1#1), ∀ a, (k0_off146 v0 k0_t2) a + S1x1x2x128x128.size a ≤ S24x16x2x128x128.size a := fun v0 k0_hw17 k0_t2 k0_h3 => k0_hw17.2.1.2.2.2.1 k0_t2 k0_h3
theorem k0_off146_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off146 v0 k0_t2) S1x1x2x128x128.size (k0_off146_inb v0 k0_hw17 k0_t2 k0_h3)).WholeWords (EltTy.packing .fp8e4m3) := fun v0 k0_hw17 k0_t2 k0_h3 => k0_hw17.2.1.2.2.2.2.1 k0_t2 k0_h3 (k0_off146_inb v0 k0_hw17 k0_t2 k0_h3)
theorem k0_off148_inb : ∀ (v0 : BitVec 32) (k0_hw17 : k0_chk17 v0) (k0_t2 : Fin (k0_t2_loop v0).trips), ∀ (k0_h3 : k0_cond3 v0 k0_t2 = 1#1), ∀ a, (k0_off148 v0 k0_t2) a + S1x1.size a ≤ S1x1024.size a := fun v0 k0_hw17 k0_t2 k0_h3 => k0_hw17.2.1.2.2.2.2.2.1 k0_t2 k0_h3
theorem k0_off149_inb : ∀ (v0 : BitVec 32) (k0_hw17 : k0_chk17 v0) (k0_t2 : Fin (k0_t2_loop v0).trips), ∀ (k0_h3 : k0_cond3 v0 k0_t2 = 1#1), ∀ a, (k0_off149 v0 k0_t2) a + S1.size a ≤ S24.size a := fun v0 k0_hw17 k0_t2 k0_h3 => k0_hw17.2.1.2.2.2.2.2.2.1 k0_t2 k0_h3
theorem k0_off150_inb : ∀ (v0 : BitVec 32) (k0_hw17 : k0_chk17 v0) (k0_t2 : Fin (k0_t2_loop v0).trips), ∀ (k0_h3 : k0_cond3 v0 k0_t2 = 1#1), ∀ a, (k0_off150 v0 k0_t2) a + S1x1x2x128x128.size a ≤ S24x16x2x128x128.size a := fun v0 k0_hw17 k0_t2 k0_h3 => k0_hw17.2.1.2.2.2.2.2.2.2.1 k0_t2 k0_h3
theorem k0_off150_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off150 v0 k0_t2) S1x1x2x128x128.size (k0_off150_inb v0 k0_hw17 k0_t2 k0_h3)).WholeWords (EltTy.packing .fp8e4m3) := fun v0 k0_hw17 k0_t2 k0_h3 => k0_hw17.2.1.2.2.2.2.2.2.2.2.1 k0_t2 k0_h3 (k0_off150_inb v0 k0_hw17 k0_t2 k0_h3)
theorem k0_off152_inb : ∀ (v0 : BitVec 32) (k0_hw17 : k0_chk17 v0) (k0_t2 : Fin (k0_t2_loop v0).trips), ∀ (k0_h3 : k0_cond3 v0 k0_t2 = 1#1), ∀ a, (k0_off152 v0 k0_t2) a + S1x1.size a ≤ S1x1024.size a := fun v0 k0_hw17 k0_t2 k0_h3 => k0_hw17.2.1.2.2.2.2.2.2.2.2.2.1 k0_t2 k0_h3
theorem k0_off153_inb : ∀ (v0 : BitVec 32) (k0_hw17 : k0_chk17 v0) (k0_t2 : Fin (k0_t2_loop v0).trips), ∀ (k0_h3 : k0_cond3 v0 k0_t2 = 1#1), ∀ a, (k0_off153 v0 k0_t2) a + S1.size a ≤ S24.size a := fun v0 k0_hw17 k0_t2 k0_h3 => k0_hw17.2.1.2.2.2.2.2.2.2.2.2.2.1 k0_t2 k0_h3
theorem k0_off154_inb : ∀ (v0 : BitVec 32) (k0_hw17 : k0_chk17 v0) (k0_t2 : Fin (k0_t2_loop v0).trips), ∀ (k0_h3 : k0_cond3 v0 k0_t2 = 1#1), ∀ a, (k0_off154 v0 k0_t2) a + S1x1x2x128x128.size a ≤ S24x16x2x128x128.size a := fun v0 k0_hw17 k0_t2 k0_h3 => k0_hw17.2.1.2.2.2.2.2.2.2.2.2.2.2.1 k0_t2 k0_h3
theorem k0_off154_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off154 v0 k0_t2) S1x1x2x128x128.size (k0_off154_inb v0 k0_hw17 k0_t2 k0_h3)).WholeWords (EltTy.packing .fp8e4m3) := fun v0 k0_hw17 k0_t2 k0_h3 => k0_hw17.2.1.2.2.2.2.2.2.2.2.2.2.2.2.1 k0_t2 k0_h3 (k0_off154_inb v0 k0_hw17 k0_t2 k0_h3)
theorem k0_off156_inb : ∀ (v0 : BitVec 32) (k0_hw17 : k0_chk17 v0) (k0_t2 : Fin (k0_t2_loop v0).trips), ∀ (k0_h3 : k0_cond3 v0 k0_t2 = 1#1), ∀ a, (k0_off156 v0 k0_t2) a + S1x1.size a ≤ S1x1024.size a := fun v0 k0_hw17 k0_t2 k0_h3 => k0_hw17.2.1.2.2.2.2.2.2.2.2.2.2.2.2.2.1 k0_t2 k0_h3
theorem k0_off157_inb : ∀ (v0 : BitVec 32) (k0_hw17 : k0_chk17 v0) (k0_t2 : Fin (k0_t2_loop v0).trips), ∀ (k0_h3 : k0_cond3 v0 k0_t2 = 1#1), ∀ a, (k0_off157 v0 k0_t2) a + S1.size a ≤ S24.size a := fun v0 k0_hw17 k0_t2 k0_h3 => k0_hw17.2.1.2.2.2.2.2.2.2.2.2.2.2.2.2.2.1 k0_t2 k0_h3
theorem k0_off158_inb : ∀ (v0 : BitVec 32) (k0_hw17 : k0_chk17 v0) (k0_t2 : Fin (k0_t2_loop v0).trips), ∀ (k0_h3 : k0_cond3 v0 k0_t2 = 1#1), ∀ a, (k0_off158 v0 k0_t2) a + S1x1x2x128x128.size a ≤ S24x16x2x128x128.size a := fun v0 k0_hw17 k0_t2 k0_h3 => k0_hw17.2.1.2.2.2.2.2.2.2.2.2.2.2.2.2.2.2.1 k0_t2 k0_h3
theorem k0_off158_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off158 v0 k0_t2) S1x1x2x128x128.size (k0_off158_inb v0 k0_hw17 k0_t2 k0_h3)).WholeWords (EltTy.packing .fp8e4m3) := fun v0 k0_hw17 k0_t2 k0_h3 => k0_hw17.2.1.2.2.2.2.2.2.2.2.2.2.2.2.2.2.2.2.1 k0_t2 k0_h3 (k0_off158_inb v0 k0_hw17 k0_t2 k0_h3)
theorem k0_off160_inb : ∀ (v0 : BitVec 32) (k0_hw17 : k0_chk17 v0) (k0_t2 : Fin (k0_t2_loop v0).trips), ∀ (k0_h3 : k0_cond3 v0 k0_t2 = 1#1), ∀ a, (k0_off160 v0 k0_t2) a + S1x1.size a ≤ S1x1024.size a := fun v0 k0_hw17 k0_t2 k0_h3 => k0_hw17.2.1.2.2.2.2.2.2.2.2.2.2.2.2.2.2.2.2.2.1 k0_t2 k0_h3
theorem k0_off161_inb : ∀ (v0 : BitVec 32) (k0_hw17 : k0_chk17 v0) (k0_t2 : Fin (k0_t2_loop v0).trips), ∀ (k0_h3 : k0_cond3 v0 k0_t2 = 1#1), ∀ a, (k0_off161 v0 k0_t2) a + S1.size a ≤ S24.size a := fun v0 k0_hw17 k0_t2 k0_h3 => k0_hw17.2.1.2.2.2.2.2.2.2.2.2.2.2.2.2.2.2.2.2.2.1 k0_t2 k0_h3
theorem k0_off162_inb : ∀ (v0 : BitVec 32) (k0_hw17 : k0_chk17 v0) (k0_t2 : Fin (k0_t2_loop v0).trips), ∀ (k0_h3 : k0_cond3 v0 k0_t2 = 1#1), ∀ a, (k0_off162 v0 k0_t2) a + S1x1x2x128x128.size a ≤ S24x16x2x128x128.size a := fun v0 k0_hw17 k0_t2 k0_h3 => k0_hw17.2.1.2.2.2.2.2.2.2.2.2.2.2.2.2.2.2.2.2.2.2.1 k0_t2 k0_h3
theorem k0_off162_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off162 v0 k0_t2) S1x1x2x128x128.size (k0_off162_inb v0 k0_hw17 k0_t2 k0_h3)).WholeWords (EltTy.packing .fp8e4m3) := fun v0 k0_hw17 k0_t2 k0_h3 => k0_hw17.2.1.2.2.2.2.2.2.2.2.2.2.2.2.2.2.2.2.2.2.2.2.1 k0_t2 k0_h3 (k0_off162_inb v0 k0_hw17 k0_t2 k0_h3)
theorem k0_off164_inb : ∀ (v0 : BitVec 32) (k0_hw17 : k0_chk17 v0) (k0_t2 : Fin (k0_t2_loop v0).trips), ∀ (k0_h3 : k0_cond3 v0 k0_t2 = 1#1), ∀ a, (k0_off164 v0 k0_t2) a + S1x1.size a ≤ S1x1024.size a := fun v0 k0_hw17 k0_t2 k0_h3 => k0_hw17.2.1.2.2.2.2.2.2.2.2.2.2.2.2.2.2.2.2.2.2.2.2.2.1 k0_t2 k0_h3
theorem k0_off165_inb : ∀ (v0 : BitVec 32) (k0_hw17 : k0_chk17 v0) (k0_t2 : Fin (k0_t2_loop v0).trips), ∀ (k0_h3 : k0_cond3 v0 k0_t2 = 1#1), ∀ a, (k0_off165 v0 k0_t2) a + S1.size a ≤ S24.size a := fun v0 k0_hw17 k0_t2 k0_h3 => k0_hw17.2.1.2.2.2.2.2.2.2.2.2.2.2.2.2.2.2.2.2.2.2.2.2.2.1 k0_t2 k0_h3
theorem k0_off166_inb : ∀ (v0 : BitVec 32) (k0_hw17 : k0_chk17 v0) (k0_t2 : Fin (k0_t2_loop v0).trips), ∀ (k0_h3 : k0_cond3 v0 k0_t2 = 1#1), ∀ a, (k0_off166 v0 k0_t2) a + S1x1x2x128x128.size a ≤ S24x16x2x128x128.size a := fun v0 k0_hw17 k0_t2 k0_h3 => k0_hw17.2.1.2.2.2.2.2.2.2.2.2.2.2.2.2.2.2.2.2.2.2.2.2.2.2.1 k0_t2 k0_h3
theorem k0_off166_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off166 v0 k0_t2) S1x1x2x128x128.size (k0_off166_inb v0 k0_hw17 k0_t2 k0_h3)).WholeWords (EltTy.packing .fp8e4m3) := fun v0 k0_hw17 k0_t2 k0_h3 => k0_hw17.2.1.2.2.2.2.2.2.2.2.2.2.2.2.2.2.2.2.2.2.2.2.2.2.2.2.1 k0_t2 k0_h3 (k0_off166_inb v0 k0_hw17 k0_t2 k0_h3)
theorem k0_off168_inb : ∀ (v0 : BitVec 32) (k0_hw17 : k0_chk17 v0) (k0_t2 : Fin (k0_t2_loop v0).trips), ∀ (k0_h3 : k0_cond3 v0 k0_t2 = 1#1), ∀ a, (k0_off168 v0 k0_t2) a + S1x1.size a ≤ S1x1024.size a := fun v0 k0_hw17 k0_t2 k0_h3 => k0_hw17.2.1.2.2.2.2.2.2.2.2.2.2.2.2.2.2.2.2.2.2.2.2.2.2.2.2.2.1 k0_t2 k0_h3
theorem k0_off169_inb : ∀ (v0 : BitVec 32) (k0_hw17 : k0_chk17 v0) (k0_t2 : Fin (k0_t2_loop v0).trips), ∀ (k0_h3 : k0_cond3 v0 k0_t2 = 1#1), ∀ a, (k0_off169 v0 k0_t2) a + S1.size a ≤ S24.size a := fun v0 k0_hw17 k0_t2 k0_h3 => k0_hw17.2.1.2.2.2.2.2.2.2.2.2.2.2.2.2.2.2.2.2.2.2.2.2.2.2.2.2.2.1 k0_t2 k0_h3
theorem k0_off170_inb : ∀ (v0 : BitVec 32) (k0_hw17 : k0_chk17 v0) (k0_t2 : Fin (k0_t2_loop v0).trips), ∀ (k0_h3 : k0_cond3 v0 k0_t2 = 1#1), ∀ a, (k0_off170 v0 k0_t2) a + S1x1x2x128x128.size a ≤ S24x16x2x128x128.size a := fun v0 k0_hw17 k0_t2 k0_h3 => k0_hw17.2.1.2.2.2.2.2.2.2.2.2.2.2.2.2.2.2.2.2.2.2.2.2.2.2.2.2.2.2.1 k0_t2 k0_h3
theorem k0_off170_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off170 v0 k0_t2) S1x1x2x128x128.size (k0_off170_inb v0 k0_hw17 k0_t2 k0_h3)).WholeWords (EltTy.packing .fp8e4m3) := fun v0 k0_hw17 k0_t2 k0_h3 => k0_hw17.2.1.2.2.2.2.2.2.2.2.2.2.2.2.2.2.2.2.2.2.2.2.2.2.2.2.2.2.2.2.1 k0_t2 k0_h3 (k0_off170_inb v0 k0_hw17 k0_t2 k0_h3)
theorem k0_off172_inb : ∀ (v0 : BitVec 32) (k0_hw17 : k0_chk17 v0) (k0_t2 : Fin (k0_t2_loop v0).trips), ∀ (k0_h3 : k0_cond3 v0 k0_t2 = 1#1), ∀ a, (k0_off172 v0 k0_t2) a + S1x1.size a ≤ S1x1024.size a := fun v0 k0_hw17 k0_t2 k0_h3 => k0_hw17.2.1.2.2.2.2.2.2.2.2.2.2.2.2.2.2.2.2.2.2.2.2.2.2.2.2.2.2.2.2.2.1 k0_t2 k0_h3
theorem k0_off173_inb : ∀ (v0 : BitVec 32) (k0_hw17 : k0_chk17 v0) (k0_t2 : Fin (k0_t2_loop v0).trips), ∀ (k0_h3 : k0_cond3 v0 k0_t2 = 1#1), ∀ a, (k0_off173 v0 k0_t2) a + S1.size a ≤ S24.size a := fun v0 k0_hw17 k0_t2 k0_h3 => k0_hw17.2.1.2.2.2.2.2.2.2.2.2.2.2.2.2.2.2.2.2.2.2.2.2.2.2.2.2.2.2.2.2.2.1 k0_t2 k0_h3
theorem k0_off174_inb : ∀ (v0 : BitVec 32) (k0_hw17 : k0_chk17 v0) (k0_t2 : Fin (k0_t2_loop v0).trips), ∀ (k0_h3 : k0_cond3 v0 k0_t2 = 1#1), ∀ a, (k0_off174 v0 k0_t2) a + S1x1x2x128x128.size a ≤ S24x16x2x128x128.size a := fun v0 k0_hw17 k0_t2 k0_h3 => k0_hw17.2.1.2.2.2.2.2.2.2.2.2.2.2.2.2.2.2.2.2.2.2.2.2.2.2.2.2.2.2.2.2.2.2 k0_t2 k0_h3
theorem k0_off174_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off174 v0 k0_t2) S1x1x2x128x128.size (k0_off174_inb v0 k0_hw17 k0_t2 k0_h3)).WholeWords (EltTy.packing .fp8e4m3) := fun v0 k0_hw17 k0_t2 k0_h3 => k0_hw17.2.2.1.1 k0_t2 k0_h3 (k0_off174_inb v0 k0_hw17 k0_t2 k0_h3)
theorem k0_off176_inb : ∀ (v0 : BitVec 32) (k0_hw17 : k0_chk17 v0) (k0_t2 : Fin (k0_t2_loop v0).trips), ∀ (k0_h3 : k0_cond3 v0 k0_t2 = 1#1), ∀ a, (k0_off176 v0 k0_t2) a + S1x1.size a ≤ S1x1024.size a := fun v0 k0_hw17 k0_t2 k0_h3 => k0_hw17.2.2.1.2.1 k0_t2 k0_h3
theorem k0_off177_inb : ∀ (v0 : BitVec 32) (k0_hw17 : k0_chk17 v0) (k0_t2 : Fin (k0_t2_loop v0).trips), ∀ (k0_h3 : k0_cond3 v0 k0_t2 = 1#1), ∀ a, (k0_off177 v0 k0_t2) a + S1.size a ≤ S24.size a := fun v0 k0_hw17 k0_t2 k0_h3 => k0_hw17.2.2.1.2.2.1 k0_t2 k0_h3
theorem k0_off178_inb : ∀ (v0 : BitVec 32) (k0_hw17 : k0_chk17 v0) (k0_t2 : Fin (k0_t2_loop v0).trips), ∀ (k0_h3 : k0_cond3 v0 k0_t2 = 1#1), ∀ a, (k0_off178 v0 k0_t2) a + S1x1x2x128x128.size a ≤ S24x16x2x128x128.size a := fun v0 k0_hw17 k0_t2 k0_h3 => k0_hw17.2.2.1.2.2.2.1 k0_t2 k0_h3
theorem k0_off178_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off178 v0 k0_t2) S1x1x2x128x128.size (k0_off178_inb v0 k0_hw17 k0_t2 k0_h3)).WholeWords (EltTy.packing .fp8e4m3) := fun v0 k0_hw17 k0_t2 k0_h3 => k0_hw17.2.2.1.2.2.2.2.1 k0_t2 k0_h3 (k0_off178_inb v0 k0_hw17 k0_t2 k0_h3)
theorem k0_off180_inb : ∀ (v0 : BitVec 32) (k0_hw17 : k0_chk17 v0) (k0_t2 : Fin (k0_t2_loop v0).trips), ∀ (k0_h3 : k0_cond3 v0 k0_t2 = 1#1), ∀ a, (k0_off180 v0 k0_t2) a + S1x1.size a ≤ S1x1024.size a := fun v0 k0_hw17 k0_t2 k0_h3 => k0_hw17.2.2.1.2.2.2.2.2.1 k0_t2 k0_h3
theorem k0_off181_inb : ∀ (v0 : BitVec 32) (k0_hw17 : k0_chk17 v0) (k0_t2 : Fin (k0_t2_loop v0).trips), ∀ (k0_h3 : k0_cond3 v0 k0_t2 = 1#1), ∀ a, (k0_off181 v0 k0_t2) a + S1.size a ≤ S24.size a := fun v0 k0_hw17 k0_t2 k0_h3 => k0_hw17.2.2.1.2.2.2.2.2.2.1 k0_t2 k0_h3
theorem k0_off182_inb : ∀ (v0 : BitVec 32) (k0_hw17 : k0_chk17 v0) (k0_t2 : Fin (k0_t2_loop v0).trips), ∀ (k0_h3 : k0_cond3 v0 k0_t2 = 1#1), ∀ a, (k0_off182 v0 k0_t2) a + S1x1x2x128x128.size a ≤ S24x16x2x128x128.size a := fun v0 k0_hw17 k0_t2 k0_h3 => k0_hw17.2.2.1.2.2.2.2.2.2.2.1 k0_t2 k0_h3
theorem k0_off182_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off182 v0 k0_t2) S1x1x2x128x128.size (k0_off182_inb v0 k0_hw17 k0_t2 k0_h3)).WholeWords (EltTy.packing .fp8e4m3) := fun v0 k0_hw17 k0_t2 k0_h3 => k0_hw17.2.2.1.2.2.2.2.2.2.2.2.1 k0_t2 k0_h3 (k0_off182_inb v0 k0_hw17 k0_t2 k0_h3)
theorem k0_off184_inb : ∀ (v0 : BitVec 32) (k0_hw17 : k0_chk17 v0) (k0_t2 : Fin (k0_t2_loop v0).trips), ∀ (k0_h3 : k0_cond3 v0 k0_t2 = 1#1), ∀ a, (k0_off184 v0 k0_t2) a + S1x1.size a ≤ S1x1024.size a := fun v0 k0_hw17 k0_t2 k0_h3 => k0_hw17.2.2.1.2.2.2.2.2.2.2.2.2.1 k0_t2 k0_h3
theorem k0_off185_inb : ∀ (v0 : BitVec 32) (k0_hw17 : k0_chk17 v0) (k0_t2 : Fin (k0_t2_loop v0).trips), ∀ (k0_h3 : k0_cond3 v0 k0_t2 = 1#1), ∀ a, (k0_off185 v0 k0_t2) a + S1.size a ≤ S24.size a := fun v0 k0_hw17 k0_t2 k0_h3 => k0_hw17.2.2.1.2.2.2.2.2.2.2.2.2.2.1 k0_t2 k0_h3
theorem k0_off186_inb : ∀ (v0 : BitVec 32) (k0_hw17 : k0_chk17 v0) (k0_t2 : Fin (k0_t2_loop v0).trips), ∀ (k0_h3 : k0_cond3 v0 k0_t2 = 1#1), ∀ a, (k0_off186 v0 k0_t2) a + S1x1x2x128x128.size a ≤ S24x16x2x128x128.size a := fun v0 k0_hw17 k0_t2 k0_h3 => k0_hw17.2.2.1.2.2.2.2.2.2.2.2.2.2.2.1 k0_t2 k0_h3
theorem k0_off186_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off186 v0 k0_t2) S1x1x2x128x128.size (k0_off186_inb v0 k0_hw17 k0_t2 k0_h3)).WholeWords (EltTy.packing .fp8e4m3) := fun v0 k0_hw17 k0_t2 k0_h3 => k0_hw17.2.2.1.2.2.2.2.2.2.2.2.2.2.2.2.1 k0_t2 k0_h3 (k0_off186_inb v0 k0_hw17 k0_t2 k0_h3)
theorem k0_off188_inb : ∀ (v0 : BitVec 32) (k0_hw17 : k0_chk17 v0) (k0_t2 : Fin (k0_t2_loop v0).trips), ∀ (k0_h3 : k0_cond3 v0 k0_t2 = 1#1), ∀ a, (k0_off188 v0 k0_t2) a + S1x1.size a ≤ S1x1024.size a := fun v0 k0_hw17 k0_t2 k0_h3 => k0_hw17.2.2.1.2.2.2.2.2.2.2.2.2.2.2.2.2.1 k0_t2 k0_h3
theorem k0_off189_inb : ∀ (v0 : BitVec 32) (k0_hw17 : k0_chk17 v0) (k0_t2 : Fin (k0_t2_loop v0).trips), ∀ (k0_h3 : k0_cond3 v0 k0_t2 = 1#1), ∀ a, (k0_off189 v0 k0_t2) a + S1.size a ≤ S24.size a := fun v0 k0_hw17 k0_t2 k0_h3 => k0_hw17.2.2.1.2.2.2.2.2.2.2.2.2.2.2.2.2.2.1 k0_t2 k0_h3
theorem k0_off190_inb : ∀ (v0 : BitVec 32) (k0_hw17 : k0_chk17 v0) (k0_t2 : Fin (k0_t2_loop v0).trips), ∀ (k0_h3 : k0_cond3 v0 k0_t2 = 1#1), ∀ a, (k0_off190 v0 k0_t2) a + S1x1x2x128x128.size a ≤ S24x16x2x128x128.size a := fun v0 k0_hw17 k0_t2 k0_h3 => k0_hw17.2.2.1.2.2.2.2.2.2.2.2.2.2.2.2.2.2.2.1 k0_t2 k0_h3
theorem k0_off190_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off190 v0 k0_t2) S1x1x2x128x128.size (k0_off190_inb v0 k0_hw17 k0_t2 k0_h3)).WholeWords (EltTy.packing .fp8e4m3) := fun v0 k0_hw17 k0_t2 k0_h3 => k0_hw17.2.2.1.2.2.2.2.2.2.2.2.2.2.2.2.2.2.2.2.1 k0_t2 k0_h3 (k0_off190_inb v0 k0_hw17 k0_t2 k0_h3)
theorem k0_off192_inb : ∀ (v0 : BitVec 32) (k0_hw17 : k0_chk17 v0) (k0_t2 : Fin (k0_t2_loop v0).trips), ∀ (k0_h3 : k0_cond3 v0 k0_t2 = 1#1), ∀ a, (k0_off192 v0 k0_t2) a + S1x1.size a ≤ S1x1024.size a := fun v0 k0_hw17 k0_t2 k0_h3 => k0_hw17.2.2.1.2.2.2.2.2.2.2.2.2.2.2.2.2.2.2.2.2.1 k0_t2 k0_h3
theorem k0_off193_inb : ∀ (v0 : BitVec 32) (k0_hw17 : k0_chk17 v0) (k0_t2 : Fin (k0_t2_loop v0).trips), ∀ (k0_h3 : k0_cond3 v0 k0_t2 = 1#1), ∀ a, (k0_off193 v0 k0_t2) a + S1.size a ≤ S24.size a := fun v0 k0_hw17 k0_t2 k0_h3 => k0_hw17.2.2.1.2.2.2.2.2.2.2.2.2.2.2.2.2.2.2.2.2.2.1 k0_t2 k0_h3
theorem k0_off194_inb : ∀ (v0 : BitVec 32) (k0_hw17 : k0_chk17 v0) (k0_t2 : Fin (k0_t2_loop v0).trips), ∀ (k0_h3 : k0_cond3 v0 k0_t2 = 1#1), ∀ a, (k0_off194 v0 k0_t2) a + S1x1x2x128x128.size a ≤ S24x16x2x128x128.size a := fun v0 k0_hw17 k0_t2 k0_h3 => k0_hw17.2.2.1.2.2.2.2.2.2.2.2.2.2.2.2.2.2.2.2.2.2.2.1 k0_t2 k0_h3
theorem k0_off194_wordsfp8e4m3 : ∀ (v0 : BitVec 32) (k0_hw17 : k0_chk17 v0) (k0_t2 : Fin (k0_t2_loop v0).trips), ∀ (k0_h3 : k0_cond3 v0 k0_t2 = 1#1), (Rect.unit (s := S24x16x2x128x128) (k0_off194 v0 k0_t2) S1x1x2x128x128.size (k0_off194_inb v0 k0_hw17 k0_t2 k0_h3)).WholeWords (EltTy.packing .fp8e4m3) := fun v0 k0_hw17 k0_t2 k0_h3 => k0_hw17.2.2.1.2.2.2.2.2.2.2.2.2.2.2.2.2.2.2.2.2.2.2.2.1 k0_t2 k0_h3 (k0_off194_inb v0 k0_hw17 k0_t2 k0_h3)
theorem k0_off196_inb : ∀ (v0 : BitVec 32) (k0_hw17 : k0_chk17 v0) (k0_t2 : Fin (k0_t2_loop v0).trips), ∀ (k0_h4 : k0_cond4 v0 k0_t2 = 1#1), ∀ a, (k0_off196 v0 k0_t2) a + S1x1.size a ≤ S1x1024.size a := fun v0 k0_hw17 k0_t2 k0_h4 => k0_hw17.2.2.1.2.2.2.2.2.2.2.2.2.2.2.2.2.2.2.2.2.2.2.2.2.1 k0_t2 k0_h4
theorem k0_off197_inb : ∀ (v0 : BitVec 32) (k0_hw17 : k0_chk17 v0) (k0_t2 : Fin (k0_t2_loop v0).trips), ∀ (k0_h4 : k0_cond4 v0 k0_t2 = 1#1), ∀ a, (k0_off197 v0 k0_t2) a + S1.size a ≤ S24.size a := fun v0 k0_hw17 k0_t2 k0_h4 => k0_hw17.2.2.1.2.2.2.2.2.2.2.2.2.2.2.2.2.2.2.2.2.2.2.2.2.2.1 k0_t2 k0_h4
theorem k0_off198_inb : ∀ (v0 : BitVec 32) (k0_hw17 : k0_chk17 v0) (k0_t2 : Fin (k0_t2_loop v0).trips), ∀ (k0_h4 : k0_cond4 v0 k0_t2 = 1#1), ∀ a, (k0_off198 v0 k0_t2) a + S1x1x2x128x128.size a ≤ S24x16x2x128x128.size a := fun v0 k0_hw17 k0_t2 k0_h4 => k0_hw17.2.2.1.2.2.2.2.2.2.2.2.2.2.2.2.2.2.2.2.2.2.2.2.2.2.2.1 k0_t2 k0_h4
theorem k0_off198_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off198 v0 k0_t2) S1x1x2x128x128.size (k0_off198_inb v0 k0_hw17 k0_t2 k0_h4)).WholeWords (EltTy.packing .fp8e4m3) := fun v0 k0_hw17 k0_t2 k0_h4 => k0_hw17.2.2.1.2.2.2.2.2.2.2.2.2.2.2.2.2.2.2.2.2.2.2.2.2.2.2.2.1 k0_t2 k0_h4 (k0_off198_inb v0 k0_hw17 k0_t2 k0_h4)
theorem k0_off200_inb : ∀ (v0 : BitVec 32) (k0_hw17 : k0_chk17 v0) (k0_t2 : Fin (k0_t2_loop v0).trips), ∀ (k0_h4 : k0_cond4 v0 k0_t2 = 1#1), ∀ a, (k0_off200 v0 k0_t2) a + S1x1.size a ≤ S1x1024.size a := fun v0 k0_hw17 k0_t2 k0_h4 => k0_hw17.2.2.1.2.2.2.2.2.2.2.2.2.2.2.2.2.2.2.2.2.2.2.2.2.2.2.2.2.1 k0_t2 k0_h4
theorem k0_off201_inb : ∀ (v0 : BitVec 32) (k0_hw17 : k0_chk17 v0) (k0_t2 : Fin (k0_t2_loop v0).trips), ∀ (k0_h4 : k0_cond4 v0 k0_t2 = 1#1), ∀ a, (k0_off201 v0 k0_t2) a + S1.size a ≤ S24.size a := fun v0 k0_hw17 k0_t2 k0_h4 => k0_hw17.2.2.1.2.2.2.2.2.2.2.2.2.2.2.2.2.2.2.2.2.2.2.2.2.2.2.2.2.2.1 k0_t2 k0_h4
theorem k0_off202_inb : ∀ (v0 : BitVec 32) (k0_hw17 : k0_chk17 v0) (k0_t2 : Fin (k0_t2_loop v0).trips), ∀ (k0_h4 : k0_cond4 v0 k0_t2 = 1#1), ∀ a, (k0_off202 v0 k0_t2) a + S1x1x2x128x128.size a ≤ S24x16x2x128x128.size a := fun v0 k0_hw17 k0_t2 k0_h4 => k0_hw17.2.2.1.2.2.2.2.2.2.2.2.2.2.2.2.2.2.2.2.2.2.2.2.2.2.2.2.2.2.2.1 k0_t2 k0_h4
theorem k0_off202_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off202 v0 k0_t2) S1x1x2x128x128.size (k0_off202_inb v0 k0_hw17 k0_t2 k0_h4)).WholeWords (EltTy.packing .fp8e4m3) := fun v0 k0_hw17 k0_t2 k0_h4 => k0_hw17.2.2.1.2.2.2.2.2.2.2.2.2.2.2.2.2.2.2.2.2.2.2.2.2.2.2.2.2.2.2.2.1 k0_t2 k0_h4 (k0_off202_inb v0 k0_hw17 k0_t2 k0_h4)
theorem k0_off204_inb : ∀ (v0 : BitVec 32) (k0_hw17 : k0_chk17 v0) (k0_t2 : Fin (k0_t2_loop v0).trips), ∀ (k0_h4 : k0_cond4 v0 k0_t2 = 1#1), ∀ a, (k0_off204 v0 k0_t2) a + S1x1.size a ≤ S1x1024.size a := fun v0 k0_hw17 k0_t2 k0_h4 => k0_hw17.2.2.1.2.2.2.2.2.2.2.2.2.2.2.2.2.2.2.2.2.2.2.2.2.2.2.2.2.2.2.2.2.1 k0_t2 k0_h4
theorem k0_off205_inb : ∀ (v0 : BitVec 32) (k0_hw17 : k0_chk17 v0) (k0_t2 : Fin (k0_t2_loop v0).trips), ∀ (k0_h4 : k0_cond4 v0 k0_t2 = 1#1), ∀ a, (k0_off205 v0 k0_t2) a + S1.size a ≤ S24.size a := fun v0 k0_hw17 k0_t2 k0_h4 => k0_hw17.2.2.1.2.2.2.2.2.2.2.2.2.2.2.2.2.2.2.2.2.2.2.2.2.2.2.2.2.2.2.2.2.2.1 k0_t2 k0_h4
theorem k0_off206_inb : ∀ (v0 : BitVec 32) (k0_hw17 : k0_chk17 v0) (k0_t2 : Fin (k0_t2_loop v0).trips), ∀ (k0_h4 : k0_cond4 v0 k0_t2 = 1#1), ∀ a, (k0_off206 v0 k0_t2) a + S1x1x2x128x128.size a ≤ S24x16x2x128x128.size a := fun v0 k0_hw17 k0_t2 k0_h4 => k0_hw17.2.2.1.2.2.2.2.2.2.2.2.2.2.2.2.2.2.2.2.2.2.2.2.2.2.2.2.2.2.2.2.2.2.2 k0_t2 k0_h4
theorem k0_off206_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off206 v0 k0_t2) S1x1x2x128x128.size (k0_off206_inb v0 k0_hw17 k0_t2 k0_h4)).WholeWords (EltTy.packing .fp8e4m3) := fun v0 k0_hw17 k0_t2 k0_h4 => k0_hw17.2.2.2.1.1 k0_t2 k0_h4 (k0_off206_inb v0 k0_hw17 k0_t2 k0_h4)
theorem k0_off208_inb : ∀ (v0 : BitVec 32) (k0_hw17 : k0_chk17 v0) (k0_t2 : Fin (k0_t2_loop v0).trips), ∀ (k0_h4 : k0_cond4 v0 k0_t2 = 1#1), ∀ a, (k0_off208 v0 k0_t2) a + S1x1.size a ≤ S1x1024.size a := fun v0 k0_hw17 k0_t2 k0_h4 => k0_hw17.2.2.2.1.2.1 k0_t2 k0_h4
theorem k0_off209_inb : ∀ (v0 : BitVec 32) (k0_hw17 : k0_chk17 v0) (k0_t2 : Fin (k0_t2_loop v0).trips), ∀ (k0_h4 : k0_cond4 v0 k0_t2 = 1#1), ∀ a, (k0_off209 v0 k0_t2) a + S1.size a ≤ S24.size a := fun v0 k0_hw17 k0_t2 k0_h4 => k0_hw17.2.2.2.1.2.2.1 k0_t2 k0_h4
theorem k0_off210_inb : ∀ (v0 : BitVec 32) (k0_hw17 : k0_chk17 v0) (k0_t2 : Fin (k0_t2_loop v0).trips), ∀ (k0_h4 : k0_cond4 v0 k0_t2 = 1#1), ∀ a, (k0_off210 v0 k0_t2) a + S1x1x2x128x128.size a ≤ S24x16x2x128x128.size a := fun v0 k0_hw17 k0_t2 k0_h4 => k0_hw17.2.2.2.1.2.2.2.1 k0_t2 k0_h4
theorem k0_off210_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off210 v0 k0_t2) S1x1x2x128x128.size (k0_off210_inb v0 k0_hw17 k0_t2 k0_h4)).WholeWords (EltTy.packing .fp8e4m3) := fun v0 k0_hw17 k0_t2 k0_h4 => k0_hw17.2.2.2.1.2.2.2.2.1 k0_t2 k0_h4 (k0_off210_inb v0 k0_hw17 k0_t2 k0_h4)
theorem k0_off212_inb : ∀ (v0 : BitVec 32) (k0_hw17 : k0_chk17 v0) (k0_t2 : Fin (k0_t2_loop v0).trips), ∀ (k0_h4 : k0_cond4 v0 k0_t2 = 1#1), ∀ a, (k0_off212 v0 k0_t2) a + S1x1.size a ≤ S1x1024.size a := fun v0 k0_hw17 k0_t2 k0_h4 => k0_hw17.2.2.2.1.2.2.2.2.2.1 k0_t2 k0_h4
theorem k0_off213_inb : ∀ (v0 : BitVec 32) (k0_hw17 : k0_chk17 v0) (k0_t2 : Fin (k0_t2_loop v0).trips), ∀ (k0_h4 : k0_cond4 v0 k0_t2 = 1#1), ∀ a, (k0_off213 v0 k0_t2) a + S1.size a ≤ S24.size a := fun v0 k0_hw17 k0_t2 k0_h4 => k0_hw17.2.2.2.1.2.2.2.2.2.2.1 k0_t2 k0_h4
theorem k0_off214_inb : ∀ (v0 : BitVec 32) (k0_hw17 : k0_chk17 v0) (k0_t2 : Fin (k0_t2_loop v0).trips), ∀ (k0_h4 : k0_cond4 v0 k0_t2 = 1#1), ∀ a, (k0_off214 v0 k0_t2) a + S1x1x2x128x128.size a ≤ S24x16x2x128x128.size a := fun v0 k0_hw17 k0_t2 k0_h4 => k0_hw17.2.2.2.1.2.2.2.2.2.2.2.1 k0_t2 k0_h4
theorem k0_off214_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off214 v0 k0_t2) S1x1x2x128x128.size (k0_off214_inb v0 k0_hw17 k0_t2 k0_h4)).WholeWords (EltTy.packing .fp8e4m3) := fun v0 k0_hw17 k0_t2 k0_h4 => k0_hw17.2.2.2.1.2.2.2.2.2.2.2.2.1 k0_t2 k0_h4 (k0_off214_inb v0 k0_hw17 k0_t2 k0_h4)
theorem k0_off216_inb : ∀ (v0 : BitVec 32) (k0_hw17 : k0_chk17 v0) (k0_t2 : Fin (k0_t2_loop v0).trips), ∀ (k0_h4 : k0_cond4 v0 k0_t2 = 1#1), ∀ a, (k0_off216 v0 k0_t2) a + S1x1.size a ≤ S1x1024.size a := fun v0 k0_hw17 k0_t2 k0_h4 => k0_hw17.2.2.2.1.2.2.2.2.2.2.2.2.2.1 k0_t2 k0_h4
theorem k0_off217_inb : ∀ (v0 : BitVec 32) (k0_hw17 : k0_chk17 v0) (k0_t2 : Fin (k0_t2_loop v0).trips), ∀ (k0_h4 : k0_cond4 v0 k0_t2 = 1#1), ∀ a, (k0_off217 v0 k0_t2) a + S1.size a ≤ S24.size a := fun v0 k0_hw17 k0_t2 k0_h4 => k0_hw17.2.2.2.1.2.2.2.2.2.2.2.2.2.2.1 k0_t2 k0_h4
theorem k0_off218_inb : ∀ (v0 : BitVec 32) (k0_hw17 : k0_chk17 v0) (k0_t2 : Fin (k0_t2_loop v0).trips), ∀ (k0_h4 : k0_cond4 v0 k0_t2 = 1#1), ∀ a, (k0_off218 v0 k0_t2) a + S1x1x2x128x128.size a ≤ S24x16x2x128x128.size a := fun v0 k0_hw17 k0_t2 k0_h4 => k0_hw17.2.2.2.1.2.2.2.2.2.2.2.2.2.2.2.1 k0_t2 k0_h4
theorem k0_off218_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off218 v0 k0_t2) S1x1x2x128x128.size (k0_off218_inb v0 k0_hw17 k0_t2 k0_h4)).WholeWords (EltTy.packing .fp8e4m3) := fun v0 k0_hw17 k0_t2 k0_h4 => k0_hw17.2.2.2.1.2.2.2.2.2.2.2.2.2.2.2.2.1 k0_t2 k0_h4 (k0_off218_inb v0 k0_hw17 k0_t2 k0_h4)
theorem k0_off220_inb : ∀ (v0 : BitVec 32) (k0_hw17 : k0_chk17 v0) (k0_t2 : Fin (k0_t2_loop v0).trips), ∀ (k0_h4 : k0_cond4 v0 k0_t2 = 1#1), ∀ a, (k0_off220 v0 k0_t2) a + S1x1.size a ≤ S1x1024.size a := fun v0 k0_hw17 k0_t2 k0_h4 => k0_hw17.2.2.2.1.2.2.2.2.2.2.2.2.2.2.2.2.2.1 k0_t2 k0_h4
theorem k0_off221_inb : ∀ (v0 : BitVec 32) (k0_hw17 : k0_chk17 v0) (k0_t2 : Fin (k0_t2_loop v0).trips), ∀ (k0_h4 : k0_cond4 v0 k0_t2 = 1#1), ∀ a, (k0_off221 v0 k0_t2) a + S1.size a ≤ S24.size a := fun v0 k0_hw17 k0_t2 k0_h4 => k0_hw17.2.2.2.1.2.2.2.2.2.2.2.2.2.2.2.2.2.2.1 k0_t2 k0_h4
theorem k0_off222_inb : ∀ (v0 : BitVec 32) (k0_hw17 : k0_chk17 v0) (k0_t2 : Fin (k0_t2_loop v0).trips), ∀ (k0_h4 : k0_cond4 v0 k0_t2 = 1#1), ∀ a, (k0_off222 v0 k0_t2) a + S1x1x2x128x128.size a ≤ S24x16x2x128x128.size a := fun v0 k0_hw17 k0_t2 k0_h4 => k0_hw17.2.2.2.1.2.2.2.2.2.2.2.2.2.2.2.2.2.2.2.1 k0_t2 k0_h4
theorem k0_off222_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off222 v0 k0_t2) S1x1x2x128x128.size (k0_off222_inb v0 k0_hw17 k0_t2 k0_h4)).WholeWords (EltTy.packing .fp8e4m3) := fun v0 k0_hw17 k0_t2 k0_h4 => k0_hw17.2.2.2.1.2.2.2.2.2.2.2.2.2.2.2.2.2.2.2.2.1 k0_t2 k0_h4 (k0_off222_inb v0 k0_hw17 k0_t2 k0_h4)
theorem k0_off224_inb : ∀ (v0 : BitVec 32) (k0_hw17 : k0_chk17 v0) (k0_t2 : Fin (k0_t2_loop v0).trips), ∀ (k0_h4 : k0_cond4 v0 k0_t2 = 1#1), ∀ a, (k0_off224 v0 k0_t2) a + S1x1.size a ≤ S1x1024.size a := fun v0 k0_hw17 k0_t2 k0_h4 => k0_hw17.2.2.2.1.2.2.2.2.2.2.2.2.2.2.2.2.2.2.2.2.2.1 k0_t2 k0_h4
theorem k0_off225_inb : ∀ (v0 : BitVec 32) (k0_hw17 : k0_chk17 v0) (k0_t2 : Fin (k0_t2_loop v0).trips), ∀ (k0_h4 : k0_cond4 v0 k0_t2 = 1#1), ∀ a, (k0_off225 v0 k0_t2) a + S1.size a ≤ S24.size a := fun v0 k0_hw17 k0_t2 k0_h4 => k0_hw17.2.2.2.1.2.2.2.2.2.2.2.2.2.2.2.2.2.2.2.2.2.2.1 k0_t2 k0_h4
theorem k0_off226_inb : ∀ (v0 : BitVec 32) (k0_hw17 : k0_chk17 v0) (k0_t2 : Fin (k0_t2_loop v0).trips), ∀ (k0_h4 : k0_cond4 v0 k0_t2 = 1#1), ∀ a, (k0_off226 v0 k0_t2) a + S1x1x2x128x128.size a ≤ S24x16x2x128x128.size a := fun v0 k0_hw17 k0_t2 k0_h4 => k0_hw17.2.2.2.1.2.2.2.2.2.2.2.2.2.2.2.2.2.2.2.2.2.2.2.1 k0_t2 k0_h4
theorem k0_off226_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off226 v0 k0_t2) S1x1x2x128x128.size (k0_off226_inb v0 k0_hw17 k0_t2 k0_h4)).WholeWords (EltTy.packing .fp8e4m3) := fun v0 k0_hw17 k0_t2 k0_h4 => k0_hw17.2.2.2.1.2.2.2.2.2.2.2.2.2.2.2.2.2.2.2.2.2.2.2.2.1 k0_t2 k0_h4 (k0_off226_inb v0 k0_hw17 k0_t2 k0_h4)
theorem k0_off228_inb : ∀ (v0 : BitVec 32) (k0_hw17 : k0_chk17 v0) (k0_t2 : Fin (k0_t2_loop v0).trips), ∀ (k0_h4 : k0_cond4 v0 k0_t2 = 1#1), ∀ a, (k0_off228 v0 k0_t2) a + S1x1.size a ≤ S1x1024.size a := fun v0 k0_hw17 k0_t2 k0_h4 => k0_hw17.2.2.2.1.2.2.2.2.2.2.2.2.2.2.2.2.2.2.2.2.2.2.2.2.2.1 k0_t2 k0_h4
theorem k0_off229_inb : ∀ (v0 : BitVec 32) (k0_hw17 : k0_chk17 v0) (k0_t2 : Fin (k0_t2_loop v0).trips), ∀ (k0_h4 : k0_cond4 v0 k0_t2 = 1#1), ∀ a, (k0_off229 v0 k0_t2) a + S1.size a ≤ S24.size a := fun v0 k0_hw17 k0_t2 k0_h4 => k0_hw17.2.2.2.1.2.2.2.2.2.2.2.2.2.2.2.2.2.2.2.2.2.2.2.2.2.2.1 k0_t2 k0_h4
theorem k0_off230_inb : ∀ (v0 : BitVec 32) (k0_hw17 : k0_chk17 v0) (k0_t2 : Fin (k0_t2_loop v0).trips), ∀ (k0_h4 : k0_cond4 v0 k0_t2 = 1#1), ∀ a, (k0_off230 v0 k0_t2) a + S1x1x2x128x128.size a ≤ S24x16x2x128x128.size a := fun v0 k0_hw17 k0_t2 k0_h4 => k0_hw17.2.2.2.1.2.2.2.2.2.2.2.2.2.2.2.2.2.2.2.2.2.2.2.2.2.2.2.1 k0_t2 k0_h4
theorem k0_off230_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off230 v0 k0_t2) S1x1x2x128x128.size (k0_off230_inb v0 k0_hw17 k0_t2 k0_h4)).WholeWords (EltTy.packing .fp8e4m3) := fun v0 k0_hw17 k0_t2 k0_h4 => k0_hw17.2.2.2.1.2.2.2.2.2.2.2.2.2.2.2.2.2.2.2.2.2.2.2.2.2.2.2.2.1 k0_t2 k0_h4 (k0_off230_inb v0 k0_hw17 k0_t2 k0_h4)
theorem k0_off232_inb : ∀ (v0 : BitVec 32) (k0_hw17 : k0_chk17 v0) (k0_t2 : Fin (k0_t2_loop v0).trips), ∀ (k0_h4 : k0_cond4 v0 k0_t2 = 1#1), ∀ a, (k0_off232 v0 k0_t2) a + S1x1.size a ≤ S1x1024.size a := fun v0 k0_hw17 k0_t2 k0_h4 => k0_hw17.2.2.2.1.2.2.2.2.2.2.2.2.2.2.2.2.2.2.2.2.2.2.2.2.2.2.2.2.2.1 k0_t2 k0_h4
theorem k0_off233_inb : ∀ (v0 : BitVec 32) (k0_hw17 : k0_chk17 v0) (k0_t2 : Fin (k0_t2_loop v0).trips), ∀ (k0_h4 : k0_cond4 v0 k0_t2 = 1#1), ∀ a, (k0_off233 v0 k0_t2) a + S1.size a ≤ S24.size a := fun v0 k0_hw17 k0_t2 k0_h4 => k0_hw17.2.2.2.1.2.2.2.2.2.2.2.2.2.2.2.2.2.2.2.2.2.2.2.2.2.2.2.2.2.2.1 k0_t2 k0_h4
theorem k0_off234_inb : ∀ (v0 : BitVec 32) (k0_hw17 : k0_chk17 v0) (k0_t2 : Fin (k0_t2_loop v0).trips), ∀ (k0_h4 : k0_cond4 v0 k0_t2 = 1#1), ∀ a, (k0_off234 v0 k0_t2) a + S1x1x2x128x128.size a ≤ S24x16x2x128x128.size a := fun v0 k0_hw17 k0_t2 k0_h4 => k0_hw17.2.2.2.1.2.2.2.2.2.2.2.2.2.2.2.2.2.2.2.2.2.2.2.2.2.2.2.2.2.2.2.1 k0_t2 k0_h4
theorem k0_off234_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off234 v0 k0_t2) S1x1x2x128x128.size (k0_off234_inb v0 k0_hw17 k0_t2 k0_h4)).WholeWords (EltTy.packing .fp8e4m3) := fun v0 k0_hw17 k0_t2 k0_h4 => k0_hw17.2.2.2.1.2.2.2.2.2.2.2.2.2.2.2.2.2.2.2.2.2.2.2.2.2.2.2.2.2.2.2.2.1 k0_t2 k0_h4 (k0_off234_inb v0 k0_hw17 k0_t2 k0_h4)
theorem k0_off236_inb : ∀ (v0 : BitVec 32) (k0_hw17 : k0_chk17 v0) (k0_t2 : Fin (k0_t2_loop v0).trips), ∀ (k0_h4 : k0_cond4 v0 k0_t2 = 1#1), ∀ a, (k0_off236 v0 k0_t2) a + S1x1.size a ≤ S1x1024.size a := fun v0 k0_hw17 k0_t2 k0_h4 => k0_hw17.2.2.2.1.2.2.2.2.2.2.2.2.2.2.2.2.2.2.2.2.2.2.2.2.2.2.2.2.2.2.2.2.2.1 k0_t2 k0_h4
theorem k0_off237_inb : ∀ (v0 : BitVec 32) (k0_hw17 : k0_chk17 v0) (k0_t2 : Fin (k0_t2_loop v0).trips), ∀ (k0_h4 : k0_cond4 v0 k0_t2 = 1#1), ∀ a, (k0_off237 v0 k0_t2) a + S1.size a ≤ S24.size a := fun v0 k0_hw17 k0_t2 k0_h4 => k0_hw17.2.2.2.1.2.2.2.2.2.2.2.2.2.2.2.2.2.2.2.2.2.2.2.2.2.2.2.2.2.2.2.2.2.2.1 k0_t2 k0_h4
theorem k0_off238_inb : ∀ (v0 : BitVec 32) (k0_hw17 : k0_chk17 v0) (k0_t2 : Fin (k0_t2_loop v0).trips), ∀ (k0_h4 : k0_cond4 v0 k0_t2 = 1#1), ∀ a, (k0_off238 v0 k0_t2) a + S1x1x2x128x128.size a ≤ S24x16x2x128x128.size a := fun v0 k0_hw17 k0_t2 k0_h4 => k0_hw17.2.2.2.1.2.2.2.2.2.2.2.2.2.2.2.2.2.2.2.2.2.2.2.2.2.2.2.2.2.2.2.2.2.2.2 k0_t2 k0_h4
theorem k0_off238_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off238 v0 k0_t2) S1x1x2x128x128.size (k0_off238_inb v0 k0_hw17 k0_t2 k0_h4)).WholeWords (EltTy.packing .fp8e4m3) := fun v0 k0_hw17 k0_t2 k0_h4 => k0_hw17.2.2.2.2.1.1 k0_t2 k0_h4 (k0_off238_inb v0 k0_hw17 k0_t2 k0_h4)
theorem k0_off240_inb : ∀ (v0 : BitVec 32) (k0_hw17 : k0_chk17 v0) (k0_t2 : Fin (k0_t2_loop v0).trips), ∀ (k0_h4 : k0_cond4 v0 k0_t2 = 1#1), ∀ a, (k0_off240 v0 k0_t2) a + S1x1.size a ≤ S1x1024.size a := fun v0 k0_hw17 k0_t2 k0_h4 => k0_hw17.2.2.2.2.1.2.1 k0_t2 k0_h4
theorem k0_off241_inb : ∀ (v0 : BitVec 32) (k0_hw17 : k0_chk17 v0) (k0_t2 : Fin (k0_t2_loop v0).trips), ∀ (k0_h4 : k0_cond4 v0 k0_t2 = 1#1), ∀ a, (k0_off241 v0 k0_t2) a + S1.size a ≤ S24.size a := fun v0 k0_hw17 k0_t2 k0_h4 => k0_hw17.2.2.2.2.1.2.2.1 k0_t2 k0_h4
theorem k0_off242_inb : ∀ (v0 : BitVec 32) (k0_hw17 : k0_chk17 v0) (k0_t2 : Fin (k0_t2_loop v0).trips), ∀ (k0_h4 : k0_cond4 v0 k0_t2 = 1#1), ∀ a, (k0_off242 v0 k0_t2) a + S1x1x2x128x128.size a ≤ S24x16x2x128x128.size a := fun v0 k0_hw17 k0_t2 k0_h4 => k0_hw17.2.2.2.2.1.2.2.2.1 k0_t2 k0_h4
theorem k0_off242_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off242 v0 k0_t2) S1x1x2x128x128.size (k0_off242_inb v0 k0_hw17 k0_t2 k0_h4)).WholeWords (EltTy.packing .fp8e4m3) := fun v0 k0_hw17 k0_t2 k0_h4 => k0_hw17.2.2.2.2.1.2.2.2.2.1 k0_t2 k0_h4 (k0_off242_inb v0 k0_hw17 k0_t2 k0_h4)
theorem k0_off244_inb : ∀ (v0 : BitVec 32) (k0_hw17 : k0_chk17 v0) (k0_t2 : Fin (k0_t2_loop v0).trips), ∀ (k0_h4 : k0_cond4 v0 k0_t2 = 1#1), ∀ a, (k0_off244 v0 k0_t2) a + S1x1.size a ≤ S1x1024.size a := fun v0 k0_hw17 k0_t2 k0_h4 => k0_hw17.2.2.2.2.1.2.2.2.2.2.1 k0_t2 k0_h4
theorem k0_off245_inb : ∀ (v0 : BitVec 32) (k0_hw17 : k0_chk17 v0) (k0_t2 : Fin (k0_t2_loop v0).trips), ∀ (k0_h4 : k0_cond4 v0 k0_t2 = 1#1), ∀ a, (k0_off245 v0 k0_t2) a + S1.size a ≤ S24.size a := fun v0 k0_hw17 k0_t2 k0_h4 => k0_hw17.2.2.2.2.1.2.2.2.2.2.2.1 k0_t2 k0_h4
theorem k0_off246_inb : ∀ (v0 : BitVec 32) (k0_hw17 : k0_chk17 v0) (k0_t2 : Fin (k0_t2_loop v0).trips), ∀ (k0_h4 : k0_cond4 v0 k0_t2 = 1#1), ∀ a, (k0_off246 v0 k0_t2) a + S1x1x2x128x128.size a ≤ S24x16x2x128x128.size a := fun v0 k0_hw17 k0_t2 k0_h4 => k0_hw17.2.2.2.2.1.2.2.2.2.2.2.2.1 k0_t2 k0_h4
theorem k0_off246_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off246 v0 k0_t2) S1x1x2x128x128.size (k0_off246_inb v0 k0_hw17 k0_t2 k0_h4)).WholeWords (EltTy.packing .fp8e4m3) := fun v0 k0_hw17 k0_t2 k0_h4 => k0_hw17.2.2.2.2.1.2.2.2.2.2.2.2.2.1 k0_t2 k0_h4 (k0_off246_inb v0 k0_hw17 k0_t2 k0_h4)
theorem k0_off248_inb : ∀ (v0 : BitVec 32) (k0_hw17 : k0_chk17 v0) (k0_t2 : Fin (k0_t2_loop v0).trips), ∀ (k0_h4 : k0_cond4 v0 k0_t2 = 1#1), ∀ a, (k0_off248 v0 k0_t2) a + S1x1.size a ≤ S1x1024.size a := fun v0 k0_hw17 k0_t2 k0_h4 => k0_hw17.2.2.2.2.1.2.2.2.2.2.2.2.2.2.1 k0_t2 k0_h4
theorem k0_off249_inb : ∀ (v0 : BitVec 32) (k0_hw17 : k0_chk17 v0) (k0_t2 : Fin (k0_t2_loop v0).trips), ∀ (k0_h4 : k0_cond4 v0 k0_t2 = 1#1), ∀ a, (k0_off249 v0 k0_t2) a + S1.size a ≤ S24.size a := fun v0 k0_hw17 k0_t2 k0_h4 => k0_hw17.2.2.2.2.1.2.2.2.2.2.2.2.2.2.2.1 k0_t2 k0_h4
theorem k0_off250_inb : ∀ (v0 : BitVec 32) (k0_hw17 : k0_chk17 v0) (k0_t2 : Fin (k0_t2_loop v0).trips), ∀ (k0_h4 : k0_cond4 v0 k0_t2 = 1#1), ∀ a, (k0_off250 v0 k0_t2) a + S1x1x2x128x128.size a ≤ S24x16x2x128x128.size a := fun v0 k0_hw17 k0_t2 k0_h4 => k0_hw17.2.2.2.2.1.2.2.2.2.2.2.2.2.2.2.2.1 k0_t2 k0_h4
theorem k0_off250_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off250 v0 k0_t2) S1x1x2x128x128.size (k0_off250_inb v0 k0_hw17 k0_t2 k0_h4)).WholeWords (EltTy.packing .fp8e4m3) := fun v0 k0_hw17 k0_t2 k0_h4 => k0_hw17.2.2.2.2.1.2.2.2.2.2.2.2.2.2.2.2.2.1 k0_t2 k0_h4 (k0_off250_inb v0 k0_hw17 k0_t2 k0_h4)
theorem k0_off252_inb : ∀ (v0 : BitVec 32) (k0_hw17 : k0_chk17 v0) (k0_t2 : Fin (k0_t2_loop v0).trips), ∀ (k0_h4 : k0_cond4 v0 k0_t2 = 1#1), ∀ a, (k0_off252 v0 k0_t2) a + S1x1.size a ≤ S1x1024.size a := fun v0 k0_hw17 k0_t2 k0_h4 => k0_hw17.2.2.2.2.1.2.2.2.2.2.2.2.2.2.2.2.2.2.1 k0_t2 k0_h4
theorem k0_off253_inb : ∀ (v0 : BitVec 32) (k0_hw17 : k0_chk17 v0) (k0_t2 : Fin (k0_t2_loop v0).trips), ∀ (k0_h4 : k0_cond4 v0 k0_t2 = 1#1), ∀ a, (k0_off253 v0 k0_t2) a + S1.size a ≤ S24.size a := fun v0 k0_hw17 k0_t2 k0_h4 => k0_hw17.2.2.2.2.1.2.2.2.2.2.2.2.2.2.2.2.2.2.2.1 k0_t2 k0_h4
theorem k0_off254_inb : ∀ (v0 : BitVec 32) (k0_hw17 : k0_chk17 v0) (k0_t2 : Fin (k0_t2_loop v0).trips), ∀ (k0_h4 : k0_cond4 v0 k0_t2 = 1#1), ∀ a, (k0_off254 v0 k0_t2) a + S1x1x2x128x128.size a ≤ S24x16x2x128x128.size a := fun v0 k0_hw17 k0_t2 k0_h4 => k0_hw17.2.2.2.2.1.2.2.2.2.2.2.2.2.2.2.2.2.2.2.2.1 k0_t2 k0_h4
theorem k0_off254_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off254 v0 k0_t2) S1x1x2x128x128.size (k0_off254_inb v0 k0_hw17 k0_t2 k0_h4)).WholeWords (EltTy.packing .fp8e4m3) := fun v0 k0_hw17 k0_t2 k0_h4 => k0_hw17.2.2.2.2.1.2.2.2.2.2.2.2.2.2.2.2.2.2.2.2.2.1 k0_t2 k0_h4 (k0_off254_inb v0 k0_hw17 k0_t2 k0_h4)
theorem k0_off256_inb : ∀ (v0 : BitVec 32) (k0_hw17 : k0_chk17 v0) (k0_t2 : Fin (k0_t2_loop v0).trips), ∀ (k0_h4 : k0_cond4 v0 k0_t2 = 1#1), ∀ a, (k0_off256 v0 k0_t2) a + S1x1.size a ≤ S1x1024.size a := fun v0 k0_hw17 k0_t2 k0_h4 => k0_hw17.2.2.2.2.1.2.2.2.2.2.2.2.2.2.2.2.2.2.2.2.2.2.1 k0_t2 k0_h4
theorem k0_off257_inb : ∀ (v0 : BitVec 32) (k0_hw17 : k0_chk17 v0) (k0_t2 : Fin (k0_t2_loop v0).trips), ∀ (k0_h4 : k0_cond4 v0 k0_t2 = 1#1), ∀ a, (k0_off257 v0 k0_t2) a + S1.size a ≤ S24.size a := fun v0 k0_hw17 k0_t2 k0_h4 => k0_hw17.2.2.2.2.1.2.2.2.2.2.2.2.2.2.2.2.2.2.2.2.2.2.2.1 k0_t2 k0_h4
theorem k0_off258_inb : ∀ (v0 : BitVec 32) (k0_hw17 : k0_chk17 v0) (k0_t2 : Fin (k0_t2_loop v0).trips), ∀ (k0_h4 : k0_cond4 v0 k0_t2 = 1#1), ∀ a, (k0_off258 v0 k0_t2) a + S1x1x2x128x128.size a ≤ S24x16x2x128x128.size a := fun v0 k0_hw17 k0_t2 k0_h4 => k0_hw17.2.2.2.2.1.2.2.2.2.2.2.2.2.2.2.2.2.2.2.2.2.2.2.2.1 k0_t2 k0_h4
theorem k0_off258_wordsfp8e4m3 : ∀ (v0 : BitVec 32) (k0_hw17 : k0_chk17 v0) (k0_t2 : Fin (k0_t2_loop v0).trips), ∀ (k0_h4 : k0_cond4 v0 k0_t2 = 1#1), (Rect.unit (s := S24x16x2x128x128) (k0_off258 v0 k0_t2) S1x1x2x128x128.size (k0_off258_inb v0 k0_hw17 k0_t2 k0_h4)).WholeWords (EltTy.packing .fp8e4m3) := fun v0 k0_hw17 k0_t2 k0_h4 => k0_hw17.2.2.2.2.1.2.2.2.2.2.2.2.2.2.2.2.2.2.2.2.2.2.2.2.2.1 k0_t2 k0_h4 (k0_off258_inb v0 k0_hw17 k0_t2 k0_h4)
theorem k0_mult1_dvd : ∀ (v0 : BitVec 32) (k0_hw17 : k0_chk17 v0) (k0_t2 : Fin (k0_t2_loop v0).trips), 2048 ∣ (k0_mult1 v0 k0_t2).toNat := fun v0 k0_hw17 k0_t2 => k0_hw17.2.2.2.2.1.2.2.2.2.2.2.2.2.2.2.2.2.2.2.2.2.2.2.2.2.2.1 k0_t2
theorem k0_off260_inb : ∀ (v0 : BitVec 32) (k0_hw17 : k0_chk17 v0) (k0_t2 : Fin (k0_t2_loop v0).trips), ∀ a, (k0_off260 v0 k0_t2) a + S16x2048.size a ≤ S16x131072.size a := fun v0 k0_hw17 k0_t2 => k0_hw17.2.2.2.2.1.2.2.2.2.2.2.2.2.2.2.2.2.2.2.2.2.2.2.2.2.2.2.1 k0_t2
theorem k0_t3_ok : ∀ (v0 : BitVec 32) (k0_hw17 : k0_chk17 v0), (k0_t3_loop v0).OK := fun v0 k0_hw17 => k0_hw17.2.2.2.2.1.2.2.2.2.2.2.2.2.2.2.2.2.2.2.2.2.2.2.2.2.2.2.2.1
theorem k0_off261_inb : ∀ (v0 : BitVec 32) (k0_hw17 : k0_chk17 v0) (k0_t3 : Fin (k0_t3_loop v0).trips), ∀ a, (k0_off261 v0 k0_t3) a + S1.size a ≤ S24.size a := fun v0 k0_hw17 k0_t3 => k0_hw17.2.2.2.2.1.2.2.2.2.2.2.2.2.2.2.2.2.2.2.2.2.2.2.2.2.2.2.2.2.1 k0_t3
theorem k0_off262_inb : ∀ (v0 : BitVec 32) (k0_hw17 : k0_chk17 v0) (k0_t3 : Fin (k0_t3_loop v0).trips), ∀ a, (k0_off262 v0 k0_t3) a + S1x16x2x128x128.size a ≤ S24x16x2x128x128.size a := fun v0 k0_hw17 k0_t3 => k0_hw17.2.2.2.2.1.2.2.2.2.2.2.2.2.2.2.2.2.2.2.2.2.2.2.2.2.2.2.2.2.2.1 k0_t3
theorem k0_off262_wordsfp8e4m3 : ∀ (v0 : BitVec 32) (k0_hw17 : k0_chk17 v0) (k0_t3 : Fin (k0_t3_loop v0).trips), (Rect.unit (s := S24x16x2x128x128) (k0_off262 v0 k0_t3) S1x16x2x128x128.size (k0_off262_inb v0 k0_hw17 k0_t3)).WholeWords (EltTy.packing .fp8e4m3) := fun v0 k0_hw17 k0_t3 => k0_hw17.2.2.2.2.1.2.2.2.2.2.2.2.2.2.2.2.2.2.2.2.2.2.2.2.2.2.2.2.2.2.2.1 k0_t3 (k0_off262_inb v0 k0_hw17 k0_t3)
theorem k0_off263_inb : ∀ (v0 : BitVec 32) (k0_hw17 : k0_chk17 v0) (k0_t3 : Fin (k0_t3_loop v0).trips), ∀ a, (k0_off263 v0 k0_t3) a + S1x16x2x128x128.size a ≤ S24x16x2x128x128.size a := fun v0 k0_hw17 k0_t3 => k0_hw17.2.2.2.2.1.2.2.2.2.2.2.2.2.2.2.2.2.2.2.2.2.2.2.2.2.2.2.2.2.2.2.2.1 k0_t3
theorem k0_off264_inb : ∀ (v0 : BitVec 32) (k0_hw17 : k0_chk17 v0) (k0_t3 : Fin (k0_t3_loop v0).trips), ∀ (k0_h5 : k0_cond5 v0 k0_t3 = 1#1), ∀ a, (k0_off264 v0 k0_t3) a + S1x1.size a ≤ S1x1024.size a := fun v0 k0_hw17 k0_t3 k0_h5 => k0_hw17.2.2.2.2.1.2.2.2.2.2.2.2.2.2.2.2.2.2.2.2.2.2.2.2.2.2.2.2.2.2.2.2.2.1 k0_t3 k0_h5
theorem k0_off265_inb : ∀ (v0 : BitVec 32) (k0_hw17 : k0_chk17 v0) (k0_t3 : Fin (k0_t3_loop v0).trips), ∀ (k0_h5 : k0_cond5 v0 k0_t3 = 1#1), ∀ a, (k0_off265 v0 k0_t3) a + S1.size a ≤ S24.size a := fun v0 k0_hw17 k0_t3 k0_h5 => k0_hw17.2.2.2.2.1.2.2.2.2.2.2.2.2.2.2.2.2.2.2.2.2.2.2.2.2.2.2.2.2.2.2.2.2.2.1 k0_t3 k0_h5
theorem k0_off266_inb : ∀ (v0 : BitVec 32) (k0_hw17 : k0_chk17 v0) (k0_t3 : Fin (k0_t3_loop v0).trips), ∀ (k0_h5 : k0_cond5 v0 k0_t3 = 1#1), ∀ a, (k0_off266 v0 k0_t3) a + S1x1x2x128x128.size a ≤ S24x16x2x128x128.size a := fun v0 k0_hw17 k0_t3 k0_h5 => k0_hw17.2.2.2.2.1.2.2.2.2.2.2.2.2.2.2.2.2.2.2.2.2.2.2.2.2.2.2.2.2.2.2.2.2.2.2.1 k0_t3 k0_h5
theorem k0_off266_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off266 v0 k0_t3) S1x1x2x128x128.size (k0_off266_inb v0 k0_hw17 k0_t3 k0_h5)).WholeWords (EltTy.packing .fp8e4m3) := fun v0 k0_hw17 k0_t3 k0_h5 => k0_hw17.2.2.2.2.1.2.2.2.2.2.2.2.2.2.2.2.2.2.2.2.2.2.2.2.2.2.2.2.2.2.2.2.2.2.2.2 k0_t3 k0_h5 (k0_off266_inb v0 k0_hw17 k0_t3 k0_h5)
theorem k0_off268_inb : ∀ (v0 : BitVec 32) (k0_hw17 : k0_chk17 v0) (k0_t3 : Fin (k0_t3_loop v0).trips), ∀ (k0_h5 : k0_cond5 v0 k0_t3 = 1#1), ∀ a, (k0_off268 v0 k0_t3) a + S1x1.size a ≤ S1x1024.size a := fun v0 k0_hw17 k0_t3 k0_h5 => k0_hw17.2.2.2.2.2.1.1 k0_t3 k0_h5
theorem k0_off269_inb : ∀ (v0 : BitVec 32) (k0_hw17 : k0_chk17 v0) (k0_t3 : Fin (k0_t3_loop v0).trips), ∀ (k0_h5 : k0_cond5 v0 k0_t3 = 1#1), ∀ a, (k0_off269 v0 k0_t3) a + S1.size a ≤ S24.size a := fun v0 k0_hw17 k0_t3 k0_h5 => k0_hw17.2.2.2.2.2.1.2.1 k0_t3 k0_h5
theorem k0_off270_inb : ∀ (v0 : BitVec 32) (k0_hw17 : k0_chk17 v0) (k0_t3 : Fin (k0_t3_loop v0).trips), ∀ (k0_h5 : k0_cond5 v0 k0_t3 = 1#1), ∀ a, (k0_off270 v0 k0_t3) a + S1x1x2x128x128.size a ≤ S24x16x2x128x128.size a := fun v0 k0_hw17 k0_t3 k0_h5 => k0_hw17.2.2.2.2.2.1.2.2.1 k0_t3 k0_h5
theorem k0_off270_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off270 v0 k0_t3) S1x1x2x128x128.size (k0_off270_inb v0 k0_hw17 k0_t3 k0_h5)).WholeWords (EltTy.packing .fp8e4m3) := fun v0 k0_hw17 k0_t3 k0_h5 => k0_hw17.2.2.2.2.2.1.2.2.2.1 k0_t3 k0_h5 (k0_off270_inb v0 k0_hw17 k0_t3 k0_h5)
theorem k0_off272_inb : ∀ (v0 : BitVec 32) (k0_hw17 : k0_chk17 v0) (k0_t3 : Fin (k0_t3_loop v0).trips), ∀ (k0_h5 : k0_cond5 v0 k0_t3 = 1#1), ∀ a, (k0_off272 v0 k0_t3) a + S1x1.size a ≤ S1x1024.size a := fun v0 k0_hw17 k0_t3 k0_h5 => k0_hw17.2.2.2.2.2.1.2.2.2.2.1 k0_t3 k0_h5
theorem k0_off273_inb : ∀ (v0 : BitVec 32) (k0_hw17 : k0_chk17 v0) (k0_t3 : Fin (k0_t3_loop v0).trips), ∀ (k0_h5 : k0_cond5 v0 k0_t3 = 1#1), ∀ a, (k0_off273 v0 k0_t3) a + S1.size a ≤ S24.size a := fun v0 k0_hw17 k0_t3 k0_h5 => k0_hw17.2.2.2.2.2.1.2.2.2.2.2.1 k0_t3 k0_h5
theorem k0_off274_inb : ∀ (v0 : BitVec 32) (k0_hw17 : k0_chk17 v0) (k0_t3 : Fin (k0_t3_loop v0).trips), ∀ (k0_h5 : k0_cond5 v0 k0_t3 = 1#1), ∀ a, (k0_off274 v0 k0_t3) a + S1x1x2x128x128.size a ≤ S24x16x2x128x128.size a := fun v0 k0_hw17 k0_t3 k0_h5 => k0_hw17.2.2.2.2.2.1.2.2.2.2.2.2.1 k0_t3 k0_h5
theorem k0_off274_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off274 v0 k0_t3) S1x1x2x128x128.size (k0_off274_inb v0 k0_hw17 k0_t3 k0_h5)).WholeWords (EltTy.packing .fp8e4m3) := fun v0 k0_hw17 k0_t3 k0_h5 => k0_hw17.2.2.2.2.2.1.2.2.2.2.2.2.2.1 k0_t3 k0_h5 (k0_off274_inb v0 k0_hw17 k0_t3 k0_h5)
theorem k0_off276_inb : ∀ (v0 : BitVec 32) (k0_hw17 : k0_chk17 v0) (k0_t3 : Fin (k0_t3_loop v0).trips), ∀ (k0_h5 : k0_cond5 v0 k0_t3 = 1#1), ∀ a, (k0_off276 v0 k0_t3) a + S1x1.size a ≤ S1x1024.size a := fun v0 k0_hw17 k0_t3 k0_h5 => k0_hw17.2.2.2.2.2.1.2.2.2.2.2.2.2.2.1 k0_t3 k0_h5
theorem k0_off277_inb : ∀ (v0 : BitVec 32) (k0_hw17 : k0_chk17 v0) (k0_t3 : Fin (k0_t3_loop v0).trips), ∀ (k0_h5 : k0_cond5 v0 k0_t3 = 1#1), ∀ a, (k0_off277 v0 k0_t3) a + S1.size a ≤ S24.size a := fun v0 k0_hw17 k0_t3 k0_h5 => k0_hw17.2.2.2.2.2.1.2.2.2.2.2.2.2.2.2.1 k0_t3 k0_h5
theorem k0_off278_inb : ∀ (v0 : BitVec 32) (k0_hw17 : k0_chk17 v0) (k0_t3 : Fin (k0_t3_loop v0).trips), ∀ (k0_h5 : k0_cond5 v0 k0_t3 = 1#1), ∀ a, (k0_off278 v0 k0_t3) a + S1x1x2x128x128.size a ≤ S24x16x2x128x128.size a := fun v0 k0_hw17 k0_t3 k0_h5 => k0_hw17.2.2.2.2.2.1.2.2.2.2.2.2.2.2.2.2.1 k0_t3 k0_h5
theorem k0_off278_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off278 v0 k0_t3) S1x1x2x128x128.size (k0_off278_inb v0 k0_hw17 k0_t3 k0_h5)).WholeWords (EltTy.packing .fp8e4m3) := fun v0 k0_hw17 k0_t3 k0_h5 => k0_hw17.2.2.2.2.2.1.2.2.2.2.2.2.2.2.2.2.2.1 k0_t3 k0_h5 (k0_off278_inb v0 k0_hw17 k0_t3 k0_h5)
theorem k0_off280_inb : ∀ (v0 : BitVec 32) (k0_hw17 : k0_chk17 v0) (k0_t3 : Fin (k0_t3_loop v0).trips), ∀ (k0_h5 : k0_cond5 v0 k0_t3 = 1#1), ∀ a, (k0_off280 v0 k0_t3) a + S1x1.size a ≤ S1x1024.size a := fun v0 k0_hw17 k0_t3 k0_h5 => k0_hw17.2.2.2.2.2.1.2.2.2.2.2.2.2.2.2.2.2.2.1 k0_t3 k0_h5
theorem k0_off281_inb : ∀ (v0 : BitVec 32) (k0_hw17 : k0_chk17 v0) (k0_t3 : Fin (k0_t3_loop v0).trips), ∀ (k0_h5 : k0_cond5 v0 k0_t3 = 1#1), ∀ a, (k0_off281 v0 k0_t3) a + S1.size a ≤ S24.size a := fun v0 k0_hw17 k0_t3 k0_h5 => k0_hw17.2.2.2.2.2.1.2.2.2.2.2.2.2.2.2.2.2.2.2.1 k0_t3 k0_h5
theorem k0_off282_inb : ∀ (v0 : BitVec 32) (k0_hw17 : k0_chk17 v0) (k0_t3 : Fin (k0_t3_loop v0).trips), ∀ (k0_h5 : k0_cond5 v0 k0_t3 = 1#1), ∀ a, (k0_off282 v0 k0_t3) a + S1x1x2x128x128.size a ≤ S24x16x2x128x128.size a := fun v0 k0_hw17 k0_t3 k0_h5 => k0_hw17.2.2.2.2.2.1.2.2.2.2.2.2.2.2.2.2.2.2.2.2.1 k0_t3 k0_h5
theorem k0_off282_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off282 v0 k0_t3) S1x1x2x128x128.size (k0_off282_inb v0 k0_hw17 k0_t3 k0_h5)).WholeWords (EltTy.packing .fp8e4m3) := fun v0 k0_hw17 k0_t3 k0_h5 => k0_hw17.2.2.2.2.2.1.2.2.2.2.2.2.2.2.2.2.2.2.2.2.2.1 k0_t3 k0_h5 (k0_off282_inb v0 k0_hw17 k0_t3 k0_h5)
theorem k0_off284_inb : ∀ (v0 : BitVec 32) (k0_hw17 : k0_chk17 v0) (k0_t3 : Fin (k0_t3_loop v0).trips), ∀ (k0_h5 : k0_cond5 v0 k0_t3 = 1#1), ∀ a, (k0_off284 v0 k0_t3) a + S1x1.size a ≤ S1x1024.size a := fun v0 k0_hw17 k0_t3 k0_h5 => k0_hw17.2.2.2.2.2.1.2.2.2.2.2.2.2.2.2.2.2.2.2.2.2.2.1 k0_t3 k0_h5
theorem k0_off285_inb : ∀ (v0 : BitVec 32) (k0_hw17 : k0_chk17 v0) (k0_t3 : Fin (k0_t3_loop v0).trips), ∀ (k0_h5 : k0_cond5 v0 k0_t3 = 1#1), ∀ a, (k0_off285 v0 k0_t3) a + S1.size a ≤ S24.size a := fun v0 k0_hw17 k0_t3 k0_h5 => k0_hw17.2.2.2.2.2.1.2.2.2.2.2.2.2.2.2.2.2.2.2.2.2.2.2.1 k0_t3 k0_h5
theorem k0_off286_inb : ∀ (v0 : BitVec 32) (k0_hw17 : k0_chk17 v0) (k0_t3 : Fin (k0_t3_loop v0).trips), ∀ (k0_h5 : k0_cond5 v0 k0_t3 = 1#1), ∀ a, (k0_off286 v0 k0_t3) a + S1x1x2x128x128.size a ≤ S24x16x2x128x128.size a := fun v0 k0_hw17 k0_t3 k0_h5 => k0_hw17.2.2.2.2.2.1.2.2.2.2.2.2.2.2.2.2.2.2.2.2.2.2.2.2.1 k0_t3 k0_h5
theorem k0_off286_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off286 v0 k0_t3) S1x1x2x128x128.size (k0_off286_inb v0 k0_hw17 k0_t3 k0_h5)).WholeWords (EltTy.packing .fp8e4m3) := fun v0 k0_hw17 k0_t3 k0_h5 => k0_hw17.2.2.2.2.2.1.2.2.2.2.2.2.2.2.2.2.2.2.2.2.2.2.2.2.2.1 k0_t3 k0_h5 (k0_off286_inb v0 k0_hw17 k0_t3 k0_h5)
theorem k0_off288_inb : ∀ (v0 : BitVec 32) (k0_hw17 : k0_chk17 v0) (k0_t3 : Fin (k0_t3_loop v0).trips), ∀ (k0_h5 : k0_cond5 v0 k0_t3 = 1#1), ∀ a, (k0_off288 v0 k0_t3) a + S1x1.size a ≤ S1x1024.size a := fun v0 k0_hw17 k0_t3 k0_h5 => k0_hw17.2.2.2.2.2.1.2.2.2.2.2.2.2.2.2.2.2.2.2.2.2.2.2.2.2.2.1 k0_t3 k0_h5
theorem k0_off289_inb : ∀ (v0 : BitVec 32) (k0_hw17 : k0_chk17 v0) (k0_t3 : Fin (k0_t3_loop v0).trips), ∀ (k0_h5 : k0_cond5 v0 k0_t3 = 1#1), ∀ a, (k0_off289 v0 k0_t3) a + S1.size a ≤ S24.size a := fun v0 k0_hw17 k0_t3 k0_h5 => k0_hw17.2.2.2.2.2.1.2.2.2.2.2.2.2.2.2.2.2.2.2.2.2.2.2.2.2.2.2.1 k0_t3 k0_h5
theorem k0_off290_inb : ∀ (v0 : BitVec 32) (k0_hw17 : k0_chk17 v0) (k0_t3 : Fin (k0_t3_loop v0).trips), ∀ (k0_h5 : k0_cond5 v0 k0_t3 = 1#1), ∀ a, (k0_off290 v0 k0_t3) a + S1x1x2x128x128.size a ≤ S24x16x2x128x128.size a := fun v0 k0_hw17 k0_t3 k0_h5 => k0_hw17.2.2.2.2.2.1.2.2.2.2.2.2.2.2.2.2.2.2.2.2.2.2.2.2.2.2.2.2.1 k0_t3 k0_h5
theorem k0_off290_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off290 v0 k0_t3) S1x1x2x128x128.size (k0_off290_inb v0 k0_hw17 k0_t3 k0_h5)).WholeWords (EltTy.packing .fp8e4m3) := fun v0 k0_hw17 k0_t3 k0_h5 => k0_hw17.2.2.2.2.2.1.2.2.2.2.2.2.2.2.2.2.2.2.2.2.2.2.2.2.2.2.2.2.2.1 k0_t3 k0_h5 (k0_off290_inb v0 k0_hw17 k0_t3 k0_h5)
theorem k0_off292_inb : ∀ (v0 : BitVec 32) (k0_hw17 : k0_chk17 v0) (k0_t3 : Fin (k0_t3_loop v0).trips), ∀ (k0_h5 : k0_cond5 v0 k0_t3 = 1#1), ∀ a, (k0_off292 v0 k0_t3) a + S1x1.size a ≤ S1x1024.size a := fun v0 k0_hw17 k0_t3 k0_h5 => k0_hw17.2.2.2.2.2.1.2.2.2.2.2.2.2.2.2.2.2.2.2.2.2.2.2.2.2.2.2.2.2.2.1 k0_t3 k0_h5
theorem k0_off293_inb : ∀ (v0 : BitVec 32) (k0_hw17 : k0_chk17 v0) (k0_t3 : Fin (k0_t3_loop v0).trips), ∀ (k0_h5 : k0_cond5 v0 k0_t3 = 1#1), ∀ a, (k0_off293 v0 k0_t3) a + S1.size a ≤ S24.size a := fun v0 k0_hw17 k0_t3 k0_h5 => k0_hw17.2.2.2.2.2.1.2.2.2.2.2.2.2.2.2.2.2.2.2.2.2.2.2.2.2.2.2.2.2.2.2.1 k0_t3 k0_h5
theorem k0_off294_inb : ∀ (v0 : BitVec 32) (k0_hw17 : k0_chk17 v0) (k0_t3 : Fin (k0_t3_loop v0).trips), ∀ (k0_h5 : k0_cond5 v0 k0_t3 = 1#1), ∀ a, (k0_off294 v0 k0_t3) a + S1x1x2x128x128.size a ≤ S24x16x2x128x128.size a := fun v0 k0_hw17 k0_t3 k0_h5 => k0_hw17.2.2.2.2.2.1.2.2.2.2.2.2.2.2.2.2.2.2.2.2.2.2.2.2.2.2.2.2.2.2.2.2.1 k0_t3 k0_h5
theorem k0_off294_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off294 v0 k0_t3) S1x1x2x128x128.size (k0_off294_inb v0 k0_hw17 k0_t3 k0_h5)).WholeWords (EltTy.packing .fp8e4m3) := fun v0 k0_hw17 k0_t3 k0_h5 => k0_hw17.2.2.2.2.2.1.2.2.2.2.2.2.2.2.2.2.2.2.2.2.2.2.2.2.2.2.2.2.2.2.2.2.2.1 k0_t3 k0_h5 (k0_off294_inb v0 k0_hw17 k0_t3 k0_h5)
theorem k0_off296_inb : ∀ (v0 : BitVec 32) (k0_hw17 : k0_chk17 v0) (k0_t3 : Fin (k0_t3_loop v0).trips), ∀ (k0_h5 : k0_cond5 v0 k0_t3 = 1#1), ∀ a, (k0_off296 v0 k0_t3) a + S1x1.size a ≤ S1x1024.size a := fun v0 k0_hw17 k0_t3 k0_h5 => k0_hw17.2.2.2.2.2.1.2.2.2.2.2.2.2.2.2.2.2.2.2.2.2.2.2.2.2.2.2.2.2.2.2.2.2.2.1 k0_t3 k0_h5
theorem k0_off297_inb : ∀ (v0 : BitVec 32) (k0_hw17 : k0_chk17 v0) (k0_t3 : Fin (k0_t3_loop v0).trips), ∀ (k0_h5 : k0_cond5 v0 k0_t3 = 1#1), ∀ a, (k0_off297 v0 k0_t3) a + S1.size a ≤ S24.size a := fun v0 k0_hw17 k0_t3 k0_h5 => k0_hw17.2.2.2.2.2.1.2.2.2.2.2.2.2.2.2.2.2.2.2.2.2.2.2.2.2.2.2.2.2.2.2.2.2.2.2.1 k0_t3 k0_h5
theorem k0_off298_inb : ∀ (v0 : BitVec 32) (k0_hw17 : k0_chk17 v0) (k0_t3 : Fin (k0_t3_loop v0).trips), ∀ (k0_h5 : k0_cond5 v0 k0_t3 = 1#1), ∀ a, (k0_off298 v0 k0_t3) a + S1x1x2x128x128.size a ≤ S24x16x2x128x128.size a := fun v0 k0_hw17 k0_t3 k0_h5 => k0_hw17.2.2.2.2.2.1.2.2.2.2.2.2.2.2.2.2.2.2.2.2.2.2.2.2.2.2.2.2.2.2.2.2.2.2.2.2.1 k0_t3 k0_h5
theorem k0_off298_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off298 v0 k0_t3) S1x1x2x128x128.size (k0_off298_inb v0 k0_hw17 k0_t3 k0_h5)).WholeWords (EltTy.packing .fp8e4m3) := fun v0 k0_hw17 k0_t3 k0_h5 => k0_hw17.2.2.2.2.2.1.2.2.2.2.2.2.2.2.2.2.2.2.2.2.2.2.2.2.2.2.2.2.2.2.2.2.2.2.2.2.2 k0_t3 k0_h5 (k0_off298_inb v0 k0_hw17 k0_t3 k0_h5)
theorem k0_off300_inb : ∀ (v0 : BitVec 32) (k0_hw17 : k0_chk17 v0) (k0_t3 : Fin (k0_t3_loop v0).trips), ∀ (k0_h5 : k0_cond5 v0 k0_t3 = 1#1), ∀ a, (k0_off300 v0 k0_t3) a + S1x1.size a ≤ S1x1024.size a := fun v0 k0_hw17 k0_t3 k0_h5 => k0_hw17.2.2.2.2.2.2.1.1 k0_t3 k0_h5
theorem k0_off301_inb : ∀ (v0 : BitVec 32) (k0_hw17 : k0_chk17 v0) (k0_t3 : Fin (k0_t3_loop v0).trips), ∀ (k0_h5 : k0_cond5 v0 k0_t3 = 1#1), ∀ a, (k0_off301 v0 k0_t3) a + S1.size a ≤ S24.size a := fun v0 k0_hw17 k0_t3 k0_h5 => k0_hw17.2.2.2.2.2.2.1.2.1 k0_t3 k0_h5
theorem k0_off302_inb : ∀ (v0 : BitVec 32) (k0_hw17 : k0_chk17 v0) (k0_t3 : Fin (k0_t3_loop v0).trips), ∀ (k0_h5 : k0_cond5 v0 k0_t3 = 1#1), ∀ a, (k0_off302 v0 k0_t3) a + S1x1x2x128x128.size a ≤ S24x16x2x128x128.size a := fun v0 k0_hw17 k0_t3 k0_h5 => k0_hw17.2.2.2.2.2.2.1.2.2.1 k0_t3 k0_h5
theorem k0_off302_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off302 v0 k0_t3) S1x1x2x128x128.size (k0_off302_inb v0 k0_hw17 k0_t3 k0_h5)).WholeWords (EltTy.packing .fp8e4m3) := fun v0 k0_hw17 k0_t3 k0_h5 => k0_hw17.2.2.2.2.2.2.1.2.2.2.1 k0_t3 k0_h5 (k0_off302_inb v0 k0_hw17 k0_t3 k0_h5)
theorem k0_off304_inb : ∀ (v0 : BitVec 32) (k0_hw17 : k0_chk17 v0) (k0_t3 : Fin (k0_t3_loop v0).trips), ∀ (k0_h5 : k0_cond5 v0 k0_t3 = 1#1), ∀ a, (k0_off304 v0 k0_t3) a + S1x1.size a ≤ S1x1024.size a := fun v0 k0_hw17 k0_t3 k0_h5 => k0_hw17.2.2.2.2.2.2.1.2.2.2.2.1 k0_t3 k0_h5
theorem k0_off305_inb : ∀ (v0 : BitVec 32) (k0_hw17 : k0_chk17 v0) (k0_t3 : Fin (k0_t3_loop v0).trips), ∀ (k0_h5 : k0_cond5 v0 k0_t3 = 1#1), ∀ a, (k0_off305 v0 k0_t3) a + S1.size a ≤ S24.size a := fun v0 k0_hw17 k0_t3 k0_h5 => k0_hw17.2.2.2.2.2.2.1.2.2.2.2.2.1 k0_t3 k0_h5
theorem k0_off306_inb : ∀ (v0 : BitVec 32) (k0_hw17 : k0_chk17 v0) (k0_t3 : Fin (k0_t3_loop v0).trips), ∀ (k0_h5 : k0_cond5 v0 k0_t3 = 1#1), ∀ a, (k0_off306 v0 k0_t3) a + S1x1x2x128x128.size a ≤ S24x16x2x128x128.size a := fun v0 k0_hw17 k0_t3 k0_h5 => k0_hw17.2.2.2.2.2.2.1.2.2.2.2.2.2.1 k0_t3 k0_h5
theorem k0_off306_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off306 v0 k0_t3) S1x1x2x128x128.size (k0_off306_inb v0 k0_hw17 k0_t3 k0_h5)).WholeWords (EltTy.packing .fp8e4m3) := fun v0 k0_hw17 k0_t3 k0_h5 => k0_hw17.2.2.2.2.2.2.1.2.2.2.2.2.2.2.1 k0_t3 k0_h5 (k0_off306_inb v0 k0_hw17 k0_t3 k0_h5)
theorem k0_off308_inb : ∀ (v0 : BitVec 32) (k0_hw17 : k0_chk17 v0) (k0_t3 : Fin (k0_t3_loop v0).trips), ∀ (k0_h5 : k0_cond5 v0 k0_t3 = 1#1), ∀ a, (k0_off308 v0 k0_t3) a + S1x1.size a ≤ S1x1024.size a := fun v0 k0_hw17 k0_t3 k0_h5 => k0_hw17.2.2.2.2.2.2.1.2.2.2.2.2.2.2.2.1 k0_t3 k0_h5
theorem k0_off309_inb : ∀ (v0 : BitVec 32) (k0_hw17 : k0_chk17 v0) (k0_t3 : Fin (k0_t3_loop v0).trips), ∀ (k0_h5 : k0_cond5 v0 k0_t3 = 1#1), ∀ a, (k0_off309 v0 k0_t3) a + S1.size a ≤ S24.size a := fun v0 k0_hw17 k0_t3 k0_h5 => k0_hw17.2.2.2.2.2.2.1.2.2.2.2.2.2.2.2.2.1 k0_t3 k0_h5
theorem k0_off310_inb : ∀ (v0 : BitVec 32) (k0_hw17 : k0_chk17 v0) (k0_t3 : Fin (k0_t3_loop v0).trips), ∀ (k0_h5 : k0_cond5 v0 k0_t3 = 1#1), ∀ a, (k0_off310 v0 k0_t3) a + S1x1x2x128x128.size a ≤ S24x16x2x128x128.size a := fun v0 k0_hw17 k0_t3 k0_h5 => k0_hw17.2.2.2.2.2.2.1.2.2.2.2.2.2.2.2.2.2.1 k0_t3 k0_h5
theorem k0_off310_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off310 v0 k0_t3) S1x1x2x128x128.size (k0_off310_inb v0 k0_hw17 k0_t3 k0_h5)).WholeWords (EltTy.packing .fp8e4m3) := fun v0 k0_hw17 k0_t3 k0_h5 => k0_hw17.2.2.2.2.2.2.1.2.2.2.2.2.2.2.2.2.2.2.1 k0_t3 k0_h5 (k0_off310_inb v0 k0_hw17 k0_t3 k0_h5)
theorem k0_off312_inb : ∀ (v0 : BitVec 32) (k0_hw17 : k0_chk17 v0) (k0_t3 : Fin (k0_t3_loop v0).trips), ∀ (k0_h5 : k0_cond5 v0 k0_t3 = 1#1), ∀ a, (k0_off312 v0 k0_t3) a + S1x1.size a ≤ S1x1024.size a := fun v0 k0_hw17 k0_t3 k0_h5 => k0_hw17.2.2.2.2.2.2.1.2.2.2.2.2.2.2.2.2.2.2.2.1 k0_t3 k0_h5
theorem k0_off313_inb : ∀ (v0 : BitVec 32) (k0_hw17 : k0_chk17 v0) (k0_t3 : Fin (k0_t3_loop v0).trips), ∀ (k0_h5 : k0_cond5 v0 k0_t3 = 1#1), ∀ a, (k0_off313 v0 k0_t3) a + S1.size a ≤ S24.size a := fun v0 k0_hw17 k0_t3 k0_h5 => k0_hw17.2.2.2.2.2.2.1.2.2.2.2.2.2.2.2.2.2.2.2.2.1 k0_t3 k0_h5
theorem k0_off314_inb : ∀ (v0 : BitVec 32) (k0_hw17 : k0_chk17 v0) (k0_t3 : Fin (k0_t3_loop v0).trips), ∀ (k0_h5 : k0_cond5 v0 k0_t3 = 1#1), ∀ a, (k0_off314 v0 k0_t3) a + S1x1x2x128x128.size a ≤ S24x16x2x128x128.size a := fun v0 k0_hw17 k0_t3 k0_h5 => k0_hw17.2.2.2.2.2.2.1.2.2.2.2.2.2.2.2.2.2.2.2.2.2.1 k0_t3 k0_h5
theorem k0_off314_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off314 v0 k0_t3) S1x1x2x128x128.size (k0_off314_inb v0 k0_hw17 k0_t3 k0_h5)).WholeWords (EltTy.packing .fp8e4m3) := fun v0 k0_hw17 k0_t3 k0_h5 => k0_hw17.2.2.2.2.2.2.1.2.2.2.2.2.2.2.2.2.2.2.2.2.2.2.1 k0_t3 k0_h5 (k0_off314_inb v0 k0_hw17 k0_t3 k0_h5)
theorem k0_off316_inb : ∀ (v0 : BitVec 32) (k0_hw17 : k0_chk17 v0) (k0_t3 : Fin (k0_t3_loop v0).trips), ∀ (k0_h5 : k0_cond5 v0 k0_t3 = 1#1), ∀ a, (k0_off316 v0 k0_t3) a + S1x1.size a ≤ S1x1024.size a := fun v0 k0_hw17 k0_t3 k0_h5 => k0_hw17.2.2.2.2.2.2.1.2.2.2.2.2.2.2.2.2.2.2.2.2.2.2.2.1 k0_t3 k0_h5
theorem k0_off317_inb : ∀ (v0 : BitVec 32) (k0_hw17 : k0_chk17 v0) (k0_t3 : Fin (k0_t3_loop v0).trips), ∀ (k0_h5 : k0_cond5 v0 k0_t3 = 1#1), ∀ a, (k0_off317 v0 k0_t3) a + S1.size a ≤ S24.size a := fun v0 k0_hw17 k0_t3 k0_h5 => k0_hw17.2.2.2.2.2.2.1.2.2.2.2.2.2.2.2.2.2.2.2.2.2.2.2.2.1 k0_t3 k0_h5
theorem k0_off318_inb : ∀ (v0 : BitVec 32) (k0_hw17 : k0_chk17 v0) (k0_t3 : Fin (k0_t3_loop v0).trips), ∀ (k0_h5 : k0_cond5 v0 k0_t3 = 1#1), ∀ a, (k0_off318 v0 k0_t3) a + S1x1x2x128x128.size a ≤ S24x16x2x128x128.size a := fun v0 k0_hw17 k0_t3 k0_h5 => k0_hw17.2.2.2.2.2.2.1.2.2.2.2.2.2.2.2.2.2.2.2.2.2.2.2.2.2.1 k0_t3 k0_h5
theorem k0_off318_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off318 v0 k0_t3) S1x1x2x128x128.size (k0_off318_inb v0 k0_hw17 k0_t3 k0_h5)).WholeWords (EltTy.packing .fp8e4m3) := fun v0 k0_hw17 k0_t3 k0_h5 => k0_hw17.2.2.2.2.2.2.1.2.2.2.2.2.2.2.2.2.2.2.2.2.2.2.2.2.2.2.1 k0_t3 k0_h5 (k0_off318_inb v0 k0_hw17 k0_t3 k0_h5)
theorem k0_off320_inb : ∀ (v0 : BitVec 32) (k0_hw17 : k0_chk17 v0) (k0_t3 : Fin (k0_t3_loop v0).trips), ∀ (k0_h5 : k0_cond5 v0 k0_t3 = 1#1), ∀ a, (k0_off320 v0 k0_t3) a + S1x1.size a ≤ S1x1024.size a := fun v0 k0_hw17 k0_t3 k0_h5 => k0_hw17.2.2.2.2.2.2.1.2.2.2.2.2.2.2.2.2.2.2.2.2.2.2.2.2.2.2.2.1 k0_t3 k0_h5
theorem k0_off321_inb : ∀ (v0 : BitVec 32) (k0_hw17 : k0_chk17 v0) (k0_t3 : Fin (k0_t3_loop v0).trips), ∀ (k0_h5 : k0_cond5 v0 k0_t3 = 1#1), ∀ a, (k0_off321 v0 k0_t3) a + S1.size a ≤ S24.size a := fun v0 k0_hw17 k0_t3 k0_h5 => k0_hw17.2.2.2.2.2.2.1.2.2.2.2.2.2.2.2.2.2.2.2.2.2.2.2.2.2.2.2.2.1 k0_t3 k0_h5
theorem k0_off322_inb : ∀ (v0 : BitVec 32) (k0_hw17 : k0_chk17 v0) (k0_t3 : Fin (k0_t3_loop v0).trips), ∀ (k0_h5 : k0_cond5 v0 k0_t3 = 1#1), ∀ a, (k0_off322 v0 k0_t3) a + S1x1x2x128x128.size a ≤ S24x16x2x128x128.size a := fun v0 k0_hw17 k0_t3 k0_h5 => k0_hw17.2.2.2.2.2.2.1.2.2.2.2.2.2.2.2.2.2.2.2.2.2.2.2.2.2.2.2.2.2.1 k0_t3 k0_h5
theorem k0_off322_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off322 v0 k0_t3) S1x1x2x128x128.size (k0_off322_inb v0 k0_hw17 k0_t3 k0_h5)).WholeWords (EltTy.packing .fp8e4m3) := fun v0 k0_hw17 k0_t3 k0_h5 => k0_hw17.2.2.2.2.2.2.1.2.2.2.2.2.2.2.2.2.2.2.2.2.2.2.2.2.2.2.2.2.2.2.1 k0_t3 k0_h5 (k0_off322_inb v0 k0_hw17 k0_t3 k0_h5)
theorem k0_off324_inb : ∀ (v0 : BitVec 32) (k0_hw17 : k0_chk17 v0) (k0_t3 : Fin (k0_t3_loop v0).trips), ∀ (k0_h5 : k0_cond5 v0 k0_t3 = 1#1), ∀ a, (k0_off324 v0 k0_t3) a + S1x1.size a ≤ S1x1024.size a := fun v0 k0_hw17 k0_t3 k0_h5 => k0_hw17.2.2.2.2.2.2.1.2.2.2.2.2.2.2.2.2.2.2.2.2.2.2.2.2.2.2.2.2.2.2.2.1 k0_t3 k0_h5
theorem k0_off325_inb : ∀ (v0 : BitVec 32) (k0_hw17 : k0_chk17 v0) (k0_t3 : Fin (k0_t3_loop v0).trips), ∀ (k0_h5 : k0_cond5 v0 k0_t3 = 1#1), ∀ a, (k0_off325 v0 k0_t3) a + S1.size a ≤ S24.size a := fun v0 k0_hw17 k0_t3 k0_h5 => k0_hw17.2.2.2.2.2.2.1.2.2.2.2.2.2.2.2.2.2.2.2.2.2.2.2.2.2.2.2.2.2.2.2.2.1 k0_t3 k0_h5
theorem k0_off326_inb : ∀ (v0 : BitVec 32) (k0_hw17 : k0_chk17 v0) (k0_t3 : Fin (k0_t3_loop v0).trips), ∀ (k0_h5 : k0_cond5 v0 k0_t3 = 1#1), ∀ a, (k0_off326 v0 k0_t3) a + S1x1x2x128x128.size a ≤ S24x16x2x128x128.size a := fun v0 k0_hw17 k0_t3 k0_h5 => k0_hw17.2.2.2.2.2.2.1.2.2.2.2.2.2.2.2.2.2.2.2.2.2.2.2.2.2.2.2.2.2.2.2.2.2.1 k0_t3 k0_h5
theorem k0_off326_wordsfp8e4m3 : ∀ (v0 : BitVec 32) (k0_hw17 : k0_chk17 v0) (k0_t3 : Fin (k0_t3_loop v0).trips), ∀ (k0_h5 : k0_cond5 v0 k0_t3 = 1#1), (Rect.unit (s := S24x16x2x128x128) (k0_off326 v0 k0_t3) S1x1x2x128x128.size (k0_off326_inb v0 k0_hw17 k0_t3 k0_h5)).WholeWords (EltTy.packing .fp8e4m3) := fun v0 k0_hw17 k0_t3 k0_h5 => k0_hw17.2.2.2.2.2.2.1.2.2.2.2.2.2.2.2.2.2.2.2.2.2.2.2.2.2.2.2.2.2.2.2.2.2.2.1 k0_t3 k0_h5 (k0_off326_inb v0 k0_hw17 k0_t3 k0_h5)
theorem k0_off328_inb : ∀ (v0 : BitVec 32) (k0_hw17 : k0_chk17 v0) (k0_t3 : Fin (k0_t3_loop v0).trips), ∀ (k0_h6 : k0_cond6 v0 k0_t3 = 1#1), ∀ a, (k0_off328 v0 k0_t3) a + S1x1.size a ≤ S1x1024.size a := fun v0 k0_hw17 k0_t3 k0_h6 => k0_hw17.2.2.2.2.2.2.1.2.2.2.2.2.2.2.2.2.2.2.2.2.2.2.2.2.2.2.2.2.2.2.2.2.2.2.2.1 k0_t3 k0_h6
theorem k0_off329_inb : ∀ (v0 : BitVec 32) (k0_hw17 : k0_chk17 v0) (k0_t3 : Fin (k0_t3_loop v0).trips), ∀ (k0_h6 : k0_cond6 v0 k0_t3 = 1#1), ∀ a, (k0_off329 v0 k0_t3) a + S1.size a ≤ S24.size a := fun v0 k0_hw17 k0_t3 k0_h6 => k0_hw17.2.2.2.2.2.2.1.2.2.2.2.2.2.2.2.2.2.2.2.2.2.2.2.2.2.2.2.2.2.2.2.2.2.2.2.2.1 k0_t3 k0_h6
theorem k0_off330_inb : ∀ (v0 : BitVec 32) (k0_hw17 : k0_chk17 v0) (k0_t3 : Fin (k0_t3_loop v0).trips), ∀ (k0_h6 : k0_cond6 v0 k0_t3 = 1#1), ∀ a, (k0_off330 v0 k0_t3) a + S1x1x2x128x128.size a ≤ S24x16x2x128x128.size a := fun v0 k0_hw17 k0_t3 k0_h6 => k0_hw17.2.2.2.2.2.2.1.2.2.2.2.2.2.2.2.2.2.2.2.2.2.2.2.2.2.2.2.2.2.2.2.2.2.2.2.2.2.1 k0_t3 k0_h6
theorem k0_off330_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off330 v0 k0_t3) S1x1x2x128x128.size (k0_off330_inb v0 k0_hw17 k0_t3 k0_h6)).WholeWords (EltTy.packing .fp8e4m3) := fun v0 k0_hw17 k0_t3 k0_h6 => k0_hw17.2.2.2.2.2.2.1.2.2.2.2.2.2.2.2.2.2.2.2.2.2.2.2.2.2.2.2.2.2.2.2.2.2.2.2.2.2.2 k0_t3 k0_h6 (k0_off330_inb v0 k0_hw17 k0_t3 k0_h6)
theorem k0_off332_inb : ∀ (v0 : BitVec 32) (k0_hw17 : k0_chk17 v0) (k0_t3 : Fin (k0_t3_loop v0).trips), ∀ (k0_h6 : k0_cond6 v0 k0_t3 = 1#1), ∀ a, (k0_off332 v0 k0_t3) a + S1x1.size a ≤ S1x1024.size a := fun v0 k0_hw17 k0_t3 k0_h6 => k0_hw17.2.2.2.2.2.2.2.1.1 k0_t3 k0_h6
theorem k0_off333_inb : ∀ (v0 : BitVec 32) (k0_hw17 : k0_chk17 v0) (k0_t3 : Fin (k0_t3_loop v0).trips), ∀ (k0_h6 : k0_cond6 v0 k0_t3 = 1#1), ∀ a, (k0_off333 v0 k0_t3) a + S1.size a ≤ S24.size a := fun v0 k0_hw17 k0_t3 k0_h6 => k0_hw17.2.2.2.2.2.2.2.1.2.1 k0_t3 k0_h6
theorem k0_off334_inb : ∀ (v0 : BitVec 32) (k0_hw17 : k0_chk17 v0) (k0_t3 : Fin (k0_t3_loop v0).trips), ∀ (k0_h6 : k0_cond6 v0 k0_t3 = 1#1), ∀ a, (k0_off334 v0 k0_t3) a + S1x1x2x128x128.size a ≤ S24x16x2x128x128.size a := fun v0 k0_hw17 k0_t3 k0_h6 => k0_hw17.2.2.2.2.2.2.2.1.2.2.1 k0_t3 k0_h6
theorem k0_off334_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off334 v0 k0_t3) S1x1x2x128x128.size (k0_off334_inb v0 k0_hw17 k0_t3 k0_h6)).WholeWords (EltTy.packing .fp8e4m3) := fun v0 k0_hw17 k0_t3 k0_h6 => k0_hw17.2.2.2.2.2.2.2.1.2.2.2.1 k0_t3 k0_h6 (k0_off334_inb v0 k0_hw17 k0_t3 k0_h6)
theorem k0_off336_inb : ∀ (v0 : BitVec 32) (k0_hw17 : k0_chk17 v0) (k0_t3 : Fin (k0_t3_loop v0).trips), ∀ (k0_h6 : k0_cond6 v0 k0_t3 = 1#1), ∀ a, (k0_off336 v0 k0_t3) a + S1x1.size a ≤ S1x1024.size a := fun v0 k0_hw17 k0_t3 k0_h6 => k0_hw17.2.2.2.2.2.2.2.1.2.2.2.2.1 k0_t3 k0_h6
theorem k0_off337_inb : ∀ (v0 : BitVec 32) (k0_hw17 : k0_chk17 v0) (k0_t3 : Fin (k0_t3_loop v0).trips), ∀ (k0_h6 : k0_cond6 v0 k0_t3 = 1#1), ∀ a, (k0_off337 v0 k0_t3) a + S1.size a ≤ S24.size a := fun v0 k0_hw17 k0_t3 k0_h6 => k0_hw17.2.2.2.2.2.2.2.1.2.2.2.2.2.1 k0_t3 k0_h6
theorem k0_off338_inb : ∀ (v0 : BitVec 32) (k0_hw17 : k0_chk17 v0) (k0_t3 : Fin (k0_t3_loop v0).trips), ∀ (k0_h6 : k0_cond6 v0 k0_t3 = 1#1), ∀ a, (k0_off338 v0 k0_t3) a + S1x1x2x128x128.size a ≤ S24x16x2x128x128.size a := fun v0 k0_hw17 k0_t3 k0_h6 => k0_hw17.2.2.2.2.2.2.2.1.2.2.2.2.2.2.1 k0_t3 k0_h6
theorem k0_off338_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off338 v0 k0_t3) S1x1x2x128x128.size (k0_off338_inb v0 k0_hw17 k0_t3 k0_h6)).WholeWords (EltTy.packing .fp8e4m3) := fun v0 k0_hw17 k0_t3 k0_h6 => k0_hw17.2.2.2.2.2.2.2.1.2.2.2.2.2.2.2.1 k0_t3 k0_h6 (k0_off338_inb v0 k0_hw17 k0_t3 k0_h6)
theorem k0_off340_inb : ∀ (v0 : BitVec 32) (k0_hw17 : k0_chk17 v0) (k0_t3 : Fin (k0_t3_loop v0).trips), ∀ (k0_h6 : k0_cond6 v0 k0_t3 = 1#1), ∀ a, (k0_off340 v0 k0_t3) a + S1x1.size a ≤ S1x1024.size a := fun v0 k0_hw17 k0_t3 k0_h6 => k0_hw17.2.2.2.2.2.2.2.1.2.2.2.2.2.2.2.2.1 k0_t3 k0_h6
theorem k0_off341_inb : ∀ (v0 : BitVec 32) (k0_hw17 : k0_chk17 v0) (k0_t3 : Fin (k0_t3_loop v0).trips), ∀ (k0_h6 : k0_cond6 v0 k0_t3 = 1#1), ∀ a, (k0_off341 v0 k0_t3) a + S1.size a ≤ S24.size a := fun v0 k0_hw17 k0_t3 k0_h6 => k0_hw17.2.2.2.2.2.2.2.1.2.2.2.2.2.2.2.2.2.1 k0_t3 k0_h6
theorem k0_off342_inb : ∀ (v0 : BitVec 32) (k0_hw17 : k0_chk17 v0) (k0_t3 : Fin (k0_t3_loop v0).trips), ∀ (k0_h6 : k0_cond6 v0 k0_t3 = 1#1), ∀ a, (k0_off342 v0 k0_t3) a + S1x1x2x128x128.size a ≤ S24x16x2x128x128.size a := fun v0 k0_hw17 k0_t3 k0_h6 => k0_hw17.2.2.2.2.2.2.2.1.2.2.2.2.2.2.2.2.2.2.1 k0_t3 k0_h6
theorem k0_off342_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off342 v0 k0_t3) S1x1x2x128x128.size (k0_off342_inb v0 k0_hw17 k0_t3 k0_h6)).WholeWords (EltTy.packing .fp8e4m3) := fun v0 k0_hw17 k0_t3 k0_h6 => k0_hw17.2.2.2.2.2.2.2.1.2.2.2.2.2.2.2.2.2.2.2.1 k0_t3 k0_h6 (k0_off342_inb v0 k0_hw17 k0_t3 k0_h6)
theorem k0_off344_inb : ∀ (v0 : BitVec 32) (k0_hw17 : k0_chk17 v0) (k0_t3 : Fin (k0_t3_loop v0).trips), ∀ (k0_h6 : k0_cond6 v0 k0_t3 = 1#1), ∀ a, (k0_off344 v0 k0_t3) a + S1x1.size a ≤ S1x1024.size a := fun v0 k0_hw17 k0_t3 k0_h6 => k0_hw17.2.2.2.2.2.2.2.1.2.2.2.2.2.2.2.2.2.2.2.2.1 k0_t3 k0_h6
theorem k0_off345_inb : ∀ (v0 : BitVec 32) (k0_hw17 : k0_chk17 v0) (k0_t3 : Fin (k0_t3_loop v0).trips), ∀ (k0_h6 : k0_cond6 v0 k0_t3 = 1#1), ∀ a, (k0_off345 v0 k0_t3) a + S1.size a ≤ S24.size a := fun v0 k0_hw17 k0_t3 k0_h6 => k0_hw17.2.2.2.2.2.2.2.1.2.2.2.2.2.2.2.2.2.2.2.2.2.1 k0_t3 k0_h6
theorem k0_off346_inb : ∀ (v0 : BitVec 32) (k0_hw17 : k0_chk17 v0) (k0_t3 : Fin (k0_t3_loop v0).trips), ∀ (k0_h6 : k0_cond6 v0 k0_t3 = 1#1), ∀ a, (k0_off346 v0 k0_t3) a + S1x1x2x128x128.size a ≤ S24x16x2x128x128.size a := fun v0 k0_hw17 k0_t3 k0_h6 => k0_hw17.2.2.2.2.2.2.2.1.2.2.2.2.2.2.2.2.2.2.2.2.2.2.1 k0_t3 k0_h6
theorem k0_off346_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off346 v0 k0_t3) S1x1x2x128x128.size (k0_off346_inb v0 k0_hw17 k0_t3 k0_h6)).WholeWords (EltTy.packing .fp8e4m3) := fun v0 k0_hw17 k0_t3 k0_h6 => k0_hw17.2.2.2.2.2.2.2.1.2.2.2.2.2.2.2.2.2.2.2.2.2.2.2.1 k0_t3 k0_h6 (k0_off346_inb v0 k0_hw17 k0_t3 k0_h6)
theorem k0_off348_inb : ∀ (v0 : BitVec 32) (k0_hw17 : k0_chk17 v0) (k0_t3 : Fin (k0_t3_loop v0).trips), ∀ (k0_h6 : k0_cond6 v0 k0_t3 = 1#1), ∀ a, (k0_off348 v0 k0_t3) a + S1x1.size a ≤ S1x1024.size a := fun v0 k0_hw17 k0_t3 k0_h6 => k0_hw17.2.2.2.2.2.2.2.1.2.2.2.2.2.2.2.2.2.2.2.2.2.2.2.2.1 k0_t3 k0_h6
theorem k0_off349_inb : ∀ (v0 : BitVec 32) (k0_hw17 : k0_chk17 v0) (k0_t3 : Fin (k0_t3_loop v0).trips), ∀ (k0_h6 : k0_cond6 v0 k0_t3 = 1#1), ∀ a, (k0_off349 v0 k0_t3) a + S1.size a ≤ S24.size a := fun v0 k0_hw17 k0_t3 k0_h6 => k0_hw17.2.2.2.2.2.2.2.1.2.2.2.2.2.2.2.2.2.2.2.2.2.2.2.2.2.1 k0_t3 k0_h6
theorem k0_off350_inb : ∀ (v0 : BitVec 32) (k0_hw17 : k0_chk17 v0) (k0_t3 : Fin (k0_t3_loop v0).trips), ∀ (k0_h6 : k0_cond6 v0 k0_t3 = 1#1), ∀ a, (k0_off350 v0 k0_t3) a + S1x1x2x128x128.size a ≤ S24x16x2x128x128.size a := fun v0 k0_hw17 k0_t3 k0_h6 => k0_hw17.2.2.2.2.2.2.2.1.2.2.2.2.2.2.2.2.2.2.2.2.2.2.2.2.2.2.1 k0_t3 k0_h6
theorem k0_off350_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off350 v0 k0_t3) S1x1x2x128x128.size (k0_off350_inb v0 k0_hw17 k0_t3 k0_h6)).WholeWords (EltTy.packing .fp8e4m3) := fun v0 k0_hw17 k0_t3 k0_h6 => k0_hw17.2.2.2.2.2.2.2.1.2.2.2.2.2.2.2.2.2.2.2.2.2.2.2.2.2.2.2.1 k0_t3 k0_h6 (k0_off350_inb v0 k0_hw17 k0_t3 k0_h6)
theorem k0_off352_inb : ∀ (v0 : BitVec 32) (k0_hw17 : k0_chk17 v0) (k0_t3 : Fin (k0_t3_loop v0).trips), ∀ (k0_h6 : k0_cond6 v0 k0_t3 = 1#1), ∀ a, (k0_off352 v0 k0_t3) a + S1x1.size a ≤ S1x1024.size a := fun v0 k0_hw17 k0_t3 k0_h6 => k0_hw17.2.2.2.2.2.2.2.1.2.2.2.2.2.2.2.2.2.2.2.2.2.2.2.2.2.2.2.2.1 k0_t3 k0_h6
theorem k0_off353_inb : ∀ (v0 : BitVec 32) (k0_hw17 : k0_chk17 v0) (k0_t3 : Fin (k0_t3_loop v0).trips), ∀ (k0_h6 : k0_cond6 v0 k0_t3 = 1#1), ∀ a, (k0_off353 v0 k0_t3) a + S1.size a ≤ S24.size a := fun v0 k0_hw17 k0_t3 k0_h6 => k0_hw17.2.2.2.2.2.2.2.1.2.2.2.2.2.2.2.2.2.2.2.2.2.2.2.2.2.2.2.2.2.1 k0_t3 k0_h6
theorem k0_off354_inb : ∀ (v0 : BitVec 32) (k0_hw17 : k0_chk17 v0) (k0_t3 : Fin (k0_t3_loop v0).trips), ∀ (k0_h6 : k0_cond6 v0 k0_t3 = 1#1), ∀ a, (k0_off354 v0 k0_t3) a + S1x1x2x128x128.size a ≤ S24x16x2x128x128.size a := fun v0 k0_hw17 k0_t3 k0_h6 => k0_hw17.2.2.2.2.2.2.2.1.2.2.2.2.2.2.2.2.2.2.2.2.2.2.2.2.2.2.2.2.2.2.1 k0_t3 k0_h6
theorem k0_off354_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off354 v0 k0_t3) S1x1x2x128x128.size (k0_off354_inb v0 k0_hw17 k0_t3 k0_h6)).WholeWords (EltTy.packing .fp8e4m3) := fun v0 k0_hw17 k0_t3 k0_h6 => k0_hw17.2.2.2.2.2.2.2.1.2.2.2.2.2.2.2.2.2.2.2.2.2.2.2.2.2.2.2.2.2.2.2.1 k0_t3 k0_h6 (k0_off354_inb v0 k0_hw17 k0_t3 k0_h6)
theorem k0_off356_inb : ∀ (v0 : BitVec 32) (k0_hw17 : k0_chk17 v0) (k0_t3 : Fin (k0_t3_loop v0).trips), ∀ (k0_h6 : k0_cond6 v0 k0_t3 = 1#1), ∀ a, (k0_off356 v0 k0_t3) a + S1x1.size a ≤ S1x1024.size a := fun v0 k0_hw17 k0_t3 k0_h6 => k0_hw17.2.2.2.2.2.2.2.1.2.2.2.2.2.2.2.2.2.2.2.2.2.2.2.2.2.2.2.2.2.2.2.2.1 k0_t3 k0_h6
theorem k0_off357_inb : ∀ (v0 : BitVec 32) (k0_hw17 : k0_chk17 v0) (k0_t3 : Fin (k0_t3_loop v0).trips), ∀ (k0_h6 : k0_cond6 v0 k0_t3 = 1#1), ∀ a, (k0_off357 v0 k0_t3) a + S1.size a ≤ S24.size a := fun v0 k0_hw17 k0_t3 k0_h6 => k0_hw17.2.2.2.2.2.2.2.1.2.2.2.2.2.2.2.2.2.2.2.2.2.2.2.2.2.2.2.2.2.2.2.2.2.1 k0_t3 k0_h6
theorem k0_off358_inb : ∀ (v0 : BitVec 32) (k0_hw17 : k0_chk17 v0) (k0_t3 : Fin (k0_t3_loop v0).trips), ∀ (k0_h6 : k0_cond6 v0 k0_t3 = 1#1), ∀ a, (k0_off358 v0 k0_t3) a + S1x1x2x128x128.size a ≤ S24x16x2x128x128.size a := fun v0 k0_hw17 k0_t3 k0_h6 => k0_hw17.2.2.2.2.2.2.2.1.2.2.2.2.2.2.2.2.2.2.2.2.2.2.2.2.2.2.2.2.2.2.2.2.2.2.1 k0_t3 k0_h6
theorem k0_off358_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off358 v0 k0_t3) S1x1x2x128x128.size (k0_off358_inb v0 k0_hw17 k0_t3 k0_h6)).WholeWords (EltTy.packing .fp8e4m3) := fun v0 k0_hw17 k0_t3 k0_h6 => k0_hw17.2.2.2.2.2.2.2.1.2.2.2.2.2.2.2.2.2.2.2.2.2.2.2.2.2.2.2.2.2.2.2.2.2.2.2.1 k0_t3 k0_h6 (k0_off358_inb v0 k0_hw17 k0_t3 k0_h6)
theorem k0_off360_inb : ∀ (v0 : BitVec 32) (k0_hw17 : k0_chk17 v0) (k0_t3 : Fin (k0_t3_loop v0).trips), ∀ (k0_h6 : k0_cond6 v0 k0_t3 = 1#1), ∀ a, (k0_off360 v0 k0_t3) a + S1x1.size a ≤ S1x1024.size a := fun v0 k0_hw17 k0_t3 k0_h6 => k0_hw17.2.2.2.2.2.2.2.1.2.2.2.2.2.2.2.2.2.2.2.2.2.2.2.2.2.2.2.2.2.2.2.2.2.2.2.2.1 k0_t3 k0_h6
theorem k0_off361_inb : ∀ (v0 : BitVec 32) (k0_hw17 : k0_chk17 v0) (k0_t3 : Fin (k0_t3_loop v0).trips), ∀ (k0_h6 : k0_cond6 v0 k0_t3 = 1#1), ∀ a, (k0_off361 v0 k0_t3) a + S1.size a ≤ S24.size a := fun v0 k0_hw17 k0_t3 k0_h6 => k0_hw17.2.2.2.2.2.2.2.1.2.2.2.2.2.2.2.2.2.2.2.2.2.2.2.2.2.2.2.2.2.2.2.2.2.2.2.2.2.1 k0_t3 k0_h6
theorem k0_off362_inb : ∀ (v0 : BitVec 32) (k0_hw17 : k0_chk17 v0) (k0_t3 : Fin (k0_t3_loop v0).trips), ∀ (k0_h6 : k0_cond6 v0 k0_t3 = 1#1), ∀ a, (k0_off362 v0 k0_t3) a + S1x1x2x128x128.size a ≤ S24x16x2x128x128.size a := fun v0 k0_hw17 k0_t3 k0_h6 => k0_hw17.2.2.2.2.2.2.2.1.2.2.2.2.2.2.2.2.2.2.2.2.2.2.2.2.2.2.2.2.2.2.2.2.2.2.2.2.2.2.1 k0_t3 k0_h6
theorem k0_off362_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off362 v0 k0_t3) S1x1x2x128x128.size (k0_off362_inb v0 k0_hw17 k0_t3 k0_h6)).WholeWords (EltTy.packing .fp8e4m3) := fun v0 k0_hw17 k0_t3 k0_h6 => k0_hw17.2.2.2.2.2.2.2.1.2.2.2.2.2.2.2.2.2.2.2.2.2.2.2.2.2.2.2.2.2.2.2.2.2.2.2.2.2.2.2 k0_t3 k0_h6 (k0_off362_inb v0 k0_hw17 k0_t3 k0_h6)
theorem k0_off364_inb : ∀ (v0 : BitVec 32) (k0_hw17 : k0_chk17 v0) (k0_t3 : Fin (k0_t3_loop v0).trips), ∀ (k0_h6 : k0_cond6 v0 k0_t3 = 1#1), ∀ a, (k0_off364 v0 k0_t3) a + S1x1.size a ≤ S1x1024.size a := fun v0 k0_hw17 k0_t3 k0_h6 => k0_hw17.2.2.2.2.2.2.2.2.1.1 k0_t3 k0_h6
theorem k0_off365_inb : ∀ (v0 : BitVec 32) (k0_hw17 : k0_chk17 v0) (k0_t3 : Fin (k0_t3_loop v0).trips), ∀ (k0_h6 : k0_cond6 v0 k0_t3 = 1#1), ∀ a, (k0_off365 v0 k0_t3) a + S1.size a ≤ S24.size a := fun v0 k0_hw17 k0_t3 k0_h6 => k0_hw17.2.2.2.2.2.2.2.2.1.2.1 k0_t3 k0_h6
theorem k0_off366_inb : ∀ (v0 : BitVec 32) (k0_hw17 : k0_chk17 v0) (k0_t3 : Fin (k0_t3_loop v0).trips), ∀ (k0_h6 : k0_cond6 v0 k0_t3 = 1#1), ∀ a, (k0_off366 v0 k0_t3) a + S1x1x2x128x128.size a ≤ S24x16x2x128x128.size a := fun v0 k0_hw17 k0_t3 k0_h6 => k0_hw17.2.2.2.2.2.2.2.2.1.2.2.1 k0_t3 k0_h6
theorem k0_off366_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off366 v0 k0_t3) S1x1x2x128x128.size (k0_off366_inb v0 k0_hw17 k0_t3 k0_h6)).WholeWords (EltTy.packing .fp8e4m3) := fun v0 k0_hw17 k0_t3 k0_h6 => k0_hw17.2.2.2.2.2.2.2.2.1.2.2.2.1 k0_t3 k0_h6 (k0_off366_inb v0 k0_hw17 k0_t3 k0_h6)
theorem k0_off368_inb : ∀ (v0 : BitVec 32) (k0_hw17 : k0_chk17 v0) (k0_t3 : Fin (k0_t3_loop v0).trips), ∀ (k0_h6 : k0_cond6 v0 k0_t3 = 1#1), ∀ a, (k0_off368 v0 k0_t3) a + S1x1.size a ≤ S1x1024.size a := fun v0 k0_hw17 k0_t3 k0_h6 => k0_hw17.2.2.2.2.2.2.2.2.1.2.2.2.2.1 k0_t3 k0_h6
theorem k0_off369_inb : ∀ (v0 : BitVec 32) (k0_hw17 : k0_chk17 v0) (k0_t3 : Fin (k0_t3_loop v0).trips), ∀ (k0_h6 : k0_cond6 v0 k0_t3 = 1#1), ∀ a, (k0_off369 v0 k0_t3) a + S1.size a ≤ S24.size a := fun v0 k0_hw17 k0_t3 k0_h6 => k0_hw17.2.2.2.2.2.2.2.2.1.2.2.2.2.2.1 k0_t3 k0_h6
theorem k0_off370_inb : ∀ (v0 : BitVec 32) (k0_hw17 : k0_chk17 v0) (k0_t3 : Fin (k0_t3_loop v0).trips), ∀ (k0_h6 : k0_cond6 v0 k0_t3 = 1#1), ∀ a, (k0_off370 v0 k0_t3) a + S1x1x2x128x128.size a ≤ S24x16x2x128x128.size a := fun v0 k0_hw17 k0_t3 k0_h6 => k0_hw17.2.2.2.2.2.2.2.2.1.2.2.2.2.2.2.1 k0_t3 k0_h6
theorem k0_off370_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off370 v0 k0_t3) S1x1x2x128x128.size (k0_off370_inb v0 k0_hw17 k0_t3 k0_h6)).WholeWords (EltTy.packing .fp8e4m3) := fun v0 k0_hw17 k0_t3 k0_h6 => k0_hw17.2.2.2.2.2.2.2.2.1.2.2.2.2.2.2.2.1 k0_t3 k0_h6 (k0_off370_inb v0 k0_hw17 k0_t3 k0_h6)
theorem k0_off372_inb : ∀ (v0 : BitVec 32) (k0_hw17 : k0_chk17 v0) (k0_t3 : Fin (k0_t3_loop v0).trips), ∀ (k0_h6 : k0_cond6 v0 k0_t3 = 1#1), ∀ a, (k0_off372 v0 k0_t3) a + S1x1.size a ≤ S1x1024.size a := fun v0 k0_hw17 k0_t3 k0_h6 => k0_hw17.2.2.2.2.2.2.2.2.1.2.2.2.2.2.2.2.2.1 k0_t3 k0_h6
theorem k0_off373_inb : ∀ (v0 : BitVec 32) (k0_hw17 : k0_chk17 v0) (k0_t3 : Fin (k0_t3_loop v0).trips), ∀ (k0_h6 : k0_cond6 v0 k0_t3 = 1#1), ∀ a, (k0_off373 v0 k0_t3) a + S1.size a ≤ S24.size a := fun v0 k0_hw17 k0_t3 k0_h6 => k0_hw17.2.2.2.2.2.2.2.2.1.2.2.2.2.2.2.2.2.2.1 k0_t3 k0_h6
theorem k0_off374_inb : ∀ (v0 : BitVec 32) (k0_hw17 : k0_chk17 v0) (k0_t3 : Fin (k0_t3_loop v0).trips), ∀ (k0_h6 : k0_cond6 v0 k0_t3 = 1#1), ∀ a, (k0_off374 v0 k0_t3) a + S1x1x2x128x128.size a ≤ S24x16x2x128x128.size a := fun v0 k0_hw17 k0_t3 k0_h6 => k0_hw17.2.2.2.2.2.2.2.2.1.2.2.2.2.2.2.2.2.2.2.1 k0_t3 k0_h6
theorem k0_off374_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off374 v0 k0_t3) S1x1x2x128x128.size (k0_off374_inb v0 k0_hw17 k0_t3 k0_h6)).WholeWords (EltTy.packing .fp8e4m3) := fun v0 k0_hw17 k0_t3 k0_h6 => k0_hw17.2.2.2.2.2.2.2.2.1.2.2.2.2.2.2.2.2.2.2.2.1 k0_t3 k0_h6 (k0_off374_inb v0 k0_hw17 k0_t3 k0_h6)
theorem k0_off376_inb : ∀ (v0 : BitVec 32) (k0_hw17 : k0_chk17 v0) (k0_t3 : Fin (k0_t3_loop v0).trips), ∀ (k0_h6 : k0_cond6 v0 k0_t3 = 1#1), ∀ a, (k0_off376 v0 k0_t3) a + S1x1.size a ≤ S1x1024.size a := fun v0 k0_hw17 k0_t3 k0_h6 => k0_hw17.2.2.2.2.2.2.2.2.1.2.2.2.2.2.2.2.2.2.2.2.2.1 k0_t3 k0_h6
theorem k0_off377_inb : ∀ (v0 : BitVec 32) (k0_hw17 : k0_chk17 v0) (k0_t3 : Fin (k0_t3_loop v0).trips), ∀ (k0_h6 : k0_cond6 v0 k0_t3 = 1#1), ∀ a, (k0_off377 v0 k0_t3) a + S1.size a ≤ S24.size a := fun v0 k0_hw17 k0_t3 k0_h6 => k0_hw17.2.2.2.2.2.2.2.2.1.2.2.2.2.2.2.2.2.2.2.2.2.2.1 k0_t3 k0_h6
theorem k0_off378_inb : ∀ (v0 : BitVec 32) (k0_hw17 : k0_chk17 v0) (k0_t3 : Fin (k0_t3_loop v0).trips), ∀ (k0_h6 : k0_cond6 v0 k0_t3 = 1#1), ∀ a, (k0_off378 v0 k0_t3) a + S1x1x2x128x128.size a ≤ S24x16x2x128x128.size a := fun v0 k0_hw17 k0_t3 k0_h6 => k0_hw17.2.2.2.2.2.2.2.2.1.2.2.2.2.2.2.2.2.2.2.2.2.2.2.1 k0_t3 k0_h6
theorem k0_off378_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off378 v0 k0_t3) S1x1x2x128x128.size (k0_off378_inb v0 k0_hw17 k0_t3 k0_h6)).WholeWords (EltTy.packing .fp8e4m3) := fun v0 k0_hw17 k0_t3 k0_h6 => k0_hw17.2.2.2.2.2.2.2.2.1.2.2.2.2.2.2.2.2.2.2.2.2.2.2.2.1 k0_t3 k0_h6 (k0_off378_inb v0 k0_hw17 k0_t3 k0_h6)
theorem k0_off380_inb : ∀ (v0 : BitVec 32) (k0_hw17 : k0_chk17 v0) (k0_t3 : Fin (k0_t3_loop v0).trips), ∀ (k0_h6 : k0_cond6 v0 k0_t3 = 1#1), ∀ a, (k0_off380 v0 k0_t3) a + S1x1.size a ≤ S1x1024.size a := fun v0 k0_hw17 k0_t3 k0_h6 => k0_hw17.2.2.2.2.2.2.2.2.1.2.2.2.2.2.2.2.2.2.2.2.2.2.2.2.2.1 k0_t3 k0_h6
theorem k0_off381_inb : ∀ (v0 : BitVec 32) (k0_hw17 : k0_chk17 v0) (k0_t3 : Fin (k0_t3_loop v0).trips), ∀ (k0_h6 : k0_cond6 v0 k0_t3 = 1#1), ∀ a, (k0_off381 v0 k0_t3) a + S1.size a ≤ S24.size a := fun v0 k0_hw17 k0_t3 k0_h6 => k0_hw17.2.2.2.2.2.2.2.2.1.2.2.2.2.2.2.2.2.2.2.2.2.2.2.2.2.2.1 k0_t3 k0_h6
theorem k0_off382_inb : ∀ (v0 : BitVec 32) (k0_hw17 : k0_chk17 v0) (k0_t3 : Fin (k0_t3_loop v0).trips), ∀ (k0_h6 : k0_cond6 v0 k0_t3 = 1#1), ∀ a, (k0_off382 v0 k0_t3) a + S1x1x2x128x128.size a ≤ S24x16x2x128x128.size a := fun v0 k0_hw17 k0_t3 k0_h6 => k0_hw17.2.2.2.2.2.2.2.2.1.2.2.2.2.2.2.2.2.2.2.2.2.2.2.2.2.2.2.1 k0_t3 k0_h6
theorem k0_off382_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off382 v0 k0_t3) S1x1x2x128x128.size (k0_off382_inb v0 k0_hw17 k0_t3 k0_h6)).WholeWords (EltTy.packing .fp8e4m3) := fun v0 k0_hw17 k0_t3 k0_h6 => k0_hw17.2.2.2.2.2.2.2.2.1.2.2.2.2.2.2.2.2.2.2.2.2.2.2.2.2.2.2.2.1 k0_t3 k0_h6 (k0_off382_inb v0 k0_hw17 k0_t3 k0_h6)
theorem k0_off384_inb : ∀ (v0 : BitVec 32) (k0_hw17 : k0_chk17 v0) (k0_t3 : Fin (k0_t3_loop v0).trips), ∀ (k0_h6 : k0_cond6 v0 k0_t3 = 1#1), ∀ a, (k0_off384 v0 k0_t3) a + S1x1.size a ≤ S1x1024.size a := fun v0 k0_hw17 k0_t3 k0_h6 => k0_hw17.2.2.2.2.2.2.2.2.1.2.2.2.2.2.2.2.2.2.2.2.2.2.2.2.2.2.2.2.2.1 k0_t3 k0_h6
theorem k0_off385_inb : ∀ (v0 : BitVec 32) (k0_hw17 : k0_chk17 v0) (k0_t3 : Fin (k0_t3_loop v0).trips), ∀ (k0_h6 : k0_cond6 v0 k0_t3 = 1#1), ∀ a, (k0_off385 v0 k0_t3) a + S1.size a ≤ S24.size a := fun v0 k0_hw17 k0_t3 k0_h6 => k0_hw17.2.2.2.2.2.2.2.2.1.2.2.2.2.2.2.2.2.2.2.2.2.2.2.2.2.2.2.2.2.2.1 k0_t3 k0_h6
theorem k0_off386_inb : ∀ (v0 : BitVec 32) (k0_hw17 : k0_chk17 v0) (k0_t3 : Fin (k0_t3_loop v0).trips), ∀ (k0_h6 : k0_cond6 v0 k0_t3 = 1#1), ∀ a, (k0_off386 v0 k0_t3) a + S1x1x2x128x128.size a ≤ S24x16x2x128x128.size a := fun v0 k0_hw17 k0_t3 k0_h6 => k0_hw17.2.2.2.2.2.2.2.2.1.2.2.2.2.2.2.2.2.2.2.2.2.2.2.2.2.2.2.2.2.2.2.1 k0_t3 k0_h6
theorem k0_off386_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off386 v0 k0_t3) S1x1x2x128x128.size (k0_off386_inb v0 k0_hw17 k0_t3 k0_h6)).WholeWords (EltTy.packing .fp8e4m3) := fun v0 k0_hw17 k0_t3 k0_h6 => k0_hw17.2.2.2.2.2.2.2.2.1.2.2.2.2.2.2.2.2.2.2.2.2.2.2.2.2.2.2.2.2.2.2.2.1 k0_t3 k0_h6 (k0_off386_inb v0 k0_hw17 k0_t3 k0_h6)
theorem k0_off388_inb : ∀ (v0 : BitVec 32) (k0_hw17 : k0_chk17 v0) (k0_t3 : Fin (k0_t3_loop v0).trips), ∀ (k0_h6 : k0_cond6 v0 k0_t3 = 1#1), ∀ a, (k0_off388 v0 k0_t3) a + S1x1.size a ≤ S1x1024.size a := fun v0 k0_hw17 k0_t3 k0_h6 => k0_hw17.2.2.2.2.2.2.2.2.1.2.2.2.2.2.2.2.2.2.2.2.2.2.2.2.2.2.2.2.2.2.2.2.2.1 k0_t3 k0_h6
theorem k0_off389_inb : ∀ (v0 : BitVec 32) (k0_hw17 : k0_chk17 v0) (k0_t3 : Fin (k0_t3_loop v0).trips), ∀ (k0_h6 : k0_cond6 v0 k0_t3 = 1#1), ∀ a, (k0_off389 v0 k0_t3) a + S1.size a ≤ S24.size a := fun v0 k0_hw17 k0_t3 k0_h6 => k0_hw17.2.2.2.2.2.2.2.2.1.2.2.2.2.2.2.2.2.2.2.2.2.2.2.2.2.2.2.2.2.2.2.2.2.2.1 k0_t3 k0_h6
theorem k0_off390_inb : ∀ (v0 : BitVec 32) (k0_hw17 : k0_chk17 v0) (k0_t3 : Fin (k0_t3_loop v0).trips), ∀ (k0_h6 : k0_cond6 v0 k0_t3 = 1#1), ∀ a, (k0_off390 v0 k0_t3) a + S1x1x2x128x128.size a ≤ S24x16x2x128x128.size a := fun v0 k0_hw17 k0_t3 k0_h6 => k0_hw17.2.2.2.2.2.2.2.2.1.2.2.2.2.2.2.2.2.2.2.2.2.2.2.2.2.2.2.2.2.2.2.2.2.2.2.1 k0_t3 k0_h6
theorem k0_off390_wordsfp8e4m3 : ∀ (v0 : BitVec 32) (k0_hw17 : k0_chk17 v0) (k0_t3 : Fin (k0_t3_loop v0).trips), ∀ (k0_h6 : k0_cond6 v0 k0_t3 = 1#1), (Rect.unit (s := S24x16x2x128x128) (k0_off390 v0 k0_t3) S1x1x2x128x128.size (k0_off390_inb v0 k0_hw17 k0_t3 k0_h6)).WholeWords (EltTy.packing .fp8e4m3) := fun v0 k0_hw17 k0_t3 k0_h6 => k0_hw17.2.2.2.2.2.2.2.2.1.2.2.2.2.2.2.2.2.2.2.2.2.2.2.2.2.2.2.2.2.2.2.2.2.2.2.2.1 k0_t3 k0_h6 (k0_off390_inb v0 k0_hw17 k0_t3 k0_h6)
theorem k0_mult2_dvd : ∀ (v0 : BitVec 32) (k0_hw17 : k0_chk17 v0) (k0_t3 : Fin (k0_t3_loop v0).trips), 2048 ∣ (k0_mult2 v0 k0_t3).toNat := fun v0 k0_hw17 k0_t3 => k0_hw17.2.2.2.2.2.2.2.2.1.2.2.2.2.2.2.2.2.2.2.2.2.2.2.2.2.2.2.2.2.2.2.2.2.2.2.2.2.1 k0_t3
theorem k0_off392_inb : ∀ (v0 : BitVec 32) (k0_hw17 : k0_chk17 v0) (k0_t3 : Fin (k0_t3_loop v0).trips), ∀ a, (k0_off392 v0 k0_t3) a + S16x2048.size a ≤ S16x131072.size a := fun v0 k0_hw17 k0_t3 => k0_hw17.2.2.2.2.2.2.2.2.1.2.2.2.2.2.2.2.2.2.2.2.2.2.2.2.2.2.2.2.2.2.2.2.2.2.2.2.2.2.1 k0_t3
theorem k0_t4_ok : ∀ (v0 : BitVec 32) (k0_hw17 : k0_chk17 v0), (k0_t4_loop v0).OK := fun v0 k0_hw17 => k0_hw17.2.2.2.2.2.2.2.2.1.2.2.2.2.2.2.2.2.2.2.2.2.2.2.2.2.2.2.2.2.2.2.2.2.2.2.2.2.2.2.1
theorem k0_off393_inb : ∀ (v0 : BitVec 32) (k0_hw17 : k0_chk17 v0) (k0_t4 : Fin (k0_t4_loop v0).trips), ∀ a, (k0_off393 v0 k0_t4) a + S1.size a ≤ S24.size a := fun v0 k0_hw17 k0_t4 => k0_hw17.2.2.2.2.2.2.2.2.1.2.2.2.2.2.2.2.2.2.2.2.2.2.2.2.2.2.2.2.2.2.2.2.2.2.2.2.2.2.2.2 k0_t4
theorem k0_off394_inb : ∀ (v0 : BitVec 32) (k0_hw17 : k0_chk17 v0) (k0_t4 : Fin (k0_t4_loop v0).trips), ∀ a, (k0_off394 v0 k0_t4) a + S1x16x2x128x128.size a ≤ S24x16x2x128x128.size a := fun v0 k0_hw17 k0_t4 => k0_hw17.2.2.2.2.2.2.2.2.2.1.1 k0_t4
theorem k0_off394_wordsfp8e4m3 : ∀ (v0 : BitVec 32) (k0_hw17 : k0_chk17 v0) (k0_t4 : Fin (k0_t4_loop v0).trips), (Rect.unit (s := S24x16x2x128x128) (k0_off394 v0 k0_t4) S1x16x2x128x128.size (k0_off394_inb v0 k0_hw17 k0_t4)).WholeWords (EltTy.packing .fp8e4m3) := fun v0 k0_hw17 k0_t4 => k0_hw17.2.2.2.2.2.2.2.2.2.1.2.1 k0_t4 (k0_off394_inb v0 k0_hw17 k0_t4)
theorem k0_mult3_dvd : ∀ (v0 : BitVec 32) (k0_hw17 : k0_chk17 v0) (k0_t4 : Fin (k0_t4_loop v0).trips), 2048 ∣ (k0_mult3 v0 k0_t4).toNat := fun v0 k0_hw17 k0_t4 => k0_hw17.2.2.2.2.2.2.2.2.2.1.2.2.1 k0_t4
theorem k0_off395_inb : ∀ (v0 : BitVec 32) (k0_hw17 : k0_chk17 v0) (k0_t4 : Fin (k0_t4_loop v0).trips), ∀ a, (k0_off395 v0 k0_t4) a + S16x2048.size a ≤ S16x131072.size a := fun v0 k0_hw17 k0_t4 => k0_hw17.2.2.2.2.2.2.2.2.2.1.2.2.2.1 k0_t4
theorem k0_off396_inb : ∀ (v0 : BitVec 32) (k0_hw17 : k0_chk17 v0) (k0_t4 : Fin (k0_t4_loop v0).trips), ∀ a, (k0_off396 v0 k0_t4) a + S1x16x2x128x128.size a ≤ S24x16x2x128x128.size a := fun v0 k0_hw17 k0_t4 => k0_hw17.2.2.2.2.2.2.2.2.2.1.2.2.2.2.1 k0_t4
theorem k0_off397_inb : ∀ (v0 : BitVec 32) (k0_hw17 : k0_chk17 v0) (k0_t4 : Fin (k0_t4_loop v0).trips), ∀ (k0_h7 : k0_cond7 v0 k0_t4 = 1#1), ∀ a, (k0_off397 v0 k0_t4) a + S1x1.size a ≤ S1x1024.size a := fun v0 k0_hw17 k0_t4 k0_h7 => k0_hw17.2.2.2.2.2.2.2.2.2.1.2.2.2.2.2.1 k0_t4 k0_h7
theorem k0_off398_inb : ∀ (v0 : BitVec 32) (k0_hw17 : k0_chk17 v0) (k0_t4 : Fin (k0_t4_loop v0).trips), ∀ (k0_h7 : k0_cond7 v0 k0_t4 = 1#1), ∀ a, (k0_off398 v0 k0_t4) a + S1.size a ≤ S24.size a := fun v0 k0_hw17 k0_t4 k0_h7 => k0_hw17.2.2.2.2.2.2.2.2.2.1.2.2.2.2.2.2.1 k0_t4 k0_h7
theorem k0_off399_inb : ∀ (v0 : BitVec 32) (k0_hw17 : k0_chk17 v0) (k0_t4 : Fin (k0_t4_loop v0).trips), ∀ (k0_h7 : k0_cond7 v0 k0_t4 = 1#1), ∀ a, (k0_off399 v0 k0_t4) a + S1x1x2x128x128.size a ≤ S24x16x2x128x128.size a := fun v0 k0_hw17 k0_t4 k0_h7 => k0_hw17.2.2.2.2.2.2.2.2.2.1.2.2.2.2.2.2.2.1 k0_t4 k0_h7
theorem k0_off399_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off399 v0 k0_t4) S1x1x2x128x128.size (k0_off399_inb v0 k0_hw17 k0_t4 k0_h7)).WholeWords (EltTy.packing .fp8e4m3) := fun v0 k0_hw17 k0_t4 k0_h7 => k0_hw17.2.2.2.2.2.2.2.2.2.1.2.2.2.2.2.2.2.2.1 k0_t4 k0_h7 (k0_off399_inb v0 k0_hw17 k0_t4 k0_h7)
theorem k0_off401_inb : ∀ (v0 : BitVec 32) (k0_hw17 : k0_chk17 v0) (k0_t4 : Fin (k0_t4_loop v0).trips), ∀ (k0_h7 : k0_cond7 v0 k0_t4 = 1#1), ∀ a, (k0_off401 v0 k0_t4) a + S1x1.size a ≤ S1x1024.size a := fun v0 k0_hw17 k0_t4 k0_h7 => k0_hw17.2.2.2.2.2.2.2.2.2.1.2.2.2.2.2.2.2.2.2.1 k0_t4 k0_h7
theorem k0_off402_inb : ∀ (v0 : BitVec 32) (k0_hw17 : k0_chk17 v0) (k0_t4 : Fin (k0_t4_loop v0).trips), ∀ (k0_h7 : k0_cond7 v0 k0_t4 = 1#1), ∀ a, (k0_off402 v0 k0_t4) a + S1.size a ≤ S24.size a := fun v0 k0_hw17 k0_t4 k0_h7 => k0_hw17.2.2.2.2.2.2.2.2.2.1.2.2.2.2.2.2.2.2.2.2.1 k0_t4 k0_h7
theorem k0_off403_inb : ∀ (v0 : BitVec 32) (k0_hw17 : k0_chk17 v0) (k0_t4 : Fin (k0_t4_loop v0).trips), ∀ (k0_h7 : k0_cond7 v0 k0_t4 = 1#1), ∀ a, (k0_off403 v0 k0_t4) a + S1x1x2x128x128.size a ≤ S24x16x2x128x128.size a := fun v0 k0_hw17 k0_t4 k0_h7 => k0_hw17.2.2.2.2.2.2.2.2.2.1.2.2.2.2.2.2.2.2.2.2.2.1 k0_t4 k0_h7
theorem k0_off403_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off403 v0 k0_t4) S1x1x2x128x128.size (k0_off403_inb v0 k0_hw17 k0_t4 k0_h7)).WholeWords (EltTy.packing .fp8e4m3) := fun v0 k0_hw17 k0_t4 k0_h7 => k0_hw17.2.2.2.2.2.2.2.2.2.1.2.2.2.2.2.2.2.2.2.2.2.2.1 k0_t4 k0_h7 (k0_off403_inb v0 k0_hw17 k0_t4 k0_h7)
theorem k0_off405_inb : ∀ (v0 : BitVec 32) (k0_hw17 : k0_chk17 v0) (k0_t4 : Fin (k0_t4_loop v0).trips), ∀ (k0_h7 : k0_cond7 v0 k0_t4 = 1#1), ∀ a, (k0_off405 v0 k0_t4) a + S1x1.size a ≤ S1x1024.size a := fun v0 k0_hw17 k0_t4 k0_h7 => k0_hw17.2.2.2.2.2.2.2.2.2.1.2.2.2.2.2.2.2.2.2.2.2.2.2.1 k0_t4 k0_h7
theorem k0_off406_inb : ∀ (v0 : BitVec 32) (k0_hw17 : k0_chk17 v0) (k0_t4 : Fin (k0_t4_loop v0).trips), ∀ (k0_h7 : k0_cond7 v0 k0_t4 = 1#1), ∀ a, (k0_off406 v0 k0_t4) a + S1.size a ≤ S24.size a := fun v0 k0_hw17 k0_t4 k0_h7 => k0_hw17.2.2.2.2.2.2.2.2.2.1.2.2.2.2.2.2.2.2.2.2.2.2.2.2.1 k0_t4 k0_h7
theorem k0_off407_inb : ∀ (v0 : BitVec 32) (k0_hw17 : k0_chk17 v0) (k0_t4 : Fin (k0_t4_loop v0).trips), ∀ (k0_h7 : k0_cond7 v0 k0_t4 = 1#1), ∀ a, (k0_off407 v0 k0_t4) a + S1x1x2x128x128.size a ≤ S24x16x2x128x128.size a := fun v0 k0_hw17 k0_t4 k0_h7 => k0_hw17.2.2.2.2.2.2.2.2.2.1.2.2.2.2.2.2.2.2.2.2.2.2.2.2.2.1 k0_t4 k0_h7
theorem k0_off407_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off407 v0 k0_t4) S1x1x2x128x128.size (k0_off407_inb v0 k0_hw17 k0_t4 k0_h7)).WholeWords (EltTy.packing .fp8e4m3) := fun v0 k0_hw17 k0_t4 k0_h7 => k0_hw17.2.2.2.2.2.2.2.2.2.1.2.2.2.2.2.2.2.2.2.2.2.2.2.2.2.2.1 k0_t4 k0_h7 (k0_off407_inb v0 k0_hw17 k0_t4 k0_h7)
theorem k0_off409_inb : ∀ (v0 : BitVec 32) (k0_hw17 : k0_chk17 v0) (k0_t4 : Fin (k0_t4_loop v0).trips), ∀ (k0_h7 : k0_cond7 v0 k0_t4 = 1#1), ∀ a, (k0_off409 v0 k0_t4) a + S1x1.size a ≤ S1x1024.size a := fun v0 k0_hw17 k0_t4 k0_h7 => k0_hw17.2.2.2.2.2.2.2.2.2.1.2.2.2.2.2.2.2.2.2.2.2.2.2.2.2.2.2.1 k0_t4 k0_h7
theorem k0_off410_inb : ∀ (v0 : BitVec 32) (k0_hw17 : k0_chk17 v0) (k0_t4 : Fin (k0_t4_loop v0).trips), ∀ (k0_h7 : k0_cond7 v0 k0_t4 = 1#1), ∀ a, (k0_off410 v0 k0_t4) a + S1.size a ≤ S24.size a := fun v0 k0_hw17 k0_t4 k0_h7 => k0_hw17.2.2.2.2.2.2.2.2.2.1.2.2.2.2.2.2.2.2.2.2.2.2.2.2.2.2.2.2.1 k0_t4 k0_h7
theorem k0_off411_inb : ∀ (v0 : BitVec 32) (k0_hw17 : k0_chk17 v0) (k0_t4 : Fin (k0_t4_loop v0).trips), ∀ (k0_h7 : k0_cond7 v0 k0_t4 = 1#1), ∀ a, (k0_off411 v0 k0_t4) a + S1x1x2x128x128.size a ≤ S24x16x2x128x128.size a := fun v0 k0_hw17 k0_t4 k0_h7 => k0_hw17.2.2.2.2.2.2.2.2.2.1.2.2.2.2.2.2.2.2.2.2.2.2.2.2.2.2.2.2.2.1 k0_t4 k0_h7
theorem k0_off411_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off411 v0 k0_t4) S1x1x2x128x128.size (k0_off411_inb v0 k0_hw17 k0_t4 k0_h7)).WholeWords (EltTy.packing .fp8e4m3) := fun v0 k0_hw17 k0_t4 k0_h7 => k0_hw17.2.2.2.2.2.2.2.2.2.1.2.2.2.2.2.2.2.2.2.2.2.2.2.2.2.2.2.2.2.2.1 k0_t4 k0_h7 (k0_off411_inb v0 k0_hw17 k0_t4 k0_h7)
theorem k0_off413_inb : ∀ (v0 : BitVec 32) (k0_hw17 : k0_chk17 v0) (k0_t4 : Fin (k0_t4_loop v0).trips), ∀ (k0_h7 : k0_cond7 v0 k0_t4 = 1#1), ∀ a, (k0_off413 v0 k0_t4) a + S1x1.size a ≤ S1x1024.size a := fun v0 k0_hw17 k0_t4 k0_h7 => k0_hw17.2.2.2.2.2.2.2.2.2.1.2.2.2.2.2.2.2.2.2.2.2.2.2.2.2.2.2.2.2.2.2.1 k0_t4 k0_h7
theorem k0_off414_inb : ∀ (v0 : BitVec 32) (k0_hw17 : k0_chk17 v0) (k0_t4 : Fin (k0_t4_loop v0).trips), ∀ (k0_h7 : k0_cond7 v0 k0_t4 = 1#1), ∀ a, (k0_off414 v0 k0_t4) a + S1.size a ≤ S24.size a := fun v0 k0_hw17 k0_t4 k0_h7 => k0_hw17.2.2.2.2.2.2.2.2.2.1.2.2.2.2.2.2.2.2.2.2.2.2.2.2.2.2.2.2.2.2.2.2.1 k0_t4 k0_h7
theorem k0_off415_inb : ∀ (v0 : BitVec 32) (k0_hw17 : k0_chk17 v0) (k0_t4 : Fin (k0_t4_loop v0).trips), ∀ (k0_h7 : k0_cond7 v0 k0_t4 = 1#1), ∀ a, (k0_off415 v0 k0_t4) a + S1x1x2x128x128.size a ≤ S24x16x2x128x128.size a := fun v0 k0_hw17 k0_t4 k0_h7 => k0_hw17.2.2.2.2.2.2.2.2.2.1.2.2.2.2.2.2.2.2.2.2.2.2.2.2.2.2.2.2.2.2.2.2.2.1 k0_t4 k0_h7
theorem k0_off415_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off415 v0 k0_t4) S1x1x2x128x128.size (k0_off415_inb v0 k0_hw17 k0_t4 k0_h7)).WholeWords (EltTy.packing .fp8e4m3) := fun v0 k0_hw17 k0_t4 k0_h7 => k0_hw17.2.2.2.2.2.2.2.2.2.1.2.2.2.2.2.2.2.2.2.2.2.2.2.2.2.2.2.2.2.2.2.2.2.2.1 k0_t4 k0_h7 (k0_off415_inb v0 k0_hw17 k0_t4 k0_h7)
theorem k0_off417_inb : ∀ (v0 : BitVec 32) (k0_hw17 : k0_chk17 v0) (k0_t4 : Fin (k0_t4_loop v0).trips), ∀ (k0_h7 : k0_cond7 v0 k0_t4 = 1#1), ∀ a, (k0_off417 v0 k0_t4) a + S1x1.size a ≤ S1x1024.size a := fun v0 k0_hw17 k0_t4 k0_h7 => k0_hw17.2.2.2.2.2.2.2.2.2.1.2.2.2.2.2.2.2.2.2.2.2.2.2.2.2.2.2.2.2.2.2.2.2.2.2.1 k0_t4 k0_h7
theorem k0_off418_inb : ∀ (v0 : BitVec 32) (k0_hw17 : k0_chk17 v0) (k0_t4 : Fin (k0_t4_loop v0).trips), ∀ (k0_h7 : k0_cond7 v0 k0_t4 = 1#1), ∀ a, (k0_off418 v0 k0_t4) a + S1.size a ≤ S24.size a := fun v0 k0_hw17 k0_t4 k0_h7 => k0_hw17.2.2.2.2.2.2.2.2.2.1.2.2.2.2.2.2.2.2.2.2.2.2.2.2.2.2.2.2.2.2.2.2.2.2.2.2.1 k0_t4 k0_h7
theorem k0_off419_inb : ∀ (v0 : BitVec 32) (k0_hw17 : k0_chk17 v0) (k0_t4 : Fin (k0_t4_loop v0).trips), ∀ (k0_h7 : k0_cond7 v0 k0_t4 = 1#1), ∀ a, (k0_off419 v0 k0_t4) a + S1x1x2x128x128.size a ≤ S24x16x2x128x128.size a := fun v0 k0_hw17 k0_t4 k0_h7 => k0_hw17.2.2.2.2.2.2.2.2.2.1.2.2.2.2.2.2.2.2.2.2.2.2.2.2.2.2.2.2.2.2.2.2.2.2.2.2.2.1 k0_t4 k0_h7
theorem k0_off419_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off419 v0 k0_t4) S1x1x2x128x128.size (k0_off419_inb v0 k0_hw17 k0_t4 k0_h7)).WholeWords (EltTy.packing .fp8e4m3) := fun v0 k0_hw17 k0_t4 k0_h7 => k0_hw17.2.2.2.2.2.2.2.2.2.1.2.2.2.2.2.2.2.2.2.2.2.2.2.2.2.2.2.2.2.2.2.2.2.2.2.2.2.2.1 k0_t4 k0_h7 (k0_off419_inb v0 k0_hw17 k0_t4 k0_h7)
theorem k0_off421_inb : ∀ (v0 : BitVec 32) (k0_hw17 : k0_chk17 v0) (k0_t4 : Fin (k0_t4_loop v0).trips), ∀ (k0_h7 : k0_cond7 v0 k0_t4 = 1#1), ∀ a, (k0_off421 v0 k0_t4) a + S1x1.size a ≤ S1x1024.size a := fun v0 k0_hw17 k0_t4 k0_h7 => k0_hw17.2.2.2.2.2.2.2.2.2.1.2.2.2.2.2.2.2.2.2.2.2.2.2.2.2.2.2.2.2.2.2.2.2.2.2.2.2.2.2.1 k0_t4 k0_h7
theorem k0_off422_inb : ∀ (v0 : BitVec 32) (k0_hw17 : k0_chk17 v0) (k0_t4 : Fin (k0_t4_loop v0).trips), ∀ (k0_h7 : k0_cond7 v0 k0_t4 = 1#1), ∀ a, (k0_off422 v0 k0_t4) a + S1.size a ≤ S24.size a := fun v0 k0_hw17 k0_t4 k0_h7 => k0_hw17.2.2.2.2.2.2.2.2.2.1.2.2.2.2.2.2.2.2.2.2.2.2.2.2.2.2.2.2.2.2.2.2.2.2.2.2.2.2.2.2.1 k0_t4 k0_h7
theorem k0_off423_inb : ∀ (v0 : BitVec 32) (k0_hw17 : k0_chk17 v0) (k0_t4 : Fin (k0_t4_loop v0).trips), ∀ (k0_h7 : k0_cond7 v0 k0_t4 = 1#1), ∀ a, (k0_off423 v0 k0_t4) a + S1x1x2x128x128.size a ≤ S24x16x2x128x128.size a := fun v0 k0_hw17 k0_t4 k0_h7 => k0_hw17.2.2.2.2.2.2.2.2.2.1.2.2.2.2.2.2.2.2.2.2.2.2.2.2.2.2.2.2.2.2.2.2.2.2.2.2.2.2.2.2.2 k0_t4 k0_h7
theorem k0_off423_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off423 v0 k0_t4) S1x1x2x128x128.size (k0_off423_inb v0 k0_hw17 k0_t4 k0_h7)).WholeWords (EltTy.packing .fp8e4m3) := fun v0 k0_hw17 k0_t4 k0_h7 => k0_hw17.2.2.2.2.2.2.2.2.2.2.1.1 k0_t4 k0_h7 (k0_off423_inb v0 k0_hw17 k0_t4 k0_h7)
theorem k0_off425_inb : ∀ (v0 : BitVec 32) (k0_hw17 : k0_chk17 v0) (k0_t4 : Fin (k0_t4_loop v0).trips), ∀ (k0_h7 : k0_cond7 v0 k0_t4 = 1#1), ∀ a, (k0_off425 v0 k0_t4) a + S1x1.size a ≤ S1x1024.size a := fun v0 k0_hw17 k0_t4 k0_h7 => k0_hw17.2.2.2.2.2.2.2.2.2.2.1.2.1 k0_t4 k0_h7
theorem k0_off426_inb : ∀ (v0 : BitVec 32) (k0_hw17 : k0_chk17 v0) (k0_t4 : Fin (k0_t4_loop v0).trips), ∀ (k0_h7 : k0_cond7 v0 k0_t4 = 1#1), ∀ a, (k0_off426 v0 k0_t4) a + S1.size a ≤ S24.size a := fun v0 k0_hw17 k0_t4 k0_h7 => k0_hw17.2.2.2.2.2.2.2.2.2.2.1.2.2.1 k0_t4 k0_h7
theorem k0_off427_inb : ∀ (v0 : BitVec 32) (k0_hw17 : k0_chk17 v0) (k0_t4 : Fin (k0_t4_loop v0).trips), ∀ (k0_h7 : k0_cond7 v0 k0_t4 = 1#1), ∀ a, (k0_off427 v0 k0_t4) a + S1x1x2x128x128.size a ≤ S24x16x2x128x128.size a := fun v0 k0_hw17 k0_t4 k0_h7 => k0_hw17.2.2.2.2.2.2.2.2.2.2.1.2.2.2.1 k0_t4 k0_h7
theorem k0_off427_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off427 v0 k0_t4) S1x1x2x128x128.size (k0_off427_inb v0 k0_hw17 k0_t4 k0_h7)).WholeWords (EltTy.packing .fp8e4m3) := fun v0 k0_hw17 k0_t4 k0_h7 => k0_hw17.2.2.2.2.2.2.2.2.2.2.1.2.2.2.2.1 k0_t4 k0_h7 (k0_off427_inb v0 k0_hw17 k0_t4 k0_h7)
theorem k0_off429_inb : ∀ (v0 : BitVec 32) (k0_hw17 : k0_chk17 v0) (k0_t4 : Fin (k0_t4_loop v0).trips), ∀ (k0_h7 : k0_cond7 v0 k0_t4 = 1#1), ∀ a, (k0_off429 v0 k0_t4) a + S1x1.size a ≤ S1x1024.size a := fun v0 k0_hw17 k0_t4 k0_h7 => k0_hw17.2.2.2.2.2.2.2.2.2.2.1.2.2.2.2.2.1 k0_t4 k0_h7
theorem k0_off430_inb : ∀ (v0 : BitVec 32) (k0_hw17 : k0_chk17 v0) (k0_t4 : Fin (k0_t4_loop v0).trips), ∀ (k0_h7 : k0_cond7 v0 k0_t4 = 1#1), ∀ a, (k0_off430 v0 k0_t4) a + S1.size a ≤ S24.size a := fun v0 k0_hw17 k0_t4 k0_h7 => k0_hw17.2.2.2.2.2.2.2.2.2.2.1.2.2.2.2.2.2.1 k0_t4 k0_h7
theorem k0_off431_inb : ∀ (v0 : BitVec 32) (k0_hw17 : k0_chk17 v0) (k0_t4 : Fin (k0_t4_loop v0).trips), ∀ (k0_h7 : k0_cond7 v0 k0_t4 = 1#1), ∀ a, (k0_off431 v0 k0_t4) a + S1x1x2x128x128.size a ≤ S24x16x2x128x128.size a := fun v0 k0_hw17 k0_t4 k0_h7 => k0_hw17.2.2.2.2.2.2.2.2.2.2.1.2.2.2.2.2.2.2.1 k0_t4 k0_h7
theorem k0_off431_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off431 v0 k0_t4) S1x1x2x128x128.size (k0_off431_inb v0 k0_hw17 k0_t4 k0_h7)).WholeWords (EltTy.packing .fp8e4m3) := fun v0 k0_hw17 k0_t4 k0_h7 => k0_hw17.2.2.2.2.2.2.2.2.2.2.1.2.2.2.2.2.2.2.2.1 k0_t4 k0_h7 (k0_off431_inb v0 k0_hw17 k0_t4 k0_h7)
theorem k0_off433_inb : ∀ (v0 : BitVec 32) (k0_hw17 : k0_chk17 v0) (k0_t4 : Fin (k0_t4_loop v0).trips), ∀ (k0_h7 : k0_cond7 v0 k0_t4 = 1#1), ∀ a, (k0_off433 v0 k0_t4) a + S1x1.size a ≤ S1x1024.size a := fun v0 k0_hw17 k0_t4 k0_h7 => k0_hw17.2.2.2.2.2.2.2.2.2.2.1.2.2.2.2.2.2.2.2.2.1 k0_t4 k0_h7
theorem k0_off434_inb : ∀ (v0 : BitVec 32) (k0_hw17 : k0_chk17 v0) (k0_t4 : Fin (k0_t4_loop v0).trips), ∀ (k0_h7 : k0_cond7 v0 k0_t4 = 1#1), ∀ a, (k0_off434 v0 k0_t4) a + S1.size a ≤ S24.size a := fun v0 k0_hw17 k0_t4 k0_h7 => k0_hw17.2.2.2.2.2.2.2.2.2.2.1.2.2.2.2.2.2.2.2.2.2.1 k0_t4 k0_h7
theorem k0_off435_inb : ∀ (v0 : BitVec 32) (k0_hw17 : k0_chk17 v0) (k0_t4 : Fin (k0_t4_loop v0).trips), ∀ (k0_h7 : k0_cond7 v0 k0_t4 = 1#1), ∀ a, (k0_off435 v0 k0_t4) a + S1x1x2x128x128.size a ≤ S24x16x2x128x128.size a := fun v0 k0_hw17 k0_t4 k0_h7 => k0_hw17.2.2.2.2.2.2.2.2.2.2.1.2.2.2.2.2.2.2.2.2.2.2.1 k0_t4 k0_h7
theorem k0_off435_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off435 v0 k0_t4) S1x1x2x128x128.size (k0_off435_inb v0 k0_hw17 k0_t4 k0_h7)).WholeWords (EltTy.packing .fp8e4m3) := fun v0 k0_hw17 k0_t4 k0_h7 => k0_hw17.2.2.2.2.2.2.2.2.2.2.1.2.2.2.2.2.2.2.2.2.2.2.2.1 k0_t4 k0_h7 (k0_off435_inb v0 k0_hw17 k0_t4 k0_h7)
theorem k0_off437_inb : ∀ (v0 : BitVec 32) (k0_hw17 : k0_chk17 v0) (k0_t4 : Fin (k0_t4_loop v0).trips), ∀ (k0_h7 : k0_cond7 v0 k0_t4 = 1#1), ∀ a, (k0_off437 v0 k0_t4) a + S1x1.size a ≤ S1x1024.size a := fun v0 k0_hw17 k0_t4 k0_h7 => k0_hw17.2.2.2.2.2.2.2.2.2.2.1.2.2.2.2.2.2.2.2.2.2.2.2.2.1 k0_t4 k0_h7
theorem k0_off438_inb : ∀ (v0 : BitVec 32) (k0_hw17 : k0_chk17 v0) (k0_t4 : Fin (k0_t4_loop v0).trips), ∀ (k0_h7 : k0_cond7 v0 k0_t4 = 1#1), ∀ a, (k0_off438 v0 k0_t4) a + S1.size a ≤ S24.size a := fun v0 k0_hw17 k0_t4 k0_h7 => k0_hw17.2.2.2.2.2.2.2.2.2.2.1.2.2.2.2.2.2.2.2.2.2.2.2.2.2.1 k0_t4 k0_h7
theorem k0_off439_inb : ∀ (v0 : BitVec 32) (k0_hw17 : k0_chk17 v0) (k0_t4 : Fin (k0_t4_loop v0).trips), ∀ (k0_h7 : k0_cond7 v0 k0_t4 = 1#1), ∀ a, (k0_off439 v0 k0_t4) a + S1x1x2x128x128.size a ≤ S24x16x2x128x128.size a := fun v0 k0_hw17 k0_t4 k0_h7 => k0_hw17.2.2.2.2.2.2.2.2.2.2.1.2.2.2.2.2.2.2.2.2.2.2.2.2.2.2.1 k0_t4 k0_h7
theorem k0_off439_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off439 v0 k0_t4) S1x1x2x128x128.size (k0_off439_inb v0 k0_hw17 k0_t4 k0_h7)).WholeWords (EltTy.packing .fp8e4m3) := fun v0 k0_hw17 k0_t4 k0_h7 => k0_hw17.2.2.2.2.2.2.2.2.2.2.1.2.2.2.2.2.2.2.2.2.2.2.2.2.2.2.2.1 k0_t4 k0_h7 (k0_off439_inb v0 k0_hw17 k0_t4 k0_h7)
theorem k0_off441_inb : ∀ (v0 : BitVec 32) (k0_hw17 : k0_chk17 v0) (k0_t4 : Fin (k0_t4_loop v0).trips), ∀ (k0_h7 : k0_cond7 v0 k0_t4 = 1#1), ∀ a, (k0_off441 v0 k0_t4) a + S1x1.size a ≤ S1x1024.size a := fun v0 k0_hw17 k0_t4 k0_h7 => k0_hw17.2.2.2.2.2.2.2.2.2.2.1.2.2.2.2.2.2.2.2.2.2.2.2.2.2.2.2.2.1 k0_t4 k0_h7
theorem k0_off442_inb : ∀ (v0 : BitVec 32) (k0_hw17 : k0_chk17 v0) (k0_t4 : Fin (k0_t4_loop v0).trips), ∀ (k0_h7 : k0_cond7 v0 k0_t4 = 1#1), ∀ a, (k0_off442 v0 k0_t4) a + S1.size a ≤ S24.size a := fun v0 k0_hw17 k0_t4 k0_h7 => k0_hw17.2.2.2.2.2.2.2.2.2.2.1.2.2.2.2.2.2.2.2.2.2.2.2.2.2.2.2.2.2.1 k0_t4 k0_h7
theorem k0_off443_inb : ∀ (v0 : BitVec 32) (k0_hw17 : k0_chk17 v0) (k0_t4 : Fin (k0_t4_loop v0).trips), ∀ (k0_h7 : k0_cond7 v0 k0_t4 = 1#1), ∀ a, (k0_off443 v0 k0_t4) a + S1x1x2x128x128.size a ≤ S24x16x2x128x128.size a := fun v0 k0_hw17 k0_t4 k0_h7 => k0_hw17.2.2.2.2.2.2.2.2.2.2.1.2.2.2.2.2.2.2.2.2.2.2.2.2.2.2.2.2.2.2.1 k0_t4 k0_h7
theorem k0_off443_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off443 v0 k0_t4) S1x1x2x128x128.size (k0_off443_inb v0 k0_hw17 k0_t4 k0_h7)).WholeWords (EltTy.packing .fp8e4m3) := fun v0 k0_hw17 k0_t4 k0_h7 => k0_hw17.2.2.2.2.2.2.2.2.2.2.1.2.2.2.2.2.2.2.2.2.2.2.2.2.2.2.2.2.2.2.2.1 k0_t4 k0_h7 (k0_off443_inb v0 k0_hw17 k0_t4 k0_h7)
theorem k0_off445_inb : ∀ (v0 : BitVec 32) (k0_hw17 : k0_chk17 v0) (k0_t4 : Fin (k0_t4_loop v0).trips), ∀ (k0_h7 : k0_cond7 v0 k0_t4 = 1#1), ∀ a, (k0_off445 v0 k0_t4) a + S1x1.size a ≤ S1x1024.size a := fun v0 k0_hw17 k0_t4 k0_h7 => k0_hw17.2.2.2.2.2.2.2.2.2.2.1.2.2.2.2.2.2.2.2.2.2.2.2.2.2.2.2.2.2.2.2.2.1 k0_t4 k0_h7
theorem k0_off446_inb : ∀ (v0 : BitVec 32) (k0_hw17 : k0_chk17 v0) (k0_t4 : Fin (k0_t4_loop v0).trips), ∀ (k0_h7 : k0_cond7 v0 k0_t4 = 1#1), ∀ a, (k0_off446 v0 k0_t4) a + S1.size a ≤ S24.size a := fun v0 k0_hw17 k0_t4 k0_h7 => k0_hw17.2.2.2.2.2.2.2.2.2.2.1.2.2.2.2.2.2.2.2.2.2.2.2.2.2.2.2.2.2.2.2.2.2.1 k0_t4 k0_h7
theorem k0_off447_inb : ∀ (v0 : BitVec 32) (k0_hw17 : k0_chk17 v0) (k0_t4 : Fin (k0_t4_loop v0).trips), ∀ (k0_h7 : k0_cond7 v0 k0_t4 = 1#1), ∀ a, (k0_off447 v0 k0_t4) a + S1x1x2x128x128.size a ≤ S24x16x2x128x128.size a := fun v0 k0_hw17 k0_t4 k0_h7 => k0_hw17.2.2.2.2.2.2.2.2.2.2.1.2.2.2.2.2.2.2.2.2.2.2.2.2.2.2.2.2.2.2.2.2.2.2.1 k0_t4 k0_h7
theorem k0_off447_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off447 v0 k0_t4) S1x1x2x128x128.size (k0_off447_inb v0 k0_hw17 k0_t4 k0_h7)).WholeWords (EltTy.packing .fp8e4m3) := fun v0 k0_hw17 k0_t4 k0_h7 => k0_hw17.2.2.2.2.2.2.2.2.2.2.1.2.2.2.2.2.2.2.2.2.2.2.2.2.2.2.2.2.2.2.2.2.2.2.2.1 k0_t4 k0_h7 (k0_off447_inb v0 k0_hw17 k0_t4 k0_h7)
theorem k0_off449_inb : ∀ (v0 : BitVec 32) (k0_hw17 : k0_chk17 v0) (k0_t4 : Fin (k0_t4_loop v0).trips), ∀ (k0_h7 : k0_cond7 v0 k0_t4 = 1#1), ∀ a, (k0_off449 v0 k0_t4) a + S1x1.size a ≤ S1x1024.size a := fun v0 k0_hw17 k0_t4 k0_h7 => k0_hw17.2.2.2.2.2.2.2.2.2.2.1.2.2.2.2.2.2.2.2.2.2.2.2.2.2.2.2.2.2.2.2.2.2.2.2.2.1 k0_t4 k0_h7
theorem k0_off450_inb : ∀ (v0 : BitVec 32) (k0_hw17 : k0_chk17 v0) (k0_t4 : Fin (k0_t4_loop v0).trips), ∀ (k0_h7 : k0_cond7 v0 k0_t4 = 1#1), ∀ a, (k0_off450 v0 k0_t4) a + S1.size a ≤ S24.size a := fun v0 k0_hw17 k0_t4 k0_h7 => k0_hw17.2.2.2.2.2.2.2.2.2.2.1.2.2.2.2.2.2.2.2.2.2.2.2.2.2.2.2.2.2.2.2.2.2.2.2.2.2.1 k0_t4 k0_h7
theorem k0_off451_inb : ∀ (v0 : BitVec 32) (k0_hw17 : k0_chk17 v0) (k0_t4 : Fin (k0_t4_loop v0).trips), ∀ (k0_h7 : k0_cond7 v0 k0_t4 = 1#1), ∀ a, (k0_off451 v0 k0_t4) a + S1x1x2x128x128.size a ≤ S24x16x2x128x128.size a := fun v0 k0_hw17 k0_t4 k0_h7 => k0_hw17.2.2.2.2.2.2.2.2.2.2.1.2.2.2.2.2.2.2.2.2.2.2.2.2.2.2.2.2.2.2.2.2.2.2.2.2.2.2.1 k0_t4 k0_h7
theorem k0_off451_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off451 v0 k0_t4) S1x1x2x128x128.size (k0_off451_inb v0 k0_hw17 k0_t4 k0_h7)).WholeWords (EltTy.packing .fp8e4m3) := fun v0 k0_hw17 k0_t4 k0_h7 => k0_hw17.2.2.2.2.2.2.2.2.2.2.1.2.2.2.2.2.2.2.2.2.2.2.2.2.2.2.2.2.2.2.2.2.2.2.2.2.2.2.2.1 k0_t4 k0_h7 (k0_off451_inb v0 k0_hw17 k0_t4 k0_h7)
theorem k0_off453_inb : ∀ (v0 : BitVec 32) (k0_hw17 : k0_chk17 v0) (k0_t4 : Fin (k0_t4_loop v0).trips), ∀ (k0_h7 : k0_cond7 v0 k0_t4 = 1#1), ∀ a, (k0_off453 v0 k0_t4) a + S1x1.size a ≤ S1x1024.size a := fun v0 k0_hw17 k0_t4 k0_h7 => k0_hw17.2.2.2.2.2.2.2.2.2.2.1.2.2.2.2.2.2.2.2.2.2.2.2.2.2.2.2.2.2.2.2.2.2.2.2.2.2.2.2.2.1 k0_t4 k0_h7
theorem k0_off454_inb : ∀ (v0 : BitVec 32) (k0_hw17 : k0_chk17 v0) (k0_t4 : Fin (k0_t4_loop v0).trips), ∀ (k0_h7 : k0_cond7 v0 k0_t4 = 1#1), ∀ a, (k0_off454 v0 k0_t4) a + S1.size a ≤ S24.size a := fun v0 k0_hw17 k0_t4 k0_h7 => k0_hw17.2.2.2.2.2.2.2.2.2.2.1.2.2.2.2.2.2.2.2.2.2.2.2.2.2.2.2.2.2.2.2.2.2.2.2.2.2.2.2.2.2.1 k0_t4 k0_h7
theorem k0_off455_inb : ∀ (v0 : BitVec 32) (k0_hw17 : k0_chk17 v0) (k0_t4 : Fin (k0_t4_loop v0).trips), ∀ (k0_h7 : k0_cond7 v0 k0_t4 = 1#1), ∀ a, (k0_off455 v0 k0_t4) a + S1x1x2x128x128.size a ≤ S24x16x2x128x128.size a := fun v0 k0_hw17 k0_t4 k0_h7 => k0_hw17.2.2.2.2.2.2.2.2.2.2.1.2.2.2.2.2.2.2.2.2.2.2.2.2.2.2.2.2.2.2.2.2.2.2.2.2.2.2.2.2.2.2 k0_t4 k0_h7
theorem k0_off455_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off455 v0 k0_t4) S1x1x2x128x128.size (k0_off455_inb v0 k0_hw17 k0_t4 k0_h7)).WholeWords (EltTy.packing .fp8e4m3) := fun v0 k0_hw17 k0_t4 k0_h7 => k0_hw17.2.2.2.2.2.2.2.2.2.2.2.1.1 k0_t4 k0_h7 (k0_off455_inb v0 k0_hw17 k0_t4 k0_h7)
theorem k0_off457_inb : ∀ (v0 : BitVec 32) (k0_hw17 : k0_chk17 v0) (k0_t4 : Fin (k0_t4_loop v0).trips), ∀ (k0_h7 : k0_cond7 v0 k0_t4 = 1#1), ∀ a, (k0_off457 v0 k0_t4) a + S1x1.size a ≤ S1x1024.size a := fun v0 k0_hw17 k0_t4 k0_h7 => k0_hw17.2.2.2.2.2.2.2.2.2.2.2.1.2.1 k0_t4 k0_h7
theorem k0_off458_inb : ∀ (v0 : BitVec 32) (k0_hw17 : k0_chk17 v0) (k0_t4 : Fin (k0_t4_loop v0).trips), ∀ (k0_h7 : k0_cond7 v0 k0_t4 = 1#1), ∀ a, (k0_off458 v0 k0_t4) a + S1.size a ≤ S24.size a := fun v0 k0_hw17 k0_t4 k0_h7 => k0_hw17.2.2.2.2.2.2.2.2.2.2.2.1.2.2.1 k0_t4 k0_h7
theorem k0_off459_inb : ∀ (v0 : BitVec 32) (k0_hw17 : k0_chk17 v0) (k0_t4 : Fin (k0_t4_loop v0).trips), ∀ (k0_h7 : k0_cond7 v0 k0_t4 = 1#1), ∀ a, (k0_off459 v0 k0_t4) a + S1x1x2x128x128.size a ≤ S24x16x2x128x128.size a := fun v0 k0_hw17 k0_t4 k0_h7 => k0_hw17.2.2.2.2.2.2.2.2.2.2.2.1.2.2.2.1 k0_t4 k0_h7
theorem k0_off459_wordsfp8e4m3 : ∀ (v0 : BitVec 32) (k0_hw17 : k0_chk17 v0) (k0_t4 : Fin (k0_t4_loop v0).trips), ∀ (k0_h7 : k0_cond7 v0 k0_t4 = 1#1), (Rect.unit (s := S24x16x2x128x128) (k0_off459 v0 k0_t4) S1x1x2x128x128.size (k0_off459_inb v0 k0_hw17 k0_t4 k0_h7)).WholeWords (EltTy.packing .fp8e4m3) := fun v0 k0_hw17 k0_t4 k0_h7 => k0_hw17.2.2.2.2.2.2.2.2.2.2.2.1.2.2.2.2.1 k0_t4 k0_h7 (k0_off459_inb v0 k0_hw17 k0_t4 k0_h7)
theorem k0_off461_inb : ∀ (v0 : BitVec 32) (k0_hw17 : k0_chk17 v0) (k0_t4 : Fin (k0_t4_loop v0).trips), ∀ (k0_h8 : k0_cond8 v0 k0_t4 = 1#1), ∀ a, (k0_off461 v0 k0_t4) a + S1x1.size a ≤ S1x1024.size a := fun v0 k0_hw17 k0_t4 k0_h8 => k0_hw17.2.2.2.2.2.2.2.2.2.2.2.1.2.2.2.2.2.1 k0_t4 k0_h8
theorem k0_off462_inb : ∀ (v0 : BitVec 32) (k0_hw17 : k0_chk17 v0) (k0_t4 : Fin (k0_t4_loop v0).trips), ∀ (k0_h8 : k0_cond8 v0 k0_t4 = 1#1), ∀ a, (k0_off462 v0 k0_t4) a + S1.size a ≤ S24.size a := fun v0 k0_hw17 k0_t4 k0_h8 => k0_hw17.2.2.2.2.2.2.2.2.2.2.2.1.2.2.2.2.2.2.1 k0_t4 k0_h8
theorem k0_off463_inb : ∀ (v0 : BitVec 32) (k0_hw17 : k0_chk17 v0) (k0_t4 : Fin (k0_t4_loop v0).trips), ∀ (k0_h8 : k0_cond8 v0 k0_t4 = 1#1), ∀ a, (k0_off463 v0 k0_t4) a + S1x1x2x128x128.size a ≤ S24x16x2x128x128.size a := fun v0 k0_hw17 k0_t4 k0_h8 => k0_hw17.2.2.2.2.2.2.2.2.2.2.2.1.2.2.2.2.2.2.2.1 k0_t4 k0_h8
theorem k0_off463_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off463 v0 k0_t4) S1x1x2x128x128.size (k0_off463_inb v0 k0_hw17 k0_t4 k0_h8)).WholeWords (EltTy.packing .fp8e4m3) := fun v0 k0_hw17 k0_t4 k0_h8 => k0_hw17.2.2.2.2.2.2.2.2.2.2.2.1.2.2.2.2.2.2.2.2.1 k0_t4 k0_h8 (k0_off463_inb v0 k0_hw17 k0_t4 k0_h8)
theorem k0_off465_inb : ∀ (v0 : BitVec 32) (k0_hw17 : k0_chk17 v0) (k0_t4 : Fin (k0_t4_loop v0).trips), ∀ (k0_h8 : k0_cond8 v0 k0_t4 = 1#1), ∀ a, (k0_off465 v0 k0_t4) a + S1x1.size a ≤ S1x1024.size a := fun v0 k0_hw17 k0_t4 k0_h8 => k0_hw17.2.2.2.2.2.2.2.2.2.2.2.1.2.2.2.2.2.2.2.2.2.1 k0_t4 k0_h8
theorem k0_off466_inb : ∀ (v0 : BitVec 32) (k0_hw17 : k0_chk17 v0) (k0_t4 : Fin (k0_t4_loop v0).trips), ∀ (k0_h8 : k0_cond8 v0 k0_t4 = 1#1), ∀ a, (k0_off466 v0 k0_t4) a + S1.size a ≤ S24.size a := fun v0 k0_hw17 k0_t4 k0_h8 => k0_hw17.2.2.2.2.2.2.2.2.2.2.2.1.2.2.2.2.2.2.2.2.2.2.1 k0_t4 k0_h8
theorem k0_off467_inb : ∀ (v0 : BitVec 32) (k0_hw17 : k0_chk17 v0) (k0_t4 : Fin (k0_t4_loop v0).trips), ∀ (k0_h8 : k0_cond8 v0 k0_t4 = 1#1), ∀ a, (k0_off467 v0 k0_t4) a + S1x1x2x128x128.size a ≤ S24x16x2x128x128.size a := fun v0 k0_hw17 k0_t4 k0_h8 => k0_hw17.2.2.2.2.2.2.2.2.2.2.2.1.2.2.2.2.2.2.2.2.2.2.2.1 k0_t4 k0_h8
theorem k0_off467_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off467 v0 k0_t4) S1x1x2x128x128.size (k0_off467_inb v0 k0_hw17 k0_t4 k0_h8)).WholeWords (EltTy.packing .fp8e4m3) := fun v0 k0_hw17 k0_t4 k0_h8 => k0_hw17.2.2.2.2.2.2.2.2.2.2.2.1.2.2.2.2.2.2.2.2.2.2.2.2.1 k0_t4 k0_h8 (k0_off467_inb v0 k0_hw17 k0_t4 k0_h8)
theorem k0_off469_inb : ∀ (v0 : BitVec 32) (k0_hw17 : k0_chk17 v0) (k0_t4 : Fin (k0_t4_loop v0).trips), ∀ (k0_h8 : k0_cond8 v0 k0_t4 = 1#1), ∀ a, (k0_off469 v0 k0_t4) a + S1x1.size a ≤ S1x1024.size a := fun v0 k0_hw17 k0_t4 k0_h8 => k0_hw17.2.2.2.2.2.2.2.2.2.2.2.1.2.2.2.2.2.2.2.2.2.2.2.2.2.1 k0_t4 k0_h8
theorem k0_off470_inb : ∀ (v0 : BitVec 32) (k0_hw17 : k0_chk17 v0) (k0_t4 : Fin (k0_t4_loop v0).trips), ∀ (k0_h8 : k0_cond8 v0 k0_t4 = 1#1), ∀ a, (k0_off470 v0 k0_t4) a + S1.size a ≤ S24.size a := fun v0 k0_hw17 k0_t4 k0_h8 => k0_hw17.2.2.2.2.2.2.2.2.2.2.2.1.2.2.2.2.2.2.2.2.2.2.2.2.2.2.1 k0_t4 k0_h8
theorem k0_off471_inb : ∀ (v0 : BitVec 32) (k0_hw17 : k0_chk17 v0) (k0_t4 : Fin (k0_t4_loop v0).trips), ∀ (k0_h8 : k0_cond8 v0 k0_t4 = 1#1), ∀ a, (k0_off471 v0 k0_t4) a + S1x1x2x128x128.size a ≤ S24x16x2x128x128.size a := fun v0 k0_hw17 k0_t4 k0_h8 => k0_hw17.2.2.2.2.2.2.2.2.2.2.2.1.2.2.2.2.2.2.2.2.2.2.2.2.2.2.2.1 k0_t4 k0_h8
theorem k0_off471_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off471 v0 k0_t4) S1x1x2x128x128.size (k0_off471_inb v0 k0_hw17 k0_t4 k0_h8)).WholeWords (EltTy.packing .fp8e4m3) := fun v0 k0_hw17 k0_t4 k0_h8 => k0_hw17.2.2.2.2.2.2.2.2.2.2.2.1.2.2.2.2.2.2.2.2.2.2.2.2.2.2.2.2.1 k0_t4 k0_h8 (k0_off471_inb v0 k0_hw17 k0_t4 k0_h8)
theorem k0_off473_inb : ∀ (v0 : BitVec 32) (k0_hw17 : k0_chk17 v0) (k0_t4 : Fin (k0_t4_loop v0).trips), ∀ (k0_h8 : k0_cond8 v0 k0_t4 = 1#1), ∀ a, (k0_off473 v0 k0_t4) a + S1x1.size a ≤ S1x1024.size a := fun v0 k0_hw17 k0_t4 k0_h8 => k0_hw17.2.2.2.2.2.2.2.2.2.2.2.1.2.2.2.2.2.2.2.2.2.2.2.2.2.2.2.2.2.1 k0_t4 k0_h8
theorem k0_off474_inb : ∀ (v0 : BitVec 32) (k0_hw17 : k0_chk17 v0) (k0_t4 : Fin (k0_t4_loop v0).trips), ∀ (k0_h8 : k0_cond8 v0 k0_t4 = 1#1), ∀ a, (k0_off474 v0 k0_t4) a + S1.size a ≤ S24.size a := fun v0 k0_hw17 k0_t4 k0_h8 => k0_hw17.2.2.2.2.2.2.2.2.2.2.2.1.2.2.2.2.2.2.2.2.2.2.2.2.2.2.2.2.2.2.1 k0_t4 k0_h8
theorem k0_off475_inb : ∀ (v0 : BitVec 32) (k0_hw17 : k0_chk17 v0) (k0_t4 : Fin (k0_t4_loop v0).trips), ∀ (k0_h8 : k0_cond8 v0 k0_t4 = 1#1), ∀ a, (k0_off475 v0 k0_t4) a + S1x1x2x128x128.size a ≤ S24x16x2x128x128.size a := fun v0 k0_hw17 k0_t4 k0_h8 => k0_hw17.2.2.2.2.2.2.2.2.2.2.2.1.2.2.2.2.2.2.2.2.2.2.2.2.2.2.2.2.2.2.2.1 k0_t4 k0_h8
theorem k0_off475_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off475 v0 k0_t4) S1x1x2x128x128.size (k0_off475_inb v0 k0_hw17 k0_t4 k0_h8)).WholeWords (EltTy.packing .fp8e4m3) := fun v0 k0_hw17 k0_t4 k0_h8 => k0_hw17.2.2.2.2.2.2.2.2.2.2.2.1.2.2.2.2.2.2.2.2.2.2.2.2.2.2.2.2.2.2.2.2.1 k0_t4 k0_h8 (k0_off475_inb v0 k0_hw17 k0_t4 k0_h8)
theorem k0_off477_inb : ∀ (v0 : BitVec 32) (k0_hw17 : k0_chk17 v0) (k0_t4 : Fin (k0_t4_loop v0).trips), ∀ (k0_h8 : k0_cond8 v0 k0_t4 = 1#1), ∀ a, (k0_off477 v0 k0_t4) a + S1x1.size a ≤ S1x1024.size a := fun v0 k0_hw17 k0_t4 k0_h8 => k0_hw17.2.2.2.2.2.2.2.2.2.2.2.1.2.2.2.2.2.2.2.2.2.2.2.2.2.2.2.2.2.2.2.2.2.1 k0_t4 k0_h8
theorem k0_off478_inb : ∀ (v0 : BitVec 32) (k0_hw17 : k0_chk17 v0) (k0_t4 : Fin (k0_t4_loop v0).trips), ∀ (k0_h8 : k0_cond8 v0 k0_t4 = 1#1), ∀ a, (k0_off478 v0 k0_t4) a + S1.size a ≤ S24.size a := fun v0 k0_hw17 k0_t4 k0_h8 => k0_hw17.2.2.2.2.2.2.2.2.2.2.2.1.2.2.2.2.2.2.2.2.2.2.2.2.2.2.2.2.2.2.2.2.2.2.1 k0_t4 k0_h8
theorem k0_off479_inb : ∀ (v0 : BitVec 32) (k0_hw17 : k0_chk17 v0) (k0_t4 : Fin (k0_t4_loop v0).trips), ∀ (k0_h8 : k0_cond8 v0 k0_t4 = 1#1), ∀ a, (k0_off479 v0 k0_t4) a + S1x1x2x128x128.size a ≤ S24x16x2x128x128.size a := fun v0 k0_hw17 k0_t4 k0_h8 => k0_hw17.2.2.2.2.2.2.2.2.2.2.2.1.2.2.2.2.2.2.2.2.2.2.2.2.2.2.2.2.2.2.2.2.2.2.2.1 k0_t4 k0_h8
theorem k0_off479_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off479 v0 k0_t4) S1x1x2x128x128.size (k0_off479_inb v0 k0_hw17 k0_t4 k0_h8)).WholeWords (EltTy.packing .fp8e4m3) := fun v0 k0_hw17 k0_t4 k0_h8 => k0_hw17.2.2.2.2.2.2.2.2.2.2.2.1.2.2.2.2.2.2.2.2.2.2.2.2.2.2.2.2.2.2.2.2.2.2.2.2.1 k0_t4 k0_h8 (k0_off479_inb v0 k0_hw17 k0_t4 k0_h8)
theorem k0_off481_inb : ∀ (v0 : BitVec 32) (k0_hw17 : k0_chk17 v0) (k0_t4 : Fin (k0_t4_loop v0).trips), ∀ (k0_h8 : k0_cond8 v0 k0_t4 = 1#1), ∀ a, (k0_off481 v0 k0_t4) a + S1x1.size a ≤ S1x1024.size a := fun v0 k0_hw17 k0_t4 k0_h8 => k0_hw17.2.2.2.2.2.2.2.2.2.2.2.1.2.2.2.2.2.2.2.2.2.2.2.2.2.2.2.2.2.2.2.2.2.2.2.2.2.1 k0_t4 k0_h8
theorem k0_off482_inb : ∀ (v0 : BitVec 32) (k0_hw17 : k0_chk17 v0) (k0_t4 : Fin (k0_t4_loop v0).trips), ∀ (k0_h8 : k0_cond8 v0 k0_t4 = 1#1), ∀ a, (k0_off482 v0 k0_t4) a + S1.size a ≤ S24.size a := fun v0 k0_hw17 k0_t4 k0_h8 => k0_hw17.2.2.2.2.2.2.2.2.2.2.2.1.2.2.2.2.2.2.2.2.2.2.2.2.2.2.2.2.2.2.2.2.2.2.2.2.2.2.1 k0_t4 k0_h8
theorem k0_off483_inb : ∀ (v0 : BitVec 32) (k0_hw17 : k0_chk17 v0) (k0_t4 : Fin (k0_t4_loop v0).trips), ∀ (k0_h8 : k0_cond8 v0 k0_t4 = 1#1), ∀ a, (k0_off483 v0 k0_t4) a + S1x1x2x128x128.size a ≤ S24x16x2x128x128.size a := fun v0 k0_hw17 k0_t4 k0_h8 => k0_hw17.2.2.2.2.2.2.2.2.2.2.2.1.2.2.2.2.2.2.2.2.2.2.2.2.2.2.2.2.2.2.2.2.2.2.2.2.2.2.2.1 k0_t4 k0_h8
theorem k0_off483_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off483 v0 k0_t4) S1x1x2x128x128.size (k0_off483_inb v0 k0_hw17 k0_t4 k0_h8)).WholeWords (EltTy.packing .fp8e4m3) := fun v0 k0_hw17 k0_t4 k0_h8 => k0_hw17.2.2.2.2.2.2.2.2.2.2.2.1.2.2.2.2.2.2.2.2.2.2.2.2.2.2.2.2.2.2.2.2.2.2.2.2.2.2.2.2.1 k0_t4 k0_h8 (k0_off483_inb v0 k0_hw17 k0_t4 k0_h8)
theorem k0_off485_inb : ∀ (v0 : BitVec 32) (k0_hw17 : k0_chk17 v0) (k0_t4 : Fin (k0_t4_loop v0).trips), ∀ (k0_h8 : k0_cond8 v0 k0_t4 = 1#1), ∀ a, (k0_off485 v0 k0_t4) a + S1x1.size a ≤ S1x1024.size a := fun v0 k0_hw17 k0_t4 k0_h8 => k0_hw17.2.2.2.2.2.2.2.2.2.2.2.1.2.2.2.2.2.2.2.2.2.2.2.2.2.2.2.2.2.2.2.2.2.2.2.2.2.2.2.2.2.1 k0_t4 k0_h8
theorem k0_off486_inb : ∀ (v0 : BitVec 32) (k0_hw17 : k0_chk17 v0) (k0_t4 : Fin (k0_t4_loop v0).trips), ∀ (k0_h8 : k0_cond8 v0 k0_t4 = 1#1), ∀ a, (k0_off486 v0 k0_t4) a + S1.size a ≤ S24.size a := fun v0 k0_hw17 k0_t4 k0_h8 => k0_hw17.2.2.2.2.2.2.2.2.2.2.2.1.2.2.2.2.2.2.2.2.2.2.2.2.2.2.2.2.2.2.2.2.2.2.2.2.2.2.2.2.2.2.1 k0_t4 k0_h8
theorem k0_off487_inb : ∀ (v0 : BitVec 32) (k0_hw17 : k0_chk17 v0) (k0_t4 : Fin (k0_t4_loop v0).trips), ∀ (k0_h8 : k0_cond8 v0 k0_t4 = 1#1), ∀ a, (k0_off487 v0 k0_t4) a + S1x1x2x128x128.size a ≤ S24x16x2x128x128.size a := fun v0 k0_hw17 k0_t4 k0_h8 => k0_hw17.2.2.2.2.2.2.2.2.2.2.2.1.2.2.2.2.2.2.2.2.2.2.2.2.2.2.2.2.2.2.2.2.2.2.2.2.2.2.2.2.2.2.2 k0_t4 k0_h8
theorem k0_off487_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off487 v0 k0_t4) S1x1x2x128x128.size (k0_off487_inb v0 k0_hw17 k0_t4 k0_h8)).WholeWords (EltTy.packing .fp8e4m3) := fun v0 k0_hw17 k0_t4 k0_h8 => k0_hw17.2.2.2.2.2.2.2.2.2.2.2.2.1.1 k0_t4 k0_h8 (k0_off487_inb v0 k0_hw17 k0_t4 k0_h8)
theorem k0_off489_inb : ∀ (v0 : BitVec 32) (k0_hw17 : k0_chk17 v0) (k0_t4 : Fin (k0_t4_loop v0).trips), ∀ (k0_h8 : k0_cond8 v0 k0_t4 = 1#1), ∀ a, (k0_off489 v0 k0_t4) a + S1x1.size a ≤ S1x1024.size a := fun v0 k0_hw17 k0_t4 k0_h8 => k0_hw17.2.2.2.2.2.2.2.2.2.2.2.2.1.2.1 k0_t4 k0_h8
theorem k0_off490_inb : ∀ (v0 : BitVec 32) (k0_hw17 : k0_chk17 v0) (k0_t4 : Fin (k0_t4_loop v0).trips), ∀ (k0_h8 : k0_cond8 v0 k0_t4 = 1#1), ∀ a, (k0_off490 v0 k0_t4) a + S1.size a ≤ S24.size a := fun v0 k0_hw17 k0_t4 k0_h8 => k0_hw17.2.2.2.2.2.2.2.2.2.2.2.2.1.2.2.1 k0_t4 k0_h8
theorem k0_off491_inb : ∀ (v0 : BitVec 32) (k0_hw17 : k0_chk17 v0) (k0_t4 : Fin (k0_t4_loop v0).trips), ∀ (k0_h8 : k0_cond8 v0 k0_t4 = 1#1), ∀ a, (k0_off491 v0 k0_t4) a + S1x1x2x128x128.size a ≤ S24x16x2x128x128.size a := fun v0 k0_hw17 k0_t4 k0_h8 => k0_hw17.2.2.2.2.2.2.2.2.2.2.2.2.1.2.2.2.1 k0_t4 k0_h8
theorem k0_off491_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off491 v0 k0_t4) S1x1x2x128x128.size (k0_off491_inb v0 k0_hw17 k0_t4 k0_h8)).WholeWords (EltTy.packing .fp8e4m3) := fun v0 k0_hw17 k0_t4 k0_h8 => k0_hw17.2.2.2.2.2.2.2.2.2.2.2.2.1.2.2.2.2.1 k0_t4 k0_h8 (k0_off491_inb v0 k0_hw17 k0_t4 k0_h8)
theorem k0_off493_inb : ∀ (v0 : BitVec 32) (k0_hw17 : k0_chk17 v0) (k0_t4 : Fin (k0_t4_loop v0).trips), ∀ (k0_h8 : k0_cond8 v0 k0_t4 = 1#1), ∀ a, (k0_off493 v0 k0_t4) a + S1x1.size a ≤ S1x1024.size a := fun v0 k0_hw17 k0_t4 k0_h8 => k0_hw17.2.2.2.2.2.2.2.2.2.2.2.2.1.2.2.2.2.2.1 k0_t4 k0_h8
theorem k0_off494_inb : ∀ (v0 : BitVec 32) (k0_hw17 : k0_chk17 v0) (k0_t4 : Fin (k0_t4_loop v0).trips), ∀ (k0_h8 : k0_cond8 v0 k0_t4 = 1#1), ∀ a, (k0_off494 v0 k0_t4) a + S1.size a ≤ S24.size a := fun v0 k0_hw17 k0_t4 k0_h8 => k0_hw17.2.2.2.2.2.2.2.2.2.2.2.2.1.2.2.2.2.2.2.1 k0_t4 k0_h8
theorem k0_off495_inb : ∀ (v0 : BitVec 32) (k0_hw17 : k0_chk17 v0) (k0_t4 : Fin (k0_t4_loop v0).trips), ∀ (k0_h8 : k0_cond8 v0 k0_t4 = 1#1), ∀ a, (k0_off495 v0 k0_t4) a + S1x1x2x128x128.size a ≤ S24x16x2x128x128.size a := fun v0 k0_hw17 k0_t4 k0_h8 => k0_hw17.2.2.2.2.2.2.2.2.2.2.2.2.1.2.2.2.2.2.2.2.1 k0_t4 k0_h8
theorem k0_off495_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off495 v0 k0_t4) S1x1x2x128x128.size (k0_off495_inb v0 k0_hw17 k0_t4 k0_h8)).WholeWords (EltTy.packing .fp8e4m3) := fun v0 k0_hw17 k0_t4 k0_h8 => k0_hw17.2.2.2.2.2.2.2.2.2.2.2.2.1.2.2.2.2.2.2.2.2.1 k0_t4 k0_h8 (k0_off495_inb v0 k0_hw17 k0_t4 k0_h8)
theorem k0_off497_inb : ∀ (v0 : BitVec 32) (k0_hw17 : k0_chk17 v0) (k0_t4 : Fin (k0_t4_loop v0).trips), ∀ (k0_h8 : k0_cond8 v0 k0_t4 = 1#1), ∀ a, (k0_off497 v0 k0_t4) a + S1x1.size a ≤ S1x1024.size a := fun v0 k0_hw17 k0_t4 k0_h8 => k0_hw17.2.2.2.2.2.2.2.2.2.2.2.2.1.2.2.2.2.2.2.2.2.2.1 k0_t4 k0_h8
theorem k0_off498_inb : ∀ (v0 : BitVec 32) (k0_hw17 : k0_chk17 v0) (k0_t4 : Fin (k0_t4_loop v0).trips), ∀ (k0_h8 : k0_cond8 v0 k0_t4 = 1#1), ∀ a, (k0_off498 v0 k0_t4) a + S1.size a ≤ S24.size a := fun v0 k0_hw17 k0_t4 k0_h8 => k0_hw17.2.2.2.2.2.2.2.2.2.2.2.2.1.2.2.2.2.2.2.2.2.2.2.1 k0_t4 k0_h8
theorem k0_off499_inb : ∀ (v0 : BitVec 32) (k0_hw17 : k0_chk17 v0) (k0_t4 : Fin (k0_t4_loop v0).trips), ∀ (k0_h8 : k0_cond8 v0 k0_t4 = 1#1), ∀ a, (k0_off499 v0 k0_t4) a + S1x1x2x128x128.size a ≤ S24x16x2x128x128.size a := fun v0 k0_hw17 k0_t4 k0_h8 => k0_hw17.2.2.2.2.2.2.2.2.2.2.2.2.1.2.2.2.2.2.2.2.2.2.2.2.1 k0_t4 k0_h8
theorem k0_off499_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off499 v0 k0_t4) S1x1x2x128x128.size (k0_off499_inb v0 k0_hw17 k0_t4 k0_h8)).WholeWords (EltTy.packing .fp8e4m3) := fun v0 k0_hw17 k0_t4 k0_h8 => k0_hw17.2.2.2.2.2.2.2.2.2.2.2.2.1.2.2.2.2.2.2.2.2.2.2.2.2.1 k0_t4 k0_h8 (k0_off499_inb v0 k0_hw17 k0_t4 k0_h8)
theorem k0_off501_inb : ∀ (v0 : BitVec 32) (k0_hw17 : k0_chk17 v0) (k0_t4 : Fin (k0_t4_loop v0).trips), ∀ (k0_h8 : k0_cond8 v0 k0_t4 = 1#1), ∀ a, (k0_off501 v0 k0_t4) a + S1x1.size a ≤ S1x1024.size a := fun v0 k0_hw17 k0_t4 k0_h8 => k0_hw17.2.2.2.2.2.2.2.2.2.2.2.2.1.2.2.2.2.2.2.2.2.2.2.2.2.2.1 k0_t4 k0_h8
theorem k0_off502_inb : ∀ (v0 : BitVec 32) (k0_hw17 : k0_chk17 v0) (k0_t4 : Fin (k0_t4_loop v0).trips), ∀ (k0_h8 : k0_cond8 v0 k0_t4 = 1#1), ∀ a, (k0_off502 v0 k0_t4) a + S1.size a ≤ S24.size a := fun v0 k0_hw17 k0_t4 k0_h8 => k0_hw17.2.2.2.2.2.2.2.2.2.2.2.2.1.2.2.2.2.2.2.2.2.2.2.2.2.2.2.1 k0_t4 k0_h8
theorem k0_off503_inb : ∀ (v0 : BitVec 32) (k0_hw17 : k0_chk17 v0) (k0_t4 : Fin (k0_t4_loop v0).trips), ∀ (k0_h8 : k0_cond8 v0 k0_t4 = 1#1), ∀ a, (k0_off503 v0 k0_t4) a + S1x1x2x128x128.size a ≤ S24x16x2x128x128.size a := fun v0 k0_hw17 k0_t4 k0_h8 => k0_hw17.2.2.2.2.2.2.2.2.2.2.2.2.1.2.2.2.2.2.2.2.2.2.2.2.2.2.2.2.1 k0_t4 k0_h8
theorem k0_off503_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off503 v0 k0_t4) S1x1x2x128x128.size (k0_off503_inb v0 k0_hw17 k0_t4 k0_h8)).WholeWords (EltTy.packing .fp8e4m3) := fun v0 k0_hw17 k0_t4 k0_h8 => k0_hw17.2.2.2.2.2.2.2.2.2.2.2.2.1.2.2.2.2.2.2.2.2.2.2.2.2.2.2.2.2.1 k0_t4 k0_h8 (k0_off503_inb v0 k0_hw17 k0_t4 k0_h8)
theorem k0_off505_inb : ∀ (v0 : BitVec 32) (k0_hw17 : k0_chk17 v0) (k0_t4 : Fin (k0_t4_loop v0).trips), ∀ (k0_h8 : k0_cond8 v0 k0_t4 = 1#1), ∀ a, (k0_off505 v0 k0_t4) a + S1x1.size a ≤ S1x1024.size a := fun v0 k0_hw17 k0_t4 k0_h8 => k0_hw17.2.2.2.2.2.2.2.2.2.2.2.2.1.2.2.2.2.2.2.2.2.2.2.2.2.2.2.2.2.2.1 k0_t4 k0_h8
theorem k0_off506_inb : ∀ (v0 : BitVec 32) (k0_hw17 : k0_chk17 v0) (k0_t4 : Fin (k0_t4_loop v0).trips), ∀ (k0_h8 : k0_cond8 v0 k0_t4 = 1#1), ∀ a, (k0_off506 v0 k0_t4) a + S1.size a ≤ S24.size a := fun v0 k0_hw17 k0_t4 k0_h8 => k0_hw17.2.2.2.2.2.2.2.2.2.2.2.2.1.2.2.2.2.2.2.2.2.2.2.2.2.2.2.2.2.2.2.1 k0_t4 k0_h8
theorem k0_off507_inb : ∀ (v0 : BitVec 32) (k0_hw17 : k0_chk17 v0) (k0_t4 : Fin (k0_t4_loop v0).trips), ∀ (k0_h8 : k0_cond8 v0 k0_t4 = 1#1), ∀ a, (k0_off507 v0 k0_t4) a + S1x1x2x128x128.size a ≤ S24x16x2x128x128.size a := fun v0 k0_hw17 k0_t4 k0_h8 => k0_hw17.2.2.2.2.2.2.2.2.2.2.2.2.1.2.2.2.2.2.2.2.2.2.2.2.2.2.2.2.2.2.2.2.1 k0_t4 k0_h8
theorem k0_off507_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off507 v0 k0_t4) S1x1x2x128x128.size (k0_off507_inb v0 k0_hw17 k0_t4 k0_h8)).WholeWords (EltTy.packing .fp8e4m3) := fun v0 k0_hw17 k0_t4 k0_h8 => k0_hw17.2.2.2.2.2.2.2.2.2.2.2.2.1.2.2.2.2.2.2.2.2.2.2.2.2.2.2.2.2.2.2.2.2.1 k0_t4 k0_h8 (k0_off507_inb v0 k0_hw17 k0_t4 k0_h8)
theorem k0_off509_inb : ∀ (v0 : BitVec 32) (k0_hw17 : k0_chk17 v0) (k0_t4 : Fin (k0_t4_loop v0).trips), ∀ (k0_h8 : k0_cond8 v0 k0_t4 = 1#1), ∀ a, (k0_off509 v0 k0_t4) a + S1x1.size a ≤ S1x1024.size a := fun v0 k0_hw17 k0_t4 k0_h8 => k0_hw17.2.2.2.2.2.2.2.2.2.2.2.2.1.2.2.2.2.2.2.2.2.2.2.2.2.2.2.2.2.2.2.2.2.2.1 k0_t4 k0_h8
theorem k0_off510_inb : ∀ (v0 : BitVec 32) (k0_hw17 : k0_chk17 v0) (k0_t4 : Fin (k0_t4_loop v0).trips), ∀ (k0_h8 : k0_cond8 v0 k0_t4 = 1#1), ∀ a, (k0_off510 v0 k0_t4) a + S1.size a ≤ S24.size a := fun v0 k0_hw17 k0_t4 k0_h8 => k0_hw17.2.2.2.2.2.2.2.2.2.2.2.2.1.2.2.2.2.2.2.2.2.2.2.2.2.2.2.2.2.2.2.2.2.2.2.1 k0_t4 k0_h8
theorem k0_off511_inb : ∀ (v0 : BitVec 32) (k0_hw17 : k0_chk17 v0) (k0_t4 : Fin (k0_t4_loop v0).trips), ∀ (k0_h8 : k0_cond8 v0 k0_t4 = 1#1), ∀ a, (k0_off511 v0 k0_t4) a + S1x1x2x128x128.size a ≤ S24x16x2x128x128.size a := fun v0 k0_hw17 k0_t4 k0_h8 => k0_hw17.2.2.2.2.2.2.2.2.2.2.2.2.1.2.2.2.2.2.2.2.2.2.2.2.2.2.2.2.2.2.2.2.2.2.2.2.1 k0_t4 k0_h8
theorem k0_off511_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off511 v0 k0_t4) S1x1x2x128x128.size (k0_off511_inb v0 k0_hw17 k0_t4 k0_h8)).WholeWords (EltTy.packing .fp8e4m3) := fun v0 k0_hw17 k0_t4 k0_h8 => k0_hw17.2.2.2.2.2.2.2.2.2.2.2.2.1.2.2.2.2.2.2.2.2.2.2.2.2.2.2.2.2.2.2.2.2.2.2.2.2.1 k0_t4 k0_h8 (k0_off511_inb v0 k0_hw17 k0_t4 k0_h8)
theorem k0_off513_inb : ∀ (v0 : BitVec 32) (k0_hw17 : k0_chk17 v0) (k0_t4 : Fin (k0_t4_loop v0).trips), ∀ (k0_h8 : k0_cond8 v0 k0_t4 = 1#1), ∀ a, (k0_off513 v0 k0_t4) a + S1x1.size a ≤ S1x1024.size a := fun v0 k0_hw17 k0_t4 k0_h8 => k0_hw17.2.2.2.2.2.2.2.2.2.2.2.2.1.2.2.2.2.2.2.2.2.2.2.2.2.2.2.2.2.2.2.2.2.2.2.2.2.2.1 k0_t4 k0_h8
theorem k0_off514_inb : ∀ (v0 : BitVec 32) (k0_hw17 : k0_chk17 v0) (k0_t4 : Fin (k0_t4_loop v0).trips), ∀ (k0_h8 : k0_cond8 v0 k0_t4 = 1#1), ∀ a, (k0_off514 v0 k0_t4) a + S1.size a ≤ S24.size a := fun v0 k0_hw17 k0_t4 k0_h8 => k0_hw17.2.2.2.2.2.2.2.2.2.2.2.2.1.2.2.2.2.2.2.2.2.2.2.2.2.2.2.2.2.2.2.2.2.2.2.2.2.2.2.1 k0_t4 k0_h8
theorem k0_off515_inb : ∀ (v0 : BitVec 32) (k0_hw17 : k0_chk17 v0) (k0_t4 : Fin (k0_t4_loop v0).trips), ∀ (k0_h8 : k0_cond8 v0 k0_t4 = 1#1), ∀ a, (k0_off515 v0 k0_t4) a + S1x1x2x128x128.size a ≤ S24x16x2x128x128.size a := fun v0 k0_hw17 k0_t4 k0_h8 => k0_hw17.2.2.2.2.2.2.2.2.2.2.2.2.1.2.2.2.2.2.2.2.2.2.2.2.2.2.2.2.2.2.2.2.2.2.2.2.2.2.2.2.1 k0_t4 k0_h8
theorem k0_off515_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off515 v0 k0_t4) S1x1x2x128x128.size (k0_off515_inb v0 k0_hw17 k0_t4 k0_h8)).WholeWords (EltTy.packing .fp8e4m3) := fun v0 k0_hw17 k0_t4 k0_h8 => k0_hw17.2.2.2.2.2.2.2.2.2.2.2.2.1.2.2.2.2.2.2.2.2.2.2.2.2.2.2.2.2.2.2.2.2.2.2.2.2.2.2.2.2.1 k0_t4 k0_h8 (k0_off515_inb v0 k0_hw17 k0_t4 k0_h8)
theorem k0_off517_inb : ∀ (v0 : BitVec 32) (k0_hw17 : k0_chk17 v0) (k0_t4 : Fin (k0_t4_loop v0).trips), ∀ (k0_h8 : k0_cond8 v0 k0_t4 = 1#1), ∀ a, (k0_off517 v0 k0_t4) a + S1x1.size a ≤ S1x1024.size a := fun v0 k0_hw17 k0_t4 k0_h8 => k0_hw17.2.2.2.2.2.2.2.2.2.2.2.2.1.2.2.2.2.2.2.2.2.2.2.2.2.2.2.2.2.2.2.2.2.2.2.2.2.2.2.2.2.2.1 k0_t4 k0_h8
theorem k0_off518_inb : ∀ (v0 : BitVec 32) (k0_hw17 : k0_chk17 v0) (k0_t4 : Fin (k0_t4_loop v0).trips), ∀ (k0_h8 : k0_cond8 v0 k0_t4 = 1#1), ∀ a, (k0_off518 v0 k0_t4) a + S1.size a ≤ S24.size a := fun v0 k0_hw17 k0_t4 k0_h8 => k0_hw17.2.2.2.2.2.2.2.2.2.2.2.2.1.2.2.2.2.2.2.2.2.2.2.2.2.2.2.2.2.2.2.2.2.2.2.2.2.2.2.2.2.2.2.1 k0_t4 k0_h8
theorem k0_off519_inb : ∀ (v0 : BitVec 32) (k0_hw17 : k0_chk17 v0) (k0_t4 : Fin (k0_t4_loop v0).trips), ∀ (k0_h8 : k0_cond8 v0 k0_t4 = 1#1), ∀ a, (k0_off519 v0 k0_t4) a + S1x1x2x128x128.size a ≤ S24x16x2x128x128.size a := fun v0 k0_hw17 k0_t4 k0_h8 => k0_hw17.2.2.2.2.2.2.2.2.2.2.2.2.1.2.2.2.2.2.2.2.2.2.2.2.2.2.2.2.2.2.2.2.2.2.2.2.2.2.2.2.2.2.2.2 k0_t4 k0_h8
theorem k0_off519_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off519 v0 k0_t4) S1x1x2x128x128.size (k0_off519_inb v0 k0_hw17 k0_t4 k0_h8)).WholeWords (EltTy.packing .fp8e4m3) := fun v0 k0_hw17 k0_t4 k0_h8 => k0_hw17.2.2.2.2.2.2.2.2.2.2.2.2.2.1.1 k0_t4 k0_h8 (k0_off519_inb v0 k0_hw17 k0_t4 k0_h8)
theorem k0_off521_inb : ∀ (v0 : BitVec 32) (k0_hw17 : k0_chk17 v0) (k0_t4 : Fin (k0_t4_loop v0).trips), ∀ (k0_h8 : k0_cond8 v0 k0_t4 = 1#1), ∀ a, (k0_off521 v0 k0_t4) a + S1x1.size a ≤ S1x1024.size a := fun v0 k0_hw17 k0_t4 k0_h8 => k0_hw17.2.2.2.2.2.2.2.2.2.2.2.2.2.1.2.1 k0_t4 k0_h8
theorem k0_off522_inb : ∀ (v0 : BitVec 32) (k0_hw17 : k0_chk17 v0) (k0_t4 : Fin (k0_t4_loop v0).trips), ∀ (k0_h8 : k0_cond8 v0 k0_t4 = 1#1), ∀ a, (k0_off522 v0 k0_t4) a + S1.size a ≤ S24.size a := fun v0 k0_hw17 k0_t4 k0_h8 => k0_hw17.2.2.2.2.2.2.2.2.2.2.2.2.2.1.2.2.1 k0_t4 k0_h8
theorem k0_off523_inb : ∀ (v0 : BitVec 32) (k0_hw17 : k0_chk17 v0) (k0_t4 : Fin (k0_t4_loop v0).trips), ∀ (k0_h8 : k0_cond8 v0 k0_t4 = 1#1), ∀ a, (k0_off523 v0 k0_t4) a + S1x1x2x128x128.size a ≤ S24x16x2x128x128.size a := fun v0 k0_hw17 k0_t4 k0_h8 => k0_hw17.2.2.2.2.2.2.2.2.2.2.2.2.2.1.2.2.2.1 k0_t4 k0_h8
theorem k0_off523_wordsfp8e4m3 : ∀ (v0 : BitVec 32) (k0_hw17 : k0_chk17 v0) (k0_t4 : Fin (k0_t4_loop v0).trips), ∀ (k0_h8 : k0_cond8 v0 k0_t4 = 1#1), (Rect.unit (s := S24x16x2x128x128) (k0_off523 v0 k0_t4) S1x1x2x128x128.size (k0_off523_inb v0 k0_hw17 k0_t4 k0_h8)).WholeWords (EltTy.packing .fp8e4m3) := fun v0 k0_hw17 k0_t4 k0_h8 => k0_hw17.2.2.2.2.2.2.2.2.2.2.2.2.2.1.2.2.2.2.1 k0_t4 k0_h8 (k0_off523_inb v0 k0_hw17 k0_t4 k0_h8)
theorem k0_t5_ok : ∀ (v0 : BitVec 32) (k0_hw17 : k0_chk17 v0), (k0_t5_loop v0).OK := fun v0 k0_hw17 => k0_hw17.2.2.2.2.2.2.2.2.2.2.2.2.2.1.2.2.2.2.2.1
theorem k0_off525_inb : ∀ (v0 : BitVec 32) (k0_hw17 : k0_chk17 v0) (k0_t5 : Fin (k0_t5_loop v0).trips), ∀ a, (k0_off525 v0 k0_t5) a + S1.size a ≤ S24.size a := fun v0 k0_hw17 k0_t5 => k0_hw17.2.2.2.2.2.2.2.2.2.2.2.2.2.1.2.2.2.2.2.2.1 k0_t5
theorem k0_off526_inb : ∀ (v0 : BitVec 32) (k0_hw17 : k0_chk17 v0) (k0_t5 : Fin (k0_t5_loop v0).trips), ∀ a, (k0_off526 v0 k0_t5) a + S1x16x2x128x128.size a ≤ S24x16x2x128x128.size a := fun v0 k0_hw17 k0_t5 => k0_hw17.2.2.2.2.2.2.2.2.2.2.2.2.2.1.2.2.2.2.2.2.2.1 k0_t5
theorem k0_off526_wordsfp8e4m3 : ∀ (v0 : BitVec 32) (k0_hw17 : k0_chk17 v0) (k0_t5 : Fin (k0_t5_loop v0).trips), (Rect.unit (s := S24x16x2x128x128) (k0_off526 v0 k0_t5) S1x16x2x128x128.size (k0_off526_inb v0 k0_hw17 k0_t5)).WholeWords (EltTy.packing .fp8e4m3) := fun v0 k0_hw17 k0_t5 => k0_hw17.2.2.2.2.2.2.2.2.2.2.2.2.2.1.2.2.2.2.2.2.2.2.1 k0_t5 (k0_off526_inb v0 k0_hw17 k0_t5)
theorem k0_mult4_dvd : ∀ (v0 : BitVec 32) (k0_hw17 : k0_chk17 v0) (k0_t5 : Fin (k0_t5_loop v0).trips), 2048 ∣ (k0_mult4 v0 k0_t5).toNat := fun v0 k0_hw17 k0_t5 => k0_hw17.2.2.2.2.2.2.2.2.2.2.2.2.2.1.2.2.2.2.2.2.2.2.2.1 k0_t5
theorem k0_off527_inb : ∀ (v0 : BitVec 32) (k0_hw17 : k0_chk17 v0) (k0_t5 : Fin (k0_t5_loop v0).trips), ∀ a, (k0_off527 v0 k0_t5) a + S16x2048.size a ≤ S16x131072.size a := fun v0 k0_hw17 k0_t5 => k0_hw17.2.2.2.2.2.2.2.2.2.2.2.2.2.1.2.2.2.2.2.2.2.2.2.2.1 k0_t5
theorem k0_off528_inb : ∀ (v0 : BitVec 32) (k0_hw17 : k0_chk17 v0) (k0_t5 : Fin (k0_t5_loop v0).trips), ∀ a, (k0_off528 v0 k0_t5) a + S1x16x2x128x128.size a ≤ S24x16x2x128x128.size a := fun v0 k0_hw17 k0_t5 => k0_hw17.2.2.2.2.2.2.2.2.2.2.2.2.2.1.2.2.2.2.2.2.2.2.2.2.2.1 k0_t5
theorem k0_off529_inb : ∀ (v0 : BitVec 32) (k0_hw17 : k0_chk17 v0) (k0_t5 : Fin (k0_t5_loop v0).trips), ∀ (k0_h9 : k0_cond9 v0 k0_t5 = 1#1), ∀ a, (k0_off529 v0 k0_t5) a + S1x1.size a ≤ S1x1024.size a := fun v0 k0_hw17 k0_t5 k0_h9 => k0_hw17.2.2.2.2.2.2.2.2.2.2.2.2.2.1.2.2.2.2.2.2.2.2.2.2.2.2.1 k0_t5 k0_h9
theorem k0_off530_inb : ∀ (v0 : BitVec 32) (k0_hw17 : k0_chk17 v0) (k0_t5 : Fin (k0_t5_loop v0).trips), ∀ (k0_h9 : k0_cond9 v0 k0_t5 = 1#1), ∀ a, (k0_off530 v0 k0_t5) a + S1.size a ≤ S24.size a := fun v0 k0_hw17 k0_t5 k0_h9 => k0_hw17.2.2.2.2.2.2.2.2.2.2.2.2.2.1.2.2.2.2.2.2.2.2.2.2.2.2.2.1 k0_t5 k0_h9
theorem k0_off531_inb : ∀ (v0 : BitVec 32) (k0_hw17 : k0_chk17 v0) (k0_t5 : Fin (k0_t5_loop v0).trips), ∀ (k0_h9 : k0_cond9 v0 k0_t5 = 1#1), ∀ a, (k0_off531 v0 k0_t5) a + S1x1x2x128x128.size a ≤ S24x16x2x128x128.size a := fun v0 k0_hw17 k0_t5 k0_h9 => k0_hw17.2.2.2.2.2.2.2.2.2.2.2.2.2.1.2.2.2.2.2.2.2.2.2.2.2.2.2.2.1 k0_t5 k0_h9
theorem k0_off531_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off531 v0 k0_t5) S1x1x2x128x128.size (k0_off531_inb v0 k0_hw17 k0_t5 k0_h9)).WholeWords (EltTy.packing .fp8e4m3) := fun v0 k0_hw17 k0_t5 k0_h9 => k0_hw17.2.2.2.2.2.2.2.2.2.2.2.2.2.1.2.2.2.2.2.2.2.2.2.2.2.2.2.2.2.1 k0_t5 k0_h9 (k0_off531_inb v0 k0_hw17 k0_t5 k0_h9)
theorem k0_off533_inb : ∀ (v0 : BitVec 32) (k0_hw17 : k0_chk17 v0) (k0_t5 : Fin (k0_t5_loop v0).trips), ∀ (k0_h9 : k0_cond9 v0 k0_t5 = 1#1), ∀ a, (k0_off533 v0 k0_t5) a + S1x1.size a ≤ S1x1024.size a := fun v0 k0_hw17 k0_t5 k0_h9 => k0_hw17.2.2.2.2.2.2.2.2.2.2.2.2.2.1.2.2.2.2.2.2.2.2.2.2.2.2.2.2.2.2.1 k0_t5 k0_h9
theorem k0_off534_inb : ∀ (v0 : BitVec 32) (k0_hw17 : k0_chk17 v0) (k0_t5 : Fin (k0_t5_loop v0).trips), ∀ (k0_h9 : k0_cond9 v0 k0_t5 = 1#1), ∀ a, (k0_off534 v0 k0_t5) a + S1.size a ≤ S24.size a := fun v0 k0_hw17 k0_t5 k0_h9 => k0_hw17.2.2.2.2.2.2.2.2.2.2.2.2.2.1.2.2.2.2.2.2.2.2.2.2.2.2.2.2.2.2.2.1 k0_t5 k0_h9
theorem k0_off535_inb : ∀ (v0 : BitVec 32) (k0_hw17 : k0_chk17 v0) (k0_t5 : Fin (k0_t5_loop v0).trips), ∀ (k0_h9 : k0_cond9 v0 k0_t5 = 1#1), ∀ a, (k0_off535 v0 k0_t5) a + S1x1x2x128x128.size a ≤ S24x16x2x128x128.size a := fun v0 k0_hw17 k0_t5 k0_h9 => k0_hw17.2.2.2.2.2.2.2.2.2.2.2.2.2.1.2.2.2.2.2.2.2.2.2.2.2.2.2.2.2.2.2.2.1 k0_t5 k0_h9
theorem k0_off535_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off535 v0 k0_t5) S1x1x2x128x128.size (k0_off535_inb v0 k0_hw17 k0_t5 k0_h9)).WholeWords (EltTy.packing .fp8e4m3) := fun v0 k0_hw17 k0_t5 k0_h9 => k0_hw17.2.2.2.2.2.2.2.2.2.2.2.2.2.1.2.2.2.2.2.2.2.2.2.2.2.2.2.2.2.2.2.2.2.1 k0_t5 k0_h9 (k0_off535_inb v0 k0_hw17 k0_t5 k0_h9)
theorem k0_off537_inb : ∀ (v0 : BitVec 32) (k0_hw17 : k0_chk17 v0) (k0_t5 : Fin (k0_t5_loop v0).trips), ∀ (k0_h9 : k0_cond9 v0 k0_t5 = 1#1), ∀ a, (k0_off537 v0 k0_t5) a + S1x1.size a ≤ S1x1024.size a := fun v0 k0_hw17 k0_t5 k0_h9 => k0_hw17.2.2.2.2.2.2.2.2.2.2.2.2.2.1.2.2.2.2.2.2.2.2.2.2.2.2.2.2.2.2.2.2.2.2.1 k0_t5 k0_h9
theorem k0_off538_inb : ∀ (v0 : BitVec 32) (k0_hw17 : k0_chk17 v0) (k0_t5 : Fin (k0_t5_loop v0).trips), ∀ (k0_h9 : k0_cond9 v0 k0_t5 = 1#1), ∀ a, (k0_off538 v0 k0_t5) a + S1.size a ≤ S24.size a := fun v0 k0_hw17 k0_t5 k0_h9 => k0_hw17.2.2.2.2.2.2.2.2.2.2.2.2.2.1.2.2.2.2.2.2.2.2.2.2.2.2.2.2.2.2.2.2.2.2.2.1 k0_t5 k0_h9
theorem k0_off539_inb : ∀ (v0 : BitVec 32) (k0_hw17 : k0_chk17 v0) (k0_t5 : Fin (k0_t5_loop v0).trips), ∀ (k0_h9 : k0_cond9 v0 k0_t5 = 1#1), ∀ a, (k0_off539 v0 k0_t5) a + S1x1x2x128x128.size a ≤ S24x16x2x128x128.size a := fun v0 k0_hw17 k0_t5 k0_h9 => k0_hw17.2.2.2.2.2.2.2.2.2.2.2.2.2.1.2.2.2.2.2.2.2.2.2.2.2.2.2.2.2.2.2.2.2.2.2.2.1 k0_t5 k0_h9
theorem k0_off539_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off539 v0 k0_t5) S1x1x2x128x128.size (k0_off539_inb v0 k0_hw17 k0_t5 k0_h9)).WholeWords (EltTy.packing .fp8e4m3) := fun v0 k0_hw17 k0_t5 k0_h9 => k0_hw17.2.2.2.2.2.2.2.2.2.2.2.2.2.1.2.2.2.2.2.2.2.2.2.2.2.2.2.2.2.2.2.2.2.2.2.2.2.1 k0_t5 k0_h9 (k0_off539_inb v0 k0_hw17 k0_t5 k0_h9)
theorem k0_off541_inb : ∀ (v0 : BitVec 32) (k0_hw17 : k0_chk17 v0) (k0_t5 : Fin (k0_t5_loop v0).trips), ∀ (k0_h9 : k0_cond9 v0 k0_t5 = 1#1), ∀ a, (k0_off541 v0 k0_t5) a + S1x1.size a ≤ S1x1024.size a := fun v0 k0_hw17 k0_t5 k0_h9 => k0_hw17.2.2.2.2.2.2.2.2.2.2.2.2.2.1.2.2.2.2.2.2.2.2.2.2.2.2.2.2.2.2.2.2.2.2.2.2.2.2.1 k0_t5 k0_h9
theorem k0_off542_inb : ∀ (v0 : BitVec 32) (k0_hw17 : k0_chk17 v0) (k0_t5 : Fin (k0_t5_loop v0).trips), ∀ (k0_h9 : k0_cond9 v0 k0_t5 = 1#1), ∀ a, (k0_off542 v0 k0_t5) a + S1.size a ≤ S24.size a := fun v0 k0_hw17 k0_t5 k0_h9 => k0_hw17.2.2.2.2.2.2.2.2.2.2.2.2.2.1.2.2.2.2.2.2.2.2.2.2.2.2.2.2.2.2.2.2.2.2.2.2.2.2.2.1 k0_t5 k0_h9
theorem k0_off543_inb : ∀ (v0 : BitVec 32) (k0_hw17 : k0_chk17 v0) (k0_t5 : Fin (k0_t5_loop v0).trips), ∀ (k0_h9 : k0_cond9 v0 k0_t5 = 1#1), ∀ a, (k0_off543 v0 k0_t5) a + S1x1x2x128x128.size a ≤ S24x16x2x128x128.size a := fun v0 k0_hw17 k0_t5 k0_h9 => k0_hw17.2.2.2.2.2.2.2.2.2.2.2.2.2.1.2.2.2.2.2.2.2.2.2.2.2.2.2.2.2.2.2.2.2.2.2.2.2.2.2.2.1 k0_t5 k0_h9
theorem k0_off543_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off543 v0 k0_t5) S1x1x2x128x128.size (k0_off543_inb v0 k0_hw17 k0_t5 k0_h9)).WholeWords (EltTy.packing .fp8e4m3) := fun v0 k0_hw17 k0_t5 k0_h9 => k0_hw17.2.2.2.2.2.2.2.2.2.2.2.2.2.1.2.2.2.2.2.2.2.2.2.2.2.2.2.2.2.2.2.2.2.2.2.2.2.2.2.2.2.1 k0_t5 k0_h9 (k0_off543_inb v0 k0_hw17 k0_t5 k0_h9)
theorem k0_off545_inb : ∀ (v0 : BitVec 32) (k0_hw17 : k0_chk17 v0) (k0_t5 : Fin (k0_t5_loop v0).trips), ∀ (k0_h9 : k0_cond9 v0 k0_t5 = 1#1), ∀ a, (k0_off545 v0 k0_t5) a + S1x1.size a ≤ S1x1024.size a := fun v0 k0_hw17 k0_t5 k0_h9 => k0_hw17.2.2.2.2.2.2.2.2.2.2.2.2.2.1.2.2.2.2.2.2.2.2.2.2.2.2.2.2.2.2.2.2.2.2.2.2.2.2.2.2.2.2.1 k0_t5 k0_h9
theorem k0_off546_inb : ∀ (v0 : BitVec 32) (k0_hw17 : k0_chk17 v0) (k0_t5 : Fin (k0_t5_loop v0).trips), ∀ (k0_h9 : k0_cond9 v0 k0_t5 = 1#1), ∀ a, (k0_off546 v0 k0_t5) a + S1.size a ≤ S24.size a := fun v0 k0_hw17 k0_t5 k0_h9 => k0_hw17.2.2.2.2.2.2.2.2.2.2.2.2.2.1.2.2.2.2.2.2.2.2.2.2.2.2.2.2.2.2.2.2.2.2.2.2.2.2.2.2.2.2.2.1 k0_t5 k0_h9
theorem k0_off547_inb : ∀ (v0 : BitVec 32) (k0_hw17 : k0_chk17 v0) (k0_t5 : Fin (k0_t5_loop v0).trips), ∀ (k0_h9 : k0_cond9 v0 k0_t5 = 1#1), ∀ a, (k0_off547 v0 k0_t5) a + S1x1x2x128x128.size a ≤ S24x16x2x128x128.size a := fun v0 k0_hw17 k0_t5 k0_h9 => k0_hw17.2.2.2.2.2.2.2.2.2.2.2.2.2.1.2.2.2.2.2.2.2.2.2.2.2.2.2.2.2.2.2.2.2.2.2.2.2.2.2.2.2.2.2.2.1 k0_t5 k0_h9
theorem k0_off547_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off547 v0 k0_t5) S1x1x2x128x128.size (k0_off547_inb v0 k0_hw17 k0_t5 k0_h9)).WholeWords (EltTy.packing .fp8e4m3) := fun v0 k0_hw17 k0_t5 k0_h9 => k0_hw17.2.2.2.2.2.2.2.2.2.2.2.2.2.1.2.2.2.2.2.2.2.2.2.2.2.2.2.2.2.2.2.2.2.2.2.2.2.2.2.2.2.2.2.2.2 k0_t5 k0_h9 (k0_off547_inb v0 k0_hw17 k0_t5 k0_h9)
theorem k0_off549_inb : ∀ (v0 : BitVec 32) (k0_hw17 : k0_chk17 v0) (k0_t5 : Fin (k0_t5_loop v0).trips), ∀ (k0_h9 : k0_cond9 v0 k0_t5 = 1#1), ∀ a, (k0_off549 v0 k0_t5) a + S1x1.size a ≤ S1x1024.size a := fun v0 k0_hw17 k0_t5 k0_h9 => k0_hw17.2.2.2.2.2.2.2.2.2.2.2.2.2.2.1.1 k0_t5 k0_h9
theorem k0_off550_inb : ∀ (v0 : BitVec 32) (k0_hw17 : k0_chk17 v0) (k0_t5 : Fin (k0_t5_loop v0).trips), ∀ (k0_h9 : k0_cond9 v0 k0_t5 = 1#1), ∀ a, (k0_off550 v0 k0_t5) a + S1.size a ≤ S24.size a := fun v0 k0_hw17 k0_t5 k0_h9 => k0_hw17.2.2.2.2.2.2.2.2.2.2.2.2.2.2.1.2.1 k0_t5 k0_h9
theorem k0_off551_inb : ∀ (v0 : BitVec 32) (k0_hw17 : k0_chk17 v0) (k0_t5 : Fin (k0_t5_loop v0).trips), ∀ (k0_h9 : k0_cond9 v0 k0_t5 = 1#1), ∀ a, (k0_off551 v0 k0_t5) a + S1x1x2x128x128.size a ≤ S24x16x2x128x128.size a := fun v0 k0_hw17 k0_t5 k0_h9 => k0_hw17.2.2.2.2.2.2.2.2.2.2.2.2.2.2.1.2.2.1 k0_t5 k0_h9
theorem k0_off551_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off551 v0 k0_t5) S1x1x2x128x128.size (k0_off551_inb v0 k0_hw17 k0_t5 k0_h9)).WholeWords (EltTy.packing .fp8e4m3) := fun v0 k0_hw17 k0_t5 k0_h9 => k0_hw17.2.2.2.2.2.2.2.2.2.2.2.2.2.2.1.2.2.2.1 k0_t5 k0_h9 (k0_off551_inb v0 k0_hw17 k0_t5 k0_h9)
theorem k0_off553_inb : ∀ (v0 : BitVec 32) (k0_hw17 : k0_chk17 v0) (k0_t5 : Fin (k0_t5_loop v0).trips), ∀ (k0_h9 : k0_cond9 v0 k0_t5 = 1#1), ∀ a, (k0_off553 v0 k0_t5) a + S1x1.size a ≤ S1x1024.size a := fun v0 k0_hw17 k0_t5 k0_h9 => k0_hw17.2.2.2.2.2.2.2.2.2.2.2.2.2.2.1.2.2.2.2.1 k0_t5 k0_h9
theorem k0_off554_inb : ∀ (v0 : BitVec 32) (k0_hw17 : k0_chk17 v0) (k0_t5 : Fin (k0_t5_loop v0).trips), ∀ (k0_h9 : k0_cond9 v0 k0_t5 = 1#1), ∀ a, (k0_off554 v0 k0_t5) a + S1.size a ≤ S24.size a := fun v0 k0_hw17 k0_t5 k0_h9 => k0_hw17.2.2.2.2.2.2.2.2.2.2.2.2.2.2.1.2.2.2.2.2.1 k0_t5 k0_h9
theorem k0_off555_inb : ∀ (v0 : BitVec 32) (k0_hw17 : k0_chk17 v0) (k0_t5 : Fin (k0_t5_loop v0).trips), ∀ (k0_h9 : k0_cond9 v0 k0_t5 = 1#1), ∀ a, (k0_off555 v0 k0_t5) a + S1x1x2x128x128.size a ≤ S24x16x2x128x128.size a := fun v0 k0_hw17 k0_t5 k0_h9 => k0_hw17.2.2.2.2.2.2.2.2.2.2.2.2.2.2.1.2.2.2.2.2.2.1 k0_t5 k0_h9
theorem k0_off555_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off555 v0 k0_t5) S1x1x2x128x128.size (k0_off555_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.1 k0_t5 k0_h9 (k0_off555_inb v0 k0_hw17 k0_t5 k0_h9)
theorem k0_off557_inb : ∀ (v0 : BitVec 32) (k0_hw17 : k0_chk17 v0) (k0_t5 : Fin (k0_t5_loop v0).trips), ∀ (k0_h9 : k0_cond9 v0 k0_t5 = 1#1), ∀ a, (k0_off557 v0 k0_t5) a + S1x1.size a ≤ S1x1024.size a := fun v0 k0_hw17 k0_t5 k0_h9 => k0_hw17.2.2.2.2.2.2.2.2.2.2.2.2.2.2.1.2.2.2.2.2.2.2.2.1 k0_t5 k0_h9
theorem k0_off558_inb : ∀ (v0 : BitVec 32) (k0_hw17 : k0_chk17 v0) (k0_t5 : Fin (k0_t5_loop v0).trips), ∀ (k0_h9 : k0_cond9 v0 k0_t5 = 1#1), ∀ a, (k0_off558 v0 k0_t5) a + S1.size a ≤ S24.size a := fun v0 k0_hw17 k0_t5 k0_h9 => k0_hw17.2.2.2.2.2.2.2.2.2.2.2.2.2.2.1.2.2.2.2.2.2.2.2.2.1 k0_t5 k0_h9
theorem k0_off559_inb : ∀ (v0 : BitVec 32) (k0_hw17 : k0_chk17 v0) (k0_t5 : Fin (k0_t5_loop v0).trips), ∀ (k0_h9 : k0_cond9 v0 k0_t5 = 1#1), ∀ a, (k0_off559 v0 k0_t5) a + S1x1x2x128x128.size a ≤ S24x16x2x128x128.size a := fun v0 k0_hw17 k0_t5 k0_h9 => k0_hw17.2.2.2.2.2.2.2.2.2.2.2.2.2.2.1.2.2.2.2.2.2.2.2.2.2.1 k0_t5 k0_h9
theorem k0_off559_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off559 v0 k0_t5) S1x1x2x128x128.size (k0_off559_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.2.2.2.2.1 k0_t5 k0_h9 (k0_off559_inb v0 k0_hw17 k0_t5 k0_h9)
theorem k0_off561_inb : ∀ (v0 : BitVec 32) (k0_hw17 : k0_chk17 v0) (k0_t5 : Fin (k0_t5_loop v0).trips), ∀ (k0_h9 : k0_cond9 v0 k0_t5 = 1#1), ∀ a, (k0_off561 v0 k0_t5) a + S1x1.size a ≤ S1x1024.size a := fun v0 k0_hw17 k0_t5 k0_h9 => k0_hw17.2.2.2.2.2.2.2.2.2.2.2.2.2.2.1.2.2.2.2.2.2.2.2.2.2.2.2.1 k0_t5 k0_h9
theorem k0_off562_inb : ∀ (v0 : BitVec 32) (k0_hw17 : k0_chk17 v0) (k0_t5 : Fin (k0_t5_loop v0).trips), ∀ (k0_h9 : k0_cond9 v0 k0_t5 = 1#1), ∀ a, (k0_off562 v0 k0_t5) a + S1.size a ≤ S24.size a := fun v0 k0_hw17 k0_t5 k0_h9 => k0_hw17.2.2.2.2.2.2.2.2.2.2.2.2.2.2.1.2.2.2.2.2.2.2.2.2.2.2.2.2.1 k0_t5 k0_h9
theorem k0_off563_inb : ∀ (v0 : BitVec 32) (k0_hw17 : k0_chk17 v0) (k0_t5 : Fin (k0_t5_loop v0).trips), ∀ (k0_h9 : k0_cond9 v0 k0_t5 = 1#1), ∀ a, (k0_off563 v0 k0_t5) a + S1x1x2x128x128.size a ≤ S24x16x2x128x128.size a := fun v0 k0_hw17 k0_t5 k0_h9 => k0_hw17.2.2.2.2.2.2.2.2.2.2.2.2.2.2.1.2.2.2.2.2.2.2.2.2.2.2.2.2.2.1 k0_t5 k0_h9
theorem k0_off563_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off563 v0 k0_t5) S1x1x2x128x128.size (k0_off563_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.2.2.2.2.2.2.2.2.1 k0_t5 k0_h9 (k0_off563_inb v0 k0_hw17 k0_t5 k0_h9)
theorem k0_off565_inb : ∀ (v0 : BitVec 32) (k0_hw17 : k0_chk17 v0) (k0_t5 : Fin (k0_t5_loop v0).trips), ∀ (k0_h9 : k0_cond9 v0 k0_t5 = 1#1), ∀ a, (k0_off565 v0 k0_t5) a + S1x1.size a ≤ S1x1024.size a := fun v0 k0_hw17 k0_t5 k0_h9 => k0_hw17.2.2.2.2.2.2.2.2.2.2.2.2.2.2.1.2.2.2.2.2.2.2.2.2.2.2.2.2.2.2.2.1 k0_t5 k0_h9
theorem k0_off566_inb : ∀ (v0 : BitVec 32) (k0_hw17 : k0_chk17 v0) (k0_t5 : Fin (k0_t5_loop v0).trips), ∀ (k0_h9 : k0_cond9 v0 k0_t5 = 1#1), ∀ a, (k0_off566 v0 k0_t5) a + S1.size a ≤ S24.size a := fun v0 k0_hw17 k0_t5 k0_h9 => k0_hw17.2.2.2.2.2.2.2.2.2.2.2.2.2.2.1.2.2.2.2.2.2.2.2.2.2.2.2.2.2.2.2.2.1 k0_t5 k0_h9
theorem k0_off567_inb : ∀ (v0 : BitVec 32) (k0_hw17 : k0_chk17 v0) (k0_t5 : Fin (k0_t5_loop v0).trips), ∀ (k0_h9 : k0_cond9 v0 k0_t5 = 1#1), ∀ a, (k0_off567 v0 k0_t5) a + S1x1x2x128x128.size a ≤ S24x16x2x128x128.size a := fun v0 k0_hw17 k0_t5 k0_h9 => k0_hw17.2.2.2.2.2.2.2.2.2.2.2.2.2.2.1.2.2.2.2.2.2.2.2.2.2.2.2.2.2.2.2.2.2.1 k0_t5 k0_h9
theorem k0_off567_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off567 v0 k0_t5) S1x1x2x128x128.size (k0_off567_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.2.2.2.2.2.2.2.2.2.2.2.2.1 k0_t5 k0_h9 (k0_off567_inb v0 k0_hw17 k0_t5 k0_h9)
theorem k0_off569_inb : ∀ (v0 : BitVec 32) (k0_hw17 : k0_chk17 v0) (k0_t5 : Fin (k0_t5_loop v0).trips), ∀ (k0_h9 : k0_cond9 v0 k0_t5 = 1#1), ∀ a, (k0_off569 v0 k0_t5) a + S1x1.size a ≤ S1x1024.size a := fun v0 k0_hw17 k0_t5 k0_h9 => k0_hw17.2.2.2.2.2.2.2.2.2.2.2.2.2.2.1.2.2.2.2.2.2.2.2.2.2.2.2.2.2.2.2.2.2.2.2.1 k0_t5 k0_h9
theorem k0_off570_inb : ∀ (v0 : BitVec 32) (k0_hw17 : k0_chk17 v0) (k0_t5 : Fin (k0_t5_loop v0).trips), ∀ (k0_h9 : k0_cond9 v0 k0_t5 = 1#1), ∀ a, (k0_off570 v0 k0_t5) a + S1.size a ≤ S24.size a := fun v0 k0_hw17 k0_t5 k0_h9 => k0_hw17.2.2.2.2.2.2.2.2.2.2.2.2.2.2.1.2.2.2.2.2.2.2.2.2.2.2.2.2.2.2.2.2.2.2.2.2.1 k0_t5 k0_h9
theorem k0_off571_inb : ∀ (v0 : BitVec 32) (k0_hw17 : k0_chk17 v0) (k0_t5 : Fin (k0_t5_loop v0).trips), ∀ (k0_h9 : k0_cond9 v0 k0_t5 = 1#1), ∀ a, (k0_off571 v0 k0_t5) a + S1x1x2x128x128.size a ≤ S24x16x2x128x128.size a := fun v0 k0_hw17 k0_t5 k0_h9 => k0_hw17.2.2.2.2.2.2.2.2.2.2.2.2.2.2.1.2.2.2.2.2.2.2.2.2.2.2.2.2.2.2.2.2.2.2.2.2.2.1 k0_t5 k0_h9
theorem k0_off571_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off571 v0 k0_t5) S1x1x2x128x128.size (k0_off571_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.2.2.2.2.2.2.2.2.2.2.2.2.2.2.2.2.1 k0_t5 k0_h9 (k0_off571_inb v0 k0_hw17 k0_t5 k0_h9)
theorem k0_off573_inb : ∀ (v0 : BitVec 32) (k0_hw17 : k0_chk17 v0) (k0_t5 : Fin (k0_t5_loop v0).trips), ∀ (k0_h9 : k0_cond9 v0 k0_t5 = 1#1), ∀ a, (k0_off573 v0 k0_t5) a + S1x1.size a ≤ S1x1024.size a := fun v0 k0_hw17 k0_t5 k0_h9 => k0_hw17.2.2.2.2.2.2.2.2.2.2.2.2.2.2.1.2.2.2.2.2.2.2.2.2.2.2.2.2.2.2.2.2.2.2.2.2.2.2.2.1 k0_t5 k0_h9
theorem k0_off574_inb : ∀ (v0 : BitVec 32) (k0_hw17 : k0_chk17 v0) (k0_t5 : Fin (k0_t5_loop v0).trips), ∀ (k0_h9 : k0_cond9 v0 k0_t5 = 1#1), ∀ a, (k0_off574 v0 k0_t5) a + S1.size a ≤ S24.size a := fun v0 k0_hw17 k0_t5 k0_h9 => k0_hw17.2.2.2.2.2.2.2.2.2.2.2.2.2.2.1.2.2.2.2.2.2.2.2.2.2.2.2.2.2.2.2.2.2.2.2.2.2.2.2.2.1 k0_t5 k0_h9
theorem k0_off575_inb : ∀ (v0 : BitVec 32) (k0_hw17 : k0_chk17 v0) (k0_t5 : Fin (k0_t5_loop v0).trips), ∀ (k0_h9 : k0_cond9 v0 k0_t5 = 1#1), ∀ a, (k0_off575 v0 k0_t5) a + S1x1x2x128x128.size a ≤ S24x16x2x128x128.size a := fun v0 k0_hw17 k0_t5 k0_h9 => k0_hw17.2.2.2.2.2.2.2.2.2.2.2.2.2.2.1.2.2.2.2.2.2.2.2.2.2.2.2.2.2.2.2.2.2.2.2.2.2.2.2.2.2.1 k0_t5 k0_h9
theorem k0_off575_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off575 v0 k0_t5) S1x1x2x128x128.size (k0_off575_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.2.2.2.2.2.2.2.2.2.2.2.2.2.2.2.2.2.2.2.2.1 k0_t5 k0_h9 (k0_off575_inb v0 k0_hw17 k0_t5 k0_h9)
theorem k0_off577_inb : ∀ (v0 : BitVec 32) (k0_hw17 : k0_chk17 v0) (k0_t5 : Fin (k0_t5_loop v0).trips), ∀ (k0_h9 : k0_cond9 v0 k0_t5 = 1#1), ∀ a, (k0_off577 v0 k0_t5) a + S1x1.size a ≤ S1x1024.size a := fun v0 k0_hw17 k0_t5 k0_h9 => k0_hw17.2.2.2.2.2.2.2.2.2.2.2.2.2.2.1.2.2.2.2.2.2.2.2.2.2.2.2.2.2.2.2.2.2.2.2.2.2.2.2.2.2.2.2.1 k0_t5 k0_h9
theorem k0_off578_inb : ∀ (v0 : BitVec 32) (k0_hw17 : k0_chk17 v0) (k0_t5 : Fin (k0_t5_loop v0).trips), ∀ (k0_h9 : k0_cond9 v0 k0_t5 = 1#1), ∀ a, (k0_off578 v0 k0_t5) a + S1.size a ≤ S24.size a := fun v0 k0_hw17 k0_t5 k0_h9 => k0_hw17.2.2.2.2.2.2.2.2.2.2.2.2.2.2.1.2.2.2.2.2.2.2.2.2.2.2.2.2.2.2.2.2.2.2.2.2.2.2.2.2.2.2.2.2.1 k0_t5 k0_h9
theorem k0_off579_inb : ∀ (v0 : BitVec 32) (k0_hw17 : k0_chk17 v0) (k0_t5 : Fin (k0_t5_loop v0).trips), ∀ (k0_h9 : k0_cond9 v0 k0_t5 = 1#1), ∀ a, (k0_off579 v0 k0_t5) a + S1x1x2x128x128.size a ≤ S24x16x2x128x128.size a := fun v0 k0_hw17 k0_t5 k0_h9 => k0_hw17.2.2.2.2.2.2.2.2.2.2.2.2.2.2.1.2.2.2.2.2.2.2.2.2.2.2.2.2.2.2.2.2.2.2.2.2.2.2.2.2.2.2.2.2.2.1 k0_t5 k0_h9
theorem k0_off579_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off579 v0 k0_t5) S1x1x2x128x128.size (k0_off579_inb v0 k0_hw17 k0_t5 k0_h9)).WholeWords (EltTy.packing .fp8e4m3) := fun v0 k0_hw17 k0_t5 k0_h9 => k0_hw17.2.2.2.2.2.2.2.2.2.2.2.2.2.2.1.2.2.2.2.2.2.2.2.2.2.2.2.2.2.2.2.2.2.2.2.2.2.2.2.2.2.2.2.2.2.2 k0_t5 k0_h9 (k0_off579_inb v0 k0_hw17 k0_t5 k0_h9)
theorem k0_off581_inb : ∀ (v0 : BitVec 32) (k0_hw17 : k0_chk17 v0) (k0_t5 : Fin (k0_t5_loop v0).trips), ∀ (k0_h9 : k0_cond9 v0 k0_t5 = 1#1), ∀ a, (k0_off581 v0 k0_t5) a + S1x1.size a ≤ S1x1024.size a := fun v0 k0_hw17 k0_t5 k0_h9 => k0_hw17.2.2.2.2.2.2.2.2.2.2.2.2.2.2.2.1.1 k0_t5 k0_h9
theorem k0_off582_inb : ∀ (v0 : BitVec 32) (k0_hw17 : k0_chk17 v0) (k0_t5 : Fin (k0_t5_loop v0).trips), ∀ (k0_h9 : k0_cond9 v0 k0_t5 = 1#1), ∀ a, (k0_off582 v0 k0_t5) a + S1.size a ≤ S24.size a := fun v0 k0_hw17 k0_t5 k0_h9 => k0_hw17.2.2.2.2.2.2.2.2.2.2.2.2.2.2.2.1.2.1 k0_t5 k0_h9
theorem k0_off583_inb : ∀ (v0 : BitVec 32) (k0_hw17 : k0_chk17 v0) (k0_t5 : Fin (k0_t5_loop v0).trips), ∀ (k0_h9 : k0_cond9 v0 k0_t5 = 1#1), ∀ a, (k0_off583 v0 k0_t5) a + S1x1x2x128x128.size a ≤ S24x16x2x128x128.size a := fun v0 k0_hw17 k0_t5 k0_h9 => k0_hw17.2.2.2.2.2.2.2.2.2.2.2.2.2.2.2.1.2.2.1 k0_t5 k0_h9
theorem k0_off583_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off583 v0 k0_t5) S1x1x2x128x128.size (k0_off583_inb v0 k0_hw17 k0_t5 k0_h9)).WholeWords (EltTy.packing .fp8e4m3) := fun v0 k0_hw17 k0_t5 k0_h9 => k0_hw17.2.2.2.2.2.2.2.2.2.2.2.2.2.2.2.1.2.2.2.1 k0_t5 k0_h9 (k0_off583_inb v0 k0_hw17 k0_t5 k0_h9)
theorem k0_off585_inb : ∀ (v0 : BitVec 32) (k0_hw17 : k0_chk17 v0) (k0_t5 : Fin (k0_t5_loop v0).trips), ∀ (k0_h9 : k0_cond9 v0 k0_t5 = 1#1), ∀ a, (k0_off585 v0 k0_t5) a + S1x1.size a ≤ S1x1024.size a := fun v0 k0_hw17 k0_t5 k0_h9 => k0_hw17.2.2.2.2.2.2.2.2.2.2.2.2.2.2.2.1.2.2.2.2.1 k0_t5 k0_h9
theorem k0_off586_inb : ∀ (v0 : BitVec 32) (k0_hw17 : k0_chk17 v0) (k0_t5 : Fin (k0_t5_loop v0).trips), ∀ (k0_h9 : k0_cond9 v0 k0_t5 = 1#1), ∀ a, (k0_off586 v0 k0_t5) a + S1.size a ≤ S24.size a := fun v0 k0_hw17 k0_t5 k0_h9 => k0_hw17.2.2.2.2.2.2.2.2.2.2.2.2.2.2.2.1.2.2.2.2.2.1 k0_t5 k0_h9
theorem k0_off587_inb : ∀ (v0 : BitVec 32) (k0_hw17 : k0_chk17 v0) (k0_t5 : Fin (k0_t5_loop v0).trips), ∀ (k0_h9 : k0_cond9 v0 k0_t5 = 1#1), ∀ a, (k0_off587 v0 k0_t5) a + S1x1x2x128x128.size a ≤ S24x16x2x128x128.size a := fun v0 k0_hw17 k0_t5 k0_h9 => k0_hw17.2.2.2.2.2.2.2.2.2.2.2.2.2.2.2.1.2.2.2.2.2.2.1 k0_t5 k0_h9
theorem k0_off587_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off587 v0 k0_t5) S1x1x2x128x128.size (k0_off587_inb v0 k0_hw17 k0_t5 k0_h9)).WholeWords (EltTy.packing .fp8e4m3) := fun v0 k0_hw17 k0_t5 k0_h9 => k0_hw17.2.2.2.2.2.2.2.2.2.2.2.2.2.2.2.1.2.2.2.2.2.2.2.1 k0_t5 k0_h9 (k0_off587_inb v0 k0_hw17 k0_t5 k0_h9)
theorem k0_off589_inb : ∀ (v0 : BitVec 32) (k0_hw17 : k0_chk17 v0) (k0_t5 : Fin (k0_t5_loop v0).trips), ∀ (k0_h9 : k0_cond9 v0 k0_t5 = 1#1), ∀ a, (k0_off589 v0 k0_t5) a + S1x1.size a ≤ S1x1024.size a := fun v0 k0_hw17 k0_t5 k0_h9 => k0_hw17.2.2.2.2.2.2.2.2.2.2.2.2.2.2.2.1.2.2.2.2.2.2.2.2.1 k0_t5 k0_h9
theorem k0_off590_inb : ∀ (v0 : BitVec 32) (k0_hw17 : k0_chk17 v0) (k0_t5 : Fin (k0_t5_loop v0).trips), ∀ (k0_h9 : k0_cond9 v0 k0_t5 = 1#1), ∀ a, (k0_off590 v0 k0_t5) a + S1.size a ≤ S24.size a := fun v0 k0_hw17 k0_t5 k0_h9 => k0_hw17.2.2.2.2.2.2.2.2.2.2.2.2.2.2.2.1.2.2.2.2.2.2.2.2.2.1 k0_t5 k0_h9
theorem k0_off591_inb : ∀ (v0 : BitVec 32) (k0_hw17 : k0_chk17 v0) (k0_t5 : Fin (k0_t5_loop v0).trips), ∀ (k0_h9 : k0_cond9 v0 k0_t5 = 1#1), ∀ a, (k0_off591 v0 k0_t5) a + S1x1x2x128x128.size a ≤ S24x16x2x128x128.size a := fun v0 k0_hw17 k0_t5 k0_h9 => k0_hw17.2.2.2.2.2.2.2.2.2.2.2.2.2.2.2.1.2.2.2.2.2.2.2.2.2.2.1 k0_t5 k0_h9
theorem k0_off591_wordsfp8e4m3 : ∀ (v0 : BitVec 32) (k0_hw17 : k0_chk17 v0) (k0_t5 : Fin (k0_t5_loop v0).trips), ∀ (k0_h9 : k0_cond9 v0 k0_t5 = 1#1), (Rect.unit (s := S24x16x2x128x128) (k0_off591 v0 k0_t5) S1x1x2x128x128.size (k0_off591_inb v0 k0_hw17 k0_t5 k0_h9)).WholeWords (EltTy.packing .fp8e4m3) := fun v0 k0_hw17 k0_t5 k0_h9 => k0_hw17.2.2.2.2.2.2.2.2.2.2.2.2.2.2.2.1.2.2.2.2.2.2.2.2.2.2.2.1 k0_t5 k0_h9 (k0_off591_inb v0 k0_hw17 k0_t5 k0_h9)
theorem k0_off593_inb : ∀ (v0 : BitVec 32) (k0_hw17 : k0_chk17 v0) (k0_t5 : Fin (k0_t5_loop v0).trips), ∀ (k0_h10 : k0_cond10 v0 k0_t5 = 1#1), ∀ a, (k0_off593 v0 k0_t5) a + S1x1.size a ≤ S1x1024.size a := fun v0 k0_hw17 k0_t5 k0_h10 => k0_hw17.2.2.2.2.2.2.2.2.2.2.2.2.2.2.2.1.2.2.2.2.2.2.2.2.2.2.2.2.1 k0_t5 k0_h10
theorem k0_off594_inb : ∀ (v0 : BitVec 32) (k0_hw17 : k0_chk17 v0) (k0_t5 : Fin (k0_t5_loop v0).trips), ∀ (k0_h10 : k0_cond10 v0 k0_t5 = 1#1), ∀ a, (k0_off594 v0 k0_t5) a + S1.size a ≤ S24.size a := fun v0 k0_hw17 k0_t5 k0_h10 => k0_hw17.2.2.2.2.2.2.2.2.2.2.2.2.2.2.2.1.2.2.2.2.2.2.2.2.2.2.2.2.2.1 k0_t5 k0_h10
theorem k0_off595_inb : ∀ (v0 : BitVec 32) (k0_hw17 : k0_chk17 v0) (k0_t5 : Fin (k0_t5_loop v0).trips), ∀ (k0_h10 : k0_cond10 v0 k0_t5 = 1#1), ∀ a, (k0_off595 v0 k0_t5) a + S1x1x2x128x128.size a ≤ S24x16x2x128x128.size a := fun v0 k0_hw17 k0_t5 k0_h10 => k0_hw17.2.2.2.2.2.2.2.2.2.2.2.2.2.2.2.1.2.2.2.2.2.2.2.2.2.2.2.2.2.2.1 k0_t5 k0_h10
theorem k0_off595_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off595 v0 k0_t5) S1x1x2x128x128.size (k0_off595_inb v0 k0_hw17 k0_t5 k0_h10)).WholeWords (EltTy.packing .fp8e4m3) := fun v0 k0_hw17 k0_t5 k0_h10 => k0_hw17.2.2.2.2.2.2.2.2.2.2.2.2.2.2.2.1.2.2.2.2.2.2.2.2.2.2.2.2.2.2.2.1 k0_t5 k0_h10 (k0_off595_inb v0 k0_hw17 k0_t5 k0_h10)
theorem k0_off597_inb : ∀ (v0 : BitVec 32) (k0_hw17 : k0_chk17 v0) (k0_t5 : Fin (k0_t5_loop v0).trips), ∀ (k0_h10 : k0_cond10 v0 k0_t5 = 1#1), ∀ a, (k0_off597 v0 k0_t5) a + S1x1.size a ≤ S1x1024.size a := fun v0 k0_hw17 k0_t5 k0_h10 => k0_hw17.2.2.2.2.2.2.2.2.2.2.2.2.2.2.2.1.2.2.2.2.2.2.2.2.2.2.2.2.2.2.2.2.1 k0_t5 k0_h10
theorem k0_off598_inb : ∀ (v0 : BitVec 32) (k0_hw17 : k0_chk17 v0) (k0_t5 : Fin (k0_t5_loop v0).trips), ∀ (k0_h10 : k0_cond10 v0 k0_t5 = 1#1), ∀ a, (k0_off598 v0 k0_t5) a + S1.size a ≤ S24.size a := fun v0 k0_hw17 k0_t5 k0_h10 => k0_hw17.2.2.2.2.2.2.2.2.2.2.2.2.2.2.2.1.2.2.2.2.2.2.2.2.2.2.2.2.2.2.2.2.2.1 k0_t5 k0_h10
theorem k0_off599_inb : ∀ (v0 : BitVec 32) (k0_hw17 : k0_chk17 v0) (k0_t5 : Fin (k0_t5_loop v0).trips), ∀ (k0_h10 : k0_cond10 v0 k0_t5 = 1#1), ∀ a, (k0_off599 v0 k0_t5) a + S1x1x2x128x128.size a ≤ S24x16x2x128x128.size a := fun v0 k0_hw17 k0_t5 k0_h10 => k0_hw17.2.2.2.2.2.2.2.2.2.2.2.2.2.2.2.1.2.2.2.2.2.2.2.2.2.2.2.2.2.2.2.2.2.2.1 k0_t5 k0_h10
theorem k0_off599_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off599 v0 k0_t5) S1x1x2x128x128.size (k0_off599_inb v0 k0_hw17 k0_t5 k0_h10)).WholeWords (EltTy.packing .fp8e4m3) := fun v0 k0_hw17 k0_t5 k0_h10 => k0_hw17.2.2.2.2.2.2.2.2.2.2.2.2.2.2.2.1.2.2.2.2.2.2.2.2.2.2.2.2.2.2.2.2.2.2.2.1 k0_t5 k0_h10 (k0_off599_inb v0 k0_hw17 k0_t5 k0_h10)
theorem k0_off601_inb : ∀ (v0 : BitVec 32) (k0_hw17 : k0_chk17 v0) (k0_t5 : Fin (k0_t5_loop v0).trips), ∀ (k0_h10 : k0_cond10 v0 k0_t5 = 1#1), ∀ a, (k0_off601 v0 k0_t5) a + S1x1.size a ≤ S1x1024.size a := fun v0 k0_hw17 k0_t5 k0_h10 => k0_hw17.2.2.2.2.2.2.2.2.2.2.2.2.2.2.2.1.2.2.2.2.2.2.2.2.2.2.2.2.2.2.2.2.2.2.2.2.1 k0_t5 k0_h10
theorem k0_off602_inb : ∀ (v0 : BitVec 32) (k0_hw17 : k0_chk17 v0) (k0_t5 : Fin (k0_t5_loop v0).trips), ∀ (k0_h10 : k0_cond10 v0 k0_t5 = 1#1), ∀ a, (k0_off602 v0 k0_t5) a + S1.size a ≤ S24.size a := fun v0 k0_hw17 k0_t5 k0_h10 => k0_hw17.2.2.2.2.2.2.2.2.2.2.2.2.2.2.2.1.2.2.2.2.2.2.2.2.2.2.2.2.2.2.2.2.2.2.2.2.2.1 k0_t5 k0_h10
theorem k0_off603_inb : ∀ (v0 : BitVec 32) (k0_hw17 : k0_chk17 v0) (k0_t5 : Fin (k0_t5_loop v0).trips), ∀ (k0_h10 : k0_cond10 v0 k0_t5 = 1#1), ∀ a, (k0_off603 v0 k0_t5) a + S1x1x2x128x128.size a ≤ S24x16x2x128x128.size a := fun v0 k0_hw17 k0_t5 k0_h10 => k0_hw17.2.2.2.2.2.2.2.2.2.2.2.2.2.2.2.1.2.2.2.2.2.2.2.2.2.2.2.2.2.2.2.2.2.2.2.2.2.2.1 k0_t5 k0_h10
theorem k0_off603_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off603 v0 k0_t5) S1x1x2x128x128.size (k0_off603_inb v0 k0_hw17 k0_t5 k0_h10)).WholeWords (EltTy.packing .fp8e4m3) := fun v0 k0_hw17 k0_t5 k0_h10 => k0_hw17.2.2.2.2.2.2.2.2.2.2.2.2.2.2.2.1.2.2.2.2.2.2.2.2.2.2.2.2.2.2.2.2.2.2.2.2.2.2.2.1 k0_t5 k0_h10 (k0_off603_inb v0 k0_hw17 k0_t5 k0_h10)
theorem k0_off605_inb : ∀ (v0 : BitVec 32) (k0_hw17 : k0_chk17 v0) (k0_t5 : Fin (k0_t5_loop v0).trips), ∀ (k0_h10 : k0_cond10 v0 k0_t5 = 1#1), ∀ a, (k0_off605 v0 k0_t5) a + S1x1.size a ≤ S1x1024.size a := fun v0 k0_hw17 k0_t5 k0_h10 => k0_hw17.2.2.2.2.2.2.2.2.2.2.2.2.2.2.2.1.2.2.2.2.2.2.2.2.2.2.2.2.2.2.2.2.2.2.2.2.2.2.2.2.1 k0_t5 k0_h10
theorem k0_off606_inb : ∀ (v0 : BitVec 32) (k0_hw17 : k0_chk17 v0) (k0_t5 : Fin (k0_t5_loop v0).trips), ∀ (k0_h10 : k0_cond10 v0 k0_t5 = 1#1), ∀ a, (k0_off606 v0 k0_t5) a + S1.size a ≤ S24.size a := fun v0 k0_hw17 k0_t5 k0_h10 => k0_hw17.2.2.2.2.2.2.2.2.2.2.2.2.2.2.2.1.2.2.2.2.2.2.2.2.2.2.2.2.2.2.2.2.2.2.2.2.2.2.2.2.2.1 k0_t5 k0_h10
theorem k0_off607_inb : ∀ (v0 : BitVec 32) (k0_hw17 : k0_chk17 v0) (k0_t5 : Fin (k0_t5_loop v0).trips), ∀ (k0_h10 : k0_cond10 v0 k0_t5 = 1#1), ∀ a, (k0_off607 v0 k0_t5) a + S1x1x2x128x128.size a ≤ S24x16x2x128x128.size a := fun v0 k0_hw17 k0_t5 k0_h10 => k0_hw17.2.2.2.2.2.2.2.2.2.2.2.2.2.2.2.1.2.2.2.2.2.2.2.2.2.2.2.2.2.2.2.2.2.2.2.2.2.2.2.2.2.2.1 k0_t5 k0_h10
theorem k0_off607_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off607 v0 k0_t5) S1x1x2x128x128.size (k0_off607_inb v0 k0_hw17 k0_t5 k0_h10)).WholeWords (EltTy.packing .fp8e4m3) := fun v0 k0_hw17 k0_t5 k0_h10 => k0_hw17.2.2.2.2.2.2.2.2.2.2.2.2.2.2.2.1.2.2.2.2.2.2.2.2.2.2.2.2.2.2.2.2.2.2.2.2.2.2.2.2.2.2.2.1 k0_t5 k0_h10 (k0_off607_inb v0 k0_hw17 k0_t5 k0_h10)
theorem k0_off609_inb : ∀ (v0 : BitVec 32) (k0_hw17 : k0_chk17 v0) (k0_t5 : Fin (k0_t5_loop v0).trips), ∀ (k0_h10 : k0_cond10 v0 k0_t5 = 1#1), ∀ a, (k0_off609 v0 k0_t5) a + S1x1.size a ≤ S1x1024.size a := fun v0 k0_hw17 k0_t5 k0_h10 => k0_hw17.2.2.2.2.2.2.2.2.2.2.2.2.2.2.2.1.2.2.2.2.2.2.2.2.2.2.2.2.2.2.2.2.2.2.2.2.2.2.2.2.2.2.2.2.1 k0_t5 k0_h10
theorem k0_off610_inb : ∀ (v0 : BitVec 32) (k0_hw17 : k0_chk17 v0) (k0_t5 : Fin (k0_t5_loop v0).trips), ∀ (k0_h10 : k0_cond10 v0 k0_t5 = 1#1), ∀ a, (k0_off610 v0 k0_t5) a + S1.size a ≤ S24.size a := fun v0 k0_hw17 k0_t5 k0_h10 => k0_hw17.2.2.2.2.2.2.2.2.2.2.2.2.2.2.2.1.2.2.2.2.2.2.2.2.2.2.2.2.2.2.2.2.2.2.2.2.2.2.2.2.2.2.2.2.2.1 k0_t5 k0_h10
theorem k0_off611_inb : ∀ (v0 : BitVec 32) (k0_hw17 : k0_chk17 v0) (k0_t5 : Fin (k0_t5_loop v0).trips), ∀ (k0_h10 : k0_cond10 v0 k0_t5 = 1#1), ∀ a, (k0_off611 v0 k0_t5) a + S1x1x2x128x128.size a ≤ S24x16x2x128x128.size a := fun v0 k0_hw17 k0_t5 k0_h10 => k0_hw17.2.2.2.2.2.2.2.2.2.2.2.2.2.2.2.1.2.2.2.2.2.2.2.2.2.2.2.2.2.2.2.2.2.2.2.2.2.2.2.2.2.2.2.2.2.2.1 k0_t5 k0_h10
theorem k0_off611_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off611 v0 k0_t5) S1x1x2x128x128.size (k0_off611_inb v0 k0_hw17 k0_t5 k0_h10)).WholeWords (EltTy.packing .fp8e4m3) := fun v0 k0_hw17 k0_t5 k0_h10 => k0_hw17.2.2.2.2.2.2.2.2.2.2.2.2.2.2.2.1.2.2.2.2.2.2.2.2.2.2.2.2.2.2.2.2.2.2.2.2.2.2.2.2.2.2.2.2.2.2.2 k0_t5 k0_h10 (k0_off611_inb v0 k0_hw17 k0_t5 k0_h10)
theorem k0_off613_inb : ∀ (v0 : BitVec 32) (k0_hw17 : k0_chk17 v0) (k0_t5 : Fin (k0_t5_loop v0).trips), ∀ (k0_h10 : k0_cond10 v0 k0_t5 = 1#1), ∀ a, (k0_off613 v0 k0_t5) a + S1x1.size a ≤ S1x1024.size a := fun v0 k0_hw17 k0_t5 k0_h10 => k0_hw17.2.2.2.2.2.2.2.2.2.2.2.2.2.2.2.2.1.1 k0_t5 k0_h10
theorem k0_off614_inb : ∀ (v0 : BitVec 32) (k0_hw17 : k0_chk17 v0) (k0_t5 : Fin (k0_t5_loop v0).trips), ∀ (k0_h10 : k0_cond10 v0 k0_t5 = 1#1), ∀ a, (k0_off614 v0 k0_t5) a + S1.size a ≤ S24.size a := fun v0 k0_hw17 k0_t5 k0_h10 => k0_hw17.2.2.2.2.2.2.2.2.2.2.2.2.2.2.2.2.1.2.1 k0_t5 k0_h10
theorem k0_off615_inb : ∀ (v0 : BitVec 32) (k0_hw17 : k0_chk17 v0) (k0_t5 : Fin (k0_t5_loop v0).trips), ∀ (k0_h10 : k0_cond10 v0 k0_t5 = 1#1), ∀ a, (k0_off615 v0 k0_t5) a + S1x1x2x128x128.size a ≤ S24x16x2x128x128.size a := fun v0 k0_hw17 k0_t5 k0_h10 => k0_hw17.2.2.2.2.2.2.2.2.2.2.2.2.2.2.2.2.1.2.2.1 k0_t5 k0_h10
theorem k0_off615_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off615 v0 k0_t5) S1x1x2x128x128.size (k0_off615_inb v0 k0_hw17 k0_t5 k0_h10)).WholeWords (EltTy.packing .fp8e4m3) := fun v0 k0_hw17 k0_t5 k0_h10 => k0_hw17.2.2.2.2.2.2.2.2.2.2.2.2.2.2.2.2.1.2.2.2.1 k0_t5 k0_h10 (k0_off615_inb v0 k0_hw17 k0_t5 k0_h10)
theorem k0_off617_inb : ∀ (v0 : BitVec 32) (k0_hw17 : k0_chk17 v0) (k0_t5 : Fin (k0_t5_loop v0).trips), ∀ (k0_h10 : k0_cond10 v0 k0_t5 = 1#1), ∀ a, (k0_off617 v0 k0_t5) a + S1x1.size a ≤ S1x1024.size a := fun v0 k0_hw17 k0_t5 k0_h10 => k0_hw17.2.2.2.2.2.2.2.2.2.2.2.2.2.2.2.2.1.2.2.2.2.1 k0_t5 k0_h10
theorem k0_off618_inb : ∀ (v0 : BitVec 32) (k0_hw17 : k0_chk17 v0) (k0_t5 : Fin (k0_t5_loop v0).trips), ∀ (k0_h10 : k0_cond10 v0 k0_t5 = 1#1), ∀ a, (k0_off618 v0 k0_t5) a + S1.size a ≤ S24.size a := fun v0 k0_hw17 k0_t5 k0_h10 => k0_hw17.2.2.2.2.2.2.2.2.2.2.2.2.2.2.2.2.1.2.2.2.2.2.1 k0_t5 k0_h10
theorem k0_off619_inb : ∀ (v0 : BitVec 32) (k0_hw17 : k0_chk17 v0) (k0_t5 : Fin (k0_t5_loop v0).trips), ∀ (k0_h10 : k0_cond10 v0 k0_t5 = 1#1), ∀ a, (k0_off619 v0 k0_t5) a + S1x1x2x128x128.size a ≤ S24x16x2x128x128.size a := fun v0 k0_hw17 k0_t5 k0_h10 => k0_hw17.2.2.2.2.2.2.2.2.2.2.2.2.2.2.2.2.1.2.2.2.2.2.2.1 k0_t5 k0_h10
theorem k0_off619_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off619 v0 k0_t5) S1x1x2x128x128.size (k0_off619_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.1 k0_t5 k0_h10 (k0_off619_inb v0 k0_hw17 k0_t5 k0_h10)
theorem k0_off621_inb : ∀ (v0 : BitVec 32) (k0_hw17 : k0_chk17 v0) (k0_t5 : Fin (k0_t5_loop v0).trips), ∀ (k0_h10 : k0_cond10 v0 k0_t5 = 1#1), ∀ a, (k0_off621 v0 k0_t5) a + S1x1.size a ≤ S1x1024.size a := fun v0 k0_hw17 k0_t5 k0_h10 => k0_hw17.2.2.2.2.2.2.2.2.2.2.2.2.2.2.2.2.1.2.2.2.2.2.2.2.2.1 k0_t5 k0_h10
theorem k0_off622_inb : ∀ (v0 : BitVec 32) (k0_hw17 : k0_chk17 v0) (k0_t5 : Fin (k0_t5_loop v0).trips), ∀ (k0_h10 : k0_cond10 v0 k0_t5 = 1#1), ∀ a, (k0_off622 v0 k0_t5) a + S1.size a ≤ S24.size a := fun v0 k0_hw17 k0_t5 k0_h10 => k0_hw17.2.2.2.2.2.2.2.2.2.2.2.2.2.2.2.2.1.2.2.2.2.2.2.2.2.2.1 k0_t5 k0_h10
theorem k0_off623_inb : ∀ (v0 : BitVec 32) (k0_hw17 : k0_chk17 v0) (k0_t5 : Fin (k0_t5_loop v0).trips), ∀ (k0_h10 : k0_cond10 v0 k0_t5 = 1#1), ∀ a, (k0_off623 v0 k0_t5) a + S1x1x2x128x128.size a ≤ S24x16x2x128x128.size a := fun v0 k0_hw17 k0_t5 k0_h10 => k0_hw17.2.2.2.2.2.2.2.2.2.2.2.2.2.2.2.2.1.2.2.2.2.2.2.2.2.2.2.1 k0_t5 k0_h10
theorem k0_off623_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off623 v0 k0_t5) S1x1x2x128x128.size (k0_off623_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.2.2.2.2.1 k0_t5 k0_h10 (k0_off623_inb v0 k0_hw17 k0_t5 k0_h10)
theorem k0_off625_inb : ∀ (v0 : BitVec 32) (k0_hw17 : k0_chk17 v0) (k0_t5 : Fin (k0_t5_loop v0).trips), ∀ (k0_h10 : k0_cond10 v0 k0_t5 = 1#1), ∀ a, (k0_off625 v0 k0_t5) a + S1x1.size a ≤ S1x1024.size a := fun v0 k0_hw17 k0_t5 k0_h10 => k0_hw17.2.2.2.2.2.2.2.2.2.2.2.2.2.2.2.2.1.2.2.2.2.2.2.2.2.2.2.2.2.1 k0_t5 k0_h10
theorem k0_off626_inb : ∀ (v0 : BitVec 32) (k0_hw17 : k0_chk17 v0) (k0_t5 : Fin (k0_t5_loop v0).trips), ∀ (k0_h10 : k0_cond10 v0 k0_t5 = 1#1), ∀ a, (k0_off626 v0 k0_t5) a + S1.size a ≤ S24.size a := fun v0 k0_hw17 k0_t5 k0_h10 => k0_hw17.2.2.2.2.2.2.2.2.2.2.2.2.2.2.2.2.1.2.2.2.2.2.2.2.2.2.2.2.2.2.1 k0_t5 k0_h10
theorem k0_off627_inb : ∀ (v0 : BitVec 32) (k0_hw17 : k0_chk17 v0) (k0_t5 : Fin (k0_t5_loop v0).trips), ∀ (k0_h10 : k0_cond10 v0 k0_t5 = 1#1), ∀ a, (k0_off627 v0 k0_t5) a + S1x1x2x128x128.size a ≤ S24x16x2x128x128.size a := fun v0 k0_hw17 k0_t5 k0_h10 => k0_hw17.2.2.2.2.2.2.2.2.2.2.2.2.2.2.2.2.1.2.2.2.2.2.2.2.2.2.2.2.2.2.2.1 k0_t5 k0_h10
theorem k0_off627_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off627 v0 k0_t5) S1x1x2x128x128.size (k0_off627_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.2.2.2.2.2.2.2.2.1 k0_t5 k0_h10 (k0_off627_inb v0 k0_hw17 k0_t5 k0_h10)
theorem k0_off629_inb : ∀ (v0 : BitVec 32) (k0_hw17 : k0_chk17 v0) (k0_t5 : Fin (k0_t5_loop v0).trips), ∀ (k0_h10 : k0_cond10 v0 k0_t5 = 1#1), ∀ a, (k0_off629 v0 k0_t5) a + S1x1.size a ≤ S1x1024.size a := fun v0 k0_hw17 k0_t5 k0_h10 => k0_hw17.2.2.2.2.2.2.2.2.2.2.2.2.2.2.2.2.1.2.2.2.2.2.2.2.2.2.2.2.2.2.2.2.2.1 k0_t5 k0_h10
theorem k0_off630_inb : ∀ (v0 : BitVec 32) (k0_hw17 : k0_chk17 v0) (k0_t5 : Fin (k0_t5_loop v0).trips), ∀ (k0_h10 : k0_cond10 v0 k0_t5 = 1#1), ∀ a, (k0_off630 v0 k0_t5) a + S1.size a ≤ S24.size a := fun v0 k0_hw17 k0_t5 k0_h10 => k0_hw17.2.2.2.2.2.2.2.2.2.2.2.2.2.2.2.2.1.2.2.2.2.2.2.2.2.2.2.2.2.2.2.2.2.2.1 k0_t5 k0_h10
theorem k0_off631_inb : ∀ (v0 : BitVec 32) (k0_hw17 : k0_chk17 v0) (k0_t5 : Fin (k0_t5_loop v0).trips), ∀ (k0_h10 : k0_cond10 v0 k0_t5 = 1#1), ∀ a, (k0_off631 v0 k0_t5) a + S1x1x2x128x128.size a ≤ S24x16x2x128x128.size a := fun v0 k0_hw17 k0_t5 k0_h10 => k0_hw17.2.2.2.2.2.2.2.2.2.2.2.2.2.2.2.2.1.2.2.2.2.2.2.2.2.2.2.2.2.2.2.2.2.2.2.1 k0_t5 k0_h10
theorem k0_off631_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off631 v0 k0_t5) S1x1x2x128x128.size (k0_off631_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.2.2.2.2.2.2.2.2.2.2.2.2.1 k0_t5 k0_h10 (k0_off631_inb v0 k0_hw17 k0_t5 k0_h10)
theorem k0_off633_inb : ∀ (v0 : BitVec 32) (k0_hw17 : k0_chk17 v0) (k0_t5 : Fin (k0_t5_loop v0).trips), ∀ (k0_h10 : k0_cond10 v0 k0_t5 = 1#1), ∀ a, (k0_off633 v0 k0_t5) a + S1x1.size a ≤ S1x1024.size a := fun v0 k0_hw17 k0_t5 k0_h10 => k0_hw17.2.2.2.2.2.2.2.2.2.2.2.2.2.2.2.2.1.2.2.2.2.2.2.2.2.2.2.2.2.2.2.2.2.2.2.2.2.1 k0_t5 k0_h10
theorem k0_off634_inb : ∀ (v0 : BitVec 32) (k0_hw17 : k0_chk17 v0) (k0_t5 : Fin (k0_t5_loop v0).trips), ∀ (k0_h10 : k0_cond10 v0 k0_t5 = 1#1), ∀ a, (k0_off634 v0 k0_t5) a + S1.size a ≤ S24.size a := fun v0 k0_hw17 k0_t5 k0_h10 => k0_hw17.2.2.2.2.2.2.2.2.2.2.2.2.2.2.2.2.1.2.2.2.2.2.2.2.2.2.2.2.2.2.2.2.2.2.2.2.2.2.1 k0_t5 k0_h10
theorem k0_off635_inb : ∀ (v0 : BitVec 32) (k0_hw17 : k0_chk17 v0) (k0_t5 : Fin (k0_t5_loop v0).trips), ∀ (k0_h10 : k0_cond10 v0 k0_t5 = 1#1), ∀ a, (k0_off635 v0 k0_t5) a + S1x1x2x128x128.size a ≤ S24x16x2x128x128.size a := fun v0 k0_hw17 k0_t5 k0_h10 => k0_hw17.2.2.2.2.2.2.2.2.2.2.2.2.2.2.2.2.1.2.2.2.2.2.2.2.2.2.2.2.2.2.2.2.2.2.2.2.2.2.2.1 k0_t5 k0_h10
theorem k0_off635_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off635 v0 k0_t5) S1x1x2x128x128.size (k0_off635_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.2.2.2.2.2.2.2.2.2.2.2.2.2.2.2.2.1 k0_t5 k0_h10 (k0_off635_inb v0 k0_hw17 k0_t5 k0_h10)
theorem k0_off637_inb : ∀ (v0 : BitVec 32) (k0_hw17 : k0_chk17 v0) (k0_t5 : Fin (k0_t5_loop v0).trips), ∀ (k0_h10 : k0_cond10 v0 k0_t5 = 1#1), ∀ a, (k0_off637 v0 k0_t5) a + S1x1.size a ≤ S1x1024.size a := fun v0 k0_hw17 k0_t5 k0_h10 => k0_hw17.2.2.2.2.2.2.2.2.2.2.2.2.2.2.2.2.1.2.2.2.2.2.2.2.2.2.2.2.2.2.2.2.2.2.2.2.2.2.2.2.2.1 k0_t5 k0_h10
theorem k0_off638_inb : ∀ (v0 : BitVec 32) (k0_hw17 : k0_chk17 v0) (k0_t5 : Fin (k0_t5_loop v0).trips), ∀ (k0_h10 : k0_cond10 v0 k0_t5 = 1#1), ∀ a, (k0_off638 v0 k0_t5) a + S1.size a ≤ S24.size a := fun v0 k0_hw17 k0_t5 k0_h10 => k0_hw17.2.2.2.2.2.2.2.2.2.2.2.2.2.2.2.2.1.2.2.2.2.2.2.2.2.2.2.2.2.2.2.2.2.2.2.2.2.2.2.2.2.2.1 k0_t5 k0_h10
theorem k0_off639_inb : ∀ (v0 : BitVec 32) (k0_hw17 : k0_chk17 v0) (k0_t5 : Fin (k0_t5_loop v0).trips), ∀ (k0_h10 : k0_cond10 v0 k0_t5 = 1#1), ∀ a, (k0_off639 v0 k0_t5) a + S1x1x2x128x128.size a ≤ S24x16x2x128x128.size a := fun v0 k0_hw17 k0_t5 k0_h10 => k0_hw17.2.2.2.2.2.2.2.2.2.2.2.2.2.2.2.2.1.2.2.2.2.2.2.2.2.2.2.2.2.2.2.2.2.2.2.2.2.2.2.2.2.2.2.1 k0_t5 k0_h10
theorem k0_off639_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off639 v0 k0_t5) S1x1x2x128x128.size (k0_off639_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.2.2.2.2.2.2.2.2.2.2.2.2.2.2.2.2.2.2.2.2.1 k0_t5 k0_h10 (k0_off639_inb v0 k0_hw17 k0_t5 k0_h10)
theorem k0_off641_inb : ∀ (v0 : BitVec 32) (k0_hw17 : k0_chk17 v0) (k0_t5 : Fin (k0_t5_loop v0).trips), ∀ (k0_h10 : k0_cond10 v0 k0_t5 = 1#1), ∀ a, (k0_off641 v0 k0_t5) a + S1x1.size a ≤ S1x1024.size a := fun v0 k0_hw17 k0_t5 k0_h10 => k0_hw17.2.2.2.2.2.2.2.2.2.2.2.2.2.2.2.2.1.2.2.2.2.2.2.2.2.2.2.2.2.2.2.2.2.2.2.2.2.2.2.2.2.2.2.2.2.1 k0_t5 k0_h10
theorem k0_off642_inb : ∀ (v0 : BitVec 32) (k0_hw17 : k0_chk17 v0) (k0_t5 : Fin (k0_t5_loop v0).trips), ∀ (k0_h10 : k0_cond10 v0 k0_t5 = 1#1), ∀ a, (k0_off642 v0 k0_t5) a + S1.size a ≤ S24.size a := fun v0 k0_hw17 k0_t5 k0_h10 => k0_hw17.2.2.2.2.2.2.2.2.2.2.2.2.2.2.2.2.1.2.2.2.2.2.2.2.2.2.2.2.2.2.2.2.2.2.2.2.2.2.2.2.2.2.2.2.2.2.1 k0_t5 k0_h10
theorem k0_off643_inb : ∀ (v0 : BitVec 32) (k0_hw17 : k0_chk17 v0) (k0_t5 : Fin (k0_t5_loop v0).trips), ∀ (k0_h10 : k0_cond10 v0 k0_t5 = 1#1), ∀ a, (k0_off643 v0 k0_t5) a + S1x1x2x128x128.size a ≤ S24x16x2x128x128.size a := fun v0 k0_hw17 k0_t5 k0_h10 => k0_hw17.2.2.2.2.2.2.2.2.2.2.2.2.2.2.2.2.1.2.2.2.2.2.2.2.2.2.2.2.2.2.2.2.2.2.2.2.2.2.2.2.2.2.2.2.2.2.2.1 k0_t5 k0_h10
theorem k0_off643_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off643 v0 k0_t5) S1x1x2x128x128.size (k0_off643_inb v0 k0_hw17 k0_t5 k0_h10)).WholeWords (EltTy.packing .fp8e4m3) := fun v0 k0_hw17 k0_t5 k0_h10 => k0_hw17.2.2.2.2.2.2.2.2.2.2.2.2.2.2.2.2.1.2.2.2.2.2.2.2.2.2.2.2.2.2.2.2.2.2.2.2.2.2.2.2.2.2.2.2.2.2.2.2 k0_t5 k0_h10 (k0_off643_inb v0 k0_hw17 k0_t5 k0_h10)
theorem k0_off645_inb : ∀ (v0 : BitVec 32) (k0_hw17 : k0_chk17 v0) (k0_t5 : Fin (k0_t5_loop v0).trips), ∀ (k0_h10 : k0_cond10 v0 k0_t5 = 1#1), ∀ a, (k0_off645 v0 k0_t5) a + S1x1.size a ≤ S1x1024.size a := fun v0 k0_hw17 k0_t5 k0_h10 => k0_hw17.2.2.2.2.2.2.2.2.2.2.2.2.2.2.2.2.2.1 k0_t5 k0_h10
theorem k0_off646_inb : ∀ (v0 : BitVec 32) (k0_hw17 : k0_chk17 v0) (k0_t5 : Fin (k0_t5_loop v0).trips), ∀ (k0_h10 : k0_cond10 v0 k0_t5 = 1#1), ∀ a, (k0_off646 v0 k0_t5) a + S1.size a ≤ S24.size a := fun v0 k0_hw17 k0_t5 k0_h10 => k0_hw17.2.2.2.2.2.2.2.2.2.2.2.2.2.2.2.2.2.2.1 k0_t5 k0_h10
theorem k0_off647_inb : ∀ (v0 : BitVec 32) (k0_hw17 : k0_chk17 v0) (k0_t5 : Fin (k0_t5_loop v0).trips), ∀ (k0_h10 : k0_cond10 v0 k0_t5 = 1#1), ∀ a, (k0_off647 v0 k0_t5) a + S1x1x2x128x128.size a ≤ S24x16x2x128x128.size a := fun v0 k0_hw17 k0_t5 k0_h10 => k0_hw17.2.2.2.2.2.2.2.2.2.2.2.2.2.2.2.2.2.2.2.1 k0_t5 k0_h10
theorem k0_off647_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off647 v0 k0_t5) S1x1x2x128x128.size (k0_off647_inb v0 k0_hw17 k0_t5 k0_h10)).WholeWords (EltTy.packing .fp8e4m3) := fun v0 k0_hw17 k0_t5 k0_h10 => k0_hw17.2.2.2.2.2.2.2.2.2.2.2.2.2.2.2.2.2.2.2.2.1 k0_t5 k0_h10 (k0_off647_inb v0 k0_hw17 k0_t5 k0_h10)
theorem k0_off649_inb : ∀ (v0 : BitVec 32) (k0_hw17 : k0_chk17 v0) (k0_t5 : Fin (k0_t5_loop v0).trips), ∀ (k0_h10 : k0_cond10 v0 k0_t5 = 1#1), ∀ a, (k0_off649 v0 k0_t5) a + S1x1.size a ≤ S1x1024.size a := fun v0 k0_hw17 k0_t5 k0_h10 => k0_hw17.2.2.2.2.2.2.2.2.2.2.2.2.2.2.2.2.2.2.2.2.2.1 k0_t5 k0_h10
theorem k0_off650_inb : ∀ (v0 : BitVec 32) (k0_hw17 : k0_chk17 v0) (k0_t5 : Fin (k0_t5_loop v0).trips), ∀ (k0_h10 : k0_cond10 v0 k0_t5 = 1#1), ∀ a, (k0_off650 v0 k0_t5) a + S1.size a ≤ S24.size a := fun v0 k0_hw17 k0_t5 k0_h10 => k0_hw17.2.2.2.2.2.2.2.2.2.2.2.2.2.2.2.2.2.2.2.2.2.2.1 k0_t5 k0_h10
theorem k0_off651_inb : ∀ (v0 : BitVec 32) (k0_hw17 : k0_chk17 v0) (k0_t5 : Fin (k0_t5_loop v0).trips), ∀ (k0_h10 : k0_cond10 v0 k0_t5 = 1#1), ∀ a, (k0_off651 v0 k0_t5) a + S1x1x2x128x128.size a ≤ S24x16x2x128x128.size a := fun v0 k0_hw17 k0_t5 k0_h10 => k0_hw17.2.2.2.2.2.2.2.2.2.2.2.2.2.2.2.2.2.2.2.2.2.2.2.1 k0_t5 k0_h10
theorem k0_off651_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off651 v0 k0_t5) S1x1x2x128x128.size (k0_off651_inb v0 k0_hw17 k0_t5 k0_h10)).WholeWords (EltTy.packing .fp8e4m3) := fun v0 k0_hw17 k0_t5 k0_h10 => k0_hw17.2.2.2.2.2.2.2.2.2.2.2.2.2.2.2.2.2.2.2.2.2.2.2.2.1 k0_t5 k0_h10 (k0_off651_inb v0 k0_hw17 k0_t5 k0_h10)
theorem k0_off653_inb : ∀ (v0 : BitVec 32) (k0_hw17 : k0_chk17 v0) (k0_t5 : Fin (k0_t5_loop v0).trips), ∀ (k0_h10 : k0_cond10 v0 k0_t5 = 1#1), ∀ a, (k0_off653 v0 k0_t5) a + S1x1.size a ≤ S1x1024.size a := fun v0 k0_hw17 k0_t5 k0_h10 => k0_hw17.2.2.2.2.2.2.2.2.2.2.2.2.2.2.2.2.2.2.2.2.2.2.2.2.2.1 k0_t5 k0_h10
theorem k0_off654_inb : ∀ (v0 : BitVec 32) (k0_hw17 : k0_chk17 v0) (k0_t5 : Fin (k0_t5_loop v0).trips), ∀ (k0_h10 : k0_cond10 v0 k0_t5 = 1#1), ∀ a, (k0_off654 v0 k0_t5) a + S1.size a ≤ S24.size a := fun v0 k0_hw17 k0_t5 k0_h10 => k0_hw17.2.2.2.2.2.2.2.2.2.2.2.2.2.2.2.2.2.2.2.2.2.2.2.2.2.2.1 k0_t5 k0_h10
theorem k0_off655_inb : ∀ (v0 : BitVec 32) (k0_hw17 : k0_chk17 v0) (k0_t5 : Fin (k0_t5_loop v0).trips), ∀ (k0_h10 : k0_cond10 v0 k0_t5 = 1#1), ∀ a, (k0_off655 v0 k0_t5) a + S1x1x2x128x128.size a ≤ S24x16x2x128x128.size a := fun v0 k0_hw17 k0_t5 k0_h10 => k0_hw17.2.2.2.2.2.2.2.2.2.2.2.2.2.2.2.2.2.2.2.2.2.2.2.2.2.2.2.1 k0_t5 k0_h10
theorem k0_off655_wordsfp8e4m3 : ∀ (v0 : BitVec 32) (k0_hw17 : k0_chk17 v0) (k0_t5 : Fin (k0_t5_loop v0).trips), ∀ (k0_h10 : k0_cond10 v0 k0_t5 = 1#1), (Rect.unit (s := S24x16x2x128x128) (k0_off655 v0 k0_t5) S1x1x2x128x128.size (k0_off655_inb v0 k0_hw17 k0_t5 k0_h10)).WholeWords (EltTy.packing .fp8e4m3) := fun v0 k0_hw17 k0_t5 k0_h10 => k0_hw17.2.2.2.2.2.2.2.2.2.2.2.2.2.2.2.2.2.2.2.2.2.2.2.2.2.2.2.2 k0_t5 k0_h10 (k0_off655_inb v0 k0_hw17 k0_t5 k0_h10)

abbrev stage0_0 : Fin 1 → Memref sig .tc .vmem S16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1x2048 : Shape := ⟨3, ![1, 1, 2048]⟩
abbrev S1x1x2x128 : Shape := ⟨4, ![1, 1, 2, 128]⟩
abbrev S1024x128x2x128 : Shape := ⟨4, ![1024, 128, 2, 128]⟩
abbrev S2 : Shape := ⟨1, ![2]⟩
abbrev S1x1024 : Shape := ⟨2, ![1, 1024]⟩
abbrev S1 : Shape := ⟨1, ![1]⟩
abbrev S2x8x128 : Shape := ⟨3, ![2, 8, 128]⟩
abbrev S2x128 : Shape := ⟨2, ![2, 128]⟩
abbrev S1024 : Shape := ⟨1, ![1024]⟩
abbrev S_ : Shape := ⟨0, ![]⟩
abbrev S1024x1 : Shape := ⟨2, ![1024, 1]⟩
abbrev S131072x2x128 : Shape := ⟨3, ![131072, 2, 128]⟩
abbrev S2x131072x128 : Shape := ⟨3, ![2, 131072, 128]⟩
abbrev S2x1 : Shape := ⟨2, ![2, 1]⟩
abbrev S16x128 : Shape := ⟨2, ![16, 128]⟩
abbrev S2x1x1 : Shape := ⟨3, ![2, 1, 1]⟩
abbrev S2x8x131072 : Shape := ⟨3, ![2, 8, 131072]⟩
abbrev S2x1x128 : Shape := ⟨3, ![2, 1, 128]⟩
abbrev S2x8 : Shape := ⟨2, ![2, 8]⟩
abbrev S2x8x1 : Shape := ⟨3, ![2, 8, 1]⟩

abbrev nBuf : Space → Nat
  | .hbm => 41
  | .vmem => 10
  | .smem => 1
  | _ => 0

abbrev bufTy : (tb : Table) → Fin (tcTables nBuf tb) → BufTy
  | .hbm, ⟨0, _⟩ => ⟨S1x1x2048, .bf16⟩
  | .hbm, ⟨1, _⟩ => ⟨S1x1x2x128, .bf16⟩
  | .hbm, ⟨2, _⟩ => ⟨S1x1x2x128, .bf16⟩
  | .hbm, ⟨3, _⟩ => ⟨S1024x128x2x128, .fp8e4m3⟩
  | .hbm, ⟨4, _⟩ => ⟨S2, .f32⟩
  | .hbm, ⟨5, _⟩ => ⟨S1024x128x2x128, .fp8e4m3⟩
  | .hbm, ⟨6, _⟩ => ⟨S2, .f32⟩
  | .hbm, ⟨7, _⟩ => ⟨S1x1024, .i32⟩
  | .hbm, ⟨8, _⟩ => ⟨S1, .i32⟩
  | .hbm, ⟨9, _⟩ => ⟨S2x8x128, .bf16⟩
  | .hbm, ⟨10, _⟩ => ⟨S2x128, .bf16⟩
  | .hbm, ⟨11, _⟩ => ⟨S2x128, .bf16⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x128x2x128, .fp8e4m3⟩
  | .hbm, ⟨22, _⟩ => ⟨S131072x2x128, .fp8e4m3⟩
  | .hbm, ⟨23, _⟩ => ⟨S2x131072x128, .fp8e4m3⟩
  | .hbm, ⟨24, _⟩ => ⟨S2x1, .f32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x128x2x128, .fp8e4m3⟩
  | .hbm, ⟨35, _⟩ => ⟨S131072x2x128, .fp8e4m3⟩
  | .hbm, ⟨36, _⟩ => ⟨S2x131072x128, .fp8e4m3⟩
  | .hbm, ⟨37, _⟩ => ⟨S2x1, .f32⟩
  | .hbm, ⟨38, _⟩ => ⟨S16x128, .bf16⟩
  | .hbm, ⟨39, _⟩ => ⟨S2x128, .fp8e4m3⟩
  | .hbm, ⟨40, _⟩ => ⟨S2x128, .fp8e4m3⟩
  | .local _ .vmem, ⟨0, _⟩ => ⟨S2x8x128, .bf16⟩
  | .local _ .vmem, ⟨1, _⟩ => ⟨S2x128, .bf16⟩
  | .local _ .vmem, ⟨2, _⟩ => ⟨S2x128, .bf16⟩
  | .local _ .vmem, ⟨3, _⟩ => ⟨S2x131072x128, .fp8e4m3⟩
  | .local _ .vmem, ⟨4, _⟩ => ⟨S2x1, .f32⟩
  | .local _ .vmem, ⟨5, _⟩ => ⟨S2x131072x128, .fp8e4m3⟩
  | .local _ .vmem, ⟨6, _⟩ => ⟨S2x1, .f32⟩
  | .local _ .vmem, ⟨7, _⟩ => ⟨S16x128, .bf16⟩
  | .local _ .vmem, ⟨8, _⟩ => ⟨S2x128, .fp8e4m3⟩
  | .local _ .vmem, ⟨9, _⟩ => ⟨S2x128, .fp8e4m3⟩
  | .local _ .smem, ⟨0, _⟩ => ⟨S1, .i32⟩
  | _, _ => ⟨S1x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg7_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S2x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x131072x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x131072x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pre.lean ====
/-
  The precondition of the frames read: every word of the page table is a page number.
-/
module

public import proofs.«01_k».proof.Proof.Gen.Pre_pre
public import Idealize.ShloMosaic.Lib.ReduceAll
public import Idealize.ShloMosaic.Lib.WordCmp
public import Idealize.ShloMosaic.PureOps.Ideal
public import Idealize.ShloMosaic.PureOps.Ideal.Laws

@[expose] public section

noncomputable section

namespace Cert.Hand

open Idealize.ShloMosaic

/-- A word from 0 up to 1024, read signed, is below 1024 unsigned. -/
theorem word_lt (w : BitVec 32) (h : IntOp.andi (IntOp.cmpi .sge w 0#32) (IntOp.cmpi .slt w 1024#32) = 1#1) : w.toNat < 1024 := by
  obtain ⟨h1, h2⟩ := IntOp.andi_eq_one.1 h
  have h1 := IntOp.cmpi_sge.1 h1
  have h2 := IntOp.cmpi_slt.1 h2
  simp at h1 h2
  have := BitVec.toInt_eq_toNat_cond w
  split at this <;> omega

/-- What the precondition says: every word of the page table is below 1024. -/
theorem table_of_pre {F : FTy → Type} [FloatOps F] (a0 a1 a2 a3 a4 a5 a6 a7 a8)
    (h : Cert.Pre_pre.fn (F := F) a0 a1 a2 a3 a4 a5 a6 a7 a8 = (fun _ => 1#1)) (i : Cert.Pre_pre.S1x1024.Idx) : (a7 i).toNat < 1024 := by
  haveI : Subsingleton Cert.Pre_pre.S_.Idx := ⟨fun a b => funext fun x => x.elim0⟩
  have e := congrFun h (fun x => x.elim0)
  unfold Cert.Pre_pre.fn at e
  exact word_lt _ (Host.reduce_andi_all _ _ _ _ _ e i)

end Cert.Hand

end
-- ==== Proof.K.Pages.lean ====
/-
  The page ring, one page at a time. The kernel keeps 24 slots of 16 pages in VMEM; a step fills one slot by 16
  copies, each of one page of the pool (K or V) chosen by the page table, all on the slot's one DMA semaphore.
  This module names the elements of one page of the ring, says what a copied page holds, and proves the rule for
  issuing one copy.
-/
module

public import proofs.«01_k».proof.Proof.Gen.Kernel.Skeleton
public import proofs.«01_k».proof.Proof.Gen.Kernel.Launch
public import proofs.«01_k».proof.Proof.Gen.Kernel.Points
public import Idealize.ShloMosaic.Lib.Batch
public import Idealize.ShloMosaic.Lib.ValueLayout
public import Idealize.ShloMosaic.Lib.Exec
public import Idealize.ShloMosaic.Lib.Tactic
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

/-- The counters' embedding. -/
abbrev EC : UEmb Counters 𝕄 := countersEmb (U := Pipeline.UD sig nD τ)

/-! ## The buffers -/

/-- The ring of 24 slots of 16 pages. -/
abbrev ringM : Memref sig .tc .vmem S24x16x2x128x128 .fp8e4m3 := Memref.whole cc0_scratch0
/-- The scores of every cached token. -/
abbrev scoreM : Memref sig .tc .vmem S16x131072 .f32 := Memref.whole cc0_scratch1
/-- The pool of K pages, heads before tokens. -/
abbrev kM : Memref sig .tc .hbm S1024x2x128x128 .fp8e4m3 := Memref.whole main_v3
/-- The pool of V pages, heads before tokens. -/
abbrev vM : Memref sig .tc .hbm S1024x2x128x128 .fp8e4m3 := Memref.whole main_v4

/-- The ring's contents. -/
abbrev RingBuf : Type := (⟨S24x16x2x128x128, .fp8e4m3⟩ : BufTy).Contents (Elt F)
/-- A pool's contents. -/
abbrev PoolBuf : Type := (⟨S1024x2x128x128, .fp8e4m3⟩ : BufTy).Contents (Elt F)

/-- Page `off` of the ring, as the kernel's copies name it. -/
abbrev pageDst (off : Fin 5 → ℕ) (inb : ∀ a, off a + S1x1x2x128x128.size a ≤ S24x16x2x128x128.size a) :
    Memref sig .tc .vmem S2x128x128 .fp8e4m3 :=
  (ringM.slice (Rect.unit (s := S24x16x2x128x128) off S1x1x2x128x128.size inb) (fun _ => rfl)).squeeze S2x128x128 squeezes_S1x1x2x128x128_S2x128x128

/-- Page `off` of a pool, as the kernel's copies name it. -/
abbrev pageSrc (M : Memref sig .tc .hbm S1024x2x128x128 .fp8e4m3) (off : Fin 4 → ℕ) (inb : ∀ a, off a + S1x2x128x128.size a ≤ S1024x2x128x128.size a) :
    Memref sig .tc .hbm S2x128x128 .fp8e4m3 :=
  (M.slice (Rect.unit (s := S1024x2x128x128) off S1x2x128x128.size inb) (fun _ => rfl)).squeeze S2x128x128 squeezes_S1x2x128x128_S2x128x128

/-- The semaphore at `off`, as the kernel names it. -/
abbrev semAt (off : Fin 1 → ℕ) (inb : ∀ a, off a + S1.size a ≤ S24.size a) : DmaSem sig :=
  ((cc0_scratch2.slice (Rect.unit (s := S24) off S1.size inb)).squeeze S_ squeezes_S1_S_).sem

theorem slot_inb (k : Fin 24) : ∀ a, (![k.val] : Fin 1 → ℕ) a + S1.size a ≤ S24.size a := by
  intro a; fin_cases a; show k.val + 1 ≤ 24; omega

/-- Slot `k`'s semaphore. -/
def cell (k : Fin 24) : DmaSem sig := semAt ![k.val] (slot_inb k)

/-- The ring's elements in page `p` of slot `k`. -/
def pset (k p : ℕ) : Finset S24x16x2x128x128.Idx := Finset.univ.filter fun i => (i 0).val = k ∧ (i 1).val = p

/-- The ring's elements in slot `k`. -/
def kset (k : ℕ) : Finset S24x16x2x128x128.Idx := Finset.univ.filter fun i => (i 0).val = k

theorem set_pageDst (k p : ℕ) (inb) : (pageDst ![k, p, 0, 0, 0] inb).view.set = pset k p := by
  ext i
  rw [set_view_squeeze]
  show i ∈ ((Memref.whole cc0_scratch0).view.slice _).set ↔ _
  rw [View.set_slice_whole (b := cc0_scratch0), Rect.mem_set_unit]
  unfold pset
  rw [Finset.mem_filter]
  have h2 : (i 2).val < 2 := (i 2).isLt
  have h3 : (i 3).val < 128 := (i 3).isLt
  have h4 : (i 4).val < 128 := (i 4).isLt
  constructor
  · intro h
    have h0 : k ≤ (i 0).val ∧ (i 0).val < k + 1 := h 0
    have h1 : p ≤ (i 1).val ∧ (i 1).val < p + 1 := h 1
    exact ⟨Finset.mem_univ _, by omega, by omega⟩
  · rintro ⟨-, e0, e1⟩ a
    match a with
    | ⟨0, _⟩ => show k ≤ (i 0).val ∧ (i 0).val < k + 1; omega
    | ⟨1, _⟩ => show p ≤ (i 1).val ∧ (i 1).val < p + 1; omega
    | ⟨2, _⟩ => show 0 ≤ (i 2).val ∧ (i 2).val < 0 + 2; omega
    | ⟨3, _⟩ => show 0 ≤ (i 3).val ∧ (i 3).val < 0 + 128; omega
    | ⟨4, _⟩ => show 0 ≤ (i 4).val ∧ (i 4).val < 0 + 128; omega

/-- The ring with the 16 pages `tab (b + 0), …, tab (b + 15)` of a pool in every slot. -/
def blockBuf (tab : ℕ → BitVec 32) (b : ℕ) (f : PoolBuf (F := F)) : RingBuf (F := F) :=
  fun i => f (ix4 (n0 := 1024) (n1 := 2) (n2 := 128) (n3 := 128) (Fin.ofNat 1024 (tab (b + (i 1).val)).toNat) (i 2) (i 3) (i 4))

/-- The element of the ring that index `(x, y, z)` of page `(k, p)` names. -/
theorem pageDst_emb (k p : ℕ) (inb) (x : Fin 2) (y z : Fin 128) (hk : k < 24) (hp : p < 16) :
    (pageDst ![k, p, 0, 0, 0] inb).view.emb (ix3 x y z) = (ix5 (n0 := 24) (n1 := 16) (n2 := 2) (n3 := 128) (n4 := 128) ⟨k, hk⟩ ⟨p, hp⟩ x y z) := by
  show (Rect.unit (s := S24x16x2x128x128) ![k, p, 0, 0, 0] S1x1x2x128x128.size inb).emb (Shape.reshapeEquiv _ (ix3 x y z)) = _
  rw [reshapeEquiv_ix3_11abc]
  funext a
  apply Fin.ext
  match a with
  | ⟨0, _⟩ => show k + 1 * 0 = k; omega
  | ⟨1, _⟩ => show p + 1 * 0 = p; omega
  | ⟨2, _⟩ => show 0 + 1 * x.val = x.val; omega
  | ⟨3, _⟩ => show 0 + 1 * y.val = y.val; omega
  | ⟨4, _⟩ => show 0 + 1 * z.val = z.val; omega

/-- What a page of a pool reads at index `(x, y, z)`. -/
theorem pageSrc_read {M : Memref sig .tc .hbm S1024x2x128x128 .fp8e4m3} {f : M.view.ty.Contents (Elt F)} {pool : PoolBuf (F := F)}
    (hM : M.view.read (Elt F) f = pool) (w : ℕ) (hw : w < 1024) (inb) (x : Fin 2) (y z : Fin 128) :
    (pageSrc M ![w, 0, 0, 0] inb).view.read (Elt F) f (ix3 x y z) = pool (ix4 (n0 := 1024) (n1 := 2) (n2 := 128) (n3 := 128) ⟨w, hw⟩ x y z) := by
  rw [← hM]
  show M.view.read (Elt F) f ((Rect.unit (s := S1024x2x128x128) ![w, 0, 0, 0] S1x2x128x128.size inb).emb (Shape.reshapeEquiv _ (ix3 x y z))) = _
  rw [reshapeEquiv_ix3_1abc]
  congr 1
  funext a
  apply Fin.ext
  match a with
  | ⟨0, _⟩ => show w + 1 * 0 = w; omega
  | ⟨1, _⟩ => show 0 + 1 * x.val = x.val; omega
  | ⟨2, _⟩ => show 0 + 1 * y.val = y.val; omega
  | ⟨3, _⟩ => show 0 + 1 * z.val = z.val; omega

/-- A copied page holds what `blockBuf` says. -/
theorem page_landed {M : Memref sig .tc .hbm S1024x2x128x128 .fp8e4m3} {f : M.view.ty.Contents (Elt F)} {pool : PoolBuf (F := F)}
    (hM : M.view.read (Elt F) f = pool) (tab : ℕ → BitVec 32) (b k p : ℕ) (hk : k < 24) (hp : p < 16)
    (hw : (tab (b + p)).toNat < 1024) (inb) (inb') (g : RingBuf (F := F)) :
    ∀ i ∈ pset k p, (pageDst ![k, p, 0, 0, 0] inb).view.write (Elt F) g (ReadAs.same.apply ((pageSrc M ![(tab (b + p)).toNat, 0, 0, 0] inb').view.read (Elt F) f)) Finset.univ i = blockBuf tab b pool i := by
  intro i hi
  rw [← set_pageDst k p inb] at hi
  obtain ⟨x, -, rfl⟩ := Finset.mem_map.mp hi
  rw [View.write_emb_of_mem _ _ (Finset.mem_univ x)]
  obtain ⟨x0, x1, x2, rfl⟩ : ∃ a b c, x = ix3 a b c := ⟨_, _, _, eq_ix3 x⟩
  rw [pageDst_emb k p inb x0 x1 x2 hk hp]
  show (pageSrc M _ inb').view.read (Elt F) f (ix3 x0 x1 x2) = _
  rw [pageSrc_read hM _ hw]
  unfold blockBuf
  congr 1
  funext a
  apply Fin.ext
  match a with
  | ⟨0, _⟩ => show (tab (b + p)).toNat = (tab (b + p)).toNat % 1024; rw [Nat.mod_eq_of_lt hw]
  | ⟨1, _⟩ => rfl
  | ⟨2, _⟩ => rfl
  | ⟨3, _⟩ => rfl

/-! ## Issuing a copy that carries a resource -/

/-- The issue of a batch's next copy, with a resource `put` that goes into the copy's delivery. -/
theorem wp_dmaBatch_with {α : Type} {n : ℕ} (c : Thread nD τ) {sp sp' : Space} {s s₀ : Shape} {e e₀ : EltTy} {Q : α → sProp 𝕄}
    {src : Memref sig c.2.kind sp s₀ e₀} {via : ReadAs (Elt F) s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {q : PosShare TreeShare} {fs : Buf (Elt F) (src.view.loc c)}
    {Sd : Finset (Idx (dst.view.loc c))} {fd : Buf (Elt F) (dst.view.loc c)} {put : sProp 𝕄}
    {D : Fin n → sProp 𝕄} {j u : ℕ}
    (N : ℕ) (hN : dst.view.amount sm = N) (hSd : dst.view.set ⊆ Sd) (hj : j < n) (hu : u ≤ j * N)
    (hD : iprop(put ∗ ((dst.view.loc c ↦[Sd]{fullShare} (dst.view.write (Elt F) fd (via.apply (src.view.read (Elt F) fs)) Finset.univ))
              ∗ (src.view.loc c ↦[src.view.set]{q} fs))) ⊢ D ⟨j, hj⟩) :
    iprop((src.view.loc c ↦[src.view.set]{q} fs) ∗ (dst.view.loc c ↦[Sd]{fullShare} fd) ∗ put ∗ Transfers.Batch EC c sm () N D j u)
      ⊢ iprop((Transfers.Batch EC c sm () N D (j + 1) u -∗ wp frame (wpE (defs₀ (F := F)) Variants.none c none) Set.univ (k ⟨⟩) Q)
          -∗ wp frame (wpE (defs₀ (F := F)) Variants.none c none) Set.univ (.op (.enqueueDmaAs src (.here dst) via sm hsrc hdst hsem) k) Q) := by
  unfold Transfers.Batch
  iintro ⟨Hs, Hd, Hput, ⟨%γ, %γ₀, %κ, #Hinv, HI, H0, Hcred⟩⟩ Hk
  ihave HI' := (show bigSep (Transfers.pending j) (fun t => count EC (γ t) 0) ⊢ iprop(count EC (γ ⟨j, hj⟩) 0 ∗ bigSep (Transfers.pending (j + 1)) (fun t => count EC (γ t) 0))
    from Entails.of_eq (by rw [Transfers.pending_succ hj, bigSep_insert (Transfers.not_mem_pending_succ hj)]; rfl)) $$ HI
  icases HI' with ⟨Ht, HI⟩
  iapply (wp_enqueueDmaAs Variants.none c none Set.univ () N hN) $$ [Hs Hd] [Ht Hput]
  · isplitl [Hs]; · iexact Hs
    iapply (pointsTo_writeUpdate c hSd) $$ Hd
  · iapply (Transfers.batch_creditUpdate_with EC ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-! ## The copies of one slot -/

variable (c : Dev nD)

/-- The units one page's copy adds to its semaphore. -/
def pageUnits : ℕ := sig.dmaCredit .tc (Kind.table .tc .vmem) (pageDst ![0, 0, 0, 0, 0] (by decide)).view.buf S2x128x128 .fp8e4m3

/-- The ring's location on the core. -/
abbrev ringLoc : Loc nD τ sig := (c : Thread nD τ).loc cc0_scratch0

/-- What page `p` of slot `k` waits for its copy with: its elements, and a read share of the pool. -/
def todo (M : Memref sig .tc .hbm S1024x2x128x128 .fp8e4m3) (f : Buf (Elt F) (M.view.loc (c : Thread nD τ))) (k p : ℕ) : sProp 𝕄 :=
  iprop((∃ g : Buf (Elt F) (ringLoc c), ringLoc c ↦[pset k p]{fullShare} g) ∗ (M.view.loc (c : Thread nD τ) ↦{Transfers.shareTokN fullShare (16 * k + p)} f))

/-- What page `p` of slot `k` gets from its copy: the page landed, and the read share back. -/
def done (M : Memref sig .tc .hbm S1024x2x128x128 .fp8e4m3) (f : Buf (Elt F) (M.view.loc (c : Thread nD τ))) (k : ℕ) (G : RingBuf (F := F)) (p : ℕ) : sProp 𝕄 :=
  iprop((ringLoc c ↦[pset k p]{fullShare} G) ∗ (M.view.loc (c : Thread nD τ) ↦{Transfers.shareTokN fullShare (16 * k + p)} f))

instance done_storable (M : Memref sig .tc .hbm S1024x2x128x128 .fp8e4m3) (f : Buf (Elt F) (M.view.loc (c : Thread nD τ))) (k : ℕ) (G : RingBuf (F := F)) (p : ℕ) :
    Storable (upEmb : UEmb _ 𝕄) (done (F := F) c M f k G p) := by
  unfold done; infer_instance

/-- Slot `k` with `p` of its 16 copies issued. -/
def issuing (M : Memref sig .tc .hbm S1024x2x128x128 .fp8e4m3) (f : Buf (Elt F) (M.view.loc (c : Thread nD τ))) (k : Fin 24) (G : RingBuf (F := F)) (p : ℕ) : sProp 𝕄 :=
  iprop(Transfers.Batch EC (c : Thread nD τ) (.dma (cell k)) () pageUnits (fun t : Fin 16 => done (F := F) c M f k.val G t.val) p 0
    ∗ bigSep (Transfers.pending (n := 16) p) (fun t => todo (F := F) c M f k.val t.val))

variable {c}

/-- The issue of one page's copy: page `p` of slot `k`, from the pool's page that the table names at `b + p`. -/
theorem wp_page {α : Type} {M : Memref sig .tc .hbm S1024x2x128x128 .fp8e4m3} {f : Buf (Elt F) (M.view.loc (c : Thread nD τ))} {pool : PoolBuf (F := F)}
    (hM : M.view.read (Elt F) f = pool) (tab : ℕ → BitVec 32) (b : ℕ) (k : Fin 24) (p : ℕ) (hp : p < 16) (w : BitVec 32) (hwt : w = tab (b + p))
    (hw : w.toNat < 1024)
    {oB : Fin 4 → ℕ} {iB} {oC : Fin 5 → ℕ} {iC} {oD : Fin 1 → ℕ} {iD}
    (hB : oB = ![w.toNat, 0, 0, 0]) (hC : oC = ![k.val, p, 0, 0, 0]) (hD : oD = ![k.val])
    {hsrc : (pageSrc M oB iB).view.WordExact} {hdst : (pageDst oC iC).view.WordExact} {hsem}
    {K : PUnit → Prog (TpuEff nD τ sig (Elt F) Λ₀ .tc) α} {Q : α → sProp 𝕄} {R : sProp 𝕄}
    (hk : iprop(issuing c M f k (blockBuf tab b pool) (p + 1) ∗ R)
      ⊢ wp frame (wpE (defs₀ (F := F)) Variants.none (c : Thread nD τ) none) Set.univ (K ⟨⟩) Q) :
    iprop(issuing c M f k (blockBuf tab b pool) p ∗ R)
      ⊢ wp frame (wpE (defs₀ (F := F)) Variants.none (c : Thread nD τ) none) Set.univ
          (.op (.enqueueDmaAs (pageSrc M oB iB) (.here (pageDst oC iC)) .same (.dma (semAt oD iD)) hsrc hdst hsem) K) Q := by
  subst hB; subst hC; subst hD; subst hwt
  refine (show _ ⊢ iprop((∃ g : Buf (Elt F) (ringLoc c), ringLoc c ↦[pset k.val p]{fullShare} g)
      ∗ ((pageSrc M ![(tab (b + p)).toNat, 0, 0, 0] iB).view.loc (c : Thread nD τ) ↦[(pageSrc M ![(tab (b + p)).toNat, 0, 0, 0] iB).view.set]{Transfers.shareTokN fullShare (16 * k.val + p)} f)
      ∗ (M.view.loc (c : Thread nD τ) ↦[Finset.univ \ (pageSrc M ![(tab (b + p)).toNat, 0, 0, 0] iB).view.set]{Transfers.shareTokN fullShare (16 * k.val + p)} f)
      ∗ Transfers.Batch EC (c : Thread nD τ) (.dma (cell k)) () pageUnits (fun t : Fin 16 => done (F := F) c M f k.val (blockBuf tab b pool) t.val) p 0
      ∗ bigSep (Transfers.pending (n := 16) (p + 1)) (fun t => todo (F := F) c M f k.val t.val) ∗ R) from ?_).trans ?_
  · unfold issuing
    rw [Transfers.bigSep_pending_step _ p hp]
    iintro ⟨⟨HB, Ht, Hp⟩, HR⟩
    unfold todo
    icases Ht with ⟨Hd, Hs⟩
    ihave Hs := (pointsTo_split_subset (Finset.subset_univ (pageSrc M ![(tab (b + p)).toNat, 0, 0, 0] iB).view.set)).1 $$ Hs
    icases Hs with ⟨Hs, Hr⟩
    isplitl [Hd]; · iexact Hd
    isplitl [Hs]; · iexact Hs
    isplitl [Hr]; · iexact Hr
    isplitl [HB]; · iexact HB
    isplitl [Hp]; · iexact Hp
    iexact HR
  · iintro ⟨⟨%g, Hd⟩, Hs, Hr, HB, Hp, HR⟩
    iapply (wp_dmaBatch_with (c : Thread nD τ) (src := pageSrc M ![(tab (b + p)).toNat, 0, 0, 0] iB) (via := .same) (dst := pageDst ![k.val, p, 0, 0, 0] iC)
      (sm := .dma (cell k)) (hsrc := hsrc) (hdst := hdst) (hsem := hsem) (Sd := pset k.val p) (fd := g)
      (q := Transfers.shareTokN fullShare (16 * k.val + p)) (fs := f)
      (put := (M.view.loc (c : Thread nD τ) ↦[Finset.univ \ (pageSrc M ![(tab (b + p)).toNat, 0, 0, 0] iB).view.set]{Transfers.shareTokN fullShare (16 * k.val + p)} f))
      (D := fun t : Fin 16 => done (F := F) c M f k.val (blockBuf tab b pool) t.val) (j := p) (u := 0)
      pageUnits rfl (set_pageDst k.val p iC).le hp (Nat.zero_le _) ?hD) $$ [Hs Hd Hr HB]
    case hD =>
      unfold done
      iintro ⟨Hr, Hd, Hs⟩
      isplitl [Hd]
      · iapply (Entails.of_eq (pointsTo_congr (page_landed hM tab b k.val p k.isLt hp hw iC iB g))) $$ Hd
      · iapply (pointsTo_split_subset (Finset.subset_univ (pageSrc M ![(tab (b + p)).toNat, 0, 0, 0] iB).view.set)).2 $$ [Hs Hr]
        isplitl [Hs]; · iexact Hs
        iexact Hr
    · isplitl [Hs]; · iexact Hs
      isplitl [Hd]; · iexact Hd
      isplitl [Hr]; · iexact Hr
      iexact HB
    iintro HB
    iapply hk
    unfold issuing
    isplitr [HR]
    · isplitl [HB]; · iexact HB
      iexact Hp
    · iexact HR

end Cert.Kernel.Hand

end
-- ==== Proof.K.Words.lean ====
/-
  The kernel's index words. `nbW v0` is the word the kernel computes for the number of 2048-token blocks that the
  sequence length `v0` reaches, clamped to 0..64, and `nb v0` is its value. Step `s` of the pipeline works on slot
  `s % 24`; the steps below `nb` read K blocks and the next `nb` read V blocks. This module reads the printed
  offsets and conditions as natural numbers, and proves the side condition the body assumes of every `v0`.
-/
module

public import proofs.«01_k».proof.Proof.Gen.Kernel.Skeleton
public import proofs.«01_k».proof.Proof.Gen.Kernel.Loops
public import Idealize.ShloMosaic.Lib.Affine

@[expose] public section

noncomputable section

namespace Cert.Kernel.Hand

open Cert.Kernel Cert.Kernel.Gen
open Idealize.ShloMosaic Idealize.ShloMosaic.Affine

/-! ## Words that read as natural numbers -/

/-- The word `x` reads, signed, as the natural number `n`. -/
abbrev Reads (x : BitVec 32) (n : ℕ) : Prop := IsInt x (n : ℤ)

theorem isInt_toInt {x : BitVec 32} {e : ℤ} (h : IsInt x e) : x.toInt = e := by unfold IsInt at h; exact h

theorem reads_toNat {x : BitVec 32} {n : ℕ} (h : Reads x n) : x.toNat = n := by
  have h := isInt_toInt h
  rw [BitVec.toInt_eq_toNat_cond] at h
  split at h <;> omega

theorem reads_iv (k : ℕ) (hk : k < 2 ^ 31) : Reads (Scf.iv 0#32 1#32 k) k := by
  have : Scf.iv 0#32 1#32 k = BitVec.ofNat 32 k := by
    unfold Scf.iv; rw [BitVec.mul_one, BitVec.zero_add]
  rw [this]; exact Affine.ofNat k ⟨rfl, hk⟩

/-- The table column of page `p` of block `x`. -/
theorem reads_col {X : BitVec 32} {x : ℕ} (hX : Reads X x) (p : ℕ) (hx : x < 1024) (hp : p < 1024) :
    (Scalar.indexCast (Scalar.addi (Scalar.muli X 16#32) (BitVec.ofNat 32 p))).toNat = 16 * x + p := by
  refine reads_toNat (n := 16 * x + p) ?_
  refine Affine.indexCast (Affine.addi (Affine.muli hX (Affine.ofNat 16 ⟨rfl, by omega⟩) ⟨rfl, ?_, ?_⟩) (Affine.ofNat p ⟨rfl, by omega⟩) ⟨?_, ?_, ?_⟩) <;> push_cast <;> omega

/-- The slot of step `x`. -/
theorem reads_slot {X : BitVec 32} {x : ℕ} (hX : Reads X x) : (Scalar.remsi X 24#32).toNat = x % 24 := by
  refine reads_toNat (n := x % 24) ?_
  exact Affine.remsi hX (Affine.ofNat 24 ⟨rfl, by omega⟩) ⟨by push_cast; rfl, by omega, by omega⟩

/-- The first score column of block `x`. -/
theorem reads_block {X : BitVec 32} {x : ℕ} (hX : Reads X x) (hx : x < 1024) :
    (Scalar.indexCast (Scalar.muli X 2048#32)).toNat = 2048 * x := by
  refine reads_toNat (n := 2048 * x) ?_
  refine Affine.indexCast (Affine.muli hX (Affine.ofNat 2048 ⟨rfl, by omega⟩) ⟨?_, ?_, ?_⟩) <;> push_cast <;> omega

/-! ## The offsets -/

/-- The table word of page `p` of block `x`, as an offset of the table. -/
theorem tab_off {X : BitVec 32} {x : ℕ} (hX : Reads X x) (p : ℕ) (hx : x < 1024) (hp : p < 1024) :
    (![0, (Scalar.indexCast (Scalar.addi (Scalar.muli X 16#32) (BitVec.ofNat 32 p))).toNat] : Fin 2 → ℕ) = ![0, 16 * x + p] := by
  rw [reads_col hX p hx hp]
theorem tab_inb {X : BitVec 32} {x : ℕ} (hX : Reads X x) (p : ℕ) (hx : x < 64) (hp : p < 16) :
    ∀ a, (![0, (Scalar.indexCast (Scalar.addi (Scalar.muli X 16#32) (BitVec.ofNat 32 p))).toNat] : Fin 2 → ℕ) a + S1x1.size a ≤ S1x1024.size a := by
  rw [tab_off hX p (by omega) (by omega)]
  intro a
  match a with
  | ⟨0, _⟩ => show 0 + 1 ≤ 1; omega
  | ⟨1, _⟩ => show 16 * x + p + 1 ≤ 1024; omega
theorem sem_off {X : BitVec 32} {x : ℕ} (hX : Reads X x) : (![(Scalar.remsi X 24#32).toNat] : Fin 1 → ℕ) = ![x % 24] := by
  rw [reads_slot hX]
theorem sem_inb {X : BitVec 32} {x : ℕ} (hX : Reads X x) : ∀ a, (![(Scalar.remsi X 24#32).toNat] : Fin 1 → ℕ) a + S1.size a ≤ S24.size a := by
  rw [sem_off hX]
  intro a
  match a with
  | ⟨0, _⟩ => show x % 24 + 1 ≤ 24; omega
theorem page_off {X : BitVec 32} {x : ℕ} (hX : Reads X x) (p : ℕ) :
    (![(Scalar.remsi X 24#32).toNat, p, 0, 0, 0] : Fin 5 → ℕ) = ![x % 24, p, 0, 0, 0] := by
  rw [reads_slot hX]
theorem page_inb {X : BitVec 32} {x : ℕ} (hX : Reads X x) (p : ℕ) (hp : p < 16) :
    ∀ a, (![(Scalar.remsi X 24#32).toNat, p, 0, 0, 0] : Fin 5 → ℕ) a + S1x1x2x128x128.size a ≤ S24x16x2x128x128.size a := by
  rw [page_off hX p]
  intro a
  match a with
  | ⟨0, _⟩ => show x % 24 + 1 ≤ 24; omega
  | ⟨1, _⟩ => show p + 1 ≤ 16; omega
  | ⟨2, _⟩ => show 0 + 2 ≤ 2; omega
  | ⟨3, _⟩ => show 0 + 128 ≤ 128; omega
  | ⟨4, _⟩ => show 0 + 128 ≤ 128; omega
theorem slot_inb5 {X : BitVec 32} {x : ℕ} (hX : Reads X x) :
    ∀ a, (![(Scalar.remsi X 24#32).toNat, 0, 0, 0, 0] : Fin 5 → ℕ) a + S1x16x2x128x128.size a ≤ S24x16x2x128x128.size a := by
  rw [page_off hX 0]
  intro a
  match a with
  | ⟨0, _⟩ => show x % 24 + 1 ≤ 24; omega
  | ⟨1, _⟩ => show 0 + 16 ≤ 16; omega
  | ⟨2, _⟩ => show 0 + 2 ≤ 2; omega
  | ⟨3, _⟩ => show 0 + 128 ≤ 128; omega
  | ⟨4, _⟩ => show 0 + 128 ≤ 128; omega
theorem slot_inb5' {X : BitVec 32} {x : ℕ} (hX : Reads X x) :
    ∀ a, (![(Scalar.indexCast (Scalar.remsi X 24#32)).toNat, 0, 0, 0, 0] : Fin 5 → ℕ) a + S1x16x2x128x128.size a ≤ S24x16x2x128x128.size a :=
  slot_inb5 hX
theorem score_off {X : BitVec 32} {x : ℕ} (hX : Reads X x) (hx : x < 1024) :
    (![0, (Scalar.indexCast (Scalar.muli X 2048#32)).toNat] : Fin 2 → ℕ) = ![0, 2048 * x] := by
  rw [reads_block hX hx]
theorem score_inb {X : BitVec 32} {x : ℕ} (hX : Reads X x) (hx : x < 64) :
    ∀ a, (![0, (Scalar.indexCast (Scalar.muli X 2048#32)).toNat] : Fin 2 → ℕ) a + S16x2048.size a ≤ S16x131072.size a := by
  rw [score_off hX (by omega)]
  intro a
  match a with
  | ⟨0, _⟩ => show 0 + 16 ≤ 16; omega
  | ⟨1, _⟩ => show 2048 * x + 2048 ≤ 131072; omega

/-- A page of the ring or a slot of it is whole words, wherever it lies. -/
theorem ring_words {k p : ℕ} {size : Fin 5 → ℕ} (hinb : ∀ a, (![k, p, 0, 0, 0] : Fin 5 → ℕ) a + size a ≤ S24x16x2x128x128.size a)
    (h3 : size (S24x16x2x128x128.rowAx (show 2 ≤ S24x16x2x128x128.rank by decide)) = 128) : (Rect.unit (s := S24x16x2x128x128) ![k, p, 0, 0, 0] size hinb).WholeWords (EltTy.packing .fp8e4m3) :=
  Affine.words_rows (s := S24x16x2x128x128) (show 2 ≤ S24x16x2x128x128.rank by decide) rfl (h3.trans (by decide))

/-- What the body assumes of a word of the table: the page it names is in the pool. -/
theorem pool_inb {w : BitVec 32} (hw : w.toNat < 1024) :
    ∀ a, (![w.toNat, 0, 0, 0] : Fin 4 → ℕ) a + S1x2x128x128.size a ≤ S1024x2x128x128.size a := by
  intro a
  match a with
  | ⟨0, _⟩ => show w.toNat + 1 ≤ 1024; omega
  | ⟨1, _⟩ => show 0 + 2 ≤ 2; omega
  | ⟨2, _⟩ => show 0 + 128 ≤ 128; omega
  | ⟨3, _⟩ => show 0 + 128 ≤ 128; omega
theorem pool_chk {P : Prop} {w : BitVec 32} (hw : w.toNat < 1024) :
    (∀ _ : P, ∀ a, (![w.toNat, 0, 0, 0] : Fin 4 → ℕ) a + S1x2x128x128.size a ≤ S1024x2x128x128.size a) ∧
    (∀ _ : P, ∀ hinb : (∀ a, (![w.toNat, 0, 0, 0] : Fin 4 → ℕ) a + S1x2x128x128.size a ≤ S1024x2x128x128.size a),
      (Rect.unit (s := S1024x2x128x128) ![w.toNat, 0, 0, 0] S1x2x128x128.size hinb).WholeWords (EltTy.packing .fp8e4m3)) :=
  ⟨fun _ => pool_inb hw, fun _ hinb => Affine.words_rows (by decide) rfl rfl⟩

/-! ## The number of blocks -/

/-- The ceiling of `v0 / 2048` as the kernel computes it, unclamped. -/
def rawW (v0 : BitVec 32) : BitVec 32 :=
  (Scalar.select (Scalar.andi (Scalar.cmpi .ne (Scalar.subi (Scalar.extui (Scalar.cmpi .sgt (Scalar.subi (Scalar.addi v0 2048#32) 1#32) 0#32)) (Scalar.extui (Scalar.cmpi .slt (Scalar.subi (Scalar.addi v0 2048#32) 1#32) 0#32))) (Scalar.subi (Scalar.extui (Scalar.cmpi .sgt 2048#32 0#32)) (Scalar.extui (Scalar.cmpi .slt 2048#32 0#32)))) (Scalar.cmpi .ne (Scalar.remsi (Scalar.subi (Scalar.addi v0 2048#32) 1#32) 2048#32) 0#32)) (Scalar.subi (Scalar.divsi (Scalar.subi (Scalar.addi v0 2048#32) 1#32) 2048#32) 1#32) (Scalar.divsi (Scalar.subi (Scalar.addi v0 2048#32) 1#32) 2048#32))

/-- The number of blocks, as the kernel computes it. -/
def nbW (v0 : BitVec 32) : BitVec 32 := Scalar.minsi 64#32 (Scalar.maxsi 0#32 (rawW v0))

/-- The number of blocks. -/
def nb (v0 : BitVec 32) : ℕ := (min 64 (max 0 (rawW v0).toInt)).toNat

theorem nb_le (v0 : BitVec 32) : nb v0 ≤ 64 := by unfold nb; omega

theorem reads_nb (v0 : BitVec 32) : Reads (nbW v0) (nb v0) :=
  Affine.minsi (Affine.ofNat 64 ⟨rfl, by omega⟩) (Affine.maxsi (Affine.ofNat 0 ⟨rfl, by omega⟩) (Affine.word _) rfl)
    (by unfold nb; push_cast; omega)

/-- Every token below the sequence length lies in a block below `nb`, unless the cache ends first. -/
theorem nb_covers {v0 : BitVec 32} (h : v0.toInt ≤ 2147481600) {t : ℕ} (ht : t < 131072) (hv : (t : ℤ) < v0.toInt) : t < 2048 * nb v0 := by
  have hs : IsInt (Scalar.subi (Scalar.addi v0 2048#32) 1#32) (v0.toInt + 2047) :=
    by
      have e : Scalar.subi (Scalar.addi v0 2048#32) 1#32 = Scalar.addi v0 2047#32 := by
        show v0 + 2048#32 - 1#32 = v0 + 2047#32
        rw [BitVec.sub_eq_add_neg, BitVec.add_assoc]; rfl
      rw [e]
      exact Affine.addi (Affine.word v0) (Affine.ofNat 2047 ⟨rfl, by omega⟩) ⟨by push_cast; rfl, by omega, by omega⟩
  have h0 : IsInt 0#32 0 := Affine.ofNat 0 ⟨rfl, by omega⟩
  have h2k : IsInt 2048#32 2048 := Affine.ofNat 2048 ⟨rfl, by omega⟩
  have hsgn : ¬ (Scalar.cmpi .ne (Scalar.subi (Scalar.extui (Scalar.cmpi .sgt (Scalar.subi (Scalar.addi v0 2048#32) 1#32) 0#32)) (Scalar.extui (Scalar.cmpi .slt (Scalar.subi (Scalar.addi v0 2048#32) 1#32) 0#32))) (Scalar.subi (Scalar.extui (Scalar.cmpi .sgt 2048#32 0#32)) (Scalar.extui (Scalar.cmpi .slt 2048#32 0#32)))) = 1#1 := by
    refine Affine.ne_fails (ea := 1) (eb := 1) (Affine.subi (Affine.extui_holds (Affine.sgt_holds hs h0 (by omega)) rfl) (Affine.extui_fails (Affine.slt_fails hs h0 (by omega)) rfl) (by omega))
      (Affine.subi (Affine.extui_holds (Affine.sgt_holds h2k h0 (by omega)) rfl) (Affine.extui_fails (Affine.slt_fails h2k h0 (by omega)) rfl) (by omega)) rfl
  have hraw : IsInt (rawW v0) ((v0.toInt + 2047) / 2048) := by
    unfold rawW
    unfold Scalar.select
    rw [if_neg]
    · exact Affine.divsi hs h2k ⟨rfl, by omega, by omega⟩
    · intro hh
      exact hsgn (IntOp.andi_eq_one.mp hh).1
  have := isInt_toInt hraw
  unfold nb; rw [this]; omega

/-! ## The loops -/

/-- The block loops' upper bound. -/
theorem reads_ub (v0 : BitVec 32) : Reads (Scalar.addi 0#32 (Scalar.muli (Scalar.divsi (Scalar.subi (nbW v0) 0#32) 1#32) 1#32)) (nb v0) := by
  have hn := nb_le v0
  have h1 : IsInt 1#32 1 := Affine.ofNat 1 ⟨rfl, by omega⟩
  have h0 : IsInt 0#32 0 := Affine.ofNat 0 ⟨rfl, by omega⟩
  exact Affine.addi h0 (Affine.muli (Affine.divsi_one (Affine.subi (reads_nb v0) h0 ⟨rfl, by omega, by omega⟩) h1 ⟨rfl, rfl⟩) h1 ⟨rfl, by omega, by omega⟩) (by omega)
theorem reads_ub' (v0 : BitVec 32) : Reads (Scalar.addi 0#32 (Scalar.subi (nbW v0) 0#32)) (nb v0) := by
  have hn := nb_le v0
  have h0 : IsInt 0#32 0 := Affine.ofNat 0 ⟨rfl, by omega⟩
  exact Affine.addi h0 (Affine.subi (reads_nb v0) h0 ⟨rfl, by omega, by omega⟩) (by omega)

theorem trips_of_reads {lb ub : BitVec 32} {a b : ℕ} (hl : Reads lb a) (hu : Reads ub b) (h : a ≤ b) : Scf.trips lb ub 1#32 = b - a := by
  have h1 : (1#32 : BitVec 32).toInt = 1 := by decide
  unfold Scf.trips; rw [isInt_toInt hl, isInt_toInt hu, h1]; omega

theorem t1_trips : k0_t1_loop.trips = 24 := by decide
theorem t2_trips (v0 : BitVec 32) : (k0_t2_loop v0).trips = nb v0 :=
  (trips_of_reads (Affine.ofNat 0 ⟨rfl, by omega⟩) (reads_ub v0) (Nat.zero_le _)).trans (Nat.sub_zero _)
theorem t3_trips (v0 : BitVec 32) : (k0_t3_loop v0).trips = 0 :=
  (trips_of_reads (reads_ub v0) (reads_ub' v0) le_rfl).trans (Nat.sub_self _)
theorem t4_trips (v0 : BitVec 32) : (k0_t4_loop v0).trips = nb v0 :=
  (trips_of_reads (Affine.ofNat 0 ⟨rfl, by omega⟩) (reads_ub v0) (Nat.zero_le _)).trans (Nat.sub_zero _)
theorem t5_trips (v0 : BitVec 32) : (k0_t5_loop v0).trips = 0 :=
  (trips_of_reads (reads_ub v0) (reads_ub' v0) le_rfl).trans (Nat.sub_self _)

theorem ok_of_reads {lb ub : BitVec 32} {a b : ℕ} (hl : Reads lb a) (hu : Reads ub b) (h : a ≤ b) (hb : b ≤ 1000) : Scf.OK lb ub 1#32 := by
  have h1 : (1#32 : BitVec 32).toInt = 1 := by decide
  refine ⟨by rw [h1]; omega, ?_⟩
  rw [trips_of_reads hl hu h, isInt_toInt hl, h1]; omega

theorem t2_ok (v0 : BitVec 32) : (k0_t2_loop v0).OK := ok_of_reads (Affine.ofNat 0 ⟨rfl, by omega⟩) (reads_ub v0) (Nat.zero_le _) (by have := nb_le v0; omega)
theorem t3_ok (v0 : BitVec 32) : (k0_t3_loop v0).OK := ok_of_reads (reads_ub v0) (reads_ub' v0) le_rfl (by have := nb_le v0; omega)
theorem t4_ok (v0 : BitVec 32) : (k0_t4_loop v0).OK := ok_of_reads (Affine.ofNat 0 ⟨rfl, by omega⟩) (reads_ub v0) (Nat.zero_le _) (by have := nb_le v0; omega)
theorem t5_ok (v0 : BitVec 32) : (k0_t5_loop v0).OK := ok_of_reads (reads_ub v0) (reads_ub' v0) le_rfl (by have := nb_le v0; omega)

theorem t1_lt (t : Fin k0_t1_loop.trips) : t.val < 24 := t1_trips ▸ t.isLt
theorem t2_lt {v0 : BitVec 32} (t : Fin (k0_t2_loop v0).trips) : t.val < nb v0 := t2_trips v0 ▸ t.isLt
theorem t3_no {v0 : BitVec 32} (t : Fin (k0_t3_loop v0).trips) : False := Nat.not_lt_zero _ (lt_of_lt_of_eq t.isLt (t3_trips v0))
theorem t4_lt {v0 : BitVec 32} (t : Fin (k0_t4_loop v0).trips) : t.val < nb v0 := t4_trips v0 ▸ t.isLt
theorem t5_no {v0 : BitVec 32} (t : Fin (k0_t5_loop v0).trips) : False := Nat.not_lt_zero _ (lt_of_lt_of_eq t.isLt (t5_trips v0))

/-! ## The steps' words -/

theorem reads_t1 (t : Fin k0_t1_loop.trips) : Reads (Scf.iv 0#32 1#32 t) t.val := reads_iv _ (by have := t1_lt t; omega)
theorem reads_t2 {v0 : BitVec 32} (t : Fin (k0_t2_loop v0).trips) : Reads (Scf.iv 0#32 1#32 t) t.val :=
  reads_iv _ (by have := t2_lt t; have := nb_le v0; omega)
theorem reads_t4 {v0 : BitVec 32} (t : Fin (k0_t4_loop v0).trips) : Reads (Scf.iv 0#32 1#32 t) t.val :=
  reads_iv _ (by have := t4_lt t; have := nb_le v0; omega)
/-- The value loop's step. -/
theorem reads_s4 {v0 : BitVec 32} (t : Fin (k0_t4_loop v0).trips) : Reads (Scalar.addi (nbW v0) (Scf.iv 0#32 1#32 t)) (nb v0 + t.val) := by
  have := t4_lt t; have := nb_le v0
  exact Affine.addi (reads_nb v0) (reads_t4 t) ⟨by push_cast; rfl, by push_cast; omega, by push_cast; omega⟩
/-- The step 24 ahead. -/
theorem reads_next {X : BitVec 32} {x : ℕ} (hX : Reads X x) (hx : x < 200) : Reads (Scalar.addi X 24#32) (x + 24) :=
  Affine.addi hX (Affine.ofNat 24 ⟨rfl, by omega⟩) ⟨by push_cast; rfl, by push_cast; omega, by push_cast; omega⟩
/-- The V block of a step. -/
theorem reads_vblk {v0 : BitVec 32} {X : BitVec 32} {x : ℕ} (hX : Reads X x) (hx : nb v0 ≤ x) (hx' : x < 1000) : Reads (Scalar.subi X (nbW v0)) (x - nb v0) :=
  Affine.subi hX (reads_nb v0) ⟨by omega, by omega, by omega⟩

/-! ## The conditions -/

/-- The condition of a K issue. -/
theorem condK_iff {v0 : BitVec 32} {X : BitVec 32} {x : ℕ} (hX : Reads X x) :
    Scalar.cmpi .ne (Scalar.extui (Scalar.cmpi .slt X (nbW v0))) 0#32 = 1#1 ↔ x < nb v0 := by
  refine (Scalar.guard_iff _).trans (IntOp.cmpi_slt.trans ?_)
  rw [isInt_toInt hX, isInt_toInt (reads_nb v0)]; omega
/-- The condition of a V issue. -/
theorem condV_iff {v0 : BitVec 32} {X : BitVec 32} {x : ℕ} (hX : Reads X x) :
    Scalar.cmpi .ne (Scalar.extui (Scalar.andi (Scalar.cmpi .sge X (nbW v0)) (Scalar.cmpi .slt X (Scalar.muli 2#32 (nbW v0))))) 0#32 = 1#1
      ↔ nb v0 ≤ x ∧ x < 2 * nb v0 := by
  have h2 : Reads (Scalar.muli 2#32 (nbW v0)) (2 * nb v0) :=
    Affine.muli (Affine.ofNat 2 ⟨rfl, by omega⟩) (reads_nb v0) (by have := nb_le v0; push_cast; omega)
  refine (Scalar.guard_iff _).trans (IntOp.andi_eq_one.trans (and_congr (IntOp.cmpi_sge.trans ?_) (IntOp.cmpi_slt.trans ?_)))
  · rw [isInt_toInt hX, isInt_toInt (reads_nb v0)]; omega
  · rw [isInt_toInt hX, isInt_toInt h2]; omega

theorem cond1_iff (v0 : BitVec 32) (t : Fin k0_t1_loop.trips) : k0_cond1 v0 t = 1#1 ↔ t.val < nb v0 := condK_iff (reads_t1 t)
theorem cond2_iff (v0 : BitVec 32) (t : Fin k0_t1_loop.trips) : k0_cond2 v0 t = 1#1 ↔ nb v0 ≤ t.val ∧ t.val < 2 * nb v0 := condV_iff (reads_t1 t)

theorem lt200_2 {v0 : BitVec 32} (t : Fin (k0_t2_loop v0).trips) : t.val < 200 := by have := t2_lt t; have := nb_le v0; omega
theorem lt200_4 {v0 : BitVec 32} (t : Fin (k0_t4_loop v0).trips) : nb v0 + t.val < 200 := by have := t4_lt t; have := nb_le v0; omega

theorem reads_n2 {v0 : BitVec 32} (t : Fin (k0_t2_loop v0).trips) : Reads (Scalar.addi (Scf.iv 0#32 1#32 t) 24#32) (t.val + 24) := reads_next (reads_t2 t) (lt200_2 t)
theorem reads_n4 {v0 : BitVec 32} (t : Fin (k0_t4_loop v0).trips) : Reads (Scalar.addi (Scalar.addi (nbW v0) (Scf.iv 0#32 1#32 t)) 24#32) (nb v0 + t.val + 24) := reads_next (reads_s4 t) (lt200_4 t)

theorem cond3_iff (v0 : BitVec 32) (t : Fin (k0_t2_loop v0).trips) : k0_cond3 v0 t = 1#1 ↔ t.val + 24 < nb v0 := condK_iff (reads_n2 t)
theorem cond4_iff (v0 : BitVec 32) (t : Fin (k0_t2_loop v0).trips) : k0_cond4 v0 t = 1#1 ↔ nb v0 ≤ t.val + 24 ∧ t.val + 24 < 2 * nb v0 := condV_iff (reads_n2 t)
theorem cond7_iff (v0 : BitVec 32) (t : Fin (k0_t4_loop v0).trips) : k0_cond7 v0 t = 1#1 ↔ nb v0 + t.val + 24 < nb v0 := condK_iff (reads_n4 t)
theorem cond8_iff (v0 : BitVec 32) (t : Fin (k0_t4_loop v0).trips) : k0_cond8 v0 t = 1#1 ↔ nb v0 ≤ nb v0 + t.val + 24 ∧ nb v0 + t.val + 24 < 2 * nb v0 := condV_iff (reads_n4 t)

/-! ## The body's assumption of `v0` -/

theorem mult_dvd {X : BitVec 32} {x : ℕ} (hX : Reads X x) (hx : x < 1024) : 2048 ∣ (Scalar.muli X 2048#32).toNat :=
  (reads_block hX hx).symm ▸ Nat.dvd_mul_right _ _

theorem blkV1 {v0 : BitVec 32} (t : Fin k0_t1_loop.trips) (h : k0_cond2 v0 t = 1#1) : Reads (Scalar.subi (Scf.iv 0#32 1#32 t) (nbW v0)) (t.val - nb v0) :=
  reads_vblk (reads_t1 t) ((cond2_iff v0 t).mp h).1 (by have := t1_lt t; omega)
theorem ltV1 {v0 : BitVec 32} (t : Fin k0_t1_loop.trips) (h : k0_cond2 v0 t = 1#1) : t.val - nb v0 < 64 := by have := t1_lt t; omega
theorem ltK2 {v0 : BitVec 32} (t : Fin (k0_t2_loop v0).trips) (h : k0_cond3 v0 t = 1#1) : t.val + 24 < 64 := by
  have := (cond3_iff v0 t).mp h; have := nb_le v0; omega
theorem blkV2 {v0 : BitVec 32} (t : Fin (k0_t2_loop v0).trips) (h : k0_cond4 v0 t = 1#1) :
    Reads (Scalar.subi (Scalar.addi (Scf.iv 0#32 1#32 t) 24#32) (nbW v0)) (t.val + 24 - nb v0) :=
  reads_vblk (reads_n2 t) ((cond4_iff v0 t).mp h).1 (by have := lt200_2 t; omega)
theorem ltV2 {v0 : BitVec 32} (t : Fin (k0_t2_loop v0).trips) (h : k0_cond4 v0 t = 1#1) : t.val + 24 - nb v0 < 64 := by
  have := (cond4_iff v0 t).mp h; have := nb_le v0; omega
theorem no7 {v0 : BitVec 32} (t : Fin (k0_t4_loop v0).trips) (h : k0_cond7 v0 t = 1#1) : False := by
  have := (cond7_iff v0 t).mp h; omega
theorem blkV4 {v0 : BitVec 32} (t : Fin (k0_t4_loop v0).trips) (h : k0_cond8 v0 t = 1#1) :
    Reads (Scalar.subi (Scalar.addi (Scalar.addi (nbW v0) (Scf.iv 0#32 1#32 t)) 24#32) (nbW v0)) (nb v0 + t.val + 24 - nb v0) :=
  reads_vblk (reads_n4 t) ((cond8_iff v0 t).mp h).1 (by have := lt200_4 t; omega)
theorem ltV4 {v0 : BitVec 32} (t : Fin (k0_t4_loop v0).trips) (h : k0_cond8 v0 t = 1#1) : nb v0 + t.val + 24 - nb v0 < 64 := by
  have := (cond8_iff v0 t).mp h; have := nb_le v0; omega

end Cert.Kernel.Hand

end
-- ==== Proof.K.Chk.lean ====
/-
  The side condition the body assumes of the sequence length `v0` holds whatever `v0` is: every offset the loops
  compute from it is in bounds, and every transfer moves whole words.
-/
module

public import proofs.«01_k».proof.Proof.K.Words

@[expose] public section

noncomputable section

namespace Cert.Kernel.Hand

open Cert.Kernel Cert.Kernel.Gen
open Idealize.ShloMosaic Idealize.ShloMosaic.Affine

attribute [local irreducible] Scf.trips Scf.OK Scf.iv k0_cond2 k0_cond3 k0_cond4 k0_cond7 k0_cond8
  Scalar.addi Scalar.subi Scalar.muli Scalar.remsi Scalar.divsi Scalar.indexCast Scalar.extui Scalar.cmpi Scalar.minsi Scalar.maxsi Scalar.andi BitVec.toNat

set_option maxHeartbeats 4000000 in
theorem chk17_0 (v0 : BitVec 32) : k0_chk17_0 v0 := by
  unfold k0_chk17_0
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_1 (v0 : BitVec 32) : k0_chk17_1 v0 := by
  unfold k0_chk17_1
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_2 (v0 : BitVec 32) : k0_chk17_2 v0 := by
  unfold k0_chk17_2
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_3 (v0 : BitVec 32) : k0_chk17_3 v0 := by
  unfold k0_chk17_3
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_4 (v0 : BitVec 32) : k0_chk17_4 v0 := by
  unfold k0_chk17_4
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_5 (v0 : BitVec 32) : k0_chk17_5 v0 := by
  unfold k0_chk17_5
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_6 (v0 : BitVec 32) : k0_chk17_6 v0 := by
  unfold k0_chk17_6
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_7 (v0 : BitVec 32) : k0_chk17_7 v0 := by
  unfold k0_chk17_7
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_8 (v0 : BitVec 32) : k0_chk17_8 v0 := by
  unfold k0_chk17_8
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_9 (v0 : BitVec 32) : k0_chk17_9 v0 := by
  unfold k0_chk17_9
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_10 (v0 : BitVec 32) : k0_chk17_10 v0 := by
  unfold k0_chk17_10
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_11 (v0 : BitVec 32) : k0_chk17_11 v0 := by
  unfold k0_chk17_11
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_12 (v0 : BitVec 32) : k0_chk17_12 v0 := by
  unfold k0_chk17_12
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_13 (v0 : BitVec 32) : k0_chk17_13 v0 := by
  unfold k0_chk17_13
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_14 (v0 : BitVec 32) : k0_chk17_14 v0 := by
  unfold k0_chk17_14
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_15 (v0 : BitVec 32) : k0_chk17_15 v0 := by
  unfold k0_chk17_15
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_16 (v0 : BitVec 32) : k0_chk17_16 v0 := by
  unfold k0_chk17_16
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_17 (v0 : BitVec 32) : k0_chk17_17 v0 := by
  unfold k0_chk17_17
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

/-- The body assumes nothing false: its check of `v0` holds whatever `v0` is. -/
theorem chk17_all (v0 : BitVec 32) : k0_chk17 v0 :=
  ⟨chk17_0 v0, chk17_1 v0, chk17_2 v0, chk17_3 v0, chk17_4 v0, chk17_5 v0, chk17_6 v0, chk17_7 v0, chk17_8 v0, chk17_9 v0, chk17_10 v0, chk17_11 v0, chk17_12 v0, chk17_13 v0, chk17_14 v0, chk17_15 v0, chk17_16 v0, chk17_17 v0⟩

end Cert.Kernel.Hand

end
-- ==== Proof.K.Site.lean ====
/-
  The three operations of one page's issue, each as a rule for a program that goes on: the load of the page's
  number from the table, the side condition assumed of it, and the copy.
-/
module

public import proofs.«01_k».proof.Proof.K.Pages
public import proofs.«01_k».proof.Proof.K.Chk

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

/-- A program's specification on the core `c`. -/
abbrev W {α : Type} (c : Dev nD) (P : Prog (TpuEff nD τ sig (Elt F) Λ₀ .tc) α) (Q : α → sProp 𝕄) : sProp 𝕄 :=
  wp frame (wpE (defs₀ (F := F)) Variants.none (c : Thread nD τ) none) Set.univ P Q

/-- The slot of step `s`. -/
abbrev slotOf (s : ℕ) : Fin 24 := ⟨s % 24, Nat.mod_lt _ (by decide)⟩

/-- The page table's words: entry `n` of the row. -/
def IsTab (arg7 : Memref sig .tc .smem S1x1024 .i32) (ft : arg7.view.ty.Contents (Elt F)) (tab : ℕ → BitVec 32) : Prop :=
  ∀ n (h : n < 1024), arg7.view.read (Elt F) ft (ix2 (0 : Fin 1) (⟨n, h⟩ : Fin 1024)) = tab n

variable {c : Dev nD} {arg7 : Memref sig .tc .smem S1x1024 .i32} {ft : Buf (Elt F) (arg7.view.loc (c : Thread nD τ))}

/-- The load of the table's entry `n`. -/
theorem site_load {α : Type} {tab : ℕ → BitVec 32} (htab : IsTab arg7 ft tab) {n : ℕ} (hn : n < 1024) {oA : Fin 2 → ℕ} {iA h1 hp} (ho : oA = ![0, n])
    {I R : sProp 𝕄} {K : Elt F .i32 → Prog (TpuEff nD τ sig (Elt F) Λ₀ .tc) α} {Q : α → sProp 𝕄}
    (hk : iprop(I ∗ (arg7.view.loc (c : Thread nD τ) ↦[arg7.view.set]{fullShare} ft) ∗ R) ⊢ W c (K (tab n)) Q) :
    iprop(I ∗ (arg7.view.loc (c : Thread nD τ) ↦[arg7.view.set]{fullShare} ft) ∗ R)
      ⊢ W c (smemLoad arg7 (Rect.unit (s := S1x1024) oA S1x1.size iA) h1 hp >>= K) Q := by
  subst ho
  have hv : (arg7.access (Rect.unit (s := S1x1024) ![0, n] S1x1.size iA)).read (Elt F) ft (Shape.Idx.first (h1.symm ▸ Nat.one_pos)) = tab n := by
    rw [← htab n hn]
    show arg7.view.read (Elt F) ft ((Rect.unit (s := S1x1024) ![0, n] S1x1.size iA).emb _) = _
    congr 1
    funext a
    apply Fin.ext
    match a with
    | ⟨0, _⟩ => rfl
    | ⟨1, _⟩ => show n + 1 * 0 = n; omega
  rw [← hv] at hk
  show _ ⊢ W c (smemLoadElt arg7 _ (View.loads_smem_one hp h1) _ (fun x => Prog.ret x >>= K)) Q
  iintro ⟨HI, HT, HR⟩
  iapply (wp_smemLoadElt Variants.none c none Set.univ (View.set_slice_subset _ _)) $$ [HT]
  · iexact HT
  iintro HT
  rw [Prog.bind_ret]
  iapply hk
  isplitl [HI]; · iexact HI
  isplitl [HT]; · iexact HT
  iexact HR

/-- The side condition assumed of a word. -/
theorem site_assume {α : Type} {P : Prop} {d : Decidable P} (h : P) {S : sProp 𝕄} {K : PLift P → Prog (TpuEff nD τ sig (Elt F) Λ₀ .tc) α} {Q : α → sProp 𝕄}
    (hk : S ⊢ W c (K ⟨h⟩) Q) : S ⊢ W c (Prog.lift (TpuEff.assume P d) >>= K) Q :=
  hk.trans (wp_assume Variants.none (c : Thread nD τ) none Set.univ h)

/-- The copy of page `p` of slot `k`. -/
theorem site_page {α : Type} {M : Memref sig .tc .hbm S1024x2x128x128 .fp8e4m3} {f : Buf (Elt F) (M.view.loc (c : Thread nD τ))} {pool : PoolBuf (F := F)}
    (hM : M.view.read (Elt F) f = pool) (tab : ℕ → BitVec 32) (hlt : ∀ n < 1024, (tab n).toNat < 1024) {b : ℕ} (hb : b + 16 ≤ 1024) {k : Fin 24} {p : ℕ} (hp : p < 16)
    {w : BitVec 32} (hwt : w = tab (b + p))
    {oB : Fin 4 → ℕ} {iB} {oC : Fin 5 → ℕ} {iC} {oD : Fin 1 → ℕ} {iD}
    (hB : oB = ![w.toNat, 0, 0, 0]) (hC : oC = ![k.val, p, 0, 0, 0]) (hD : oD = ![k.val])
    {hsrc : (pageSrc M oB iB).view.WordExact} {hdst : (pageDst oC iC).view.WordExact} {hsem}
    {K : PUnit → Prog (TpuEff nD τ sig (Elt F) Λ₀ .tc) α} {Q : α → sProp 𝕄} {R : sProp 𝕄}
    (hk : iprop(issuing c M f k (blockBuf tab b pool) (p + 1) ∗ R) ⊢ W c (K ⟨⟩) Q) :
    iprop(issuing c M f k (blockBuf tab b pool) p ∗ R)
      ⊢ W c (Prog.lift (.enqueueDma (pageSrc M oB iB) (.here (pageDst oC iC)) (.dma (semAt oD iD)) hsrc hdst hsem) >>= K) Q :=
  wp_page hM tab b k p hp w hwt (hwt ▸ hlt _ (by omega)) hB hC hD hk

end Cert.Kernel.Hand

end
-- ==== Proof.K.Ring.lean ====
/-
  The ring of 24 slots as the pipeline's steps see it. A slot is idle (its semaphore at zero, its elements and the
  read shares of both pools at hand) or full: all 16 copies of a step issued and under way. `ring h` is the ring when
  step `h` is the next to be waited for: the slots hold steps `h .. h + 23`, those past the last step idle.
-/
module

public import proofs.«01_k».proof.Proof.K.Site

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

/-! ## Slots -/

variable (c : Dev nD) (fk : Buf (Elt F) (kM.view.loc (c : Thread nD τ))) (fv : Buf (Elt F) (vM.view.loc (c : Thread nD τ)))

/-- The read shares of a pool that slot `k`'s copies use, one per page. -/
def toks (M : Memref sig .tc .hbm S1024x2x128x128 .fp8e4m3) (f : Buf (Elt F) (M.view.loc (c : Thread nD τ))) (k : ℕ) : sProp 𝕄 :=
  bigSep Finset.univ (fun t : Fin 16 => (M.view.loc (c : Thread nD τ) ↦{Transfers.shareTokN fullShare (16 * k + t.val)} f))

/-- An idle slot. -/
def idle (k : Fin 24) : sProp 𝕄 :=
  iprop(semVal ((c : Thread nD τ), SemLoc.dma (cell k)) 0 ∗ (∃ g : Buf (Elt F) (ringLoc c), ringLoc c ↦[kset k.val]{fullShare} g) ∗ toks c kM fk k.val ∗ toks c vM fv k.val)

theorem kset_pages (k : ℕ) : kset k = Finset.univ.biUnion (fun t : Fin 16 => pset k t.val) := by
  ext i
  unfold kset pset
  rw [Finset.mem_filter, Finset.mem_biUnion]
  constructor
  · intro h
    exact ⟨⟨(i 1).val, (i 1).isLt⟩, Finset.mem_univ _, Finset.mem_filter.mpr ⟨Finset.mem_univ _, h.2, rfl⟩⟩
  · rintro ⟨t, -, h⟩
    exact ⟨Finset.mem_univ _, (Finset.mem_filter.mp h).2.1⟩

theorem pset_disjoint (k : ℕ) (t t' : Fin 16) (h : t ≠ t') : Disjoint (pset k t.val) (pset k t'.val) := by
  rw [Finset.disjoint_left]
  intro i hi hi'
  unfold pset at hi hi'
  have h1 := (Finset.mem_filter.mp hi).2.2
  have h2 := (Finset.mem_filter.mp hi').2.2
  exact h (Fin.ext (h1.symm.trans h2))

/-- A slot's elements are its pages' elements. -/
theorem slot_pages (k : ℕ) (g : Buf (Elt F) (ringLoc c)) :
    (ringLoc c ↦[kset k]{fullShare} g : sProp 𝕄) = bigSep Finset.univ (fun t : Fin 16 => (ringLoc c ↦[pset k t.val]{fullShare} g)) := by
  rw [kset_pages]
  exact pointsTo_biUnion _ _ (fun t _ t' _ h => pset_disjoint k t t' h)

/-- An idle slot starts: the batch of a step's 16 copies, none issued. -/
theorem start (M : Memref sig .tc .hbm S1024x2x128x128 .fp8e4m3) (f : Buf (Elt F) (M.view.loc (c : Thread nD τ))) (k : Fin 24) (G : RingBuf (F := F)) :
    (iprop(semVal ((c : Thread nD τ), SemLoc.dma (cell k)) 0 ∗ (∃ g : Buf (Elt F) (ringLoc c), ringLoc c ↦[kset k.val]{fullShare} g) ∗ toks c M f k.val) : sProp 𝕄)
      ⊢ |={Set.univ}[frame]=> issuing c M f k G 0 := by
  unfold issuing
  rw [← Transfers.bigSep_pending_zero]
  iintro ⟨Hs, ⟨%g, Hg⟩, Ht⟩
  imod (Transfers.batch_alloc' EC (c : Thread nD τ) (sm := .dma (cell k)) () pageUnits (fun t : Fin 16 => done (F := F) c M f k.val G t.val) (E := Set.univ)) $$ Hs with HB
  imodintro
  isplitl [HB]; · iexact HB
  ihave Hg := (Entails.of_eq (slot_pages c k.val g)) $$ Hg
  unfold toks todo
  iapply (show iprop(bigSep Finset.univ (fun t : Fin 16 => iprop(∃ g : Buf (Elt F) (ringLoc c), ringLoc c ↦[pset k.val t.val]{fullShare} g)) ∗ bigSep Finset.univ (fun t : Fin 16 => (M.view.loc (c : Thread nD τ) ↦{Transfers.shareTokN fullShare (16 * k.val + t.val)} f))) ⊢ (bigSep Finset.univ (fun t : Fin 16 => iprop((∃ g : Buf (Elt F) (ringLoc c), ringLoc c ↦[pset k.val t.val]{fullShare} g) ∗ (M.view.loc (c : Thread nD τ) ↦{Transfers.shareTokN fullShare (16 * k.val + t.val)} f))) : sProp 𝕄) from Entails.of_eq (bigSep_sep _ _ _).symm)
  isplitl [Hg]
  · iapply (show (bigSep Finset.univ (fun t : Fin 16 => (ringLoc c ↦[pset k.val t.val]{fullShare} g)) : sProp 𝕄) ⊢ bigSep Finset.univ (fun t : Fin 16 => iprop(∃ g : Buf (Elt F) (ringLoc c), ringLoc c ↦[pset k.val t.val]{fullShare} g)) from
      bigSep_mono fun t _ => (show (ringLoc c ↦[pset k.val t.val]{fullShare} g : sProp 𝕄) ⊢ iprop(∃ g : Buf (Elt F) (ringLoc c), ringLoc c ↦[pset k.val t.val]{fullShare} g) from by iintro H; iexists g; iexact H))
    iexact Hg
  · iexact Ht

/-- The 16 deliveries of a slot are the slot landed and the shares back. -/
theorem landed_of_done (M : Memref sig .tc .hbm S1024x2x128x128 .fp8e4m3) (f : Buf (Elt F) (M.view.loc (c : Thread nD τ))) (k : ℕ) (G : RingBuf (F := F)) :
    (bigSep Finset.univ (fun t : Fin 16 => done (F := F) c M f k G t.val) : sProp 𝕄) ⊢ iprop((ringLoc c ↦[kset k]{fullShare} G) ∗ toks c M f k) := by
  unfold done toks
  rw [slot_pages]
  exact Entails.of_eq (bigSep_sep Finset.univ (fun t : Fin 16 => (ringLoc c ↦[pset k t.val]{fullShare} G)) (fun t : Fin 16 => (M.view.loc (c : Thread nD τ) ↦{Transfers.shareTokN fullShare (16 * k + t.val)} f)))

/-- The ring contents that step `s` of `nb` K blocks and `nb` V blocks brings. -/
def stepBuf (tab : ℕ → BitVec 32) (kpool vpool : PoolBuf (F := F)) (nb s : ℕ) : RingBuf (F := F) :=
  if s < nb then blockBuf tab (16 * s) kpool else blockBuf tab (16 * (s - nb)) vpool

variable (tab : ℕ → BitVec 32) (kpool vpool : PoolBuf (F := F)) (n : ℕ)

/-- The slot of step `s` with that step's copies under way, or idle past the last step. -/
def slotSt (s : ℕ) : sProp 𝕄 :=
  if s < n then iprop(issuing c kM fk (slotOf s) (blockBuf tab (16 * s) kpool) 16 ∗ toks c vM fv (s % 24))
  else if s < 2 * n then iprop(issuing c vM fv (slotOf s) (blockBuf tab (16 * (s - n)) vpool) 16 ∗ toks c kM fk (s % 24))
  else idle c fk fv (slotOf s)

theorem slotSt_K {s : ℕ} (h : s < n) : (slotSt c fk fv tab kpool vpool n s : sProp 𝕄)
    = iprop(issuing c kM fk (slotOf s) (blockBuf tab (16 * s) kpool) 16 ∗ toks c vM fv (s % 24)) := if_pos h
theorem slotSt_V {s : ℕ} (h : n ≤ s) (h' : s < 2 * n) : (slotSt c fk fv tab kpool vpool n s : sProp 𝕄)
    = iprop(issuing c vM fv (slotOf s) (blockBuf tab (16 * (s - n)) vpool) 16 ∗ toks c kM fk (s % 24)) :=
  (if_neg (by omega)).trans (if_pos h')
theorem slotSt_idle {s : ℕ} (h : 2 * n ≤ s) : (slotSt c fk fv tab kpool vpool n s : sProp 𝕄) = idle c fk fv (slotOf s) :=
  (if_neg (by omega)).trans (if_neg (by omega))

/-! ## The whole ring -/

/-- The step that slot `k` holds when step `h` is the next. -/
def stepAt (h k : ℕ) : ℕ := h + (k + 24 - h % 24) % 24

/-- The ring when step `h` is the next to be waited for. -/
def ring (h : ℕ) : sProp 𝕄 := bigSep Finset.univ (fun k : Fin 24 => slotSt c fk fv tab kpool vpool n (stepAt h k.val))

/-- The ring without the slot of the next step. -/
def ringRest (h : ℕ) : sProp 𝕄 := bigSep (Finset.univ.erase (slotOf h)) (fun k : Fin 24 => slotSt c fk fv tab kpool vpool n (stepAt h k.val))

theorem ring_focus (h : ℕ) : (ring c fk fv tab kpool vpool n h : sProp 𝕄)
    = iprop(slotSt c fk fv tab kpool vpool n h ∗ ringRest c fk fv tab kpool vpool n h) := by
  unfold ring ringRest
  rw [bigSep_erase (Finset.mem_univ (slotOf h))]
  rw [show stepAt h (slotOf h).val = h from by show h + (h % 24 + 24 - h % 24) % 24 = h; omega]
  rfl

/-- The next step's slot taken over by the step 24 later. -/
theorem ring_advance (h : ℕ) : (iprop(slotSt c fk fv tab kpool vpool n (h + 24) ∗ ringRest c fk fv tab kpool vpool n h) : sProp 𝕄)
    = ring c fk fv tab kpool vpool n (h + 1) := by
  unfold ring ringRest
  rw [bigSep_erase (Finset.mem_univ (slotOf h))]
  rw [show stepAt (h + 1) (slotOf h).val = h + 24 from by show h + 1 + (h % 24 + 24 - (h + 1) % 24) % 24 = h + 24; omega]
  congr 1
  refine bigSep_congr fun k hk => ?_
  have hne : k.val ≠ h % 24 := fun e => (Finset.mem_erase.mp hk).1 (Fin.ext e)
  have hk' := k.isLt
  rw [show stepAt (h + 1) k.val = stepAt h k.val from by unfold stepAt; omega]

/-- The ring in the prologue: the slots below `t` started. -/
def proRing (t : ℕ) : sProp 𝕄 := bigSep Finset.univ (fun k : Fin 24 => if k.val < t then slotSt c fk fv tab kpool vpool n k.val else idle c fk fv k)

def proRest (t : ℕ) : sProp 𝕄 := bigSep (Finset.univ.erase (slotOf t)) (fun k : Fin 24 => if k.val < t then slotSt c fk fv tab kpool vpool n k.val else idle c fk fv k)

theorem proRing_zero : (proRing c fk fv tab kpool vpool n 0 : sProp 𝕄) = bigSep Finset.univ (fun k : Fin 24 => idle c fk fv k) := by
  unfold proRing
  exact bigSep_congr fun k _ => if_neg (by omega)

theorem proRing_focus {t : ℕ} (ht : t < 24) : (proRing c fk fv tab kpool vpool n t : sProp 𝕄) = iprop(idle c fk fv (slotOf t) ∗ proRest c fk fv tab kpool vpool n t) := by
  unfold proRing proRest
  rw [bigSep_erase (Finset.mem_univ (slotOf t)), if_neg (by show ¬ t % 24 < t; omega)]
  rfl

theorem proRing_advance {t : ℕ} (ht : t < 24) : (iprop(slotSt c fk fv tab kpool vpool n t ∗ proRest c fk fv tab kpool vpool n t) : sProp 𝕄) = proRing c fk fv tab kpool vpool n (t + 1) := by
  unfold proRing proRest
  rw [bigSep_erase (Finset.mem_univ (slotOf t)), if_pos (by show t % 24 < t + 1; omega), show (slotOf t).val = t from Nat.mod_eq_of_lt ht]
  congr 1
  refine bigSep_congr fun k hk => ?_
  have hne : k.val ≠ t % 24 := fun e => (Finset.mem_erase.mp hk).1 (Fin.ext e)
  by_cases h : k.val < t
  · rw [if_pos h, if_pos (by omega)]
  · rw [if_neg h, if_neg (by omega)]

theorem proRing_done : (proRing c fk fv tab kpool vpool n 24 : sProp 𝕄) = ring c fk fv tab kpool vpool n 0 := by
  unfold proRing ring
  refine bigSep_congr fun k _ => ?_
  have hk := k.isLt
  rw [if_pos hk, show stepAt 0 k.val = k.val from by unfold stepAt; omega]

/-- After the last step the ring is idle. -/
theorem ring_end : (ring c fk fv tab kpool vpool n (2 * n) : sProp 𝕄) = bigSep Finset.univ (fun k : Fin 24 => idle c fk fv k) := by
  unfold ring
  refine bigSep_congr fun k _ => ?_
  have hk := k.isLt
  rw [slotSt_idle c fk fv tab kpool vpool n (by unfold stepAt; omega)]
  congr 1
  exact Fin.ext (by show stepAt (2 * n) k.val % 24 = k.val; unfold stepAt; omega)

end Cert.Kernel.Hand

end
-- ==== Proof.K.Start.lean ====
/-
  What the launch hands the kernel for its copies (the ring whole, its 24 semaphores at zero, the two pools whole) is
  the 24 idle slots beside a remaining read share of each pool; and back.
-/
module

public import proofs.«01_k».proof.Proof.K.Ring
public import Idealize.ShloMosaic.Lib.Ring

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable (c : Dev nD) (fk : Buf (Elt F) (kM.view.loc (c : Thread nD τ))) (fv : Buf (Elt F) (vM.view.loc (c : Thread nD τ)))

/-- A whole pool is the slots' read shares beside what remains of it. -/
theorem pool_toks (M : Memref sig .tc .hbm S1024x2x128x128 .fp8e4m3) (f : Buf (Elt F) (M.view.loc (c : Thread nD τ))) :
    (M.view.loc (c : Thread nD τ) ↦{fullShare} f : sProp 𝕄)
      ⊣⊢ iprop((M.view.loc (c : Thread nD τ) ↦{Transfers.shareDrop fullShare (24 * 16)} f) ∗ bigSep Finset.univ (fun k : Fin 24 => toks c M f k.val)) := by
  have h := Transfers.pointsTo_toks (Ix := Unit) (Name := ℕ) (U := Pipeline.UD sig nD τ) (Lvl := ℕ) (ℓ := M.view.loc (c : Thread nD τ)) (S := Finset.univ) (f := f) fullShare (24 * 16)
  rw [bigSep_univ_equiv (finProdFinEquiv (m := 24) (n := 16)), bigSep_univ_prod] at h
  rw [show (bigSep Finset.univ (fun k : Fin 24 => toks c M f k.val) : sProp 𝕄) = bigSep Finset.univ (fun a : Fin 24 => bigSep Finset.univ (fun b : Fin 16 =>
      (M.view.loc (c : Thread nD τ) ↦{Transfers.shareTok fullShare (24 * 16) (finProdFinEquiv (a, b))} f))) from by
    refine bigSep_congr fun k _ => ?_
    unfold toks
    refine bigSep_congr fun t _ => ?_
    rw [show Transfers.shareTok fullShare (24 * 16) (finProdFinEquiv (k, t)) = Transfers.shareTokN fullShare (finProdFinEquiv (k, t)).val from rfl,
      show (finProdFinEquiv (k, t)).val = 16 * k.val + t.val from by show t.val + 16 * k.val = _; omega]]
  exact h

theorem kset_disjoint (k k' : Fin 24) (h : k ≠ k') : Disjoint (kset k.val) (kset k'.val) := by
  rw [Finset.disjoint_left]
  intro i hi hi'
  unfold kset at hi hi'
  exact h (Fin.ext ((Finset.mem_filter.mp hi).2.symm.trans (Finset.mem_filter.mp hi').2))

theorem kset_cover : (Finset.univ : Finset (Fin 24)).biUnion (fun k => kset k.val) = Finset.univ := by
  ext i
  rw [Finset.mem_biUnion]
  unfold kset
  exact ⟨fun _ => Finset.mem_univ _, fun _ => ⟨⟨(i 0).val, (i 0).isLt⟩, Finset.mem_univ _, Finset.mem_filter.mpr ⟨Finset.mem_univ _, rfl⟩⟩⟩

/-- The ring whole is its slots, each at some contents. -/
theorem ring_split : (iprop(∃ g : Buf (Elt F) (ringLoc c), ringLoc c ↦{fullShare} g) : sProp 𝕄)
    ⊢ bigSep Finset.univ (fun k : Fin 24 => iprop(∃ g : Buf (Elt F) (ringLoc c), ringLoc c ↦[kset k.val]{fullShare} g)) := by
  iintro ⟨%g, H⟩
  iapply (show (ringLoc c ↦{fullShare} g : sProp 𝕄) ⊢ bigSep Finset.univ (fun k : Fin 24 => iprop(∃ g : Buf (Elt F) (ringLoc c), ringLoc c ↦[kset k.val]{fullShare} g)) from by
    rw [Ring.pointsTo_blocks (fun k : Fin 24 => kset k.val) (fun k k' h => kset_disjoint k k' h) kset_cover g]
    exact bigSep_mono fun k _ => (show (ringLoc c ↦[kset k.val]{fullShare} g : sProp 𝕄) ⊢ iprop(∃ g : Buf (Elt F) (ringLoc c), ringLoc c ↦[kset k.val]{fullShare} g) from by iintro H; iexists g; iexact H))
  iexact H

/-- What remains of the two pools beside the slots' read shares. -/
def poolRest : sProp 𝕄 :=
  iprop((kM.view.loc (c : Thread nD τ) ↦{Transfers.shareDrop fullShare (24 * 16)} fk) ∗ (vM.view.loc (c : Thread nD τ) ↦{Transfers.shareDrop fullShare (24 * 16)} fv))

/-- The slots' parts, part by part. -/
theorem idle_parts : (bigSep Finset.univ (fun k : Fin 24 => idle c fk fv k) : sProp 𝕄)
    = iprop(bigSep Finset.univ (fun k : Fin 24 => semVal ((c : Thread nD τ), SemLoc.dma (cell k)) 0)
      ∗ bigSep Finset.univ (fun k : Fin 24 => iprop(∃ g : Buf (Elt F) (ringLoc c), ringLoc c ↦[kset k.val]{fullShare} g))
      ∗ bigSep Finset.univ (fun k : Fin 24 => toks c kM fk k.val) ∗ bigSep Finset.univ (fun k : Fin 24 => toks c vM fv k.val)) := by
  unfold idle
  refine (bigSep_sep _ _ _).trans ?_
  refine congrArg _ ((bigSep_sep _ _ _).trans ?_)
  exact congrArg _ (bigSep_sep _ _ _)

/-- In: the idle ring. -/
theorem ring_in : (iprop(bigSep Finset.univ (fun k : Fin 24 => semVal ((c : Thread nD τ), SemLoc.dma (cell k)) 0) ∗ (∃ g : Buf (Elt F) (ringLoc c), ringLoc c ↦{fullShare} g)
      ∗ (kM.view.loc (c : Thread nD τ) ↦{fullShare} fk) ∗ (vM.view.loc (c : Thread nD τ) ↦{fullShare} fv)) : sProp 𝕄)
    ⊢ iprop(bigSep Finset.univ (fun k : Fin 24 => idle c fk fv k) ∗ poolRest c fk fv) := by
  rw [idle_parts]
  unfold poolRest
  iintro ⟨HS, HR, HK, HV⟩
  ihave HR := (ring_split (F := F) c) $$ HR
  ihave HK := (pool_toks c kM fk).1 $$ HK
  ihave HV := (pool_toks c vM fv).1 $$ HV
  icases HK with ⟨HK, HKT⟩
  icases HV with ⟨HV, HVT⟩
  isplitl [HS HR HKT HVT]
  · isplitl [HS]; · iexact HS
    isplitl [HR]; · iexact HR
    isplitl [HKT]; · iexact HKT
    iexact HVT
  · isplitl [HK]; · iexact HK
    iexact HV

/-- Out: the launch's resources back. -/
theorem ring_out : (iprop(bigSep Finset.univ (fun k : Fin 24 => idle c fk fv k) ∗ poolRest c fk fv) : sProp 𝕄)
    ⊢ iprop(bigSep Finset.univ (fun k : Fin 24 => semVal ((c : Thread nD τ), SemLoc.dma (cell k)) 0) ∗ (∃ g : Buf (Elt F) (ringLoc c), ringLoc c ↦{fullShare} g)
      ∗ (kM.view.loc (c : Thread nD τ) ↦{fullShare} fk) ∗ (vM.view.loc (c : Thread nD τ) ↦{fullShare} fv)) := by
  rw [idle_parts]
  unfold poolRest
  iintro ⟨⟨HS, HR, HKT, HVT⟩, HK, HV⟩
  isplitl [HS]; · iexact HS
  isplitl [HR]
  · iapply (Ring.pointsTo_blocks_join_exists (fun k : Fin 24 => kset k.val) (fun k k' h => kset_disjoint k k' h) kset_cover (blockBuf (fun _ => 0) 0 fk))
    iexact HR
  isplitl [HK HKT]
  · iapply (pool_toks c kM fk).2
    isplitl [HK]; · iexact HK
    iexact HKT
  · iapply (pool_toks c vM fv).2
    isplitl [HV]; · iexact HV
    iexact HVT

end Cert.Kernel.Hand

end
-- ==== Proof.K.Step.lean ====
/-
  The wait for a step's 16 copies, and the loads and stores of the step, each as a rule for a program that goes on.
-/
module

public import proofs.«01_k».proof.Proof.K.Ring

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {c : Dev nD}

/-- What the body owes, at any set of waits. -/
def owing (c : Dev nD) : sProp 𝕄 := iprop(∃ Ws : Waits sig Unit, owes (c : Thread nD τ) 0 Ws)

/-- The units of a whole slot are its 16 pages' units. -/
theorem slot_units : sig.dmaCredit .tc (Kind.table .tc .vmem) (pageDst ![0, 0, 0, 0, 0] (by decide)).view.buf S16x2x128x128 .fp8e4m3 = pageUnits * 16 := by
  decide

theorem lift_op {β α : Type} {e : TpuEff nD τ sig (Elt F) Λ₀ .tc β} {K : β → Prog (TpuEff nD τ sig (Elt F) Λ₀ .tc) α} {Q : α → sProp 𝕄} {P : sProp 𝕄}
    (h : P ⊢ W c (.op e K) Q) : P ⊢ W c (Prog.lift e >>= K) Q := h

/-- The one wait of a slot: the step has landed, and the slot's semaphore and shares are back. -/
theorem wait_slot {α : Type} {M : Memref sig .tc .hbm S1024x2x128x128 .fp8e4m3} {f : Buf (Elt F) (M.view.loc (c : Thread nD τ))} {k : Fin 24} {G : RingBuf (F := F)}
    {oD : Fin 1 → ℕ} {iD} (hD : oD = ![k.val]) {sp sp' : Space} {s' s : Shape} {e' e : EltTy}
    {srcw : Memref sig .tc sp' s' e'} {dstw : Memref sig .tc sp s e} {hsrc hdst} (hJ : dstw.view.dmaCredit = pageUnits * 16)
    {K : PUnit → Prog (TpuEff nD τ sig (Elt F) Λ₀ .tc) α} {Q : α → sProp 𝕄} {R : sProp 𝕄}
    (hk : iprop(semVal ((c : Thread nD τ), SemLoc.dma (cell k)) 0 ∗ (ringLoc c ↦[kset k.val]{fullShare} G) ∗ toks c M f k.val ∗ owing c ∗ R) ⊢ W c (K ⟨⟩) Q) :
    iprop(issuing c M f k G 16 ∗ owing c ∗ R) ⊢ W c (Prog.lift (.waitDma2 (semAt oD iD) srcw dstw hsrc hdst) >>= K) Q := by
  subst hD
  refine lift_op ?_
  unfold issuing owing
  iintro ⟨⟨HB, -⟩, ⟨%Ws, HW⟩, HR⟩
  iapply (Transfers.wp_waitBatchAll EC Variants.none (c : Thread nD τ) none () hJ (by decide) (u := 0) (N := pageUnits) (by rw [Nat.zero_add])) $$ [HB HW]
  · isplitl [HB]; · iexact HB
    iexact HW
  iintro ⟨HD, Hs, HW⟩
  ihave HD := (landed_of_done c M f k.val G) $$ HD
  icases HD with ⟨Hr, Ht⟩
  iapply hk
  isplitl [Hs]; · iexact Hs
  isplitl [Hr]; · iexact Hr
  isplitl [Ht]; · iexact Ht
  isplitl [HW]
  · unfold owing; iexists _; iexact HW
  iexact HR

/-- The block of 16 pages `tab (b + 0), …, tab (b + 15)` of a pool, as a load of its slot reads it. -/
def blkVec (tab : ℕ → BitVec 32) (b : ℕ) (pool : PoolBuf (F := F)) : Vec F S1x16x2x128x128 .fp8e4m3 :=
  fun i => pool (ix4 (n0 := 1024) (n1 := 2) (n2 := 128) (n3 := 128) (Fin.ofNat 1024 (tab (b + (i 1).val)).toNat) (i 2) (i 3) (i 4))

/-- The load of a landed slot. -/
theorem load_slot {α : Type} {k : ℕ} {tab : ℕ → BitVec 32} {b : ℕ} {pool : PoolBuf (F := F)}
    {o : Fin 5 → ℕ} {i} (ho : o = ![k, 0, 0, 0, 0]) {hl}
    {K : Vec F S1x16x2x128x128 .fp8e4m3 → Prog (TpuEff nD τ sig (Elt F) Λ₀ .tc) α} {Q : α → sProp 𝕄} {R : sProp 𝕄}
    (hk : iprop((ringLoc c ↦[kset k]{fullShare} (blockBuf tab b pool)) ∗ R) ⊢ W c (K (blkVec tab b pool)) Q) :
    iprop((ringLoc c ↦[kset k]{fullShare} (blockBuf tab b pool)) ∗ R)
      ⊢ W c (Prog.lift (.load ringM (Rect.unit (s := S24x16x2x128x128) o S1x16x2x128x128.size i).toLoadRect hl) >>= K) Q := by
  subst ho
  have hv : ringM.view.readAt (Elt F) (Rect.unit (s := S24x16x2x128x128) ![k, 0, 0, 0, 0] S1x16x2x128x128.size i).toLoadRect (blockBuf tab b pool) = blkVec tab b pool := by
    funext x
    show blockBuf tab b pool ((Rect.unit (s := S24x16x2x128x128) ![k, 0, 0, 0, 0] S1x16x2x128x128.size i).emb x) = _
    have e : ∀ a : Fin 5, 1 ≤ a.val → ((Rect.unit (s := S24x16x2x128x128) ![k, 0, 0, 0, 0] S1x16x2x128x128.size i).emb x a).val = (x a).val := by
      intro a ha
      match a with
      | ⟨1, _⟩ => exact (Nat.zero_add _).trans (Nat.one_mul _)
      | ⟨2, _⟩ => exact (Nat.zero_add _).trans (Nat.one_mul _)
      | ⟨3, _⟩ => exact (Nat.zero_add _).trans (Nat.one_mul _)
      | ⟨4, _⟩ => exact (Nat.zero_add _).trans (Nat.one_mul _)
    unfold blockBuf blkVec
    congr 1
    funext a
    apply Fin.ext
    match a with
    | ⟨0, _⟩ => exact congrArg (fun n => (tab (b + n)).toNat % 1024) (e 1 (by decide))
    | ⟨1, _⟩ => exact e 2 (by decide)
    | ⟨2, _⟩ => exact e 3 (by decide)
    | ⟨3, _⟩ => exact e 4 (by decide)
  have hS : ringM.view.setOn (Rect.unit (s := S24x16x2x128x128) ![k, 0, 0, 0, 0] S1x16x2x128x128.size i).toLoadRect.set ⊆ kset k := by
    intro j hj
    obtain ⟨j', hj', rfl⟩ := Finset.mem_map.mp hj
    have hj' := (Rect.mem_set_unit.mp hj') 0
    have : k ≤ (j' 0).val ∧ (j' 0).val < k + 1 := hj'
    exact Finset.mem_filter.mpr ⟨Finset.mem_univ _, show (j' 0).val = k by omega⟩
  rw [← hv] at hk
  refine lift_op ?_
  iintro ⟨Hr, HR⟩
  iapply (wp_load Variants.none (c : Thread nD τ) none Set.univ hS) $$ [Hr]
  · iexact Hr
  iintro Hr
  iapply hk
  isplitl [Hr]; · iexact Hr
  iexact HR

end Cert.Kernel.Hand

end
-- ==== Proof.K.Window.lean ====
/-
  Loads and stores of a whole window, as rules for a program that goes on.
-/
module

public import proofs.«01_k».proof.Proof.K.Step

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {c : Dev nD}

/-- A box of a shape's own size at zero offsets sends each place to itself. -/
theorem unit_emb {s : Shape} {o : Fin s.rank → ℕ} (ho : ∀ a, o a = 0) {i} (x : s.Idx) : (Rect.unit (s := s) o s.size i).emb x = x := by
  funext a
  apply Fin.ext
  show o a + 1 * (x a).val = (x a).val
  rw [ho a]; omega

/-- The load of a whole window. -/
theorem own_load {α : Type} {s : Shape} {e : EltTy} {m : Memref sig .tc .vmem s e} {q : PosShare TreeShare} {X : s.Idx → Elt F e} {o : Fin s.rank → ℕ} (ho : ∀ a, o a = 0) {i hl}
    {K : (s.Idx → Elt F e) → Prog (TpuEff nD τ sig (Elt F) Λ₀ .tc) α} {Q : α → sProp 𝕄} :
    iprop(owns (c : Thread nD τ) m q X ∗ (owns (c : Thread nD τ) m q X -∗ W c (K X) Q))
      ⊢ W c (Prog.lift (.load m (Rect.unit (s := s) o s.size i).toLoadRect hl) >>= K) Q := by
  refine lift_op ?_
  unfold owns
  iintro ⟨⟨%f, %hf, Hf⟩, HK⟩
  have hv : m.view.readAt (Elt F) (Rect.unit (s := s) o s.size i).toLoadRect f = X := by
    funext x
    show m.view.read (Elt F) f ((Rect.unit (s := s) o s.size i).emb x) = X x
    rw [unit_emb ho, hf]
  iapply (wp_load Variants.none (c : Thread nD τ) none Set.univ (View.setOn_subset_set _ _)) $$ [Hf]
  · iexact Hf
  iintro Hf
  rw [hv]
  iapply HK
  iexists f
  isplitr; · ipureintro; exact hf
  iexact Hf

/-- The store of a whole window. -/
theorem own_store {α : Type} {s : Shape} {e : EltTy} {m : Memref sig .tc .vmem s e} {X w : s.Idx → Elt F e} {o : Fin s.rank → ℕ} (ho : ∀ a, o a = 0) {i hx hm}
    {K : PUnit → Prog (TpuEff nD τ sig (Elt F) Λ₀ .tc) α} {Q : α → sProp 𝕄} :
    iprop(owns (c : Thread nD τ) m fullShare X ∗ (owns (c : Thread nD τ) m fullShare w -∗ W c (K ⟨⟩) Q))
      ⊢ W c (Prog.lift (.store m (Rect.unit (s := s) o s.size i) w Finset.univ hx hm) >>= K) Q := by
  refine lift_op ?_
  unfold owns
  iintro ⟨⟨%f, %hf, Hf⟩, HK⟩
  iapply (wp_store Variants.none (c : Thread nD τ) none Set.univ ((View.setOn_subset_set _ _).trans (View.set_slice_subset _ _))) $$ [Hf]
  · iexact Hf
  iintro Hf
  iapply HK
  iexists _
  isplitr; swap; · iexact Hf
  ipureintro
  funext x
  have hy := congrFun (View.read_write_univ (v := m.access (Rect.unit (s := s) o s.size i)) (Val := Elt F) f w) x
  exact (congrArg (m.view.read (Elt F) _) (unit_emb ho x).symm).trans hy

/-- The load of one word of a scalar window. -/
theorem own_smem {α : Type} {s : Shape} {e : EltTy} {m : Memref sig .tc .smem s e} {q : PosShare TreeShare} {X : s.Idx → Elt F e} {o : Fin s.rank → ℕ} {sz : Fin s.rank → ℕ} {i h1 hp}
    {x : s.Idx} (hx : ∀ a, (x a).val = o a)
    {K : Elt F e → Prog (TpuEff nD τ sig (Elt F) Λ₀ .tc) α} {Q : α → sProp 𝕄} :
    iprop(owns (c : Thread nD τ) m q X ∗ (owns (c : Thread nD τ) m q X -∗ W c (K (X x)) Q))
      ⊢ W c (smemLoad m (Rect.unit (s := s) o sz i) h1 hp >>= K) Q := by
  show _ ⊢ W c (smemLoadElt m _ (View.loads_smem_one hp h1) _ (fun x => Prog.ret x >>= K)) Q
  unfold owns
  iintro ⟨⟨%f, %hf, Hf⟩, HK⟩
  have hv : (m.access (Rect.unit (s := s) o sz i)).read (Elt F) f (Shape.Idx.first (h1.symm ▸ Nat.one_pos)) = X x := by
    rw [← hf]
    show m.view.read (Elt F) f ((Rect.unit (s := s) o sz i).emb _) = _
    congr 1
    funext a
    apply Fin.ext
    show o a + 1 * 0 = (x a).val
    rw [hx a]; omega
  iapply (wp_smemLoadElt Variants.none (c : Thread nD τ) none Set.univ (View.set_slice_subset _ _)) $$ [Hf]
  · iexact Hf
  iintro Hf
  rw [Prog.bind_ret, hv]
  iapply HK
  iexists f
  isplitr; · ipureintro; exact hf
  iexact Hf

end Cert.Kernel.Hand

end
-- ==== Proof.K.Scores.lean ====
/-
  The scores buffer, block by block, and a slot taken from one step to the step 24 later.
-/
module

public import proofs.«01_k».proof.Proof.K.Step

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {c : Dev nD}

/-! ## A slot between its steps -/

variable (fk : Buf (Elt F) (kM.view.loc (c : Thread nD τ))) (fv : Buf (Elt F) (vM.view.loc (c : Thread nD τ)))

theorem slotOf_add (s : ℕ) : slotOf s = slotOf (s + 24) := Fin.ext (by show s % 24 = (s + 24) % 24; omega)

/-- A landed K step leaves an idle slot for the step 24 later. -/
theorem idle_of_K (s : ℕ) (G : RingBuf (F := F)) :
    (iprop(semVal ((c : Thread nD τ), SemLoc.dma (cell (slotOf s))) 0 ∗ (ringLoc c ↦[kset (slotOf s).val]{fullShare} G) ∗ toks c kM fk (slotOf s).val ∗ toks c vM fv (s % 24)) : sProp 𝕄)
      ⊢ idle c fk fv (slotOf (s + 24)) := by
  rw [← slotOf_add]
  unfold idle
  iintro ⟨Hs, Hr, Hk, Hv⟩
  isplitl [Hs]; · iexact Hs
  isplitl [Hr]; · iexists G; iexact Hr
  isplitl [Hk]; · iexact Hk
  iexact Hv

/-- A landed V step leaves an idle slot for the step 24 later. -/
theorem idle_of_V (s : ℕ) (G : RingBuf (F := F)) :
    (iprop(semVal ((c : Thread nD τ), SemLoc.dma (cell (slotOf s))) 0 ∗ (ringLoc c ↦[kset (slotOf s).val]{fullShare} G) ∗ toks c vM fv (slotOf s).val ∗ toks c kM fk (s % 24)) : sProp 𝕄)
      ⊢ idle c fk fv (slotOf (s + 24)) := by
  rw [← slotOf_add]
  unfold idle
  iintro ⟨Hs, Hr, Hv, Hk⟩
  isplitl [Hs]; · iexact Hs
  isplitl [Hr]; · iexists G; iexact Hr
  isplitl [Hk]; · iexact Hk
  iexact Hv

/-- An idle slot starts a K step. -/
theorem start_K (s : ℕ) (G : RingBuf (F := F)) :
    (idle c fk fv (slotOf s) : sProp 𝕄) ⊢ |={Set.univ}[frame]=> iprop(issuing c kM fk (slotOf s) G 0 ∗ toks c vM fv (s % 24)) := by
  unfold idle
  iintro ⟨Hs, Hr, Hk, Hv⟩
  imod (start c kM fk (slotOf s) G) $$ [Hs Hr Hk] with HI
  · isplitl [Hs]; · iexact Hs
    isplitl [Hr]; · iexact Hr
    iexact Hk
  imodintro
  isplitl [HI]; · iexact HI
  iexact Hv

/-- An idle slot starts a V step. -/
theorem start_V (s : ℕ) (G : RingBuf (F := F)) :
    (idle c fk fv (slotOf s) : sProp 𝕄) ⊢ |={Set.univ}[frame]=> iprop(issuing c vM fv (slotOf s) G 0 ∗ toks c kM fk (s % 24)) := by
  unfold idle
  iintro ⟨Hs, Hr, Hk, Hv⟩
  imod (start c vM fv (slotOf s) G) $$ [Hs Hr Hv] with HI
  · isplitl [Hs]; · iexact Hs
    isplitl [Hr]; · iexact Hr
    iexact Hv
  imodintro
  isplitl [HI]; · iexact HI
  iexact Hk

/-! ## The scores buffer -/

/-- The contents of the scores buffer. -/
abbrev ScoreBuf : Type := (⟨S16x131072, .f32⟩ : BufTy).Contents (Elt F)
/-- The scores buffer's location on the core. -/
abbrev scoreLoc (c : Dev nD) : Loc nD τ sig := (c : Thread nD τ).loc cc0_scratch1

/-- Element `i` of the scores buffer, by its block and its place in the block. -/
def scoreAt (blk : ℕ → FVec F S16x2048 .f32) (i : S16x131072.Idx) : F .f32 :=
  blk ((i 1).val / 2048) (ix2 (n0 := 16) (n1 := 2048) (i 0) ⟨(i 1).val % 2048, Nat.mod_lt _ (by decide)⟩)

/-- The scores buffer with its first `n` blocks written. -/
def scoresTo (c : Dev nD) (blk : ℕ → FVec F S16x2048 .f32) (n : ℕ) : sProp 𝕄 :=
  iprop(∃ f : Buf (Elt F) (scoreLoc c), (scoreLoc c ↦{fullShare} f) ∗ ⌜∀ i : S16x131072.Idx, (i 1).val < 2048 * n → f i = scoreAt blk i⌝)

theorem score_emb {n : ℕ} {i} (y : S16x2048.Idx) :
    (∀ h, (Rect.unit (s := S16x131072) ![0, 2048 * n] S16x2048.size i).emb y 0 = ⟨(y 0).val, h⟩) ∧ ((Rect.unit (s := S16x131072) ![0, 2048 * n] S16x2048.size i).emb y 1).val = 2048 * n + (y 1).val :=
  ⟨fun h => Fin.ext ((Nat.zero_add _).trans (Nat.one_mul _)), congrArg (2048 * n + ·) (Nat.one_mul _)⟩

theorem scoreAt_emb (blk : ℕ → FVec F S16x2048 .f32) {n : ℕ} {i} (y : S16x2048.Idx) :
    scoreAt blk ((Rect.unit (s := S16x131072) ![0, 2048 * n] S16x2048.size i).emb y) = blk n y := by
  unfold scoreAt
  have h1 := (score_emb (n := n) (i := i) y).2
  have hy : (y 1).val < 2048 := (y 1).isLt
  rw [show ((Rect.unit (s := S16x131072) ![0, 2048 * n] S16x2048.size i).emb y 1).val / 2048 = n by rw [h1]; omega]
  congr 1
  funext a
  apply Fin.ext
  match a with
  | ⟨0, _⟩ => exact (Nat.zero_add _).trans (Nat.one_mul _)
  | ⟨1, _⟩ => exact (congrArg (· % 2048) h1).trans (show (2048 * n + (y 1).val) % 2048 = (y 1).val by omega)

/-- A load from the scores buffer whose value nothing reads. -/
theorem score_peek {α : Type} {blk : ℕ → FVec F S16x2048 .f32} {n : ℕ} {r : LoadRect S16x131072} {hl}
    {K : (r.shape.Idx → Elt F .f32) → Prog (TpuEff nD τ sig (Elt F) Λ₀ .tc) α} {Q : α → sProp 𝕄} {R : sProp 𝕄}
    (hk : ∀ v, iprop(scoresTo c blk n ∗ R) ⊢ W c (K v) Q) :
    iprop(scoresTo c blk n ∗ R) ⊢ W c (Prog.lift (.load scoreM r hl) >>= K) Q := by
  refine lift_op ?_
  unfold scoresTo
  iintro ⟨⟨%f, Hf, %hf⟩, HR⟩
  iapply (wp_load Variants.none (c : Thread nD τ) none Set.univ (Finset.subset_univ _)) $$ [Hf]
  · iexact Hf
  iintro Hf
  iapply (hk _)
  isplitl [Hf]
  · unfold scoresTo; iexists f; isplitl [Hf]; · iexact Hf
    ipureintro; exact hf
  iexact HR

/-- The store of block `n`. -/
theorem score_store {α : Type} {blk : ℕ → FVec F S16x2048 .f32} {n : ℕ} {o : Fin 2 → ℕ} {i} (ho : o = ![0, 2048 * n]) {w : FVec F S16x2048 .f32} (hw : w = blk n) {hx hm}
    {K : PUnit → Prog (TpuEff nD τ sig (Elt F) Λ₀ .tc) α} {Q : α → sProp 𝕄} {R : sProp 𝕄}
    (hk : iprop(scoresTo c blk (n + 1) ∗ R) ⊢ W c (K ⟨⟩) Q) :
    iprop(scoresTo c blk n ∗ R) ⊢ W c (Prog.lift (.store scoreM (Rect.unit (s := S16x131072) o S16x2048.size i) w Finset.univ hx hm) >>= K) Q := by
  subst ho; subst hw
  refine lift_op ?_
  unfold scoresTo
  iintro ⟨⟨%f, Hf, %hf⟩, HR⟩
  iapply (wp_store Variants.none (c : Thread nD τ) none Set.univ (Finset.subset_univ _)) $$ [Hf]
  · iexact Hf
  iintro Hf
  iapply hk
  isplitl [Hf]
  · unfold scoresTo
    iexists _
    isplitl [Hf]; · iexact Hf
    ipureintro
    intro j hj
    by_cases hc : (j 1).val < 2048 * n
    · rw [View.write_of_not_mem, hf j hc]
      intro hm
      obtain ⟨y, -, hy⟩ := Finset.mem_map.mp hm
      have h1 := (score_emb (n := n) (i := i) y).2
      have : (j 1).val = 2048 * n + (y 1).val := by rw [← h1]; exact congrArg (fun z : S16x131072.Idx => (z 1).val) hy.symm
      omega
    · have hj0 : (j 1).val - 2048 * n < 2048 := by omega
      have hy : (Rect.unit (s := S16x131072) ![0, 2048 * n] S16x2048.size i).emb (ix2 (n0 := 16) (n1 := 2048) (j 0) ⟨(j 1).val - 2048 * n, hj0⟩) = j := by
        funext a
        apply Fin.ext
        match a with
        | ⟨0, _⟩ => exact (Nat.zero_add _).trans (Nat.one_mul _)
        | ⟨1, _⟩ => show 2048 * n + 1 * ((j 1).val - 2048 * n) = (j 1).val; omega
      rw [← hy, scoreAt_emb]
      exact View.write_emb_of_mem _ _ (Finset.mem_univ _)
  iexact HR

/-- The load of block `n`, written before. -/
theorem score_load {α : Type} {blk : ℕ → FVec F S16x2048 .f32} {m n : ℕ} (hn : n < m) {o : Fin 2 → ℕ} {i} (ho : o = ![0, 2048 * n]) {hl}
    {K : FVec F S16x2048 .f32 → Prog (TpuEff nD τ sig (Elt F) Λ₀ .tc) α} {Q : α → sProp 𝕄} {R : sProp 𝕄}
    (hk : iprop(scoresTo c blk m ∗ R) ⊢ W c (K (blk n)) Q) :
    iprop(scoresTo c blk m ∗ R) ⊢ W c (Prog.lift (.load (e := .f32) scoreM (Rect.unit (s := S16x131072) o S16x2048.size i).toLoadRect hl) >>= K) Q := by
  subst ho
  refine lift_op ?_
  unfold scoresTo
  iintro ⟨⟨%f, Hf, %hf⟩, HR⟩
  have hv : scoreM.view.readAt (Elt F) (Rect.unit (s := S16x131072) ![0, 2048 * n] S16x2048.size i).toLoadRect f = blk n := by
    funext y
    show f ((Rect.unit (s := S16x131072) ![0, 2048 * n] S16x2048.size i).emb y) = _
    rw [hf _ (by rw [(score_emb (n := n) (i := i) y).2]; have : (y 1).val < 2048 := (y 1).isLt; omega), scoreAt_emb]
  rw [← hv] at hk
  iapply (wp_load Variants.none (c : Thread nD τ) none Set.univ (Finset.subset_univ _)) $$ [Hf]
  · iexact Hf
  iintro Hf
  iapply hk
  isplitl [Hf]
  · unfold scoresTo; iexists f; isplitl [Hf]; · iexact Hf
    ipureintro; exact hf
  iexact HR

end Cert.Kernel.Hand

end
-- ==== Proof.K.Head.lean ====
/-
  The start of a trip: the wait for the trip's step, the load of its block, and the slot's return to idle.
-/
module

public import proofs.«01_k».proof.Proof.K.Scores

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {c : Dev nD} {tab : ℕ → BitVec 32}
  {fk : Buf (Elt F) (kM.view.loc (c : Thread nD τ))} {fv : Buf (Elt F) (vM.view.loc (c : Thread nD τ))} {kpool vpool : PoolBuf (F := F)}

/-- A trip of the scores loop starts: step `s`, a K block, has landed and is loaded. -/
theorem head_K {α : Type} {n s : ℕ} (hs : s < n) {oD : Fin 1 → ℕ} {iD} (hD : oD = ![s % 24]) {sp sp' : Space} {s1 s2 : Shape} {e1 e2 : EltTy}
    {srcw : Memref sig .tc sp' s1 e1} {dstw : Memref sig .tc sp s2 e2} {hsrc hdst} (hJ : dstw.view.dmaCredit = pageUnits * 16)
    {o : Fin 5 → ℕ} {i} (ho : o = ![s % 24, 0, 0, 0, 0]) {hl}
    {K : Vec F S1x16x2x128x128 .fp8e4m3 → Prog (TpuEff nD τ sig (Elt F) Λ₀ .tc) α} {Q : α → sProp 𝕄} {R : sProp 𝕄}
    (hk : iprop(idle c fk fv (slotOf (s + 24)) ∗ ringRest c fk fv tab kpool vpool n s ∗ owing c ∗ R) ⊢ W c (K (blkVec tab (16 * s) kpool)) Q) :
    iprop(ring c fk fv tab kpool vpool n s ∗ owing c ∗ R) ⊢ W c (Prog.lift (.waitDma2 (semAt oD iD) srcw dstw hsrc hdst) >>= fun _ =>
      Prog.lift (.load (e := .fp8e4m3) ringM (Rect.unit (s := S24x16x2x128x128) o S1x16x2x128x128.size i).toLoadRect hl) >>= K) Q := by
  rw [ring_focus, slotSt_K c fk fv tab kpool vpool n hs]
  refine (show _ ⊢ iprop(issuing c kM fk (slotOf s) (blockBuf tab (16 * s) kpool) 16 ∗ owing c ∗ (toks c vM fv (s % 24) ∗ ringRest c fk fv tab kpool vpool n s ∗ R)) from ?_).trans ?_
  · iintro ⟨⟨⟨HI, Hv⟩, HG⟩, HO, HR⟩
    isplitl [HI]; · iexact HI
    isplitl [HO]; · iexact HO
    isplitl [Hv]; · iexact Hv
    isplitl [HG]; · iexact HG
    iexact HR
  refine wait_slot (k := slotOf s) hD hJ ?_
  refine (show _ ⊢ iprop((ringLoc c ↦[kset (slotOf s).val]{fullShare} (blockBuf tab (16 * s) kpool)) ∗ (semVal ((c : Thread nD τ), SemLoc.dma (cell (slotOf s))) 0 ∗ toks c kM fk (slotOf s).val ∗ toks c vM fv (s % 24)) ∗ ringRest c fk fv tab kpool vpool n s ∗ owing c ∗ R) from ?_).trans ?_
  · iintro ⟨Hs, Hr, Hk, HO, Hv, HG, HR⟩
    isplitl [Hr]; · iexact Hr
    isplitl [Hs Hk Hv]
    · isplitl [Hs]; · iexact Hs
      isplitl [Hk]; · iexact Hk
      iexact Hv
    isplitl [HG]; · iexact HG
    isplitl [HO]; · iexact HO
    iexact HR
  refine load_slot (k := (slotOf s).val) ho ?_
  refine (show _ ⊢ iprop(idle c fk fv (slotOf (s + 24)) ∗ ringRest c fk fv tab kpool vpool n s ∗ owing c ∗ R) from ?_).trans hk
  iintro ⟨Hr, ⟨Hs, Hk, Hv⟩, HR⟩
  isplitr [HR]
  · iapply (idle_of_K fk fv s _)
    isplitl [Hs]; · iexact Hs
    isplitl [Hr]; · iexact Hr
    isplitl [Hk]; · iexact Hk
    iexact Hv
  iexact HR

/-- A trip of the values loop starts: step `n + x`, V block `x`, has landed, and its scores and itself are loaded. -/
theorem head_V {α : Type} {n x : ℕ} (hx : x < n) {oD : Fin 1 → ℕ} {iD} (hD : oD = ![(n + x) % 24]) {sp sp' : Space} {s1 s2 : Shape} {e1 e2 : EltTy}
    {srcw : Memref sig .tc sp' s1 e1} {dstw : Memref sig .tc sp s2 e2} {hsrc hdst} (hJ : dstw.view.dmaCredit = pageUnits * 16)
    {blk : ℕ → FVec F S16x2048 .f32} {oS : Fin 2 → ℕ} {iS} (hoS : oS = ![0, 2048 * x]) {hlS}
    {o : Fin 5 → ℕ} {i} (ho : o = ![(n + x) % 24, 0, 0, 0, 0]) {hl}
    {K : FVec F S16x2048 .f32 → Vec F S1x16x2x128x128 .fp8e4m3 → Prog (TpuEff nD τ sig (Elt F) Λ₀ .tc) α} {Q : α → sProp 𝕄} {R : sProp 𝕄}
    (hk : iprop(idle c fk fv (slotOf (n + x + 24)) ∗ ringRest c fk fv tab kpool vpool n (n + x) ∗ owing c ∗ scoresTo c blk n ∗ R)
      ⊢ W c (K (blk x) (blkVec tab (16 * x) vpool)) Q) :
    iprop(ring c fk fv tab kpool vpool n (n + x) ∗ owing c ∗ scoresTo c blk n ∗ R) ⊢ W c (Prog.lift (.waitDma2 (semAt oD iD) srcw dstw hsrc hdst) >>= fun _ =>
      Prog.lift (.load (e := .f32) scoreM (Rect.unit (s := S16x131072) oS S16x2048.size iS).toLoadRect hlS) >>= fun v : FVec F S16x2048 .f32 =>
      Prog.lift (.load (e := .fp8e4m3) ringM (Rect.unit (s := S24x16x2x128x128) o S1x16x2x128x128.size i).toLoadRect hl) >>= K v) Q := by
  rw [ring_focus, slotSt_V c fk fv tab kpool vpool n (show n ≤ n + x by omega) (by omega), show n + x - n = x by omega]
  refine (show _ ⊢ iprop(issuing c vM fv (slotOf (n + x)) (blockBuf tab (16 * x) vpool) 16 ∗ owing c ∗ (toks c kM fk ((n + x) % 24) ∗ ringRest c fk fv tab kpool vpool n (n + x) ∗ scoresTo c blk n ∗ R)) from ?_).trans ?_
  · iintro ⟨⟨⟨HI, Hv⟩, HG⟩, HO, HS, HR⟩
    isplitl [HI]; · iexact HI
    isplitl [HO]; · iexact HO
    isplitl [Hv]; · iexact Hv
    isplitl [HG]; · iexact HG
    isplitl [HS]; · iexact HS
    iexact HR
  refine wait_slot (k := slotOf (n + x)) hD hJ ?_
  refine (show _ ⊢ iprop(scoresTo c blk n ∗ ((ringLoc c ↦[kset (slotOf (n + x)).val]{fullShare} (blockBuf tab (16 * x) vpool)) ∗ (semVal ((c : Thread nD τ), SemLoc.dma (cell (slotOf (n + x)))) 0 ∗ toks c vM fv (slotOf (n + x)).val ∗ toks c kM fk ((n + x) % 24)) ∗ ringRest c fk fv tab kpool vpool n (n + x) ∗ owing c ∗ R)) from ?_).trans ?_
  · iintro ⟨Hs, Hr, Hk, HO, Hv, HG, HS, HR⟩
    isplitl [HS]; · iexact HS
    isplitl [Hr]; · iexact Hr
    isplitl [Hs Hk Hv]
    · isplitl [Hs]; · iexact Hs
      isplitl [Hk]; · iexact Hk
      iexact Hv
    isplitl [HG]; · iexact HG
    isplitl [HO]; · iexact HO
    iexact HR
  refine score_load hx hoS ?_
  refine (show _ ⊢ iprop((ringLoc c ↦[kset (slotOf (n + x)).val]{fullShare} (blockBuf tab (16 * x) vpool)) ∗ (semVal ((c : Thread nD τ), SemLoc.dma (cell (slotOf (n + x)))) 0 ∗ toks c vM fv (slotOf (n + x)).val ∗ toks c kM fk ((n + x) % 24)) ∗ ringRest c fk fv tab kpool vpool n (n + x) ∗ owing c ∗ scoresTo c blk n ∗ R) from ?_).trans ?_
  · iintro ⟨HS, Hr, H, HG, HO, HR⟩
    isplitl [Hr]; · iexact Hr
    isplitl [H]; · iexact H
    isplitl [HG]; · iexact HG
    isplitl [HO]; · iexact HO
    isplitl [HS]; · iexact HS
    iexact HR
  refine load_slot (k := (slotOf (n + x)).val) ho ?_
  refine (show _ ⊢ iprop(idle c fk fv (slotOf (n + x + 24)) ∗ ringRest c fk fv tab kpool vpool n (n + x) ∗ owing c ∗ scoresTo c blk n ∗ R) from ?_).trans hk
  iintro ⟨Hr, ⟨Hs, Hk, Hv⟩, HR⟩
  isplitr [HR]
  · iapply (idle_of_V fk fv (n + x) _)
    isplitl [Hs]; · iexact Hs
    isplitl [Hr]; · iexact Hr
    isplitl [Hk]; · iexact Hk
    iexact Hv
  iexact HR

end Cert.Kernel.Hand

end
-- ==== Proof.K.T2.lean ====
/-
  One trip of the scores loop: trip `t` waits for step `t`, a K block, computes and stores its scores, folds their
  maximum, and issues step `t + 24`.
-/
module

public import proofs.«01_k».proof.Proof.K.Head
public import Idealize.ShloMosaic.Lib.Pointwise.Reshape

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

/-- The scores of K block `k`: the scaled products, masked past the sequence's length. -/
def scoreBlk (v0 : BitVec 32) (v73 : FVec F S16x256 .bf16) (v83 : FVec F S16x1 .f32) (tab : ℕ → BitVec 32) (kpool : PoolBuf (F := F)) (k : ℕ) : FVec F S16x2048 .f32 :=
  if h : k < (k0_t2_loop v0).trips then k0_pay24 (k0_pay4 v73 v83 (blkVec tab (16 * k) kpool)) (k0_pay5 (F := F) v0 0#32 1#32 ⟨k, h⟩) k0_pay6 else k0_pay6

theorem scoreBlk_of (v0 : BitVec 32) (v73 : FVec F S16x256 .bf16) (v83 : FVec F S16x1 .f32) (t : Fin (k0_t2_loop v0).trips) :
    scoreBlk v0 v73 v83 tab kpool t.val = k0_pay24 (k0_pay4 v73 v83 (blkVec tab (16 * t.val) kpool)) (k0_pay5 (F := F) v0 0#32 1#32 t) k0_pay6 := dif_pos t.isLt

/-- The end of a trip: the block's scores stored, the maximum handed on. -/
theorem score_finish {blk : ℕ → FVec F S16x2048 .f32} {n : ℕ} {o : Fin 2 → ℕ} {i} (ho : o = ![0, 2048 * n]) {w : FVec F S16x2048 .f32} (hw : w = blk n) {hl hx hm}
    {r : FVec F S16x128 .f32} {A T O : sProp 𝕄} :
    iprop(scoresTo c blk n ∗ A ∗ T ∗ O) ⊢ W c (Prog.lift (.load (e := .f32) scoreM (Rect.unit (s := S16x131072) o S16x2048.size i).toLoadRect hl) >>= fun _ =>
        Prog.lift (.store scoreM (Rect.unit (s := S16x131072) o S16x2048.size i) w Finset.univ hx hm) >>= fun _ => pure r)
      (fun a => iprop(A ∗ T ∗ O ∗ scoresTo c blk (n + 1) ∗ ⌜a = r⌝)) := by
  refine score_peek fun _ => score_store ho hw ?_
  show _ ⊢ iprop(|={Set.univ}[frame]=> (A ∗ T ∗ O ∗ scoresTo c blk (n + 1) ∗ ⌜r = r⌝))
  iintro ⟨HS, HA, HT, HO⟩
  imodintro
  isplitl [HA]; · iexact HA
  isplitl [HT]; · iexact HT
  isplitl [HO]; · iexact HO
  isplitl [HS]; · iexact HS
  ipureintro; rfl

theorem off131_eq (v0 : BitVec 32) (t : Fin (k0_t2_loop v0).trips) : k0_off131 v0 t = ![t.val % 24, 0, 0, 0, 0] := page_off (reads_t2 t) 0

set_option maxHeartbeats 2000000 in
/-- One trip that issues a K block. -/
theorem score_trip_K (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (h3' : t.val + 24 < nb v0) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  have hnb := nb_le v0
  have ht := t2_lt t
  have h3 := (cond3_iff v0 t).mpr h3'
  have h4 : ¬ k0_cond4 v0 t = 1#1 := fun hh => by have := (cond4_iff v0 t).mp hh; omega
  unfold k0_t2_body
  simp only [k0_part21_eq_skeleton, k0_part21_skel, dif_pos h3, dif_neg h4, k0_part11_eq_skeleton, k0_part12_eq_skeleton, k0_part13_eq_skeleton, k0_part14_eq_skeleton, k0_part15_eq_skeleton,
    k0_part11_skel, k0_part12_skel, k0_part13_skel, k0_part14_skel, k0_part15_skel, bind_assoc, pure_bind]
  apply head_K ht (sem_off (reads_t2 t)) slot_units (off131_eq v0 t)
  refine (show _ ⊢ iprop(|={Set.univ}[frame]=> (issuing c kM fk (slotOf (t.val + 24)) (blockBuf tab (16 * (t.val + 24)) kpool) 0 ∗ (arg7.view.loc (c : Thread nD τ) ↦[arg7.view.set]{fullShare} ft) ∗ (toks c vM fv ((t.val + 24) % 24) ∗ ringRest c fk fv tab kpool vpool (nb v0) (t.val) ∗ owing c ∗ scoresTo c (scoreBlk v0 v73 (k0_pay21 v74 v75) tab kpool) t.val))) from ?_).trans ((fupd_mono ?_).trans (fupd_wp _ _ _ _ _))
  · iintro ⟨HI, HR, HO, HT, HS⟩
    imod (start_K fk fv (t.val + 24) _) $$ HI with ⟨HI, Hx⟩
    imodintro
    isplitl [HI]; · iexact HI
    isplitl [HT]; · iexact HT
    isplitl [Hx]; · iexact Hx
    isplitl [HR]; · iexact HR
    isplitl [HO]; · iexact HO
    iexact HS
  iterate 16
    refine site_load htab ?_ (tab_off (reads_n2 t) _ (by omega) ?_) ?_
    iterate 2 omega
    refine site_assume (pool_chk (hlt _ ?_)) ?_
    omega
    refine site_page hM tab hlt ?_ ?_ rfl rfl (page_off (reads_n2 t) _) (sem_off (reads_n2 t)) ?_
    iterate 2 omega
  refine (show _ ⊢ iprop(scoresTo c (scoreBlk v0 v73 (k0_pay21 v74 v75) tab kpool) t.val ∗ ring c fk fv tab kpool vpool (nb v0) (t.val + 1) ∗ (arg7.view.loc (c : Thread nD τ) ↦[arg7.view.set]{fullShare} ft) ∗ owing c) from ?_).trans ?_
  · iintro ⟨HI, HT, Hx, HR, HO, HS⟩
    isplitl [HS]; · iexact HS
    isplitr [HT HO]
    · iapply (Entails.of_eq (ring_advance c fk fv tab kpool vpool (nb v0) (t.val)))
      isplitr [HR]
      · iapply (Entails.of_eq (slotSt_K c fk fv tab kpool vpool (nb v0) h3').symm)
        isplitl [HI]; · iexact HI
        iexact Hx
      iexact HR
    isplitl [HT]; · iexact HT
    iexact HO
  exact score_finish (score_off (reads_t2 t) (by omega)) ((shapeCast_id _ _).trans (scoreBlk_of v0 v73 _ t).symm)

set_option maxHeartbeats 2000000 in
/-- One trip that issues a V block. -/
theorem score_trip_V (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (h3' : nb v0 ≤ t.val + 24) (h4' : t.val + 24 < 2 * nb v0) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  have hnb := nb_le v0
  have ht := t2_lt t
  have h3 : ¬ k0_cond3 v0 t = 1#1 := fun hh => by have := (cond3_iff v0 t).mp hh; omega
  have h4 := (cond4_iff v0 t).mpr ⟨h3', h4'⟩
  unfold k0_t2_body
  simp only [k0_part21_eq_skeleton, k0_part21_skel, dif_neg h3, dif_pos h4, k0_part16_eq_skeleton, k0_part17_eq_skeleton, k0_part18_eq_skeleton, k0_part19_eq_skeleton, k0_part20_eq_skeleton,
    k0_part16_skel, k0_part17_skel, k0_part18_skel, k0_part19_skel, k0_part20_skel, bind_assoc, pure_bind]
  apply head_K ht (sem_off (reads_t2 t)) slot_units (off131_eq v0 t)
  refine (show _ ⊢ iprop(|={Set.univ}[frame]=> (issuing c vM fv (slotOf (t.val + 24)) (blockBuf tab (16 * (t.val + 24 - nb v0)) vpool) 0 ∗ (arg7.view.loc (c : Thread nD τ) ↦[arg7.view.set]{fullShare} ft) ∗ (toks c kM fk ((t.val + 24) % 24) ∗ ringRest c fk fv tab kpool vpool (nb v0) (t.val) ∗ owing c ∗ scoresTo c (scoreBlk v0 v73 (k0_pay21 v74 v75) tab kpool) t.val))) from ?_).trans ((fupd_mono ?_).trans (fupd_wp _ _ _ _ _))
  · iintro ⟨HI, HR, HO, HT, HS⟩
    imod (start_V fk fv (t.val + 24) _) $$ HI with ⟨HI, Hx⟩
    imodintro
    isplitl [HI]; · iexact HI
    isplitl [HT]; · iexact HT
    isplitl [Hx]; · iexact Hx
    isplitl [HR]; · iexact HR
    isplitl [HO]; · iexact HO
    iexact HS
  iterate 16
    refine site_load htab ?_ (tab_off (blkV2 t h4) _ (by omega) ?_) ?_
    iterate 2 omega
    refine site_assume (pool_chk (hlt _ ?_)) ?_
    omega
    refine site_page hM' tab hlt ?_ ?_ rfl rfl (page_off (reads_n2 t) _) (sem_off (reads_n2 t)) ?_
    iterate 2 omega
  refine (show _ ⊢ iprop(scoresTo c (scoreBlk v0 v73 (k0_pay21 v74 v75) tab kpool) t.val ∗ ring c fk fv tab kpool vpool (nb v0) (t.val + 1) ∗ (arg7.view.loc (c : Thread nD τ) ↦[arg7.view.set]{fullShare} ft) ∗ owing c) from ?_).trans ?_
  · iintro ⟨HI, HT, Hx, HR, HO, HS⟩
    isplitl [HS]; · iexact HS
    isplitr [HT HO]
    · iapply (Entails.of_eq (ring_advance c fk fv tab kpool vpool (nb v0) (t.val)))
      isplitr [HR]
      · iapply (Entails.of_eq (slotSt_V c fk fv tab kpool vpool (nb v0) h3' h4').symm)
        isplitl [HI]; · iexact HI
        iexact Hx
      iexact HR
    isplitl [HT]; · iexact HT
    iexact HO
  exact score_finish (score_off (reads_t2 t) (by omega)) ((shapeCast_id _ _).trans (scoreBlk_of v0 v73 _ t).symm)

set_option maxHeartbeats 2000000 in
/-- One trip with no step left to issue. -/
theorem score_trip_none (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (h5 : 2 * nb v0 ≤ t.val + 24) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  have hnb := nb_le v0
  have ht := t2_lt t
  have h3 : ¬ k0_cond3 v0 t = 1#1 := fun hh => by have := (cond3_iff v0 t).mp hh; omega
  have h4 : ¬ k0_cond4 v0 t = 1#1 := fun hh => by have := (cond4_iff v0 t).mp hh; omega
  unfold k0_t2_body
  simp only [k0_part21_eq_skeleton, k0_part21_skel, dif_neg h3, dif_neg h4, bind_assoc, pure_bind]
  apply head_K ht (sem_off (reads_t2 t)) slot_units (off131_eq v0 t)
  refine (show _ ⊢ iprop(scoresTo c (scoreBlk v0 v73 (k0_pay21 v74 v75) tab kpool) t.val ∗ ring c fk fv tab kpool vpool (nb v0) (t.val + 1) ∗ (arg7.view.loc (c : Thread nD τ) ↦[arg7.view.set]{fullShare} ft) ∗ owing c) from ?_).trans ?_
  · iintro ⟨HI, HR, HO, HT, HS⟩
    isplitl [HS]; · iexact HS
    isplitr [HT HO]
    · iapply (Entails.of_eq (ring_advance c fk fv tab kpool vpool (nb v0) (t.val)))
      isplitr [HR]
      · iapply (Entails.of_eq (slotSt_idle c fk fv tab kpool vpool (nb v0) h5).symm)
        iexact HI
      iexact HR
    isplitl [HT]; · iexact HT
    iexact HO
  exact score_finish (score_off (reads_t2 t) (by omega)) ((shapeCast_id _ _).trans (scoreBlk_of v0 v73 _ t).symm)

/-- One trip. -/
theorem score_trip (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  rcases Nat.lt_or_ge (t.val + 24) (nb v0) with h | h
  · exact score_trip_K htab hlt hM hM' v0 hw17 v21 v22 v31 v51 v67 v73 v74 v75 t h acc
  · rcases Nat.lt_or_ge (t.val + 24) (2 * nb v0) with h' | h'
    · exact score_trip_V htab hlt hM hM' v0 hw17 v21 v22 v31 v51 v67 v73 v74 v75 t h h' acc
    · exact score_trip_none htab hlt hM hM' v0 hw17 v21 v22 v31 v51 v67 v73 v74 v75 t h' acc

end Cert.Kernel.Hand

end
-- ==== Proof.K.T4.lean ====
/-
  One trip of the values loop: trip `t` waits for step `nb + t`, V block `t`, weighs its rows by the exponentials of
  its scores, and issues the step 24 later.
-/
module

public import proofs.«01_k».proof.Proof.K.Head

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

theorem off396_eq (v0 : BitVec 32) (t : Fin (k0_t4_loop v0).trips) : k0_off396 v0 t = ![(nb v0 + t.val) % 24, 0, 0, 0, 0] := page_off (reads_s4 t) 0

set_option maxHeartbeats 2000000 in
/-- One trip that issues a V block. -/
theorem value_trip_V (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32) (t : Fin (k0_t4_loop v0).trips) (h8' : nb v0 + t.val + 24 < 2 * nb v0)
    (l : FVec F S16x128 .f32) (a : FVec F S16x256 .f32) :
    iprop(ring c fk fv tab kpool vpool (nb v0) (nb v0 + t.val) ∗ owing c ∗ scoresTo c blk (nb v0) ∗ (arg7.view.loc (c : Thread nD τ) ↦[arg7.view.set]{fullShare} ft))
      ⊢ W c (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32 t (l, a))
          (fun r => iprop(ring c fk fv tab kpool vpool (nb v0) (nb v0 + t.val + 1) ∗ (arg7.view.loc (c : Thread nD τ) ↦[arg7.view.set]{fullShare} ft) ∗ owing c ∗ scoresTo c blk (nb v0)
            ∗ ⌜r = (k0_pay1 l (k0_pay10 v112 (blk t.val)), k0_pay11 v112 a (blk t.val) (blkVec tab (16 * t.val) vpool))⌝)) := by
  have hnb := nb_le v0
  have ht := t4_lt t
  have h7 : ¬ k0_cond7 v0 t = 1#1 := no7 t
  have h8 := (cond8_iff v0 t).mpr ⟨by omega, h8'⟩
  unfold k0_t4_body
  simp only [k0_part43_eq_skeleton, k0_part43_skel, dif_neg h7, dif_pos h8, k0_part38_eq_skeleton, k0_part39_eq_skeleton, k0_part40_eq_skeleton, k0_part41_eq_skeleton, k0_part42_eq_skeleton,
    k0_part38_skel, k0_part39_skel, k0_part40_skel, k0_part41_skel, k0_part42_skel, bind_assoc, pure_bind]
  apply head_V ht (sem_off (reads_s4 t)) slot_units (score_off (reads_t4 t) (by omega)) (off396_eq v0 t)
  refine (show _ ⊢ iprop(|={Set.univ}[frame]=> (issuing c vM fv (slotOf (nb v0 + t.val + 24)) (blockBuf tab (16 * (nb v0 + t.val + 24 - nb v0)) vpool) 0 ∗ (arg7.view.loc (c : Thread nD τ) ↦[arg7.view.set]{fullShare} ft) ∗ (toks c kM fk ((nb v0 + t.val + 24) % 24) ∗ ringRest c fk fv tab kpool vpool (nb v0) (nb v0 + t.val) ∗ owing c ∗ scoresTo c blk (nb v0)))) from ?_).trans ((fupd_mono ?_).trans (fupd_wp _ _ _ _ _))
  · iintro ⟨HI, HR, HO, HS, HT⟩
    imod (start_V fk fv (nb v0 + t.val + 24) _) $$ HI with ⟨HI, Hx⟩
    imodintro
    isplitl [HI]; · iexact HI
    isplitl [HT]; · iexact HT
    isplitl [Hx]; · iexact Hx
    isplitl [HR]; · iexact HR
    isplitl [HO]; · iexact HO
    iexact HS
  iterate 16
    refine site_load htab ?_ (tab_off (blkV4 t h8) _ (by omega) ?_) ?_
    iterate 2 omega
    refine site_assume (pool_chk (hlt _ ?_)) ?_
    omega
    refine site_page hM' tab hlt ?_ ?_ rfl rfl (page_off (reads_n4 t) _) (sem_off (reads_n4 t)) ?_
    iterate 2 omega
  refine (show _ ⊢ iprop(scoresTo c blk (nb v0) ∗ ring c fk fv tab kpool vpool (nb v0) (nb v0 + t.val + 1) ∗ (arg7.view.loc (c : Thread nD τ) ↦[arg7.view.set]{fullShare} ft) ∗ owing c) from ?_).trans ?_
  · iintro ⟨HI, HT, Hx, HR, HO, HS⟩
    isplitl [HS]; · iexact HS
    isplitr [HT HO]
    · iapply (Entails.of_eq (ring_advance c fk fv tab kpool vpool (nb v0) (nb v0 + t.val)))
      isplitr [HR]
      · iapply (Entails.of_eq (slotSt_V c fk fv tab kpool vpool (nb v0) (by omega) h8').symm)
        isplitl [HI]; · iexact HI
        iexact Hx
      iexact HR
    isplitl [HT]; · iexact HT
    iexact HO
  show _ ⊢ iprop(|={Set.univ}[frame]=> (_ ∗ _ ∗ _ ∗ _ ∗ ⌜_ = _⌝))
  iintro ⟨HS, HG, HT, HO⟩
  imodintro
  isplitl [HG]; · iexact HG
  isplitl [HT]; · iexact HT
  isplitl [HO]; · iexact HO
  isplitl [HS]; · iexact HS
  ipureintro; rfl

set_option maxHeartbeats 2000000 in
/-- One trip with no step left to issue. -/
theorem value_trip_none (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32) (t : Fin (k0_t4_loop v0).trips) (h5 : 2 * nb v0 ≤ nb v0 + t.val + 24)
    (l : FVec F S16x128 .f32) (a : FVec F S16x256 .f32) :
    iprop(ring c fk fv tab kpool vpool (nb v0) (nb v0 + t.val) ∗ owing c ∗ scoresTo c blk (nb v0) ∗ (arg7.view.loc (c : Thread nD τ) ↦[arg7.view.set]{fullShare} ft))
      ⊢ W c (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32 t (l, a))
          (fun r => iprop(ring c fk fv tab kpool vpool (nb v0) (nb v0 + t.val + 1) ∗ (arg7.view.loc (c : Thread nD τ) ↦[arg7.view.set]{fullShare} ft) ∗ owing c ∗ scoresTo c blk (nb v0)
            ∗ ⌜r = (k0_pay1 l (k0_pay10 v112 (blk t.val)), k0_pay11 v112 a (blk t.val) (blkVec tab (16 * t.val) vpool))⌝)) := by
  have hnb := nb_le v0
  have ht := t4_lt t
  have h7 : ¬ k0_cond7 v0 t = 1#1 := no7 t
  have h8 : ¬ k0_cond8 v0 t = 1#1 := fun hh => by have := (cond8_iff v0 t).mp hh; omega
  unfold k0_t4_body
  simp only [k0_part43_eq_skeleton, k0_part43_skel, dif_neg h7, dif_neg h8, bind_assoc, pure_bind]
  apply head_V ht (sem_off (reads_s4 t)) slot_units (score_off (reads_t4 t) (by omega)) (off396_eq v0 t)
  refine (show _ ⊢ iprop(scoresTo c blk (nb v0) ∗ ring c fk fv tab kpool vpool (nb v0) (nb v0 + t.val + 1) ∗ (arg7.view.loc (c : Thread nD τ) ↦[arg7.view.set]{fullShare} ft) ∗ owing c) from ?_).trans ?_
  · iintro ⟨HI, HR, HO, HS, HT⟩
    isplitl [HS]; · iexact HS
    isplitr [HT HO]
    · iapply (Entails.of_eq (ring_advance c fk fv tab kpool vpool (nb v0) (nb v0 + t.val)))
      isplitr [HR]
      · iapply (Entails.of_eq (slotSt_idle c fk fv tab kpool vpool (nb v0) h5).symm)
        iexact HI
      iexact HR
    isplitl [HT]; · iexact HT
    iexact HO
  show _ ⊢ iprop(|={Set.univ}[frame]=> (_ ∗ _ ∗ _ ∗ _ ∗ ⌜_ = _⌝))
  iintro ⟨HS, HG, HT, HO⟩
  imodintro
  isplitl [HG]; · iexact HG
  isplitl [HT]; · iexact HT
  isplitl [HO]; · iexact HO
  isplitl [HS]; · iexact HS
  ipureintro; rfl

/-- One trip. -/
theorem value_trip (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32) (t : Fin (k0_t4_loop v0).trips)
    (l : FVec F S16x128 .f32) (a : FVec F S16x256 .f32) :
    iprop(ring c fk fv tab kpool vpool (nb v0) (nb v0 + t.val) ∗ owing c ∗ scoresTo c blk (nb v0) ∗ (arg7.view.loc (c : Thread nD τ) ↦[arg7.view.set]{fullShare} ft))
      ⊢ W c (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32 t (l, a))
          (fun r => iprop(ring c fk fv tab kpool vpool (nb v0) (nb v0 + t.val + 1) ∗ (arg7.view.loc (c : Thread nD τ) ↦[arg7.view.set]{fullShare} ft) ∗ owing c ∗ scoresTo c blk (nb v0)
            ∗ ⌜r = (k0_pay1 l (k0_pay10 v112 (blk t.val)), k0_pay11 v112 a (blk t.val) (blkVec tab (16 * t.val) vpool))⌝)) := by
  have hnb := nb_le v0
  have ht := t4_lt t
  have h7 : ¬ k0_cond7 v0 t = 1#1 := no7 t
  rcases Nat.lt_or_ge (nb v0 + t.val + 24) (2 * nb v0) with h | h
  · exact value_trip_V htab hlt hM' v0 hw17 v21 v22 v112 blk t h l a
  · exact value_trip_none htab hlt hM' v0 hw17 v21 v22 v112 blk t h l a

end Cert.Kernel.Hand

end
-- ==== Proof.K.Prologue.lean ====
/-
  The prologue's trip `t` issues step `t`: K block `t`, or V block `t - nb`, or nothing.
-/
module

public import proofs.«01_k».proof.Proof.K.Site

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

/-- A K step of the prologue. -/
theorem prologue_K (htab : IsTab arg7 ft tab) (hlt : ∀ n < 1024, (tab n).toNat < 1024) (hM : kM.view.read (Elt F) fk = kpool)
    (v0 : BitVec 32) (hw17 : k0_chk17 v0) (v21 : BitVec 32) (t : Fin k0_t1_loop.trips) (h : t.val < nb v0) (R : sProp 𝕄) :
    iprop(issuing c kM fk (slotOf t.val) (blockBuf tab (16 * t.val) kpool) 0 ∗ (arg7.view.loc (c : Thread nD τ) ↦[arg7.view.set]{fullShare} ft) ∗ R)
      ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ())
          (fun _ => iprop(issuing c kM fk (slotOf t.val) (blockBuf tab (16 * t.val) kpool) 16 ∗ (arg7.view.loc (c : Thread nD τ) ↦[arg7.view.set]{fullShare} ft) ∗ R)) := by
  have h1 : k0_cond1 v0 t = 1#1 := (cond1_iff v0 t).mpr h
  have h2 : ¬ k0_cond2 v0 t = 1#1 := fun hh => by have := (cond2_iff v0 t).mp hh; omega
  have hlt' := t1_lt t
  unfold k0_t1_body
  simp only [dif_pos h1, dif_neg h2]
  simp only [k0_part1_eq_skeleton, k0_part2_eq_skeleton, k0_part3_eq_skeleton, k0_part4_eq_skeleton, k0_part5_eq_skeleton,
    k0_part1_skel, k0_part2_skel, k0_part3_skel, k0_part4_skel, k0_part5_skel, bind_assoc, pure_bind]
  iterate 16
    refine site_load htab ?_ (tab_off (reads_t1 t) _ (by omega) ?_) ?_
    iterate 2 omega
    refine site_assume (pool_chk (hlt _ ?_)) ?_
    omega
    refine site_page hM tab hlt ?_ ?_ rfl rfl (page_off (reads_t1 t) _) (sem_off (reads_t1 t)) ?_
    iterate 2 omega
  exact fupd_intro

/-- A V step of the prologue. -/
theorem prologue_V (htab : IsTab arg7 ft tab) (hlt : ∀ n < 1024, (tab n).toNat < 1024) (hM : vM.view.read (Elt F) fv = vpool)
    (v0 : BitVec 32) (hw17 : k0_chk17 v0) (v21 : BitVec 32) (t : Fin k0_t1_loop.trips) (h : nb v0 ≤ t.val) (h' : t.val < 2 * nb v0) (R : sProp 𝕄) :
    iprop(issuing c vM fv (slotOf t.val) (blockBuf tab (16 * (t.val - nb v0)) vpool) 0 ∗ (arg7.view.loc (c : Thread nD τ) ↦[arg7.view.set]{fullShare} ft) ∗ R)
      ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ())
          (fun _ => iprop(issuing c vM fv (slotOf t.val) (blockBuf tab (16 * (t.val - nb v0)) vpool) 16 ∗ (arg7.view.loc (c : Thread nD τ) ↦[arg7.view.set]{fullShare} ft) ∗ R)) := by
  have h1 : ¬ k0_cond1 v0 t = 1#1 := fun hh => by have := (cond1_iff v0 t).mp hh; omega
  have h2 : k0_cond2 v0 t = 1#1 := (cond2_iff v0 t).mpr ⟨h, h'⟩
  have hlt' := t1_lt t
  have hnb := nb_le v0
  unfold k0_t1_body
  simp only [dif_neg h1, dif_pos h2]
  simp only [k0_part6_eq_skeleton, k0_part7_eq_skeleton, k0_part8_eq_skeleton, k0_part9_eq_skeleton, k0_part10_eq_skeleton,
    k0_part6_skel, k0_part7_skel, k0_part8_skel, k0_part9_skel, k0_part10_skel, bind_assoc, pure_bind]
  iterate 16
    refine site_load htab ?_ (tab_off (blkV1 t h2) _ (by omega) ?_) ?_
    iterate 2 omega
    refine site_assume (pool_chk (hlt _ ?_)) ?_
    omega
    refine site_page hM tab hlt ?_ ?_ rfl rfl (page_off (reads_t1 t) _) (sem_off (reads_t1 t)) ?_
    iterate 2 omega
  exact fupd_intro

/-- A trip past the last step. -/
theorem prologue_none (v0 : BitVec 32) (hw17 : k0_chk17 v0) (v21 : BitVec 32) (t : Fin k0_t1_loop.trips) (h : 2 * nb v0 ≤ t.val) (R : sProp 𝕄) :
    R ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ()) (fun _ => R) := by
  have h1 : ¬ k0_cond1 v0 t = 1#1 := fun hh => by have := (cond1_iff v0 t).mp hh; omega
  have h2 : ¬ k0_cond2 v0 t = 1#1 := fun hh => by have := (cond2_iff v0 t).mp hh; omega
  unfold k0_t1_body
  simp only [dif_neg h1, dif_neg h2, pure_bind]
  exact fupd_intro

end Cert.Kernel.Hand

end
-- ==== Proof.K.Loops.lean ====
/-
  The loops as rules for a program that goes on: the prologue starts the first 24 steps, the scores loop leaves every
  block's scores and their maximum, the values loop leaves the sums, and the two remainder loops make no trip.
-/
module

public import proofs.«01_k».proof.Proof.K.T2
public import proofs.«01_k».proof.Proof.K.T4
public import proofs.«01_k».proof.Proof.K.Prologue
public import Idealize.ShloMosaic.Lib.Pipeline.TableIdle

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

/-- A counted loop by an invariant. -/
theorem loop_bind {c : Dev nD} {σ α : Type} (l : Scf.Loop 32) (hok : l.OK) (init : σ) (body : Fin l.trips → σ → Prog (TpuEff nD τ sig (Elt F) Λ₀ .tc) σ)
    (I : ℕ → σ → sProp 𝕄) (hbody : ∀ k acc, I k.val acc ⊢ W c (body k acc) (I (k.val + 1)))
    {K : σ → Prog (TpuEff nD τ sig (Elt F) Λ₀ .tc) α} {Q : α → sProp 𝕄} :
    iprop(I 0 init ∗ (∀ acc, I l.trips acc -∗ W c (K acc) Q)) ⊢ W c (Scf.Loop.for l hok init body >>= K) Q := by
  iintro ⟨HI, HK⟩
  iapply (Scf.wp_for_bind frame (wpE (defs₀ (F := F)) Variants.none (c : Thread nD τ) none) Set.univ l.lb l.ub l.st hok init body I hbody) $$ [HI]
  · iexact HI
  iexact HK

attribute [local irreducible] k0_t1_body k0_t2_body k0_t4_body
variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

/-- One trip of the prologue. -/
theorem pro_trip (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 : BitVec 32) (t : Fin k0_t1_loop.trips) :
    iprop(proRing c fk fv tab kpool vpool (nb v0) t.val ∗ (arg7.view.loc (c : Thread nD τ) ↦[arg7.view.set]{fullShare} ft))
      ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ()) (fun _ => iprop(proRing c fk fv tab kpool vpool (nb v0) (t.val + 1) ∗ (arg7.view.loc (c : Thread nD τ) ↦[arg7.view.set]{fullShare} ft))) := by
  rw [proRing_focus c fk fv tab kpool vpool (nb v0) (t1_lt t), ← proRing_advance c fk fv tab kpool vpool (nb v0) (t1_lt t)]
  rcases Nat.lt_or_ge t.val (nb v0) with h | h
  · rw [slotSt_K c fk fv tab kpool vpool (nb v0) h]
    iintro ⟨⟨HI, HR⟩, HT⟩
    iapply (fupd_wp frame _ Set.univ _ _)
    imod (start_K fk fv t.val _) $$ HI with ⟨HI, Hx⟩
    imodintro
    iapply (wp_wand_r frame _ Set.univ)
    isplitl
    · iapply (prologue_K htab hlt hM v0 hw17 v21 t h iprop(toks c vM fv (t.val % 24) ∗ proRest c fk fv tab kpool vpool (nb v0) t.val))
      isplitl [HI]; · iexact HI
      isplitl [HT]; · iexact HT
      isplitl [Hx]; · iexact Hx
      iexact HR
    iintro %r ⟨HI, HT, Hx, HR⟩
    isplitr [HT]
    · isplitr [HR]
      · isplitl [HI]; · iexact HI
        iexact Hx
      iexact HR
    iexact HT
  rcases Nat.lt_or_ge t.val (2 * nb v0) with h' | h'
  · rw [slotSt_V c fk fv tab kpool vpool (nb v0) h h']
    iintro ⟨⟨HI, HR⟩, HT⟩
    iapply (fupd_wp frame _ Set.univ _ _)
    imod (start_V fk fv t.val _) $$ HI with ⟨HI, Hx⟩
    imodintro
    iapply (wp_wand_r frame _ Set.univ)
    isplitl
    · iapply (prologue_V htab hlt hM' v0 hw17 v21 t h h' iprop(toks c kM fk (t.val % 24) ∗ proRest c fk fv tab kpool vpool (nb v0) t.val))
      isplitl [HI]; · iexact HI
      isplitl [HT]; · iexact HT
      isplitl [Hx]; · iexact Hx
      iexact HR
    iintro %r ⟨HI, HT, Hx, HR⟩
    isplitr [HT]
    · isplitr [HR]
      · isplitl [HI]; · iexact HI
        iexact Hx
      iexact HR
    iexact HT
  · rw [slotSt_idle c fk fv tab kpool vpool (nb v0) h']
    exact prologue_none v0 hw17 v21 t h' _

/-- The prologue. -/
theorem loop1 (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 : BitVec 32) {α : Type} {K : PUnit → Prog (TpuEff nD τ sig (Elt F) Λ₀ .tc) α} {Q : α → sProp 𝕄} :
    iprop((bigSep Finset.univ (fun k : Fin 24 => idle c fk fv k)) ∗ (arg7.view.loc (c : Thread nD τ) ↦[arg7.view.set]{fullShare} ft) ∗ ((ring c fk fv tab kpool vpool (nb v0) 0 ∗ (arg7.view.loc (c : Thread nD τ) ↦[arg7.view.set]{fullShare} ft)) -∗ W c (K ⟨⟩) Q))
      ⊢ W c (Scf.Loop.for k0_t1_loop k0_t1_ok ⟨⟩ (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21) >>= K) Q := by
  have h := loop_bind (c := c) k0_t1_loop k0_t1_ok (⟨⟩ : PUnit) (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21)
    (fun k _ => iprop(proRing c fk fv tab kpool vpool (nb v0) k ∗ (arg7.view.loc (c : Thread nD τ) ↦[arg7.view.set]{fullShare} ft))) (fun k acc => match acc with | ⟨⟩ => pro_trip htab hlt hM hM' v0 hw17 v21 k) (K := K) (Q := Q)
  rw [t1_trips, proRing_zero, proRing_done] at h
  refine (show _ ⊢ _ from ?_).trans h
  iintro ⟨HI, HT, HK⟩
  isplitl [HI HT]
  · isplitl [HI]; · iexact HI
    iexact HT
  iintro %acc H
  iapply HK
  iexact H

/-- The running maximum of the scores, over the lanes, before block `k`. -/
def mCarry (v0 : BitVec 32) (v73 : FVec F S16x256 .bf16) (v83 : FVec F S16x1 .f32) (tab : ℕ → BitVec 32) (kpool : PoolBuf (F := F)) : ℕ → FVec F S16x128 .f32
  | 0 => k0_pay23
  | k + 1 => if h : k < (k0_t2_loop v0).trips then k0_pay26 (mCarry v0 v73 v83 tab kpool k) (k0_pay4 v73 v83 (blkVec tab (16 * k) kpool)) (k0_pay5 (F := F) v0 0#32 1#32 ⟨k, h⟩) k0_pay6
    else mCarry v0 v73 v83 tab kpool k

theorem mCarry_succ (v0 : BitVec 32) (v73 : FVec F S16x256 .bf16) (v83 : FVec F S16x1 .f32) (t : Fin (k0_t2_loop v0).trips) :
    mCarry v0 v73 v83 tab kpool (t.val + 1) = k0_pay26 (mCarry v0 v73 v83 tab kpool t.val) (k0_pay4 v73 v83 (blkVec tab (16 * t.val) kpool)) (k0_pay5 (F := F) v0 0#32 1#32 t) k0_pay6 :=
  (by rw [mCarry] : mCarry v0 v73 v83 tab kpool (t.val + 1) = _).trans (dif_pos t.isLt)

/-- The scores loop. -/
theorem loop2 (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) {α : Type} {K : FVec F S16x128 .f32 → Prog (TpuEff nD τ sig (Elt F) Λ₀ .tc) α} {Q : α → sProp 𝕄} :
    iprop(ring c fk fv tab kpool vpool (nb v0) 0 ∗ (arg7.view.loc (c : Thread nD τ) ↦[arg7.view.set]{fullShare} ft) ∗ owing c ∗ scoresTo c (scoreBlk v0 v73 (k0_pay21 v74 v75) tab kpool) 0
        ∗ ((ring c fk fv tab kpool vpool (nb v0) (nb v0) ∗ (arg7.view.loc (c : Thread nD τ) ↦[arg7.view.set]{fullShare} ft) ∗ owing c ∗ scoresTo c (scoreBlk v0 v73 (k0_pay21 v74 v75) tab kpool) (nb v0))
          -∗ W c (K (mCarry v0 v73 (k0_pay21 v74 v75) tab kpool (nb v0))) Q))
      ⊢ W c (Scf.Loop.for (k0_t2_loop v0) (k0_t2_ok v0 hw17) (k0_pay23 (F := F)) (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75) >>= K) Q := by
  have h := loop_bind (c := c) (k0_t2_loop v0) (k0_t2_ok v0 hw17) (k0_pay23 (F := F)) (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75)
    (fun k acc => iprop(⌜acc = mCarry v0 v73 (k0_pay21 v74 v75) tab kpool k⌝ ∗ ring c fk fv tab kpool vpool (nb v0) k ∗ (arg7.view.loc (c : Thread nD τ) ↦[arg7.view.set]{fullShare} ft) ∗ owing c ∗ scoresTo c (scoreBlk v0 v73 (k0_pay21 v74 v75) tab kpool) k))
    (fun k acc => by
      iintro ⟨%he, HR, HT, HO, HS⟩
      subst he
      iapply (wp_wand_r frame _ Set.univ)
      isplitl
      · iapply (score_trip htab hlt hM hM' v0 hw17 v21 v22 v31 v51 v67 v73 v74 v75 k _)
        isplitl [HR]; · iexact HR
        isplitl [HO]; · iexact HO
        isplitl [HT]; · iexact HT
        iexact HS
      iintro %r ⟨HR, HT, HO, HS, %hr⟩
      isplitr
      · ipureintro; exact hr.trans (mCarry_succ v0 v73 _ k).symm
      isplitl [HR]; · iexact HR
      isplitl [HT]; · iexact HT
      isplitl [HO]; · iexact HO
      iexact HS) (K := K) (Q := Q)
  rw [t2_trips] at h
  refine (show _ ⊢ _ from ?_).trans h
  iintro ⟨HR, HT, HO, HS, HK⟩
  isplitr [HK]
  · isplitr; · ipureintro; rfl
    isplitl [HR]; · iexact HR
    isplitl [HT]; · iexact HT
    isplitl [HO]; · iexact HO
    iexact HS
  iintro %acc ⟨%he, H⟩
  subst he
  iapply HK
  iexact H

/-- The running sums of the weights, over the lanes, and of the weighted rows, before V block `k`. -/
def lCarry (v112 : FVec F S16x1 .f32) (blk : ℕ → FVec F S16x2048 .f32) (tab : ℕ → BitVec 32) (vpool : PoolBuf (F := F)) : ℕ → FVec F S16x128 .f32 × FVec F S16x256 .f32
  | 0 => (k0_pay31, k0_pay32)
  | k + 1 => (k0_pay1 (lCarry v112 blk tab vpool k).1 (k0_pay10 v112 (blk k)), k0_pay11 v112 (lCarry v112 blk tab vpool k).2 (blk k) (blkVec tab (16 * k) vpool))

/-- The values loop. -/
theorem loop4 (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32)
    {α : Type} {K : FVec F S16x128 .f32 × FVec F S16x256 .f32 → Prog (TpuEff nD τ sig (Elt F) Λ₀ .tc) α} {Q : α → sProp 𝕄} :
    iprop(ring c fk fv tab kpool vpool (nb v0) (nb v0) ∗ (arg7.view.loc (c : Thread nD τ) ↦[arg7.view.set]{fullShare} ft) ∗ owing c ∗ scoresTo c blk (nb v0)
        ∗ (((bigSep Finset.univ (fun k : Fin 24 => idle c fk fv k)) ∗ (arg7.view.loc (c : Thread nD τ) ↦[arg7.view.set]{fullShare} ft) ∗ owing c ∗ scoresTo c blk (nb v0)) -∗ W c (K (lCarry v112 blk tab vpool (nb v0))) Q))
      ⊢ W c (Scf.Loop.for (k0_t4_loop v0) (k0_t4_ok v0 hw17) (k0_pay31 (F := F), k0_pay32 (F := F)) (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32) >>= K) Q := by
  have h := loop_bind (c := c) (k0_t4_loop v0) (k0_t4_ok v0 hw17) (k0_pay31 (F := F), k0_pay32 (F := F)) (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32)
    (fun k acc => iprop(⌜acc = lCarry v112 blk tab vpool k⌝ ∗ ring c fk fv tab kpool vpool (nb v0) (nb v0 + k) ∗ (arg7.view.loc (c : Thread nD τ) ↦[arg7.view.set]{fullShare} ft) ∗ owing c ∗ scoresTo c blk (nb v0)))
    (fun k acc => by
      iintro ⟨%he, HR, HT, HO, HS⟩
      subst he
      iapply (wp_wand_r frame _ Set.univ)
      isplitl
      · iapply (value_trip htab hlt hM' v0 hw17 v21 v22 v112 blk k (lCarry v112 blk tab vpool k.val).1 (lCarry v112 blk tab vpool k.val).2)
        isplitl [HR]; · iexact HR
        isplitl [HO]; · iexact HO
        isplitl [HS]; · iexact HS
        iexact HT
      iintro %r ⟨HR, HT, HO, HS, %hr⟩
      isplitr
      · ipureintro; exact hr
      isplitl [HR]; · iexact HR
      isplitl [HT]; · iexact HT
      isplitl [HO]; · iexact HO
      iexact HS) (K := K) (Q := Q)
  rw [t4_trips, show nb v0 + nb v0 = 2 * nb v0 from by omega, ring_end] at h
  refine (show _ ⊢ _ from ?_).trans h
  iintro ⟨HR, HT, HO, HS, HK⟩
  isplitr [HK]
  · isplitr; · ipureintro; rfl
    isplitl [HR]; · iexact HR
    isplitl [HT]; · iexact HT
    isplitl [HO]; · iexact HO
    iexact HS
  iintro %acc ⟨%he, H⟩
  subst he
  iapply HK
  iexact H

/-- The scores loop's remainder makes no trip. -/
theorem loop3 (v0 : BitVec 32) (hok : (k0_t3_loop v0).OK) {σ α : Type} (init : σ) (body : Fin (k0_t3_loop v0).trips → σ → Prog (TpuEff nD τ sig (Elt F) Λ₀ .tc) σ)
    (K : σ → Prog (TpuEff nD τ sig (Elt F) Λ₀ .tc) α) : (Scf.Loop.for (k0_t3_loop v0) hok init body >>= K) = K init := Scf.for_trips0_bind _ _ (t3_trips v0) _ _ _
/-- The values loop's remainder makes no trip. -/
theorem loop5 (v0 : BitVec 32) (hok : (k0_t5_loop v0).OK) {σ α : Type} (init : σ) (body : Fin (k0_t5_loop v0).trips → σ → Prog (TpuEff nD τ sig (Elt F) Λ₀ .tc) σ)
    (K : σ → Prog (TpuEff nD τ sig (Elt F) Λ₀ .tc) α) : (Scf.Loop.for (k0_t5_loop v0) hok init body >>= K) = K init := Scf.for_trips0_bind _ _ (t5_trips v0) _ _ _

end Cert.Kernel.Hand

end
-- ==== Proof.K.Body.lean ====
/-
  The kernel's body: from its windows, the two pools and the idle ring to its three results, everything else as it was.
-/
module

public import proofs.«01_k».proof.Proof.K.Window
public import proofs.«01_k».proof.Proof.K.Loops
public import proofs.«01_k».proof.Proof.K.Chk

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

/-! ## The results -/

/-- The page table's words. -/
def tabOf (pt : IVec S1x1024 32) (n : ℕ) : BitVec 32 := if h : n < 1024 then pt (ValueIdx.ix2 (0 : Fin 1) (⟨n, h⟩ : Fin 1024)) else 0

theorem isTab (pt : IVec S1x1024 32) {ft : arg7.view.ty.Contents (Elt F)} (h : arg7.view.read (Elt F) ft = pt) : IsTab arg7 ft (tabOf pt) := fun n hn => by
  rw [h]; unfold tabOf; rw [dif_pos hn]

/-- The new key's code. -/
def kRes (kn : FVec F S2x128 .bf16) (ks : FVec F S2 .f32) : FVec F S2x128 .fp8e4m3 := k0_pay17 (k0_pay14 (ks (ValueIdx.ix1 0)) (ks (ValueIdx.ix1 1))) kn

/-- The new value's code. -/
def vRes (vn : FVec F S2x128 .bf16) (vs : FVec F S2 .f32) : FVec F S2x128 .fp8e4m3 := k0_pay18 k0_pay15 (vs (ValueIdx.ix1 0)) (vs (ValueIdx.ix1 1)) vn

/-- The scores of K block `k`. -/
def sRes (q : FVec F S16x128 .bf16) (ks : FVec F S2 .f32) (pt : IVec S1x1024 32) (sl : IVec S1 32) (kpool : PoolBuf (F := F)) : ℕ → FVec F S16x2048 .f32 :=
  scoreBlk (sl (ValueIdx.ix1 0)) (k0_pay20 q) (k0_pay21 (ks (ValueIdx.ix1 0)) (ks (ValueIdx.ix1 1))) (tabOf pt) kpool

/-- The scores' maximum, over the lanes. -/
def mRes (q : FVec F S16x128 .bf16) (ks : FVec F S2 .f32) (pt : IVec S1x1024 32) (sl : IVec S1 32) (kpool : PoolBuf (F := F)) : FVec F S16x128 .f32 :=
  mCarry (sl (ValueIdx.ix1 0)) (k0_pay20 q) (k0_pay21 (ks (ValueIdx.ix1 0)) (ks (ValueIdx.ix1 1))) (tabOf pt) kpool (nb (sl (ValueIdx.ix1 0)))

/-- The maximum over the cache and the new token. -/
def mAll (q : FVec F S16x128 .bf16) (kn : FVec F S2x128 .bf16) (ks : FVec F S2 .f32) (pt : IVec S1x1024 32) (sl : IVec S1 32) (kpool : PoolBuf (F := F)) : FVec F S16x1 .f32 :=
  k0_pay30 (k0_pay14 (ks (ValueIdx.ix1 0)) (ks (ValueIdx.ix1 1))) (kRes kn ks) (k0_pay19 q) (mRes q ks pt sl kpool)

/-- The two running sums after the last V block. -/
def lRes (q : FVec F S16x128 .bf16) (kn : FVec F S2x128 .bf16) (ks : FVec F S2 .f32) (pt : IVec S1x1024 32) (sl : IVec S1 32) (kpool vpool : PoolBuf (F := F)) :
    FVec F S16x128 .f32 × FVec F S16x256 .f32 :=
  lCarry (mAll q kn ks pt sl kpool) (sRes q ks pt sl kpool) (tabOf pt) vpool (nb (sl (ValueIdx.ix1 0)))

/-- The attention's result. -/
def yRes (q : FVec F S16x128 .bf16) (kn vn : FVec F S2x128 .bf16) (ks vs : FVec F S2 .f32) (pt : IVec S1x1024 32) (sl : IVec S1 32) (kpool vpool : PoolBuf (F := F)) : FVec F S16x128 .bf16 :=
  k0_pay3 (k0_pay16 k0_pay15 (vs (ValueIdx.ix1 0)) (vs (ValueIdx.ix1 1))) (vRes vn vs) (k0_pay22 (k0_pay14 (ks (ValueIdx.ix1 0)) (ks (ValueIdx.ix1 1))) (kRes kn ks) (k0_pay19 q)) (mAll q kn ks pt sl kpool)
    (lRes q kn ks pt sl kpool vpool).1 (lRes q kn ks pt sl kpool vpool).2 (vs (ValueIdx.ix1 0)) (vs (ValueIdx.ix1 1))

/-! ## The body -/

theorem own_assume {c : Dev nD} {α : Type} {P : Prop} {d : Decidable P} (h : P) {K : PLift P → Prog (TpuEff nD τ sig (Elt F) Λ₀ .tc) α} {Q : α → sProp 𝕄} :
    W c (K ⟨h⟩) Q ⊢ W c (Prog.lift (TpuEff.assume P d) >>= K) Q := site_assume h .rfl

theorem own_open {c : Dev nD} {s : Shape} {e : EltTy} (m : Memref sig .tc .smem s e) (X : s.Idx → Elt F e) : (owns (c : Thread nD τ) m fullShare X : sProp 𝕄)
    ⊢ iprop(∃ f, ⌜m.view.read (Elt F) f = X⌝ ∗ (m.view.loc (c : Thread nD τ) ↦[m.view.set]{fullShare} f)) := by
  unfold owns; exact .rfl

theorem own_pure {c : Dev nD} {α : Type} {a : α} {Q : α → sProp 𝕄} : Q a ⊢ W c (pure a) Q := fupd_intro

theorem wp_loop3 {c : Dev nD} (v0 : BitVec 32) (hok : (k0_t3_loop v0).OK) {σ α : Type} (init : σ) (body : Fin (k0_t3_loop v0).trips → σ → Prog (TpuEff nD τ sig (Elt F) Λ₀ .tc) σ)
    (K : σ → Prog (TpuEff nD τ sig (Elt F) Λ₀ .tc) α) {Q : α → sProp 𝕄} : W c (K init) Q ⊢ W c (Scf.Loop.for (k0_t3_loop v0) hok init body >>= K) Q := by
  rw [loop3]
theorem wp_loop5 {c : Dev nD} (v0 : BitVec 32) (hok : (k0_t5_loop v0).OK) {σ α : Type} (init : σ) (body : Fin (k0_t5_loop v0).trips → σ → Prog (TpuEff nD τ sig (Elt F) Λ₀ .tc) σ)
    (K : σ → Prog (TpuEff nD τ sig (Elt F) Λ₀ .tc) α) {Q : α → sProp 𝕄} : W c (K init) Q ⊢ W c (Scf.Loop.for (k0_t5_loop v0) hok init body >>= K) Q := by
  rw [loop5]

theorem scores_none (c : Dev nD) (blk : ℕ → FVec F S16x2048 .f32) : (iprop(∃ f : Buf (Elt F) (scoreLoc c), scoreLoc c ↦{fullShare} f) : sProp 𝕄) ⊢ scoresTo c blk 0 := by
  unfold scoresTo
  iintro ⟨%f, Hf⟩
  iexists f
  isplitl [Hf]; · iexact Hf
  ipureintro; intro i hi; omega
theorem scores_some (c : Dev nD) (blk : ℕ → FVec F S16x2048 .f32) (n : ℕ) : scoresTo c blk n ⊢ (iprop(∃ f : Buf (Elt F) (scoreLoc c), scoreLoc c ↦{fullShare} f) : sProp 𝕄) := by
  unfold scoresTo
  iintro ⟨%f, Hf, -⟩
  iexists f
  iexact Hf

attribute [local irreducible] k0_t1_body k0_t2_body k0_t3_body k0_t4_body k0_t5_body

/-- The body's triple. -/
theorem body_wp {c : Dev nD} (q : FVec F S16x128 .bf16) (kn vn : FVec F S2x128 .bf16) (ks vs : FVec F S2 .f32) (pt : IVec S1x1024 32) (sl : IVec S1 32) (y9 : FVec F S16x128 .bf16) (y10 y11 : FVec F S2x128 .fp8e4m3)
    (fk : Buf (Elt F) (kM.view.loc (c : Thread nD τ))) (fv : Buf (Elt F) (vM.view.loc (c : Thread nD τ)))
    (hlt : ∀ n < 1024, (tabOf pt n).toNat < 1024) :
    iprop(owns (c : Thread nD τ) arg0 fullShare q ∗ owns (c : Thread nD τ) arg1 fullShare kn ∗ owns (c : Thread nD τ) arg2 fullShare vn ∗ owns (c : Thread nD τ) arg4 fullShare ks ∗ owns (c : Thread nD τ) arg6 fullShare vs ∗ owns (c : Thread nD τ) arg8 fullShare sl ∗ owns (c : Thread nD τ) arg7 fullShare pt
        ∗ owns (c : Thread nD τ) arg9 fullShare y9 ∗ owns (c : Thread nD τ) arg10 fullShare y10 ∗ owns (c : Thread nD τ) arg11 fullShare y11
        ∗ (∃ f : Buf (Elt F) (scoreLoc c), scoreLoc c ↦{fullShare} f) ∗ (bigSep Finset.univ (fun k : Fin 24 => idle c fk fv k)) ∗ owing c)
      ⊢ W c (cc0_paged_fp8_decode (F := F) arg0 harg0 arg1 harg1 arg2 harg2 kM harg3 arg4 harg4 vM harg5 arg6 harg6 arg7 harg7 arg8 harg8 arg9 harg9 arg10 harg10 arg11 harg11 ringM harg12 scoreM harg13 cc0_scratch2)
        (fun _ => iprop(owns (c : Thread nD τ) arg0 fullShare q ∗ owns (c : Thread nD τ) arg1 fullShare kn ∗ owns (c : Thread nD τ) arg2 fullShare vn ∗ owns (c : Thread nD τ) arg4 fullShare ks ∗ owns (c : Thread nD τ) arg6 fullShare vs ∗ owns (c : Thread nD τ) arg8 fullShare sl ∗ owns (c : Thread nD τ) arg7 fullShare pt
        ∗ owns (c : Thread nD τ) arg9 fullShare (yRes q kn vn ks vs pt sl (kM.view.read (Elt F) fk) (vM.view.read (Elt F) fv)) ∗ owns (c : Thread nD τ) arg10 fullShare (kRes kn ks) ∗ owns (c : Thread nD τ) arg11 fullShare (vRes vn vs)
        ∗ (∃ f : Buf (Elt F) (scoreLoc c), scoreLoc c ↦{fullShare} f) ∗ (bigSep Finset.univ (fun k : Fin 24 => idle c fk fv k)) ∗ owing c)) := by
  rw [cc0_paged_fp8_decode_eq_skeleton]
  simp only [cc0_paged_fp8_decode_skel, k0_part55_eq_skeleton, k0_part56_eq_skeleton, k0_part57_eq_skeleton, k0_part55_skel, k0_part56_skel, k0_part57_skel, bind_assoc, pure_bind]
  iintro ⟨H0, H1, H2, H4, H6, H8, H7, H9, H10, H11, HS, HI, HO⟩
  ihave H7 := (own_open (c := c) arg7 pt) $$ H7
  icases H7 with ⟨%ft, %hft, HT⟩
  iapply (own_smem (x := ValueIdx.ix1 (n := 1) 0) (by intro a; match a with | ⟨0, _⟩ => rfl))
  isplitl [H8]; · iexact H8
  iintro H8
  iapply (own_assume (chk17_all _))
  iapply (loop1 (ft := ft) (isTab pt hft) hlt rfl rfl _ _ _)
  isplitl [HI]; · iexact HI
  isplitl [HT]; · iexact HT
  iintro ⟨HR, HT⟩
  iapply (own_smem (x := ValueIdx.ix1 (n := 2) 0) (by intro a; match a with | ⟨0, _⟩ => rfl))
  isplitl [H4]; · iexact H4
  iintro H4
  iapply (own_smem (x := ValueIdx.ix1 (n := 2) 1) (by intro a; match a with | ⟨0, _⟩ => rfl))
  isplitl [H4]; · iexact H4
  iintro H4
  iapply (own_smem (x := ValueIdx.ix1 (n := 2) 0) (by intro a; match a with | ⟨0, _⟩ => rfl))
  isplitl [H6]; · iexact H6
  iintro H6
  iapply (own_smem (x := ValueIdx.ix1 (n := 2) 1) (by intro a; match a with | ⟨0, _⟩ => rfl))
  isplitl [H6]; · iexact H6
  iintro H6
  iapply (own_load (by intro a; match a with | ⟨0, _⟩ => rfl | ⟨1, _⟩ => rfl))
  isplitl [H1]; · iexact H1
  iintro H1
  iapply (own_load (by intro a; match a with | ⟨0, _⟩ => rfl | ⟨1, _⟩ => rfl))
  isplitl [H2]; · iexact H2
  iintro H2
  iapply (own_load (by intro a; match a with | ⟨0, _⟩ => rfl | ⟨1, _⟩ => rfl))
  isplitl [H10]; · iexact H10
  iintro H10
  iapply (own_store (by intro a; match a with | ⟨0, _⟩ => rfl | ⟨1, _⟩ => rfl))
  isplitl [H10]; · iexact H10
  iintro H10
  iapply (own_load (by intro a; match a with | ⟨0, _⟩ => rfl | ⟨1, _⟩ => rfl))
  isplitl [H11]; · iexact H11
  iintro H11
  iapply (own_store (by intro a; match a with | ⟨0, _⟩ => rfl | ⟨1, _⟩ => rfl))
  isplitl [H11]; · iexact H11
  iintro H11
  iapply (own_load (by intro a; match a with | ⟨0, _⟩ => rfl | ⟨1, _⟩ => rfl))
  isplitl [H0]; · iexact H0
  iintro H0
  iapply (own_smem (x := ValueIdx.ix1 (n := 2) 0) (by intro a; match a with | ⟨0, _⟩ => rfl))
  isplitl [H4]; · iexact H4
  iintro H4
  iapply (own_smem (x := ValueIdx.ix1 (n := 2) 1) (by intro a; match a with | ⟨0, _⟩ => rfl))
  isplitl [H4]; · iexact H4
  iintro H4
  iapply (loop2 (ft := ft) (isTab pt hft) hlt rfl rfl _ _ _ _ _ _ _ _ _ _)
  isplitl [HR]; · iexact HR
  isplitl [HT]; · iexact HT
  isplitl [HO]; · iexact HO
  isplitl [HS]
  · iapply (scores_none _ _); iexact HS
  iintro ⟨HR, HT, HO, HS⟩
  iapply (wp_loop3 _ _ _ _ _)
  iapply (loop4 (ft := ft) (isTab pt hft) hlt rfl _ _ _ _ _ _)
  isplitl [HR]; · iexact HR
  isplitl [HT]; · iexact HT
  isplitl [HO]; · iexact HO
  isplitl [HS]; · iexact HS
  iintro ⟨HI, HT, HO, HS⟩
  iapply (wp_loop5 _ _ _ _ _)
  iapply (own_smem (x := ValueIdx.ix1 (n := 2) 0) (by intro a; match a with | ⟨0, _⟩ => rfl))
  isplitl [H6]; · iexact H6
  iintro H6
  iapply (own_smem (x := ValueIdx.ix1 (n := 2) 1) (by intro a; match a with | ⟨0, _⟩ => rfl))
  isplitl [H6]; · iexact H6
  iintro H6
  iapply (own_load (by intro a; match a with | ⟨0, _⟩ => rfl | ⟨1, _⟩ => rfl))
  isplitl [H9]; · iexact H9
  iintro H9
  iapply (own_store (by intro a; match a with | ⟨0, _⟩ => rfl | ⟨1, _⟩ => rfl))
  isplitl [H9]; · iexact H9
  iintro H9
  iapply own_pure
  isplitl [H0]; · iexact H0
  isplitl [H1]; · iexact H1
  isplitl [H2]; · iexact H2
  isplitl [H4]; · iexact H4
  isplitl [H6]; · iexact H6
  isplitl [H8]; · iexact H8
  isplitl [HT]
  · unfold owns; iexists ft; isplitr; · ipureintro; exact hft
    iexact HT
  isplitl [H9]; · iexact H9
  isplitl [H10]; · iexact H10
  isplitl [H11]; · iexact H11
  isplitl [HS]; · iapply (scores_some _ _ _); iexact HS
  isplitl [HI]; · iexact HI
  iexact HO

end Cert.Kernel.Hand

end
-- ==== Proof.K.Frame.lean ====
/-
  The run: the launch of the kernel from any memory whose page table's words are page numbers. It names what the three
  results hold and says that every argument and every semaphore ends as it was.
-/
module

public import proofs.«01_k».proof.Proof.K.Start
public import proofs.«01_k».proof.Proof.K.Body
public import proofs.«01_k».proof.Proof.Gen.Kernel.Frame
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's resource algebra: the pipeline library's beside the counters of the kernel's own copies. -/
local notation "𝕄" => MT nD τ sig Unit (Elt F) ℕ (Pipeline.UD sig nD τ) ℕ

variable (m : (ℓ : Loc nD τ sig) → Buf (Elt F) ℓ) (ρ : Dev nD → PrngReg)

/-! ## What the launch hands the body -/

/-- The kernel's own semaphores. -/
abbrev osem0 : Fin 24 → SemLoc sig := fun k => .dma (cell k)
/-- The unscoped buffers the body reads by its own copies. -/
abbrev H0 : Finset (Ref sig .tc) := {main_v3, main_v4}

theorem ownSemFacts0 : Pipeline.OwnSemFacts spec0 osem0 := by decide
theorem H0_sub : H0 ⊆ Pipeline.restRefs sig spec0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem pools_eq (c : Dev nD) (f : (b : Ref sig .tc) → Buf (Elt F) ((c : Thread nD τ).loc b)) :
    (bigSep H0 (fun b => ((c : Thread nD τ).loc b ↦{fullShare} f b)) : sProp 𝕄)
      = iprop((kM.view.loc (c : Thread nD τ) ↦{fullShare} f main_v3) ∗ (vM.view.loc (c : Thread nD τ) ↦{fullShare} f main_v4)) := by
  rw [BI.bigSep_eq_bigSepL_of_eq [main_v3, main_v4] (by decide) (by decide)]; rfl

/-- The launch's resources in the body's words. -/
theorem Phi_in (c : Dev nD) : (Pipeline.ΦD osem0 spec0 H0 (V m) c : sProp 𝕄)
    ⊢ iprop((∃ f : Buf (Elt F) (scoreLoc c), scoreLoc c ↦{fullShare} f) ∗ bigSep Finset.univ (fun k : Fin 24 => idle c (V m c main_v3) (V m c main_v4) k)
      ∗ (poolRest c (V m c main_v3) (V m c main_v4) ∗ (∃ r, prngReg c r))) := by
  rw [Pipeline.ΦD_eq, scopedRest0_eq, pools_eq]
  unfold Pipeline.ownSems0
  iintro ⟨⟨HR, HS⟩, Hg, Hs, HK, HV⟩
  isplitl [HS]; · iexact HS
  ihave H := (ring_in c (V m c main_v3) (V m c main_v4)) $$ [HR Hs HK HV]
  · isplitl [Hs]; · iexact Hs
    isplitl [HR]; · iexact HR
    isplitl [HK]; · iexact HK
    iexact HV
  icases H with ⟨HI, HP⟩
  isplitl [HI]; · iexact HI
  isplitl [HP]; · iexact HP
  iexact Hg

theorem Phi_out (c : Dev nD) : (iprop((∃ f : Buf (Elt F) (scoreLoc c), scoreLoc c ↦{fullShare} f) ∗ bigSep Finset.univ (fun k : Fin 24 => idle c (V m c main_v3) (V m c main_v4) k)
      ∗ (poolRest c (V m c main_v3) (V m c main_v4) ∗ (∃ r, prngReg c r))) : sProp 𝕄) ⊢ Pipeline.ΦD osem0 spec0 H0 (V m) c := by
  rw [Pipeline.ΦD_eq, scopedRest0_eq, pools_eq]
  unfold Pipeline.ownSems0
  iintro ⟨HS, HI, HP, Hg⟩
  ihave H := (ring_out c (V m c main_v3) (V m c main_v4)) $$ [HI HP]
  · isplitl [HI]; · iexact HI
    iexact HP
  icases H with ⟨Hs, HR, HK, HV⟩
  isplitl [HR HS]
  · isplitl [HR]; · iexact HR
    iexact HS
  isplitl [Hg]; · iexact Hg
  isplitl [Hs]; · iexact Hs
  isplitl [HK]; · iexact HK
  iexact HV

/-! ## The windows' blocks are the arrays -/

theorem iblk0 (c : Dev nD) (t : Fin cfg0.N) : iblk m c 0 t = V m c main_v0 := by
  obtain rfl := fin_N0 t
  funext i
  show V m c main_v0 _ = V m c main_v0 i
  congr 1; funext a; apply Fin.ext
  match a with
  | ⟨0, _⟩ => show 0 * 16 + 1 * (i 0).val = (i 0).val; omega
  | ⟨1, _⟩ => show 0 * 128 + 1 * (i 1).val = (i 1).val; omega
theorem iblk1 (c : Dev nD) (t : Fin cfg0.N) : iblk m c 1 t = V m c main_v1 := by
  obtain rfl := fin_N0 t
  funext i
  show V m c main_v1 _ = V m c main_v1 i
  congr 1; funext a; apply Fin.ext
  match a with
  | ⟨0, _⟩ => show 0 * 2 + 1 * (i 0).val = (i 0).val; omega
  | ⟨1, _⟩ => show 0 * 128 + 1 * (i 1).val = (i 1).val; omega
theorem iblk2 (c : Dev nD) (t : Fin cfg0.N) : iblk m c 2 t = V m c main_v2 := by
  obtain rfl := fin_N0 t
  funext i
  show V m c main_v2 _ = V m c main_v2 i
  congr 1; funext a; apply Fin.ext
  match a with
  | ⟨0, _⟩ => show 0 * 2 + 1 * (i 0).val = (i 0).val; omega
  | ⟨1, _⟩ => show 0 * 128 + 1 * (i 1).val = (i 1).val; omega
theorem iblk3 (c : Dev nD) (t : Fin cfg0.N) : iblk m c 3 t = V m c main_arg4 := by
  obtain rfl := fin_N0 t
  funext i
  show V m c main_arg4 _ = V m c main_arg4 i
  congr 1; funext a; apply Fin.ext
  match a with
  | ⟨0, _⟩ => show 0 * 2 + 1 * (i 0).val = (i 0).val; omega
theorem iblk4 (c : Dev nD) (t : Fin cfg0.N) : iblk m c 4 t = V m c main_arg6 := by
  obtain rfl := fin_N0 t
  funext i
  show V m c main_arg6 _ = V m c main_arg6 i
  congr 1; funext a; apply Fin.ext
  match a with
  | ⟨0, _⟩ => show 0 * 2 + 1 * (i 0).val = (i 0).val; omega
theorem iblk5 (c : Dev nD) (t : Fin cfg0.N) : iblk m c 5 t = V m c main_arg7 := by
  obtain rfl := fin_N0 t
  funext i
  show V m c main_arg7 _ = V m c main_arg7 i
  congr 1; funext a; apply Fin.ext
  match a with
  | ⟨0, _⟩ => show 0 * 1 + 1 * (i 0).val = (i 0).val; omega
  | ⟨1, _⟩ => show 0 * 1024 + 1 * (i 1).val = (i 1).val; omega
theorem iblk6 (c : Dev nD) (t : Fin cfg0.N) : iblk m c 6 t = V m c main_arg8 := by
  obtain rfl := fin_N0 t
  funext i
  show V m c main_arg8 _ = V m c main_arg8 i
  congr 1; funext a; apply Fin.ext
  match a with
  | ⟨0, _⟩ => show 0 * 1 + 1 * (i 0).val = (i 0).val; omega

/-! ## The proof data -/

/-- The attention's result, of the memory at launch. -/
def yOut (c : Dev nD) : FVec F S16x128 .bf16 :=
  yRes (V m c main_v0) (V m c main_v1) (V m c main_v2) (V m c main_arg4) (V m c main_arg6) (V m c main_arg7) (V m c main_arg8) (V m c main_v3) (V m c main_v4)
/-- The new key's code. -/
def kOut (c : Dev nD) : FVec F S2x128 .fp8e4m3 := kRes (V m c main_v1) (V m c main_arg4)
/-- The new value's code. -/
def vOut (c : Dev nD) : FVec F S2x128 .fp8e4m3 := vRes (V m c main_v2) (V m c main_arg6)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOut m c
    | ⟨8, _⟩ => kOut m c
    | ⟨9, _⟩ => vOut m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = yOut m c := by dsimp only [dats]
theorem after8 (c : Dev nD) (t : Fin cfg0.N) : (dats m 0 c).after 8 t = kOut m c := by dsimp only [dats]
theorem after9 (c : Dev nD) (t : Fin cfg0.N) : (dats m 0 c).after 9 t = vOut m c := by dsimp only [dats]

/-- An input window's staging buffer holds its block when the body starts. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body at the point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

attribute [local irreducible] cc0_paged_fp8_decode

theorem body_at (c : Dev nD) (t : Fin cfg0.N) (hlt : ∀ n < 1024, (tabOf (V m c main_arg7) n).toNat < 1024) (y9 : FVec F S16x128 .bf16) (y10 y11 : FVec F S2x128 .fp8e4m3) (R : sProp 𝕄) :
    iprop((owns (c : Thread nD τ) (st0_0 t) fullShare (V m c main_v0) ∗ owns (c : Thread nD τ) (st0_1 t) fullShare (V m c main_v1) ∗ owns (c : Thread nD τ) (st0_2 t) fullShare (V m c main_v2)
        ∗ owns (c : Thread nD τ) (st0_3 t) fullShare (V m c main_arg4) ∗ owns (c : Thread nD τ) (st0_4 t) fullShare (V m c main_arg6) ∗ owns (c : Thread nD τ) (st0_6 t) fullShare (V m c main_arg8)
        ∗ owns (c : Thread nD τ) (st0_5 t) fullShare (V m c main_arg7)
        ∗ owns (c : Thread nD τ) (st0_7 t) fullShare y9 ∗ owns (c : Thread nD τ) (st0_8 t) fullShare y10 ∗ owns (c : Thread nD τ) (st0_9 t) fullShare y11
        ∗ (∃ f : Buf (Elt F) (scoreLoc c), scoreLoc c ↦{fullShare} f) ∗ (bigSep Finset.univ (fun k : Fin 24 => idle c (V m c main_v3) (V m c main_v4) k)) ∗ owing c) ∗ R)
      ⊢ W c (bodyAt0 t) (fun _ => iprop((owns (c : Thread nD τ) (st0_0 t) fullShare (V m c main_v0) ∗ owns (c : Thread nD τ) (st0_1 t) fullShare (V m c main_v1) ∗ owns (c : Thread nD τ) (st0_2 t) fullShare (V m c main_v2)
        ∗ owns (c : Thread nD τ) (st0_3 t) fullShare (V m c main_arg4) ∗ owns (c : Thread nD τ) (st0_4 t) fullShare (V m c main_arg6) ∗ owns (c : Thread nD τ) (st0_6 t) fullShare (V m c main_arg8)
        ∗ owns (c : Thread nD τ) (st0_5 t) fullShare (V m c main_arg7)
        ∗ owns (c : Thread nD τ) (st0_7 t) fullShare (yOut m c) ∗ owns (c : Thread nD τ) (st0_8 t) fullShare (kOut m c) ∗ owns (c : Thread nD τ) (st0_9 t) fullShare (vOut m c)
        ∗ (∃ f : Buf (Elt F) (scoreLoc c), scoreLoc c ↦{fullShare} f) ∗ (bigSep Finset.univ (fun k : Fin 24 => idle c (V m c main_v3) (V m c main_v4) k)) ∗ owing c) ∗ R)) := by
  iintro ⟨H, HR⟩
  iapply (wp_wand_r frame _ Set.univ)
  isplitl [H]
  · iapply (body_wp (V m c main_v0) (V m c main_v1) (V m c main_v2) (V m c main_arg4) (V m c main_arg6) (V m c main_arg7) (V m c main_arg8) y9 y10 y11 (V m c main_v3) (V m c main_v4) hlt)
    iexact H
  iintro %u
  iintro H
  isplitl [H]; · iexact H
  iexact HR

set_option maxHeartbeats 2000000 in
theorem sound_body (hlt : ∀ c : Dev nD, ∀ n < 1024, (tabOf (V m c main_arg7) n).toNat < 1024) (c : Dev nD) (t : Fin cfg0.N) :
    bodyPre m c t ⊢ W c (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl]
  rw [after0, after1, after2, after3, after4, after5, after6, after7, after8, after9]
  unfold Dat.owesAt Pipeline.owesWithin
  rw [show (dats m 0 c).owed t.castSucc = 0 from rfl, show (dats m 0 c).owed t.succ = 0 from rfl]
  simp only [before0, before1, before2, before3, before4, before5, before6]
  rw [iblk0, iblk1, iblk2, iblk3, iblk4, iblk5, iblk6]
  iintro ⟨HΦ, ⟨%Ws, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ := (Phi_in m c) $$ HΦ
  icases HΦ with ⟨HS, HI, HP⟩
  iapply (wp_wand_r frame _ Set.univ)
  isplitl [H0 H1 H2 H3 H4 H5 H6 H7 H8 H9 HS HI HP HW]
  · iapply (body_at m c t (hlt c) _ _ _ _)
    isplitr [HP]
    · isplitl [H0]; · iexact H0
      isplitl [H1]; · iexact H1
      isplitl [H2]; · iexact H2
      isplitl [H3]; · iexact H3
      isplitl [H4]; · iexact H4
      isplitl [H6]; · iexact H6
      isplitl [H5]; · iexact H5
      isplitl [H7]; · iexact H7
      isplitl [H8]; · iexact H8
      isplitl [H9]; · iexact H9
      isplitl [HS]; · iexact HS
      isplitl [HI]; · iexact HI
      unfold owing
      iexists Ws
      iexact HW
    · iexact HP
  iintro %u
  unfold owing
  iintro ⟨⟨H0, H1, H2, H3, H4, H6, H5, H7, H8, H9, HS, HI, ⟨%W', HW'⟩⟩, HP⟩
  isplitl [HS HI HP]
  · iapply (Phi_out m c)
    isplitl [HS]; · iexact HS
    isplitl [HI]; · iexact HI
    iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (hlt : ∀ c : Dev nD, ∀ n < 1024, (tabOf (V m c main_arg7) n).toNat < 1024) (c : Dev nD) :
    BodyObligation (dats (F := F) m 0 c) (defs₀ (F := F)) Variants.none () Set.univ := fun t => by
  rw [bigSep_W0, bigSep_W0, defs₀_row]
  exact triple_restated (sound_body m hlt c t) rfl .rfl fun _ => .rfl

/-! ## The run -/

set_option backward.isDefEq.respectTransparency.types false in
theorem run_main (hlt : ∀ c : Dev nD, ∀ n < 1024, (tabOf (V m c main_arg7) n).toNat < 1024) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hlt c).loose) (hshare := fun c => (dats m 0 c).share_full fun _ => rfl)
    (howed := fun _ _ => rfl) (V := V m) (hmain := hmain m Variants.none) (hA := A_eq m)
    (hin := fun _ => .rfl) (hout := fun _ => .rfl)

end Cert.Kernel.Hand

end
-- ==== Proof.K.Run.lean ====
/-
  What the run leaves: the three results named, every argument as launched, every semaphore at zero.
-/
module

public import proofs.«01_k».proof.Proof.K.Frame

@[expose] public section

noncomputable section

namespace Cert.Kernel.Hand

open Cert.Kernel Cert.Kernel.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => absurd ((fin_N0 t).trans (fin_N0 t').symm) hne
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => absurd ((fin_N0 t).trans (fin_N0 t').symm) hne
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => absurd ((fin_N0 t).trans (fin_N0 t').symm) hne

/-- The first result's array after the run. -/
theorem arr7 (c : Dev nD) : (dats m 0 c).arrAt 7 cfg0.N = yOut m c := by
  have h := (dats m 0 c).read_blk_arrAt_eq_flushed 7 disjoint7 cfg0.N t0_0 t0_0.isLt (flush0_7 t0_0)
  have hf : (dats m 0 c).flushed 7 t0_0 = yOut m c := by
    show (cfg0.win 7).cut (grid0.coords t0_0) ((dats m 0 c).after 7 t0_0) = _
    rw [after7]; rfl
  rw [hf] at h
  rw [← h]
  funext i
  show _ = (dats m 0 c).arrAt 7 cfg0.N _
  congr 1; funext a; apply Fin.ext
  match a with
  | ⟨0, _⟩ => show (i 0).val = 0 * 16 + 1 * (i 0).val; omega
  | ⟨1, _⟩ => show (i 1).val = 0 * 128 + 1 * (i 1).val; omega
theorem arr8 (c : Dev nD) : (dats m 0 c).arrAt 8 cfg0.N = kOut m c := by
  have h := (dats m 0 c).read_blk_arrAt_eq_flushed 8 disjoint8 cfg0.N t0_0 t0_0.isLt (flush0_8 t0_0)
  have hf : (dats m 0 c).flushed 8 t0_0 = kOut m c := by
    show (cfg0.win 8).cut (grid0.coords t0_0) ((dats m 0 c).after 8 t0_0) = _
    rw [after8]; rfl
  rw [hf] at h
  rw [← h]
  funext i
  show _ = (dats m 0 c).arrAt 8 cfg0.N _
  congr 1; funext a; apply Fin.ext
  match a with
  | ⟨0, _⟩ => show (i 0).val = 0 * 2 + 1 * (i 0).val; omega
  | ⟨1, _⟩ => show (i 1).val = 0 * 128 + 1 * (i 1).val; omega
theorem arr9 (c : Dev nD) : (dats m 0 c).arrAt 9 cfg0.N = vOut m c := by
  have h := (dats m 0 c).read_blk_arrAt_eq_flushed 9 disjoint9 cfg0.N t0_0 t0_0.isLt (flush0_9 t0_0)
  have hf : (dats m 0 c).flushed 9 t0_0 = vOut m c := by
    show (cfg0.win 9).cut (grid0.coords t0_0) ((dats m 0 c).after 9 t0_0) = _
    rw [after9]; rfl
  rw [hf] at h
  rw [← h]
  funext i
  show _ = (dats m 0 c).arrAt 9 cfg0.N _
  congr 1; funext a; apply Fin.ext
  match a with
  | ⟨0, _⟩ => show (i 0).val = 0 * 2 + 1 * (i 0).val; omega
  | ⟨1, _⟩ => show (i 1).val = 0 * 128 + 1 * (i 1).val; omega

/-- Every word of the page table is a page number. -/
def TableOk : Prop := ∀ (c : Dev nD) (i : S1x1024.Idx), ((m ((c : Thread nD τ).loc main_arg7) : IVec S1x1024 32) i).toNat < 1024

theorem hlt_of (h : TableOk m) (c : Dev nD) : ∀ n < 1024, (tabOf (V m c main_arg7) n).toNat < 1024 := by
  intro n hn
  unfold tabOf
  rw [dif_pos hn, V_main_arg7]
  exact h c _

/-- The run, its results named and its arguments unchanged. -/
theorem run_value (h : TableOk m) : θ_run defs (onTc (τ := τ) (main (F := F))) ⟨m, fun _ => 0, ρ⟩ (fun r => (∀ c : Dev nD,
      r.2.mem ((c.tc : Thread nD τ).loc main_v5_0) = yOut m c
      ∧ r.2.mem ((c.tc : Thread nD τ).loc main_v5_1) = kOut m c
      ∧ r.2.mem ((c.tc : Thread nD τ).loc main_v5_2) = vOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hr => ⟨fun c =>
    ⟨(hr.1 c).1 7 |>.trans (arr7 m c), (hr.1 c).1 8 |>.trans (arr8 m c), (hr.1 c).1 9 |>.trans (arr9 m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).1 3).trans (((dats m 0 c).arrAt_in 3 rfl _).trans ((A_eq m c 3).trans (V_main_arg4 m c))),
      ((hr.1 c).2 main_arg5 (Pipeline.mem_restRefs_of main_arg5 (by decide) (by decide))).trans (V_main_arg5 m c),
      ((hr.1 c).1 4).trans (((dats m 0 c).arrAt_in 4 rfl _).trans ((A_eq m c 4).trans (V_main_arg6 m c))),
      ((hr.1 c).1 5).trans (((dats m 0 c).arrAt_in 5 rfl _).trans ((A_eq m c 5).trans (V_main_arg7 m c))),
      ((hr.1 c).1 6).trans (((dats m 0 c).arrAt_in 6 rfl _).trans ((A_eq m c 6).trans (V_main_arg8 m c)))⟩, hr.2⟩)
    (run_main m ρ (hlt_of m h))

/-- The frame: the run ends, every argument as launched and every semaphore at zero. -/
theorem frame (h : TableOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hr => ⟨fun c => (hr.1 c).2.2.2, hr.2⟩) (run_value m ρ h)

end Cert.Kernel.Hand

end
-- ==== Proof.KI.Pages.lean ====
/-
  The page ring, one page at a time. The kernel keeps 24 slots of 16 pages in VMEM; a step fills one slot by 16
  copies, each of one page of the pool (K or V) chosen by the page table, all on the slot's one DMA semaphore.
  This module names the elements of one page of the ring, says what a copied page holds, and proves the rule for
  issuing one copy.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Batch
public import Idealize.ShloMosaic.Lib.ValueLayout
public import Idealize.ShloMosaic.Lib.Exec
public import Idealize.ShloMosaic.Lib.Tactic
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

/-- The counters' embedding. -/
abbrev EC : UEmb Counters 𝕄 := countersEmb (U := Pipeline.UD sig nD τ)

/-! ## The buffers -/

/-- The ring of 24 slots of 16 pages. -/
abbrev ringM : Memref sig .tc .vmem S24x16x2x128x128 .fp8e4m3 := Memref.whole cc0_scratch0
/-- The scores of every cached token. -/
abbrev scoreM : Memref sig .tc .vmem S16x131072 .f32 := Memref.whole cc0_scratch1
/-- The pool of K pages, heads before tokens. -/
abbrev kM : Memref sig .tc .hbm S1024x2x128x128 .fp8e4m3 := Memref.whole main_v3
/-- The pool of V pages, heads before tokens. -/
abbrev vM : Memref sig .tc .hbm S1024x2x128x128 .fp8e4m3 := Memref.whole main_v4

/-- The ring's contents. -/
abbrev RingBuf : Type := (⟨S24x16x2x128x128, .fp8e4m3⟩ : BufTy).Contents (Elt F)
/-- A pool's contents. -/
abbrev PoolBuf : Type := (⟨S1024x2x128x128, .fp8e4m3⟩ : BufTy).Contents (Elt F)

/-- Page `off` of the ring, as the kernel's copies name it. -/
abbrev pageDst (off : Fin 5 → ℕ) (inb : ∀ a, off a + S1x1x2x128x128.size a ≤ S24x16x2x128x128.size a) :
    Memref sig .tc .vmem S2x128x128 .fp8e4m3 :=
  (ringM.slice (Rect.unit (s := S24x16x2x128x128) off S1x1x2x128x128.size inb) (fun _ => rfl)).squeeze S2x128x128 squeezes_S1x1x2x128x128_S2x128x128

/-- Page `off` of a pool, as the kernel's copies name it. -/
abbrev pageSrc (M : Memref sig .tc .hbm S1024x2x128x128 .fp8e4m3) (off : Fin 4 → ℕ) (inb : ∀ a, off a + S1x2x128x128.size a ≤ S1024x2x128x128.size a) :
    Memref sig .tc .hbm S2x128x128 .fp8e4m3 :=
  (M.slice (Rect.unit (s := S1024x2x128x128) off S1x2x128x128.size inb) (fun _ => rfl)).squeeze S2x128x128 squeezes_S1x2x128x128_S2x128x128

/-- The semaphore at `off`, as the kernel names it. -/
abbrev semAt (off : Fin 1 → ℕ) (inb : ∀ a, off a + S1.size a ≤ S24.size a) : DmaSem sig :=
  ((cc0_scratch2.slice (Rect.unit (s := S24) off S1.size inb)).squeeze S_ squeezes_S1_S_).sem

theorem slot_inb (k : Fin 24) : ∀ a, (![k.val] : Fin 1 → ℕ) a + S1.size a ≤ S24.size a := by
  intro a; fin_cases a; show k.val + 1 ≤ 24; omega

/-- Slot `k`'s semaphore. -/
def cell (k : Fin 24) : DmaSem sig := semAt ![k.val] (slot_inb k)

/-- The ring's elements in page `p` of slot `k`. -/
def pset (k p : ℕ) : Finset S24x16x2x128x128.Idx := Finset.univ.filter fun i => (i 0).val = k ∧ (i 1).val = p

/-- The ring's elements in slot `k`. -/
def kset (k : ℕ) : Finset S24x16x2x128x128.Idx := Finset.univ.filter fun i => (i 0).val = k

theorem set_pageDst (k p : ℕ) (inb) : (pageDst ![k, p, 0, 0, 0] inb).view.set = pset k p := by
  ext i
  rw [set_view_squeeze]
  show i ∈ ((Memref.whole cc0_scratch0).view.slice _).set ↔ _
  rw [View.set_slice_whole (b := cc0_scratch0), Rect.mem_set_unit]
  unfold pset
  rw [Finset.mem_filter]
  have h2 : (i 2).val < 2 := (i 2).isLt
  have h3 : (i 3).val < 128 := (i 3).isLt
  have h4 : (i 4).val < 128 := (i 4).isLt
  constructor
  · intro h
    have h0 : k ≤ (i 0).val ∧ (i 0).val < k + 1 := h 0
    have h1 : p ≤ (i 1).val ∧ (i 1).val < p + 1 := h 1
    exact ⟨Finset.mem_univ _, by omega, by omega⟩
  · rintro ⟨-, e0, e1⟩ a
    match a with
    | ⟨0, _⟩ => show k ≤ (i 0).val ∧ (i 0).val < k + 1; omega
    | ⟨1, _⟩ => show p ≤ (i 1).val ∧ (i 1).val < p + 1; omega
    | ⟨2, _⟩ => show 0 ≤ (i 2).val ∧ (i 2).val < 0 + 2; omega
    | ⟨3, _⟩ => show 0 ≤ (i 3).val ∧ (i 3).val < 0 + 128; omega
    | ⟨4, _⟩ => show 0 ≤ (i 4).val ∧ (i 4).val < 0 + 128; omega

/-- The ring with the 16 pages `tab (b + 0), …, tab (b + 15)` of a pool in every slot. -/
def blockBuf (tab : ℕ → BitVec 32) (b : ℕ) (f : PoolBuf (F := F)) : RingBuf (F := F) :=
  fun i => f (ix4 (n0 := 1024) (n1 := 2) (n2 := 128) (n3 := 128) (Fin.ofNat 1024 (tab (b + (i 1).val)).toNat) (i 2) (i 3) (i 4))

/-- The element of the ring that index `(x, y, z)` of page `(k, p)` names. -/
theorem pageDst_emb (k p : ℕ) (inb) (x : Fin 2) (y z : Fin 128) (hk : k < 24) (hp : p < 16) :
    (pageDst ![k, p, 0, 0, 0] inb).view.emb (ix3 x y z) = (ix5 (n0 := 24) (n1 := 16) (n2 := 2) (n3 := 128) (n4 := 128) ⟨k, hk⟩ ⟨p, hp⟩ x y z) := by
  show (Rect.unit (s := S24x16x2x128x128) ![k, p, 0, 0, 0] S1x1x2x128x128.size inb).emb (Shape.reshapeEquiv _ (ix3 x y z)) = _
  rw [reshapeEquiv_ix3_11abc]
  funext a
  apply Fin.ext
  match a with
  | ⟨0, _⟩ => show k + 1 * 0 = k; omega
  | ⟨1, _⟩ => show p + 1 * 0 = p; omega
  | ⟨2, _⟩ => show 0 + 1 * x.val = x.val; omega
  | ⟨3, _⟩ => show 0 + 1 * y.val = y.val; omega
  | ⟨4, _⟩ => show 0 + 1 * z.val = z.val; omega

/-- What a page of a pool reads at index `(x, y, z)`. -/
theorem pageSrc_read {M : Memref sig .tc .hbm S1024x2x128x128 .fp8e4m3} {f : M.view.ty.Contents (Elt F)} {pool : PoolBuf (F := F)}
    (hM : M.view.read (Elt F) f = pool) (w : ℕ) (hw : w < 1024) (inb) (x : Fin 2) (y z : Fin 128) :
    (pageSrc M ![w, 0, 0, 0] inb).view.read (Elt F) f (ix3 x y z) = pool (ix4 (n0 := 1024) (n1 := 2) (n2 := 128) (n3 := 128) ⟨w, hw⟩ x y z) := by
  rw [← hM]
  show M.view.read (Elt F) f ((Rect.unit (s := S1024x2x128x128) ![w, 0, 0, 0] S1x2x128x128.size inb).emb (Shape.reshapeEquiv _ (ix3 x y z))) = _
  rw [reshapeEquiv_ix3_1abc]
  congr 1
  funext a
  apply Fin.ext
  match a with
  | ⟨0, _⟩ => show w + 1 * 0 = w; omega
  | ⟨1, _⟩ => show 0 + 1 * x.val = x.val; omega
  | ⟨2, _⟩ => show 0 + 1 * y.val = y.val; omega
  | ⟨3, _⟩ => show 0 + 1 * z.val = z.val; omega

/-- A copied page holds what `blockBuf` says. -/
theorem page_landed {M : Memref sig .tc .hbm S1024x2x128x128 .fp8e4m3} {f : M.view.ty.Contents (Elt F)} {pool : PoolBuf (F := F)}
    (hM : M.view.read (Elt F) f = pool) (tab : ℕ → BitVec 32) (b k p : ℕ) (hk : k < 24) (hp : p < 16)
    (hw : (tab (b + p)).toNat < 1024) (inb) (inb') (g : RingBuf (F := F)) :
    ∀ i ∈ pset k p, (pageDst ![k, p, 0, 0, 0] inb).view.write (Elt F) g (ReadAs.same.apply ((pageSrc M ![(tab (b + p)).toNat, 0, 0, 0] inb').view.read (Elt F) f)) Finset.univ i = blockBuf tab b pool i := by
  intro i hi
  rw [← set_pageDst k p inb] at hi
  obtain ⟨x, -, rfl⟩ := Finset.mem_map.mp hi
  rw [View.write_emb_of_mem _ _ (Finset.mem_univ x)]
  obtain ⟨x0, x1, x2, rfl⟩ : ∃ a b c, x = ix3 a b c := ⟨_, _, _, eq_ix3 x⟩
  rw [pageDst_emb k p inb x0 x1 x2 hk hp]
  show (pageSrc M _ inb').view.read (Elt F) f (ix3 x0 x1 x2) = _
  rw [pageSrc_read hM _ hw]
  unfold blockBuf
  congr 1
  funext a
  apply Fin.ext
  match a with
  | ⟨0, _⟩ => show (tab (b + p)).toNat = (tab (b + p)).toNat % 1024; rw [Nat.mod_eq_of_lt hw]
  | ⟨1, _⟩ => rfl
  | ⟨2, _⟩ => rfl
  | ⟨3, _⟩ => rfl

/-! ## Issuing a copy that carries a resource -/

/-- The issue of a batch's next copy, with a resource `put` that goes into the copy's delivery. -/
theorem wp_dmaBatch_with {α : Type} {n : ℕ} (c : Thread nD τ) {sp sp' : Space} {s s₀ : Shape} {e e₀ : EltTy} {Q : α → sProp 𝕄}
    {src : Memref sig c.2.kind sp s₀ e₀} {via : ReadAs (Elt F) s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {q : PosShare TreeShare} {fs : Buf (Elt F) (src.view.loc c)}
    {Sd : Finset (Idx (dst.view.loc c))} {fd : Buf (Elt F) (dst.view.loc c)} {put : sProp 𝕄}
    {D : Fin n → sProp 𝕄} {j u : ℕ}
    (N : ℕ) (hN : dst.view.amount sm = N) (hSd : dst.view.set ⊆ Sd) (hj : j < n) (hu : u ≤ j * N)
    (hD : iprop(put ∗ ((dst.view.loc c ↦[Sd]{fullShare} (dst.view.write (Elt F) fd (via.apply (src.view.read (Elt F) fs)) Finset.univ))
              ∗ (src.view.loc c ↦[src.view.set]{q} fs))) ⊢ D ⟨j, hj⟩) :
    iprop((src.view.loc c ↦[src.view.set]{q} fs) ∗ (dst.view.loc c ↦[Sd]{fullShare} fd) ∗ put ∗ Transfers.Batch EC c sm () N D j u)
      ⊢ iprop((Transfers.Batch EC c sm () N D (j + 1) u -∗ wp frame (wpE (defs₀ (F := F)) Variants.none c none) Set.univ (k ⟨⟩) Q)
          -∗ wp frame (wpE (defs₀ (F := F)) Variants.none c none) Set.univ (.op (.enqueueDmaAs src (.here dst) via sm hsrc hdst hsem) k) Q) := by
  unfold Transfers.Batch
  iintro ⟨Hs, Hd, Hput, ⟨%γ, %γ₀, %κ, #Hinv, HI, H0, Hcred⟩⟩ Hk
  ihave HI' := (show bigSep (Transfers.pending j) (fun t => count EC (γ t) 0) ⊢ iprop(count EC (γ ⟨j, hj⟩) 0 ∗ bigSep (Transfers.pending (j + 1)) (fun t => count EC (γ t) 0))
    from Entails.of_eq (by rw [Transfers.pending_succ hj, bigSep_insert (Transfers.not_mem_pending_succ hj)]; rfl)) $$ HI
  icases HI' with ⟨Ht, HI⟩
  iapply (wp_enqueueDmaAs Variants.none c none Set.univ () N hN) $$ [Hs Hd] [Ht Hput]
  · isplitl [Hs]; · iexact Hs
    iapply (pointsTo_writeUpdate c hSd) $$ Hd
  · iapply (Transfers.batch_creditUpdate_with EC ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-! ## The copies of one slot -/

variable (c : Dev nD)

/-- The units one page's copy adds to its semaphore. -/
def pageUnits : ℕ := sig.dmaCredit .tc (Kind.table .tc .vmem) (pageDst ![0, 0, 0, 0, 0] (by decide)).view.buf S2x128x128 .fp8e4m3

/-- The ring's location on the core. -/
abbrev ringLoc : Loc nD τ sig := (c : Thread nD τ).loc cc0_scratch0

/-- What page `p` of slot `k` waits for its copy with: its elements, and a read share of the pool. -/
def todo (M : Memref sig .tc .hbm S1024x2x128x128 .fp8e4m3) (f : Buf (Elt F) (M.view.loc (c : Thread nD τ))) (k p : ℕ) : sProp 𝕄 :=
  iprop((∃ g : Buf (Elt F) (ringLoc c), ringLoc c ↦[pset k p]{fullShare} g) ∗ (M.view.loc (c : Thread nD τ) ↦{Transfers.shareTokN fullShare (16 * k + p)} f))

/-- What page `p` of slot `k` gets from its copy: the page landed, and the read share back. -/
def done (M : Memref sig .tc .hbm S1024x2x128x128 .fp8e4m3) (f : Buf (Elt F) (M.view.loc (c : Thread nD τ))) (k : ℕ) (G : RingBuf (F := F)) (p : ℕ) : sProp 𝕄 :=
  iprop((ringLoc c ↦[pset k p]{fullShare} G) ∗ (M.view.loc (c : Thread nD τ) ↦{Transfers.shareTokN fullShare (16 * k + p)} f))

instance done_storable (M : Memref sig .tc .hbm S1024x2x128x128 .fp8e4m3) (f : Buf (Elt F) (M.view.loc (c : Thread nD τ))) (k : ℕ) (G : RingBuf (F := F)) (p : ℕ) :
    Storable (upEmb : UEmb _ 𝕄) (done (F := F) c M f k G p) := by
  unfold done; infer_instance

/-- Slot `k` with `p` of its 16 copies issued. -/
def issuing (M : Memref sig .tc .hbm S1024x2x128x128 .fp8e4m3) (f : Buf (Elt F) (M.view.loc (c : Thread nD τ))) (k : Fin 24) (G : RingBuf (F := F)) (p : ℕ) : sProp 𝕄 :=
  iprop(Transfers.Batch EC (c : Thread nD τ) (.dma (cell k)) () pageUnits (fun t : Fin 16 => done (F := F) c M f k.val G t.val) p 0
    ∗ bigSep (Transfers.pending (n := 16) p) (fun t => todo (F := F) c M f k.val t.val))

variable {c}

/-- The issue of one page's copy: page `p` of slot `k`, from the pool's page that the table names at `b + p`. -/
theorem wp_page {α : Type} {M : Memref sig .tc .hbm S1024x2x128x128 .fp8e4m3} {f : Buf (Elt F) (M.view.loc (c : Thread nD τ))} {pool : PoolBuf (F := F)}
    (hM : M.view.read (Elt F) f = pool) (tab : ℕ → BitVec 32) (b : ℕ) (k : Fin 24) (p : ℕ) (hp : p < 16) (w : BitVec 32) (hwt : w = tab (b + p))
    (hw : w.toNat < 1024)
    {oB : Fin 4 → ℕ} {iB} {oC : Fin 5 → ℕ} {iC} {oD : Fin 1 → ℕ} {iD}
    (hB : oB = ![w.toNat, 0, 0, 0]) (hC : oC = ![k.val, p, 0, 0, 0]) (hD : oD = ![k.val])
    {hsrc : (pageSrc M oB iB).view.WordExact} {hdst : (pageDst oC iC).view.WordExact} {hsem}
    {K : PUnit → Prog (TpuEff nD τ sig (Elt F) Λ₀ .tc) α} {Q : α → sProp 𝕄} {R : sProp 𝕄}
    (hk : iprop(issuing c M f k (blockBuf tab b pool) (p + 1) ∗ R)
      ⊢ wp frame (wpE (defs₀ (F := F)) Variants.none (c : Thread nD τ) none) Set.univ (K ⟨⟩) Q) :
    iprop(issuing c M f k (blockBuf tab b pool) p ∗ R)
      ⊢ wp frame (wpE (defs₀ (F := F)) Variants.none (c : Thread nD τ) none) Set.univ
          (.op (.enqueueDmaAs (pageSrc M oB iB) (.here (pageDst oC iC)) .same (.dma (semAt oD iD)) hsrc hdst hsem) K) Q := by
  subst hB; subst hC; subst hD; subst hwt
  refine (show _ ⊢ iprop((∃ g : Buf (Elt F) (ringLoc c), ringLoc c ↦[pset k.val p]{fullShare} g)
      ∗ ((pageSrc M ![(tab (b + p)).toNat, 0, 0, 0] iB).view.loc (c : Thread nD τ) ↦[(pageSrc M ![(tab (b + p)).toNat, 0, 0, 0] iB).view.set]{Transfers.shareTokN fullShare (16 * k.val + p)} f)
      ∗ (M.view.loc (c : Thread nD τ) ↦[Finset.univ \ (pageSrc M ![(tab (b + p)).toNat, 0, 0, 0] iB).view.set]{Transfers.shareTokN fullShare (16 * k.val + p)} f)
      ∗ Transfers.Batch EC (c : Thread nD τ) (.dma (cell k)) () pageUnits (fun t : Fin 16 => done (F := F) c M f k.val (blockBuf tab b pool) t.val) p 0
      ∗ bigSep (Transfers.pending (n := 16) (p + 1)) (fun t => todo (F := F) c M f k.val t.val) ∗ R) from ?_).trans ?_
  · unfold issuing
    rw [Transfers.bigSep_pending_step _ p hp]
    iintro ⟨⟨HB, Ht, Hp⟩, HR⟩
    unfold todo
    icases Ht with ⟨Hd, Hs⟩
    ihave Hs := (pointsTo_split_subset (Finset.subset_univ (pageSrc M ![(tab (b + p)).toNat, 0, 0, 0] iB).view.set)).1 $$ Hs
    icases Hs with ⟨Hs, Hr⟩
    isplitl [Hd]; · iexact Hd
    isplitl [Hs]; · iexact Hs
    isplitl [Hr]; · iexact Hr
    isplitl [HB]; · iexact HB
    isplitl [Hp]; · iexact Hp
    iexact HR
  · iintro ⟨⟨%g, Hd⟩, Hs, Hr, HB, Hp, HR⟩
    iapply (wp_dmaBatch_with (c : Thread nD τ) (src := pageSrc M ![(tab (b + p)).toNat, 0, 0, 0] iB) (via := .same) (dst := pageDst ![k.val, p, 0, 0, 0] iC)
      (sm := .dma (cell k)) (hsrc := hsrc) (hdst := hdst) (hsem := hsem) (Sd := pset k.val p) (fd := g)
      (q := Transfers.shareTokN fullShare (16 * k.val + p)) (fs := f)
      (put := (M.view.loc (c : Thread nD τ) ↦[Finset.univ \ (pageSrc M ![(tab (b + p)).toNat, 0, 0, 0] iB).view.set]{Transfers.shareTokN fullShare (16 * k.val + p)} f))
      (D := fun t : Fin 16 => done (F := F) c M f k.val (blockBuf tab b pool) t.val) (j := p) (u := 0)
      pageUnits rfl (set_pageDst k.val p iC).le hp (Nat.zero_le _) ?hD) $$ [Hs Hd Hr HB]
    case hD =>
      unfold done
      iintro ⟨Hr, Hd, Hs⟩
      isplitl [Hd]
      · iapply (Entails.of_eq (pointsTo_congr (page_landed hM tab b k.val p k.isLt hp hw iC iB g))) $$ Hd
      · iapply (pointsTo_split_subset (Finset.subset_univ (pageSrc M ![(tab (b + p)).toNat, 0, 0, 0] iB).view.set)).2 $$ [Hs Hr]
        isplitl [Hs]; · iexact Hs
        iexact Hr
    · isplitl [Hs]; · iexact Hs
      isplitl [Hd]; · iexact Hd
      isplitl [Hr]; · iexact Hr
      iexact HB
    iintro HB
    iapply hk
    unfold issuing
    isplitr [HR]
    · isplitl [HB]; · iexact HB
      iexact Hp
    · iexact HR

end Cert.KernelIdeal.Hand

end
-- ==== Proof.KI.Words.lean ====
/-
  The kernel's index words. `nbW v0` is the word the kernel computes for the number of 2048-token blocks that the
  sequence length `v0` reaches, clamped to 0..64, and `nb v0` is its value. Step `s` of the pipeline works on slot
  `s % 24`; the steps below `nb` read K blocks and the next `nb` read V blocks. This module reads the printed
  offsets and conditions as natural numbers, and proves the side condition the body assumes of every `v0`.
-/
module

public import proofs.«01_k».proof.Proof.Gen.KernelIdeal.Skeleton
public import proofs.«01_k».proof.Proof.Gen.KernelIdeal.Loops
public import Idealize.ShloMosaic.Lib.Affine

@[expose] public section

noncomputable section

namespace Cert.KernelIdeal.Hand

open Cert.KernelIdeal Cert.KernelIdeal.Gen
open Idealize.ShloMosaic Idealize.ShloMosaic.Affine

/-! ## Words that read as natural numbers -/

/-- The word `x` reads, signed, as the natural number `n`. -/
abbrev Reads (x : BitVec 32) (n : ℕ) : Prop := IsInt x (n : ℤ)

theorem isInt_toInt {x : BitVec 32} {e : ℤ} (h : IsInt x e) : x.toInt = e := by unfold IsInt at h; exact h

theorem reads_toNat {x : BitVec 32} {n : ℕ} (h : Reads x n) : x.toNat = n := by
  have h := isInt_toInt h
  rw [BitVec.toInt_eq_toNat_cond] at h
  split at h <;> omega

theorem reads_iv (k : ℕ) (hk : k < 2 ^ 31) : Reads (Scf.iv 0#32 1#32 k) k := by
  have : Scf.iv 0#32 1#32 k = BitVec.ofNat 32 k := by
    unfold Scf.iv; rw [BitVec.mul_one, BitVec.zero_add]
  rw [this]; exact Affine.ofNat k ⟨rfl, hk⟩

/-- The table column of page `p` of block `x`. -/
theorem reads_col {X : BitVec 32} {x : ℕ} (hX : Reads X x) (p : ℕ) (hx : x < 1024) (hp : p < 1024) :
    (Scalar.indexCast (Scalar.addi (Scalar.muli X 16#32) (BitVec.ofNat 32 p))).toNat = 16 * x + p := by
  refine reads_toNat (n := 16 * x + p) ?_
  refine Affine.indexCast (Affine.addi (Affine.muli hX (Affine.ofNat 16 ⟨rfl, by omega⟩) ⟨rfl, ?_, ?_⟩) (Affine.ofNat p ⟨rfl, by omega⟩) ⟨?_, ?_, ?_⟩) <;> push_cast <;> omega

/-- The slot of step `x`. -/
theorem reads_slot {X : BitVec 32} {x : ℕ} (hX : Reads X x) : (Scalar.remsi X 24#32).toNat = x % 24 := by
  refine reads_toNat (n := x % 24) ?_
  exact Affine.remsi hX (Affine.ofNat 24 ⟨rfl, by omega⟩) ⟨by push_cast; rfl, by omega, by omega⟩

/-- The first score column of block `x`. -/
theorem reads_block {X : BitVec 32} {x : ℕ} (hX : Reads X x) (hx : x < 1024) :
    (Scalar.indexCast (Scalar.muli X 2048#32)).toNat = 2048 * x := by
  refine reads_toNat (n := 2048 * x) ?_
  refine Affine.indexCast (Affine.muli hX (Affine.ofNat 2048 ⟨rfl, by omega⟩) ⟨?_, ?_, ?_⟩) <;> push_cast <;> omega

/-! ## The offsets -/

/-- The table word of page `p` of block `x`, as an offset of the table. -/
theorem tab_off {X : BitVec 32} {x : ℕ} (hX : Reads X x) (p : ℕ) (hx : x < 1024) (hp : p < 1024) :
    (![0, (Scalar.indexCast (Scalar.addi (Scalar.muli X 16#32) (BitVec.ofNat 32 p))).toNat] : Fin 2 → ℕ) = ![0, 16 * x + p] := by
  rw [reads_col hX p hx hp]
theorem tab_inb {X : BitVec 32} {x : ℕ} (hX : Reads X x) (p : ℕ) (hx : x < 64) (hp : p < 16) :
    ∀ a, (![0, (Scalar.indexCast (Scalar.addi (Scalar.muli X 16#32) (BitVec.ofNat 32 p))).toNat] : Fin 2 → ℕ) a + S1x1.size a ≤ S1x1024.size a := by
  rw [tab_off hX p (by omega) (by omega)]
  intro a
  match a with
  | ⟨0, _⟩ => show 0 + 1 ≤ 1; omega
  | ⟨1, _⟩ => show 16 * x + p + 1 ≤ 1024; omega
theorem sem_off {X : BitVec 32} {x : ℕ} (hX : Reads X x) : (![(Scalar.remsi X 24#32).toNat] : Fin 1 → ℕ) = ![x % 24] := by
  rw [reads_slot hX]
theorem sem_inb {X : BitVec 32} {x : ℕ} (hX : Reads X x) : ∀ a, (![(Scalar.remsi X 24#32).toNat] : Fin 1 → ℕ) a + S1.size a ≤ S24.size a := by
  rw [sem_off hX]
  intro a
  match a with
  | ⟨0, _⟩ => show x % 24 + 1 ≤ 24; omega
theorem page_off {X : BitVec 32} {x : ℕ} (hX : Reads X x) (p : ℕ) :
    (![(Scalar.remsi X 24#32).toNat, p, 0, 0, 0] : Fin 5 → ℕ) = ![x % 24, p, 0, 0, 0] := by
  rw [reads_slot hX]
theorem page_inb {X : BitVec 32} {x : ℕ} (hX : Reads X x) (p : ℕ) (hp : p < 16) :
    ∀ a, (![(Scalar.remsi X 24#32).toNat, p, 0, 0, 0] : Fin 5 → ℕ) a + S1x1x2x128x128.size a ≤ S24x16x2x128x128.size a := by
  rw [page_off hX p]
  intro a
  match a with
  | ⟨0, _⟩ => show x % 24 + 1 ≤ 24; omega
  | ⟨1, _⟩ => show p + 1 ≤ 16; omega
  | ⟨2, _⟩ => show 0 + 2 ≤ 2; omega
  | ⟨3, _⟩ => show 0 + 128 ≤ 128; omega
  | ⟨4, _⟩ => show 0 + 128 ≤ 128; omega
theorem slot_inb5 {X : BitVec 32} {x : ℕ} (hX : Reads X x) :
    ∀ a, (![(Scalar.remsi X 24#32).toNat, 0, 0, 0, 0] : Fin 5 → ℕ) a + S1x16x2x128x128.size a ≤ S24x16x2x128x128.size a := by
  rw [page_off hX 0]
  intro a
  match a with
  | ⟨0, _⟩ => show x % 24 + 1 ≤ 24; omega
  | ⟨1, _⟩ => show 0 + 16 ≤ 16; omega
  | ⟨2, _⟩ => show 0 + 2 ≤ 2; omega
  | ⟨3, _⟩ => show 0 + 128 ≤ 128; omega
  | ⟨4, _⟩ => show 0 + 128 ≤ 128; omega
theorem slot_inb5' {X : BitVec 32} {x : ℕ} (hX : Reads X x) :
    ∀ a, (![(Scalar.indexCast (Scalar.remsi X 24#32)).toNat, 0, 0, 0, 0] : Fin 5 → ℕ) a + S1x16x2x128x128.size a ≤ S24x16x2x128x128.size a :=
  slot_inb5 hX
theorem score_off {X : BitVec 32} {x : ℕ} (hX : Reads X x) (hx : x < 1024) :
    (![0, (Scalar.indexCast (Scalar.muli X 2048#32)).toNat] : Fin 2 → ℕ) = ![0, 2048 * x] := by
  rw [reads_block hX hx]
theorem score_inb {X : BitVec 32} {x : ℕ} (hX : Reads X x) (hx : x < 64) :
    ∀ a, (![0, (Scalar.indexCast (Scalar.muli X 2048#32)).toNat] : Fin 2 → ℕ) a + S16x2048.size a ≤ S16x131072.size a := by
  rw [score_off hX (by omega)]
  intro a
  match a with
  | ⟨0, _⟩ => show 0 + 16 ≤ 16; omega
  | ⟨1, _⟩ => show 2048 * x + 2048 ≤ 131072; omega

/-- A page of the ring or a slot of it is whole words, wherever it lies. -/
theorem ring_words {k p : ℕ} {size : Fin 5 → ℕ} (hinb : ∀ a, (![k, p, 0, 0, 0] : Fin 5 → ℕ) a + size a ≤ S24x16x2x128x128.size a)
    (h3 : size (S24x16x2x128x128.rowAx (show 2 ≤ S24x16x2x128x128.rank by decide)) = 128) : (Rect.unit (s := S24x16x2x128x128) ![k, p, 0, 0, 0] size hinb).WholeWords (EltTy.packing .fp8e4m3) :=
  Affine.words_rows (s := S24x16x2x128x128) (show 2 ≤ S24x16x2x128x128.rank by decide) rfl (h3.trans (by decide))

/-- What the body assumes of a word of the table: the page it names is in the pool. -/
theorem pool_inb {w : BitVec 32} (hw : w.toNat < 1024) :
    ∀ a, (![w.toNat, 0, 0, 0] : Fin 4 → ℕ) a + S1x2x128x128.size a ≤ S1024x2x128x128.size a := by
  intro a
  match a with
  | ⟨0, _⟩ => show w.toNat + 1 ≤ 1024; omega
  | ⟨1, _⟩ => show 0 + 2 ≤ 2; omega
  | ⟨2, _⟩ => show 0 + 128 ≤ 128; omega
  | ⟨3, _⟩ => show 0 + 128 ≤ 128; omega
theorem pool_chk {P : Prop} {w : BitVec 32} (hw : w.toNat < 1024) :
    (∀ _ : P, ∀ a, (![w.toNat, 0, 0, 0] : Fin 4 → ℕ) a + S1x2x128x128.size a ≤ S1024x2x128x128.size a) ∧
    (∀ _ : P, ∀ hinb : (∀ a, (![w.toNat, 0, 0, 0] : Fin 4 → ℕ) a + S1x2x128x128.size a ≤ S1024x2x128x128.size a),
      (Rect.unit (s := S1024x2x128x128) ![w.toNat, 0, 0, 0] S1x2x128x128.size hinb).WholeWords (EltTy.packing .fp8e4m3)) :=
  ⟨fun _ => pool_inb hw, fun _ hinb => Affine.words_rows (by decide) rfl rfl⟩

/-! ## The number of blocks -/

/-- The ceiling of `v0 / 2048` as the kernel computes it, unclamped. -/
def rawW (v0 : BitVec 32) : BitVec 32 :=
  (Scalar.select (Scalar.andi (Scalar.cmpi .ne (Scalar.subi (Scalar.extui (Scalar.cmpi .sgt (Scalar.subi (Scalar.addi v0 2048#32) 1#32) 0#32)) (Scalar.extui (Scalar.cmpi .slt (Scalar.subi (Scalar.addi v0 2048#32) 1#32) 0#32))) (Scalar.subi (Scalar.extui (Scalar.cmpi .sgt 2048#32 0#32)) (Scalar.extui (Scalar.cmpi .slt 2048#32 0#32)))) (Scalar.cmpi .ne (Scalar.remsi (Scalar.subi (Scalar.addi v0 2048#32) 1#32) 2048#32) 0#32)) (Scalar.subi (Scalar.divsi (Scalar.subi (Scalar.addi v0 2048#32) 1#32) 2048#32) 1#32) (Scalar.divsi (Scalar.subi (Scalar.addi v0 2048#32) 1#32) 2048#32))

/-- The number of blocks, as the kernel computes it. -/
def nbW (v0 : BitVec 32) : BitVec 32 := Scalar.minsi 64#32 (Scalar.maxsi 0#32 (rawW v0))

/-- The number of blocks. -/
def nb (v0 : BitVec 32) : ℕ := (min 64 (max 0 (rawW v0).toInt)).toNat

theorem nb_le (v0 : BitVec 32) : nb v0 ≤ 64 := by unfold nb; omega

theorem reads_nb (v0 : BitVec 32) : Reads (nbW v0) (nb v0) :=
  Affine.minsi (Affine.ofNat 64 ⟨rfl, by omega⟩) (Affine.maxsi (Affine.ofNat 0 ⟨rfl, by omega⟩) (Affine.word _) rfl)
    (by unfold nb; push_cast; omega)

/-- Every token below the sequence length lies in a block below `nb`, unless the cache ends first. -/
theorem nb_covers {v0 : BitVec 32} (h : v0.toInt ≤ 2147481600) {t : ℕ} (ht : t < 131072) (hv : (t : ℤ) < v0.toInt) : t < 2048 * nb v0 := by
  have hs : IsInt (Scalar.subi (Scalar.addi v0 2048#32) 1#32) (v0.toInt + 2047) :=
    by
      have e : Scalar.subi (Scalar.addi v0 2048#32) 1#32 = Scalar.addi v0 2047#32 := by
        show v0 + 2048#32 - 1#32 = v0 + 2047#32
        rw [BitVec.sub_eq_add_neg, BitVec.add_assoc]; rfl
      rw [e]
      exact Affine.addi (Affine.word v0) (Affine.ofNat 2047 ⟨rfl, by omega⟩) ⟨by push_cast; rfl, by omega, by omega⟩
  have h0 : IsInt 0#32 0 := Affine.ofNat 0 ⟨rfl, by omega⟩
  have h2k : IsInt 2048#32 2048 := Affine.ofNat 2048 ⟨rfl, by omega⟩
  have hsgn : ¬ (Scalar.cmpi .ne (Scalar.subi (Scalar.extui (Scalar.cmpi .sgt (Scalar.subi (Scalar.addi v0 2048#32) 1#32) 0#32)) (Scalar.extui (Scalar.cmpi .slt (Scalar.subi (Scalar.addi v0 2048#32) 1#32) 0#32))) (Scalar.subi (Scalar.extui (Scalar.cmpi .sgt 2048#32 0#32)) (Scalar.extui (Scalar.cmpi .slt 2048#32 0#32)))) = 1#1 := by
    refine Affine.ne_fails (ea := 1) (eb := 1) (Affine.subi (Affine.extui_holds (Affine.sgt_holds hs h0 (by omega)) rfl) (Affine.extui_fails (Affine.slt_fails hs h0 (by omega)) rfl) (by omega))
      (Affine.subi (Affine.extui_holds (Affine.sgt_holds h2k h0 (by omega)) rfl) (Affine.extui_fails (Affine.slt_fails h2k h0 (by omega)) rfl) (by omega)) rfl
  have hraw : IsInt (rawW v0) ((v0.toInt + 2047) / 2048) := by
    unfold rawW
    unfold Scalar.select
    rw [if_neg]
    · exact Affine.divsi hs h2k ⟨rfl, by omega, by omega⟩
    · intro hh
      exact hsgn (IntOp.andi_eq_one.mp hh).1
  have := isInt_toInt hraw
  unfold nb; rw [this]; omega

/-! ## The loops -/

/-- The block loops' upper bound. -/
theorem reads_ub (v0 : BitVec 32) : Reads (Scalar.addi 0#32 (Scalar.muli (Scalar.divsi (Scalar.subi (nbW v0) 0#32) 1#32) 1#32)) (nb v0) := by
  have hn := nb_le v0
  have h1 : IsInt 1#32 1 := Affine.ofNat 1 ⟨rfl, by omega⟩
  have h0 : IsInt 0#32 0 := Affine.ofNat 0 ⟨rfl, by omega⟩
  exact Affine.addi h0 (Affine.muli (Affine.divsi_one (Affine.subi (reads_nb v0) h0 ⟨rfl, by omega, by omega⟩) h1 ⟨rfl, rfl⟩) h1 ⟨rfl, by omega, by omega⟩) (by omega)
theorem reads_ub' (v0 : BitVec 32) : Reads (Scalar.addi 0#32 (Scalar.subi (nbW v0) 0#32)) (nb v0) := by
  have hn := nb_le v0
  have h0 : IsInt 0#32 0 := Affine.ofNat 0 ⟨rfl, by omega⟩
  exact Affine.addi h0 (Affine.subi (reads_nb v0) h0 ⟨rfl, by omega, by omega⟩) (by omega)

theorem trips_of_reads {lb ub : BitVec 32} {a b : ℕ} (hl : Reads lb a) (hu : Reads ub b) (h : a ≤ b) : Scf.trips lb ub 1#32 = b - a := by
  have h1 : (1#32 : BitVec 32).toInt = 1 := by decide
  unfold Scf.trips; rw [isInt_toInt hl, isInt_toInt hu, h1]; omega

theorem t1_trips : k0_t1_loop.trips = 24 := by decide
theorem t2_trips (v0 : BitVec 32) : (k0_t2_loop v0).trips = nb v0 :=
  (trips_of_reads (Affine.ofNat 0 ⟨rfl, by omega⟩) (reads_ub v0) (Nat.zero_le _)).trans (Nat.sub_zero _)
theorem t3_trips (v0 : BitVec 32) : (k0_t3_loop v0).trips = 0 :=
  (trips_of_reads (reads_ub v0) (reads_ub' v0) le_rfl).trans (Nat.sub_self _)
theorem t4_trips (v0 : BitVec 32) : (k0_t4_loop v0).trips = nb v0 :=
  (trips_of_reads (Affine.ofNat 0 ⟨rfl, by omega⟩) (reads_ub v0) (Nat.zero_le _)).trans (Nat.sub_zero _)
theorem t5_trips (v0 : BitVec 32) : (k0_t5_loop v0).trips = 0 :=
  (trips_of_reads (reads_ub v0) (reads_ub' v0) le_rfl).trans (Nat.sub_self _)

theorem ok_of_reads {lb ub : BitVec 32} {a b : ℕ} (hl : Reads lb a) (hu : Reads ub b) (h : a ≤ b) (hb : b ≤ 1000) : Scf.OK lb ub 1#32 := by
  have h1 : (1#32 : BitVec 32).toInt = 1 := by decide
  refine ⟨by rw [h1]; omega, ?_⟩
  rw [trips_of_reads hl hu h, isInt_toInt hl, h1]; omega

theorem t2_ok (v0 : BitVec 32) : (k0_t2_loop v0).OK := ok_of_reads (Affine.ofNat 0 ⟨rfl, by omega⟩) (reads_ub v0) (Nat.zero_le _) (by have := nb_le v0; omega)
theorem t3_ok (v0 : BitVec 32) : (k0_t3_loop v0).OK := ok_of_reads (reads_ub v0) (reads_ub' v0) le_rfl (by have := nb_le v0; omega)
theorem t4_ok (v0 : BitVec 32) : (k0_t4_loop v0).OK := ok_of_reads (Affine.ofNat 0 ⟨rfl, by omega⟩) (reads_ub v0) (Nat.zero_le _) (by have := nb_le v0; omega)
theorem t5_ok (v0 : BitVec 32) : (k0_t5_loop v0).OK := ok_of_reads (reads_ub v0) (reads_ub' v0) le_rfl (by have := nb_le v0; omega)

theorem t1_lt (t : Fin k0_t1_loop.trips) : t.val < 24 := t1_trips ▸ t.isLt
theorem t2_lt {v0 : BitVec 32} (t : Fin (k0_t2_loop v0).trips) : t.val < nb v0 := t2_trips v0 ▸ t.isLt
theorem t3_no {v0 : BitVec 32} (t : Fin (k0_t3_loop v0).trips) : False := Nat.not_lt_zero _ (lt_of_lt_of_eq t.isLt (t3_trips v0))
theorem t4_lt {v0 : BitVec 32} (t : Fin (k0_t4_loop v0).trips) : t.val < nb v0 := t4_trips v0 ▸ t.isLt
theorem t5_no {v0 : BitVec 32} (t : Fin (k0_t5_loop v0).trips) : False := Nat.not_lt_zero _ (lt_of_lt_of_eq t.isLt (t5_trips v0))

/-! ## The steps' words -/

theorem reads_t1 (t : Fin k0_t1_loop.trips) : Reads (Scf.iv 0#32 1#32 t) t.val := reads_iv _ (by have := t1_lt t; omega)
theorem reads_t2 {v0 : BitVec 32} (t : Fin (k0_t2_loop v0).trips) : Reads (Scf.iv 0#32 1#32 t) t.val :=
  reads_iv _ (by have := t2_lt t; have := nb_le v0; omega)
theorem reads_t4 {v0 : BitVec 32} (t : Fin (k0_t4_loop v0).trips) : Reads (Scf.iv 0#32 1#32 t) t.val :=
  reads_iv _ (by have := t4_lt t; have := nb_le v0; omega)
/-- The value loop's step. -/
theorem reads_s4 {v0 : BitVec 32} (t : Fin (k0_t4_loop v0).trips) : Reads (Scalar.addi (nbW v0) (Scf.iv 0#32 1#32 t)) (nb v0 + t.val) := by
  have := t4_lt t; have := nb_le v0
  exact Affine.addi (reads_nb v0) (reads_t4 t) ⟨by push_cast; rfl, by push_cast; omega, by push_cast; omega⟩
/-- The step 24 ahead. -/
theorem reads_next {X : BitVec 32} {x : ℕ} (hX : Reads X x) (hx : x < 200) : Reads (Scalar.addi X 24#32) (x + 24) :=
  Affine.addi hX (Affine.ofNat 24 ⟨rfl, by omega⟩) ⟨by push_cast; rfl, by push_cast; omega, by push_cast; omega⟩
/-- The V block of a step. -/
theorem reads_vblk {v0 : BitVec 32} {X : BitVec 32} {x : ℕ} (hX : Reads X x) (hx : nb v0 ≤ x) (hx' : x < 1000) : Reads (Scalar.subi X (nbW v0)) (x - nb v0) :=
  Affine.subi hX (reads_nb v0) ⟨by omega, by omega, by omega⟩

/-! ## The conditions -/

/-- The condition of a K issue. -/
theorem condK_iff {v0 : BitVec 32} {X : BitVec 32} {x : ℕ} (hX : Reads X x) :
    Scalar.cmpi .ne (Scalar.extui (Scalar.cmpi .slt X (nbW v0))) 0#32 = 1#1 ↔ x < nb v0 := by
  refine (Scalar.guard_iff _).trans (IntOp.cmpi_slt.trans ?_)
  rw [isInt_toInt hX, isInt_toInt (reads_nb v0)]; omega
/-- The condition of a V issue. -/
theorem condV_iff {v0 : BitVec 32} {X : BitVec 32} {x : ℕ} (hX : Reads X x) :
    Scalar.cmpi .ne (Scalar.extui (Scalar.andi (Scalar.cmpi .sge X (nbW v0)) (Scalar.cmpi .slt X (Scalar.muli 2#32 (nbW v0))))) 0#32 = 1#1
      ↔ nb v0 ≤ x ∧ x < 2 * nb v0 := by
  have h2 : Reads (Scalar.muli 2#32 (nbW v0)) (2 * nb v0) :=
    Affine.muli (Affine.ofNat 2 ⟨rfl, by omega⟩) (reads_nb v0) (by have := nb_le v0; push_cast; omega)
  refine (Scalar.guard_iff _).trans (IntOp.andi_eq_one.trans (and_congr (IntOp.cmpi_sge.trans ?_) (IntOp.cmpi_slt.trans ?_)))
  · rw [isInt_toInt hX, isInt_toInt (reads_nb v0)]; omega
  · rw [isInt_toInt hX, isInt_toInt h2]; omega

theorem cond1_iff (v0 : BitVec 32) (t : Fin k0_t1_loop.trips) : k0_cond1 v0 t = 1#1 ↔ t.val < nb v0 := condK_iff (reads_t1 t)
theorem cond2_iff (v0 : BitVec 32) (t : Fin k0_t1_loop.trips) : k0_cond2 v0 t = 1#1 ↔ nb v0 ≤ t.val ∧ t.val < 2 * nb v0 := condV_iff (reads_t1 t)

theorem lt200_2 {v0 : BitVec 32} (t : Fin (k0_t2_loop v0).trips) : t.val < 200 := by have := t2_lt t; have := nb_le v0; omega
theorem lt200_4 {v0 : BitVec 32} (t : Fin (k0_t4_loop v0).trips) : nb v0 + t.val < 200 := by have := t4_lt t; have := nb_le v0; omega

theorem reads_n2 {v0 : BitVec 32} (t : Fin (k0_t2_loop v0).trips) : Reads (Scalar.addi (Scf.iv 0#32 1#32 t) 24#32) (t.val + 24) := reads_next (reads_t2 t) (lt200_2 t)
theorem reads_n4 {v0 : BitVec 32} (t : Fin (k0_t4_loop v0).trips) : Reads (Scalar.addi (Scalar.addi (nbW v0) (Scf.iv 0#32 1#32 t)) 24#32) (nb v0 + t.val + 24) := reads_next (reads_s4 t) (lt200_4 t)

theorem cond3_iff (v0 : BitVec 32) (t : Fin (k0_t2_loop v0).trips) : k0_cond3 v0 t = 1#1 ↔ t.val + 24 < nb v0 := condK_iff (reads_n2 t)
theorem cond4_iff (v0 : BitVec 32) (t : Fin (k0_t2_loop v0).trips) : k0_cond4 v0 t = 1#1 ↔ nb v0 ≤ t.val + 24 ∧ t.val + 24 < 2 * nb v0 := condV_iff (reads_n2 t)
theorem cond7_iff (v0 : BitVec 32) (t : Fin (k0_t4_loop v0).trips) : k0_cond7 v0 t = 1#1 ↔ nb v0 + t.val + 24 < nb v0 := condK_iff (reads_n4 t)
theorem cond8_iff (v0 : BitVec 32) (t : Fin (k0_t4_loop v0).trips) : k0_cond8 v0 t = 1#1 ↔ nb v0 ≤ nb v0 + t.val + 24 ∧ nb v0 + t.val + 24 < 2 * nb v0 := condV_iff (reads_n4 t)

/-! ## The body's assumption of `v0` -/

theorem mult_dvd {X : BitVec 32} {x : ℕ} (hX : Reads X x) (hx : x < 1024) : 2048 ∣ (Scalar.muli X 2048#32).toNat :=
  (reads_block hX hx).symm ▸ Nat.dvd_mul_right _ _

theorem blkV1 {v0 : BitVec 32} (t : Fin k0_t1_loop.trips) (h : k0_cond2 v0 t = 1#1) : Reads (Scalar.subi (Scf.iv 0#32 1#32 t) (nbW v0)) (t.val - nb v0) :=
  reads_vblk (reads_t1 t) ((cond2_iff v0 t).mp h).1 (by have := t1_lt t; omega)
theorem ltV1 {v0 : BitVec 32} (t : Fin k0_t1_loop.trips) (h : k0_cond2 v0 t = 1#1) : t.val - nb v0 < 64 := by have := t1_lt t; omega
theorem ltK2 {v0 : BitVec 32} (t : Fin (k0_t2_loop v0).trips) (h : k0_cond3 v0 t = 1#1) : t.val + 24 < 64 := by
  have := (cond3_iff v0 t).mp h; have := nb_le v0; omega
theorem blkV2 {v0 : BitVec 32} (t : Fin (k0_t2_loop v0).trips) (h : k0_cond4 v0 t = 1#1) :
    Reads (Scalar.subi (Scalar.addi (Scf.iv 0#32 1#32 t) 24#32) (nbW v0)) (t.val + 24 - nb v0) :=
  reads_vblk (reads_n2 t) ((cond4_iff v0 t).mp h).1 (by have := lt200_2 t; omega)
theorem ltV2 {v0 : BitVec 32} (t : Fin (k0_t2_loop v0).trips) (h : k0_cond4 v0 t = 1#1) : t.val + 24 - nb v0 < 64 := by
  have := (cond4_iff v0 t).mp h; have := nb_le v0; omega
theorem no7 {v0 : BitVec 32} (t : Fin (k0_t4_loop v0).trips) (h : k0_cond7 v0 t = 1#1) : False := by
  have := (cond7_iff v0 t).mp h; omega
theorem blkV4 {v0 : BitVec 32} (t : Fin (k0_t4_loop v0).trips) (h : k0_cond8 v0 t = 1#1) :
    Reads (Scalar.subi (Scalar.addi (Scalar.addi (nbW v0) (Scf.iv 0#32 1#32 t)) 24#32) (nbW v0)) (nb v0 + t.val + 24 - nb v0) :=
  reads_vblk (reads_n4 t) ((cond8_iff v0 t).mp h).1 (by have := lt200_4 t; omega)
theorem ltV4 {v0 : BitVec 32} (t : Fin (k0_t4_loop v0).trips) (h : k0_cond8 v0 t = 1#1) : nb v0 + t.val + 24 - nb v0 < 64 := by
  have := (cond8_iff v0 t).mp h; have := nb_le v0; omega

end Cert.KernelIdeal.Hand

end
-- ==== Proof.KI.Chk.lean ====
/-
  The side condition the body assumes of the sequence length `v0` holds whatever `v0` is: every offset the loops
  compute from it is in bounds, and every transfer moves whole words.
-/
module

public import proofs.«01_k».proof.Proof.KI.Words

@[expose] public section

noncomputable section

namespace Cert.KernelIdeal.Hand

open Cert.KernelIdeal Cert.KernelIdeal.Gen
open Idealize.ShloMosaic Idealize.ShloMosaic.Affine

attribute [local irreducible] Scf.trips Scf.OK Scf.iv k0_cond2 k0_cond3 k0_cond4 k0_cond7 k0_cond8
  Scalar.addi Scalar.subi Scalar.muli Scalar.remsi Scalar.divsi Scalar.indexCast Scalar.extui Scalar.cmpi Scalar.minsi Scalar.maxsi Scalar.andi BitVec.toNat

set_option maxHeartbeats 4000000 in
theorem chk17_0 (v0 : BitVec 32) : k0_chk17_0 v0 := by
  unfold k0_chk17_0
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_1 (v0 : BitVec 32) : k0_chk17_1 v0 := by
  unfold k0_chk17_1
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_2 (v0 : BitVec 32) : k0_chk17_2 v0 := by
  unfold k0_chk17_2
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_3 (v0 : BitVec 32) : k0_chk17_3 v0 := by
  unfold k0_chk17_3
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_4 (v0 : BitVec 32) : k0_chk17_4 v0 := by
  unfold k0_chk17_4
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_5 (v0 : BitVec 32) : k0_chk17_5 v0 := by
  unfold k0_chk17_5
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_6 (v0 : BitVec 32) : k0_chk17_6 v0 := by
  unfold k0_chk17_6
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_7 (v0 : BitVec 32) : k0_chk17_7 v0 := by
  unfold k0_chk17_7
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_8 (v0 : BitVec 32) : k0_chk17_8 v0 := by
  unfold k0_chk17_8
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_9 (v0 : BitVec 32) : k0_chk17_9 v0 := by
  unfold k0_chk17_9
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_10 (v0 : BitVec 32) : k0_chk17_10 v0 := by
  unfold k0_chk17_10
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_11 (v0 : BitVec 32) : k0_chk17_11 v0 := by
  unfold k0_chk17_11
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_12 (v0 : BitVec 32) : k0_chk17_12 v0 := by
  unfold k0_chk17_12
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_13 (v0 : BitVec 32) : k0_chk17_13 v0 := by
  unfold k0_chk17_13
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_14 (v0 : BitVec 32) : k0_chk17_14 v0 := by
  unfold k0_chk17_14
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_15 (v0 : BitVec 32) : k0_chk17_15 v0 := by
  unfold k0_chk17_15
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_16 (v0 : BitVec 32) : k0_chk17_16 v0 := by
  unfold k0_chk17_16
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

set_option maxHeartbeats 4000000 in
theorem chk17_17 (v0 : BitVec 32) : k0_chk17_17 v0 := by
  unfold k0_chk17_17
  repeat' apply And.intro
  all_goals first
    | exact fun t => (t3_no t).elim
    | exact fun t => (t5_no t).elim
    | exact fun t h => (no7 t h).elim
    | exact fun t h hinb => ring_words hinb rfl
    | exact fun t hinb => ring_words hinb rfl
    | exact t2_ok v0
    | exact t3_ok v0
    | exact t4_ok v0
    | exact t5_ok v0
    | exact fun t h => sem_inb (reads_n2 t)
    | exact fun t h => sem_inb (reads_n4 t)
    | exact fun t h => page_inb (reads_n2 t) _ (by decide)
    | exact fun t h => page_inb (reads_n4 t) _ (by decide)
    | exact fun t h => tab_inb (blkV1 t h) _ (ltV1 t h) (by decide)
    | exact fun t h => tab_inb (reads_n2 t) _ (ltK2 t h) (by decide)
    | exact fun t h => tab_inb (blkV2 t h) _ (ltV2 t h) (by decide)
    | exact fun t h => tab_inb (blkV4 t h) _ (ltV4 t h) (by decide)
    | exact fun t => sem_inb (reads_t2 t)
    | exact fun t => sem_inb (reads_s4 t)
    | exact fun t => slot_inb5 (reads_t2 t)
    | exact fun t => slot_inb5 (reads_s4 t)
    | exact fun t => slot_inb5' (reads_t2 t)
    | exact fun t => slot_inb5' (reads_s4 t)
    | exact fun t => mult_dvd (reads_t2 t) (by have := lt200_2 t; omega)
    | exact fun t => mult_dvd (reads_t4 t) (by have := lt200_4 t; omega)
    | exact fun t => score_inb (reads_t2 t) (lt_of_lt_of_le (t2_lt t) (nb_le v0))
    | exact fun t => score_inb (reads_t4 t) (lt_of_lt_of_le (t4_lt t) (nb_le v0))

/-- The body assumes nothing false: its check of `v0` holds whatever `v0` is. -/
theorem chk17_all (v0 : BitVec 32) : k0_chk17 v0 :=
  ⟨chk17_0 v0, chk17_1 v0, chk17_2 v0, chk17_3 v0, chk17_4 v0, chk17_5 v0, chk17_6 v0, chk17_7 v0, chk17_8 v0, chk17_9 v0, chk17_10 v0, chk17_11 v0, chk17_12 v0, chk17_13 v0, chk17_14 v0, chk17_15 v0, chk17_16 v0, chk17_17 v0⟩

end Cert.KernelIdeal.Hand

end
-- ==== Proof.KI.Site.lean ====
/-
  The three operations of one page's issue, each as a rule for a program that goes on: the load of the page's
  number from the table, the side condition assumed of it, and the copy.
-/
module

public import proofs.«01_k».proof.Proof.KI.Pages
public import proofs.«01_k».proof.Proof.KI.Chk

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

/-- A program's specification on the core `c`. -/
abbrev W {α : Type} (c : Dev nD) (P : Prog (TpuEff nD τ sig (Elt F) Λ₀ .tc) α) (Q : α → sProp 𝕄) : sProp 𝕄 :=
  wp frame (wpE (defs₀ (F := F)) Variants.none (c : Thread nD τ) none) Set.univ P Q

/-- The slot of step `s`. -/
abbrev slotOf (s : ℕ) : Fin 24 := ⟨s % 24, Nat.mod_lt _ (by decide)⟩

/-- The page table's words: entry `n` of the row. -/
def IsTab (arg7 : Memref sig .tc .smem S1x1024 .i32) (ft : arg7.view.ty.Contents (Elt F)) (tab : ℕ → BitVec 32) : Prop :=
  ∀ n (h : n < 1024), arg7.view.read (Elt F) ft (ix2 (0 : Fin 1) (⟨n, h⟩ : Fin 1024)) = tab n

variable {c : Dev nD} {arg7 : Memref sig .tc .smem S1x1024 .i32} {ft : Buf (Elt F) (arg7.view.loc (c : Thread nD τ))}

/-- The load of the table's entry `n`. -/
theorem site_load {α : Type} {tab : ℕ → BitVec 32} (htab : IsTab arg7 ft tab) {n : ℕ} (hn : n < 1024) {oA : Fin 2 → ℕ} {iA h1 hp} (ho : oA = ![0, n])
    {I R : sProp 𝕄} {K : Elt F .i32 → Prog (TpuEff nD τ sig (Elt F) Λ₀ .tc) α} {Q : α → sProp 𝕄}
    (hk : iprop(I ∗ (arg7.view.loc (c : Thread nD τ) ↦[arg7.view.set]{fullShare} ft) ∗ R) ⊢ W c (K (tab n)) Q) :
    iprop(I ∗ (arg7.view.loc (c : Thread nD τ) ↦[arg7.view.set]{fullShare} ft) ∗ R)
      ⊢ W c (smemLoad arg7 (Rect.unit (s := S1x1024) oA S1x1.size iA) h1 hp >>= K) Q := by
  subst ho
  have hv : (arg7.access (Rect.unit (s := S1x1024) ![0, n] S1x1.size iA)).read (Elt F) ft (Shape.Idx.first (h1.symm ▸ Nat.one_pos)) = tab n := by
    rw [← htab n hn]
    show arg7.view.read (Elt F) ft ((Rect.unit (s := S1x1024) ![0, n] S1x1.size iA).emb _) = _
    congr 1
    funext a
    apply Fin.ext
    match a with
    | ⟨0, _⟩ => rfl
    | ⟨1, _⟩ => show n + 1 * 0 = n; omega
  rw [← hv] at hk
  show _ ⊢ W c (smemLoadElt arg7 _ (View.loads_smem_one hp h1) _ (fun x => Prog.ret x >>= K)) Q
  iintro ⟨HI, HT, HR⟩
  iapply (wp_smemLoadElt Variants.none c none Set.univ (View.set_slice_subset _ _)) $$ [HT]
  · iexact HT
  iintro HT
  rw [Prog.bind_ret]
  iapply hk
  isplitl [HI]; · iexact HI
  isplitl [HT]; · iexact HT
  iexact HR

/-- The side condition assumed of a word. -/
theorem site_assume {α : Type} {P : Prop} {d : Decidable P} (h : P) {S : sProp 𝕄} {K : PLift P → Prog (TpuEff nD τ sig (Elt F) Λ₀ .tc) α} {Q : α → sProp 𝕄}
    (hk : S ⊢ W c (K ⟨h⟩) Q) : S ⊢ W c (Prog.lift (TpuEff.assume P d) >>= K) Q :=
  hk.trans (wp_assume Variants.none (c : Thread nD τ) none Set.univ h)

/-- The copy of page `p` of slot `k`. -/
theorem site_page {α : Type} {M : Memref sig .tc .hbm S1024x2x128x128 .fp8e4m3} {f : Buf (Elt F) (M.view.loc (c : Thread nD τ))} {pool : PoolBuf (F := F)}
    (hM : M.view.read (Elt F) f = pool) (tab : ℕ → BitVec 32) (hlt : ∀ n < 1024, (tab n).toNat < 1024) {b : ℕ} (hb : b + 16 ≤ 1024) {k : Fin 24} {p : ℕ} (hp : p < 16)
    {w : BitVec 32} (hwt : w = tab (b + p))
    {oB : Fin 4 → ℕ} {iB} {oC : Fin 5 → ℕ} {iC} {oD : Fin 1 → ℕ} {iD}
    (hB : oB = ![w.toNat, 0, 0, 0]) (hC : oC = ![k.val, p, 0, 0, 0]) (hD : oD = ![k.val])
    {hsrc : (pageSrc M oB iB).view.WordExact} {hdst : (pageDst oC iC).view.WordExact} {hsem}
    {K : PUnit → Prog (TpuEff nD τ sig (Elt F) Λ₀ .tc) α} {Q : α → sProp 𝕄} {R : sProp 𝕄}
    (hk : iprop(issuing c M f k (blockBuf tab b pool) (p + 1) ∗ R) ⊢ W c (K ⟨⟩) Q) :
    iprop(issuing c M f k (blockBuf tab b pool) p ∗ R)
      ⊢ W c (Prog.lift (.enqueueDma (pageSrc M oB iB) (.here (pageDst oC iC)) (.dma (semAt oD iD)) hsrc hdst hsem) >>= K) Q :=
  wp_page hM tab b k p hp w hwt (hwt ▸ hlt _ (by omega)) hB hC hD hk

end Cert.KernelIdeal.Hand

end
-- ==== Proof.KI.Ring.lean ====
/-
  The ring of 24 slots as the pipeline's steps see it. A slot is idle (its semaphore at zero, its elements and the
  read shares of both pools at hand) or full: all 16 copies of a step issued and under way. `ring h` is the ring when
  step `h` is the next to be waited for: the slots hold steps `h .. h + 23`, those past the last step idle.
-/
module

public import proofs.«01_k».proof.Proof.KI.Site

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

/-! ## Slots -/

variable (c : Dev nD) (fk : Buf (Elt F) (kM.view.loc (c : Thread nD τ))) (fv : Buf (Elt F) (vM.view.loc (c : Thread nD τ)))

/-- The read shares of a pool that slot `k`'s copies use, one per page. -/
def toks (M : Memref sig .tc .hbm S1024x2x128x128 .fp8e4m3) (f : Buf (Elt F) (M.view.loc (c : Thread nD τ))) (k : ℕ) : sProp 𝕄 :=
  bigSep Finset.univ (fun t : Fin 16 => (M.view.loc (c : Thread nD τ) ↦{Transfers.shareTokN fullShare (16 * k + t.val)} f))

/-- An idle slot. -/
def idle (k : Fin 24) : sProp 𝕄 :=
  iprop(semVal ((c : Thread nD τ), SemLoc.dma (cell k)) 0 ∗ (∃ g : Buf (Elt F) (ringLoc c), ringLoc c ↦[kset k.val]{fullShare} g) ∗ toks c kM fk k.val ∗ toks c vM fv k.val)

theorem kset_pages (k : ℕ) : kset k = Finset.univ.biUnion (fun t : Fin 16 => pset k t.val) := by
  ext i
  unfold kset pset
  rw [Finset.mem_filter, Finset.mem_biUnion]
  constructor
  · intro h
    exact ⟨⟨(i 1).val, (i 1).isLt⟩, Finset.mem_univ _, Finset.mem_filter.mpr ⟨Finset.mem_univ _, h.2, rfl⟩⟩
  · rintro ⟨t, -, h⟩
    exact ⟨Finset.mem_univ _, (Finset.mem_filter.mp h).2.1⟩

theorem pset_disjoint (k : ℕ) (t t' : Fin 16) (h : t ≠ t') : Disjoint (pset k t.val) (pset k t'.val) := by
  rw [Finset.disjoint_left]
  intro i hi hi'
  unfold pset at hi hi'
  have h1 := (Finset.mem_filter.mp hi).2.2
  have h2 := (Finset.mem_filter.mp hi').2.2
  exact h (Fin.ext (h1.symm.trans h2))

/-- A slot's elements are its pages' elements. -/
theorem slot_pages (k : ℕ) (g : Buf (Elt F) (ringLoc c)) :
    (ringLoc c ↦[kset k]{fullShare} g : sProp 𝕄) = bigSep Finset.univ (fun t : Fin 16 => (ringLoc c ↦[pset k t.val]{fullShare} g)) := by
  rw [kset_pages]
  exact pointsTo_biUnion _ _ (fun t _ t' _ h => pset_disjoint k t t' h)

/-- An idle slot starts: the batch of a step's 16 copies, none issued. -/
theorem start (M : Memref sig .tc .hbm S1024x2x128x128 .fp8e4m3) (f : Buf (Elt F) (M.view.loc (c : Thread nD τ))) (k : Fin 24) (G : RingBuf (F := F)) :
    (iprop(semVal ((c : Thread nD τ), SemLoc.dma (cell k)) 0 ∗ (∃ g : Buf (Elt F) (ringLoc c), ringLoc c ↦[kset k.val]{fullShare} g) ∗ toks c M f k.val) : sProp 𝕄)
      ⊢ |={Set.univ}[frame]=> issuing c M f k G 0 := by
  unfold issuing
  rw [← Transfers.bigSep_pending_zero]
  iintro ⟨Hs, ⟨%g, Hg⟩, Ht⟩
  imod (Transfers.batch_alloc' EC (c : Thread nD τ) (sm := .dma (cell k)) () pageUnits (fun t : Fin 16 => done (F := F) c M f k.val G t.val) (E := Set.univ)) $$ Hs with HB
  imodintro
  isplitl [HB]; · iexact HB
  ihave Hg := (Entails.of_eq (slot_pages c k.val g)) $$ Hg
  unfold toks todo
  iapply (show iprop(bigSep Finset.univ (fun t : Fin 16 => iprop(∃ g : Buf (Elt F) (ringLoc c), ringLoc c ↦[pset k.val t.val]{fullShare} g)) ∗ bigSep Finset.univ (fun t : Fin 16 => (M.view.loc (c : Thread nD τ) ↦{Transfers.shareTokN fullShare (16 * k.val + t.val)} f))) ⊢ (bigSep Finset.univ (fun t : Fin 16 => iprop((∃ g : Buf (Elt F) (ringLoc c), ringLoc c ↦[pset k.val t.val]{fullShare} g) ∗ (M.view.loc (c : Thread nD τ) ↦{Transfers.shareTokN fullShare (16 * k.val + t.val)} f))) : sProp 𝕄) from Entails.of_eq (bigSep_sep _ _ _).symm)
  isplitl [Hg]
  · iapply (show (bigSep Finset.univ (fun t : Fin 16 => (ringLoc c ↦[pset k.val t.val]{fullShare} g)) : sProp 𝕄) ⊢ bigSep Finset.univ (fun t : Fin 16 => iprop(∃ g : Buf (Elt F) (ringLoc c), ringLoc c ↦[pset k.val t.val]{fullShare} g)) from
      bigSep_mono fun t _ => (show (ringLoc c ↦[pset k.val t.val]{fullShare} g : sProp 𝕄) ⊢ iprop(∃ g : Buf (Elt F) (ringLoc c), ringLoc c ↦[pset k.val t.val]{fullShare} g) from by iintro H; iexists g; iexact H))
    iexact Hg
  · iexact Ht

/-- The 16 deliveries of a slot are the slot landed and the shares back. -/
theorem landed_of_done (M : Memref sig .tc .hbm S1024x2x128x128 .fp8e4m3) (f : Buf (Elt F) (M.view.loc (c : Thread nD τ))) (k : ℕ) (G : RingBuf (F := F)) :
    (bigSep Finset.univ (fun t : Fin 16 => done (F := F) c M f k G t.val) : sProp 𝕄) ⊢ iprop((ringLoc c ↦[kset k]{fullShare} G) ∗ toks c M f k) := by
  unfold done toks
  rw [slot_pages]
  exact Entails.of_eq (bigSep_sep Finset.univ (fun t : Fin 16 => (ringLoc c ↦[pset k t.val]{fullShare} G)) (fun t : Fin 16 => (M.view.loc (c : Thread nD τ) ↦{Transfers.shareTokN fullShare (16 * k + t.val)} f)))

/-- The ring contents that step `s` of `nb` K blocks and `nb` V blocks brings. -/
def stepBuf (tab : ℕ → BitVec 32) (kpool vpool : PoolBuf (F := F)) (nb s : ℕ) : RingBuf (F := F) :=
  if s < nb then blockBuf tab (16 * s) kpool else blockBuf tab (16 * (s - nb)) vpool

variable (tab : ℕ → BitVec 32) (kpool vpool : PoolBuf (F := F)) (n : ℕ)

/-- The slot of step `s` with that step's copies under way, or idle past the last step. -/
def slotSt (s : ℕ) : sProp 𝕄 :=
  if s < n then iprop(issuing c kM fk (slotOf s) (blockBuf tab (16 * s) kpool) 16 ∗ toks c vM fv (s % 24))
  else if s < 2 * n then iprop(issuing c vM fv (slotOf s) (blockBuf tab (16 * (s - n)) vpool) 16 ∗ toks c kM fk (s % 24))
  else idle c fk fv (slotOf s)

theorem slotSt_K {s : ℕ} (h : s < n) : (slotSt c fk fv tab kpool vpool n s : sProp 𝕄)
    = iprop(issuing c kM fk (slotOf s) (blockBuf tab (16 * s) kpool) 16 ∗ toks c vM fv (s % 24)) := if_pos h
theorem slotSt_V {s : ℕ} (h : n ≤ s) (h' : s < 2 * n) : (slotSt c fk fv tab kpool vpool n s : sProp 𝕄)
    = iprop(issuing c vM fv (slotOf s) (blockBuf tab (16 * (s - n)) vpool) 16 ∗ toks c kM fk (s % 24)) :=
  (if_neg (by omega)).trans (if_pos h')
theorem slotSt_idle {s : ℕ} (h : 2 * n ≤ s) : (slotSt c fk fv tab kpool vpool n s : sProp 𝕄) = idle c fk fv (slotOf s) :=
  (if_neg (by omega)).trans (if_neg (by omega))

/-! ## The whole ring -/

/-- The step that slot `k` holds when step `h` is the next. -/
def stepAt (h k : ℕ) : ℕ := h + (k + 24 - h % 24) % 24

/-- The ring when step `h` is the next to be waited for. -/
def ring (h : ℕ) : sProp 𝕄 := bigSep Finset.univ (fun k : Fin 24 => slotSt c fk fv tab kpool vpool n (stepAt h k.val))

/-- The ring without the slot of the next step. -/
def ringRest (h : ℕ) : sProp 𝕄 := bigSep (Finset.univ.erase (slotOf h)) (fun k : Fin 24 => slotSt c fk fv tab kpool vpool n (stepAt h k.val))

theorem ring_focus (h : ℕ) : (ring c fk fv tab kpool vpool n h : sProp 𝕄)
    = iprop(slotSt c fk fv tab kpool vpool n h ∗ ringRest c fk fv tab kpool vpool n h) := by
  unfold ring ringRest
  rw [bigSep_erase (Finset.mem_univ (slotOf h))]
  rw [show stepAt h (slotOf h).val = h from by show h + (h % 24 + 24 - h % 24) % 24 = h; omega]
  rfl

/-- The next step's slot taken over by the step 24 later. -/
theorem ring_advance (h : ℕ) : (iprop(slotSt c fk fv tab kpool vpool n (h + 24) ∗ ringRest c fk fv tab kpool vpool n h) : sProp 𝕄)
    = ring c fk fv tab kpool vpool n (h + 1) := by
  unfold ring ringRest
  rw [bigSep_erase (Finset.mem_univ (slotOf h))]
  rw [show stepAt (h + 1) (slotOf h).val = h + 24 from by show h + 1 + (h % 24 + 24 - (h + 1) % 24) % 24 = h + 24; omega]
  congr 1
  refine bigSep_congr fun k hk => ?_
  have hne : k.val ≠ h % 24 := fun e => (Finset.mem_erase.mp hk).1 (Fin.ext e)
  have hk' := k.isLt
  rw [show stepAt (h + 1) k.val = stepAt h k.val from by unfold stepAt; omega]

/-- The ring in the prologue: the slots below `t` started. -/
def proRing (t : ℕ) : sProp 𝕄 := bigSep Finset.univ (fun k : Fin 24 => if k.val < t then slotSt c fk fv tab kpool vpool n k.val else idle c fk fv k)

def proRest (t : ℕ) : sProp 𝕄 := bigSep (Finset.univ.erase (slotOf t)) (fun k : Fin 24 => if k.val < t then slotSt c fk fv tab kpool vpool n k.val else idle c fk fv k)

theorem proRing_zero : (proRing c fk fv tab kpool vpool n 0 : sProp 𝕄) = bigSep Finset.univ (fun k : Fin 24 => idle c fk fv k) := by
  unfold proRing
  exact bigSep_congr fun k _ => if_neg (by omega)

theorem proRing_focus {t : ℕ} (ht : t < 24) : (proRing c fk fv tab kpool vpool n t : sProp 𝕄) = iprop(idle c fk fv (slotOf t) ∗ proRest c fk fv tab kpool vpool n t) := by
  unfold proRing proRest
  rw [bigSep_erase (Finset.mem_univ (slotOf t)), if_neg (by show ¬ t % 24 < t; omega)]
  rfl

theorem proRing_advance {t : ℕ} (ht : t < 24) : (iprop(slotSt c fk fv tab kpool vpool n t ∗ proRest c fk fv tab kpool vpool n t) : sProp 𝕄) = proRing c fk fv tab kpool vpool n (t + 1) := by
  unfold proRing proRest
  rw [bigSep_erase (Finset.mem_univ (slotOf t)), if_pos (by show t % 24 < t + 1; omega), show (slotOf t).val = t from Nat.mod_eq_of_lt ht]
  congr 1
  refine bigSep_congr fun k hk => ?_
  have hne : k.val ≠ t % 24 := fun e => (Finset.mem_erase.mp hk).1 (Fin.ext e)
  by_cases h : k.val < t
  · rw [if_pos h, if_pos (by omega)]
  · rw [if_neg h, if_neg (by omega)]

theorem proRing_done : (proRing c fk fv tab kpool vpool n 24 : sProp 𝕄) = ring c fk fv tab kpool vpool n 0 := by
  unfold proRing ring
  refine bigSep_congr fun k _ => ?_
  have hk := k.isLt
  rw [if_pos hk, show stepAt 0 k.val = k.val from by unfold stepAt; omega]

/-- After the last step the ring is idle. -/
theorem ring_end : (ring c fk fv tab kpool vpool n (2 * n) : sProp 𝕄) = bigSep Finset.univ (fun k : Fin 24 => idle c fk fv k) := by
  unfold ring
  refine bigSep_congr fun k _ => ?_
  have hk := k.isLt
  rw [slotSt_idle c fk fv tab kpool vpool n (by unfold stepAt; omega)]
  congr 1
  exact Fin.ext (by show stepAt (2 * n) k.val % 24 = k.val; unfold stepAt; omega)

end Cert.KernelIdeal.Hand

end
-- ==== Proof.KI.Start.lean ====
/-
  What the launch hands the kernel for its copies (the ring whole, its 24 semaphores at zero, the two pools whole) is
  the 24 idle slots beside a remaining read share of each pool; and back.
-/
module

public import proofs.«01_k».proof.Proof.KI.Ring
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable (c : Dev nD) (fk : Buf (Elt F) (kM.view.loc (c : Thread nD τ))) (fv : Buf (Elt F) (vM.view.loc (c : Thread nD τ)))

/-- A whole pool is the slots' read shares beside what remains of it. -/
theorem pool_toks (M : Memref sig .tc .hbm S1024x2x128x128 .fp8e4m3) (f : Buf (Elt F) (M.view.loc (c : Thread nD τ))) :
    (M.view.loc (c : Thread nD τ) ↦{fullShare} f : sProp 𝕄)
      ⊣⊢ iprop((M.view.loc (c : Thread nD τ) ↦{Transfers.shareDrop fullShare (24 * 16)} f) ∗ bigSep Finset.univ (fun k : Fin 24 => toks c M f k.val)) := by
  have h := Transfers.pointsTo_toks (Ix := Unit) (Name := ℕ) (U := Pipeline.UD sig nD τ) (Lvl := ℕ) (ℓ := M.view.loc (c : Thread nD τ)) (S := Finset.univ) (f := f) fullShare (24 * 16)
  rw [bigSep_univ_equiv (finProdFinEquiv (m := 24) (n := 16)), bigSep_univ_prod] at h
  rw [show (bigSep Finset.univ (fun k : Fin 24 => toks c M f k.val) : sProp 𝕄) = bigSep Finset.univ (fun a : Fin 24 => bigSep Finset.univ (fun b : Fin 16 =>
      (M.view.loc (c : Thread nD τ) ↦{Transfers.shareTok fullShare (24 * 16) (finProdFinEquiv (a, b))} f))) from by
    refine bigSep_congr fun k _ => ?_
    unfold toks
    refine bigSep_congr fun t _ => ?_
    rw [show Transfers.shareTok fullShare (24 * 16) (finProdFinEquiv (k, t)) = Transfers.shareTokN fullShare (finProdFinEquiv (k, t)).val from rfl,
      show (finProdFinEquiv (k, t)).val = 16 * k.val + t.val from by show t.val + 16 * k.val = _; omega]]
  exact h

theorem kset_disjoint (k k' : Fin 24) (h : k ≠ k') : Disjoint (kset k.val) (kset k'.val) := by
  rw [Finset.disjoint_left]
  intro i hi hi'
  unfold kset at hi hi'
  exact h (Fin.ext ((Finset.mem_filter.mp hi).2.symm.trans (Finset.mem_filter.mp hi').2))

theorem kset_cover : (Finset.univ : Finset (Fin 24)).biUnion (fun k => kset k.val) = Finset.univ := by
  ext i
  rw [Finset.mem_biUnion]
  unfold kset
  exact ⟨fun _ => Finset.mem_univ _, fun _ => ⟨⟨(i 0).val, (i 0).isLt⟩, Finset.mem_univ _, Finset.mem_filter.mpr ⟨Finset.mem_univ _, rfl⟩⟩⟩

/-- The ring whole is its slots, each at some contents. -/
theorem ring_split : (iprop(∃ g : Buf (Elt F) (ringLoc c), ringLoc c ↦{fullShare} g) : sProp 𝕄)
    ⊢ bigSep Finset.univ (fun k : Fin 24 => iprop(∃ g : Buf (Elt F) (ringLoc c), ringLoc c ↦[kset k.val]{fullShare} g)) := by
  iintro ⟨%g, H⟩
  iapply (show (ringLoc c ↦{fullShare} g : sProp 𝕄) ⊢ bigSep Finset.univ (fun k : Fin 24 => iprop(∃ g : Buf (Elt F) (ringLoc c), ringLoc c ↦[kset k.val]{fullShare} g)) from by
    rw [Ring.pointsTo_blocks (fun k : Fin 24 => kset k.val) (fun k k' h => kset_disjoint k k' h) kset_cover g]
    exact bigSep_mono fun k _ => (show (ringLoc c ↦[kset k.val]{fullShare} g : sProp 𝕄) ⊢ iprop(∃ g : Buf (Elt F) (ringLoc c), ringLoc c ↦[kset k.val]{fullShare} g) from by iintro H; iexists g; iexact H))
  iexact H

/-- What remains of the two pools beside the slots' read shares. -/
def poolRest : sProp 𝕄 :=
  iprop((kM.view.loc (c : Thread nD τ) ↦{Transfers.shareDrop fullShare (24 * 16)} fk) ∗ (vM.view.loc (c : Thread nD τ) ↦{Transfers.shareDrop fullShare (24 * 16)} fv))

/-- The slots' parts, part by part. -/
theorem idle_parts : (bigSep Finset.univ (fun k : Fin 24 => idle c fk fv k) : sProp 𝕄)
    = iprop(bigSep Finset.univ (fun k : Fin 24 => semVal ((c : Thread nD τ), SemLoc.dma (cell k)) 0)
      ∗ bigSep Finset.univ (fun k : Fin 24 => iprop(∃ g : Buf (Elt F) (ringLoc c), ringLoc c ↦[kset k.val]{fullShare} g))
      ∗ bigSep Finset.univ (fun k : Fin 24 => toks c kM fk k.val) ∗ bigSep Finset.univ (fun k : Fin 24 => toks c vM fv k.val)) := by
  unfold idle
  refine (bigSep_sep _ _ _).trans ?_
  refine congrArg _ ((bigSep_sep _ _ _).trans ?_)
  exact congrArg _ (bigSep_sep _ _ _)

/-- In: the idle ring. -/
theorem ring_in : (iprop(bigSep Finset.univ (fun k : Fin 24 => semVal ((c : Thread nD τ), SemLoc.dma (cell k)) 0) ∗ (∃ g : Buf (Elt F) (ringLoc c), ringLoc c ↦{fullShare} g)
      ∗ (kM.view.loc (c : Thread nD τ) ↦{fullShare} fk) ∗ (vM.view.loc (c : Thread nD τ) ↦{fullShare} fv)) : sProp 𝕄)
    ⊢ iprop(bigSep Finset.univ (fun k : Fin 24 => idle c fk fv k) ∗ poolRest c fk fv) := by
  rw [idle_parts]
  unfold poolRest
  iintro ⟨HS, HR, HK, HV⟩
  ihave HR := (ring_split (F := F) c) $$ HR
  ihave HK := (pool_toks c kM fk).1 $$ HK
  ihave HV := (pool_toks c vM fv).1 $$ HV
  icases HK with ⟨HK, HKT⟩
  icases HV with ⟨HV, HVT⟩
  isplitl [HS HR HKT HVT]
  · isplitl [HS]; · iexact HS
    isplitl [HR]; · iexact HR
    isplitl [HKT]; · iexact HKT
    iexact HVT
  · isplitl [HK]; · iexact HK
    iexact HV

/-- Out: the launch's resources back. -/
theorem ring_out : (iprop(bigSep Finset.univ (fun k : Fin 24 => idle c fk fv k) ∗ poolRest c fk fv) : sProp 𝕄)
    ⊢ iprop(bigSep Finset.univ (fun k : Fin 24 => semVal ((c : Thread nD τ), SemLoc.dma (cell k)) 0) ∗ (∃ g : Buf (Elt F) (ringLoc c), ringLoc c ↦{fullShare} g)
      ∗ (kM.view.loc (c : Thread nD τ) ↦{fullShare} fk) ∗ (vM.view.loc (c : Thread nD τ) ↦{fullShare} fv)) := by
  rw [idle_parts]
  unfold poolRest
  iintro ⟨⟨HS, HR, HKT, HVT⟩, HK, HV⟩
  isplitl [HS]; · iexact HS
  isplitl [HR]
  · iapply (Ring.pointsTo_blocks_join_exists (fun k : Fin 24 => kset k.val) (fun k k' h => kset_disjoint k k' h) kset_cover (blockBuf (fun _ => 0) 0 fk))
    iexact HR
  isplitl [HK HKT]
  · iapply (pool_toks c kM fk).2
    isplitl [HK]; · iexact HK
    iexact HKT
  · iapply (pool_toks c vM fv).2
    isplitl [HV]; · iexact HV
    iexact HVT

end Cert.KernelIdeal.Hand

end
-- ==== Proof.KI.Step.lean ====
/-
  The wait for a step's 16 copies, and the loads and stores of the step, each as a rule for a program that goes on.
-/
module

public import proofs.«01_k».proof.Proof.KI.Ring

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {c : Dev nD}

/-- What the body owes, at any set of waits. -/
def owing (c : Dev nD) : sProp 𝕄 := iprop(∃ Ws : Waits sig Unit, owes (c : Thread nD τ) 0 Ws)

/-- The units of a whole slot are its 16 pages' units. -/
theorem slot_units : sig.dmaCredit .tc (Kind.table .tc .vmem) (pageDst ![0, 0, 0, 0, 0] (by decide)).view.buf S16x2x128x128 .fp8e4m3 = pageUnits * 16 := by
  decide

theorem lift_op {β α : Type} {e : TpuEff nD τ sig (Elt F) Λ₀ .tc β} {K : β → Prog (TpuEff nD τ sig (Elt F) Λ₀ .tc) α} {Q : α → sProp 𝕄} {P : sProp 𝕄}
    (h : P ⊢ W c (.op e K) Q) : P ⊢ W c (Prog.lift e >>= K) Q := h

/-- The one wait of a slot: the step has landed, and the slot's semaphore and shares are back. -/
theorem wait_slot {α : Type} {M : Memref sig .tc .hbm S1024x2x128x128 .fp8e4m3} {f : Buf (Elt F) (M.view.loc (c : Thread nD τ))} {k : Fin 24} {G : RingBuf (F := F)}
    {oD : Fin 1 → ℕ} {iD} (hD : oD = ![k.val]) {sp sp' : Space} {s' s : Shape} {e' e : EltTy}
    {srcw : Memref sig .tc sp' s' e'} {dstw : Memref sig .tc sp s e} {hsrc hdst} (hJ : dstw.view.dmaCredit = pageUnits * 16)
    {K : PUnit → Prog (TpuEff nD τ sig (Elt F) Λ₀ .tc) α} {Q : α → sProp 𝕄} {R : sProp 𝕄}
    (hk : iprop(semVal ((c : Thread nD τ), SemLoc.dma (cell k)) 0 ∗ (ringLoc c ↦[kset k.val]{fullShare} G) ∗ toks c M f k.val ∗ owing c ∗ R) ⊢ W c (K ⟨⟩) Q) :
    iprop(issuing c M f k G 16 ∗ owing c ∗ R) ⊢ W c (Prog.lift (.waitDma2 (semAt oD iD) srcw dstw hsrc hdst) >>= K) Q := by
  subst hD
  refine lift_op ?_
  unfold issuing owing
  iintro ⟨⟨HB, -⟩, ⟨%Ws, HW⟩, HR⟩
  iapply (Transfers.wp_waitBatchAll EC Variants.none (c : Thread nD τ) none () hJ (by decide) (u := 0) (N := pageUnits) (by rw [Nat.zero_add])) $$ [HB HW]
  · isplitl [HB]; · iexact HB
    iexact HW
  iintro ⟨HD, Hs, HW⟩
  ihave HD := (landed_of_done c M f k.val G) $$ HD
  icases HD with ⟨Hr, Ht⟩
  iapply hk
  isplitl [Hs]; · iexact Hs
  isplitl [Hr]; · iexact Hr
  isplitl [Ht]; · iexact Ht
  isplitl [HW]
  · unfold owing; iexists _; iexact HW
  iexact HR

/-- The block of 16 pages `tab (b + 0), …, tab (b + 15)` of a pool, as a load of its slot reads it. -/
def blkVec (tab : ℕ → BitVec 32) (b : ℕ) (pool : PoolBuf (F := F)) : Vec F S1x16x2x128x128 .fp8e4m3 :=
  fun i => pool (ix4 (n0 := 1024) (n1 := 2) (n2 := 128) (n3 := 128) (Fin.ofNat 1024 (tab (b + (i 1).val)).toNat) (i 2) (i 3) (i 4))

/-- The load of a landed slot. -/
theorem load_slot {α : Type} {k : ℕ} {tab : ℕ → BitVec 32} {b : ℕ} {pool : PoolBuf (F := F)}
    {o : Fin 5 → ℕ} {i} (ho : o = ![k, 0, 0, 0, 0]) {hl}
    {K : Vec F S1x16x2x128x128 .fp8e4m3 → Prog (TpuEff nD τ sig (Elt F) Λ₀ .tc) α} {Q : α → sProp 𝕄} {R : sProp 𝕄}
    (hk : iprop((ringLoc c ↦[kset k]{fullShare} (blockBuf tab b pool)) ∗ R) ⊢ W c (K (blkVec tab b pool)) Q) :
    iprop((ringLoc c ↦[kset k]{fullShare} (blockBuf tab b pool)) ∗ R)
      ⊢ W c (Prog.lift (.load ringM (Rect.unit (s := S24x16x2x128x128) o S1x16x2x128x128.size i).toLoadRect hl) >>= K) Q := by
  subst ho
  have hv : ringM.view.readAt (Elt F) (Rect.unit (s := S24x16x2x128x128) ![k, 0, 0, 0, 0] S1x16x2x128x128.size i).toLoadRect (blockBuf tab b pool) = blkVec tab b pool := by
    funext x
    show blockBuf tab b pool ((Rect.unit (s := S24x16x2x128x128) ![k, 0, 0, 0, 0] S1x16x2x128x128.size i).emb x) = _
    have e : ∀ a : Fin 5, 1 ≤ a.val → ((Rect.unit (s := S24x16x2x128x128) ![k, 0, 0, 0, 0] S1x16x2x128x128.size i).emb x a).val = (x a).val := by
      intro a ha
      match a with
      | ⟨1, _⟩ => exact (Nat.zero_add _).trans (Nat.one_mul _)
      | ⟨2, _⟩ => exact (Nat.zero_add _).trans (Nat.one_mul _)
      | ⟨3, _⟩ => exact (Nat.zero_add _).trans (Nat.one_mul _)
      | ⟨4, _⟩ => exact (Nat.zero_add _).trans (Nat.one_mul _)
    unfold blockBuf blkVec
    congr 1
    funext a
    apply Fin.ext
    match a with
    | ⟨0, _⟩ => exact congrArg (fun n => (tab (b + n)).toNat % 1024) (e 1 (by decide))
    | ⟨1, _⟩ => exact e 2 (by decide)
    | ⟨2, _⟩ => exact e 3 (by decide)
    | ⟨3, _⟩ => exact e 4 (by decide)
  have hS : ringM.view.setOn (Rect.unit (s := S24x16x2x128x128) ![k, 0, 0, 0, 0] S1x16x2x128x128.size i).toLoadRect.set ⊆ kset k := by
    intro j hj
    obtain ⟨j', hj', rfl⟩ := Finset.mem_map.mp hj
    have hj' := (Rect.mem_set_unit.mp hj') 0
    have : k ≤ (j' 0).val ∧ (j' 0).val < k + 1 := hj'
    exact Finset.mem_filter.mpr ⟨Finset.mem_univ _, show (j' 0).val = k by omega⟩
  rw [← hv] at hk
  refine lift_op ?_
  iintro ⟨Hr, HR⟩
  iapply (wp_load Variants.none (c : Thread nD τ) none Set.univ hS) $$ [Hr]
  · iexact Hr
  iintro Hr
  iapply hk
  isplitl [Hr]; · iexact Hr
  iexact HR

end Cert.KernelIdeal.Hand

end
-- ==== Proof.KI.Window.lean ====
/-
  Loads and stores of a whole window, as rules for a program that goes on.
-/
module

public import proofs.«01_k».proof.Proof.KI.Step

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {c : Dev nD}

/-- A box of a shape's own size at zero offsets sends each place to itself. -/
theorem unit_emb {s : Shape} {o : Fin s.rank → ℕ} (ho : ∀ a, o a = 0) {i} (x : s.Idx) : (Rect.unit (s := s) o s.size i).emb x = x := by
  funext a
  apply Fin.ext
  show o a + 1 * (x a).val = (x a).val
  rw [ho a]; omega

/-- The load of a whole window. -/
theorem own_load {α : Type} {s : Shape} {e : EltTy} {m : Memref sig .tc .vmem s e} {q : PosShare TreeShare} {X : s.Idx → Elt F e} {o : Fin s.rank → ℕ} (ho : ∀ a, o a = 0) {i hl}
    {K : (s.Idx → Elt F e) → Prog (TpuEff nD τ sig (Elt F) Λ₀ .tc) α} {Q : α → sProp 𝕄} :
    iprop(owns (c : Thread nD τ) m q X ∗ (owns (c : Thread nD τ) m q X -∗ W c (K X) Q))
      ⊢ W c (Prog.lift (.load m (Rect.unit (s := s) o s.size i).toLoadRect hl) >>= K) Q := by
  refine lift_op ?_
  unfold owns
  iintro ⟨⟨%f, %hf, Hf⟩, HK⟩
  have hv : m.view.readAt (Elt F) (Rect.unit (s := s) o s.size i).toLoadRect f = X := by
    funext x
    show m.view.read (Elt F) f ((Rect.unit (s := s) o s.size i).emb x) = X x
    rw [unit_emb ho, hf]
  iapply (wp_load Variants.none (c : Thread nD τ) none Set.univ (View.setOn_subset_set _ _)) $$ [Hf]
  · iexact Hf
  iintro Hf
  rw [hv]
  iapply HK
  iexists f
  isplitr; · ipureintro; exact hf
  iexact Hf

/-- The store of a whole window. -/
theorem own_store {α : Type} {s : Shape} {e : EltTy} {m : Memref sig .tc .vmem s e} {X w : s.Idx → Elt F e} {o : Fin s.rank → ℕ} (ho : ∀ a, o a = 0) {i hx hm}
    {K : PUnit → Prog (TpuEff nD τ sig (Elt F) Λ₀ .tc) α} {Q : α → sProp 𝕄} :
    iprop(owns (c : Thread nD τ) m fullShare X ∗ (owns (c : Thread nD τ) m fullShare w -∗ W c (K ⟨⟩) Q))
      ⊢ W c (Prog.lift (.store m (Rect.unit (s := s) o s.size i) w Finset.univ hx hm) >>= K) Q := by
  refine lift_op ?_
  unfold owns
  iintro ⟨⟨%f, %hf, Hf⟩, HK⟩
  iapply (wp_store Variants.none (c : Thread nD τ) none Set.univ ((View.setOn_subset_set _ _).trans (View.set_slice_subset _ _))) $$ [Hf]
  · iexact Hf
  iintro Hf
  iapply HK
  iexists _
  isplitr; swap; · iexact Hf
  ipureintro
  funext x
  have hy := congrFun (View.read_write_univ (v := m.access (Rect.unit (s := s) o s.size i)) (Val := Elt F) f w) x
  exact (congrArg (m.view.read (Elt F) _) (unit_emb ho x).symm).trans hy

/-- The load of one word of a scalar window. -/
theorem own_smem {α : Type} {s : Shape} {e : EltTy} {m : Memref sig .tc .smem s e} {q : PosShare TreeShare} {X : s.Idx → Elt F e} {o : Fin s.rank → ℕ} {sz : Fin s.rank → ℕ} {i h1 hp}
    {x : s.Idx} (hx : ∀ a, (x a).val = o a)
    {K : Elt F e → Prog (TpuEff nD τ sig (Elt F) Λ₀ .tc) α} {Q : α → sProp 𝕄} :
    iprop(owns (c : Thread nD τ) m q X ∗ (owns (c : Thread nD τ) m q X -∗ W c (K (X x)) Q))
      ⊢ W c (smemLoad m (Rect.unit (s := s) o sz i) h1 hp >>= K) Q := by
  show _ ⊢ W c (smemLoadElt m _ (View.loads_smem_one hp h1) _ (fun x => Prog.ret x >>= K)) Q
  unfold owns
  iintro ⟨⟨%f, %hf, Hf⟩, HK⟩
  have hv : (m.access (Rect.unit (s := s) o sz i)).read (Elt F) f (Shape.Idx.first (h1.symm ▸ Nat.one_pos)) = X x := by
    rw [← hf]
    show m.view.read (Elt F) f ((Rect.unit (s := s) o sz i).emb _) = _
    congr 1
    funext a
    apply Fin.ext
    show o a + 1 * 0 = (x a).val
    rw [hx a]; omega
  iapply (wp_smemLoadElt Variants.none (c : Thread nD τ) none Set.univ (View.set_slice_subset _ _)) $$ [Hf]
  · iexact Hf
  iintro Hf
  rw [Prog.bind_ret, hv]
  iapply HK
  iexists f
  isplitr; · ipureintro; exact hf
  iexact Hf

end Cert.KernelIdeal.Hand

end
-- ==== Proof.KI.Scores.lean ====
/-
  The scores buffer, block by block, and a slot taken from one step to the step 24 later.
-/
module

public import proofs.«01_k».proof.Proof.KI.Step

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {c : Dev nD}

/-! ## A slot between its steps -/

variable (fk : Buf (Elt F) (kM.view.loc (c : Thread nD τ))) (fv : Buf (Elt F) (vM.view.loc (c : Thread nD τ)))

theorem slotOf_add (s : ℕ) : slotOf s = slotOf (s + 24) := Fin.ext (by show s % 24 = (s + 24) % 24; omega)

/-- A landed K step leaves an idle slot for the step 24 later. -/
theorem idle_of_K (s : ℕ) (G : RingBuf (F := F)) :
    (iprop(semVal ((c : Thread nD τ), SemLoc.dma (cell (slotOf s))) 0 ∗ (ringLoc c ↦[kset (slotOf s).val]{fullShare} G) ∗ toks c kM fk (slotOf s).val ∗ toks c vM fv (s % 24)) : sProp 𝕄)
      ⊢ idle c fk fv (slotOf (s + 24)) := by
  rw [← slotOf_add]
  unfold idle
  iintro ⟨Hs, Hr, Hk, Hv⟩
  isplitl [Hs]; · iexact Hs
  isplitl [Hr]; · iexists G; iexact Hr
  isplitl [Hk]; · iexact Hk
  iexact Hv

/-- A landed V step leaves an idle slot for the step 24 later. -/
theorem idle_of_V (s : ℕ) (G : RingBuf (F := F)) :
    (iprop(semVal ((c : Thread nD τ), SemLoc.dma (cell (slotOf s))) 0 ∗ (ringLoc c ↦[kset (slotOf s).val]{fullShare} G) ∗ toks c vM fv (slotOf s).val ∗ toks c kM fk (s % 24)) : sProp 𝕄)
      ⊢ idle c fk fv (slotOf (s + 24)) := by
  rw [← slotOf_add]
  unfold idle
  iintro ⟨Hs, Hr, Hv, Hk⟩
  isplitl [Hs]; · iexact Hs
  isplitl [Hr]; · iexists G; iexact Hr
  isplitl [Hk]; · iexact Hk
  iexact Hv

/-- An idle slot starts a K step. -/
theorem start_K (s : ℕ) (G : RingBuf (F := F)) :
    (idle c fk fv (slotOf s) : sProp 𝕄) ⊢ |={Set.univ}[frame]=> iprop(issuing c kM fk (slotOf s) G 0 ∗ toks c vM fv (s % 24)) := by
  unfold idle
  iintro ⟨Hs, Hr, Hk, Hv⟩
  imod (start c kM fk (slotOf s) G) $$ [Hs Hr Hk] with HI
  · isplitl [Hs]; · iexact Hs
    isplitl [Hr]; · iexact Hr
    iexact Hk
  imodintro
  isplitl [HI]; · iexact HI
  iexact Hv

/-- An idle slot starts a V step. -/
theorem start_V (s : ℕ) (G : RingBuf (F := F)) :
    (idle c fk fv (slotOf s) : sProp 𝕄) ⊢ |={Set.univ}[frame]=> iprop(issuing c vM fv (slotOf s) G 0 ∗ toks c kM fk (s % 24)) := by
  unfold idle
  iintro ⟨Hs, Hr, Hk, Hv⟩
  imod (start c vM fv (slotOf s) G) $$ [Hs Hr Hv] with HI
  · isplitl [Hs]; · iexact Hs
    isplitl [Hr]; · iexact Hr
    iexact Hv
  imodintro
  isplitl [HI]; · iexact HI
  iexact Hk

/-! ## The scores buffer -/

/-- The contents of the scores buffer. -/
abbrev ScoreBuf : Type := (⟨S16x131072, .f32⟩ : BufTy).Contents (Elt F)
/-- The scores buffer's location on the core. -/
abbrev scoreLoc (c : Dev nD) : Loc nD τ sig := (c : Thread nD τ).loc cc0_scratch1

/-- Element `i` of the scores buffer, by its block and its place in the block. -/
def scoreAt (blk : ℕ → FVec F S16x2048 .f32) (i : S16x131072.Idx) : F .f32 :=
  blk ((i 1).val / 2048) (ix2 (n0 := 16) (n1 := 2048) (i 0) ⟨(i 1).val % 2048, Nat.mod_lt _ (by decide)⟩)

/-- The scores buffer with its first `n` blocks written. -/
def scoresTo (c : Dev nD) (blk : ℕ → FVec F S16x2048 .f32) (n : ℕ) : sProp 𝕄 :=
  iprop(∃ f : Buf (Elt F) (scoreLoc c), (scoreLoc c ↦{fullShare} f) ∗ ⌜∀ i : S16x131072.Idx, (i 1).val < 2048 * n → f i = scoreAt blk i⌝)

theorem score_emb {n : ℕ} {i} (y : S16x2048.Idx) :
    (∀ h, (Rect.unit (s := S16x131072) ![0, 2048 * n] S16x2048.size i).emb y 0 = ⟨(y 0).val, h⟩) ∧ ((Rect.unit (s := S16x131072) ![0, 2048 * n] S16x2048.size i).emb y 1).val = 2048 * n + (y 1).val :=
  ⟨fun h => Fin.ext ((Nat.zero_add _).trans (Nat.one_mul _)), congrArg (2048 * n + ·) (Nat.one_mul _)⟩

theorem scoreAt_emb (blk : ℕ → FVec F S16x2048 .f32) {n : ℕ} {i} (y : S16x2048.Idx) :
    scoreAt blk ((Rect.unit (s := S16x131072) ![0, 2048 * n] S16x2048.size i).emb y) = blk n y := by
  unfold scoreAt
  have h1 := (score_emb (n := n) (i := i) y).2
  have hy : (y 1).val < 2048 := (y 1).isLt
  rw [show ((Rect.unit (s := S16x131072) ![0, 2048 * n] S16x2048.size i).emb y 1).val / 2048 = n by rw [h1]; omega]
  congr 1
  funext a
  apply Fin.ext
  match a with
  | ⟨0, _⟩ => exact (Nat.zero_add _).trans (Nat.one_mul _)
  | ⟨1, _⟩ => exact (congrArg (· % 2048) h1).trans (show (2048 * n + (y 1).val) % 2048 = (y 1).val by omega)

/-- A load from the scores buffer whose value nothing reads. -/
theorem score_peek {α : Type} {blk : ℕ → FVec F S16x2048 .f32} {n : ℕ} {r : LoadRect S16x131072} {hl}
    {K : (r.shape.Idx → Elt F .f32) → Prog (TpuEff nD τ sig (Elt F) Λ₀ .tc) α} {Q : α → sProp 𝕄} {R : sProp 𝕄}
    (hk : ∀ v, iprop(scoresTo c blk n ∗ R) ⊢ W c (K v) Q) :
    iprop(scoresTo c blk n ∗ R) ⊢ W c (Prog.lift (.load scoreM r hl) >>= K) Q := by
  refine lift_op ?_
  unfold scoresTo
  iintro ⟨⟨%f, Hf, %hf⟩, HR⟩
  iapply (wp_load Variants.none (c : Thread nD τ) none Set.univ (Finset.subset_univ _)) $$ [Hf]
  · iexact Hf
  iintro Hf
  iapply (hk _)
  isplitl [Hf]
  · unfold scoresTo; iexists f; isplitl [Hf]; · iexact Hf
    ipureintro; exact hf
  iexact HR

/-- The store of block `n`. -/
theorem score_store {α : Type} {blk : ℕ → FVec F S16x2048 .f32} {n : ℕ} {o : Fin 2 → ℕ} {i} (ho : o = ![0, 2048 * n]) {w : FVec F S16x2048 .f32} (hw : w = blk n) {hx hm}
    {K : PUnit → Prog (TpuEff nD τ sig (Elt F) Λ₀ .tc) α} {Q : α → sProp 𝕄} {R : sProp 𝕄}
    (hk : iprop(scoresTo c blk (n + 1) ∗ R) ⊢ W c (K ⟨⟩) Q) :
    iprop(scoresTo c blk n ∗ R) ⊢ W c (Prog.lift (.store scoreM (Rect.unit (s := S16x131072) o S16x2048.size i) w Finset.univ hx hm) >>= K) Q := by
  subst ho; subst hw
  refine lift_op ?_
  unfold scoresTo
  iintro ⟨⟨%f, Hf, %hf⟩, HR⟩
  iapply (wp_store Variants.none (c : Thread nD τ) none Set.univ (Finset.subset_univ _)) $$ [Hf]
  · iexact Hf
  iintro Hf
  iapply hk
  isplitl [Hf]
  · unfold scoresTo
    iexists _
    isplitl [Hf]; · iexact Hf
    ipureintro
    intro j hj
    by_cases hc : (j 1).val < 2048 * n
    · rw [View.write_of_not_mem, hf j hc]
      intro hm
      obtain ⟨y, -, hy⟩ := Finset.mem_map.mp hm
      have h1 := (score_emb (n := n) (i := i) y).2
      have : (j 1).val = 2048 * n + (y 1).val := by rw [← h1]; exact congrArg (fun z : S16x131072.Idx => (z 1).val) hy.symm
      omega
    · have hj0 : (j 1).val - 2048 * n < 2048 := by omega
      have hy : (Rect.unit (s := S16x131072) ![0, 2048 * n] S16x2048.size i).emb (ix2 (n0 := 16) (n1 := 2048) (j 0) ⟨(j 1).val - 2048 * n, hj0⟩) = j := by
        funext a
        apply Fin.ext
        match a with
        | ⟨0, _⟩ => exact (Nat.zero_add _).trans (Nat.one_mul _)
        | ⟨1, _⟩ => show 2048 * n + 1 * ((j 1).val - 2048 * n) = (j 1).val; omega
      rw [← hy, scoreAt_emb]
      exact View.write_emb_of_mem _ _ (Finset.mem_univ _)
  iexact HR

/-- The load of block `n`, written before. -/
theorem score_load {α : Type} {blk : ℕ → FVec F S16x2048 .f32} {m n : ℕ} (hn : n < m) {o : Fin 2 → ℕ} {i} (ho : o = ![0, 2048 * n]) {hl}
    {K : FVec F S16x2048 .f32 → Prog (TpuEff nD τ sig (Elt F) Λ₀ .tc) α} {Q : α → sProp 𝕄} {R : sProp 𝕄}
    (hk : iprop(scoresTo c blk m ∗ R) ⊢ W c (K (blk n)) Q) :
    iprop(scoresTo c blk m ∗ R) ⊢ W c (Prog.lift (.load scoreM (Rect.unit (s := S16x131072) o S16x2048.size i).toLoadRect hl) >>= K) Q := by
  subst ho
  refine lift_op ?_
  unfold scoresTo
  iintro ⟨⟨%f, Hf, %hf⟩, HR⟩
  have hv : scoreM.view.readAt (Elt F) (Rect.unit (s := S16x131072) ![0, 2048 * n] S16x2048.size i).toLoadRect f = blk n := by
    funext y
    show f ((Rect.unit (s := S16x131072) ![0, 2048 * n] S16x2048.size i).emb y) = _
    rw [hf _ (by rw [(score_emb (n := n) (i := i) y).2]; have : (y 1).val < 2048 := (y 1).isLt; omega), scoreAt_emb]
  rw [← hv] at hk
  iapply (wp_load Variants.none (c : Thread nD τ) none Set.univ (Finset.subset_univ _)) $$ [Hf]
  · iexact Hf
  iintro Hf
  iapply hk
  isplitl [Hf]
  · unfold scoresTo; iexists f; isplitl [Hf]; · iexact Hf
    ipureintro; exact hf
  iexact HR

end Cert.KernelIdeal.Hand

end
-- ==== Proof.KI.Head.lean ====
/-
  The start of a trip: the wait for the trip's step, the load of its block, and the slot's return to idle.
-/
module

public import proofs.«01_k».proof.Proof.KI.Scores

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {c : Dev nD} {tab : ℕ → BitVec 32}
  {fk : Buf (Elt F) (kM.view.loc (c : Thread nD τ))} {fv : Buf (Elt F) (vM.view.loc (c : Thread nD τ))} {kpool vpool : PoolBuf (F := F)}

/-- A trip of the scores loop starts: step `s`, a K block, has landed and is loaded. -/
theorem head_K {α : Type} {n s : ℕ} (hs : s < n) {oD : Fin 1 → ℕ} {iD} (hD : oD = ![s % 24]) {sp sp' : Space} {s1 s2 : Shape} {e1 e2 : EltTy}
    {srcw : Memref sig .tc sp' s1 e1} {dstw : Memref sig .tc sp s2 e2} {hsrc hdst} (hJ : dstw.view.dmaCredit = pageUnits * 16)
    {o : Fin 5 → ℕ} {i} (ho : o = ![s % 24, 0, 0, 0, 0]) {hl}
    {K : Vec F S1x16x2x128x128 .fp8e4m3 → Prog (TpuEff nD τ sig (Elt F) Λ₀ .tc) α} {Q : α → sProp 𝕄} {R : sProp 𝕄}
    (hk : iprop(idle c fk fv (slotOf (s + 24)) ∗ ringRest c fk fv tab kpool vpool n s ∗ owing c ∗ R) ⊢ W c (K (blkVec tab (16 * s) kpool)) Q) :
    iprop(ring c fk fv tab kpool vpool n s ∗ owing c ∗ R) ⊢ W c (Prog.lift (.waitDma2 (semAt oD iD) srcw dstw hsrc hdst) >>= fun _ =>
      Prog.lift (.load ringM (Rect.unit (s := S24x16x2x128x128) o S1x16x2x128x128.size i).toLoadRect hl) >>= K) Q := by
  rw [ring_focus, slotSt_K c fk fv tab kpool vpool n hs]
  refine (show _ ⊢ iprop(issuing c kM fk (slotOf s) (blockBuf tab (16 * s) kpool) 16 ∗ owing c ∗ (toks c vM fv (s % 24) ∗ ringRest c fk fv tab kpool vpool n s ∗ R)) from ?_).trans ?_
  · iintro ⟨⟨⟨HI, Hv⟩, HG⟩, HO, HR⟩
    isplitl [HI]; · iexact HI
    isplitl [HO]; · iexact HO
    isplitl [Hv]; · iexact Hv
    isplitl [HG]; · iexact HG
    iexact HR
  refine wait_slot (k := slotOf s) hD hJ ?_
  refine (show _ ⊢ iprop((ringLoc c ↦[kset (slotOf s).val]{fullShare} (blockBuf tab (16 * s) kpool)) ∗ (semVal ((c : Thread nD τ), SemLoc.dma (cell (slotOf s))) 0 ∗ toks c kM fk (slotOf s).val ∗ toks c vM fv (s % 24)) ∗ ringRest c fk fv tab kpool vpool n s ∗ owing c ∗ R) from ?_).trans ?_
  · iintro ⟨Hs, Hr, Hk, HO, Hv, HG, HR⟩
    isplitl [Hr]; · iexact Hr
    isplitl [Hs Hk Hv]
    · isplitl [Hs]; · iexact Hs
      isplitl [Hk]; · iexact Hk
      iexact Hv
    isplitl [HG]; · iexact HG
    isplitl [HO]; · iexact HO
    iexact HR
  refine load_slot (k := (slotOf s).val) ho ?_
  refine (show _ ⊢ iprop(idle c fk fv (slotOf (s + 24)) ∗ ringRest c fk fv tab kpool vpool n s ∗ owing c ∗ R) from ?_).trans hk
  iintro ⟨Hr, ⟨Hs, Hk, Hv⟩, HR⟩
  isplitr [HR]
  · iapply (idle_of_K fk fv s _)
    isplitl [Hs]; · iexact Hs
    isplitl [Hr]; · iexact Hr
    isplitl [Hk]; · iexact Hk
    iexact Hv
  iexact HR

/-- A trip of the values loop starts: step `n + x`, V block `x`, has landed, and its scores and itself are loaded. -/
theorem head_V {α : Type} {n x : ℕ} (hx : x < n) {oD : Fin 1 → ℕ} {iD} (hD : oD = ![(n + x) % 24]) {sp sp' : Space} {s1 s2 : Shape} {e1 e2 : EltTy}
    {srcw : Memref sig .tc sp' s1 e1} {dstw : Memref sig .tc sp s2 e2} {hsrc hdst} (hJ : dstw.view.dmaCredit = pageUnits * 16)
    {blk : ℕ → FVec F S16x2048 .f32} {oS : Fin 2 → ℕ} {iS} (hoS : oS = ![0, 2048 * x]) {hlS}
    {o : Fin 5 → ℕ} {i} (ho : o = ![(n + x) % 24, 0, 0, 0, 0]) {hl}
    {K : FVec F S16x2048 .f32 → Vec F S1x16x2x128x128 .fp8e4m3 → Prog (TpuEff nD τ sig (Elt F) Λ₀ .tc) α} {Q : α → sProp 𝕄} {R : sProp 𝕄}
    (hk : iprop(idle c fk fv (slotOf (n + x + 24)) ∗ ringRest c fk fv tab kpool vpool n (n + x) ∗ owing c ∗ scoresTo c blk n ∗ R)
      ⊢ W c (K (blk x) (blkVec tab (16 * x) vpool)) Q) :
    iprop(ring c fk fv tab kpool vpool n (n + x) ∗ owing c ∗ scoresTo c blk n ∗ R) ⊢ W c (Prog.lift (.waitDma2 (semAt oD iD) srcw dstw hsrc hdst) >>= fun _ =>
      Prog.lift (.load scoreM (Rect.unit (s := S16x131072) oS S16x2048.size iS).toLoadRect hlS) >>= fun v : FVec F S16x2048 .f32 =>
      Prog.lift (.load ringM (Rect.unit (s := S24x16x2x128x128) o S1x16x2x128x128.size i).toLoadRect hl) >>= K v) Q := by
  rw [ring_focus, slotSt_V c fk fv tab kpool vpool n (show n ≤ n + x by omega) (by omega), show n + x - n = x by omega]
  refine (show _ ⊢ iprop(issuing c vM fv (slotOf (n + x)) (blockBuf tab (16 * x) vpool) 16 ∗ owing c ∗ (toks c kM fk ((n + x) % 24) ∗ ringRest c fk fv tab kpool vpool n (n + x) ∗ scoresTo c blk n ∗ R)) from ?_).trans ?_
  · iintro ⟨⟨⟨HI, Hv⟩, HG⟩, HO, HS, HR⟩
    isplitl [HI]; · iexact HI
    isplitl [HO]; · iexact HO
    isplitl [Hv]; · iexact Hv
    isplitl [HG]; · iexact HG
    isplitl [HS]; · iexact HS
    iexact HR
  refine wait_slot (k := slotOf (n + x)) hD hJ ?_
  refine (show _ ⊢ iprop(scoresTo c blk n ∗ ((ringLoc c ↦[kset (slotOf (n + x)).val]{fullShare} (blockBuf tab (16 * x) vpool)) ∗ (semVal ((c : Thread nD τ), SemLoc.dma (cell (slotOf (n + x)))) 0 ∗ toks c vM fv (slotOf (n + x)).val ∗ toks c kM fk ((n + x) % 24)) ∗ ringRest c fk fv tab kpool vpool n (n + x) ∗ owing c ∗ R)) from ?_).trans ?_
  · iintro ⟨Hs, Hr, Hk, HO, Hv, HG, HS, HR⟩
    isplitl [HS]; · iexact HS
    isplitl [Hr]; · iexact Hr
    isplitl [Hs Hk Hv]
    · isplitl [Hs]; · iexact Hs
      isplitl [Hk]; · iexact Hk
      iexact Hv
    isplitl [HG]; · iexact HG
    isplitl [HO]; · iexact HO
    iexact HR
  refine score_load hx hoS ?_
  refine (show _ ⊢ iprop((ringLoc c ↦[kset (slotOf (n + x)).val]{fullShare} (blockBuf tab (16 * x) vpool)) ∗ (semVal ((c : Thread nD τ), SemLoc.dma (cell (slotOf (n + x)))) 0 ∗ toks c vM fv (slotOf (n + x)).val ∗ toks c kM fk ((n + x) % 24)) ∗ ringRest c fk fv tab kpool vpool n (n + x) ∗ owing c ∗ scoresTo c blk n ∗ R) from ?_).trans ?_
  · iintro ⟨HS, Hr, H, HG, HO, HR⟩
    isplitl [Hr]; · iexact Hr
    isplitl [H]; · iexact H
    isplitl [HG]; · iexact HG
    isplitl [HO]; · iexact HO
    isplitl [HS]; · iexact HS
    iexact HR
  refine load_slot (k := (slotOf (n + x)).val) ho ?_
  refine (show _ ⊢ iprop(idle c fk fv (slotOf (n + x + 24)) ∗ ringRest c fk fv tab kpool vpool n (n + x) ∗ owing c ∗ scoresTo c blk n ∗ R) from ?_).trans hk
  iintro ⟨Hr, ⟨Hs, Hk, Hv⟩, HR⟩
  isplitr [HR]
  · iapply (idle_of_V fk fv (n + x) _)
    isplitl [Hs]; · iexact Hs
    isplitl [Hr]; · iexact Hr
    isplitl [Hk]; · iexact Hk
    iexact Hv
  iexact HR

end Cert.KernelIdeal.Hand

end
-- ==== Proof.KI.T2.lean ====
/-
  One trip of the scores loop: trip `t` waits for step `t`, a K block, computes and stores its scores, folds their
  maximum, and issues step `t + 24`.
-/
module

public import proofs.«01_k».proof.Proof.KI.Head
public import Idealize.ShloMosaic.Lib.Pointwise.Reshape

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

/-- The scores of K block `k`: the scaled products, masked past the sequence's length. -/
def scoreBlk (v0 : BitVec 32) (v73 : FVec F S16x256 .bf16) (v83 : FVec F S16x1 .f32) (tab : ℕ → BitVec 32) (kpool : PoolBuf (F := F)) (k : ℕ) : FVec F S16x2048 .f32 :=
  if h : k < (k0_t2_loop v0).trips then k0_pay24 (k0_pay4 v73 v83 (blkVec tab (16 * k) kpool)) (k0_pay5 (F := F) v0 0#32 1#32 ⟨k, h⟩) k0_pay6 else k0_pay6

theorem scoreBlk_of (v0 : BitVec 32) (v73 : FVec F S16x256 .bf16) (v83 : FVec F S16x1 .f32) (t : Fin (k0_t2_loop v0).trips) :
    scoreBlk v0 v73 v83 tab kpool t.val = k0_pay24 (k0_pay4 v73 v83 (blkVec tab (16 * t.val) kpool)) (k0_pay5 (F := F) v0 0#32 1#32 t) k0_pay6 := dif_pos t.isLt

/-- The end of a trip: the block's scores stored, the maximum handed on. -/
theorem score_finish {blk : ℕ → FVec F S16x2048 .f32} {n : ℕ} {o : Fin 2 → ℕ} {i} (ho : o = ![0, 2048 * n]) {w : FVec F S16x2048 .f32} (hw : w = blk n) {hl hx hm}
    {r : FVec F S16x128 .f32} {A T O : sProp 𝕄} :
    iprop(scoresTo c blk n ∗ A ∗ T ∗ O) ⊢ W c (Prog.lift (.load scoreM (Rect.unit (s := S16x131072) o S16x2048.size i).toLoadRect hl) >>= fun _ =>
        Prog.lift (.store scoreM (Rect.unit (s := S16x131072) o S16x2048.size i) w Finset.univ hx hm) >>= fun _ => pure r)
      (fun a => iprop(A ∗ T ∗ O ∗ scoresTo c blk (n + 1) ∗ ⌜a = r⌝)) := by
  refine score_peek fun _ => score_store ho hw ?_
  show _ ⊢ iprop(|={Set.univ}[frame]=> (A ∗ T ∗ O ∗ scoresTo c blk (n + 1) ∗ ⌜r = r⌝))
  iintro ⟨HS, HA, HT, HO⟩
  imodintro
  isplitl [HA]; · iexact HA
  isplitl [HT]; · iexact HT
  isplitl [HO]; · iexact HO
  isplitl [HS]; · iexact HS
  ipureintro; rfl

theorem off131_eq (v0 : BitVec 32) (t : Fin (k0_t2_loop v0).trips) : k0_off131 v0 t = ![t.val % 24, 0, 0, 0, 0] := page_off (reads_t2 t) 0

set_option maxHeartbeats 2000000 in
/-- One trip that issues a K block. -/
theorem score_trip_K (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (h3' : t.val + 24 < nb v0) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  have hnb := nb_le v0
  have ht := t2_lt t
  have h3 := (cond3_iff v0 t).mpr h3'
  have h4 : ¬ k0_cond4 v0 t = 1#1 := fun hh => by have := (cond4_iff v0 t).mp hh; omega
  unfold k0_t2_body
  simp only [k0_part21_eq_skeleton, k0_part21_skel, dif_pos h3, dif_neg h4, k0_part11_eq_skeleton, k0_part12_eq_skeleton, k0_part13_eq_skeleton, k0_part14_eq_skeleton, k0_part15_eq_skeleton,
    k0_part11_skel, k0_part12_skel, k0_part13_skel, k0_part14_skel, k0_part15_skel, bind_assoc, pure_bind]
  apply head_K ht (sem_off (reads_t2 t)) slot_units (off131_eq v0 t)
  refine (show _ ⊢ iprop(|={Set.univ}[frame]=> (issuing c kM fk (slotOf (t.val + 24)) (blockBuf tab (16 * (t.val + 24)) kpool) 0 ∗ (arg7.view.loc (c : Thread nD τ) ↦[arg7.view.set]{fullShare} ft) ∗ (toks c vM fv ((t.val + 24) % 24) ∗ ringRest c fk fv tab kpool vpool (nb v0) (t.val) ∗ owing c ∗ scoresTo c (scoreBlk v0 v73 (k0_pay21 v74 v75) tab kpool) t.val))) from ?_).trans ((fupd_mono ?_).trans (fupd_wp _ _ _ _ _))
  · iintro ⟨HI, HR, HO, HT, HS⟩
    imod (start_K fk fv (t.val + 24) _) $$ HI with ⟨HI, Hx⟩
    imodintro
    isplitl [HI]; · iexact HI
    isplitl [HT]; · iexact HT
    isplitl [Hx]; · iexact Hx
    isplitl [HR]; · iexact HR
    isplitl [HO]; · iexact HO
    iexact HS
  iterate 16
    refine site_load htab ?_ (tab_off (reads_n2 t) _ (by omega) ?_) ?_
    iterate 2 omega
    refine site_assume (pool_chk (hlt _ ?_)) ?_
    omega
    refine site_page hM tab hlt ?_ ?_ rfl rfl (page_off (reads_n2 t) _) (sem_off (reads_n2 t)) ?_
    iterate 2 omega
  refine (show _ ⊢ iprop(scoresTo c (scoreBlk v0 v73 (k0_pay21 v74 v75) tab kpool) t.val ∗ ring c fk fv tab kpool vpool (nb v0) (t.val + 1) ∗ (arg7.view.loc (c : Thread nD τ) ↦[arg7.view.set]{fullShare} ft) ∗ owing c) from ?_).trans ?_
  · iintro ⟨HI, HT, Hx, HR, HO, HS⟩
    isplitl [HS]; · iexact HS
    isplitr [HT HO]
    · iapply (Entails.of_eq (ring_advance c fk fv tab kpool vpool (nb v0) (t.val)))
      isplitr [HR]
      · iapply (Entails.of_eq (slotSt_K c fk fv tab kpool vpool (nb v0) h3').symm)
        isplitl [HI]; · iexact HI
        iexact Hx
      iexact HR
    isplitl [HT]; · iexact HT
    iexact HO
  exact score_finish (score_off (reads_t2 t) (by omega)) ((shapeCast_id _ _).trans (scoreBlk_of v0 v73 _ t).symm)

set_option maxHeartbeats 2000000 in
/-- One trip that issues a V block. -/
theorem score_trip_V (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (h3' : nb v0 ≤ t.val + 24) (h4' : t.val + 24 < 2 * nb v0) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  have hnb := nb_le v0
  have ht := t2_lt t
  have h3 : ¬ k0_cond3 v0 t = 1#1 := fun hh => by have := (cond3_iff v0 t).mp hh; omega
  have h4 := (cond4_iff v0 t).mpr ⟨h3', h4'⟩
  unfold k0_t2_body
  simp only [k0_part21_eq_skeleton, k0_part21_skel, dif_neg h3, dif_pos h4, k0_part16_eq_skeleton, k0_part17_eq_skeleton, k0_part18_eq_skeleton, k0_part19_eq_skeleton, k0_part20_eq_skeleton,
    k0_part16_skel, k0_part17_skel, k0_part18_skel, k0_part19_skel, k0_part20_skel, bind_assoc, pure_bind]
  apply head_K ht (sem_off (reads_t2 t)) slot_units (off131_eq v0 t)
  refine (show _ ⊢ iprop(|={Set.univ}[frame]=> (issuing c vM fv (slotOf (t.val + 24)) (blockBuf tab (16 * (t.val + 24 - nb v0)) vpool) 0 ∗ (arg7.view.loc (c : Thread nD τ) ↦[arg7.view.set]{fullShare} ft) ∗ (toks c kM fk ((t.val + 24) % 24) ∗ ringRest c fk fv tab kpool vpool (nb v0) (t.val) ∗ owing c ∗ scoresTo c (scoreBlk v0 v73 (k0_pay21 v74 v75) tab kpool) t.val))) from ?_).trans ((fupd_mono ?_).trans (fupd_wp _ _ _ _ _))
  · iintro ⟨HI, HR, HO, HT, HS⟩
    imod (start_V fk fv (t.val + 24) _) $$ HI with ⟨HI, Hx⟩
    imodintro
    isplitl [HI]; · iexact HI
    isplitl [HT]; · iexact HT
    isplitl [Hx]; · iexact Hx
    isplitl [HR]; · iexact HR
    isplitl [HO]; · iexact HO
    iexact HS
  iterate 16
    refine site_load htab ?_ (tab_off (blkV2 t h4) _ (by omega) ?_) ?_
    iterate 2 omega
    refine site_assume (pool_chk (hlt _ ?_)) ?_
    omega
    refine site_page hM' tab hlt ?_ ?_ rfl rfl (page_off (reads_n2 t) _) (sem_off (reads_n2 t)) ?_
    iterate 2 omega
  refine (show _ ⊢ iprop(scoresTo c (scoreBlk v0 v73 (k0_pay21 v74 v75) tab kpool) t.val ∗ ring c fk fv tab kpool vpool (nb v0) (t.val + 1) ∗ (arg7.view.loc (c : Thread nD τ) ↦[arg7.view.set]{fullShare} ft) ∗ owing c) from ?_).trans ?_
  · iintro ⟨HI, HT, Hx, HR, HO, HS⟩
    isplitl [HS]; · iexact HS
    isplitr [HT HO]
    · iapply (Entails.of_eq (ring_advance c fk fv tab kpool vpool (nb v0) (t.val)))
      isplitr [HR]
      · iapply (Entails.of_eq (slotSt_V c fk fv tab kpool vpool (nb v0) h3' h4').symm)
        isplitl [HI]; · iexact HI
        iexact Hx
      iexact HR
    isplitl [HT]; · iexact HT
    iexact HO
  exact score_finish (score_off (reads_t2 t) (by omega)) ((shapeCast_id _ _).trans (scoreBlk_of v0 v73 _ t).symm)

set_option maxHeartbeats 2000000 in
/-- One trip with no step left to issue. -/
theorem score_trip_none (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (h5 : 2 * nb v0 ≤ t.val + 24) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  have hnb := nb_le v0
  have ht := t2_lt t
  have h3 : ¬ k0_cond3 v0 t = 1#1 := fun hh => by have := (cond3_iff v0 t).mp hh; omega
  have h4 : ¬ k0_cond4 v0 t = 1#1 := fun hh => by have := (cond4_iff v0 t).mp hh; omega
  unfold k0_t2_body
  simp only [k0_part21_eq_skeleton, k0_part21_skel, dif_neg h3, dif_neg h4, bind_assoc, pure_bind]
  apply head_K ht (sem_off (reads_t2 t)) slot_units (off131_eq v0 t)
  refine (show _ ⊢ iprop(scoresTo c (scoreBlk v0 v73 (k0_pay21 v74 v75) tab kpool) t.val ∗ ring c fk fv tab kpool vpool (nb v0) (t.val + 1) ∗ (arg7.view.loc (c : Thread nD τ) ↦[arg7.view.set]{fullShare} ft) ∗ owing c) from ?_).trans ?_
  · iintro ⟨HI, HR, HO, HT, HS⟩
    isplitl [HS]; · iexact HS
    isplitr [HT HO]
    · iapply (Entails.of_eq (ring_advance c fk fv tab kpool vpool (nb v0) (t.val)))
      isplitr [HR]
      · iapply (Entails.of_eq (slotSt_idle c fk fv tab kpool vpool (nb v0) h5).symm)
        iexact HI
      iexact HR
    isplitl [HT]; · iexact HT
    iexact HO
  exact score_finish (score_off (reads_t2 t) (by omega)) ((shapeCast_id _ _).trans (scoreBlk_of v0 v73 _ t).symm)

/-- One trip. -/
theorem score_trip (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) (t : Fin (k0_t2_loop v0).trips) (acc : FVec F S16x128 .f32) :
    iprop(ring c fk fv tab kpool vpool (nb v0) t.val ∗ owing c ∗ (arg7.view.loc (c : Thread nD τ) ↦[arg7.view.set]{fullShare} ft) ∗ scoresTo c (scoreBlk v0 v73 (k0_pay21 v74 v75) tab kpool) t.val)
      ⊢ W c (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75 t acc)
          (fun r => iprop(ring c fk fv tab kpool vpool (nb v0) (t.val + 1) ∗ (arg7.view.loc (c : Thread nD τ) ↦[arg7.view.set]{fullShare} ft) ∗ owing c ∗ scoresTo c (scoreBlk v0 v73 (k0_pay21 v74 v75) tab kpool) (t.val + 1)
            ∗ ⌜r = k0_pay26 acc (k0_pay4 v73 (k0_pay21 v74 v75) (blkVec tab (16 * t.val) kpool)) (k0_pay5 (F := F) v0 0#32 1#32 t) k0_pay6⌝)) := by
  rcases Nat.lt_or_ge (t.val + 24) (nb v0) with h | h
  · exact score_trip_K htab hlt hM hM' v0 hw17 v21 v22 v31 v51 v67 v73 v74 v75 t h acc
  · rcases Nat.lt_or_ge (t.val + 24) (2 * nb v0) with h' | h'
    · exact score_trip_V htab hlt hM hM' v0 hw17 v21 v22 v31 v51 v67 v73 v74 v75 t h h' acc
    · exact score_trip_none htab hlt hM hM' v0 hw17 v21 v22 v31 v51 v67 v73 v74 v75 t h' acc

end Cert.KernelIdeal.Hand

end
-- ==== Proof.KI.T4.lean ====
/-
  One trip of the values loop: trip `t` waits for step `nb + t`, V block `t`, weighs its rows by the exponentials of
  its scores, and issues the step 24 later.
-/
module

public import proofs.«01_k».proof.Proof.KI.Head

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

theorem off396_eq (v0 : BitVec 32) (t : Fin (k0_t4_loop v0).trips) : k0_off396 v0 t = ![(nb v0 + t.val) % 24, 0, 0, 0, 0] := page_off (reads_s4 t) 0

set_option maxHeartbeats 2000000 in
/-- One trip that issues a V block. -/
theorem value_trip_V (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32) (t : Fin (k0_t4_loop v0).trips) (h8' : nb v0 + t.val + 24 < 2 * nb v0)
    (l : FVec F S16x128 .f32) (a : FVec F S16x256 .f32) :
    iprop(ring c fk fv tab kpool vpool (nb v0) (nb v0 + t.val) ∗ owing c ∗ scoresTo c blk (nb v0) ∗ (arg7.view.loc (c : Thread nD τ) ↦[arg7.view.set]{fullShare} ft))
      ⊢ W c (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32 t (l, a))
          (fun r => iprop(ring c fk fv tab kpool vpool (nb v0) (nb v0 + t.val + 1) ∗ (arg7.view.loc (c : Thread nD τ) ↦[arg7.view.set]{fullShare} ft) ∗ owing c ∗ scoresTo c blk (nb v0)
            ∗ ⌜r = (k0_pay1 l (k0_pay10 v112 (blk t.val)), k0_pay11 v112 a (blk t.val) (blkVec tab (16 * t.val) vpool))⌝)) := by
  have hnb := nb_le v0
  have ht := t4_lt t
  have h7 : ¬ k0_cond7 v0 t = 1#1 := no7 t
  have h8 := (cond8_iff v0 t).mpr ⟨by omega, h8'⟩
  unfold k0_t4_body
  simp only [k0_part43_eq_skeleton, k0_part43_skel, dif_neg h7, dif_pos h8, k0_part38_eq_skeleton, k0_part39_eq_skeleton, k0_part40_eq_skeleton, k0_part41_eq_skeleton, k0_part42_eq_skeleton,
    k0_part38_skel, k0_part39_skel, k0_part40_skel, k0_part41_skel, k0_part42_skel, bind_assoc, pure_bind]
  apply head_V ht (sem_off (reads_s4 t)) slot_units (score_off (reads_t4 t) (by omega)) (off396_eq v0 t)
  refine (show _ ⊢ iprop(|={Set.univ}[frame]=> (issuing c vM fv (slotOf (nb v0 + t.val + 24)) (blockBuf tab (16 * (nb v0 + t.val + 24 - nb v0)) vpool) 0 ∗ (arg7.view.loc (c : Thread nD τ) ↦[arg7.view.set]{fullShare} ft) ∗ (toks c kM fk ((nb v0 + t.val + 24) % 24) ∗ ringRest c fk fv tab kpool vpool (nb v0) (nb v0 + t.val) ∗ owing c ∗ scoresTo c blk (nb v0)))) from ?_).trans ((fupd_mono ?_).trans (fupd_wp _ _ _ _ _))
  · iintro ⟨HI, HR, HO, HS, HT⟩
    imod (start_V fk fv (nb v0 + t.val + 24) _) $$ HI with ⟨HI, Hx⟩
    imodintro
    isplitl [HI]; · iexact HI
    isplitl [HT]; · iexact HT
    isplitl [Hx]; · iexact Hx
    isplitl [HR]; · iexact HR
    isplitl [HO]; · iexact HO
    iexact HS
  iterate 16
    refine site_load htab ?_ (tab_off (blkV4 t h8) _ (by omega) ?_) ?_
    iterate 2 omega
    refine site_assume (pool_chk (hlt _ ?_)) ?_
    omega
    refine site_page hM' tab hlt ?_ ?_ rfl rfl (page_off (reads_n4 t) _) (sem_off (reads_n4 t)) ?_
    iterate 2 omega
  refine (show _ ⊢ iprop(scoresTo c blk (nb v0) ∗ ring c fk fv tab kpool vpool (nb v0) (nb v0 + t.val + 1) ∗ (arg7.view.loc (c : Thread nD τ) ↦[arg7.view.set]{fullShare} ft) ∗ owing c) from ?_).trans ?_
  · iintro ⟨HI, HT, Hx, HR, HO, HS⟩
    isplitl [HS]; · iexact HS
    isplitr [HT HO]
    · iapply (Entails.of_eq (ring_advance c fk fv tab kpool vpool (nb v0) (nb v0 + t.val)))
      isplitr [HR]
      · iapply (Entails.of_eq (slotSt_V c fk fv tab kpool vpool (nb v0) (by omega) h8').symm)
        isplitl [HI]; · iexact HI
        iexact Hx
      iexact HR
    isplitl [HT]; · iexact HT
    iexact HO
  show _ ⊢ iprop(|={Set.univ}[frame]=> (_ ∗ _ ∗ _ ∗ _ ∗ ⌜_ = _⌝))
  iintro ⟨HS, HG, HT, HO⟩
  imodintro
  isplitl [HG]; · iexact HG
  isplitl [HT]; · iexact HT
  isplitl [HO]; · iexact HO
  isplitl [HS]; · iexact HS
  ipureintro; rfl

set_option maxHeartbeats 2000000 in
/-- One trip with no step left to issue. -/
theorem value_trip_none (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32) (t : Fin (k0_t4_loop v0).trips) (h5 : 2 * nb v0 ≤ nb v0 + t.val + 24)
    (l : FVec F S16x128 .f32) (a : FVec F S16x256 .f32) :
    iprop(ring c fk fv tab kpool vpool (nb v0) (nb v0 + t.val) ∗ owing c ∗ scoresTo c blk (nb v0) ∗ (arg7.view.loc (c : Thread nD τ) ↦[arg7.view.set]{fullShare} ft))
      ⊢ W c (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32 t (l, a))
          (fun r => iprop(ring c fk fv tab kpool vpool (nb v0) (nb v0 + t.val + 1) ∗ (arg7.view.loc (c : Thread nD τ) ↦[arg7.view.set]{fullShare} ft) ∗ owing c ∗ scoresTo c blk (nb v0)
            ∗ ⌜r = (k0_pay1 l (k0_pay10 v112 (blk t.val)), k0_pay11 v112 a (blk t.val) (blkVec tab (16 * t.val) vpool))⌝)) := by
  have hnb := nb_le v0
  have ht := t4_lt t
  have h7 : ¬ k0_cond7 v0 t = 1#1 := no7 t
  have h8 : ¬ k0_cond8 v0 t = 1#1 := fun hh => by have := (cond8_iff v0 t).mp hh; omega
  unfold k0_t4_body
  simp only [k0_part43_eq_skeleton, k0_part43_skel, dif_neg h7, dif_neg h8, bind_assoc, pure_bind]
  apply head_V ht (sem_off (reads_s4 t)) slot_units (score_off (reads_t4 t) (by omega)) (off396_eq v0 t)
  refine (show _ ⊢ iprop(scoresTo c blk (nb v0) ∗ ring c fk fv tab kpool vpool (nb v0) (nb v0 + t.val + 1) ∗ (arg7.view.loc (c : Thread nD τ) ↦[arg7.view.set]{fullShare} ft) ∗ owing c) from ?_).trans ?_
  · iintro ⟨HI, HR, HO, HS, HT⟩
    isplitl [HS]; · iexact HS
    isplitr [HT HO]
    · iapply (Entails.of_eq (ring_advance c fk fv tab kpool vpool (nb v0) (nb v0 + t.val)))
      isplitr [HR]
      · iapply (Entails.of_eq (slotSt_idle c fk fv tab kpool vpool (nb v0) h5).symm)
        iexact HI
      iexact HR
    isplitl [HT]; · iexact HT
    iexact HO
  show _ ⊢ iprop(|={Set.univ}[frame]=> (_ ∗ _ ∗ _ ∗ _ ∗ ⌜_ = _⌝))
  iintro ⟨HS, HG, HT, HO⟩
  imodintro
  isplitl [HG]; · iexact HG
  isplitl [HT]; · iexact HT
  isplitl [HO]; · iexact HO
  isplitl [HS]; · iexact HS
  ipureintro; rfl

/-- One trip. -/
theorem value_trip (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32) (t : Fin (k0_t4_loop v0).trips)
    (l : FVec F S16x128 .f32) (a : FVec F S16x256 .f32) :
    iprop(ring c fk fv tab kpool vpool (nb v0) (nb v0 + t.val) ∗ owing c ∗ scoresTo c blk (nb v0) ∗ (arg7.view.loc (c : Thread nD τ) ↦[arg7.view.set]{fullShare} ft))
      ⊢ W c (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32 t (l, a))
          (fun r => iprop(ring c fk fv tab kpool vpool (nb v0) (nb v0 + t.val + 1) ∗ (arg7.view.loc (c : Thread nD τ) ↦[arg7.view.set]{fullShare} ft) ∗ owing c ∗ scoresTo c blk (nb v0)
            ∗ ⌜r = (k0_pay1 l (k0_pay10 v112 (blk t.val)), k0_pay11 v112 a (blk t.val) (blkVec tab (16 * t.val) vpool))⌝)) := by
  have hnb := nb_le v0
  have ht := t4_lt t
  have h7 : ¬ k0_cond7 v0 t = 1#1 := no7 t
  rcases Nat.lt_or_ge (nb v0 + t.val + 24) (2 * nb v0) with h | h
  · exact value_trip_V htab hlt hM' v0 hw17 v21 v22 v112 blk t h l a
  · exact value_trip_none htab hlt hM' v0 hw17 v21 v22 v112 blk t h l a

end Cert.KernelIdeal.Hand

end
-- ==== Proof.KI.Prologue.lean ====
/-
  The prologue's trip `t` issues step `t`: K block `t`, or V block `t - nb`, or nothing.
-/
module

public import proofs.«01_k».proof.Proof.KI.Site

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

/-- A K step of the prologue. -/
theorem prologue_K (htab : IsTab arg7 ft tab) (hlt : ∀ n < 1024, (tab n).toNat < 1024) (hM : kM.view.read (Elt F) fk = kpool)
    (v0 : BitVec 32) (hw17 : k0_chk17 v0) (v21 : BitVec 32) (t : Fin k0_t1_loop.trips) (h : t.val < nb v0) (R : sProp 𝕄) :
    iprop(issuing c kM fk (slotOf t.val) (blockBuf tab (16 * t.val) kpool) 0 ∗ (arg7.view.loc (c : Thread nD τ) ↦[arg7.view.set]{fullShare} ft) ∗ R)
      ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ())
          (fun _ => iprop(issuing c kM fk (slotOf t.val) (blockBuf tab (16 * t.val) kpool) 16 ∗ (arg7.view.loc (c : Thread nD τ) ↦[arg7.view.set]{fullShare} ft) ∗ R)) := by
  have h1 : k0_cond1 v0 t = 1#1 := (cond1_iff v0 t).mpr h
  have h2 : ¬ k0_cond2 v0 t = 1#1 := fun hh => by have := (cond2_iff v0 t).mp hh; omega
  have hlt' := t1_lt t
  unfold k0_t1_body
  simp only [dif_pos h1, dif_neg h2]
  simp only [k0_part1_eq_skeleton, k0_part2_eq_skeleton, k0_part3_eq_skeleton, k0_part4_eq_skeleton, k0_part5_eq_skeleton,
    k0_part1_skel, k0_part2_skel, k0_part3_skel, k0_part4_skel, k0_part5_skel, bind_assoc, pure_bind]
  iterate 16
    refine site_load htab ?_ (tab_off (reads_t1 t) _ (by omega) ?_) ?_
    iterate 2 omega
    refine site_assume (pool_chk (hlt _ ?_)) ?_
    omega
    refine site_page hM tab hlt ?_ ?_ rfl rfl (page_off (reads_t1 t) _) (sem_off (reads_t1 t)) ?_
    iterate 2 omega
  exact fupd_intro

/-- A V step of the prologue. -/
theorem prologue_V (htab : IsTab arg7 ft tab) (hlt : ∀ n < 1024, (tab n).toNat < 1024) (hM : vM.view.read (Elt F) fv = vpool)
    (v0 : BitVec 32) (hw17 : k0_chk17 v0) (v21 : BitVec 32) (t : Fin k0_t1_loop.trips) (h : nb v0 ≤ t.val) (h' : t.val < 2 * nb v0) (R : sProp 𝕄) :
    iprop(issuing c vM fv (slotOf t.val) (blockBuf tab (16 * (t.val - nb v0)) vpool) 0 ∗ (arg7.view.loc (c : Thread nD τ) ↦[arg7.view.set]{fullShare} ft) ∗ R)
      ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ())
          (fun _ => iprop(issuing c vM fv (slotOf t.val) (blockBuf tab (16 * (t.val - nb v0)) vpool) 16 ∗ (arg7.view.loc (c : Thread nD τ) ↦[arg7.view.set]{fullShare} ft) ∗ R)) := by
  have h1 : ¬ k0_cond1 v0 t = 1#1 := fun hh => by have := (cond1_iff v0 t).mp hh; omega
  have h2 : k0_cond2 v0 t = 1#1 := (cond2_iff v0 t).mpr ⟨h, h'⟩
  have hlt' := t1_lt t
  have hnb := nb_le v0
  unfold k0_t1_body
  simp only [dif_neg h1, dif_pos h2]
  simp only [k0_part6_eq_skeleton, k0_part7_eq_skeleton, k0_part8_eq_skeleton, k0_part9_eq_skeleton, k0_part10_eq_skeleton,
    k0_part6_skel, k0_part7_skel, k0_part8_skel, k0_part9_skel, k0_part10_skel, bind_assoc, pure_bind]
  iterate 16
    refine site_load htab ?_ (tab_off (blkV1 t h2) _ (by omega) ?_) ?_
    iterate 2 omega
    refine site_assume (pool_chk (hlt _ ?_)) ?_
    omega
    refine site_page hM tab hlt ?_ ?_ rfl rfl (page_off (reads_t1 t) _) (sem_off (reads_t1 t)) ?_
    iterate 2 omega
  exact fupd_intro

/-- A trip past the last step. -/
theorem prologue_none (v0 : BitVec 32) (hw17 : k0_chk17 v0) (v21 : BitVec 32) (t : Fin k0_t1_loop.trips) (h : 2 * nb v0 ≤ t.val) (R : sProp 𝕄) :
    R ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ()) (fun _ => R) := by
  have h1 : ¬ k0_cond1 v0 t = 1#1 := fun hh => by have := (cond1_iff v0 t).mp hh; omega
  have h2 : ¬ k0_cond2 v0 t = 1#1 := fun hh => by have := (cond2_iff v0 t).mp hh; omega
  unfold k0_t1_body
  simp only [dif_neg h1, dif_neg h2, pure_bind]
  exact fupd_intro

end Cert.KernelIdeal.Hand

end
-- ==== Proof.KI.Loops.lean ====
/-
  The loops as rules for a program that goes on: the prologue starts the first 24 steps, the scores loop leaves every
  block's scores and their maximum, the values loop leaves the sums, and the two remainder loops make no trip.
-/
module

public import proofs.«01_k».proof.Proof.KI.T2
public import proofs.«01_k».proof.Proof.KI.T4
public import proofs.«01_k».proof.Proof.KI.Prologue
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

/-- A counted loop by an invariant. -/
theorem loop_bind {c : Dev nD} {σ α : Type} (l : Scf.Loop 32) (hok : l.OK) (init : σ) (body : Fin l.trips → σ → Prog (TpuEff nD τ sig (Elt F) Λ₀ .tc) σ)
    (I : ℕ → σ → sProp 𝕄) (hbody : ∀ k acc, I k.val acc ⊢ W c (body k acc) (I (k.val + 1)))
    {K : σ → Prog (TpuEff nD τ sig (Elt F) Λ₀ .tc) α} {Q : α → sProp 𝕄} :
    iprop(I 0 init ∗ (∀ acc, I l.trips acc -∗ W c (K acc) Q)) ⊢ W c (Scf.Loop.for l hok init body >>= K) Q := by
  iintro ⟨HI, HK⟩
  iapply (Scf.wp_for_bind frame (wpE (defs₀ (F := F)) Variants.none (c : Thread nD τ) none) Set.univ l.lb l.ub l.st hok init body I hbody) $$ [HI]
  · iexact HI
  iexact HK

attribute [local irreducible] k0_t1_body k0_t2_body k0_t4_body
variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

variable {c : Dev nD} {ft : Buf (Elt F) (arg7.view.loc (c : Thread nD τ))} {tab : ℕ → BitVec 32}
  {fk : Buf (Elt F) (kM.view.loc (c : Thread nD τ))} {fv : Buf (Elt F) (vM.view.loc (c : Thread nD τ))} {kpool vpool : PoolBuf (F := F)}

/-- One trip of the prologue. -/
theorem pro_trip (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 : BitVec 32) (t : Fin k0_t1_loop.trips) :
    iprop(proRing c fk fv tab kpool vpool (nb v0) t.val ∗ (arg7.view.loc (c : Thread nD τ) ↦[arg7.view.set]{fullShare} ft))
      ⊢ W c (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 t ()) (fun _ => iprop(proRing c fk fv tab kpool vpool (nb v0) (t.val + 1) ∗ (arg7.view.loc (c : Thread nD τ) ↦[arg7.view.set]{fullShare} ft))) := by
  rw [proRing_focus c fk fv tab kpool vpool (nb v0) (t1_lt t), ← proRing_advance c fk fv tab kpool vpool (nb v0) (t1_lt t)]
  rcases Nat.lt_or_ge t.val (nb v0) with h | h
  · rw [slotSt_K c fk fv tab kpool vpool (nb v0) h]
    iintro ⟨⟨HI, HR⟩, HT⟩
    iapply (fupd_wp frame _ Set.univ _ _)
    imod (start_K fk fv t.val _) $$ HI with ⟨HI, Hx⟩
    imodintro
    iapply (wp_wand_r frame _ Set.univ)
    isplitl
    · iapply (prologue_K htab hlt hM v0 hw17 v21 t h iprop(toks c vM fv (t.val % 24) ∗ proRest c fk fv tab kpool vpool (nb v0) t.val))
      isplitl [HI]; · iexact HI
      isplitl [HT]; · iexact HT
      isplitl [Hx]; · iexact Hx
      iexact HR
    iintro %r ⟨HI, HT, Hx, HR⟩
    isplitr [HT]
    · isplitr [HR]
      · isplitl [HI]; · iexact HI
        iexact Hx
      iexact HR
    iexact HT
  rcases Nat.lt_or_ge t.val (2 * nb v0) with h' | h'
  · rw [slotSt_V c fk fv tab kpool vpool (nb v0) h h']
    iintro ⟨⟨HI, HR⟩, HT⟩
    iapply (fupd_wp frame _ Set.univ _ _)
    imod (start_V fk fv t.val _) $$ HI with ⟨HI, Hx⟩
    imodintro
    iapply (wp_wand_r frame _ Set.univ)
    isplitl
    · iapply (prologue_V htab hlt hM' v0 hw17 v21 t h h' iprop(toks c kM fk (t.val % 24) ∗ proRest c fk fv tab kpool vpool (nb v0) t.val))
      isplitl [HI]; · iexact HI
      isplitl [HT]; · iexact HT
      isplitl [Hx]; · iexact Hx
      iexact HR
    iintro %r ⟨HI, HT, Hx, HR⟩
    isplitr [HT]
    · isplitr [HR]
      · isplitl [HI]; · iexact HI
        iexact Hx
      iexact HR
    iexact HT
  · rw [slotSt_idle c fk fv tab kpool vpool (nb v0) h']
    exact prologue_none v0 hw17 v21 t h' _

/-- The prologue. -/
theorem loop1 (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 : BitVec 32) {α : Type} {K : PUnit → Prog (TpuEff nD τ sig (Elt F) Λ₀ .tc) α} {Q : α → sProp 𝕄} :
    iprop((bigSep Finset.univ (fun k : Fin 24 => idle c fk fv k)) ∗ (arg7.view.loc (c : Thread nD τ) ↦[arg7.view.set]{fullShare} ft) ∗ ((ring c fk fv tab kpool vpool (nb v0) 0 ∗ (arg7.view.loc (c : Thread nD τ) ↦[arg7.view.set]{fullShare} ft)) -∗ W c (K ⟨⟩) Q))
      ⊢ W c (Scf.Loop.for k0_t1_loop k0_t1_ok ⟨⟩ (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21) >>= K) Q := by
  have h := loop_bind (c := c) k0_t1_loop k0_t1_ok (⟨⟩ : PUnit) (k0_t1_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21)
    (fun k _ => iprop(proRing c fk fv tab kpool vpool (nb v0) k ∗ (arg7.view.loc (c : Thread nD τ) ↦[arg7.view.set]{fullShare} ft))) (fun k acc => match acc with | ⟨⟩ => pro_trip htab hlt hM hM' v0 hw17 v21 k) (K := K) (Q := Q)
  rw [t1_trips, proRing_zero, proRing_done] at h
  refine (show _ ⊢ _ from ?_).trans h
  iintro ⟨HI, HT, HK⟩
  isplitl [HI HT]
  · isplitl [HI]; · iexact HI
    iexact HT
  iintro %acc H
  iapply HK
  iexact H

/-- The running maximum of the scores, over the lanes, before block `k`. -/
def mCarry (v0 : BitVec 32) (v73 : FVec F S16x256 .bf16) (v83 : FVec F S16x1 .f32) (tab : ℕ → BitVec 32) (kpool : PoolBuf (F := F)) : ℕ → FVec F S16x128 .f32
  | 0 => k0_pay23
  | k + 1 => if h : k < (k0_t2_loop v0).trips then k0_pay26 (mCarry v0 v73 v83 tab kpool k) (k0_pay4 v73 v83 (blkVec tab (16 * k) kpool)) (k0_pay5 (F := F) v0 0#32 1#32 ⟨k, h⟩) k0_pay6
    else mCarry v0 v73 v83 tab kpool k

theorem mCarry_succ (v0 : BitVec 32) (v73 : FVec F S16x256 .bf16) (v83 : FVec F S16x1 .f32) (t : Fin (k0_t2_loop v0).trips) :
    mCarry v0 v73 v83 tab kpool (t.val + 1) = k0_pay26 (mCarry v0 v73 v83 tab kpool t.val) (k0_pay4 v73 v83 (blkVec tab (16 * t.val) kpool)) (k0_pay5 (F := F) v0 0#32 1#32 t) k0_pay6 :=
  (by rw [mCarry] : mCarry v0 v73 v83 tab kpool (t.val + 1) = _).trans (dif_pos t.isLt)

/-- The scores loop. -/
theorem loop2 (htab : IsTab arg7 ft tab) (hlt : ∀ n < 1024, (tab n).toNat < 1024) (hM : kM.view.read (Elt F) fk = kpool) (hM' : vM.view.read (Elt F) fv = vpool)
    (v0 : BitVec 32) (hw17 : k0_chk17 v0) (v21 v22 : BitVec 32) (v31 : FVec F S2x1 .f32) (v51 : FVec F S2x128 .fp8e4m3) (v67 : FVec F S16x128 .bf16)
    (v73 : FVec F S16x256 .bf16) (v74 v75 : Elt F .f32) {α : Type} {K : FVec F S16x128 .f32 → Prog (TpuEff nD τ sig (Elt F) Λ₀ .tc) α} {Q : α → sProp 𝕄} :
    iprop(ring c fk fv tab kpool vpool (nb v0) 0 ∗ (arg7.view.loc (c : Thread nD τ) ↦[arg7.view.set]{fullShare} ft) ∗ owing c ∗ scoresTo c (scoreBlk v0 v73 (k0_pay21 v74 v75) tab kpool) 0
        ∗ ((ring c fk fv tab kpool vpool (nb v0) (nb v0) ∗ (arg7.view.loc (c : Thread nD τ) ↦[arg7.view.set]{fullShare} ft) ∗ owing c ∗ scoresTo c (scoreBlk v0 v73 (k0_pay21 v74 v75) tab kpool) (nb v0))
          -∗ W c (K (mCarry v0 v73 (k0_pay21 v74 v75) tab kpool (nb v0))) Q))
      ⊢ W c (Scf.Loop.for (k0_t2_loop v0) (k0_t2_ok v0 hw17) (k0_pay23 (F := F)) (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75) >>= K) Q := by
  have h := loop_bind (c := c) (k0_t2_loop v0) (k0_t2_ok v0 hw17) (k0_pay23 (F := F)) (k0_t2_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v31 v51 v67 v73 v74 v75)
    (fun k acc => iprop(⌜acc = mCarry v0 v73 (k0_pay21 v74 v75) tab kpool k⌝ ∗ ring c fk fv tab kpool vpool (nb v0) k ∗ (arg7.view.loc (c : Thread nD τ) ↦[arg7.view.set]{fullShare} ft) ∗ owing c ∗ scoresTo c (scoreBlk v0 v73 (k0_pay21 v74 v75) tab kpool) k))
    (fun k acc => by
      iintro ⟨%he, HR, HT, HO, HS⟩
      subst he
      iapply (wp_wand_r frame _ Set.univ)
      isplitl
      · iapply (score_trip htab hlt hM hM' v0 hw17 v21 v22 v31 v51 v67 v73 v74 v75 k _)
        isplitl [HR]; · iexact HR
        isplitl [HO]; · iexact HO
        isplitl [HT]; · iexact HT
        iexact HS
      iintro %r ⟨HR, HT, HO, HS, %hr⟩
      isplitr
      · ipureintro; exact hr.trans (mCarry_succ v0 v73 _ k).symm
      isplitl [HR]; · iexact HR
      isplitl [HT]; · iexact HT
      isplitl [HO]; · iexact HO
      iexact HS) (K := K) (Q := Q)
  rw [t2_trips] at h
  refine (show _ ⊢ _ from ?_).trans h
  iintro ⟨HR, HT, HO, HS, HK⟩
  isplitr [HK]
  · isplitr; · ipureintro; rfl
    isplitl [HR]; · iexact HR
    isplitl [HT]; · iexact HT
    isplitl [HO]; · iexact HO
    iexact HS
  iintro %acc ⟨%he, H⟩
  subst he
  iapply HK
  iexact H

/-- The running sums of the weights, over the lanes, and of the weighted rows, before V block `k`. -/
def lCarry (v112 : FVec F S16x1 .f32) (blk : ℕ → FVec F S16x2048 .f32) (tab : ℕ → BitVec 32) (vpool : PoolBuf (F := F)) : ℕ → FVec F S16x128 .f32 × FVec F S16x256 .f32
  | 0 => (k0_pay31, k0_pay32)
  | k + 1 => (k0_pay1 (lCarry v112 blk tab vpool k).1 (k0_pay10 v112 (blk k)), k0_pay11 v112 (lCarry v112 blk tab vpool k).2 (blk k) (blkVec tab (16 * k) vpool))

/-- The values loop. -/
theorem loop4 (htab : IsTab arg7 ft tab) (hlt : ∀ n < 1024, (tab n).toNat < 1024) (hM' : vM.view.read (Elt F) fv = vpool)
    (v0 : BitVec 32) (hw17 : k0_chk17 v0) (v21 v22 : BitVec 32) (v112 : FVec F S16x1 .f32) (blk : ℕ → FVec F S16x2048 .f32)
    {α : Type} {K : FVec F S16x128 .f32 × FVec F S16x256 .f32 → Prog (TpuEff nD τ sig (Elt F) Λ₀ .tc) α} {Q : α → sProp 𝕄} :
    iprop(ring c fk fv tab kpool vpool (nb v0) (nb v0) ∗ (arg7.view.loc (c : Thread nD τ) ↦[arg7.view.set]{fullShare} ft) ∗ owing c ∗ scoresTo c blk (nb v0)
        ∗ (((bigSep Finset.univ (fun k : Fin 24 => idle c fk fv k)) ∗ (arg7.view.loc (c : Thread nD τ) ↦[arg7.view.set]{fullShare} ft) ∗ owing c ∗ scoresTo c blk (nb v0)) -∗ W c (K (lCarry v112 blk tab vpool (nb v0))) Q))
      ⊢ W c (Scf.Loop.for (k0_t4_loop v0) (k0_t4_ok v0 hw17) (k0_pay31 (F := F), k0_pay32 (F := F)) (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32) >>= K) Q := by
  have h := loop_bind (c := c) (k0_t4_loop v0) (k0_t4_ok v0 hw17) (k0_pay31 (F := F), k0_pay32 (F := F)) (k0_t4_body (F := F) arg0 harg0 arg1 harg1 arg2 harg2 kM harg3 arg4 harg4 vM harg5 arg6 harg6 arg7 harg7 arg8 harg8 arg9 harg9 arg10 harg10 arg11 harg11 ringM harg12 scoreM harg13 cc0_scratch2 v0 hw17 v21 v22 v112 0#32)
    (fun k acc => iprop(⌜acc = lCarry v112 blk tab vpool k⌝ ∗ ring c fk fv tab kpool vpool (nb v0) (nb v0 + k) ∗ (arg7.view.loc (c : Thread nD τ) ↦[arg7.view.set]{fullShare} ft) ∗ owing c ∗ scoresTo c blk (nb v0)))
    (fun k acc => by
      iintro ⟨%he, HR, HT, HO, HS⟩
      subst he
      iapply (wp_wand_r frame _ Set.univ)
      isplitl
      · iapply (value_trip htab hlt hM' v0 hw17 v21 v22 v112 blk k (lCarry v112 blk tab vpool k.val).1 (lCarry v112 blk tab vpool k.val).2)
        isplitl [HR]; · iexact HR
        isplitl [HO]; · iexact HO
        isplitl [HS]; · iexact HS
        iexact HT
      iintro %r ⟨HR, HT, HO, HS, %hr⟩
      isplitr
      · ipureintro; exact hr
      isplitl [HR]; · iexact HR
      isplitl [HT]; · iexact HT
      isplitl [HO]; · iexact HO
      iexact HS) (K := K) (Q := Q)
  rw [t4_trips, show nb v0 + nb v0 = 2 * nb v0 from by omega, ring_end] at h
  refine (show _ ⊢ _ from ?_).trans h
  iintro ⟨HR, HT, HO, HS, HK⟩
  isplitr [HK]
  · isplitr; · ipureintro; rfl
    isplitl [HR]; · iexact HR
    isplitl [HT]; · iexact HT
    isplitl [HO]; · iexact HO
    iexact HS
  iintro %acc ⟨%he, H⟩
  subst he
  iapply HK
  iexact H

/-- The scores loop's remainder makes no trip. -/
theorem loop3 (v0 : BitVec 32) (hok : (k0_t3_loop v0).OK) {σ α : Type} (init : σ) (body : Fin (k0_t3_loop v0).trips → σ → Prog (TpuEff nD τ sig (Elt F) Λ₀ .tc) σ)
    (K : σ → Prog (TpuEff nD τ sig (Elt F) Λ₀ .tc) α) : (Scf.Loop.for (k0_t3_loop v0) hok init body >>= K) = K init := Scf.for_trips0_bind _ _ (t3_trips v0) _ _ _
/-- The values loop's remainder makes no trip. -/
theorem loop5 (v0 : BitVec 32) (hok : (k0_t5_loop v0).OK) {σ α : Type} (init : σ) (body : Fin (k0_t5_loop v0).trips → σ → Prog (TpuEff nD τ sig (Elt F) Λ₀ .tc) σ)
    (K : σ → Prog (TpuEff nD τ sig (Elt F) Λ₀ .tc) α) : (Scf.Loop.for (k0_t5_loop v0) hok init body >>= K) = K init := Scf.for_trips0_bind _ _ (t5_trips v0) _ _ _

end Cert.KernelIdeal.Hand

end
-- ==== Proof.KI.Body.lean ====
/-
  The kernel's body: from its windows, the two pools and the idle ring to its three results, everything else as it was.
-/
module

public import proofs.«01_k».proof.Proof.KI.Window
public import proofs.«01_k».proof.Proof.KI.Loops
public import proofs.«01_k».proof.Proof.KI.Chk

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the pipeline library's beside the counters of the kernel's own copies. -/
local notation "𝕄" => MT nD τ sig Unit (Elt F) ℕ (Pipeline.UD sig nD τ) ℕ

variable {arg0 : Memref sig .tc .vmem S16x128 .bf16} {harg0 : arg0.IsWhole} {arg1 : Memref sig .tc .vmem S2x128 .bf16} {harg1 : arg1.IsWhole}
  {arg2 : Memref sig .tc .vmem S2x128 .bf16} {harg2 : arg2.IsWhole} {harg3 : kM.IsWhole} {arg4 : Memref sig .tc .smem S2 .f32} {harg4 : arg4.IsWhole}
  {harg5 : vM.IsWhole} {arg6 : Memref sig .tc .smem S2 .f32} {harg6 : arg6.IsWhole} {arg7 : Memref sig .tc .smem S1x1024 .i32} {harg7 : arg7.IsWhole}
  {arg8 : Memref sig .tc .smem S1 .i32} {harg8 : arg8.IsWhole} {arg9 : Memref sig .tc .vmem S16x128 .bf16} {harg9 : arg9.IsWhole}
  {arg10 : Memref sig .tc .vmem S2x128 .fp8e4m3} {harg10 : arg10.IsWhole} {arg11 : Memref sig .tc .vmem S2x128 .fp8e4m3} {harg11 : arg11.IsWhole}
  {harg12 : ringM.IsWhole} {harg13 : scoreM.IsWhole}

/-! ## The results -/

/-- The page table's words. -/
def tabOf (pt : IVec S1x1024 32) (n : ℕ) : BitVec 32 := if h : n < 1024 then pt (ValueIdx.ix2 (0 : Fin 1) (⟨n, h⟩ : Fin 1024)) else 0

theorem isTab (pt : IVec S1x1024 32) {ft : arg7.view.ty.Contents (Elt F)} (h : arg7.view.read (Elt F) ft = pt) : IsTab arg7 ft (tabOf pt) := fun n hn => by
  rw [h]; unfold tabOf; rw [dif_pos hn]

/-- The new key's code. -/
def kRes (kn : FVec F S2x128 .bf16) (ks : FVec F S2 .f32) : FVec F S2x128 .fp8e4m3 := k0_pay17 (k0_pay14 (ks (ValueIdx.ix1 0)) (ks (ValueIdx.ix1 1))) kn

/-- The new value's code. -/
def vRes (vn : FVec F S2x128 .bf16) (vs : FVec F S2 .f32) : FVec F S2x128 .fp8e4m3 := k0_pay18 k0_pay15 (vs (ValueIdx.ix1 0)) (vs (ValueIdx.ix1 1)) vn

/-- The scores of K block `k`. -/
def sRes (q : FVec F S16x128 .bf16) (ks : FVec F S2 .f32) (pt : IVec S1x1024 32) (sl : IVec S1 32) (kpool : PoolBuf (F := F)) : ℕ → FVec F S16x2048 .f32 :=
  scoreBlk (sl (ValueIdx.ix1 0)) (k0_pay20 q) (k0_pay21 (ks (ValueIdx.ix1 0)) (ks (ValueIdx.ix1 1))) (tabOf pt) kpool

/-- The scores' maximum, over the lanes. -/
def mRes (q : FVec F S16x128 .bf16) (ks : FVec F S2 .f32) (pt : IVec S1x1024 32) (sl : IVec S1 32) (kpool : PoolBuf (F := F)) : FVec F S16x128 .f32 :=
  mCarry (sl (ValueIdx.ix1 0)) (k0_pay20 q) (k0_pay21 (ks (ValueIdx.ix1 0)) (ks (ValueIdx.ix1 1))) (tabOf pt) kpool (nb (sl (ValueIdx.ix1 0)))

/-- The maximum over the cache and the new token. -/
def mAll (q : FVec F S16x128 .bf16) (kn : FVec F S2x128 .bf16) (ks : FVec F S2 .f32) (pt : IVec S1x1024 32) (sl : IVec S1 32) (kpool : PoolBuf (F := F)) : FVec F S16x1 .f32 :=
  k0_pay30 (k0_pay14 (ks (ValueIdx.ix1 0)) (ks (ValueIdx.ix1 1))) (kRes kn ks) (k0_pay19 q) (mRes q ks pt sl kpool)

/-- The two running sums after the last V block. -/
def lRes (q : FVec F S16x128 .bf16) (kn : FVec F S2x128 .bf16) (ks : FVec F S2 .f32) (pt : IVec S1x1024 32) (sl : IVec S1 32) (kpool vpool : PoolBuf (F := F)) :
    FVec F S16x128 .f32 × FVec F S16x256 .f32 :=
  lCarry (mAll q kn ks pt sl kpool) (sRes q ks pt sl kpool) (tabOf pt) vpool (nb (sl (ValueIdx.ix1 0)))

/-- The attention's result. -/
def yRes (q : FVec F S16x128 .bf16) (kn vn : FVec F S2x128 .bf16) (ks vs : FVec F S2 .f32) (pt : IVec S1x1024 32) (sl : IVec S1 32) (kpool vpool : PoolBuf (F := F)) : FVec F S16x128 .bf16 :=
  k0_pay3 (k0_pay16 k0_pay15 (vs (ValueIdx.ix1 0)) (vs (ValueIdx.ix1 1))) (vRes vn vs) (k0_pay22 (k0_pay14 (ks (ValueIdx.ix1 0)) (ks (ValueIdx.ix1 1))) (kRes kn ks) (k0_pay19 q)) (mAll q kn ks pt sl kpool)
    (lRes q kn ks pt sl kpool vpool).1 (lRes q kn ks pt sl kpool vpool).2 (vs (ValueIdx.ix1 0)) (vs (ValueIdx.ix1 1))

/-! ## The body -/

theorem own_assume {c : Dev nD} {α : Type} {P : Prop} {d : Decidable P} (h : P) {K : PLift P → Prog (TpuEff nD τ sig (Elt F) Λ₀ .tc) α} {Q : α → sProp 𝕄} :
    W c (K ⟨h⟩) Q ⊢ W c (Prog.lift (TpuEff.assume P d) >>= K) Q := site_assume h .rfl

theorem own_open {c : Dev nD} {s : Shape} {e : EltTy} (m : Memref sig .tc .smem s e) (X : s.Idx → Elt F e) : (owns (c : Thread nD τ) m fullShare X : sProp 𝕄)
    ⊢ iprop(∃ f, ⌜m.view.read (Elt F) f = X⌝ ∗ (m.view.loc (c : Thread nD τ) ↦[m.view.set]{fullShare} f)) := by
  unfold owns; exact .rfl

theorem own_pure {c : Dev nD} {α : Type} {a : α} {Q : α → sProp 𝕄} : Q a ⊢ W c (pure a) Q := fupd_intro

theorem wp_loop3 {c : Dev nD} (v0 : BitVec 32) (hok : (k0_t3_loop v0).OK) {σ α : Type} (init : σ) (body : Fin (k0_t3_loop v0).trips → σ → Prog (TpuEff nD τ sig (Elt F) Λ₀ .tc) σ)
    (K : σ → Prog (TpuEff nD τ sig (Elt F) Λ₀ .tc) α) {Q : α → sProp 𝕄} : W c (K init) Q ⊢ W c (Scf.Loop.for (k0_t3_loop v0) hok init body >>= K) Q := by
  rw [loop3]
theorem wp_loop5 {c : Dev nD} (v0 : BitVec 32) (hok : (k0_t5_loop v0).OK) {σ α : Type} (init : σ) (body : Fin (k0_t5_loop v0).trips → σ → Prog (TpuEff nD τ sig (Elt F) Λ₀ .tc) σ)
    (K : σ → Prog (TpuEff nD τ sig (Elt F) Λ₀ .tc) α) {Q : α → sProp 𝕄} : W c (K init) Q ⊢ W c (Scf.Loop.for (k0_t5_loop v0) hok init body >>= K) Q := by
  rw [loop5]

theorem scores_none (c : Dev nD) (blk : ℕ → FVec F S16x2048 .f32) : (iprop(∃ f : Buf (Elt F) (scoreLoc c), scoreLoc c ↦{fullShare} f) : sProp 𝕄) ⊢ scoresTo c blk 0 := by
  unfold scoresTo
  iintro ⟨%f, Hf⟩
  iexists f
  isplitl [Hf]; · iexact Hf
  ipureintro; intro i hi; omega
theorem scores_some (c : Dev nD) (blk : ℕ → FVec F S16x2048 .f32) (n : ℕ) : scoresTo c blk n ⊢ (iprop(∃ f : Buf (Elt F) (scoreLoc c), scoreLoc c ↦{fullShare} f) : sProp 𝕄) := by
  unfold scoresTo
  iintro ⟨%f, Hf, -⟩
  iexists f
  iexact Hf

attribute [local irreducible] k0_t1_body k0_t2_body k0_t3_body k0_t4_body k0_t5_body

/-- The body's triple. -/
theorem body_wp {c : Dev nD} (q : FVec F S16x128 .bf16) (kn vn : FVec F S2x128 .bf16) (ks vs : FVec F S2 .f32) (pt : IVec S1x1024 32) (sl : IVec S1 32) (y9 : FVec F S16x128 .bf16) (y10 y11 : FVec F S2x128 .fp8e4m3)
    (fk : Buf (Elt F) (kM.view.loc (c : Thread nD τ))) (fv : Buf (Elt F) (vM.view.loc (c : Thread nD τ)))
    (hlt : ∀ n < 1024, (tabOf pt n).toNat < 1024) :
    iprop(owns (c : Thread nD τ) arg0 fullShare q ∗ owns (c : Thread nD τ) arg1 fullShare kn ∗ owns (c : Thread nD τ) arg2 fullShare vn ∗ owns (c : Thread nD τ) arg4 fullShare ks ∗ owns (c : Thread nD τ) arg6 fullShare vs ∗ owns (c : Thread nD τ) arg8 fullShare sl ∗ owns (c : Thread nD τ) arg7 fullShare pt
        ∗ owns (c : Thread nD τ) arg9 fullShare y9 ∗ owns (c : Thread nD τ) arg10 fullShare y10 ∗ owns (c : Thread nD τ) arg11 fullShare y11
        ∗ (∃ f : Buf (Elt F) (scoreLoc c), scoreLoc c ↦{fullShare} f) ∗ (bigSep Finset.univ (fun k : Fin 24 => idle c fk fv k)) ∗ owing c)
      ⊢ W c (cc0_paged_fp8_decode (F := F) arg0 harg0 arg1 harg1 arg2 harg2 kM harg3 arg4 harg4 vM harg5 arg6 harg6 arg7 harg7 arg8 harg8 arg9 harg9 arg10 harg10 arg11 harg11 ringM harg12 scoreM harg13 cc0_scratch2)
        (fun _ => iprop(owns (c : Thread nD τ) arg0 fullShare q ∗ owns (c : Thread nD τ) arg1 fullShare kn ∗ owns (c : Thread nD τ) arg2 fullShare vn ∗ owns (c : Thread nD τ) arg4 fullShare ks ∗ owns (c : Thread nD τ) arg6 fullShare vs ∗ owns (c : Thread nD τ) arg8 fullShare sl ∗ owns (c : Thread nD τ) arg7 fullShare pt
        ∗ owns (c : Thread nD τ) arg9 fullShare (yRes q kn vn ks vs pt sl (kM.view.read (Elt F) fk) (vM.view.read (Elt F) fv)) ∗ owns (c : Thread nD τ) arg10 fullShare (kRes kn ks) ∗ owns (c : Thread nD τ) arg11 fullShare (vRes vn vs)
        ∗ (∃ f : Buf (Elt F) (scoreLoc c), scoreLoc c ↦{fullShare} f) ∗ (bigSep Finset.univ (fun k : Fin 24 => idle c fk fv k)) ∗ owing c)) := by
  rw [cc0_paged_fp8_decode_eq_skeleton]
  simp only [cc0_paged_fp8_decode_skel, k0_part55_eq_skeleton, k0_part56_eq_skeleton, k0_part57_eq_skeleton, k0_part55_skel, k0_part56_skel, k0_part57_skel, bind_assoc, pure_bind]
  iintro ⟨H0, H1, H2, H4, H6, H8, H7, H9, H10, H11, HS, HI, HO⟩
  ihave H7 := (own_open (c := c) arg7 pt) $$ H7
  icases H7 with ⟨%ft, %hft, HT⟩
  iapply (own_smem (x := ValueIdx.ix1 (n := 1) 0) (by intro a; match a with | ⟨0, _⟩ => rfl))
  isplitl [H8]; · iexact H8
  iintro H8
  iapply (own_assume (chk17_all _))
  iapply (loop1 (ft := ft) (isTab pt hft) hlt rfl rfl _ _ _)
  isplitl [HI]; · iexact HI
  isplitl [HT]; · iexact HT
  iintro ⟨HR, HT⟩
  iapply (own_smem (x := ValueIdx.ix1 (n := 2) 0) (by intro a; match a with | ⟨0, _⟩ => rfl))
  isplitl [H4]; · iexact H4
  iintro H4
  iapply (own_smem (x := ValueIdx.ix1 (n := 2) 1) (by intro a; match a with | ⟨0, _⟩ => rfl))
  isplitl [H4]; · iexact H4
  iintro H4
  iapply (own_smem (x := ValueIdx.ix1 (n := 2) 0) (by intro a; match a with | ⟨0, _⟩ => rfl))
  isplitl [H6]; · iexact H6
  iintro H6
  iapply (own_smem (x := ValueIdx.ix1 (n := 2) 1) (by intro a; match a with | ⟨0, _⟩ => rfl))
  isplitl [H6]; · iexact H6
  iintro H6
  iapply (own_load (by intro a; match a with | ⟨0, _⟩ => rfl | ⟨1, _⟩ => rfl))
  isplitl [H1]; · iexact H1
  iintro H1
  iapply (own_load (by intro a; match a with | ⟨0, _⟩ => rfl | ⟨1, _⟩ => rfl))
  isplitl [H2]; · iexact H2
  iintro H2
  iapply (own_load (by intro a; match a with | ⟨0, _⟩ => rfl | ⟨1, _⟩ => rfl))
  isplitl [H10]; · iexact H10
  iintro H10
  iapply (own_store (by intro a; match a with | ⟨0, _⟩ => rfl | ⟨1, _⟩ => rfl))
  isplitl [H10]; · iexact H10
  iintro H10
  iapply (own_load (by intro a; match a with | ⟨0, _⟩ => rfl | ⟨1, _⟩ => rfl))
  isplitl [H11]; · iexact H11
  iintro H11
  iapply (own_store (by intro a; match a with | ⟨0, _⟩ => rfl | ⟨1, _⟩ => rfl))
  isplitl [H11]; · iexact H11
  iintro H11
  iapply (own_load (by intro a; match a with | ⟨0, _⟩ => rfl | ⟨1, _⟩ => rfl))
  isplitl [H0]; · iexact H0
  iintro H0
  iapply (own_smem (x := ValueIdx.ix1 (n := 2) 0) (by intro a; match a with | ⟨0, _⟩ => rfl))
  isplitl [H4]; · iexact H4
  iintro H4
  iapply (own_smem (x := ValueIdx.ix1 (n := 2) 1) (by intro a; match a with | ⟨0, _⟩ => rfl))
  isplitl [H4]; · iexact H4
  iintro H4
  iapply (loop2 (ft := ft) (isTab pt hft) hlt rfl rfl _ _ _ _ _ _ _ _ _ _)
  isplitl [HR]; · iexact HR
  isplitl [HT]; · iexact HT
  isplitl [HO]; · iexact HO
  isplitl [HS]
  · iapply (scores_none _ _); iexact HS
  iintro ⟨HR, HT, HO, HS⟩
  iapply (wp_loop3 _ _ _ _ _)
  iapply (loop4 (ft := ft) (isTab pt hft) hlt rfl _ _ _ _ _ _)
  isplitl [HR]; · iexact HR
  isplitl [HT]; · iexact HT
  isplitl [HO]; · iexact HO
  isplitl [HS]; · iexact HS
  iintro ⟨HI, HT, HO, HS⟩
  iapply (wp_loop5 _ _ _ _ _)
  iapply (own_smem (x := ValueIdx.ix1 (n := 2) 0) (by intro a; match a with | ⟨0, _⟩ => rfl))
  isplitl [H6]; · iexact H6
  iintro H6
  iapply (own_smem (x := ValueIdx.ix1 (n := 2) 1) (by intro a; match a with | ⟨0, _⟩ => rfl))
  isplitl [H6]; · iexact H6
  iintro H6
  iapply (own_load (by intro a; match a with | ⟨0, _⟩ => rfl | ⟨1, _⟩ => rfl))
  isplitl [H9]; · iexact H9
  iintro H9
  iapply (own_store (by intro a; match a with | ⟨0, _⟩ => rfl | ⟨1, _⟩ => rfl))
  isplitl [H9]; · iexact H9
  iintro H9
  iapply own_pure
  isplitl [H0]; · iexact H0
  isplitl [H1]; · iexact H1
  isplitl [H2]; · iexact H2
  isplitl [H4]; · iexact H4
  isplitl [H6]; · iexact H6
  isplitl [H8]; · iexact H8
  isplitl [HT]
  · unfold owns; iexists ft; isplitr; · ipureintro; exact hft
    iexact HT
  isplitl [H9]; · iexact H9
  isplitl [H10]; · iexact H10
  isplitl [H11]; · iexact H11
  isplitl [HS]; · iapply (scores_some _ _ _); iexact HS
  isplitl [HI]; · iexact HI
  iexact HO

end Cert.KernelIdeal.Hand

end
-- ==== Proof.KI.Frame.lean ====
/-
  The run: the launch of the kernel from any memory whose page table's words are page numbers. It names what the three
  results hold and says that every argument and every semaphore ends as it was.
-/
module

public import proofs.«01_k».proof.Proof.KI.Start
public import proofs.«01_k».proof.Proof.KI.Body
public import proofs.«01_k».proof.Proof.Gen.KernelIdeal.Frame
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Memref
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the pipeline library's beside the counters of the kernel's own copies. -/
local notation "𝕄" => MT nD τ sig Unit (Elt F) ℕ (Pipeline.UD sig nD τ) ℕ

variable (m : (ℓ : Loc nD τ sig) → Buf (Elt F) ℓ) (ρ : Dev nD → PrngReg)

/-! ## What the launch hands the body -/

/-- The kernel's own semaphores. -/
abbrev osem0 : Fin 24 → SemLoc sig := fun k => .dma (cell k)
/-- The unscoped buffers the body reads by its own copies. -/
abbrev H0 : Finset (Ref sig .tc) := {main_v3, main_v4}

theorem ownSemFacts0 : Pipeline.OwnSemFacts spec0 osem0 := by decide
theorem H0_sub : H0 ⊆ Pipeline.restRefs sig spec0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem pools_eq (c : Dev nD) (f : (b : Ref sig .tc) → Buf (Elt F) ((c : Thread nD τ).loc b)) :
    (bigSep H0 (fun b => ((c : Thread nD τ).loc b ↦{fullShare} f b)) : sProp 𝕄)
      = iprop((kM.view.loc (c : Thread nD τ) ↦{fullShare} f main_v3) ∗ (vM.view.loc (c : Thread nD τ) ↦{fullShare} f main_v4)) := by
  rw [BI.bigSep_eq_bigSepL_of_eq [main_v3, main_v4] (by decide) (by decide)]; rfl

/-- The launch's resources in the body's words. -/
theorem Phi_in (c : Dev nD) : (Pipeline.ΦD osem0 spec0 H0 (V m) c : sProp 𝕄)
    ⊢ iprop((∃ f : Buf (Elt F) (scoreLoc c), scoreLoc c ↦{fullShare} f) ∗ bigSep Finset.univ (fun k : Fin 24 => idle c (V m c main_v3) (V m c main_v4) k)
      ∗ (poolRest c (V m c main_v3) (V m c main_v4) ∗ (∃ r, prngReg c r))) := by
  rw [Pipeline.ΦD_eq, scopedRest0_eq, pools_eq]
  unfold Pipeline.ownSems0
  iintro ⟨⟨HR, HS⟩, Hg, Hs, HK, HV⟩
  isplitl [HS]; · iexact HS
  ihave H := (ring_in c (V m c main_v3) (V m c main_v4)) $$ [HR Hs HK HV]
  · isplitl [Hs]; · iexact Hs
    isplitl [HR]; · iexact HR
    isplitl [HK]; · iexact HK
    iexact HV
  icases H with ⟨HI, HP⟩
  isplitl [HI]; · iexact HI
  isplitl [HP]; · iexact HP
  iexact Hg

theorem Phi_out (c : Dev nD) : (iprop((∃ f : Buf (Elt F) (scoreLoc c), scoreLoc c ↦{fullShare} f) ∗ bigSep Finset.univ (fun k : Fin 24 => idle c (V m c main_v3) (V m c main_v4) k)
      ∗ (poolRest c (V m c main_v3) (V m c main_v4) ∗ (∃ r, prngReg c r))) : sProp 𝕄) ⊢ Pipeline.ΦD osem0 spec0 H0 (V m) c := by
  rw [Pipeline.ΦD_eq, scopedRest0_eq, pools_eq]
  unfold Pipeline.ownSems0
  iintro ⟨HS, HI, HP, Hg⟩
  ihave H := (ring_out c (V m c main_v3) (V m c main_v4)) $$ [HI HP]
  · isplitl [HI]; · iexact HI
    iexact HP
  icases H with ⟨Hs, HR, HK, HV⟩
  isplitl [HR HS]
  · isplitl [HR]; · iexact HR
    iexact HS
  isplitl [Hg]; · iexact Hg
  isplitl [Hs]; · iexact Hs
  isplitl [HK]; · iexact HK
  iexact HV

/-! ## The windows' blocks are the arrays -/

theorem iblk0 (c : Dev nD) (t : Fin cfg0.N) : iblk m c 0 t = V m c main_v0 := by
  obtain rfl := fin_N0 t
  funext i
  show V m c main_v0 _ = V m c main_v0 i
  congr 1; funext a; apply Fin.ext
  match a with
  | ⟨0, _⟩ => show 0 * 16 + 1 * (i 0).val = (i 0).val; omega
  | ⟨1, _⟩ => show 0 * 128 + 1 * (i 1).val = (i 1).val; omega
theorem iblk1 (c : Dev nD) (t : Fin cfg0.N) : iblk m c 1 t = V m c main_v1 := by
  obtain rfl := fin_N0 t
  funext i
  show V m c main_v1 _ = V m c main_v1 i
  congr 1; funext a; apply Fin.ext
  match a with
  | ⟨0, _⟩ => show 0 * 2 + 1 * (i 0).val = (i 0).val; omega
  | ⟨1, _⟩ => show 0 * 128 + 1 * (i 1).val = (i 1).val; omega
theorem iblk2 (c : Dev nD) (t : Fin cfg0.N) : iblk m c 2 t = V m c main_v2 := by
  obtain rfl := fin_N0 t
  funext i
  show V m c main_v2 _ = V m c main_v2 i
  congr 1; funext a; apply Fin.ext
  match a with
  | ⟨0, _⟩ => show 0 * 2 + 1 * (i 0).val = (i 0).val; omega
  | ⟨1, _⟩ => show 0 * 128 + 1 * (i 1).val = (i 1).val; omega
theorem iblk3 (c : Dev nD) (t : Fin cfg0.N) : iblk m c 3 t = V m c main_arg4 := by
  obtain rfl := fin_N0 t
  funext i
  show V m c main_arg4 _ = V m c main_arg4 i
  congr 1; funext a; apply Fin.ext
  match a with
  | ⟨0, _⟩ => show 0 * 2 + 1 * (i 0).val = (i 0).val; omega
theorem iblk4 (c : Dev nD) (t : Fin cfg0.N) : iblk m c 4 t = V m c main_arg6 := by
  obtain rfl := fin_N0 t
  funext i
  show V m c main_arg6 _ = V m c main_arg6 i
  congr 1; funext a; apply Fin.ext
  match a with
  | ⟨0, _⟩ => show 0 * 2 + 1 * (i 0).val = (i 0).val; omega
theorem iblk5 (c : Dev nD) (t : Fin cfg0.N) : iblk m c 5 t = V m c main_arg7 := by
  obtain rfl := fin_N0 t
  funext i
  show V m c main_arg7 _ = V m c main_arg7 i
  congr 1; funext a; apply Fin.ext
  match a with
  | ⟨0, _⟩ => show 0 * 1 + 1 * (i 0).val = (i 0).val; omega
  | ⟨1, _⟩ => show 0 * 1024 + 1 * (i 1).val = (i 1).val; omega
theorem iblk6 (c : Dev nD) (t : Fin cfg0.N) : iblk m c 6 t = V m c main_arg8 := by
  obtain rfl := fin_N0 t
  funext i
  show V m c main_arg8 _ = V m c main_arg8 i
  congr 1; funext a; apply Fin.ext
  match a with
  | ⟨0, _⟩ => show 0 * 1 + 1 * (i 0).val = (i 0).val; omega

/-! ## The proof data -/

/-- The attention's result, of the memory at launch. -/
def yOut (c : Dev nD) : FVec F S16x128 .bf16 :=
  yRes (V m c main_v0) (V m c main_v1) (V m c main_v2) (V m c main_arg4) (V m c main_arg6) (V m c main_arg7) (V m c main_arg8) (V m c main_v3) (V m c main_v4)
/-- The new key's code. -/
def kOut (c : Dev nD) : FVec F S2x128 .fp8e4m3 := kRes (V m c main_v1) (V m c main_arg4)
/-- The new value's code. -/
def vOut (c : Dev nD) : FVec F S2x128 .fp8e4m3 := vRes (V m c main_v2) (V m c main_arg6)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOut m c
    | ⟨8, _⟩ => kOut m c
    | ⟨9, _⟩ => vOut m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = yOut m c := by dsimp only [dats]
theorem after8 (c : Dev nD) (t : Fin cfg0.N) : (dats m 0 c).after 8 t = kOut m c := by dsimp only [dats]
theorem after9 (c : Dev nD) (t : Fin cfg0.N) : (dats m 0 c).after 9 t = vOut m c := by dsimp only [dats]

/-- An input window's staging buffer holds its block when the body starts. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body at the point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

attribute [local irreducible] cc0_paged_fp8_decode

theorem body_at (c : Dev nD) (t : Fin cfg0.N) (hlt : ∀ n < 1024, (tabOf (V m c main_arg7) n).toNat < 1024) (y9 : FVec F S16x128 .bf16) (y10 y11 : FVec F S2x128 .fp8e4m3) (R : sProp 𝕄) :
    iprop((owns (c : Thread nD τ) (st0_0 t) fullShare (V m c main_v0) ∗ owns (c : Thread nD τ) (st0_1 t) fullShare (V m c main_v1) ∗ owns (c : Thread nD τ) (st0_2 t) fullShare (V m c main_v2)
        ∗ owns (c : Thread nD τ) (st0_3 t) fullShare (V m c main_arg4) ∗ owns (c : Thread nD τ) (st0_4 t) fullShare (V m c main_arg6) ∗ owns (c : Thread nD τ) (st0_6 t) fullShare (V m c main_arg8)
        ∗ owns (c : Thread nD τ) (st0_5 t) fullShare (V m c main_arg7)
        ∗ owns (c : Thread nD τ) (st0_7 t) fullShare y9 ∗ owns (c : Thread nD τ) (st0_8 t) fullShare y10 ∗ owns (c : Thread nD τ) (st0_9 t) fullShare y11
        ∗ (∃ f : Buf (Elt F) (scoreLoc c), scoreLoc c ↦{fullShare} f) ∗ (bigSep Finset.univ (fun k : Fin 24 => idle c (V m c main_v3) (V m c main_v4) k)) ∗ owing c) ∗ R)
      ⊢ W c (bodyAt0 t) (fun _ => iprop((owns (c : Thread nD τ) (st0_0 t) fullShare (V m c main_v0) ∗ owns (c : Thread nD τ) (st0_1 t) fullShare (V m c main_v1) ∗ owns (c : Thread nD τ) (st0_2 t) fullShare (V m c main_v2)
        ∗ owns (c : Thread nD τ) (st0_3 t) fullShare (V m c main_arg4) ∗ owns (c : Thread nD τ) (st0_4 t) fullShare (V m c main_arg6) ∗ owns (c : Thread nD τ) (st0_6 t) fullShare (V m c main_arg8)
        ∗ owns (c : Thread nD τ) (st0_5 t) fullShare (V m c main_arg7)
        ∗ owns (c : Thread nD τ) (st0_7 t) fullShare (yOut m c) ∗ owns (c : Thread nD τ) (st0_8 t) fullShare (kOut m c) ∗ owns (c : Thread nD τ) (st0_9 t) fullShare (vOut m c)
        ∗ (∃ f : Buf (Elt F) (scoreLoc c), scoreLoc c ↦{fullShare} f) ∗ (bigSep Finset.univ (fun k : Fin 24 => idle c (V m c main_v3) (V m c main_v4) k)) ∗ owing c) ∗ R)) := by
  iintro ⟨H, HR⟩
  iapply (wp_wand_r frame _ Set.univ)
  isplitl [H]
  · iapply (body_wp (V m c main_v0) (V m c main_v1) (V m c main_v2) (V m c main_arg4) (V m c main_arg6) (V m c main_arg7) (V m c main_arg8) y9 y10 y11 (V m c main_v3) (V m c main_v4) hlt)
    iexact H
  iintro %u
  iintro H
  isplitl [H]; · iexact H
  iexact HR

set_option maxHeartbeats 2000000 in
theorem sound_body (hlt : ∀ c : Dev nD, ∀ n < 1024, (tabOf (V m c main_arg7) n).toNat < 1024) (c : Dev nD) (t : Fin cfg0.N) :
    bodyPre m c t ⊢ W c (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl]
  rw [after0, after1, after2, after3, after4, after5, after6, after7, after8, after9]
  unfold Dat.owesAt Pipeline.owesWithin
  rw [show (dats m 0 c).owed t.castSucc = 0 from rfl, show (dats m 0 c).owed t.succ = 0 from rfl]
  simp only [before0, before1, before2, before3, before4, before5, before6]
  rw [iblk0, iblk1, iblk2, iblk3, iblk4, iblk5, iblk6]
  iintro ⟨HΦ, ⟨%Ws, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ := (Phi_in m c) $$ HΦ
  icases HΦ with ⟨HS, HI, HP⟩
  iapply (wp_wand_r frame _ Set.univ)
  isplitl [H0 H1 H2 H3 H4 H5 H6 H7 H8 H9 HS HI HP HW]
  · iapply (body_at m c t (hlt c) _ _ _ _)
    isplitr [HP]
    · isplitl [H0]; · iexact H0
      isplitl [H1]; · iexact H1
      isplitl [H2]; · iexact H2
      isplitl [H3]; · iexact H3
      isplitl [H4]; · iexact H4
      isplitl [H6]; · iexact H6
      isplitl [H5]; · iexact H5
      isplitl [H7]; · iexact H7
      isplitl [H8]; · iexact H8
      isplitl [H9]; · iexact H9
      isplitl [HS]; · iexact HS
      isplitl [HI]; · iexact HI
      unfold owing
      iexists Ws
      iexact HW
    · iexact HP
  iintro %u
  unfold owing
  iintro ⟨⟨H0, H1, H2, H3, H4, H6, H5, H7, H8, H9, HS, HI, ⟨%W', HW'⟩⟩, HP⟩
  isplitl [HS HI HP]
  · iapply (Phi_out m c)
    isplitl [HS]; · iexact HS
    isplitl [HI]; · iexact HI
    iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (hlt : ∀ c : Dev nD, ∀ n < 1024, (tabOf (V m c main_arg7) n).toNat < 1024) (c : Dev nD) :
    BodyObligation (dats (F := F) m 0 c) (defs₀ (F := F)) Variants.none () Set.univ := fun t => by
  rw [bigSep_W0, bigSep_W0, defs₀_row]
  exact triple_restated (sound_body m hlt c t) rfl .rfl fun _ => .rfl

/-! ## The run -/

set_option backward.isDefEq.respectTransparency.types false in
theorem run_main (hlt : ∀ c : Dev nD, ∀ n < 1024, (tabOf (V m c main_arg7) n).toNat < 1024) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hlt c).loose) (hshare := fun c => (dats m 0 c).share_full fun _ => rfl)
    (howed := fun _ _ => rfl) (V := V m) (hmain := hmain m Variants.none) (hA := A_eq m)
    (hin := fun _ => .rfl) (hout := fun _ => .rfl)

end Cert.KernelIdeal.Hand

end
-- ==== Proof.KI.Run.lean ====
/-
  What the run leaves: the three results named, every argument as launched, every semaphore at zero.
-/
module

public import proofs.«01_k».proof.Proof.KI.Frame

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F] [Named F]
variable (m : (ℓ : Loc nD τ sig) → Buf (Elt F) ℓ) (ρ : Dev nD → PrngReg)

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => absurd ((fin_N0 t).trans (fin_N0 t').symm) hne
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => absurd ((fin_N0 t).trans (fin_N0 t').symm) hne
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => absurd ((fin_N0 t).trans (fin_N0 t').symm) hne

/-- The first result's array after the run. -/
theorem arr7 (c : Dev nD) : (dats m 0 c).arrAt 7 cfg0.N = yOut m c := by
  have h := (dats m 0 c).read_blk_arrAt_eq_flushed 7 disjoint7 cfg0.N t0_0 t0_0.isLt (flush0_7 t0_0)
  have hf : (dats m 0 c).flushed 7 t0_0 = yOut m c := by
    show (cfg0.win 7).cut (grid0.coords t0_0) ((dats m 0 c).after 7 t0_0) = _
    rw [after7]; rfl
  rw [hf] at h
  rw [← h]
  funext i
  show _ = (dats m 0 c).arrAt 7 cfg0.N _
  congr 1; funext a; apply Fin.ext
  match a with
  | ⟨0, _⟩ => show (i 0).val = 0 * 16 + 1 * (i 0).val; omega
  | ⟨1, _⟩ => show (i 1).val = 0 * 128 + 1 * (i 1).val; omega
theorem arr8 (c : Dev nD) : (dats m 0 c).arrAt 8 cfg0.N = kOut m c := by
  have h := (dats m 0 c).read_blk_arrAt_eq_flushed 8 disjoint8 cfg0.N t0_0 t0_0.isLt (flush0_8 t0_0)
  have hf : (dats m 0 c).flushed 8 t0_0 = kOut m c := by
    show (cfg0.win 8).cut (grid0.coords t0_0) ((dats m 0 c).after 8 t0_0) = _
    rw [after8]; rfl
  rw [hf] at h
  rw [← h]
  funext i
  show _ = (dats m 0 c).arrAt 8 cfg0.N _
  congr 1; funext a; apply Fin.ext
  match a with
  | ⟨0, _⟩ => show (i 0).val = 0 * 2 + 1 * (i 0).val; omega
  | ⟨1, _⟩ => show (i 1).val = 0 * 128 + 1 * (i 1).val; omega
theorem arr9 (c : Dev nD) : (dats m 0 c).arrAt 9 cfg0.N = vOut m c := by
  have h := (dats m 0 c).read_blk_arrAt_eq_flushed 9 disjoint9 cfg0.N t0_0 t0_0.isLt (flush0_9 t0_0)
  have hf : (dats m 0 c).flushed 9 t0_0 = vOut m c := by
    show (cfg0.win 9).cut (grid0.coords t0_0) ((dats m 0 c).after 9 t0_0) = _
    rw [after9]; rfl
  rw [hf] at h
  rw [← h]
  funext i
  show _ = (dats m 0 c).arrAt 9 cfg0.N _
  congr 1; funext a; apply Fin.ext
  match a with
  | ⟨0, _⟩ => show (i 0).val = 0 * 2 + 1 * (i 0).val; omega
  | ⟨1, _⟩ => show (i 1).val = 0 * 128 + 1 * (i 1).val; omega

/-- Every word of the page table is a page number. -/
def TableOk : Prop := ∀ (c : Dev nD) (i : S1x1024.Idx), ((m ((c : Thread nD τ).loc main_arg7) : IVec S1x1024 32) i).toNat < 1024

theorem hlt_of (h : TableOk m) (c : Dev nD) : ∀ n < 1024, (tabOf (V m c main_arg7) n).toNat < 1024 := by
  intro n hn
  unfold tabOf
  rw [dif_pos hn, V_main_arg7]
  exact h c _

/-- The run, its results named and its arguments unchanged. -/
theorem run_value (h : TableOk m) : θ_run defs (onTc (τ := τ) (main (F := F))) ⟨m, fun _ => 0, ρ⟩ (fun r => (∀ c : Dev nD,
      r.2.mem ((c.tc : Thread nD τ).loc main_v5_0) = yOut m c
      ∧ r.2.mem ((c.tc : Thread nD τ).loc main_v5_1) = kOut m c
      ∧ r.2.mem ((c.tc : Thread nD τ).loc main_v5_2) = vOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hr => ⟨fun c =>
    ⟨(hr.1 c).1 7 |>.trans (arr7 m c), (hr.1 c).1 8 |>.trans (arr8 m c), (hr.1 c).1 9 |>.trans (arr9 m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).1 3).trans (((dats m 0 c).arrAt_in 3 rfl _).trans ((A_eq m c 3).trans (V_main_arg4 m c))),
      ((hr.1 c).2 main_arg5 (Pipeline.mem_restRefs_of main_arg5 (by decide) (by decide))).trans (V_main_arg5 m c),
      ((hr.1 c).1 4).trans (((dats m 0 c).arrAt_in 4 rfl _).trans ((A_eq m c 4).trans (V_main_arg6 m c))),
      ((hr.1 c).1 5).trans (((dats m 0 c).arrAt_in 5 rfl _).trans ((A_eq m c 5).trans (V_main_arg7 m c))),
      ((hr.1 c).1 6).trans (((dats m 0 c).arrAt_in 6 rfl _).trans ((A_eq m c 6).trans (V_main_arg8 m c)))⟩, hr.2⟩)
    (run_main m ρ (hlt_of m h))

/-- The frame: the run ends, every argument as launched and every semaphore at zero. -/
theorem frame (h : TableOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hr => ⟨fun c => (hr.1 c).2.2.2, hr.2⟩) (run_value m ρ h)

end Cert.KernelIdeal.Hand

end
-- ==== Proof.PreScales.lean ====
/-
  The precondition of the value claim read: every word of the page table is a page number, the sequence length leaves
  room, and every scale is a nonnegative finite number.
-/
module

public import proofs.«01_k».proof.Proof.Pre
public import proofs.«01_k».proof.Proof.Gen.Pre_pre_scales
public import Idealize.ShloMosaic.Lib.ReduceAll
public import Idealize.ShloMosaic.Lib.WordCmp
public import Idealize.ShloMosaic.PureOps.Ideal
public import Idealize.ShloMosaic.PureOps.Ideal.Laws

@[expose] public section

noncomputable section

namespace Cert.Hand

open Idealize.ShloMosaic

/-- A number that compares at least zero is nonnegative. -/
theorem nonneg_of_cmp {x : EReal} (h : Ideal.cmp .oge x (Ideal.ofBits .f32 0x00000000#32) = 1#1) : 0 ≤ x := by
  rw [Ideal.ofBits_zero_f32] at h
  by_contra hn
  simp [Ideal.cmp, hn] at h

/-- A number that compares below infinity is below infinity. -/
theorem lt_top_of_cmp {x : EReal} (h : Ideal.cmp .olt x (Ideal.ofBits .f32 0x7F800000#32) = 1#1) : x < ⊤ := by
  rw [show Ideal.ofBits .f32 0x7F800000#32 = (⊤ : EReal) from by simp [Ideal.ofBits, Ideal.ieee]] at h
  by_contra hn
  simp [Ideal.cmp, hn] at h

/-- What the second precondition says. -/
theorem of_pre_scales (a0 a1 a2 a3 a4 a5 a6 a7 a8)
    (h : Cert.Pre_pre_scales.fn (F := Ideal) a0 a1 a2 a3 a4 a5 a6 a7 a8 = (fun _ => 1#1)) :
    (∀ i : Cert.Pre_pre_scales.S1x1024.Idx, (a7 i).toNat < 1024) ∧ (∀ i, (a8 i).toInt ≤ 2147481600)
      ∧ (∀ i, (0 : EReal) ≤ a4 i ∧ (a4 i : EReal) < ⊤) ∧ (∀ i, (0 : EReal) ≤ a6 i ∧ (a6 i : EReal) < ⊤) := by
  haveI : Subsingleton Cert.Pre_pre_scales.S_.Idx := ⟨fun a b => funext fun x => x.elim0⟩
  have e := congrFun h (fun x => x.elim0)
  unfold Cert.Pre_pre_scales.fn Cert.Pre_pre_scales.fn_part1 at e
  obtain ⟨e, e6⟩ := IntOp.andi_eq_one.1 e
  obtain ⟨e, e4⟩ := IntOp.andi_eq_one.1 e
  obtain ⟨e7, e8⟩ := IntOp.andi_eq_one.1 e
  have h7 := fun i => word_lt _ (Host.reduce_andi_all _ _ _ _ _ e7 i)
  have h8 := fun i => IntOp.cmpi_sle.1 (Host.reduce_andi_all _ _ _ _ _ e8 i)
  have h4 := fun i => IntOp.andi_eq_one.1 (Host.reduce_andi_all _ _ _ _ _ e4 i)
  have h6 := fun i => IntOp.andi_eq_one.1 (Host.reduce_andi_all _ _ _ _ _ e6 i)
  refine ⟨h7, fun i => ?_, fun i => ?_, fun i => ?_⟩
  · exact h8 i
  · exact ⟨nonneg_of_cmp (h4 i).1, lt_top_of_cmp (h4 i).2⟩
  · exact ⟨nonneg_of_cmp (h6 i).1, lt_top_of_cmp (h6 i).2⟩

end Cert.Hand

end
-- ==== Proof.Spec.lean ====
/-
  Attention over one cache and one new token, on extended reals: what a row of the result is, and the facts of sums and
  maxima by which the same row computed block by block is that row.
-/
module

public import Idealize.ShloMosaic.PureOps.Ideal
public import Idealize.ShloMosaic.PureOps.Ideal.Laws

@[expose] public section

noncomputable section

namespace Cert.Hand

open Idealize.ShloMosaic
open scoped BigOperators

/-- A new row's number `x` at the scale `s`: `x / s` by the reciprocal, clipped to the format's range. -/
def code (x s : EReal) : EReal :=
  min (Ideal.ofBits .f32 0x43E00000#32) (max (Ideal.ofBits .f32 0xC3E00000#32) (x * Ideal.div (Ideal.ofBits .f32 0x3F800000#32) s))

/-- The factor of the scores. -/
def sm : EReal := Ideal.ofBits .f32 0x3DB504F3#32

section One

variable (n : ℤ) (q kc vc : Fin 128 → EReal) (ks vs : EReal) (K V : ℕ → Fin 128 → EReal)

/-- The score of cached token `t`; a token at or past the length `n` has none. -/
def score (t : ℕ) : EReal := if (t : ℤ) < n then (∑ d, q d * (K t d * ks)) * sm else ⊥

/-- The new token's score. -/
def scoreNew : EReal := (∑ d, q d * (kc d * ks)) * sm

/-- The largest score. -/
def top : EReal := max ((Finset.univ : Finset (Fin 131072)).fold max ⊥ (fun t => score n q ks K t.val)) (scoreNew q kc ks)

/-- The weight of cached token `t`. -/
def weight (t : ℕ) : EReal := if (t : ℤ) < n then Ideal.exp (score n q ks K t - top n q kc ks K) else 0

/-- The new token's weight. -/
def weightNew : EReal := Ideal.exp (scoreNew q kc ks - top n q kc ks K)

/-- One number of the result: the values' weighted sum over the weights' sum. -/
def att (d : Fin 128) : EReal :=
  Ideal.div ((∑ t : Fin 131072, weight n q kc ks K t.val * (V t.val d * vs)) + weightNew n q kc ks K * (vc d * vs))
    ((∑ t : Fin 131072, weight n q kc ks K t.val) + weightNew n q kc ks K)

end One

/-! ## Sums -/

/-- A nonnegative finite factor of every term is a factor of the sum. -/
theorem sum_scale {ι : Type} (s : Finset ι) (f g : ι → EReal) {c : EReal} (h0 : 0 ≤ c) (h1 : c < ⊤) :
    ∑ i ∈ s, f i * (g i * c) = (∑ i ∈ s, f i * g i) * c := by
  classical
  induction s using Finset.induction_on with
  | empty => simp
  | insert a s ha ih =>
    rw [Finset.sum_insert ha, Finset.sum_insert ha, ih, EReal.right_distrib_of_nonneg_of_ne_top h0 h1.ne, mul_assoc]

/-- A sum over `n` blocks of `m`. -/
theorem sum_blocks (f : ℕ → EReal) (m n : ℕ) : ∑ t ∈ Finset.range (m * n), f t = ∑ k ∈ Finset.range n, ∑ j ∈ Finset.range m, f (m * k + j) := by
  induction n with
  | zero => simp
  | succ n ih => rw [Nat.mul_succ, Finset.sum_range_add, ih, Finset.sum_range_succ]

/-- The sum over the lanes of what each lane sums over blocks of 16 slices is the sum over the tokens. -/
theorem sum_lanes (f : ℕ → EReal) (n : ℕ) :
    ∑ l : Fin 128, ∑ k ∈ Finset.range n, ∑ i ∈ Finset.range 16, f (2048 * k + (128 * i + l.val)) = ∑ t ∈ Finset.range (2048 * n), f t := by
  rw [sum_blocks f 2048 n, Finset.sum_comm]
  refine Finset.sum_congr rfl fun k _ => ?_
  rw [show (2048 : ℕ) = 128 * 16 from rfl, sum_blocks (fun j => f (128 * 16 * k + j)) 128 16, Finset.sum_comm]
  refine Finset.sum_congr rfl fun i _ => ?_
  rw [← Finset.sum_range (fun l => f (128 * 16 * k + (128 * i + l)))]

/-- A sum whose terms vanish from `b` on, over the first `b` indices. -/
theorem sum_cut (f : ℕ → EReal) {b N : ℕ} (hb : b ≤ N) (h : ∀ t < N, b ≤ t → f t = 0) :
    ∑ t ∈ Finset.range b, f t = ∑ t : Fin N, f t.val := by
  rw [← Finset.sum_range (fun t => f t)]
  refine Finset.sum_subset (fun t ht => Finset.mem_range.2 (lt_of_lt_of_le (Finset.mem_range.1 ht) hb)) fun t ht hn => ?_
  exact h t (Finset.mem_range.1 ht) (Nat.le_of_not_lt fun h' => hn (Finset.mem_range.2 h'))

/-! ## The blocked row -/

section Blocked

variable (n : ℤ) (q kc vc : Fin 128 → EReal) (ks vs : EReal) (K V : ℕ → Fin 128 → EReal)

/-- The score with the scale and the factor multiplied in after the sum. -/
theorem score_eq (h0 : 0 ≤ ks) (h1 : ks < ⊤) (t : ℕ) :
    (if (t : ℤ) < n then (∑ d, q d * K t d) * (ks * sm) else ⊥) = score n q ks K t := by
  unfold score
  rw [sum_scale _ _ _ h0 h1, mul_assoc]

theorem score_past {t : ℕ} (h : ¬ (t : ℤ) < n) : score n q ks K t = ⊥ := if_neg h

theorem exp_bot_sub (x : EReal) : Ideal.exp (⊥ - x) = 0 := by
  rw [sub_eq_add_neg, EReal.bot_add]; rfl

/-- The weight needs no case of its own: a token past the length has weight zero. -/
theorem weight_eq (t : ℕ) : Ideal.exp (score n q ks K t - top n q kc ks K) = weight n q kc ks K t := by
  unfold weight
  split
  · rfl
  · rename_i h; rw [score_past n q ks K h, exp_bot_sub]

theorem weight_past {t : ℕ} (h : ¬ (t : ℤ) < n) : weight n q kc ks K t = 0 := if_neg h

/-- The largest score from the lanes' maxima over the first `nb` blocks. -/
theorem top_eq {nb : ℕ} (hnb : nb ≤ 64) (hcov : ∀ t : ℕ, t < 131072 → (t : ℤ) < n → t < 2048 * nb) (m : Fin 128 → EReal)
    (hm : ∀ l c, m l ≤ c ↔ ∀ k < nb, ∀ i < 16, score n q ks K (2048 * k + (128 * i + l.val)) ≤ c) :
    max ((Finset.univ : Finset (Fin 128)).fold max ⊥ m) (scoreNew q kc ks) = top n q kc ks K := by
  unfold top
  refine congrArg (fun z => max z _) ?_
  refine eq_of_forall_ge_iff fun c => ?_
  rw [Finset.fold_max_le, Finset.fold_max_le]
  refine and_congr_right fun _ => ⟨fun h t _ => ?_, fun h l _ => (hm l c).2 fun k hk i hi => ?_⟩
  · by_cases ht : t.val < 2048 * nb
    · have := (hm ⟨t.val % 128, Nat.mod_lt _ (by norm_num)⟩ c).1 (h _ (Finset.mem_univ _)) (t.val / 2048) (by omega) (t.val % 2048 / 128) (by omega)
      rwa [show 2048 * (t.val / 2048) + (128 * (t.val % 2048 / 128) + t.val % 128) = t.val from by omega] at this
    · rw [score_past n q ks K (fun h' => ht (hcov t.val t.isLt h'))]; exact bot_le
  · exact h ⟨2048 * k + (128 * i + l.val), by have := l.isLt; omega⟩ (Finset.mem_univ _)

/-- The row from its blocked sums. -/
theorem att_eq (h0 : 0 ≤ vs) (h1 : vs < ⊤) {nb : ℕ} (hnb : nb ≤ 64) (hcov : ∀ t : ℕ, t < 131072 → (t : ℤ) < n → t < 2048 * nb) (d : Fin 128) :
    Ideal.div ((∑ k ∈ Finset.range nb, ∑ j ∈ Finset.range 2048, weight n q kc ks K (2048 * k + j) * V (2048 * k + j) d) * vs + weightNew n q kc ks K * (vc d * vs))
      ((∑ l : Fin 128, ∑ k ∈ Finset.range nb, ∑ i ∈ Finset.range 16, weight n q kc ks K (2048 * k + (128 * i + l.val))) + weightNew n q kc ks K)
      = att n q kc vc ks vs K V d := by
  have hz : ∀ t : ℕ, t < 131072 → 2048 * nb ≤ t → weight n q kc ks K t = 0 := fun t ht hb =>
    weight_past n q kc ks K fun h => absurd (hcov t ht h) (by omega)
  unfold att
  rw [sum_lanes (fun t => weight n q kc ks K t), sum_cut (fun t => weight n q kc ks K t) (N := 131072) (by omega) hz,
    ← sum_blocks (fun t => weight n q kc ks K t * V t d) 2048 nb, sum_cut (fun t => weight n q kc ks K t * V t d) (N := 131072) (by omega)
      (fun t ht hb => by rw [hz t ht hb, zero_mul]), sum_scale _ (fun t : Fin 131072 => weight n q kc ks K t.val) (fun t => V t.val d) h0 h1]

end Blocked

end Cert.Hand

end
-- ==== Proof.Alg.Cells.lean ====
/-
  The idealized kernel's vectors read at an index: the scales, the codes, the padded query, a block of cached rows.
-/
module

public import proofs.«01_k».proof.Proof.KI.Body
public import proofs.«01_k».proof.Proof.Spec
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.KernelIdeal.Alg

open Cert.KernelIdeal Cert.KernelIdeal.Gen Cert.KernelIdeal.Hand Cert.Hand
open Idealize.ShloMosaic hiding ix1 ix2 ix3 ix4 ix5
open Idealize.ShloMosaic.ValueIdx
open scoped BigOperators

/-- The head of row `r`. -/
def hd (r : Fin 16) : Fin 2 := ⟨r.val / 8, by have := r.isLt; omega⟩

/-- The number at row `t`, column `d` of head `h` of the sequence's cache. -/
def tok (tab : ℕ → BitVec 32) (pool : PoolBuf (F := Ideal)) (h : Fin 2) (t : ℕ) (d : Fin 128) : EReal :=
  pool (ix4 (n0 := 1024) (n1 := 2) (n2 := 128) (n3 := 128) (Fin.ofNat 1024 (tab (t / 128)).toNat) h (Fin.ofNat 128 t) d)

/-! ## The scales -/

theorem lt8 : ∀ r : Fin 16, IntOp.cmpi .slt (BitVec.ofNat 32 (0 * 16 + r.val)) 8#32 = if hd r = 0 then 1#1 else 0#1 := by decide
theorem eq0 : ∀ h : Fin 2, IntOp.cmpi .eq (BitVec.ofNat 32 (0 * 2 + h.val)) 0#32 = if h = 0 then 1#1 else 0#1 := by decide
theorem two (h : Fin 2) : h = 0 ∨ h = 1 := by revert h; decide

theorem sel_two (h : Fin 2) (f : Fin 2 → EReal) : Scalar.select (if h = 0 then 1#1 else 0#1) (f 0) (f 1) = f h := by
  rcases two h with rfl | rfl
  · exact select_one _ _
  · exact select_zero _ _

theorem scale16 (f : Fin 2 → EReal) (r : Fin 16) : (k0_pay21 (F := Ideal) (f 0) (f 1) : S16x1.Idx → EReal) (ix2 r 0) = f (hd r) * sm := by
  show Scalar.select (IntOp.cmpi .slt (BitVec.ofNat 32 (0 * 16 + r.val)) 8#32) (f 0) (f 1) * sm = _
  rw [lt8, sel_two]

theorem scaleK (f : Fin 2 → EReal) (h : Fin 2) : (k0_pay14 (F := Ideal) (f 0) (f 1) : S2x1.Idx → EReal) (ix2 h 0) = f h := by
  show Scalar.select (IntOp.cmpi .eq (BitVec.ofNat 32 (0 * 2 + h.val)) 0#32) (f 0) (f 1) = _
  rw [eq0, sel_two]

theorem scaleV (f : Fin 2 → EReal) (h : Fin 2) : (k0_pay16 (F := Ideal) k0_pay15 (f 0) (f 1) : S2x1.Idx → EReal) (ix2 h 0) = f h := by
  show Scalar.select (IntOp.cmpi .eq (BitVec.ofNat 32 (0 * 2 + h.val)) 0#32) (f 0) (f 1) = _
  rw [eq0, sel_two]

/-- A column broadcast along the rows. -/
theorem bcast_col {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-! ## The codes -/

theorem kRes_at (kn : FVec Ideal S2x128 .bf16) (ks : FVec Ideal S2 .f32) (h : Fin 2) (d : Fin 128) :
    (kRes kn ks : S2x128.Idx → EReal) (ix2 h d) = code (kn (ix2 h d)) (ks (ix1 h)) := by
  have e := scaleK (fun h => ks (ix1 h)) h
  unfold kRes k0_pay17
  simp only [shapeCast_self]
  show min _ (max _ (kn (ix2 h d) * broadcastTo S2x128 _ _ (ix2 h d))) = _
  rw [bcast_col]
  show min _ (max _ (kn (ix2 h d) * Ideal.div _ (k0_pay14 (F := Ideal) (ks (ix1 0)) (ks (ix1 1)) (ix2 h 0)))) = _
  rw [e]; rfl

theorem vRes_at (vn : FVec Ideal S2x128 .bf16) (vs : FVec Ideal S2 .f32) (h : Fin 2) (d : Fin 128) :
    (vRes vn vs : S2x128.Idx → EReal) (ix2 h d) = code (vn (ix2 h d)) (vs (ix1 h)) := by
  have e := scaleV (fun h => vs (ix1 h)) h
  unfold vRes k0_pay18
  simp only [shapeCast_self]
  show min _ (max _ (vn (ix2 h d) * broadcastTo S2x128 _ _ (ix2 h d))) = _
  rw [bcast_col]
  show min _ (max _ (vn (ix2 h d) * Ideal.div _ (k0_pay16 (F := Ideal) k0_pay15 (vs (ix1 0)) (vs (ix1 1)) (ix2 h 0)))) = _
  rw [e]; rfl

/-! ## Two rows of blocks put together -/

/-- Eight rows above eight. -/
theorem rows_cat {n : ℕ} (x y : (⟨2, ![8, n]⟩ : Shape).Idx → EReal) (h : Shape.Concatenates [⟨2, ![8, n]⟩, ⟨2, ![8, n]⟩] ⟨2, ![16, n]⟩ 0)
    (r : Fin 16) (c : Fin n) :
    concatenate ⟨2, ![16, n]⟩ 0 [⟨⟨2, ![8, n]⟩, x⟩, ⟨⟨2, ![8, n]⟩, y⟩] h (ix2 r c)
      = if hd r = 0 then x (ix2 (Fin.ofNat 8 r.val) c) else y (ix2 (Fin.ofNat 8 r.val) c) := by
  have hr := r.isLt
  split
  · rename_i h0
    have h0 : r.val / 8 = 0 := congrArg Fin.val h0
    refine concatenate_pair_apply_left _ x y h _ rfl _ fun b => ?_
    match b with
    | ⟨0, _⟩ => show r.val % 8 = r.val; omega
    | ⟨1, _⟩ => rfl
  · rename_i h0
    have h0 : r.val / 8 ≠ 0 := fun h' => h0 (Fin.ext h')
    refine concatenate_pair_apply_right _ x y h _ rfl rfl _ (fun b hb => ?_) ?_
    · match b with
      | ⟨0, _⟩ => exact absurd rfl hb
      | ⟨1, _⟩ => rfl
    · show r.val % 8 + 8 = r.val; omega

/-- 128 columns beside 128. -/
theorem cols_cat {m : ℕ} (x y : (⟨2, ![m, 128]⟩ : Shape).Idx → EReal) (h : Shape.Concatenates [⟨2, ![m, 128]⟩, ⟨2, ![m, 128]⟩] ⟨2, ![m, 256]⟩ 1)
    (r : Fin m) (p : Fin 2) (d : Fin 128) :
    concatenate ⟨2, ![m, 256]⟩ 1 [⟨⟨2, ![m, 128]⟩, x⟩, ⟨⟨2, ![m, 128]⟩, y⟩] h (ix2 r (⟨128 * p.val + d.val, by omega⟩ : Fin 256))
      = if p = 0 then x (ix2 r d) else y (ix2 r d) := by
  rcases two p with rfl | rfl
  · rw [if_pos rfl]
    refine concatenate_pair_apply_left _ x y h _ rfl _ fun b => ?_
    match b with
    | ⟨0, _⟩ => rfl
    | ⟨1, _⟩ => show d.val = 128 * 0 + d.val; omega
  · rw [if_neg (by decide)]
    refine concatenate_pair_apply_right _ x y h _ rfl rfl _ (fun b hb => ?_) ?_
    · match b with
      | ⟨0, _⟩ => rfl
      | ⟨1, _⟩ => exact absurd rfl hb
    · show d.val + 128 = 128 * 1 + d.val; omega

/-- A sum over the 256 columns is the sum over the two halves. -/
theorem sum_halves (f : Fin 256 → EReal) :
    ∑ c, f c = (∑ d : Fin 128, f ⟨128 * (0 : Fin 2).val + d.val, by have := d.isLt; simp; omega⟩) + ∑ d : Fin 128, f ⟨128 * (1 : Fin 2).val + d.val, by have := d.isLt; simp; omega⟩ := by
  have := Fin.sum_univ_add (a := 128) (b := 128) f
  refine this.trans (congrArg₂ (· + ·) ?_ ?_)
  · exact Finset.sum_congr rfl fun d _ => congrArg f (Fin.ext (by simp))
  · exact Finset.sum_congr rfl fun d _ => congrArg f (Fin.ext (by simp [Fin.natAdd]))

/-- A head's eight rows of the query. -/
theorem qrows_at (q : S16x128.Idx → EReal) (p : ℕ) (hs : S16x128.Slices ![8 * p, 0] S8x128) (r : Fin 16) (hr : r.val / 8 = p) (d : Fin 128) :
    extractStridedSlice S8x128 ![8 * p, 0] q hs (ix2 (Fin.ofNat 8 r.val) d) = q (ix2 r d) := by
  refine extractStridedSlice_apply _ _ _ _ (ix2 r d) fun a => ?_
  match a with
  | ⟨0, _⟩ => show r.val = 8 * p + r.val % 8; omega
  | ⟨1, _⟩ => exact (Nat.zero_add _).symm

theorem zero_bf16 : (Ideal.ofBits .bf16 0x0000#16) = (0 : EReal) := by simp [Ideal.ofBits, Ideal.ieee]

/-- The query padded: its own head's columns hold it, the other head's hold zero. -/
theorem qpad_at (q : FVec Ideal S16x128 .bf16) (r : Fin 16) (p : Fin 2) (d : Fin 128) :
    (k0_pay20 (F := Ideal) q : S16x256.Idx → EReal) (ix2 r (⟨128 * p.val + d.val, by omega⟩ : Fin 256)) = if p = hd r then q (ix2 r d) else 0 := by
  have e : k0_pay19 (F := Ideal) q = q := shapeCast_self _ _
  unfold k0_pay20
  rw [e]
  refine (rows_cat _ _ _ r _).trans ?_
  split
  · rename_i h0
    refine (cols_cat _ _ _ _ p d).trans ?_
    rw [h0]
    rcases two p with rfl | rfl
    · rw [if_pos rfl, if_pos rfl]; exact qrows_at q 0 _ r (congrArg Fin.val h0) d
    · rw [if_neg (by decide), if_neg (by decide)]; exact zero_bf16
  · rename_i h0
    have h1 : hd r = 1 := (two _).resolve_left h0
    refine (cols_cat _ _ _ _ p d).trans ?_
    rw [h1]
    rcases two p with rfl | rfl
    · rw [if_pos rfl, if_neg (by decide)]; exact zero_bf16
    · rw [if_neg (by decide), if_pos rfl]; exact qrows_at q 1 _ r (congrArg Fin.val h1) d

/-! ## A block of cached rows -/

/-- A head's 2048 rows of a block. -/
theorem head_at (v : Vec Ideal S1x16x2x128x128 .fp8e4m3) (p : Fin 2) (o : Fin 4 → ℕ) (ho : o = ![0, p.val, 0, 0]) (hs : S16x2x128x128.Slices o S16x1x128x128)
    (j : Fin 2048) (d : Fin 128) :
    (shapeCast S2048x128 (shapeCast S16x128x128 (extractStridedSlice S16x1x128x128 o (shapeCast S16x2x128x128 v shapeCasts_S1x16x2x128x128_S16x2x128x128) hs)
      shapeCasts_S16x1x128x128_S16x128x128) shapeCasts_S16x128x128_S2048x128 : S2048x128.Idx → EReal) (ix2 j d)
      = v (ix5 (n0 := 1) (n1 := 16) (n2 := 2) (n3 := 128) (n4 := 128) 0 (Fin.ofNat 16 (j.val / 128)) p (Fin.ofNat 128 j.val) d) := by
  subst ho
  have hj := j.isLt
  refine (shapeCast_apply _ _ _ (ix3 (n0 := 16) (n1 := 128) (n2 := 128) (Fin.ofNat 16 (j.val / 128)) (Fin.ofNat 128 j.val) d) ?_).trans ?_
  · rw [Shape.rowMajor_val_three, Shape.rowMajor_val_two]
    show (j.val / 128 % 16 * 128 + j.val % 128) * 128 + d.val = j.val * 128 + d.val
    omega
  refine (shapeCast_apply _ _ _ (ix4 (n0 := 16) (n1 := 1) (n2 := 128) (n3 := 128) (Fin.ofNat 16 (j.val / 128)) 0 (Fin.ofNat 128 j.val) d) ?_).trans ?_
  · rw [Shape.rowMajor_val_three, Shape.rowMajor_val_four]
    show ((j.val / 128 % 16 * 1 + 0) * 128 + j.val % 128) * 128 + d.val = (j.val / 128 % 16 * 128 + j.val % 128) * 128 + d.val
    omega
  refine (extractStridedSlice_apply _ _ _ _ (ix4 (n0 := 16) (n1 := 2) (n2 := 128) (n3 := 128) (Fin.ofNat 16 (j.val / 128)) p (Fin.ofNat 128 j.val) d) fun a => ?_).trans ?_
  · match a with
    | ⟨0, _⟩ => exact (Nat.zero_add _).symm
    | ⟨1, _⟩ => rfl
    | ⟨2, _⟩ => exact (Nat.zero_add _).symm
    | ⟨3, _⟩ => exact (Nat.zero_add _).symm
  refine shapeCast_apply _ _ _ _ ?_
  rw [Shape.rowMajor_val_five, Shape.rowMajor_val_four]
  show (((0 * 16 + j.val / 128 % 16) * 2 + p.val) * 128 + j.val % 128) * 128 + d.val = ((j.val / 128 % 16 * 2 + p.val) * 128 + j.val % 128) * 128 + d.val
  omega

/-- The two heads' rows of a block, side by side. -/
def both (v : Vec Ideal S1x16x2x128x128 .fp8e4m3) : FVec Ideal S2048x256 .fp8e4m3 :=
  concatenate S2048x256 1
    [⟨S2048x128, shapeCast S2048x128 (shapeCast S16x128x128 (extractStridedSlice S16x1x128x128 ![0, 0, 0, 0] (shapeCast S16x2x128x128 v shapeCasts_S1x16x2x128x128_S16x2x128x128) slices_S16x2x128x128_o0_0_0_0_S16x1x128x128)
      shapeCasts_S16x1x128x128_S16x128x128) shapeCasts_S16x128x128_S2048x128⟩,
     ⟨S2048x128, shapeCast S2048x128 (shapeCast S16x128x128 (extractStridedSlice S16x1x128x128 ![0, 1, 0, 0] (shapeCast S16x2x128x128 v shapeCasts_S1x16x2x128x128_S16x2x128x128) slices_S16x2x128x128_o0_1_0_0_S16x1x128x128)
      shapeCasts_S16x1x128x128_S16x128x128) shapeCasts_S16x128x128_S2048x128⟩] concatenates_S2048x128_S2048x128_S2048x256_d1

theorem both_at (tab : ℕ → BitVec 32) (pool : PoolBuf (F := Ideal)) (k : ℕ) (j : Fin 2048) (p : Fin 2) (d : Fin 128) :
    (both (blkVec tab (16 * k) pool) : S2048x256.Idx → EReal) (ix2 j (⟨128 * p.val + d.val, by omega⟩ : Fin 256)) = tok tab pool p (2048 * k + j.val) d := by
  have hj := j.isLt
  have e : (blkVec tab (16 * k) pool) (ix5 (n0 := 1) (n1 := 16) (n2 := 2) (n3 := 128) (n4 := 128) 0 (Fin.ofNat 16 (j.val / 128)) p (Fin.ofNat 128 j.val) d)
      = tok tab pool p (2048 * k + j.val) d := by
    unfold blkVec tok
    refine congrArg pool ?_
    show ix4 (Fin.ofNat 1024 (tab (16 * k + j.val / 128 % 16)).toNat) p (Fin.ofNat 128 j.val) d = _
    rw [show 16 * k + j.val / 128 % 16 = (2048 * k + j.val) / 128 from by omega,
      show Fin.ofNat 128 j.val = Fin.ofNat 128 (2048 * k + j.val) from Fin.ext (by show j.val % 128 = (2048 * k + j.val) % 128; omega)]
  unfold both
  refine (cols_cat _ _ _ j p d).trans ?_
  rw [← e]
  rcases two p with rfl | rfl
  · rw [if_pos rfl]; exact head_at _ 0 _ rfl _ j d
  · rw [if_neg (by decide)]; exact head_at _ 1 _ rfl _ j d

end Cert.KernelIdeal.Alg

end
-- ==== Proof.Alg.Row.lean ====
/-
  The idealized kernel's attention, row by row: the scores of a block, their running maximum, the two running sums and the result, each in the terms of `Spec`.
-/
module

public import proofs.«01_k».proof.Proof.Alg.Cells

@[expose] public section

noncomputable section

namespace Cert.KernelIdeal.Alg

open Cert.KernelIdeal Cert.KernelIdeal.Gen Cert.KernelIdeal.Hand Cert.Hand
open Idealize.ShloMosaic hiding ix1 ix2 ix3 ix4 ix5
open Idealize.ShloMosaic.ValueIdx
open scoped BigOperators

/-! ## The constants -/

theorem mask_at : (Named.named (F := Ideal) κ "mask" (φ := .f32) 0xF149F2CA#32 : EReal) = ⊥ := IdealRules.named_const.ideal_named_scalar κ "mask" _ _ rfl

theorem neg_inf : Ideal.ofBits .f32 0xFF800000#32 = ⊥ := by simp [Ideal.ofBits, Ideal.ieee]

/-! ## Reductions along a row -/

theorem lift_row (h : S16x128.Reduces [1] S16) (r : Fin 16) (l : Fin 128) : h.lift (ix1 r) l = ix2 r l := by
  funext a
  match a with
  | ⟨0, _⟩ => rfl
  | ⟨1, _⟩ => rfl

theorem col_of (v : S16.Idx → EReal) (h : S16.ShapeCasts S16x1) (r : Fin 16) : shapeCast S16x1 v h (ix2 r 0) = v (ix1 r) := by
  refine shapeCast_apply _ _ _ _ ?_
  rw [Shape.rowMajor_val_one, Shape.rowMajor_val_two]
  show r.val = r.val * 1 + 0
  omega

theorem sum_row (x : S16x128.Idx → EReal) (h hr hφ ha) (r : Fin 16) :
    shapeCast S16x1 (multiReduction (F := Ideal) (φ := .f32) .add [1] S16 x 0x00000000#32 hr hφ ha) h (ix2 r 0) = ∑ l : Fin 128, x (ix2 r l) := by
  refine (col_of _ _ r).trans ((Ideal.multiReduction_add_single _ _ _ _ _ _).trans ?_)
  exact Finset.sum_congr rfl fun l _ => congrArg x (lift_row _ r l)

theorem max_row (x : S16x128.Idx → EReal) (h hr hφ ha) (r : Fin 16) :
    shapeCast S16x1 (multiReduction (F := Ideal) (φ := .f32) .maximumf [1] S16 x 0xFF800000#32 hr hφ ha) h (ix2 r 0)
      = (Finset.univ : Finset (Fin 128)).fold max ⊥ (fun l => x (ix2 r l)) := by
  refine (col_of _ _ r).trans ((Ideal.multiReduction_maximumf_single _ _ _ _ _ _).trans ?_)
  show Finset.fold max (Ideal.ofBits .f32 0xFF800000#32) _ _ = _
  rw [neg_inf]
  exact congrArg (fun f => Finset.fold max ⊥ f Finset.univ) (funext fun l => congrArg x (lift_row _ r l))

/-- A row per head spread over the head's eight rows. -/
theorem heads_at (x : S2x128.Idx → EReal) (h0 : S2x128.Slices ![0, 0] S1x128) (h1 : S2x128.Slices ![1, 0] S1x128) (hc : S1x128.ShapeCasts S1x128)
    (hb : S1x128.Broadcasts S8x128) (h : Shape.Concatenates [S8x128, S8x128] S16x128 0) (r : Fin 16) (d : Fin 128) :
    concatenate S16x128 0
      [⟨S8x128, broadcastTo S8x128 (shapeCast S1x128 (extractStridedSlice S1x128 ![0, 0] x h0) hc) hb⟩,
       ⟨S8x128, broadcastTo S8x128 (shapeCast S1x128 (extractStridedSlice S1x128 ![1, 0] x h1) hc) hb⟩] h (ix2 r d) = x (ix2 (hd r) d) := by
  have key : ∀ (p : Fin 2) (hs : S2x128.Slices ![p.val, 0] S1x128) (g : Fin 8),
      broadcastTo S8x128 (shapeCast S1x128 (extractStridedSlice S1x128 ![p.val, 0] x hs) hc) hb (ix2 g d) = x (ix2 p d) := fun p hs g => by
    refine (broadcastTo_apply _ _ _ (ix2 (0 : Fin 1) d) fun a => ?_).trans ?_
    · match a with
      | ⟨0, _⟩ => rfl
      | ⟨1, _⟩ => rfl
    · rw [shapeCast_self]
      refine extractStridedSlice_apply _ _ _ _ (ix2 p d) fun a => ?_
      match a with
      | ⟨0, _⟩ => rfl
      | ⟨1, _⟩ => exact (Nat.zero_add _).symm
  refine (rows_cat _ _ h r d).trans ?_
  split
  · rename_i e; rw [e]; exact key 0 h0 _
  · rename_i e; rw [(two _).resolve_left e]; exact key 1 h1 _

/-- The new token's score. -/
theorem snew_at (q : FVec Ideal S16x128 .bf16) (kc : FVec Ideal S2x128 .fp8e4m3) (f : Fin 2 → EReal) (r : Fin 16) :
    (k0_pay22 (k0_pay14 (F := Ideal) (f 0) (f 1)) kc (k0_pay19 q) : S16x1.Idx → EReal) (ix2 r 0)
      = scoreNew (fun d => q (ix2 r d)) (fun d => kc (ix2 (hd r) d)) (f (hd r)) := by
  have e : k0_pay19 (F := Ideal) q = q := shapeCast_self _ _
  unfold k0_pay22 scoreNew
  rw [e]
  refine congrArg (fun z => z * sm) ?_
  refine (sum_row _ _ _ _ _ r).trans (Finset.sum_congr rfl fun d _ => ?_)
  refine congrArg (fun z => q (ix2 r d) * z) ?_
  refine (heads_at _ _ _ _ _ _ r d).trans ?_
  refine congrArg (fun z => kc (ix2 (hd r) d) * z) ?_
  exact (bcast_col _ _ _ _).trans (scaleK f _)

/-! ## The scores -/

/-- The kernel's product against both heads' rows is the product against its own head's. -/
theorem dot_at (q : FVec Ideal S16x128 .bf16) (f : Fin 2 → EReal) (tab : ℕ → BitVec 32) (pool : PoolBuf (F := Ideal)) (k : ℕ) (r : Fin 16) (j : Fin 2048) :
    (k0_pay4 (F := Ideal) (k0_pay20 q) (k0_pay21 (F := Ideal) (f 0) (f 1)) (blkVec tab (16 * k) pool) : S16x2048.Idx → EReal) (ix2 r j)
      = (∑ d, q (ix2 r d) * tok tab pool (hd r) (2048 * k + j.val) d) * (f (hd r) * sm) := by
  refine congrArg₂ (· * ·) ?_ ((bcast_col _ _ _ _).trans (scale16 f r))
  show (FloatOps.matmul (DotDims.transposedRhs 16 256 2048) _ (k0_pay20 (F := Ideal) q) (both (blkVec tab (16 * k) pool)) _) (ix2 r j) = _
  refine (Ideal.matmul_transposedRhs_apply _ _ _ _ _ _).trans ?_
  refine (congrArg₂ (· + ·) Ideal.ofBits_zero_f32 rfl).trans ((zero_add _).trans ((sum_halves _).trans ?_))
  simp only [qpad_at, both_at]
  rcases two (hd r) with h | h
  · rw [h]; simp
  · rw [h]; simp

/-- Whether column `j` of block `k` lies within the length. -/
theorem live_at (v0 : BitVec 32) (t : Fin (k0_t2_loop v0).trips) (r : Fin 16) (j : Fin 2048) :
    (k0_pay5 (F := Ideal) v0 0#32 1#32 t) (ix2 r j) = if ((2048 * t.val + j.val : ℕ) : ℤ) < v0.toInt then 1#1 else 0#1 := by
  have ht : t.val < 64 := lt_of_lt_of_le t.isLt ((t2_trips v0).le.trans (nb_le v0))
  have hj := j.isLt
  have e : (IntOp.addi (Scalar.muli (Scf.iv 0#32 1#32 t.val) 2048#32) (BitVec.ofNat 32 (0 * 2048 + j.val))).toInt = ((2048 * t.val + j.val : ℕ) : ℤ) := by
    have h1 := reads_block (reads_iv t.val (by omega)) (x := t.val) (by omega)
    have h2 : (Scalar.muli (Scf.iv 0#32 1#32 t.val) 2048#32).toNat = 2048 * t.val := h1
    show (Scalar.muli (Scf.iv 0#32 1#32 t.val) 2048#32 + BitVec.ofNat 32 (0 * 2048 + j.val)).toInt = _
    rw [BitVec.toInt_eq_toNat_cond, BitVec.toNat_add, h2, BitVec.toNat_ofNat]
    split <;> omega
  show IntOp.cmpi .slt (IntOp.addi (Scalar.muli (Scf.iv 0#32 1#32 t.val) 2048#32) (BitVec.ofNat 32 (0 * 2048 + j.val))) v0 = _
  show BitVec.ofBool (BitVec.slt _ v0) = _
  rw [BitVec.slt, e]
  split <;> rename_i h
  · rw [decide_eq_true h]; rfl
  · rw [decide_eq_false h]; rfl

variable (q : FVec Ideal S16x128 .bf16) (f : Fin 2 → EReal) (tab : ℕ → BitVec 32) (pool : PoolBuf (F := Ideal)) (v0 : BitVec 32) (r : Fin 16)

/-- The specification's score of token `t` for row `r`. -/
abbrev sc (t : ℕ) : EReal := score v0.toInt (fun d => q (ix2 r d)) (f (hd r)) (tok tab pool (hd r)) t

theorem masked_at (h0 : ∀ h, 0 ≤ f h) (h1 : ∀ h, f h < ⊤) (t : Fin (k0_t2_loop v0).trips) (j : Fin 2048) :
    (k0_pay24 (F := Ideal) (k0_pay4 (k0_pay20 q) (k0_pay21 (F := Ideal) (f 0) (f 1)) (blkVec tab (16 * t.val) pool)) (k0_pay5 (F := Ideal) v0 0#32 1#32 t) k0_pay6 : S16x2048.Idx → EReal) (ix2 r j)
      = sc q f tab pool v0 r (2048 * t.val + j.val) := by
  unfold sc
  rw [← score_eq _ _ _ _ (h0 _) (h1 _)]
  show Scalar.select ((k0_pay5 (F := Ideal) v0 0#32 1#32 t) (ix2 r j)) _ _ = _
  rw [live_at]
  split
  · rw [select_one]; exact dot_at q f tab pool t.val r j
  · rw [select_zero]; exact mask_at

theorem score_at (h0 : ∀ h, 0 ≤ f h) (h1 : ∀ h, f h < ⊤) (k : ℕ) (hk : k < nb v0) (j : Fin 2048) :
    (scoreBlk v0 (k0_pay20 q) (k0_pay21 (F := Ideal) (f 0) (f 1)) tab pool k : S16x2048.Idx → EReal) (ix2 r j) = sc q f tab pool v0 r (2048 * k + j.val) := by
  have ht : k < (k0_t2_loop v0).trips := by rw [t2_trips]; exact hk
  rw [scoreBlk_of v0 _ _ ⟨k, ht⟩]
  exact masked_at q f tab pool v0 r h0 h1 ⟨k, ht⟩ j

/-! ## Sixteen slices of 128 columns -/

theorem slice_at (x : S16x2048.Idx → EReal) (i : ℕ) (hi : i < 16) (h : S16x2048.Slices ![0, 128 * i] S16x128) (l : Fin 128) :
    extractStridedSlice S16x128 ![0, 128 * i] x h (ix2 r l) = x (ix2 r (⟨128 * i + l.val, by have := l.isLt; omega⟩ : Fin 2048)) := by
  refine extractStridedSlice_apply _ _ _ _ _ fun a => ?_
  match a with
  | ⟨0, _⟩ => exact (Nat.zero_add _).symm
  | ⟨1, _⟩ => rfl

/-- A step of the running sum adds the row's columns `128 i + l`. -/
theorem sum_step (a : FVec Ideal S16x128 .f32) (x : FVec Ideal S16x2048 .f32) (g : ℕ → EReal) (hg : ∀ j : Fin 2048, x (ix2 r j) = g j.val) (l : Fin 128) :
    (k0_pay1 a x : S16x128.Idx → EReal) (ix2 r l) = a (ix2 r l) + ∑ i ∈ Finset.range 16, g (128 * i + l.val) := by
  unfold k0_pay1
  simp only [addf_apply]
  have s := fun (i : ℕ) (hi : i < 16) (h : S16x2048.Slices ![0, 128 * i] S16x128) => (slice_at r x i hi h l).trans (hg _)
  simp only [Finset.sum_range_succ, Finset.sum_range_zero, zero_add]
  simp only [← add_assoc]
  refine congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·) (congrArg₂ (· + ·) (congrArg₂ (· + ·) (congrArg₂ (· + ·) rfl
    ?_) ?_) ?_) ?_) ?_) ?_) ?_) ?_) ?_) ?_) ?_) ?_) ?_) ?_) ?_) ?_
  · exact s 0 (by omega) _
  · exact s 1 (by omega) _
  · exact s 2 (by omega) _
  · exact s 3 (by omega) _
  · exact s 4 (by omega) _
  · exact s 5 (by omega) _
  · exact s 6 (by omega) _
  · exact s 7 (by omega) _
  · exact s 8 (by omega) _
  · exact s 9 (by omega) _
  · exact s 10 (by omega) _
  · exact s 11 (by omega) _
  · exact s 12 (by omega) _
  · exact s 13 (by omega) _
  · exact s 14 (by omega) _
  · exact s 15 (by omega) _

/-- A step of the running maximum takes in the row's columns `128 i + l`. -/
theorem max_step (a : FVec Ideal S16x128 .f32) (x : FVec Ideal S16x2048 .f32) (w : IVec S16x2048 1) (z : FVec Ideal S16x2048 .f32) (g : ℕ → EReal)
    (hg : ∀ j : Fin 2048, (k0_pay24 x w z : S16x2048.Idx → EReal) (ix2 r j) = g j.val) (l : Fin 128) (c : EReal) :
    (k0_pay26 a x w z : S16x128.Idx → EReal) (ix2 r l) ≤ c ↔ a (ix2 r l) ≤ c ∧ ∀ i < 16, g (128 * i + l.val) ≤ c := by
  unfold k0_pay26
  generalize hy : k0_pay24 x w z = y at hg
  have s := fun (i : ℕ) (hi : i < 16) (h : S16x2048.Slices ![0, 128 * i] S16x128) => (slice_at r y i hi h l).trans (hg _)
  simp only [maximumf_apply, max_le_iff]
  rw [s 0 (by omega) slices_S16x2048_o0_0_S16x128, s 1 (by omega) slices_S16x2048_o0_128_S16x128, s 2 (by omega) slices_S16x2048_o0_256_S16x128,
    s 3 (by omega) slices_S16x2048_o0_384_S16x128, s 4 (by omega) slices_S16x2048_o0_512_S16x128, s 5 (by omega) slices_S16x2048_o0_640_S16x128,
    s 6 (by omega) slices_S16x2048_o0_768_S16x128, s 7 (by omega) slices_S16x2048_o0_896_S16x128, s 8 (by omega) slices_S16x2048_o0_1024_S16x128,
    s 9 (by omega) slices_S16x2048_o0_1152_S16x128, s 10 (by omega) slices_S16x2048_o0_1280_S16x128, s 11 (by omega) slices_S16x2048_o0_1408_S16x128,
    s 12 (by omega) slices_S16x2048_o0_1536_S16x128, s 13 (by omega) slices_S16x2048_o0_1664_S16x128, s 14 (by omega) slices_S16x2048_o0_1792_S16x128,
    s 15 (by omega) slices_S16x2048_o0_1920_S16x128]
  constructor
  · rintro ⟨⟨⟨⟨⟨⟨⟨⟨⟨⟨⟨⟨⟨⟨⟨⟨ha, h0⟩, h1⟩, h2⟩, h3⟩, h4⟩, h5⟩, h6⟩, h7⟩, h8⟩, h9⟩, h10⟩, h11⟩, h12⟩, h13⟩, h14⟩, h15⟩
    refine ⟨ha, fun i hi => ?_⟩
    interval_cases i <;> assumption
  · rintro ⟨ha, h⟩
    exact ⟨⟨⟨⟨⟨⟨⟨⟨⟨⟨⟨⟨⟨⟨⟨⟨ha, h 0 (by omega)⟩, h 1 (by omega)⟩, h 2 (by omega)⟩, h 3 (by omega)⟩, h 4 (by omega)⟩, h 5 (by omega)⟩, h 6 (by omega)⟩, h 7 (by omega)⟩,
      h 8 (by omega)⟩, h 9 (by omega)⟩, h 10 (by omega)⟩, h 11 (by omega)⟩, h 12 (by omega)⟩, h 13 (by omega)⟩, h 14 (by omega)⟩, h 15 (by omega)⟩

/-! ## The loops -/

theorem mCarry_at (h0 : ∀ h, 0 ≤ f h) (h1 : ∀ h, f h < ⊤) (l : Fin 128) (c : EReal) (n : ℕ) (hn : n ≤ nb v0) :
    (mCarry v0 (k0_pay20 q) (k0_pay21 (F := Ideal) (f 0) (f 1)) tab pool n : S16x128.Idx → EReal) (ix2 r l) ≤ c
      ↔ ∀ k < n, ∀ i < 16, sc q f tab pool v0 r (2048 * k + (128 * i + l.val)) ≤ c := by
  induction n with
  | zero =>
    refine iff_of_true ?_ fun k hk => absurd hk (Nat.not_lt_zero k)
    exact (le_of_eq mask_at).trans bot_le
  | succ n ih =>
    have ht : n < (k0_t2_loop v0).trips := by rw [t2_trips]; omega
    rw [mCarry_succ v0 _ _ ⟨n, ht⟩]
    rw [max_step r _ _ _ _ (fun j => sc q f tab pool v0 r (2048 * n + j)) (fun j => masked_at q f tab pool v0 r h0 h1 ⟨n, ht⟩ j) l c, ih (by omega)]
    constructor
    · rintro ⟨ha, hb⟩ k hk
      rcases Nat.lt_succ_iff_lt_or_eq.mp hk with h | rfl
      · exact ha k h
      · exact hb
    · exact fun h => ⟨fun k hk => h k (by omega), h n (by omega)⟩

variable (blk : ℕ → FVec Ideal S16x2048 .f32) (mx : FVec Ideal S16x1 .f32) (w : ℕ → EReal)

theorem lCarry_sum (n : ℕ) (hw : ∀ k < n, ∀ j : Fin 2048, Ideal.exp (blk k (ix2 r j) - mx (ix2 r 0)) = w (2048 * k + j.val)) (l : Fin 128) :
    ((lCarry mx blk tab pool n).1 : S16x128.Idx → EReal) (ix2 r l) = ∑ k ∈ Finset.range n, ∑ i ∈ Finset.range 16, w (2048 * k + (128 * i + l.val)) := by
  induction n with
  | zero => exact Ideal.ofBits_zero_f32
  | succ n ih =>
    rw [Finset.sum_range_succ, ← ih fun k hk => hw k (by omega)]
    refine sum_step r _ _ (fun j => w (2048 * n + j)) (fun j => ?_) l
    refine Eq.trans ?_ (hw n (by omega) j)
    show Ideal.exp (blk n (ix2 r j) - broadcastTo S16x2048 mx _ (ix2 r j)) = _
    rw [bcast_col]

theorem lCarry_dot (n : ℕ) (hw : ∀ k < n, ∀ j : Fin 2048, Ideal.exp (blk k (ix2 r j) - mx (ix2 r 0)) = w (2048 * k + j.val)) (p : Fin 2) (d : Fin 128) :
    ((lCarry mx blk tab pool n).2 : S16x256.Idx → EReal) (ix2 r (⟨128 * p.val + d.val, by omega⟩ : Fin 256))
      = ∑ k ∈ Finset.range n, ∑ j ∈ Finset.range 2048, w (2048 * k + j) * tok tab pool p (2048 * k + j) d := by
  induction n with
  | zero => exact Ideal.ofBits_zero_f32
  | succ n ih =>
    rw [Finset.sum_range_succ, ← ih fun k hk => hw k (by omega)]
    refine congrArg₂ (· + ·) rfl ?_
    show (FloatOps.matmul (DotDims.plain 16 2048 256) _ (truncf .bf16 (k0_pay10 mx (blk n)) bitsLt_bf16_f32) (both (blkVec tab (16 * n) pool)) _) (ix2 r _) = _
    refine (Ideal.matmul_plain_apply _ _ _ _ _ _).trans ?_
    refine (congrArg₂ (· + ·) Ideal.ofBits_zero_f32 rfl).trans ((zero_add _).trans ?_)
    rw [Finset.sum_range fun j => w (2048 * n + j) * tok tab pool p (2048 * n + j) d]
    refine Finset.sum_congr rfl fun j _ => congrArg₂ (· * ·) ?_ (both_at tab pool n j p d)
    refine Eq.trans ?_ (hw n (by omega) j)
    show Ideal.exp (blk n (ix2 r j) - broadcastTo S16x2048 mx _ (ix2 r j)) = _
    rw [bcast_col]

/-- The last step: each row takes its own head's columns. -/
theorem own_at (x : S16x256.Idx → EReal) (h0 : S16x256.Slices ![0, 0] S8x128) (h1 : S16x256.Slices ![8, 128] S8x128) (h : Shape.Concatenates [S8x128, S8x128] S16x128 0) (d : Fin 128) :
    concatenate S16x128 0 [⟨S8x128, extractStridedSlice S8x128 ![0, 0] x h0⟩, ⟨S8x128, extractStridedSlice S8x128 ![8, 128] x h1⟩] h (ix2 r d)
      = x (ix2 r (⟨128 * (hd r).val + d.val, by omega⟩ : Fin 256)) := by
  have hr := r.isLt
  refine (rows_cat _ _ h r d).trans ?_
  split
  · rename_i e
    have e' : r.val / 8 = 0 := congrArg Fin.val e
    refine extractStridedSlice_apply _ _ _ _ _ fun a => ?_
    match a with
    | ⟨0, _⟩ => show r.val = 0 + r.val % 8; omega
    | ⟨1, _⟩ => show 128 * (r.val / 8) + d.val = 0 + d.val; omega
  · rename_i e
    have e' : r.val / 8 ≠ 0 := fun h => e (Fin.ext h)
    refine extractStridedSlice_apply _ _ _ _ _ fun a => ?_
    match a with
    | ⟨0, _⟩ => show r.val = 8 + r.val % 8; omega
    | ⟨1, _⟩ => show 128 * (r.val / 8) + d.val = 128 + d.val; omega

/-- **The kernel's attention is the specification's.** -/
theorem yRes_at (kn vn : FVec Ideal S2x128 .bf16) (ks vs : FVec Ideal S2 .f32) (pt : IVec S1x1024 32) (sl : IVec S1 32) (kpool vpool : PoolBuf (F := Ideal))
    (hk0 : ∀ i, 0 ≤ ks i) (hk1 : ∀ i, ks i < ⊤) (hv0 : ∀ i, 0 ≤ vs i) (hv1 : ∀ i, vs i < ⊤) (hs : (sl (ix1 0)).toInt ≤ 2147481600) (d : Fin 128) :
    (yRes q kn vn ks vs pt sl kpool vpool : S16x128.Idx → EReal) (ix2 r d)
      = att (sl (ix1 0)).toInt (fun d => q (ix2 r d)) (fun d => code (kn (ix2 (hd r) d)) (ks (ix1 (hd r)))) (fun d => code (vn (ix2 (hd r) d)) (vs (ix1 (hd r))))
          (ks (ix1 (hd r))) (vs (ix1 (hd r))) (tok (tabOf pt) kpool (hd r)) (tok (tabOf pt) vpool (hd r)) d := by
  have hcov : ∀ t : ℕ, t < 131072 → (t : ℤ) < (sl (ix1 0)).toInt → t < 2048 * nb (sl (ix1 0)) := fun t ht hv => nb_covers hs ht hv
  have hnew := snew_at q (kRes kn ks) (fun h => ks (ix1 h)) r
  have hkc : (fun d => (kRes kn ks : S2x128.Idx → EReal) (ix2 (hd r) d)) = fun d => code (kn (ix2 (hd r) d)) (ks (ix1 (hd r))) := funext fun d => kRes_at kn ks _ d
  rw [hkc] at hnew
  have hmax : (mAll q kn ks pt sl kpool : S16x1.Idx → EReal) (ix2 r 0)
      = top (sl (ix1 0)).toInt (fun d => q (ix2 r d)) (fun d => code (kn (ix2 (hd r) d)) (ks (ix1 (hd r)))) (ks (ix1 (hd r))) (tok (tabOf pt) kpool (hd r)) := by
    refine Eq.trans ?_ (top_eq _ _ _ _ _ (nb_le (sl (ix1 0))) hcov (fun l => (mRes q ks pt sl kpool : S16x128.Idx → EReal) (ix2 r l)) fun l c =>
      mCarry_at q (fun h => ks (ix1 h)) (tabOf pt) kpool (sl (ix1 0)) r (fun h => hk0 _) (fun h => hk1 _) l c _ le_rfl)
    exact congrArg₂ max (max_row _ _ _ _ _ r) hnew
  have hw : ∀ k < nb (sl (ix1 0)), ∀ j : Fin 2048, Ideal.exp ((sRes q ks pt sl kpool k : S16x2048.Idx → EReal) (ix2 r j) - (mAll q kn ks pt sl kpool : S16x1.Idx → EReal) (ix2 r 0))
      = weight (sl (ix1 0)).toInt (fun d => q (ix2 r d)) (fun d => code (kn (ix2 (hd r) d)) (ks (ix1 (hd r)))) (ks (ix1 (hd r))) (tok (tabOf pt) kpool (hd r)) (2048 * k + j.val) := fun k hk j => by
    have hsc : (sRes q ks pt sl kpool k : S16x2048.Idx → EReal) (ix2 r j) = score (sl (ix1 0)).toInt (fun d => q (ix2 r d)) (ks (ix1 (hd r))) (tok (tabOf pt) kpool (hd r)) (2048 * k + j.val) :=
      score_at q (fun h => ks (ix1 h)) (tabOf pt) kpool (sl (ix1 0)) r (fun h => hk0 _) (fun h => hk1 _) k hk j
    rw [hmax, hsc]
    exact weight_eq _ _ _ _ _ _
  have hp : Ideal.exp ((k0_pay22 (k0_pay14 (F := Ideal) (ks (ix1 0)) (ks (ix1 1))) (kRes kn ks) (k0_pay19 q) : S16x1.Idx → EReal) (ix2 r 0) - (mAll q kn ks pt sl kpool : S16x1.Idx → EReal) (ix2 r 0))
      = weightNew (sl (ix1 0)).toInt (fun d => q (ix2 r d)) (fun d => code (kn (ix2 (hd r) d)) (ks (ix1 (hd r)))) (ks (ix1 (hd r))) (tok (tabOf pt) kpool (hd r)) := by
    rw [hmax, hnew]; rfl
  rw [← att_eq _ _ _ _ _ _ _ _ (hv0 _) (hv1 _) (nb_le (sl (ix1 0))) hcov d]
  unfold yRes k0_pay3
  refine congrArg₂ Ideal.div (congrArg₂ (· + ·) (congrArg₂ (· * ·) ?_ ?_) (congrArg₂ (· * ·) ?_ ?_)) ?_
  · exact (own_at r _ _ _ _ d).trans (lCarry_dot (tabOf pt) vpool r _ _ _ _ hw (hd r) d)
  · refine (bcast_col _ _ _ _).trans ?_
    show Scalar.select (IntOp.cmpi .slt (BitVec.ofNat 32 (0 * 16 + r.val)) 8#32) (vs (ix1 0)) (vs (ix1 1)) = _
    rw [lt8]; exact sel_two (hd r) fun h => vs (ix1 h)
  · exact (bcast_col _ _ _ _).trans hp
  · refine (heads_at _ _ _ _ _ _ r d).trans (congrArg₂ (· * ·) (vRes_at vn vs _ d) ?_)
    exact (bcast_col _ _ _ _).trans (scaleV (fun h => vs (ix1 h)) _)
  · refine (bcast_col _ _ _ _).trans (congrArg₂ (· + ·) ((sum_row _ _ _ _ _ r).trans ?_) hp)
    exact Finset.sum_congr rfl fun l _ => lCarry_sum (tabOf pt) vpool r _ _ _ _ hw l

end Cert.KernelIdeal.Alg

end
-- ==== Proof.Alg.RefOut.lean ====
/-
  The reference's region: the three arrays it leaves are its body's terms of the arrays it is given.
-/
module

public import proofs.«01_k».proof.Proof.Gen.ReferenceIdeal.Value

@[expose] public section

noncomputable section

namespace Cert.ReferenceIdeal.Alg

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.Pipeline (Dat)

variable {F : FTy → Type} [FloatOps F] [Named F]
variable (m : (ℓ : Loc nD τ sig) → Buf (Elt F) ℓ)

theorem zero1 : (![0] : Fin 1 → ℕ) = fun _ => 0 := by funext x; match x with | ⟨0, _⟩ => rfl
theorem zero2 : (![0, 0] : Fin 2 → ℕ) = fun _ => 0 := by funext x; match x with | ⟨0, _⟩ => rfl | ⟨1, _⟩ => rfl
theorem zero3 : (![0, 0, 0] : Fin 3 → ℕ) = fun _ => 0 := by funext x; match x with | ⟨0, _⟩ => rfl | ⟨1, _⟩ => rfl | ⟨2, _⟩ => rfl

/-- The key code's block. -/
theorem out9 (c : Dev nD) (t : Fin cfg0.N) : (outsAt0 m c t).2.1 = k0_pay4 (iblk m c 4 t) (iblk m c 1 t) := by
  unfold outsAt0 out0_A_9
  dsimp only
  rw [View.read_writes_eq_canon _ _ _ (cover0_A_9 c _ _ _ _ _ _ _ _ _ _ _ _ _ _ _ _ _ _ _ _ _ _ _ _ _ _ _ _ _ _)]
  unfold kernelRun0_A
  dsimp only
  sl_unfold_words
  simp only [View.readAt_eq_ld, (hs0_4 t).read_unread, (hs0_1 t).read_unread]
  refine (View.canon_unit_zero zero2 _ _).trans ?_
  exact congrArg₂ k0_pay4 (View.ld_unit_zero (S := S2x1) zero2 _ _) (View.ld_unit_zero (S := S2x128) zero2 _ _)

/-- The value code's block. -/
theorem out10 (c : Dev nD) (t : Fin cfg0.N) : (outsAt0 m c t).2.2 = k0_pay5 (iblk m c 6 t) (iblk m c 2 t) := by
  unfold outsAt0 out0_A_10
  dsimp only
  rw [View.read_writes_eq_canon _ _ _ (cover0_A_10 c _ _ _ _ _ _ _ _ _ _ _ _ _ _ _ _ _ _ _ _ _ _ _ _ _ _ _ _ _ _)]
  unfold kernelRun0_A
  dsimp only
  sl_unfold_words
  simp only [View.readAt_eq_ld, (hs0_6 t).read_unread, (hs0_2 t).read_unread]
  refine (View.canon_unit_zero zero2 _ _).trans ?_
  exact congrArg₂ k0_pay5 (View.ld_unit_zero (S := S2x1) zero2 _ _) (View.ld_unit_zero (S := S2x128) zero2 _ _)

/-- The first result as the body's term of the eight arrays. -/
def refY (q : FVec F S2x8x128 .bf16) (kn vn : FVec F S2x128 .bf16) (K : FVec F S2x131072x128 .fp8e4m3) (ks : FVec F S2x1 .f32)
    (V : FVec F S2x131072x128 .fp8e4m3) (vs : FVec F S2x1 .f32) (sl : IVec S1 32) : FVec F S16x128 .bf16 :=
  k0_pay1 (k0_pay7 (k0_pay2 ks) (k0_pay6 ks kn)) (k0_pay8 (k0_pay3 vs) vn) (k0_pay9 (k0_pay2 ks) K) (k0_pay10 (k0_pay3 vs) V) (k0_pay11 q)
    (iota Kind.tc S2x8x131072 32 [2] iota_S2x8x131072_d2_w32) (sl (Shape.Idx.first (by decide)))

theorem refY_of {q q' : FVec F S2x8x128 .bf16} {kn kn' vn vn' : FVec F S2x128 .bf16} {K K' : FVec F S2x131072x128 .fp8e4m3} {ks ks' : FVec F S2x1 .f32}
    {V V' : FVec F S2x131072x128 .fp8e4m3} {vs vs' : FVec F S2x1 .f32} {w : Elt F .i32} {sl : IVec S1 32} (h0 : q = q') (h1 : kn = kn') (h2 : vn = vn')
    (h3 : K = K') (h4 : ks = ks') (h5 : V = V') (h6 : vs = vs') (h7 : w = sl (Shape.Idx.first (by decide))) :
    k0_pay1 (k0_pay7 (k0_pay2 ks) (k0_pay6 ks kn)) (k0_pay8 (k0_pay3 vs) vn) (k0_pay9 (k0_pay2 ks) K) (k0_pay10 (k0_pay3 vs) V) (k0_pay11 q)
      (iota Kind.tc S2x8x131072 32 [2] iota_S2x8x131072_d2_w32) w = refY q' kn' vn' K' ks' V' vs' sl := by
  subst h0 h1 h2 h3 h4 h5 h6 h7; rfl

/-- The attention's block. -/
theorem out8 (c : Dev nD) (t : Fin cfg0.N) : (outsAt0 m c t).1
    = refY (iblk m c 0 t) (iblk m c 1 t) (iblk m c 2 t) (iblk m c 3 t) (iblk m c 4 t) (iblk m c 5 t) (iblk m c 6 t) (iblk m c 7 t) := by
  unfold outsAt0 out0_A_8
  dsimp only
  rw [View.read_writes_eq_canon _ _ _ (cover0_A_8 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread]
  refine (View.canon_unit_zero zero2 _ _).trans ?_
  exact refY_of (View.ld_unit_zero (S := S2x8x128) zero3 _ _) (View.ld_unit_zero (S := S2x128) zero2 _ _) (View.ld_unit_zero (S := S2x128) zero2 _ _)
    (View.ld_unit_zero (S := S2x131072x128) zero3 _ _) (View.ld_unit_zero (S := S2x1) zero2 _ _) (View.ld_unit_zero (S := S2x131072x128) zero3 _ _)
    (View.ld_unit_zero (S := S2x1) zero2 _ _) (congrFun (View.ld_unit_zero (S := S1) zero1 _ _) _)

theorem iblk0 (c : Dev nD) (t : Fin cfg0.N) : iblk m c 0 t = V m c main_v0 := by
  obtain rfl := fin_N0 t
  funext i
  show V m c main_v0 _ = V m c main_v0 i
  congr 1; funext a; apply Fin.ext
  match a with
  | ⟨0, _⟩ => show 0 * 2 + 1 * (i 0).val = (i 0).val; omega
  | ⟨1, _⟩ => show 0 * 8 + 1 * (i 1).val = (i 1).val; omega
  | ⟨2, _⟩ => show 0 * 128 + 1 * (i 2).val = (i 2).val; omega
theorem iblk1 (c : Dev nD) (t : Fin cfg0.N) : iblk m c 1 t = V m c main_v1 := by
  obtain rfl := fin_N0 t
  funext i
  show V m c main_v1 _ = V m c main_v1 i
  congr 1; funext a; apply Fin.ext
  match a with
  | ⟨0, _⟩ => show 0 * 2 + 1 * (i 0).val = (i 0).val; omega
  | ⟨1, _⟩ => show 0 * 128 + 1 * (i 1).val = (i 1).val; omega
theorem iblk2 (c : Dev nD) (t : Fin cfg0.N) : iblk m c 2 t = V m c main_v2 := by
  obtain rfl := fin_N0 t
  funext i
  show V m c main_v2 _ = V m c main_v2 i
  congr 1; funext a; apply Fin.ext
  match a with
  | ⟨0, _⟩ => show 0 * 2 + 1 * (i 0).val = (i 0).val; omega
  | ⟨1, _⟩ => show 0 * 128 + 1 * (i 1).val = (i 1).val; omega
theorem iblk3 (c : Dev nD) (t : Fin cfg0.N) : iblk m c 3 t = V m c main_v12 := by
  obtain rfl := fin_N0 t
  funext i
  show V m c main_v12 _ = V m c main_v12 i
  congr 1; funext a; apply Fin.ext
  match a with
  | ⟨0, _⟩ => show 0 * 2 + 1 * (i 0).val = (i 0).val; omega
  | ⟨1, _⟩ => show 0 * 131072 + 1 * (i 1).val = (i 1).val; omega
  | ⟨2, _⟩ => show 0 * 128 + 1 * (i 2).val = (i 2).val; omega
theorem iblk4 (c : Dev nD) (t : Fin cfg0.N) : iblk m c 4 t = V m c main_v13 := by
  obtain rfl := fin_N0 t
  funext i
  show V m c main_v13 _ = V m c main_v13 i
  congr 1; funext a; apply Fin.ext
  match a with
  | ⟨0, _⟩ => show 0 * 2 + 1 * (i 0).val = (i 0).val; omega
  | ⟨1, _⟩ => show 0 * 1 + 1 * (i 1).val = (i 1).val; omega
theorem iblk5 (c : Dev nD) (t : Fin cfg0.N) : iblk m c 5 t = V m c main_v23 := by
  obtain rfl := fin_N0 t
  funext i
  show V m c main_v23 _ = V m c main_v23 i
  congr 1; funext a; apply Fin.ext
  match a with
  | ⟨0, _⟩ => show 0 * 2 + 1 * (i 0).val = (i 0).val; omega
  | ⟨1, _⟩ => show 0 * 131072 + 1 * (i 1).val = (i 1).val; omega
  | ⟨2, _⟩ => show 0 * 128 + 1 * (i 2).val = (i 2).val; omega
theorem iblk6 (c : Dev nD) (t : Fin cfg0.N) : iblk m c 6 t = V m c main_v24 := by
  obtain rfl := fin_N0 t
  funext i
  show V m c main_v24 _ = V m c main_v24 i
  congr 1; funext a; apply Fin.ext
  match a with
  | ⟨0, _⟩ => show 0 * 2 + 1 * (i 0).val = (i 0).val; omega
  | ⟨1, _⟩ => show 0 * 1 + 1 * (i 1).val = (i 1).val; omega
theorem iblk7 (c : Dev nD) (t : Fin cfg0.N) : iblk m c 7 t = V m c main_arg8 := by
  obtain rfl := fin_N0 t
  funext i
  show V m c main_arg8 _ = V m c main_arg8 i
  congr 1; funext a; apply Fin.ext
  match a with
  | ⟨0, _⟩ => show 0 * 1 + 1 * (i 0).val = (i 0).val; omega

theorem arr8 (c : Dev nD) : (dats m 0 c).arrAt 8 cfg0.N
    = refY (V m c main_v0) (V m c main_v1) (V m c main_v2) (V m c main_v12) (V m c main_v13) (V m c main_v23) (V m c main_v24) (V m c main_arg8) := by
  have h := blocks8 m c t0_0 (flush0_8 t0_0)
  have e := out8 m c t0_0
  rw [iblk0, iblk1, iblk2, iblk3, iblk4, iblk5, iblk6, iblk7] at e
  rw [flushed8, e] at h
  refine Eq.trans ?_ h
  funext i
  show _ = (dats m 0 c).arrAt 8 cfg0.N _
  congr 1; funext a; apply Fin.ext
  match a with
  | ⟨0, _⟩ => show (i 0).val = 0 * 16 + 1 * (i 0).val; omega
  | ⟨1, _⟩ => show (i 1).val = 0 * 128 + 1 * (i 1).val; omega

theorem arr9 (c : Dev nD) : (dats m 0 c).arrAt 9 cfg0.N
    = k0_pay4 (V m c main_v13) (V m c main_v1) := by
  have h := blocks9 m c t0_0 (flush0_9 t0_0)
  have e := out9 m c t0_0
  rw [iblk4, iblk1] at e
  rw [flushed9, e] at h
  refine Eq.trans ?_ h
  funext i
  show _ = (dats m 0 c).arrAt 9 cfg0.N _
  congr 1; funext a; apply Fin.ext
  match a with
  | ⟨0, _⟩ => show (i 0).val = 0 * 2 + 1 * (i 0).val; omega
  | ⟨1, _⟩ => show (i 1).val = 0 * 128 + 1 * (i 1).val; omega

theorem arr10 (c : Dev nD) : (dats m 0 c).arrAt 10 cfg0.N
    = k0_pay5 (V m c main_v24) (V m c main_v2) := by
  have h := blocks10 m c t0_0 (flush0_10 t0_0)
  have e := out10 m c t0_0
  rw [iblk6, iblk2] at e
  rw [flushed10, e] at h
  refine Eq.trans ?_ h
  funext i
  show _ = (dats m 0 c).arrAt 10 cfg0.N _
  congr 1; funext a; apply Fin.ext
  match a with
  | ⟨0, _⟩ => show (i 0).val = 0 * 2 + 1 * (i 0).val; omega
  | ⟨1, _⟩ => show (i 1).val = 0 * 128 + 1 * (i 1).val; omega

end Cert.ReferenceIdeal.Alg

end
-- ==== Proof.Alg.RefRow.lean ====
/-
  The reference's body, row by row: the scores, the weights, and the two codes, which are the code of `Spec`.
-/
module

public import proofs.«01_k».proof.Proof.Gen.ReferenceIdeal.Value
public import proofs.«01_k».proof.Proof.Spec
public import proofs.«01_k».proof.Proof.Alg.RefOut
public import proofs.«01_k».proof.Proof.Alg.Row

@[expose] public section

noncomputable section

namespace Cert.ReferenceIdeal.Alg

open Cert.ReferenceIdeal Cert.ReferenceIdeal.Gen Cert.Hand
open Idealize.ShloMosaic hiding ix1 ix2 ix3 ix4 ix5
open Idealize.ShloMosaic.ValueIdx
open scoped BigOperators

/-- The head of row `r`, and its place among the head's eight rows. -/
def hd (r : Fin 16) : Fin 2 := ⟨r.val / 8, by have := r.isLt; omega⟩
def gp (r : Fin 16) : Fin 8 := ⟨r.val % 8, Nat.mod_lt _ (by norm_num)⟩

/-! ## Layout -/

theorem cast16 (v : S2x8x128.Idx → EReal) (h : S2x8x128.ShapeCasts S16x128) (r : Fin 16) (d : Fin 128) :
    shapeCast S16x128 v h (ix2 r d) = v (ix3 (hd r) (gp r) d) := by
  refine shapeCast_apply _ _ _ _ ?_
  rw [Shape.rowMajor_val_three, Shape.rowMajor_val_two]
  show (r.val / 8 * 8 + r.val % 8) * 128 + d.val = r.val * 128 + d.val
  omega

theorem cast1 (v : S2x8.Idx → EReal) (h : S2x8.ShapeCasts S2x8x1) (p : Fin 2) (g : Fin 8) : shapeCast S2x8x1 v h (ix3 p g 0) = v (ix2 p g) := by
  refine shapeCast_apply _ _ _ _ ?_
  rw [Shape.rowMajor_val_three, Shape.rowMajor_val_two]
  show p.val * 8 + g.val = (p.val * 8 + g.val) * 1 + 0
  omega

theorem row_spread (x : S2x128.Idx → EReal) (hc : S2x128.ShapeCasts S2x1x128) (hb : S2x1x128.Broadcasts S2x8x128) (p : Fin 2) (g : Fin 8) (d : Fin 128) :
    broadcastTo S2x8x128 (shapeCast S2x1x128 x hc) hb (ix3 p g d) = x (ix2 p d) := by
  refine (broadcastTo_apply _ _ (ix3 p g d) (ix3 p 0 d) fun ax => ?_).trans ?_
  · match ax with
    | ⟨0, _⟩ => rfl
    | ⟨1, _⟩ => rfl
    | ⟨2, _⟩ => rfl
  · refine shapeCast_apply _ _ _ _ ?_
    rw [Shape.rowMajor_val_three, Shape.rowMajor_val_two]
    show p.val * 128 + d.val = (p.val * 1 + 0) * 128 + d.val
    omega

theorem col_spread {n : ℕ} (v : S2x8x1.Idx → EReal) (hb : S2x8x1.Broadcasts ⟨3, ![2, 8, n]⟩) (p : Fin 2) (g : Fin 8) (t : Fin n) :
    broadcastTo ⟨3, ![2, 8, n]⟩ v hb (ix3 p g t) = v (ix3 p g 0) := by
  refine broadcastTo_apply _ _ (ix3 p g t) (ix3 p g 0) fun ax => ?_
  match ax with
  | ⟨0, _⟩ => rfl
  | ⟨1, _⟩ => rfl
  | ⟨2, _⟩ => rfl

theorem scale_spread (x : S2x1.Idx → EReal) (hc : S2x1.ShapeCasts S2x1x1) (hb : S2x1x1.Broadcasts S2x131072x128) (p : Fin 2) (t : Fin 131072) (d : Fin 128) :
    broadcastTo S2x131072x128 (shapeCast S2x1x1 x hc) hb (ix3 p t d) = x (ix2 p 0) := by
  refine (broadcastTo_apply _ _ (ix3 p t d) (ix3 p 0 0) fun ax => ?_).trans ?_
  · match ax with
    | ⟨0, _⟩ => rfl
    | ⟨1, _⟩ => rfl
    | ⟨2, _⟩ => rfl
  · refine shapeCast_apply _ _ _ _ ?_
    rw [Shape.rowMajor_val_three, Shape.rowMajor_val_two]
    show p.val * 1 + 0 = (p.val * 1 + 0) * 1 + 0
    omega

/-! ## Sums and maxima along the last axis -/

theorem lift_last {n : ℕ} (h : (⟨3, ![2, 8, n]⟩ : Shape).Reduces [2] S2x8) (p : Fin 2) (g : Fin 8) (l : Fin n) : h.lift (ix2 p g) l = ix3 p g l := by
  funext a
  match a with
  | ⟨0, _⟩ => rfl
  | ⟨1, _⟩ => rfl
  | ⟨2, _⟩ => rfl

theorem sum_last {n : ℕ} (x : (⟨3, ![2, 8, n]⟩ : Shape).Idx → EReal) (hr hφ ha) (p : Fin 2) (g : Fin 8) :
    multiReduction (F := Ideal) (φ := .f32) .add [2] S2x8 x 0x00000000#32 hr hφ ha (ix2 p g) = ∑ l : Fin n, x (ix3 p g l) := by
  refine (Ideal.multiReduction_add_single _ _ _ _ _ _).trans ?_
  exact Finset.sum_congr rfl fun l _ => congrArg x (lift_last _ p g l)

theorem max_last {n : ℕ} (x : (⟨3, ![2, 8, n]⟩ : Shape).Idx → EReal) (hr hφ ha) (p : Fin 2) (g : Fin 8) :
    multiReduction (F := Ideal) (φ := .f32) .maximumf [2] S2x8 x 0xFF800000#32 hr hφ ha (ix2 p g)
      = (Finset.univ : Finset (Fin n)).fold max ⊥ (fun l => x (ix3 p g l)) := by
  refine (Ideal.multiReduction_maximumf_single _ _ _ _ _ _).trans ?_
  show Finset.fold max (Ideal.ofBits .f32 0xFF800000#32) _ _ = _
  rw [Cert.KernelIdeal.Alg.neg_inf]
  exact congrArg (fun f => Finset.fold max ⊥ f Finset.univ) (funext fun l => congrArg x (lift_last _ p g l))

/-! ## The two products -/

/-- The queries against the tokens. -/
theorem dotQK (q : FVec Ideal S2x8x128 .bf16) (K : FVec Ideal S2x131072x128 .bf16) (p : Fin 2) (g : Fin 8) (t : Fin 131072) :
    matmul (φ₁ := .bf16) (φ₂ := .bf16) dot_S2x8x128_S2x131072x128_S2x8x131072_2_2_1_1_0_0 none q K (constant S2x8x131072 .f32 0x00000000#32) (ix3 p g t)
      = ∑ d : Fin 128, q (ix3 p g d) * K (ix3 p t d) := by
  refine (Ideal.matmul_constant_zero_apply _ none _ _ _).trans ?_
  let D := dot_S2x8x128_S2x131072x128_S2x8x131072_2_2_1_1_0_0
  have hr : D.contr.rank = 1 := rfl
  have hs : D.contr.size ⟨0, by rw [hr]; exact Nat.one_pos⟩ = 128 := rfl
  rw [← Equiv.sum_comp (contrEquiv1 D 128 hr hs).symm]
  refine Finset.sum_congr rfl fun k _ => ?_
  have hk := contrEquiv1_symm_val _ 128 hr hs k
  have el : D.lhsIdx (ix3 p g t) ((contrEquiv1 D 128 hr hs).symm k) = ix3 p g k := by
    funext a; apply Fin.ext
    match a with
    | ⟨0, _⟩ => rfl
    | ⟨1, _⟩ => rfl
    | ⟨2, _⟩ => exact hk
  have er : D.rhsIdx (ix3 p g t) ((contrEquiv1 D 128 hr hs).symm k) = ix3 p t k := by
    funext a; apply Fin.ext
    match a with
    | ⟨0, _⟩ => rfl
    | ⟨1, _⟩ => rfl
    | ⟨2, _⟩ => exact hk
  exact congrArg₂ (· * ·) (congrArg q el) (congrArg K er)

/-- The weights against the tokens. -/
theorem dotPV (w : FVec Ideal S2x8x131072 .bf16) (V : FVec Ideal S2x131072x128 .bf16) (p : Fin 2) (g : Fin 8) (d : Fin 128) :
    matmul (φ₁ := .bf16) (φ₂ := .bf16) dot_S2x8x131072_S2x131072x128_S2x8x128_2_1_1_2_0_0 none w V (constant S2x8x128 .f32 0x00000000#32) (ix3 p g d)
      = ∑ t : Fin 131072, w (ix3 p g t) * V (ix3 p t d) := by
  refine (Ideal.matmul_constant_zero_apply _ none _ _ _).trans ?_
  let D := dot_S2x8x131072_S2x131072x128_S2x8x128_2_1_1_2_0_0
  have hr : D.contr.rank = 1 := rfl
  have hs : D.contr.size ⟨0, by rw [hr]; exact Nat.one_pos⟩ = 131072 := rfl
  rw [← Equiv.sum_comp (contrEquiv1 D 131072 hr hs).symm]
  refine Finset.sum_congr rfl fun k _ => ?_
  have hk := contrEquiv1_symm_val _ 131072 hr hs k
  have el : D.lhsIdx (ix3 p g d) ((contrEquiv1 D 131072 hr hs).symm k) = ix3 p g k := by
    funext a; apply Fin.ext
    match a with
    | ⟨0, _⟩ => rfl
    | ⟨1, _⟩ => rfl
    | ⟨2, _⟩ => exact hk
  have er : D.rhsIdx (ix3 p g d) ((contrEquiv1 D 131072 hr hs).symm k) = ix3 p k d := by
    funext a; apply Fin.ext
    match a with
    | ⟨0, _⟩ => rfl
    | ⟨1, _⟩ => exact hk
    | ⟨2, _⟩ => rfl
  exact congrArg₂ (· * ·) (congrArg w el) (congrArg V er)

/-! ## The stages -/

/-- Which tokens are cached. -/
theorem live_at (w : BitVec 32) (h : S2x8x131072.Iotas .tc 32 [2]) (p : Fin 2) (g : Fin 8) (t : Fin 131072) :
    cmpi .slt (iota Kind.tc S2x8x131072 32 [2] h) (broadcast S2x8x131072 w) (ix3 p g t) = if (t.val : ℤ) < w.toInt then 1#1 else 0#1 := by
  have e : (BitVec.ofNat 32 (0 * 131072 + t.val)).toInt = (t.val : ℤ) := by
    have := t.isLt
    rw [BitVec.toInt_eq_toNat_cond, BitVec.toNat_ofNat]
    split <;> omega
  show BitVec.ofBool (BitVec.slt (BitVec.ofNat 32 (0 * 131072 + t.val)) w) = _
  rw [BitVec.slt, e]
  split
  · rename_i h; rw [decide_eq_true h]; rfl
  · rename_i h; rw [decide_eq_false h]; rfl

/-- The scores, the new token's score, the largest score, the weights and the new token's weight, as the body's vectors. -/
def scoresV (q : FVec Ideal S2x8x128 .bf16) (K : FVec Ideal S2x131072x128 .bf16) (w : BitVec 32) : FVec Ideal S2x8x131072 .f32 :=
  select (cmpi .slt (iota Kind.tc S2x8x131072 32 [2] iota_S2x8x131072_d2_w32) (broadcast S2x8x131072 w))
    (mulf (matmul (φ₁ := .bf16) (φ₂ := .bf16) dot_S2x8x128_S2x131072x128_S2x8x131072_2_2_1_1_0_0 none q K (constant S2x8x131072 .f32 0x00000000#32))
      (broadcast S2x8x131072 (Scalar.ofBits .f32 0x3DB504F3#32)))
    (broadcast S2x8x131072 (Named.named κ "mask" 0xF149F2CA#32))
def newV (q : FVec Ideal S2x8x128 .bf16) (kc : FVec Ideal S2x128 .bf16) : FVec Ideal S2x8x1 .f32 :=
  mulf (shapeCast S2x8x1 (multiReduction .add [2] S2x8 (mulf (extf .f32 q bitsLt_bf16_f32)
      (broadcastTo S2x8x128 (shapeCast S2x1x128 (extf .f32 kc bitsLt_bf16_f32) shapeCasts_S2x128_S2x1x128) broadcasts_S2x1x128_S2x8x128))
      0x00000000#32 reduces_S2x8x128_S2x8 (.inl rfl) rfl) shapeCasts_S2x8_S2x8x1) (broadcast S2x8x1 (Scalar.ofBits .f32 0x3DB504F3#32))
def topV (q : FVec Ideal S2x8x128 .bf16) (kc : FVec Ideal S2x128 .bf16) (K : FVec Ideal S2x131072x128 .bf16) (w : BitVec 32) : FVec Ideal S2x8x1 .f32 :=
  maximumf (shapeCast S2x8x1 (multiReduction .maximumf [2] S2x8 (scoresV q K w) 0xFF800000#32 reduces_S2x8x131072_S2x8 (.inl rfl) rfl) shapeCasts_S2x8_S2x8x1)
    (newV q kc)
def weightsV (q : FVec Ideal S2x8x128 .bf16) (kc : FVec Ideal S2x128 .bf16) (K : FVec Ideal S2x131072x128 .bf16) (w : BitVec 32) : FVec Ideal S2x8x131072 .f32 :=
  select (cmpi .slt (iota Kind.tc S2x8x131072 32 [2] iota_S2x8x131072_d2_w32) (broadcast S2x8x131072 w))
    (exp (subf (scoresV q K w) (broadcastTo S2x8x131072 (topV q kc K w) broadcasts_S2x8x1_S2x8x131072)))
    (broadcast S2x8x131072 (Scalar.ofBits .f32 0x00000000#32))
def newWeightV (q : FVec Ideal S2x8x128 .bf16) (kc : FVec Ideal S2x128 .bf16) (K : FVec Ideal S2x131072x128 .bf16) (w : BitVec 32) : FVec Ideal S2x8x1 .f32 :=
  exp (subf (newV q kc) (topV q kc K w))

theorem maxf_at {s : Shape} (x y : FVec Ideal s .f32) (i : s.Idx) : (maximumf x y i : EReal) = max (x i : EReal) (y i : EReal) := rfl

/-- The largest of a row and of one number more. -/
theorem top_of (x : S2x8x131072.Idx → EReal) (y : S2x8x1.Idx → EReal) (p : Fin 2) (g : Fin 8) :
    maximumf (F := Ideal) (φ := .f32) (shapeCast S2x8x1 (multiReduction (F := Ideal) (φ := .f32) .maximumf [2] S2x8 x 0xFF800000#32 reduces_S2x8x131072_S2x8 (.inl rfl) rfl)
        shapeCasts_S2x8_S2x8x1) y (ix3 p g 0)
      = max ((Finset.univ : Finset (Fin 131072)).fold max ⊥ (fun t => x (ix3 p g t))) (y (ix3 p g 0)) := by
  have e := (cast1 (multiReduction (F := Ideal) (φ := .f32) .maximumf [2] S2x8 x 0xFF800000#32 reduces_S2x8x131072_S2x8 (.inl rfl) rfl)
    shapeCasts_S2x8_S2x8x1 p g).trans (max_last x _ _ _ p g)
  rw [maxf_at, e]

section Row

variable (q : FVec Ideal S2x8x128 .bf16) (kc vc : FVec Ideal S2x128 .bf16) (K V : FVec Ideal S2x131072x128 .bf16) (w : BitVec 32)
variable (p : Fin 2) (g : Fin 8) (kf vf : Fin 128 → EReal) (ks vs : EReal) (Kf Vf : ℕ → Fin 128 → EReal)

theorem scoresV_at (hK : ∀ (t : Fin 131072) d, K (ix3 p t d) = Kf t.val d * ks) (t : Fin 131072) :
    scoresV q K w (ix3 p g t) = score w.toInt (fun d => q (ix3 p g d)) ks Kf t.val := by
  have e : (matmul (φ₁ := .bf16) (φ₂ := .bf16) dot_S2x8x128_S2x131072x128_S2x8x131072_2_2_1_1_0_0 none q K (constant S2x8x131072 .f32 0x00000000#32) (ix3 p g t) : EReal)
      = ∑ d, q (ix3 p g d) * (Kf t.val d * ks) := by
    rw [dotQK]
    exact Finset.sum_congr rfl fun d _ => congrArg (q (ix3 p g d) * ·) (hK t d)
  unfold scoresV score
  show Scalar.select (cmpi .slt (iota Kind.tc S2x8x131072 32 [2] iota_S2x8x131072_d2_w32) (broadcast S2x8x131072 w) (ix3 p g t)) (_ * sm) _ = _
  rw [live_at, e]
  split
  · exact select_one _ _
  · exact (select_zero _ _).trans Cert.KernelIdeal.Alg.mask_at

theorem newV_at (hk : ∀ d, kc (ix2 p d) = kf d * ks) : newV q kc (ix3 p g 0) = scoreNew (fun d => q (ix3 p g d)) kf ks := by
  unfold newV scoreNew
  refine congrArg₂ (· * ·) ((cast1 _ _ p g).trans ((sum_last _ _ _ _ p g).trans (Finset.sum_congr rfl fun d _ => ?_))) rfl
  exact congrArg₂ (· * ·) rfl ((row_spread _ _ _ p g d).trans (hk d))

theorem topV_at (hk : ∀ d, kc (ix2 p d) = kf d * ks) (hK : ∀ (t : Fin 131072) d, K (ix3 p t d) = Kf t.val d * ks) :
    topV q kc K w (ix3 p g 0) = top w.toInt (fun d => q (ix3 p g d)) kf ks Kf := by
  have e : (fun t : Fin 131072 => scoresV q K w (ix3 p g t)) = fun t => score w.toInt (fun d => q (ix3 p g d)) ks Kf t.val :=
    funext fun t => scoresV_at q K w p g ks Kf hK t
  unfold topV top
  rw [top_of, newV_at q kc p g kf ks hk, e]

theorem weightsV_at (hk : ∀ d, kc (ix2 p d) = kf d * ks) (hK : ∀ (t : Fin 131072) d, K (ix3 p t d) = Kf t.val d * ks) (t : Fin 131072) :
    weightsV q kc K w (ix3 p g t) = weight w.toInt (fun d => q (ix3 p g d)) kf ks Kf t.val := by
  have e : (broadcastTo S2x8x131072 (topV q kc K w) broadcasts_S2x8x1_S2x8x131072 (ix3 p g t) : EReal) = top w.toInt (fun d => q (ix3 p g d)) kf ks Kf :=
    (col_spread _ _ p g t).trans (topV_at q kc K w p g kf ks Kf hk hK)
  unfold weightsV weight
  show Scalar.select (cmpi .slt (iota Kind.tc S2x8x131072 32 [2] iota_S2x8x131072_d2_w32) (broadcast S2x8x131072 w) (ix3 p g t))
    (Ideal.exp (scoresV q K w (ix3 p g t) - broadcastTo S2x8x131072 (topV q kc K w) broadcasts_S2x8x1_S2x8x131072 (ix3 p g t))) (Ideal.ofBits .f32 0x00000000#32) = _
  rw [live_at, e, scoresV_at q K w p g ks Kf hK t, Ideal.ofBits_zero_f32]
  split
  · exact select_one _ _
  · exact select_zero _ _

theorem newWeightV_at (hk : ∀ d, kc (ix2 p d) = kf d * ks) (hK : ∀ (t : Fin 131072) d, K (ix3 p t d) = Kf t.val d * ks) :
    newWeightV q kc K w (ix3 p g 0) = weightNew w.toInt (fun d => q (ix3 p g d)) kf ks Kf := by
  unfold newWeightV weightNew
  show Ideal.exp (newV q kc (ix3 p g 0) - topV q kc K w (ix3 p g 0)) = _
  rw [newV_at q kc p g kf ks hk, topV_at q kc K w p g kf ks Kf hk hK]

end Row

/-! ## The codes -/

theorem pay4_at (ks : FVec Ideal S2x1 .f32) (kn : FVec Ideal S2x128 .bf16) (p : Fin 2) (d : Fin 128) :
    (k0_pay4 (F := Ideal) ks kn : S2x128.Idx → EReal) (ix2 p d) = code (kn (ix2 p d)) (ks (ix2 p 0)) := by
  unfold k0_pay4 k0_pay2
  simp only [shapeCast_self]
  show min _ (max _ (kn (ix2 p d) * broadcastTo S2x128 _ _ (ix2 p d))) = _
  rw [Cert.KernelIdeal.Alg.bcast_col]
  rfl

theorem pay5_at (vs : FVec Ideal S2x1 .f32) (vn : FVec Ideal S2x128 .bf16) (p : Fin 2) (d : Fin 128) :
    (k0_pay5 (F := Ideal) vs vn : S2x128.Idx → EReal) (ix2 p d) = code (vn (ix2 p d)) (vs (ix2 p 0)) := by
  unfold k0_pay5 k0_pay3
  simp only [shapeCast_self]
  show min _ (max _ (vn (ix2 p d) * broadcastTo S2x128 _ _ (ix2 p d))) = _
  rw [Cert.KernelIdeal.Alg.bcast_col]
  rfl

theorem pay7_at (ks : FVec Ideal S2x1 .f32) (kn : FVec Ideal S2x128 .bf16) (p : Fin 2) (d : Fin 128) :
    (k0_pay7 (F := Ideal) (k0_pay2 ks) (k0_pay6 ks kn) : S2x128.Idx → EReal) (ix2 p d) = code (kn (ix2 p d)) (ks (ix2 p 0)) * ks (ix2 p 0) := by
  refine congrArg₂ (· * ·) (pay4_at ks kn p d) ?_
  unfold k0_pay2
  simp only [shapeCast_self]
  exact Cert.KernelIdeal.Alg.bcast_col _ _ _ _

theorem pay8_at (vs : FVec Ideal S2x1 .f32) (vn : FVec Ideal S2x128 .bf16) (p : Fin 2) (d : Fin 128) :
    (k0_pay8 (F := Ideal) (k0_pay3 vs) vn : S2x128.Idx → EReal) (ix2 p d) = code (vn (ix2 p d)) (vs (ix2 p 0)) * vs (ix2 p 0) := by
  refine congrArg₂ (· * ·) (pay5_at vs vn p d) ?_
  unfold k0_pay3
  simp only [shapeCast_self]
  exact Cert.KernelIdeal.Alg.bcast_col _ _ _ _

theorem pay9_at (ks : FVec Ideal S2x1 .f32) (K : FVec Ideal S2x131072x128 .fp8e4m3) (p : Fin 2) (t : Fin 131072) (d : Fin 128) :
    (k0_pay9 (F := Ideal) (k0_pay2 ks) K : S2x131072x128.Idx → EReal) (ix3 p t d) = K (ix3 p t d) * ks (ix2 p 0) := by
  unfold k0_pay9 k0_pay2
  rw [shapeCast_self, shapeCast_self]
  exact congrArg₂ (· * ·) rfl (scale_spread _ _ _ p t d)

theorem pay10_at (vs : FVec Ideal S2x1 .f32) (V : FVec Ideal S2x131072x128 .fp8e4m3) (p : Fin 2) (t : Fin 131072) (d : Fin 128) :
    (k0_pay10 (F := Ideal) (k0_pay3 vs) V : S2x131072x128.Idx → EReal) (ix3 p t d) = V (ix3 p t d) * vs (ix2 p 0) := by
  unfold k0_pay10 k0_pay3
  rw [shapeCast_self, shapeCast_self]
  exact congrArg₂ (· * ·) rfl (scale_spread _ _ _ p t d)

end Cert.ReferenceIdeal.Alg

end
-- ==== Proof.Alg.RefAtt.lean ====
/-
  The reference's attention is the row of `Spec`.
-/
module

public import proofs.«01_k».proof.Proof.Gen.ReferenceIdeal.Value
public import proofs.«01_k».proof.Proof.Spec
public import proofs.«01_k».proof.Proof.Alg.RefOut
public import proofs.«01_k».proof.Proof.Alg.RefRow

@[expose] public section

noncomputable section

namespace Cert.ReferenceIdeal.Alg

open Cert.ReferenceIdeal Cert.ReferenceIdeal.Gen Cert.Hand
open Idealize.ShloMosaic hiding ix1 ix2 ix3 ix4 ix5
open Idealize.ShloMosaic.ValueIdx
open scoped BigOperators

/-- The body's attention in the stages. -/
theorem pay1_eq (q : FVec Ideal S2x8x128 .bf16) (kc vc : FVec Ideal S2x128 .bf16) (K V : FVec Ideal S2x131072x128 .bf16) (w : BitVec 32) :
    k0_pay1 (F := Ideal) kc vc K V q (iota Kind.tc S2x8x131072 32 [2] iota_S2x8x131072_d2_w32) w
      = shapeCast S16x128 (truncf .bf16 (divf
          (addf (matmul (φ₁ := .bf16) (φ₂ := .bf16) dot_S2x8x131072_S2x131072x128_S2x8x128_2_1_1_2_0_0 none (truncf .bf16 (weightsV q kc K w) bitsLt_bf16_f32) V
              (constant S2x8x128 .f32 0x00000000#32))
            (mulf (broadcastTo S2x8x128 (extf .f32 (truncf .bf16 (newWeightV q kc K w) bitsLt_bf16_f32) bitsLt_bf16_f32) broadcasts_S2x8x1_S2x8x128)
              (broadcastTo S2x8x128 (shapeCast S2x1x128 (extf .f32 vc bitsLt_bf16_f32) shapeCasts_S2x128_S2x1x128) broadcasts_S2x1x128_S2x8x128)))
          (broadcastTo S2x8x128 (addf (shapeCast S2x8x1 (multiReduction .add [2] S2x8 (weightsV q kc K w) 0x00000000#32 reduces_S2x8x131072_S2x8 (.inl rfl) rfl)
            shapeCasts_S2x8_S2x8x1) (newWeightV q kc K w)) broadcasts_S2x8x1_S2x8x128)) bitsLt_bf16_f32) shapeCasts_S2x8x128_S16x128 := rfl

theorem divf_at {s : Shape} (x y : FVec Ideal s .f32) (i : s.Idx) : (divf x y i : EReal) = Ideal.div (x i) (y i) := rfl
theorem addf_at {s : Shape} (x y : FVec Ideal s .f32) (i : s.Idx) : (addf x y i : EReal) = (x i : EReal) + (y i : EReal) := rfl
theorem mulf_at {s : Shape} (x y : FVec Ideal s .f32) (i : s.Idx) : (mulf x y i : EReal) = (x i : EReal) * (y i : EReal) := rfl

/-- The weighted sum over the weights' sum, of any weights. -/
theorem row_of (x : FVec Ideal S2x8x131072 .f32) (y : FVec Ideal S2x8x1 .f32) (vc : FVec Ideal S2x128 .bf16) (V : FVec Ideal S2x131072x128 .bf16)
    (r : Fin 16) (d : Fin 128) :
    (shapeCast S16x128 (truncf .bf16 (divf
          (addf (matmul (φ₁ := .bf16) (φ₂ := .bf16) dot_S2x8x131072_S2x131072x128_S2x8x128_2_1_1_2_0_0 none (truncf .bf16 x bitsLt_bf16_f32) V
              (constant S2x8x128 .f32 0x00000000#32))
            (mulf (broadcastTo S2x8x128 (extf .f32 (truncf .bf16 y bitsLt_bf16_f32) bitsLt_bf16_f32) broadcasts_S2x8x1_S2x8x128)
              (broadcastTo S2x8x128 (shapeCast S2x1x128 (extf .f32 vc bitsLt_bf16_f32) shapeCasts_S2x128_S2x1x128) broadcasts_S2x1x128_S2x8x128)))
          (broadcastTo S2x8x128 (addf (shapeCast S2x8x1 (multiReduction .add [2] S2x8 x 0x00000000#32 reduces_S2x8x131072_S2x8 (.inl rfl) rfl)
            shapeCasts_S2x8_S2x8x1) y) broadcasts_S2x8x1_S2x8x128)) bitsLt_bf16_f32) shapeCasts_S2x8x128_S16x128 : S16x128.Idx → EReal) (ix2 r d)
      = Ideal.div ((∑ t : Fin 131072, x (ix3 (hd r) (gp r) t) * V (ix3 (hd r) t d)) + y (ix3 (hd r) (gp r) 0) * vc (ix2 (hd r) d))
          ((∑ t : Fin 131072, x (ix3 (hd r) (gp r) t)) + y (ix3 (hd r) (gp r) 0)) := by
  have strip : @Eq (S16x128.Idx → EReal) (shapeCast S16x128 (truncf .bf16 (divf
          (addf (matmul (φ₁ := .bf16) (φ₂ := .bf16) dot_S2x8x131072_S2x131072x128_S2x8x128_2_1_1_2_0_0 none (truncf .bf16 x bitsLt_bf16_f32) V
              (constant S2x8x128 .f32 0x00000000#32))
            (mulf (broadcastTo S2x8x128 (extf .f32 (truncf .bf16 y bitsLt_bf16_f32) bitsLt_bf16_f32) broadcasts_S2x8x1_S2x8x128)
              (broadcastTo S2x8x128 (shapeCast S2x1x128 (extf .f32 vc bitsLt_bf16_f32) shapeCasts_S2x128_S2x1x128) broadcasts_S2x1x128_S2x8x128)))
          (broadcastTo S2x8x128 (addf (shapeCast S2x8x1 (multiReduction .add [2] S2x8 x 0x00000000#32 reduces_S2x8x131072_S2x8 (.inl rfl) rfl)
            shapeCasts_S2x8_S2x8x1) y) broadcasts_S2x8x1_S2x8x128)) bitsLt_bf16_f32) shapeCasts_S2x8x128_S16x128 : S16x128.Idx → EReal) (shapeCast S16x128 (divf (F := Ideal) (φ := .f32)
          (addf (F := Ideal) (φ := .f32) (matmul (φ₁ := .bf16) (φ₂ := .bf16) dot_S2x8x131072_S2x131072x128_S2x8x128_2_1_1_2_0_0 none x V
              (constant S2x8x128 .f32 0x00000000#32))
            (mulf (F := Ideal) (φ := .f32) (broadcastTo S2x8x128 y broadcasts_S2x8x1_S2x8x128)
              (broadcastTo S2x8x128 (shapeCast S2x1x128 vc shapeCasts_S2x128_S2x1x128) broadcasts_S2x1x128_S2x8x128)))
          (broadcastTo S2x8x128 (addf (F := Ideal) (φ := .f32) (shapeCast S2x8x1 (multiReduction .add [2] S2x8 x 0x00000000#32 reduces_S2x8x131072_S2x8 (.inl rfl) rfl)
            shapeCasts_S2x8_S2x8x1) y) broadcasts_S2x8x1_S2x8x128)) shapeCasts_S2x8x128_S16x128) := rfl
  rw [strip, cast16, divf_at, addf_at, mulf_at, dotPV, col_spread, row_spread, col_spread, addf_at, cast1]
  exact congrArg₂ Ideal.div rfl (congrArg₂ (· + ·) (sum_last x _ _ _ _ _) rfl)

/-- The body's attention, once its four operands are the codes and the tokens times their scales, is the row of `Spec`. -/
theorem pay1_at (q : FVec Ideal S2x8x128 .bf16) (kc vc : FVec Ideal S2x128 .bf16) (K V : FVec Ideal S2x131072x128 .bf16) (w : BitVec 32)
    (r : Fin 16) (kf vf : Fin 128 → EReal) (ks vs : EReal) (Kf Vf : ℕ → Fin 128 → EReal)
    (hk : ∀ d, kc (ix2 (hd r) d) = kf d * ks) (hv : ∀ d, vc (ix2 (hd r) d) = vf d * vs)
    (hK : ∀ (t : Fin 131072) d, K (ix3 (hd r) t d) = Kf t.val d * ks) (hV : ∀ (t : Fin 131072) d, V (ix3 (hd r) t d) = Vf t.val d * vs) (d : Fin 128) :
    k0_pay1 (F := Ideal) kc vc K V q (iota Kind.tc S2x8x131072 32 [2] iota_S2x8x131072_d2_w32) w (ix2 r d)
      = att w.toInt (fun d => q (ix3 (hd r) (gp r) d)) kf vf ks vs Kf Vf d := by
  have hw := weightsV_at q kc K w (hd r) (gp r) kf ks Kf hk hK
  have hn := newWeightV_at q kc K w (hd r) (gp r) kf ks Kf hk hK
  rw [pay1_eq, row_of, hn, hv d]
  unfold att
  have e1 : (fun t : Fin 131072 => (weightsV q kc K w (ix3 (hd r) (gp r) t) * V (ix3 (hd r) t d) : EReal))
      = fun t => weight w.toInt (fun d => q (ix3 (hd r) (gp r) d)) kf ks Kf t.val * (Vf t.val d * vs) := funext fun t => by rw [hw t, hV t d]
  have e2 : (fun t : Fin 131072 => (weightsV q kc K w (ix3 (hd r) (gp r) t) : EReal))
      = fun t => weight w.toInt (fun d => q (ix3 (hd r) (gp r) d)) kf ks Kf t.val := funext fun t => hw t
  rw [e1, e2]

/-- One number of the reference's attention. -/
theorem refY_at (q : FVec Ideal S2x8x128 .bf16) (kn vn : FVec Ideal S2x128 .bf16) (K : FVec Ideal S2x131072x128 .fp8e4m3) (ks : FVec Ideal S2x1 .f32)
    (V : FVec Ideal S2x131072x128 .fp8e4m3) (vs : FVec Ideal S2x1 .f32) (sl : IVec S1 32) (r : Fin 16) (Kf Vf : ℕ → Fin 128 → EReal)
    (hK : ∀ (t : Fin 131072) d, K (ix3 (hd r) t d) = Kf t.val d) (hV : ∀ (t : Fin 131072) d, V (ix3 (hd r) t d) = Vf t.val d) (d : Fin 128) :
    (refY q kn vn K ks V vs sl : S16x128.Idx → EReal) (ix2 r d)
      = att (sl (ix1 0)).toInt (fun d => q (ix3 (hd r) (gp r) d)) (fun d => code (kn (ix2 (hd r) d)) (ks (ix2 (hd r) 0)))
          (fun d => code (vn (ix2 (hd r) d)) (vs (ix2 (hd r) 0))) (ks (ix2 (hd r) 0)) (vs (ix2 (hd r) 0)) Kf Vf d := by
  have e0 : (Shape.Idx.first (by decide) : S1.Idx) = ix1 0 := by
    funext a
    match a with
    | ⟨0, _⟩ => rfl
  have eq : (k0_pay11 (F := Ideal) q : S2x8x128.Idx → EReal) = q := shapeCast_self _ _
  unfold refY
  rw [e0, eq]
  exact pay1_at q _ _ _ _ _ r _ _ _ _ Kf Vf (fun d => pay7_at ks kn _ d) (fun d => pay8_at vs vn _ d)
    (fun t d => (pay9_at ks K _ t d).trans (congrArg (· * _) (hK t d))) (fun t d => (pay10_at vs V _ t d).trans (congrArg (· * _) (hV t d))) d

end Cert.ReferenceIdeal.Alg

end
-- ==== Proof.Alg.RefHost.lean ====
/-
  What the reference's host hands its region: the arguments reshaped, and the pool's pages in the table's order.
-/
module

public import proofs.«01_k».proof.Proof.Gen.ReferenceIdeal.Value
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Pipeline.Value

@[expose] public section

noncomputable section

namespace Cert.ReferenceIdeal.Alg

open Cert.ReferenceIdeal Cert.ReferenceIdeal.Gen
open Idealize.ShloMosaic Idealize.SL Idealize.SL.Sem
open Idealize.ShloMosaic.TcCoe Idealize.ShloMosaic.Tactic
open Idealize.ShloMosaic.ValueIdx

/-! ## The gather of the pages -/

/-- The gather of whole pages: page `n` of the result is the page the `n`-th index names, read signed and clamped. -/
theorem gather_at {α : Type} (x : S1024x128x2x128.Idx → α) (idx : IVec S1024x1 32) (n : Fin 1024) (t : Fin 128) (h : Fin 2) (d : Fin 128) :
    Host.gather gather_S1024x128x2x128_S1024x1_S1024x128x2x128_123_0_n_n_0_1_11282128 x idx (ix4 n t h d)
      = x (ix4 ⟨min (idx (ix2 n 0)).toInt.toNat (1024 - 1), by omega⟩ t h d) := by
  let D := gather_S1024x128x2x128_S1024x1_S1024x128x2x128_123_0_n_n_0_1_11282128
  unfold Host.gather
  congr 1
  funext a
  refine Fin.ext ?_
  show D.start (ix4 n t h d) idx a + D.batchCoord (ix4 n t h d) a + D.offCoord (ix4 n t h d) a = _
  rw [GatherDims.batchCoord_eq_zero D _ a (fun h => by simp [D, gather_S1024x128x2x128_S1024x1_S1024x128x2x128_123_0_n_n_0_1_11282128] at h)]
  have h0 : D.offCoord (ix4 n t h d) (0 : Fin 4) = 0 :=
    GatherDims.offCoord_eq_zero D _ _ (fun h => ((GatherDims.mem_sKept _ _).mp h).1 (List.mem_singleton.mpr rfl))
  have hsi : D.siIdx (ix4 n t h d) ⟨List.idxOf (0 : Fin 4) D.startIndexMap, List.idxOf_lt_length_iff.2 (List.mem_singleton.mpr rfl)⟩ = ix2 n 0 := by
    funext b; refine Fin.ext ?_
    match b with
    | ⟨0, _⟩ => rfl
    | ⟨1, _⟩ => rfl
  have hst : D.start (ix4 n t h d) idx (0 : Fin 4) = min (idx (ix2 n 0)).toInt.toNat (1024 - 1) := by
    unfold GatherDims.start
    rw [dif_pos (show (0 : Fin 4) ∈ D.startIndexMap from List.mem_singleton.mpr rfl), hsi]
    rfl
  match a with
  | ⟨0, _⟩ =>
    show D.start (ix4 n t h d) idx (0 : Fin 4) + 0 + D.offCoord (ix4 n t h d) (0 : Fin 4) = _
    rw [h0, hst]
    rfl
  | ⟨1, _⟩ => exact Nat.zero_add _
  | ⟨2, _⟩ => exact Nat.zero_add _
  | ⟨3, _⟩ => exact Nat.zero_add _

/-- The table's words as the gather's indices: a negative word counts from the end. -/
def pageIdx (pt : IVec S1x1024 32) : IVec S1024x1 32 :=
  broadcastInDim S1024x1 ![0] bcast_S1024_S1024x1_0
    (select (cmpi .slt (shapeCast S1024 pt shapeCasts_S1x1024_S1024) (broadcastInDim S1024 ![] bcast_S_S1024 (constantI S_ 32 0#32)))
      (addi (shapeCast S1024 pt shapeCasts_S1x1024_S1024) (broadcastInDim S1024 ![] bcast_S_S1024 (constantI S_ 32 1024#32)))
      (shapeCast S1024 pt shapeCasts_S1x1024_S1024))

/-- A page number is its own index. -/
theorem pageIdx_at (pt : IVec S1x1024 32) (n : Fin 1024) (h : (pt (ix2 0 n)).toNat < 1024) : pageIdx pt (ix2 n 0) = pt (ix2 0 n) := by
  have e : (shapeCast S1024 pt shapeCasts_S1x1024_S1024) (ix1 n) = pt (ix2 0 n) := by
    refine shapeCast_apply _ _ _ _ ?_
    rw [Shape.rowMajor_val_one, Shape.rowMajor_val_two]
    show 0 * 1024 + n.val = n.val
    omega
  unfold pageIdx
  refine (broadcastInDim_apply _ _ _ (ix2 n 0) (ix1 n) fun a => ?_).trans ?_
  · match a with
    | ⟨0, _⟩ => rfl
  show Scalar.select (BitVec.ofBool (BitVec.slt ((shapeCast S1024 pt shapeCasts_S1x1024_S1024) (ix1 n)) 0#32)) _ ((shapeCast S1024 pt shapeCasts_S1x1024_S1024) (ix1 n)) = _
  rw [e]
  have hn : BitVec.slt (pt (ix2 0 n)) 0#32 = false := by
    rw [BitVec.slt]
    refine decide_eq_false ?_
    rw [BitVec.toInt_eq_toNat_cond]
    split <;> simp <;> omega
  rw [hn]
  exact select_zero _ _

/-- The tokens of one pool, head by head, in the table's order. -/
def tokens {F : FTy → Type} [FloatOps F] (pool : FVec F S1024x128x2x128 .fp8e4m3) (pt : IVec S1x1024 32) : FVec F S2x131072x128 .fp8e4m3 :=
  transpose S2x131072x128 [1, 0, 2]
    (shapeCast S131072x2x128 (Host.gather gather_S1024x128x2x128_S1024x1_S1024x128x2x128_123_0_n_n_0_1_11282128 pool (pageIdx pt)) shapeCasts_S1024x128x2x128_S131072x2x128)
    transposes_S131072x2x128_S2x131072x128_1_0_2

/-- Token `t` lies on the page the table names for it. -/
theorem tokens_at {F : FTy → Type} [FloatOps F] (pool : FVec F S1024x128x2x128 .fp8e4m3) (pt : IVec S1x1024 32) (hp : ∀ i, (pt i).toNat < 1024)
    (p : Fin 2) (t : Fin 131072) (d : Fin 128) :
    tokens pool pt (ix3 p t d)
      = pool (ix4 ⟨(pt (ix2 0 ⟨t.val / 128, by have := t.isLt; omega⟩)).toNat, hp _⟩ ⟨t.val % 128, Nat.mod_lt _ (by norm_num)⟩ p d) := by
  let n : Fin 1024 := ⟨t.val / 128, by have := t.isLt; omega⟩
  let s : Fin 128 := ⟨t.val % 128, Nat.mod_lt _ (by norm_num)⟩
  unfold tokens
  refine (transpose_apply _ _ _ (ix3 p t d) (ix3 t p d) fun b => ?_).trans ?_
  · match b with
    | ⟨0, _⟩ => rfl
    | ⟨1, _⟩ => rfl
    | ⟨2, _⟩ => rfl
  refine (shapeCast_apply _ _ (ix3 t p d) (ix4 n s p d) ?_).trans ?_
  · rw [Shape.rowMajor_val_three, Shape.rowMajor_val_four]
    show ((t.val / 128 * 128 + t.val % 128) * 2 + p.val) * 128 + d.val = (t.val * 2 + p.val) * 128 + d.val
    omega
  rw [gather_at]
  have hn : (pt (ix2 0 n)).toNat < 1024 := hp _
  have e : min (pageIdx pt (ix2 n 0)).toInt.toNat (1024 - 1) = (pt (ix2 0 n)).toNat := by
    rw [pageIdx_at pt n hn, BitVec.toInt_eq_toNat_cond]
    split <;> omega
  exact congrArg (fun z => pool (ix4 z s p d)) (Fin.ext e)

/-! ## The region's arrays -/

variable {F : FTy → Type} [FloatOps F] [Named F]
variable (m : (ℓ : Loc nD τ sig) → Buf (Elt F) ℓ)

theorem V_v0 (c : Dev nD) : V m c main_v0 = shapeCast S2x8x128 (m ((c : Thread nD τ).loc main_arg0)) shapeCasts_S1x1x2048_S2x8x128 := by
  show StableHlo.after hostOps0 (fun b => m (c, b)) main_v0 = _
  after_results; rfl
theorem V_v1 (c : Dev nD) : V m c main_v1 = shapeCast S2x128 (m ((c : Thread nD τ).loc main_arg1)) shapeCasts_S1x1x2x128_S2x128 := by
  show StableHlo.after hostOps0 (fun b => m (c, b)) main_v1 = _
  after_results; rfl
theorem V_v2 (c : Dev nD) : V m c main_v2 = shapeCast S2x128 (m ((c : Thread nD τ).loc main_arg2)) shapeCasts_S1x1x2x128_S2x128 := by
  show StableHlo.after hostOps0 (fun b => m (c, b)) main_v2 = _
  after_results; rfl
theorem V_v12 (c : Dev nD) : V m c main_v12 = tokens (m ((c : Thread nD τ).loc main_arg3)) (m ((c : Thread nD τ).loc main_arg7)) := by
  show StableHlo.after hostOps0 (fun b => m (c, b)) main_v12 = _
  after_results; rfl
theorem V_v13 (c : Dev nD) : V m c main_v13 = shapeCast S2x1 (m ((c : Thread nD τ).loc main_arg4)) shapeCasts_S2_S2x1 := by
  show StableHlo.after hostOps0 (fun b => m (c, b)) main_v13 = _
  after_results; rfl
theorem V_v23 (c : Dev nD) : V m c main_v23 = tokens (m ((c : Thread nD τ).loc main_arg5)) (m ((c : Thread nD τ).loc main_arg7)) := by
  show StableHlo.after hostOps0 (fun b => m (c, b)) main_v23 = _
  after_results; rfl
theorem V_v24 (c : Dev nD) : V m c main_v24 = shapeCast S2x1 (m ((c : Thread nD τ).loc main_arg6)) shapeCasts_S2_S2x1 := by
  show StableHlo.after hostOps0 (fun b => m (c, b)) main_v24 = _
  after_results; rfl

end Cert.ReferenceIdeal.Alg

end
-- ==== Proof.Alg.Equal.lean ====
/-
  The kernel's three arrays are the reference's, as functions of the arguments.
-/
module

public import proofs.«01_k».proof.Proof.KI.Run
public import proofs.«01_k».proof.Proof.Alg.Row
public import proofs.«01_k».proof.Proof.Alg.RefAtt
public import proofs.«01_k».proof.Proof.Alg.RefHost

@[expose] public section

noncomputable section

namespace Cert.Hand

open Idealize.ShloMosaic hiding ix1 ix2 ix3 ix4 ix5
open Idealize.ShloMosaic.TcCoe Idealize.ShloMosaic.Tactic Idealize.SL Idealize.SL.Sem
open Idealize.ShloMosaic.ValueIdx

/-! ## What the kernel's host hands its region -/

section Host

open Cert.KernelIdeal Cert.KernelIdeal.Gen

variable {F : FTy → Type} [FloatOps F] [Named F] (m : (ℓ : Loc nD τ sig) → Buf (Elt F) ℓ)

theorem K_v0 (c : Dev nD) : V m c main_v0 = shapeCast S16x128 (m ((c : Thread nD τ).loc main_arg0)) shapeCasts_S1x1x2048_S16x128 := by
  show StableHlo.after hostOps0 (fun b => m (c, b)) main_v0 = _
  after_results; rfl
theorem K_v1 (c : Dev nD) : V m c main_v1 = shapeCast S2x128 (m ((c : Thread nD τ).loc main_arg1)) shapeCasts_S1x1x2x128_S2x128 := by
  show StableHlo.after hostOps0 (fun b => m (c, b)) main_v1 = _
  after_results; rfl
theorem K_v2 (c : Dev nD) : V m c main_v2 = shapeCast S2x128 (m ((c : Thread nD τ).loc main_arg2)) shapeCasts_S1x1x2x128_S2x128 := by
  show StableHlo.after hostOps0 (fun b => m (c, b)) main_v2 = _
  after_results; rfl
theorem K_v3 (c : Dev nD) : V m c main_v3
    = transpose S1024x2x128x128 [0, 2, 1, 3] (m ((c : Thread nD τ).loc main_arg3)) transposes_S1024x128x2x128_S1024x2x128x128_0_2_1_3 := by
  show StableHlo.after hostOps0 (fun b => m (c, b)) main_v3 = _
  after_results
theorem K_v4 (c : Dev nD) : V m c main_v4
    = transpose S1024x2x128x128 [0, 2, 1, 3] (m ((c : Thread nD τ).loc main_arg5)) transposes_S1024x128x2x128_S1024x2x128x128_0_2_1_3 := by
  show StableHlo.after hostOps0 (fun b => m (c, b)) main_v4 = _
  after_results

end Host

/-! ## The two layouts -/

/-- A scale as a column. -/
theorem col2 (x : (⟨1, ![2]⟩ : Shape).Idx → EReal) (h : (⟨1, ![2]⟩ : Shape).ShapeCasts ⟨2, ![2, 1]⟩) (p : Fin 2) :
    shapeCast ⟨2, ![2, 1]⟩ x h (ix2 p 0) = x (ix1 p) := by
  refine shapeCast_apply _ _ _ _ ?_
  rw [Shape.rowMajor_val_one, Shape.rowMajor_val_two]
  show p.val = p.val * 1 + 0
  omega

/-- Row `r` of the query is row `r % 8` of head `r / 8`. -/
theorem query_eq (x : (⟨3, ![1, 1, 2048]⟩ : Shape).Idx → EReal) (h : (⟨3, ![1, 1, 2048]⟩ : Shape).ShapeCasts ⟨2, ![16, 128]⟩)
    (h' : (⟨3, ![1, 1, 2048]⟩ : Shape).ShapeCasts ⟨3, ![2, 8, 128]⟩) (r : Fin 16) (d : Fin 128) :
    shapeCast ⟨2, ![16, 128]⟩ x h (ix2 r d) = shapeCast ⟨3, ![2, 8, 128]⟩ x h' (ix3 (Cert.ReferenceIdeal.Alg.hd r) (Cert.ReferenceIdeal.Alg.gp r) d) := by
  have hr := r.isLt
  have hd := d.isLt
  refine (shapeCast_apply _ _ (ix2 r d) (ix3 (0 : Fin 1) (0 : Fin 1) (⟨r.val * 128 + d.val, by omega⟩ : Fin 2048)) ?_).trans
    (shapeCast_apply _ _ (ix3 _ _ d) (ix3 (0 : Fin 1) (0 : Fin 1) (⟨r.val * 128 + d.val, by omega⟩ : Fin 2048)) ?_).symm
  · rw [Shape.rowMajor_val_three, Shape.rowMajor_val_two]
    show (0 * 1 + 0) * 2048 + (r.val * 128 + d.val) = r.val * 128 + d.val
    omega
  · rw [Shape.rowMajor_val_three, Shape.rowMajor_val_three]
    show (0 * 1 + 0) * 2048 + (r.val * 128 + d.val) = (r.val / 8 * 8 + r.val % 8) * 128 + d.val
    omega

/-- Token `t` of the reference's gathered pool is the token the kernel's page table names. -/
theorem token_eq (pool : FVec Ideal Cert.ReferenceIdeal.S1024x128x2x128 .fp8e4m3) (pt : IVec Cert.ReferenceIdeal.S1x1024 32) (hp : ∀ i, (pt i).toNat < 1024)
    (h : Cert.ReferenceIdeal.S1024x128x2x128.Transposes [0, 2, 1, 3] Cert.KernelIdeal.S1024x2x128x128) (p : Fin 2) (t : Fin 131072) (d : Fin 128) :
    (Cert.ReferenceIdeal.Alg.tokens pool pt (ix3 p t d) : EReal)
      = Cert.KernelIdeal.Alg.tok (Cert.KernelIdeal.Hand.tabOf pt) (transpose Cert.KernelIdeal.S1024x2x128x128 [0, 2, 1, 3] pool h) p t.val d := by
  have ht : t.val / 128 < 1024 := by have := t.isLt; omega
  rw [Cert.ReferenceIdeal.Alg.tokens_at pool pt hp p t d]
  unfold Cert.KernelIdeal.Alg.tok
  have e : Cert.KernelIdeal.Hand.tabOf pt (t.val / 128) = pt (ix2 (0 : Fin 1) (⟨t.val / 128, ht⟩ : Fin 1024)) := by
    unfold Cert.KernelIdeal.Hand.tabOf
    rw [dif_pos ht]
  rw [e]
  refine Eq.symm ?_
  refine (transpose_apply _ _ _ _ (ix4 (⟨(pt (ix2 (0 : Fin 1) (⟨t.val / 128, ht⟩ : Fin 1024))).toNat, hp _⟩ : Fin 1024)
    (⟨t.val % 128, Nat.mod_lt _ (by norm_num)⟩ : Fin 128) p d) fun b => ?_)
  match b with
  | ⟨0, _⟩ => exact (Nat.mod_eq_of_lt (hp _)).symm
  | ⟨1, _⟩ => rfl
  | ⟨2, _⟩ => rfl
  | ⟨3, _⟩ => rfl

theorem idx2_eq {a b : ℕ} (i : (⟨2, ![a, b]⟩ : Shape).Idx) : ∃ (p : Fin a) (q : Fin b), i = ix2 p q :=
  ⟨i 0, i 1, by
    funext x
    match x with
    | ⟨0, _⟩ => rfl
    | ⟨1, _⟩ => rfl⟩

/-! ## The three results -/

section Results

open Cert.KernelIdeal

variable (q : FVec Ideal S1x1x2048 .bf16) (kn vn : FVec Ideal S1x1x2x128 .bf16) (kpool vpool : FVec Ideal S1024x128x2x128 .fp8e4m3) (ks vs : FVec Ideal S2 .f32)
variable (pt : IVec S1x1024 32) (sl : IVec S1 32)

/-- The attention. -/
theorem att_same (hp : ∀ i, (pt i).toNat < 1024) (hs : ∀ i, (sl i).toInt ≤ 2147481600) (hk : ∀ i, 0 ≤ (ks i : EReal) ∧ (ks i : EReal) < ⊤)
    (hv : ∀ i, 0 ≤ (vs i : EReal) ∧ (vs i : EReal) < ⊤)
    (hq : S1x1x2048.ShapeCasts S16x128) (hq' : S1x1x2048.ShapeCasts Cert.ReferenceIdeal.S2x8x128) (hkn : S1x1x2x128.ShapeCasts S2x128) (hkn' : S1x1x2x128.ShapeCasts Cert.ReferenceIdeal.S2x128)
    (hvn : S1x1x2x128.ShapeCasts S2x128) (hvn' : S1x1x2x128.ShapeCasts Cert.ReferenceIdeal.S2x128) (hks hvs : S2.ShapeCasts Cert.ReferenceIdeal.S2x1)
    (hkt hvt : S1024x128x2x128.Transposes [0, 2, 1, 3] S1024x2x128x128) :
    Cert.ReferenceIdeal.Alg.refY (F := Ideal) (shapeCast Cert.ReferenceIdeal.S2x8x128 q hq') (shapeCast Cert.ReferenceIdeal.S2x128 kn hkn')
        (shapeCast Cert.ReferenceIdeal.S2x128 vn hvn') (Cert.ReferenceIdeal.Alg.tokens kpool pt) (shapeCast Cert.ReferenceIdeal.S2x1 ks hks)
        (Cert.ReferenceIdeal.Alg.tokens vpool pt) (shapeCast Cert.ReferenceIdeal.S2x1 vs hvs) sl
      = Cert.KernelIdeal.Hand.yRes (F := Ideal) (shapeCast S16x128 q hq) (shapeCast S2x128 kn hkn) (shapeCast S2x128 vn hvn) ks vs pt sl
          (transpose S1024x2x128x128 [0, 2, 1, 3] kpool hkt) (transpose S1024x2x128x128 [0, 2, 1, 3] vpool hvt) := by
  funext i
  obtain ⟨r, d, rfl⟩ := idx2_eq i
  refine (Cert.ReferenceIdeal.Alg.refY_at _ _ _ _ _ _ _ _ r _ _ (fun t d => token_eq kpool pt hp hkt _ t d) (fun t d => token_eq vpool pt hp hvt _ t d) d).trans ?_
  refine Eq.trans ?_ (Cert.KernelIdeal.Alg.yRes_at _ r _ _ ks vs pt sl _ _ (fun i => (hk i).1) (fun i => (hk i).2) (fun i => (hv i).1) (fun i => (hv i).2) (hs _) d).symm
  have e1 := col2 ks hks (Cert.ReferenceIdeal.Alg.hd r)
  have e2 := col2 vs hvs (Cert.ReferenceIdeal.Alg.hd r)
  have e3 : (fun d => shapeCast Cert.ReferenceIdeal.S2x8x128 q hq' (ix3 (Cert.ReferenceIdeal.Alg.hd r) (Cert.ReferenceIdeal.Alg.gp r) d))
      = fun d => shapeCast S16x128 q hq (ix2 r d) := funext fun d => (query_eq q hq hq' r d).symm
  rw [e1, e2, e3]
  rfl

/-- The key's code. -/
theorem key_same (hkn : S1x1x2x128.ShapeCasts S2x128) (hkn' : S1x1x2x128.ShapeCasts Cert.ReferenceIdeal.S2x128) (hks : S2.ShapeCasts Cert.ReferenceIdeal.S2x1) :
    Cert.ReferenceIdeal.Gen.k0_pay4 (F := Ideal) (shapeCast Cert.ReferenceIdeal.S2x1 ks hks) (shapeCast Cert.ReferenceIdeal.S2x128 kn hkn')
    = Cert.KernelIdeal.Hand.kRes (F := Ideal) (shapeCast S2x128 kn hkn) ks := by
  funext i
  obtain ⟨p, d, rfl⟩ := idx2_eq i
  refine (Cert.ReferenceIdeal.Alg.pay4_at _ _ p d).trans (Eq.trans ?_ (Cert.KernelIdeal.Alg.kRes_at _ ks p d).symm)
  rw [col2 ks hks p]

/-- The value's code. -/
theorem value_same (hvn : S1x1x2x128.ShapeCasts S2x128) (hvn' : S1x1x2x128.ShapeCasts Cert.ReferenceIdeal.S2x128) (hvs : S2.ShapeCasts Cert.ReferenceIdeal.S2x1) :
    Cert.ReferenceIdeal.Gen.k0_pay5 (F := Ideal) (shapeCast Cert.ReferenceIdeal.S2x1 vs hvs) (shapeCast Cert.ReferenceIdeal.S2x128 vn hvn')
    = Cert.KernelIdeal.Hand.vRes (F := Ideal) (shapeCast S2x128 vn hvn) vs := by
  funext i
  obtain ⟨p, d, rfl⟩ := idx2_eq i
  refine (Cert.ReferenceIdeal.Alg.pay5_at _ _ p d).trans (Eq.trans ?_ (Cert.KernelIdeal.Alg.vRes_at _ vs p d).symm)
  rw [col2 vs hvs p]

end Results

end Cert.Hand

end
-- ==== Proof.Alg.Values.lean ====
/-
  The two programs leave the same values.
-/
module

public import proofs.«01_k».proof.Defs
public import proofs.«01_k».proof.Proof.Gen.Pre_pre_scales
public import proofs.«01_k».proof.Proof.PreScales
public import proofs.«01_k».proof.Proof.Alg.Equal

@[expose] public section

noncomputable section

namespace Cert.Hand

open Idealize.ShloMosaic Idealize.ShloMosaic.TcCoe Idealize.SL Idealize.SL.Sem

section Congr

open Cert.ReferenceIdeal Cert.ReferenceIdeal.Alg

/-- The reference's attention of equal arrays is equal. -/
theorem refY_congr {q q' : FVec Ideal S2x8x128 .bf16} {kn kn' vn vn' : FVec Ideal S2x128 .bf16} {K K' V V' : FVec Ideal S2x131072x128 .fp8e4m3}
    {ks ks' vs vs' : FVec Ideal S2x1 .f32} {sl sl' : IVec S1 32} (h0 : q = q') (h1 : kn = kn') (h2 : vn = vn') (h3 : K = K') (h4 : ks = ks') (h5 : V = V')
    (h6 : vs = vs') (h7 : sl = sl') : refY q kn vn K ks V vs sl = refY q' kn' vn' K' ks' V' vs' sl' := by
  subst h0 h1 h2 h3 h4 h5 h6 h7; rfl

end Congr

section Congr

open Cert.KernelIdeal Cert.KernelIdeal.Hand

/-- The kernel's attention of equal arrays is equal. -/
theorem yRes_congr {q q' : FVec Ideal S16x128 .bf16} {kn kn' vn vn' : FVec Ideal S2x128 .bf16} {ks ks' vs vs' : FVec Ideal S2 .f32} {pt pt' : IVec S1x1024 32}
    {sl sl' : IVec S1 32} {K K' V V' : PoolBuf (F := Ideal)} (h0 : q = q') (h1 : kn = kn') (h2 : vn = vn') (h3 : ks = ks') (h4 : vs = vs') (h5 : pt = pt')
    (h6 : sl = sl') (h7 : K = K') (h8 : V = V') : yRes q kn vn ks vs pt sl K V = yRes q' kn' vn' ks' vs' pt' sl' K' V' := by
  subst h0 h1 h2 h3 h4 h5 h6 h7 h8; rfl

end Congr

/-- Both scales are nonnegative and finite. -/
def Scales (x : FVec Ideal Cert.KernelIdeal.S2 .f32) : Prop := ∀ i, 0 ≤ (x i : EReal) ∧ (x i : EReal) < ⊤

/-- From the same arguments, under the precondition, the reference's three arrays are the kernel's. -/
theorem arrays_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hp : ∀ i, ((m ((c.tc : Thread Cert.KernelIdeal.nD Cert.KernelIdeal.τ).loc Cert.KernelIdeal.main_arg7) : IVec Cert.KernelIdeal.S1x1024 32) i).toNat < 1024)
    (hs : ∀ i, ((m ((c.tc : Thread Cert.KernelIdeal.nD Cert.KernelIdeal.τ).loc Cert.KernelIdeal.main_arg8) : IVec Cert.KernelIdeal.S1 32) i).toInt ≤ 2147481600)
    (hk : Scales (m ((c.tc : Thread Cert.KernelIdeal.nD Cert.KernelIdeal.τ).loc Cert.KernelIdeal.main_arg4)))
    (hv : Scales (m ((c.tc : Thread Cert.KernelIdeal.nD Cert.KernelIdeal.τ).loc Cert.KernelIdeal.main_arg6))) :
    (Cert.ReferenceIdeal.Gen.dats m' 0 c).arrAt 8 Cert.ReferenceIdeal.cfg0.N = Cert.KernelIdeal.Hand.yOut m c
      ∧ (Cert.ReferenceIdeal.Gen.dats m' 0 c).arrAt 9 Cert.ReferenceIdeal.cfg0.N = Cert.KernelIdeal.Hand.kOut m c
      ∧ (Cert.ReferenceIdeal.Gen.dats m' 0 c).arrAt 10 Cert.ReferenceIdeal.cfg0.N = Cert.KernelIdeal.Hand.vOut m c := by
  have r0 := (Cert.ReferenceIdeal.Alg.V_v0 m' c).trans (congrArg (fun x => shapeCast Cert.ReferenceIdeal.S2x8x128 x _) h0)
  have r1 := (Cert.ReferenceIdeal.Alg.V_v1 m' c).trans (congrArg (fun x => shapeCast Cert.ReferenceIdeal.S2x128 x _) h1)
  have r2 := (Cert.ReferenceIdeal.Alg.V_v2 m' c).trans (congrArg (fun x => shapeCast Cert.ReferenceIdeal.S2x128 x _) h2)
  have r3 := (Cert.ReferenceIdeal.Alg.V_v12 m' c).trans (congrArg₂ Cert.ReferenceIdeal.Alg.tokens h3 h7)
  have r4 := (Cert.ReferenceIdeal.Alg.V_v13 m' c).trans (congrArg (fun x => shapeCast Cert.ReferenceIdeal.S2x1 x _) h4)
  have r5 := (Cert.ReferenceIdeal.Alg.V_v23 m' c).trans (congrArg₂ Cert.ReferenceIdeal.Alg.tokens h5 h7)
  have r6 := (Cert.ReferenceIdeal.Alg.V_v24 m' c).trans (congrArg (fun x => shapeCast Cert.ReferenceIdeal.S2x1 x _) h6)
  have r7 := (Cert.ReferenceIdeal.Gen.V_main_arg8 m' c).trans h8
  have y := refY_congr r0 r1 r2 r3 r4 r5 r6 r7
  have y' := yRes_congr (K_v0 m c) (K_v1 m c) (K_v2 m c) (Cert.KernelIdeal.Gen.V_main_arg4 m c) (Cert.KernelIdeal.Gen.V_main_arg6 m c)
    (Cert.KernelIdeal.Gen.V_main_arg7 m c) (Cert.KernelIdeal.Gen.V_main_arg8 m c) (K_v3 m c) (K_v4 m c)
  have k := congrArg₂ (Cert.ReferenceIdeal.Gen.k0_pay4 (F := Ideal)) r4 r1
  have k' := congrArg₂ (Cert.KernelIdeal.Hand.kRes (F := Ideal)) (K_v1 m c) (Cert.KernelIdeal.Gen.V_main_arg4 m c)
  have v := congrArg₂ (Cert.ReferenceIdeal.Gen.k0_pay5 (F := Ideal)) r6 r2
  have v' := congrArg₂ (Cert.KernelIdeal.Hand.vRes (F := Ideal)) (K_v2 m c) (Cert.KernelIdeal.Gen.V_main_arg6 m c)
  refine ⟨?_, ?_, ?_⟩
  · exact (Cert.ReferenceIdeal.Alg.arr8 m' c).trans (y.trans ((att_same _ _ _ _ _ _ _ _ _ hp hs hk hv _ _ _ _ _ _ _ _ _ _).trans y'.symm))
  · exact (Cert.ReferenceIdeal.Alg.arr9 m' c).trans (k.trans ((key_same _ _ _ _ _).trans k'.symm))
  · exact (Cert.ReferenceIdeal.Alg.arr10 m' c).trans (v.trans ((value_same _ _ _ _ _).trans v'.symm))

/-- **The value claim**: under the precondition the idealized kernel and the reference leave equal results. -/
theorem algebraic : Cert.algebraic_KernelIdeal_ReferenceIdeal_pre_pre_scales (hKernelIdeal := Cert.KernelIdeal.Gen.facts)
    (hReferenceIdeal := Cert.ReferenceIdeal.Gen.facts) (hPre_pre_scales := Cert.Pre_pre_scales.Gen.facts) := by
  intro m g m' g' hpre hargs
  have hp := fun c => of_pre_scales _ _ _ _ _ _ _ _ _ (hpre c)
  have same := fun c => arrays_same m m' c (hargs c).1 (hargs c).2.1 (hargs c).2.2.1 (hargs c).2.2.2.1 (hargs c).2.2.2.2.1 (hargs c).2.2.2.2.2.1
    (hargs c).2.2.2.2.2.2.1 (hargs c).2.2.2.2.2.2.2.1 (hargs c).2.2.2.2.2.2.2.2 (hp c).1 (hp c).2.1 (hp c).2.2.1 (hp c).2.2.2
  refine ⟨fun c => Cert.KernelIdeal.Hand.yOut m c, fun c => Cert.KernelIdeal.Hand.kOut m c,
    fun c => m ((c.tc : Thread Cert.KernelIdeal.nD Cert.KernelIdeal.τ).loc Cert.KernelIdeal.main_arg4), fun c => Cert.KernelIdeal.Hand.vOut m c,
    fun c => m ((c.tc : Thread Cert.KernelIdeal.nD Cert.KernelIdeal.τ).loc Cert.KernelIdeal.main_arg6), ?_, ?_⟩
  · refine (θ_run Cert.KernelIdeal.defs _ _).mono (fun r hr c => ?_) (Cert.KernelIdeal.Hand.run_value m g fun c i => (hp c).1 i)
    obtain ⟨y, k, v, a0, a1, a2, a3, a4, a5, a6, a7, a8⟩ := hr.1 c
    exact ⟨y, k, a4, v, a6, a0, a1, a2, a3, a4, a5, a6, a7, a8⟩
  · refine (θ_run Cert.ReferenceIdeal.defs _ _).mono (fun r hr c => ?_) (Cert.ReferenceIdeal.Value.run_blocks m' g')
    obtain ⟨y, k, v, a0, a1, a2, a3, a4, a5, a6, a7, a8⟩ := hr c
    exact ⟨y.trans (same c).1, k.trans (same c).2.1, a4.trans (hargs c).2.2.2.2.1, v.trans (same c).2.2, a6.trans (hargs c).2.2.2.2.2.2.1,
      a0, a1, a2, a3, a4, a5, a6, a7, a8⟩

end Cert.Hand

end
-- ==== Proof.lean ====
/-
  The certificate assembled: the three frames, the idealization and the value claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Gen.Pre_pre_scales
public import proofs.«01_k».proof.Proof.Gen.ReferenceIdeal.Value
public import proofs.«01_k».proof.Proof.Pre
public import proofs.«01_k».proof.Proof.K.Run
public import proofs.«01_k».proof.Proof.KI.Run
public import proofs.«01_k».proof.Proof.PreScales
public import proofs.«01_k».proof.Proof.Alg.Values
public import Idealize.ShloMosaic.Adequacy
public import Idealize.ShloMosaic.Init

@[expose] public section

noncomputable section

namespace Cert.Proof

open Idealize.ShloMosaic Idealize.ShloMosaic.TcCoe

/-- The kernel runs under the precondition on the page table, its arguments and semaphores end as they were. -/
theorem quiescent_Kernel : Cert.quiescent_Kernel (hKernel := Cert.Kernel.Gen.facts) (hPre_pre := Cert.Pre_pre.Gen.facts) :=
  fun m g h => Cert.Kernel.Hand.frame m g (fun c i => Cert.Hand.table_of_pre _ _ _ _ _ _ _ _ _ (h c) i)

/-- The same of the idealized kernel. -/
theorem quiescent_KernelIdeal :
    Cert.quiescent_KernelIdeal (hKernelIdeal := Cert.KernelIdeal.Gen.facts) (hPre_pre := Cert.Pre_pre.Gen.facts) :=
  fun m g h => Cert.KernelIdeal.Hand.frame m g (fun c i => Cert.Hand.table_of_pre _ _ _ _ _ _ _ _ _ (h c) i)

/-- The idealized kernel runs under the precondition of the value claim, too. -/
theorem quiescent_KernelIdeal_pre_pre_scales : Cert.quiescent_KernelIdeal_pre_pre_scales (hKernelIdeal := Cert.KernelIdeal.Gen.facts)
    (hPre_pre_scales := Cert.Pre_pre_scales.Gen.facts) :=
  fun m g h => Cert.KernelIdeal.Hand.frame m g (fun c i => (Cert.Hand.of_pre_scales _ _ _ _ _ _ _ _ _ (h c)).1 i)

/-- The reference runs from any state, its arguments and semaphores end as they were. -/
theorem quiescent_ReferenceIdeal : Cert.quiescent_ReferenceIdeal (hReferenceIdeal := Cert.ReferenceIdeal.Gen.facts) :=
  fun m g _ => Cert.ReferenceIdeal.Gen.frame m g

/-- The reference runs under the precondition of the value claim, too. -/
theorem quiescent_ReferenceIdeal_pre_pre_scales : Cert.quiescent_ReferenceIdeal_pre_pre_scales
    (hReferenceIdeal := Cert.ReferenceIdeal.Gen.facts) (hPre_pre_scales := Cert.Pre_pre_scales.Gen.facts) :=
  fun m g _ => Cert.ReferenceIdeal.Gen.frame m g

/-- The idealized kernel differs from the kernel only in the mask constant, named and read as minus infinity. -/
theorem preserves : Cert.preserves_Kernel_KernelIdeal :=
  IdealRules.named_const.statement Cert.KernelIdeal.κ "mask" .f32 0xF149F2CA#32 ⊥ rfl

/-- All of the claims. -/
theorem claim : Cert.Claim :=
  ⟨Cert.Kernel.Gen.facts, Cert.KernelIdeal.Gen.facts, Cert.ReferenceIdeal.Gen.facts, Cert.Pre_pre.Gen.facts, Cert.Pre_pre_scales.Gen.facts,
    quiescent_Kernel, quiescent_KernelIdeal, quiescent_KernelIdeal_pre_pre_scales, quiescent_ReferenceIdeal,
    quiescent_ReferenceIdeal_pre_pre_scales, preserves, Cert.Hand.algebraic⟩

end Cert.Proof

end
